-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def Pre_Dmlp (m : (ℓ : Loc Cert.Dmlp.nD Cert.Dmlp.τ Cert.Dmlp.sig) → Buf (Elt Bits) ℓ) : Prop :=
  True

def Pre_DmlpIdeal (m : (ℓ : Loc Cert.DmlpIdeal.nD Cert.DmlpIdeal.τ Cert.DmlpIdeal.sig) → Buf (Elt Ideal) ℓ) : Prop :=
  True

def Pre_DmlpRefIdeal (m : (ℓ : Loc Cert.DmlpRefIdeal.nD Cert.DmlpRefIdeal.τ Cert.DmlpRefIdeal.sig) → Buf (Elt Ideal) ℓ) : Prop :=
  True

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactRefIdeal (m : (ℓ : Loc Cert.DactRefIdeal.nD Cert.DactRefIdeal.τ Cert.DactRefIdeal.sig) → Buf (Elt Ideal) ℓ) : Prop :=
  True

def Pre_Gdown (m : (ℓ : Loc Cert.Gdown.nD Cert.Gdown.τ Cert.Gdown.sig) → Buf (Elt Bits) ℓ) : Prop :=
  True

def Pre_GdownIdeal (m : (ℓ : Loc Cert.GdownIdeal.nD Cert.GdownIdeal.τ Cert.GdownIdeal.sig) → Buf (Elt Ideal) ℓ) : Prop :=
  True

def Pre_GdownRefIdeal (m : (ℓ : Loc Cert.GdownRefIdeal.nD Cert.GdownRefIdeal.τ Cert.GdownRefIdeal.sig) → Buf (Elt Ideal) ℓ) : Prop :=
  True

def Pre_Gup (m : (ℓ : Loc Cert.Gup.nD Cert.Gup.τ Cert.Gup.sig) → Buf (Elt Bits) ℓ) : Prop :=
  True

def Pre_GupIdeal (m : (ℓ : Loc Cert.GupIdeal.nD Cert.GupIdeal.τ Cert.GupIdeal.sig) → Buf (Elt Ideal) ℓ) : Prop :=
  True

def Pre_GupRefIdeal (m : (ℓ : Loc Cert.GupRefIdeal.nD Cert.GupRefIdeal.τ Cert.GupRefIdeal.sig) → Buf (Elt Ideal) ℓ) : Prop :=
  True

def Pre_Gin (m : (ℓ : Loc Cert.Gin.nD Cert.Gin.τ Cert.Gin.sig) → Buf (Elt Bits) ℓ) : Prop :=
  True

def Pre_GinIdeal (m : (ℓ : Loc Cert.GinIdeal.nD Cert.GinIdeal.τ Cert.GinIdeal.sig) → Buf (Elt Ideal) ℓ) : Prop :=
  True

def Pre_GinRefIdeal (m : (ℓ : Loc Cert.GinRefIdeal.nD Cert.GinRefIdeal.τ Cert.GinRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Pa (m : (ℓ : Loc Cert.Pa.nD Cert.Pa.τ Cert.Pa.sig) → Buf (Elt Bits) ℓ) : Prop :=
  True

def Pre_PaIdeal (m : (ℓ : Loc Cert.PaIdeal.nD Cert.PaIdeal.τ Cert.PaIdeal.sig) → Buf (Elt Ideal) ℓ) : Prop :=
  True

def Pre_PaRefIdeal (m : (ℓ : Loc Cert.PaRefIdeal.nD Cert.PaRefIdeal.τ Cert.PaRefIdeal.sig) → Buf (Elt Ideal) ℓ) : Prop :=
  True

def Pre_Gout (m : (ℓ : Loc Cert.Gout.nD Cert.Gout.τ Cert.Gout.sig) → Buf (Elt Bits) ℓ) : Prop :=
  True

def Pre_GoutIdeal (m : (ℓ : Loc Cert.GoutIdeal.nD Cert.GoutIdeal.τ Cert.GoutIdeal.sig) → Buf (Elt Ideal) ℓ) : Prop :=
  True

def Pre_GoutRefIdeal (m : (ℓ : Loc Cert.GoutRefIdeal.nD Cert.GoutRefIdeal.τ Cert.GoutRefIdeal.sig) → Buf (Elt Ideal) ℓ) : Prop :=
  True

def Pre_Gpa (m : (ℓ : Loc Cert.Gpa.nD Cert.Gpa.τ Cert.Gpa.sig) → Buf (Elt Bits) ℓ) : Prop :=
  True

def Pre_GpaIdeal (m : (ℓ : Loc Cert.GpaIdeal.nD Cert.GpaIdeal.τ Cert.GpaIdeal.sig) → Buf (Elt Ideal) ℓ) : Prop :=
  True

def Pre_GpaRefIdeal (m : (ℓ : Loc Cert.GpaRefIdeal.nD Cert.GpaRefIdeal.τ Cert.GpaRefIdeal.sig) → Buf (Elt Ideal) ℓ) : Prop :=
  True

def Pre_Gpb (m : (ℓ : Loc Cert.Gpb.nD Cert.Gpb.τ Cert.Gpb.sig) → Buf (Elt Bits) ℓ) : Prop :=
  True

def Pre_GpbIdeal (m : (ℓ : Loc Cert.GpbIdeal.nD Cert.GpbIdeal.τ Cert.GpbIdeal.sig) → Buf (Elt Ideal) ℓ) : Prop :=
  True

def Pre_GpbRefIdeal (m : (ℓ : Loc Cert.GpbRefIdeal.nD Cert.GpbRefIdeal.τ Cert.GpbRefIdeal.sig) → Buf (Elt Ideal) ℓ) : Prop :=
  True

def Pre_Dya (m : (ℓ : Loc Cert.Dya.nD Cert.Dya.τ Cert.Dya.sig) → Buf (Elt Bits) ℓ) : Prop :=
  True

def Pre_DyaIdeal (m : (ℓ : Loc Cert.DyaIdeal.nD Cert.DyaIdeal.τ Cert.DyaIdeal.sig) → Buf (Elt Ideal) ℓ) : Prop :=
  True

def Pre_DyaRefIdeal (m : (ℓ : Loc Cert.DyaRefIdeal.nD Cert.DyaRefIdeal.τ Cert.DyaRefIdeal.sig) → Buf (Elt Ideal) ℓ) : Prop :=
  True

def Pre_Dyb (m : (ℓ : Loc Cert.Dyb.nD Cert.Dyb.τ Cert.Dyb.sig) → Buf (Elt Bits) ℓ) : Prop :=
  True

def Pre_DybIdeal (m : (ℓ : Loc Cert.DybIdeal.nD Cert.DybIdeal.τ Cert.DybIdeal.sig) → Buf (Elt Ideal) ℓ) : Prop :=
  True

def Pre_DybRefIdeal (m : (ℓ : Loc Cert.DybRefIdeal.nD Cert.DybRefIdeal.τ Cert.DybRefIdeal.sig) → Buf (Elt Ideal) ℓ) : Prop :=
  True

def Pre_Pb (m : (ℓ : Loc Cert.Pb.nD Cert.Pb.τ Cert.Pb.sig) → Buf (Elt Bits) ℓ) : Prop :=
  True

def Pre_PbIdeal (m : (ℓ : Loc Cert.PbIdeal.nD Cert.PbIdeal.τ Cert.PbIdeal.sig) → Buf (Elt Ideal) ℓ) : Prop :=
  True

def Pre_PbRefIdeal (m : (ℓ : Loc Cert.PbRefIdeal.nD Cert.PbRefIdeal.τ Cert.PbRefIdeal.sig) → Buf (Elt Ideal) ℓ) : Prop :=
  True

def Pre_Outp (m : (ℓ : Loc Cert.Outp.nD Cert.Outp.τ Cert.Outp.sig) → Buf (Elt Bits) ℓ) : Prop :=
  True

def Pre_OutpIdeal (m : (ℓ : Loc Cert.OutpIdeal.nD Cert.OutpIdeal.τ Cert.OutpIdeal.sig) → Buf (Elt Ideal) ℓ) : Prop :=
  True

def Pre_OutpRefIdeal (m : (ℓ : Loc Cert.OutpRefIdeal.nD Cert.OutpRefIdeal.τ Cert.OutpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Ac (m : (ℓ : Loc Cert.Ac.nD Cert.Ac.τ Cert.Ac.sig) → Buf (Elt Bits) ℓ) : Prop :=
  True

def Pre_AcIdeal (m : (ℓ : Loc Cert.AcIdeal.nD Cert.AcIdeal.τ Cert.AcIdeal.sig) → Buf (Elt Ideal) ℓ) : Prop :=
  True

def Pre_AcRefIdeal (m : (ℓ : Loc Cert.AcRefIdeal.nD Cert.AcRefIdeal.τ Cert.AcRefIdeal.sig) → Buf (Elt Ideal) ℓ) : Prop :=
  True

def Pre_Ain (m : (ℓ : Loc Cert.Ain.nD Cert.Ain.τ Cert.Ain.sig) → Buf (Elt Bits) ℓ) : Prop :=
  True

def Pre_AinIdeal (m : (ℓ : Loc Cert.AinIdeal.nD Cert.AinIdeal.τ Cert.AinIdeal.sig) → Buf (Elt Ideal) ℓ) : Prop :=
  True

def Pre_AinRefIdeal (m : (ℓ : Loc Cert.AinRefIdeal.nD Cert.AinRefIdeal.τ Cert.AinRefIdeal.sig) → Buf (Elt Ideal) ℓ) : Prop :=
  True

def Pre_Apa (m : (ℓ : Loc Cert.Apa.nD Cert.Apa.τ Cert.Apa.sig) → Buf (Elt Bits) ℓ) : Prop :=
  True

def Pre_ApaIdeal (m : (ℓ : Loc Cert.ApaIdeal.nD Cert.ApaIdeal.τ Cert.ApaIdeal.sig) → Buf (Elt Ideal) ℓ) : Prop :=
  True

def Pre_ApaRefIdeal (m : (ℓ : Loc Cert.ApaRefIdeal.nD Cert.ApaRefIdeal.τ Cert.ApaRefIdeal.sig) → Buf (Elt Ideal) ℓ) : Prop :=
  True

def Pre_Aout (m : (ℓ : Loc Cert.Aout.nD Cert.Aout.τ Cert.Aout.sig) → Buf (Elt Bits) ℓ) : Prop :=
  True

def Pre_AoutIdeal (m : (ℓ : Loc Cert.AoutIdeal.nD Cert.AoutIdeal.τ Cert.AoutIdeal.sig) → Buf (Elt Ideal) ℓ) : Prop :=
  True

def Pre_AoutRefIdeal (m : (ℓ : Loc Cert.AoutRefIdeal.nD Cert.AoutRefIdeal.τ Cert.AoutRefIdeal.sig) → Buf (Elt Ideal) ℓ) : Prop :=
  True

def Pre_Apb (m : (ℓ : Loc Cert.Apb.nD Cert.Apb.τ Cert.Apb.sig) → Buf (Elt Bits) ℓ) : Prop :=
  True

def Pre_ApbIdeal (m : (ℓ : Loc Cert.ApbIdeal.nD Cert.ApbIdeal.τ Cert.ApbIdeal.sig) → Buf (Elt Ideal) ℓ) : Prop :=
  True

def Pre_ApbRefIdeal (m : (ℓ : Loc Cert.ApbRefIdeal.nD Cert.ApbRefIdeal.τ Cert.ApbRefIdeal.sig) → Buf (Elt Ideal) ℓ) : Prop :=
  True

def Pre_Aup (m : (ℓ : Loc Cert.Aup.nD Cert.Aup.τ Cert.Aup.sig) → Buf (Elt Bits) ℓ) : Prop :=
  True

def Pre_AupIdeal (m : (ℓ : Loc Cert.AupIdeal.nD Cert.AupIdeal.τ Cert.AupIdeal.sig) → Buf (Elt Ideal) ℓ) : Prop :=
  True

def Pre_AupRefIdeal (m : (ℓ : Loc Cert.AupRefIdeal.nD Cert.AupRefIdeal.τ Cert.AupRefIdeal.sig) → Buf (Elt Ideal) ℓ) : Prop :=
  True

def Pre_Adown (m : (ℓ : Loc Cert.Adown.nD Cert.Adown.τ Cert.Adown.sig) → Buf (Elt Bits) ℓ) : Prop :=
  True

def Pre_AdownIdeal (m : (ℓ : Loc Cert.AdownIdeal.nD Cert.AdownIdeal.τ Cert.AdownIdeal.sig) → Buf (Elt Ideal) ℓ) : Prop :=
  True

def Pre_AdownRefIdeal (m : (ℓ : Loc Cert.AdownRefIdeal.nD Cert.AdownRefIdeal.τ Cert.AdownRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3)
      ∧ r.2.mem ((c.tc : Thread Cert.Dx.nD Cert.Dx.τ).loc Cert.Dx.main_arg4) = m ((c.tc : Thread Cert.Dx.nD Cert.Dx.τ).loc Cert.Dx.main_arg4)
      ∧ r.2.mem ((c.tc : Thread Cert.Dx.nD Cert.Dx.τ).loc Cert.Dx.main_arg5) = m ((c.tc : Thread Cert.Dx.nD Cert.Dx.τ).loc Cert.Dx.main_arg5)
      ∧ r.2.mem ((c.tc : Thread Cert.Dx.nD Cert.Dx.τ).loc Cert.Dx.main_arg6) = m ((c.tc : Thread Cert.Dx.nD Cert.Dx.τ).loc Cert.Dx.main_arg6))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
      ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
      ∧ r.2.mem ((c.tc : Thread Cert.DxIdeal.nD Cert.DxIdeal.τ).loc Cert.DxIdeal.main_arg6) = m ((c.tc : Thread Cert.DxIdeal.nD Cert.DxIdeal.τ).loc Cert.DxIdeal.main_arg6))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4)
      ∧ r.2.mem ((c.tc : Thread Cert.DxRefIdeal.nD Cert.DxRefIdeal.τ).loc Cert.DxRefIdeal.main_arg5) = m ((c.tc : Thread Cert.DxRefIdeal.nD Cert.DxRefIdeal.τ).loc Cert.DxRefIdeal.main_arg5)
      ∧ r.2.mem ((c.tc : Thread Cert.DxRefIdeal.nD Cert.DxRefIdeal.τ).loc Cert.DxRefIdeal.main_arg6) = m ((c.tc : Thread Cert.DxRefIdeal.nD Cert.DxRefIdeal.τ).loc Cert.DxRefIdeal.main_arg6))
      ∧ r.2.sem = fun _ => 0)

def quiescent_Dmlp [hDmlp : Cert.Dmlp.Facts] : Prop :=
  ∀ (m : (ℓ : Loc Cert.Dmlp.nD Cert.Dmlp.τ Cert.Dmlp.sig) → Buf (Elt Bits) ℓ) (g : Dev Cert.Dmlp.nD → PrngReg), Pre_Dmlp m →
    θ_run (Cert.Dmlp.defs (F := Bits)) (onTc (τ := Cert.Dmlp.τ) (Cert.Dmlp.main (F := Bits))) ⟨m, fun _ => 0, g⟩ (fun r => (∀ c : Dev Cert.Dmlp.nD,
      r.2.mem ((c.tc : Thread Cert.Dmlp.nD Cert.Dmlp.τ).loc Cert.Dmlp.main_arg0) = m ((c.tc : Thread Cert.Dmlp.nD Cert.Dmlp.τ).loc Cert.Dmlp.main_arg0)
      ∧ r.2.mem ((c.tc : Thread Cert.Dmlp.nD Cert.Dmlp.τ).loc Cert.Dmlp.main_arg1) = m ((c.tc : Thread Cert.Dmlp.nD Cert.Dmlp.τ).loc Cert.Dmlp.main_arg1)
      ∧ r.2.mem ((c.tc : Thread Cert.Dmlp.nD Cert.Dmlp.τ).loc Cert.Dmlp.main_arg2) = m ((c.tc : Thread Cert.Dmlp.nD Cert.Dmlp.τ).loc Cert.Dmlp.main_arg2)
      ∧ r.2.mem ((c.tc : Thread Cert.Dmlp.nD Cert.Dmlp.τ).loc Cert.Dmlp.main_arg3) = m ((c.tc : Thread Cert.Dmlp.nD Cert.Dmlp.τ).loc Cert.Dmlp.main_arg3)
      ∧ r.2.mem ((c.tc : Thread Cert.Dmlp.nD Cert.Dmlp.τ).loc Cert.Dmlp.main_arg4) = m ((c.tc : Thread Cert.Dmlp.nD Cert.Dmlp.τ).loc Cert.Dmlp.main_arg4))
      ∧ r.2.sem = fun _ => 0)

def quiescent_DmlpIdeal [hDmlpIdeal : Cert.DmlpIdeal.Facts] : Prop :=
  ∀ (m : (ℓ : Loc Cert.DmlpIdeal.nD Cert.DmlpIdeal.τ Cert.DmlpIdeal.sig) → Buf (Elt Ideal) ℓ) (g : Dev Cert.DmlpIdeal.nD → PrngReg), Pre_DmlpIdeal m →
    θ_run (Cert.DmlpIdeal.defs (F := Ideal)) (onTc (τ := Cert.DmlpIdeal.τ) (Cert.DmlpIdeal.main (F := Ideal))) ⟨m, fun _ => 0, g⟩ (fun r => (∀ c : Dev Cert.DmlpIdeal.nD,
      r.2.mem ((c.tc : Thread Cert.DmlpIdeal.nD Cert.DmlpIdeal.τ).loc Cert.DmlpIdeal.main_arg0) = m ((c.tc : Thread Cert.DmlpIdeal.nD Cert.DmlpIdeal.τ).loc Cert.DmlpIdeal.main_arg0)
      ∧ r.2.mem ((c.tc : Thread Cert.DmlpIdeal.nD Cert.DmlpIdeal.τ).loc Cert.DmlpIdeal.main_arg1) = m ((c.tc : Thread Cert.DmlpIdeal.nD Cert.DmlpIdeal.τ).loc Cert.DmlpIdeal.main_arg1)
      ∧ r.2.mem ((c.tc : Thread Cert.DmlpIdeal.nD Cert.DmlpIdeal.τ).loc Cert.DmlpIdeal.main_arg2) = m ((c.tc : Thread Cert.DmlpIdeal.nD Cert.DmlpIdeal.τ).loc Cert.DmlpIdeal.main_arg2)
      ∧ r.2.mem ((c.tc : Thread Cert.DmlpIdeal.nD Cert.DmlpIdeal.τ).loc Cert.DmlpIdeal.main_arg3) = m ((c.tc : Thread Cert.DmlpIdeal.nD Cert.DmlpIdeal.τ).loc Cert.DmlpIdeal.main_arg3)
      ∧ r.2.mem ((c.tc : Thread Cert.DmlpIdeal.nD Cert.DmlpIdeal.τ).loc Cert.DmlpIdeal.main_arg4) = m ((c.tc : Thread Cert.DmlpIdeal.nD Cert.DmlpIdeal.τ).loc Cert.DmlpIdeal.main_arg4))
      ∧ r.2.sem = fun _ => 0)

def quiescent_DmlpRefIdeal [hDmlpRefIdeal : Cert.DmlpRefIdeal.Facts] : Prop :=
  ∀ (m : (ℓ : Loc Cert.DmlpRefIdeal.nD Cert.DmlpRefIdeal.τ Cert.DmlpRefIdeal.sig) → Buf (Elt Ideal) ℓ) (g : Dev Cert.DmlpRefIdeal.nD → PrngReg), Pre_DmlpRefIdeal m →
    θ_run (Cert.DmlpRefIdeal.defs (F := Ideal)) (onTc (τ := Cert.DmlpRefIdeal.τ) (Cert.DmlpRefIdeal.main (F := Ideal))) ⟨m, fun _ => 0, g⟩ (fun r => (∀ c : Dev Cert.DmlpRefIdeal.nD,
      r.2.mem ((c.tc : Thread Cert.DmlpRefIdeal.nD Cert.DmlpRefIdeal.τ).loc Cert.DmlpRefIdeal.main_arg0) = m ((c.tc : Thread Cert.DmlpRefIdeal.nD Cert.DmlpRefIdeal.τ).loc Cert.DmlpRefIdeal.main_arg0)
      ∧ r.2.mem ((c.tc : Thread Cert.DmlpRefIdeal.nD Cert.DmlpRefIdeal.τ).loc Cert.DmlpRefIdeal.main_arg1) = m ((c.tc : Thread Cert.DmlpRefIdeal.nD Cert.DmlpRefIdeal.τ).loc Cert.DmlpRefIdeal.main_arg1)
      ∧ r.2.mem ((c.tc : Thread Cert.DmlpRefIdeal.nD Cert.DmlpRefIdeal.τ).loc Cert.DmlpRefIdeal.main_arg2) = m ((c.tc : Thread Cert.DmlpRefIdeal.nD Cert.DmlpRefIdeal.τ).loc Cert.DmlpRefIdeal.main_arg2)
      ∧ r.2.mem ((c.tc : Thread Cert.DmlpRefIdeal.nD Cert.DmlpRefIdeal.τ).loc Cert.DmlpRefIdeal.main_arg3) = m ((c.tc : Thread Cert.DmlpRefIdeal.nD Cert.DmlpRefIdeal.τ).loc Cert.DmlpRefIdeal.main_arg3)
      ∧ r.2.mem ((c.tc : Thread Cert.DmlpRefIdeal.nD Cert.DmlpRefIdeal.τ).loc Cert.DmlpRefIdeal.main_arg4) = m ((c.tc : Thread Cert.DmlpRefIdeal.nD Cert.DmlpRefIdeal.τ).loc Cert.DmlpRefIdeal.main_arg4))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1)
      ∧ r.2.mem ((c.tc : Thread Cert.Dact.nD Cert.Dact.τ).loc Cert.Dact.main_arg2) = m ((c.tc : Thread Cert.Dact.nD Cert.Dact.τ).loc Cert.Dact.main_arg2))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1)
      ∧ r.2.mem ((c.tc : Thread Cert.DactRefIdeal.nD Cert.DactRefIdeal.τ).loc Cert.DactRefIdeal.main_arg2) = m ((c.tc : Thread Cert.DactRefIdeal.nD Cert.DactRefIdeal.τ).loc Cert.DactRefIdeal.main_arg2))
      ∧ r.2.sem = fun _ => 0)

def quiescent_Gdown [hGdown : Cert.Gdown.Facts] : Prop :=
  ∀ (m : (ℓ : Loc Cert.Gdown.nD Cert.Gdown.τ Cert.Gdown.sig) → Buf (Elt Bits) ℓ) (g : Dev Cert.Gdown.nD → PrngReg), Pre_Gdown m →
    θ_run (Cert.Gdown.defs (F := Bits)) (onTc (τ := Cert.Gdown.τ) (Cert.Gdown.main (F := Bits))) ⟨m, fun _ => 0, g⟩ (fun r => (∀ c : Dev Cert.Gdown.nD,
      r.2.mem ((c.tc : Thread Cert.Gdown.nD Cert.Gdown.τ).loc Cert.Gdown.main_arg0) = m ((c.tc : Thread Cert.Gdown.nD Cert.Gdown.τ).loc Cert.Gdown.main_arg0)
      ∧ r.2.mem ((c.tc : Thread Cert.Gdown.nD Cert.Gdown.τ).loc Cert.Gdown.main_arg1) = m ((c.tc : Thread Cert.Gdown.nD Cert.Gdown.τ).loc Cert.Gdown.main_arg1))
      ∧ r.2.sem = fun _ => 0)

def quiescent_GdownIdeal [hGdownIdeal : Cert.GdownIdeal.Facts] : Prop :=
  ∀ (m : (ℓ : Loc Cert.GdownIdeal.nD Cert.GdownIdeal.τ Cert.GdownIdeal.sig) → Buf (Elt Ideal) ℓ) (g : Dev Cert.GdownIdeal.nD → PrngReg), Pre_GdownIdeal m →
    θ_run (Cert.GdownIdeal.defs (F := Ideal)) (onTc (τ := Cert.GdownIdeal.τ) (Cert.GdownIdeal.main (F := Ideal))) ⟨m, fun _ => 0, g⟩ (fun r => (∀ c : Dev Cert.GdownIdeal.nD,
      r.2.mem ((c.tc : Thread Cert.GdownIdeal.nD Cert.GdownIdeal.τ).loc Cert.GdownIdeal.main_arg0) = m ((c.tc : Thread Cert.GdownIdeal.nD Cert.GdownIdeal.τ).loc Cert.GdownIdeal.main_arg0)
      ∧ r.2.mem ((c.tc : Thread Cert.GdownIdeal.nD Cert.GdownIdeal.τ).loc Cert.GdownIdeal.main_arg1) = m ((c.tc : Thread Cert.GdownIdeal.nD Cert.GdownIdeal.τ).loc Cert.GdownIdeal.main_arg1))
      ∧ r.2.sem = fun _ => 0)

def quiescent_GdownRefIdeal [hGdownRefIdeal : Cert.GdownRefIdeal.Facts] : Prop :=
  ∀ (m : (ℓ : Loc Cert.GdownRefIdeal.nD Cert.GdownRefIdeal.τ Cert.GdownRefIdeal.sig) → Buf (Elt Ideal) ℓ) (g : Dev Cert.GdownRefIdeal.nD → PrngReg), Pre_GdownRefIdeal m →
    θ_run (Cert.GdownRefIdeal.defs (F := Ideal)) (onTc (τ := Cert.GdownRefIdeal.τ) (Cert.GdownRefIdeal.main (F := Ideal))) ⟨m, fun _ => 0, g⟩ (fun r => (∀ c : Dev Cert.GdownRefIdeal.nD,
      r.2.mem ((c.tc : Thread Cert.GdownRefIdeal.nD Cert.GdownRefIdeal.τ).loc Cert.GdownRefIdeal.main_arg0) = m ((c.tc : Thread Cert.GdownRefIdeal.nD Cert.GdownRefIdeal.τ).loc Cert.GdownRefIdeal.main_arg0)
      ∧ r.2.mem ((c.tc : Thread Cert.GdownRefIdeal.nD Cert.GdownRefIdeal.τ).loc Cert.GdownRefIdeal.main_arg1) = m ((c.tc : Thread Cert.GdownRefIdeal.nD Cert.GdownRefIdeal.τ).loc Cert.GdownRefIdeal.main_arg1))
      ∧ r.2.sem = fun _ => 0)

def quiescent_Gup [hGup : Cert.Gup.Facts] : Prop :=
  ∀ (m : (ℓ : Loc Cert.Gup.nD Cert.Gup.τ Cert.Gup.sig) → Buf (Elt Bits) ℓ) (g : Dev Cert.Gup.nD → PrngReg), Pre_Gup m →
    θ_run (Cert.Gup.defs (F := Bits)) (onTc (τ := Cert.Gup.τ) (Cert.Gup.main (F := Bits))) ⟨m, fun _ => 0, g⟩ (fun r => (∀ c : Dev Cert.Gup.nD,
      r.2.mem ((c.tc : Thread Cert.Gup.nD Cert.Gup.τ).loc Cert.Gup.main_arg0) = m ((c.tc : Thread Cert.Gup.nD Cert.Gup.τ).loc Cert.Gup.main_arg0)
      ∧ r.2.mem ((c.tc : Thread Cert.Gup.nD Cert.Gup.τ).loc Cert.Gup.main_arg1) = m ((c.tc : Thread Cert.Gup.nD Cert.Gup.τ).loc Cert.Gup.main_arg1))
      ∧ r.2.sem = fun _ => 0)

def quiescent_GupIdeal [hGupIdeal : Cert.GupIdeal.Facts] : Prop :=
  ∀ (m : (ℓ : Loc Cert.GupIdeal.nD Cert.GupIdeal.τ Cert.GupIdeal.sig) → Buf (Elt Ideal) ℓ) (g : Dev Cert.GupIdeal.nD → PrngReg), Pre_GupIdeal m →
    θ_run (Cert.GupIdeal.defs (F := Ideal)) (onTc (τ := Cert.GupIdeal.τ) (Cert.GupIdeal.main (F := Ideal))) ⟨m, fun _ => 0, g⟩ (fun r => (∀ c : Dev Cert.GupIdeal.nD,
      r.2.mem ((c.tc : Thread Cert.GupIdeal.nD Cert.GupIdeal.τ).loc Cert.GupIdeal.main_arg0) = m ((c.tc : Thread Cert.GupIdeal.nD Cert.GupIdeal.τ).loc Cert.GupIdeal.main_arg0)
      ∧ r.2.mem ((c.tc : Thread Cert.GupIdeal.nD Cert.GupIdeal.τ).loc Cert.GupIdeal.main_arg1) = m ((c.tc : Thread Cert.GupIdeal.nD Cert.GupIdeal.τ).loc Cert.GupIdeal.main_arg1))
      ∧ r.2.sem = fun _ => 0)

def quiescent_GupRefIdeal [hGupRefIdeal : Cert.GupRefIdeal.Facts] : Prop :=
  ∀ (m : (ℓ : Loc Cert.GupRefIdeal.nD Cert.GupRefIdeal.τ Cert.GupRefIdeal.sig) → Buf (Elt Ideal) ℓ) (g : Dev Cert.GupRefIdeal.nD → PrngReg), Pre_GupRefIdeal m →
    θ_run (Cert.GupRefIdeal.defs (F := Ideal)) (onTc (τ := Cert.GupRefIdeal.τ) (Cert.GupRefIdeal.main (F := Ideal))) ⟨m, fun _ => 0, g⟩ (fun r => (∀ c : Dev Cert.GupRefIdeal.nD,
      r.2.mem ((c.tc : Thread Cert.GupRefIdeal.nD Cert.GupRefIdeal.τ).loc Cert.GupRefIdeal.main_arg0) = m ((c.tc : Thread Cert.GupRefIdeal.nD Cert.GupRefIdeal.τ).loc Cert.GupRefIdeal.main_arg0)
      ∧ r.2.mem ((c.tc : Thread Cert.GupRefIdeal.nD Cert.GupRefIdeal.τ).loc Cert.GupRefIdeal.main_arg1) = m ((c.tc : Thread Cert.GupRefIdeal.nD Cert.GupRefIdeal.τ).loc Cert.GupRefIdeal.main_arg1))
      ∧ r.2.sem = fun _ => 0)

def quiescent_Gin [hGin : Cert.Gin.Facts] : Prop :=
  ∀ (m : (ℓ : Loc Cert.Gin.nD Cert.Gin.τ Cert.Gin.sig) → Buf (Elt Bits) ℓ) (g : Dev Cert.Gin.nD → PrngReg), Pre_Gin m →
    θ_run (Cert.Gin.defs (F := Bits)) (onTc (τ := Cert.Gin.τ) (Cert.Gin.main (F := Bits))) ⟨m, fun _ => 0, g⟩ (fun r => (∀ c : Dev Cert.Gin.nD,
      r.2.mem ((c.tc : Thread Cert.Gin.nD Cert.Gin.τ).loc Cert.Gin.main_arg0) = m ((c.tc : Thread Cert.Gin.nD Cert.Gin.τ).loc Cert.Gin.main_arg0)
      ∧ r.2.mem ((c.tc : Thread Cert.Gin.nD Cert.Gin.τ).loc Cert.Gin.main_arg1) = m ((c.tc : Thread Cert.Gin.nD Cert.Gin.τ).loc Cert.Gin.main_arg1))
      ∧ r.2.sem = fun _ => 0)

def quiescent_GinIdeal [hGinIdeal : Cert.GinIdeal.Facts] : Prop :=
  ∀ (m : (ℓ : Loc Cert.GinIdeal.nD Cert.GinIdeal.τ Cert.GinIdeal.sig) → Buf (Elt Ideal) ℓ) (g : Dev Cert.GinIdeal.nD → PrngReg), Pre_GinIdeal m →
    θ_run (Cert.GinIdeal.defs (F := Ideal)) (onTc (τ := Cert.GinIdeal.τ) (Cert.GinIdeal.main (F := Ideal))) ⟨m, fun _ => 0, g⟩ (fun r => (∀ c : Dev Cert.GinIdeal.nD,
      r.2.mem ((c.tc : Thread Cert.GinIdeal.nD Cert.GinIdeal.τ).loc Cert.GinIdeal.main_arg0) = m ((c.tc : Thread Cert.GinIdeal.nD Cert.GinIdeal.τ).loc Cert.GinIdeal.main_arg0)
      ∧ r.2.mem ((c.tc : Thread Cert.GinIdeal.nD Cert.GinIdeal.τ).loc Cert.GinIdeal.main_arg1) = m ((c.tc : Thread Cert.GinIdeal.nD Cert.GinIdeal.τ).loc Cert.GinIdeal.main_arg1))
      ∧ r.2.sem = fun _ => 0)

def quiescent_GinRefIdeal [hGinRefIdeal : Cert.GinRefIdeal.Facts] : Prop :=
  ∀ (m : (ℓ : Loc Cert.GinRefIdeal.nD Cert.GinRefIdeal.τ Cert.GinRefIdeal.sig) → Buf (Elt Ideal) ℓ) (g : Dev Cert.GinRefIdeal.nD → PrngReg), Pre_GinRefIdeal m →
    θ_run (Cert.GinRefIdeal.defs (F := Ideal)) (onTc (τ := Cert.GinRefIdeal.τ) (Cert.GinRefIdeal.main (F := Ideal))) ⟨m, fun _ => 0, g⟩ (fun r => (∀ c : Dev Cert.GinRefIdeal.nD,
      r.2.mem ((c.tc : Thread Cert.GinRefIdeal.nD Cert.GinRefIdeal.τ).loc Cert.GinRefIdeal.main_arg0) = m ((c.tc : Thread Cert.GinRefIdeal.nD Cert.GinRefIdeal.τ).loc Cert.GinRefIdeal.main_arg0)
      ∧ r.2.mem ((c.tc : Thread Cert.GinRefIdeal.nD Cert.GinRefIdeal.τ).loc Cert.GinRefIdeal.main_arg1) = m ((c.tc : Thread Cert.GinRefIdeal.nD Cert.GinRefIdeal.τ).loc Cert.GinRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Pa [hPa : Cert.Pa.Facts] : Prop :=
  ∀ (m : (ℓ : Loc Cert.Pa.nD Cert.Pa.τ Cert.Pa.sig) → Buf (Elt Bits) ℓ) (g : Dev Cert.Pa.nD → PrngReg), Pre_Pa m →
    θ_run (Cert.Pa.defs (F := Bits)) (onTc (τ := Cert.Pa.τ) (Cert.Pa.main (F := Bits))) ⟨m, fun _ => 0, g⟩ (fun r => (∀ c : Dev Cert.Pa.nD,
      r.2.mem ((c.tc : Thread Cert.Pa.nD Cert.Pa.τ).loc Cert.Pa.main_arg0) = m ((c.tc : Thread Cert.Pa.nD Cert.Pa.τ).loc Cert.Pa.main_arg0)
      ∧ r.2.mem ((c.tc : Thread Cert.Pa.nD Cert.Pa.τ).loc Cert.Pa.main_arg1) = m ((c.tc : Thread Cert.Pa.nD Cert.Pa.τ).loc Cert.Pa.main_arg1))
      ∧ r.2.sem = fun _ => 0)

def quiescent_PaIdeal [hPaIdeal : Cert.PaIdeal.Facts] : Prop :=
  ∀ (m : (ℓ : Loc Cert.PaIdeal.nD Cert.PaIdeal.τ Cert.PaIdeal.sig) → Buf (Elt Ideal) ℓ) (g : Dev Cert.PaIdeal.nD → PrngReg), Pre_PaIdeal m →
    θ_run (Cert.PaIdeal.defs (F := Ideal)) (onTc (τ := Cert.PaIdeal.τ) (Cert.PaIdeal.main (F := Ideal))) ⟨m, fun _ => 0, g⟩ (fun r => (∀ c : Dev Cert.PaIdeal.nD,
      r.2.mem ((c.tc : Thread Cert.PaIdeal.nD Cert.PaIdeal.τ).loc Cert.PaIdeal.main_arg0) = m ((c.tc : Thread Cert.PaIdeal.nD Cert.PaIdeal.τ).loc Cert.PaIdeal.main_arg0)
      ∧ r.2.mem ((c.tc : Thread Cert.PaIdeal.nD Cert.PaIdeal.τ).loc Cert.PaIdeal.main_arg1) = m ((c.tc : Thread Cert.PaIdeal.nD Cert.PaIdeal.τ).loc Cert.PaIdeal.main_arg1))
      ∧ r.2.sem = fun _ => 0)

def quiescent_PaRefIdeal [hPaRefIdeal : Cert.PaRefIdeal.Facts] : Prop :=
  ∀ (m : (ℓ : Loc Cert.PaRefIdeal.nD Cert.PaRefIdeal.τ Cert.PaRefIdeal.sig) → Buf (Elt Ideal) ℓ) (g : Dev Cert.PaRefIdeal.nD → PrngReg), Pre_PaRefIdeal m →
    θ_run (Cert.PaRefIdeal.defs (F := Ideal)) (onTc (τ := Cert.PaRefIdeal.τ) (Cert.PaRefIdeal.main (F := Ideal))) ⟨m, fun _ => 0, g⟩ (fun r => (∀ c : Dev Cert.PaRefIdeal.nD,
      r.2.mem ((c.tc : Thread Cert.PaRefIdeal.nD Cert.PaRefIdeal.τ).loc Cert.PaRefIdeal.main_arg0) = m ((c.tc : Thread Cert.PaRefIdeal.nD Cert.PaRefIdeal.τ).loc Cert.PaRefIdeal.main_arg0)
      ∧ r.2.mem ((c.tc : Thread Cert.PaRefIdeal.nD Cert.PaRefIdeal.τ).loc Cert.PaRefIdeal.main_arg1) = m ((c.tc : Thread Cert.PaRefIdeal.nD Cert.PaRefIdeal.τ).loc Cert.PaRefIdeal.main_arg1))
      ∧ r.2.sem = fun _ => 0)

def quiescent_Gout [hGout : Cert.Gout.Facts] : Prop :=
  ∀ (m : (ℓ : Loc Cert.Gout.nD Cert.Gout.τ Cert.Gout.sig) → Buf (Elt Bits) ℓ) (g : Dev Cert.Gout.nD → PrngReg), Pre_Gout m →
    θ_run (Cert.Gout.defs (F := Bits)) (onTc (τ := Cert.Gout.τ) (Cert.Gout.main (F := Bits))) ⟨m, fun _ => 0, g⟩ (fun r => (∀ c : Dev Cert.Gout.nD,
      r.2.mem ((c.tc : Thread Cert.Gout.nD Cert.Gout.τ).loc Cert.Gout.main_arg0) = m ((c.tc : Thread Cert.Gout.nD Cert.Gout.τ).loc Cert.Gout.main_arg0)
      ∧ r.2.mem ((c.tc : Thread Cert.Gout.nD Cert.Gout.τ).loc Cert.Gout.main_arg1) = m ((c.tc : Thread Cert.Gout.nD Cert.Gout.τ).loc Cert.Gout.main_arg1))
      ∧ r.2.sem = fun _ => 0)

def quiescent_GoutIdeal [hGoutIdeal : Cert.GoutIdeal.Facts] : Prop :=
  ∀ (m : (ℓ : Loc Cert.GoutIdeal.nD Cert.GoutIdeal.τ Cert.GoutIdeal.sig) → Buf (Elt Ideal) ℓ) (g : Dev Cert.GoutIdeal.nD → PrngReg), Pre_GoutIdeal m →
    θ_run (Cert.GoutIdeal.defs (F := Ideal)) (onTc (τ := Cert.GoutIdeal.τ) (Cert.GoutIdeal.main (F := Ideal))) ⟨m, fun _ => 0, g⟩ (fun r => (∀ c : Dev Cert.GoutIdeal.nD,
      r.2.mem ((c.tc : Thread Cert.GoutIdeal.nD Cert.GoutIdeal.τ).loc Cert.GoutIdeal.main_arg0) = m ((c.tc : Thread Cert.GoutIdeal.nD Cert.GoutIdeal.τ).loc Cert.GoutIdeal.main_arg0)
      ∧ r.2.mem ((c.tc : Thread Cert.GoutIdeal.nD Cert.GoutIdeal.τ).loc Cert.GoutIdeal.main_arg1) = m ((c.tc : Thread Cert.GoutIdeal.nD Cert.GoutIdeal.τ).loc Cert.GoutIdeal.main_arg1))
      ∧ r.2.sem = fun _ => 0)

def quiescent_GoutRefIdeal [hGoutRefIdeal : Cert.GoutRefIdeal.Facts] : Prop :=
  ∀ (m : (ℓ : Loc Cert.GoutRefIdeal.nD Cert.GoutRefIdeal.τ Cert.GoutRefIdeal.sig) → Buf (Elt Ideal) ℓ) (g : Dev Cert.GoutRefIdeal.nD → PrngReg), Pre_GoutRefIdeal m →
    θ_run (Cert.GoutRefIdeal.defs (F := Ideal)) (onTc (τ := Cert.GoutRefIdeal.τ) (Cert.GoutRefIdeal.main (F := Ideal))) ⟨m, fun _ => 0, g⟩ (fun r => (∀ c : Dev Cert.GoutRefIdeal.nD,
      r.2.mem ((c.tc : Thread Cert.GoutRefIdeal.nD Cert.GoutRefIdeal.τ).loc Cert.GoutRefIdeal.main_arg0) = m ((c.tc : Thread Cert.GoutRefIdeal.nD Cert.GoutRefIdeal.τ).loc Cert.GoutRefIdeal.main_arg0)
      ∧ r.2.mem ((c.tc : Thread Cert.GoutRefIdeal.nD Cert.GoutRefIdeal.τ).loc Cert.GoutRefIdeal.main_arg1) = m ((c.tc : Thread Cert.GoutRefIdeal.nD Cert.GoutRefIdeal.τ).loc Cert.GoutRefIdeal.main_arg1))
      ∧ r.2.sem = fun _ => 0)

def quiescent_Gpa [hGpa : Cert.Gpa.Facts] : Prop :=
  ∀ (m : (ℓ : Loc Cert.Gpa.nD Cert.Gpa.τ Cert.Gpa.sig) → Buf (Elt Bits) ℓ) (g : Dev Cert.Gpa.nD → PrngReg), Pre_Gpa m →
    θ_run (Cert.Gpa.defs (F := Bits)) (onTc (τ := Cert.Gpa.τ) (Cert.Gpa.main (F := Bits))) ⟨m, fun _ => 0, g⟩ (fun r => (∀ c : Dev Cert.Gpa.nD,
      r.2.mem ((c.tc : Thread Cert.Gpa.nD Cert.Gpa.τ).loc Cert.Gpa.main_arg0) = m ((c.tc : Thread Cert.Gpa.nD Cert.Gpa.τ).loc Cert.Gpa.main_arg0)
      ∧ r.2.mem ((c.tc : Thread Cert.Gpa.nD Cert.Gpa.τ).loc Cert.Gpa.main_arg1) = m ((c.tc : Thread Cert.Gpa.nD Cert.Gpa.τ).loc Cert.Gpa.main_arg1))
      ∧ r.2.sem = fun _ => 0)

def quiescent_GpaIdeal [hGpaIdeal : Cert.GpaIdeal.Facts] : Prop :=
  ∀ (m : (ℓ : Loc Cert.GpaIdeal.nD Cert.GpaIdeal.τ Cert.GpaIdeal.sig) → Buf (Elt Ideal) ℓ) (g : Dev Cert.GpaIdeal.nD → PrngReg), Pre_GpaIdeal m →
    θ_run (Cert.GpaIdeal.defs (F := Ideal)) (onTc (τ := Cert.GpaIdeal.τ) (Cert.GpaIdeal.main (F := Ideal))) ⟨m, fun _ => 0, g⟩ (fun r => (∀ c : Dev Cert.GpaIdeal.nD,
      r.2.mem ((c.tc : Thread Cert.GpaIdeal.nD Cert.GpaIdeal.τ).loc Cert.GpaIdeal.main_arg0) = m ((c.tc : Thread Cert.GpaIdeal.nD Cert.GpaIdeal.τ).loc Cert.GpaIdeal.main_arg0)
      ∧ r.2.mem ((c.tc : Thread Cert.GpaIdeal.nD Cert.GpaIdeal.τ).loc Cert.GpaIdeal.main_arg1) = m ((c.tc : Thread Cert.GpaIdeal.nD Cert.GpaIdeal.τ).loc Cert.GpaIdeal.main_arg1))
      ∧ r.2.sem = fun _ => 0)

def quiescent_GpaRefIdeal [hGpaRefIdeal : Cert.GpaRefIdeal.Facts] : Prop :=
  ∀ (m : (ℓ : Loc Cert.GpaRefIdeal.nD Cert.GpaRefIdeal.τ Cert.GpaRefIdeal.sig) → Buf (Elt Ideal) ℓ) (g : Dev Cert.GpaRefIdeal.nD → PrngReg), Pre_GpaRefIdeal m →
    θ_run (Cert.GpaRefIdeal.defs (F := Ideal)) (onTc (τ := Cert.GpaRefIdeal.τ) (Cert.GpaRefIdeal.main (F := Ideal))) ⟨m, fun _ => 0, g⟩ (fun r => (∀ c : Dev Cert.GpaRefIdeal.nD,
      r.2.mem ((c.tc : Thread Cert.GpaRefIdeal.nD Cert.GpaRefIdeal.τ).loc Cert.GpaRefIdeal.main_arg0) = m ((c.tc : Thread Cert.GpaRefIdeal.nD Cert.GpaRefIdeal.τ).loc Cert.GpaRefIdeal.main_arg0)
      ∧ r.2.mem ((c.tc : Thread Cert.GpaRefIdeal.nD Cert.GpaRefIdeal.τ).loc Cert.GpaRefIdeal.main_arg1) = m ((c.tc : Thread Cert.GpaRefIdeal.nD Cert.GpaRefIdeal.τ).loc Cert.GpaRefIdeal.main_arg1))
      ∧ r.2.sem = fun _ => 0)

def quiescent_Gpb [hGpb : Cert.Gpb.Facts] : Prop :=
  ∀ (m : (ℓ : Loc Cert.Gpb.nD Cert.Gpb.τ Cert.Gpb.sig) → Buf (Elt Bits) ℓ) (g : Dev Cert.Gpb.nD → PrngReg), Pre_Gpb m →
    θ_run (Cert.Gpb.defs (F := Bits)) (onTc (τ := Cert.Gpb.τ) (Cert.Gpb.main (F := Bits))) ⟨m, fun _ => 0, g⟩ (fun r => (∀ c : Dev Cert.Gpb.nD,
      r.2.mem ((c.tc : Thread Cert.Gpb.nD Cert.Gpb.τ).loc Cert.Gpb.main_arg0) = m ((c.tc : Thread Cert.Gpb.nD Cert.Gpb.τ).loc Cert.Gpb.main_arg0)
      ∧ r.2.mem ((c.tc : Thread Cert.Gpb.nD Cert.Gpb.τ).loc Cert.Gpb.main_arg1) = m ((c.tc : Thread Cert.Gpb.nD Cert.Gpb.τ).loc Cert.Gpb.main_arg1))
      ∧ r.2.sem = fun _ => 0)

def quiescent_GpbIdeal [hGpbIdeal : Cert.GpbIdeal.Facts] : Prop :=
  ∀ (m : (ℓ : Loc Cert.GpbIdeal.nD Cert.GpbIdeal.τ Cert.GpbIdeal.sig) → Buf (Elt Ideal) ℓ) (g : Dev Cert.GpbIdeal.nD → PrngReg), Pre_GpbIdeal m →
    θ_run (Cert.GpbIdeal.defs (F := Ideal)) (onTc (τ := Cert.GpbIdeal.τ) (Cert.GpbIdeal.main (F := Ideal))) ⟨m, fun _ => 0, g⟩ (fun r => (∀ c : Dev Cert.GpbIdeal.nD,
      r.2.mem ((c.tc : Thread Cert.GpbIdeal.nD Cert.GpbIdeal.τ).loc Cert.GpbIdeal.main_arg0) = m ((c.tc : Thread Cert.GpbIdeal.nD Cert.GpbIdeal.τ).loc Cert.GpbIdeal.main_arg0)
      ∧ r.2.mem ((c.tc : Thread Cert.GpbIdeal.nD Cert.GpbIdeal.τ).loc Cert.GpbIdeal.main_arg1) = m ((c.tc : Thread Cert.GpbIdeal.nD Cert.GpbIdeal.τ).loc Cert.GpbIdeal.main_arg1))
      ∧ r.2.sem = fun _ => 0)

def quiescent_GpbRefIdeal [hGpbRefIdeal : Cert.GpbRefIdeal.Facts] : Prop :=
  ∀ (m : (ℓ : Loc Cert.GpbRefIdeal.nD Cert.GpbRefIdeal.τ Cert.GpbRefIdeal.sig) → Buf (Elt Ideal) ℓ) (g : Dev Cert.GpbRefIdeal.nD → PrngReg), Pre_GpbRefIdeal m →
    θ_run (Cert.GpbRefIdeal.defs (F := Ideal)) (onTc (τ := Cert.GpbRefIdeal.τ) (Cert.GpbRefIdeal.main (F := Ideal))) ⟨m, fun _ => 0, g⟩ (fun r => (∀ c : Dev Cert.GpbRefIdeal.nD,
      r.2.mem ((c.tc : Thread Cert.GpbRefIdeal.nD Cert.GpbRefIdeal.τ).loc Cert.GpbRefIdeal.main_arg0) = m ((c.tc : Thread Cert.GpbRefIdeal.nD Cert.GpbRefIdeal.τ).loc Cert.GpbRefIdeal.main_arg0)
      ∧ r.2.mem ((c.tc : Thread Cert.GpbRefIdeal.nD Cert.GpbRefIdeal.τ).loc Cert.GpbRefIdeal.main_arg1) = m ((c.tc : Thread Cert.GpbRefIdeal.nD Cert.GpbRefIdeal.τ).loc Cert.GpbRefIdeal.main_arg1))
      ∧ r.2.sem = fun _ => 0)

def quiescent_Dya [hDya : Cert.Dya.Facts] : Prop :=
  ∀ (m : (ℓ : Loc Cert.Dya.nD Cert.Dya.τ Cert.Dya.sig) → Buf (Elt Bits) ℓ) (g : Dev Cert.Dya.nD → PrngReg), Pre_Dya m →
    θ_run (Cert.Dya.defs (F := Bits)) (onTc (τ := Cert.Dya.τ) (Cert.Dya.main (F := Bits))) ⟨m, fun _ => 0, g⟩ (fun r => (∀ c : Dev Cert.Dya.nD,
      r.2.mem ((c.tc : Thread Cert.Dya.nD Cert.Dya.τ).loc Cert.Dya.main_arg0) = m ((c.tc : Thread Cert.Dya.nD Cert.Dya.τ).loc Cert.Dya.main_arg0)
      ∧ r.2.mem ((c.tc : Thread Cert.Dya.nD Cert.Dya.τ).loc Cert.Dya.main_arg1) = m ((c.tc : Thread Cert.Dya.nD Cert.Dya.τ).loc Cert.Dya.main_arg1))
      ∧ r.2.sem = fun _ => 0)

def quiescent_DyaIdeal [hDyaIdeal : Cert.DyaIdeal.Facts] : Prop :=
  ∀ (m : (ℓ : Loc Cert.DyaIdeal.nD Cert.DyaIdeal.τ Cert.DyaIdeal.sig) → Buf (Elt Ideal) ℓ) (g : Dev Cert.DyaIdeal.nD → PrngReg), Pre_DyaIdeal m →
    θ_run (Cert.DyaIdeal.defs (F := Ideal)) (onTc (τ := Cert.DyaIdeal.τ) (Cert.DyaIdeal.main (F := Ideal))) ⟨m, fun _ => 0, g⟩ (fun r => (∀ c : Dev Cert.DyaIdeal.nD,
      r.2.mem ((c.tc : Thread Cert.DyaIdeal.nD Cert.DyaIdeal.τ).loc Cert.DyaIdeal.main_arg0) = m ((c.tc : Thread Cert.DyaIdeal.nD Cert.DyaIdeal.τ).loc Cert.DyaIdeal.main_arg0)
      ∧ r.2.mem ((c.tc : Thread Cert.DyaIdeal.nD Cert.DyaIdeal.τ).loc Cert.DyaIdeal.main_arg1) = m ((c.tc : Thread Cert.DyaIdeal.nD Cert.DyaIdeal.τ).loc Cert.DyaIdeal.main_arg1))
      ∧ r.2.sem = fun _ => 0)

def quiescent_DyaRefIdeal [hDyaRefIdeal : Cert.DyaRefIdeal.Facts] : Prop :=
  ∀ (m : (ℓ : Loc Cert.DyaRefIdeal.nD Cert.DyaRefIdeal.τ Cert.DyaRefIdeal.sig) → Buf (Elt Ideal) ℓ) (g : Dev Cert.DyaRefIdeal.nD → PrngReg), Pre_DyaRefIdeal m →
    θ_run (Cert.DyaRefIdeal.defs (F := Ideal)) (onTc (τ := Cert.DyaRefIdeal.τ) (Cert.DyaRefIdeal.main (F := Ideal))) ⟨m, fun _ => 0, g⟩ (fun r => (∀ c : Dev Cert.DyaRefIdeal.nD,
      r.2.mem ((c.tc : Thread Cert.DyaRefIdeal.nD Cert.DyaRefIdeal.τ).loc Cert.DyaRefIdeal.main_arg0) = m ((c.tc : Thread Cert.DyaRefIdeal.nD Cert.DyaRefIdeal.τ).loc Cert.DyaRefIdeal.main_arg0)
      ∧ r.2.mem ((c.tc : Thread Cert.DyaRefIdeal.nD Cert.DyaRefIdeal.τ).loc Cert.DyaRefIdeal.main_arg1) = m ((c.tc : Thread Cert.DyaRefIdeal.nD Cert.DyaRefIdeal.τ).loc Cert.DyaRefIdeal.main_arg1))
      ∧ r.2.sem = fun _ => 0)

def quiescent_Dyb [hDyb : Cert.Dyb.Facts] : Prop :=
  ∀ (m : (ℓ : Loc Cert.Dyb.nD Cert.Dyb.τ Cert.Dyb.sig) → Buf (Elt Bits) ℓ) (g : Dev Cert.Dyb.nD → PrngReg), Pre_Dyb m →
    θ_run (Cert.Dyb.defs (F := Bits)) (onTc (τ := Cert.Dyb.τ) (Cert.Dyb.main (F := Bits))) ⟨m, fun _ => 0, g⟩ (fun r => (∀ c : Dev Cert.Dyb.nD,
      r.2.mem ((c.tc : Thread Cert.Dyb.nD Cert.Dyb.τ).loc Cert.Dyb.main_arg0) = m ((c.tc : Thread Cert.Dyb.nD Cert.Dyb.τ).loc Cert.Dyb.main_arg0)
      ∧ r.2.mem ((c.tc : Thread Cert.Dyb.nD Cert.Dyb.τ).loc Cert.Dyb.main_arg1) = m ((c.tc : Thread Cert.Dyb.nD Cert.Dyb.τ).loc Cert.Dyb.main_arg1))
      ∧ r.2.sem = fun _ => 0)

def quiescent_DybIdeal [hDybIdeal : Cert.DybIdeal.Facts] : Prop :=
  ∀ (m : (ℓ : Loc Cert.DybIdeal.nD Cert.DybIdeal.τ Cert.DybIdeal.sig) → Buf (Elt Ideal) ℓ) (g : Dev Cert.DybIdeal.nD → PrngReg), Pre_DybIdeal m →
    θ_run (Cert.DybIdeal.defs (F := Ideal)) (onTc (τ := Cert.DybIdeal.τ) (Cert.DybIdeal.main (F := Ideal))) ⟨m, fun _ => 0, g⟩ (fun r => (∀ c : Dev Cert.DybIdeal.nD,
      r.2.mem ((c.tc : Thread Cert.DybIdeal.nD Cert.DybIdeal.τ).loc Cert.DybIdeal.main_arg0) = m ((c.tc : Thread Cert.DybIdeal.nD Cert.DybIdeal.τ).loc Cert.DybIdeal.main_arg0)
      ∧ r.2.mem ((c.tc : Thread Cert.DybIdeal.nD Cert.DybIdeal.τ).loc Cert.DybIdeal.main_arg1) = m ((c.tc : Thread Cert.DybIdeal.nD Cert.DybIdeal.τ).loc Cert.DybIdeal.main_arg1))
      ∧ r.2.sem = fun _ => 0)

def quiescent_DybRefIdeal [hDybRefIdeal : Cert.DybRefIdeal.Facts] : Prop :=
  ∀ (m : (ℓ : Loc Cert.DybRefIdeal.nD Cert.DybRefIdeal.τ Cert.DybRefIdeal.sig) → Buf (Elt Ideal) ℓ) (g : Dev Cert.DybRefIdeal.nD → PrngReg), Pre_DybRefIdeal m →
    θ_run (Cert.DybRefIdeal.defs (F := Ideal)) (onTc (τ := Cert.DybRefIdeal.τ) (Cert.DybRefIdeal.main (F := Ideal))) ⟨m, fun _ => 0, g⟩ (fun r => (∀ c : Dev Cert.DybRefIdeal.nD,
      r.2.mem ((c.tc : Thread Cert.DybRefIdeal.nD Cert.DybRefIdeal.τ).loc Cert.DybRefIdeal.main_arg0) = m ((c.tc : Thread Cert.DybRefIdeal.nD Cert.DybRefIdeal.τ).loc Cert.DybRefIdeal.main_arg0)
      ∧ r.2.mem ((c.tc : Thread Cert.DybRefIdeal.nD Cert.DybRefIdeal.τ).loc Cert.DybRefIdeal.main_arg1) = m ((c.tc : Thread Cert.DybRefIdeal.nD Cert.DybRefIdeal.τ).loc Cert.DybRefIdeal.main_arg1))
      ∧ r.2.sem = fun _ => 0)

def quiescent_Pb [hPb : Cert.Pb.Facts] : Prop :=
  ∀ (m : (ℓ : Loc Cert.Pb.nD Cert.Pb.τ Cert.Pb.sig) → Buf (Elt Bits) ℓ) (g : Dev Cert.Pb.nD → PrngReg), Pre_Pb m →
    θ_run (Cert.Pb.defs (F := Bits)) (onTc (τ := Cert.Pb.τ) (Cert.Pb.main (F := Bits))) ⟨m, fun _ => 0, g⟩ (fun r => (∀ c : Dev Cert.Pb.nD,
      r.2.mem ((c.tc : Thread Cert.Pb.nD Cert.Pb.τ).loc Cert.Pb.main_arg0) = m ((c.tc : Thread Cert.Pb.nD Cert.Pb.τ).loc Cert.Pb.main_arg0)
      ∧ r.2.mem ((c.tc : Thread Cert.Pb.nD Cert.Pb.τ).loc Cert.Pb.main_arg1) = m ((c.tc : Thread Cert.Pb.nD Cert.Pb.τ).loc Cert.Pb.main_arg1)
      ∧ r.2.mem ((c.tc : Thread Cert.Pb.nD Cert.Pb.τ).loc Cert.Pb.main_arg2) = m ((c.tc : Thread Cert.Pb.nD Cert.Pb.τ).loc Cert.Pb.main_arg2)
      ∧ r.2.mem ((c.tc : Thread Cert.Pb.nD Cert.Pb.τ).loc Cert.Pb.main_arg3) = m ((c.tc : Thread Cert.Pb.nD Cert.Pb.τ).loc Cert.Pb.main_arg3)
      ∧ r.2.mem ((c.tc : Thread Cert.Pb.nD Cert.Pb.τ).loc Cert.Pb.main_arg4) = m ((c.tc : Thread Cert.Pb.nD Cert.Pb.τ).loc Cert.Pb.main_arg4))
      ∧ r.2.sem = fun _ => 0)

def quiescent_PbIdeal [hPbIdeal : Cert.PbIdeal.Facts] : Prop :=
  ∀ (m : (ℓ : Loc Cert.PbIdeal.nD Cert.PbIdeal.τ Cert.PbIdeal.sig) → Buf (Elt Ideal) ℓ) (g : Dev Cert.PbIdeal.nD → PrngReg), Pre_PbIdeal m →
    θ_run (Cert.PbIdeal.defs (F := Ideal)) (onTc (τ := Cert.PbIdeal.τ) (Cert.PbIdeal.main (F := Ideal))) ⟨m, fun _ => 0, g⟩ (fun r => (∀ c : Dev Cert.PbIdeal.nD,
      r.2.mem ((c.tc : Thread Cert.PbIdeal.nD Cert.PbIdeal.τ).loc Cert.PbIdeal.main_arg0) = m ((c.tc : Thread Cert.PbIdeal.nD Cert.PbIdeal.τ).loc Cert.PbIdeal.main_arg0)
      ∧ r.2.mem ((c.tc : Thread Cert.PbIdeal.nD Cert.PbIdeal.τ).loc Cert.PbIdeal.main_arg1) = m ((c.tc : Thread Cert.PbIdeal.nD Cert.PbIdeal.τ).loc Cert.PbIdeal.main_arg1)
      ∧ r.2.mem ((c.tc : Thread Cert.PbIdeal.nD Cert.PbIdeal.τ).loc Cert.PbIdeal.main_arg2) = m ((c.tc : Thread Cert.PbIdeal.nD Cert.PbIdeal.τ).loc Cert.PbIdeal.main_arg2)
      ∧ r.2.mem ((c.tc : Thread Cert.PbIdeal.nD Cert.PbIdeal.τ).loc Cert.PbIdeal.main_arg3) = m ((c.tc : Thread Cert.PbIdeal.nD Cert.PbIdeal.τ).loc Cert.PbIdeal.main_arg3)
      ∧ r.2.mem ((c.tc : Thread Cert.PbIdeal.nD Cert.PbIdeal.τ).loc Cert.PbIdeal.main_arg4) = m ((c.tc : Thread Cert.PbIdeal.nD Cert.PbIdeal.τ).loc Cert.PbIdeal.main_arg4))
      ∧ r.2.sem = fun _ => 0)

def quiescent_PbRefIdeal [hPbRefIdeal : Cert.PbRefIdeal.Facts] : Prop :=
  ∀ (m : (ℓ : Loc Cert.PbRefIdeal.nD Cert.PbRefIdeal.τ Cert.PbRefIdeal.sig) → Buf (Elt Ideal) ℓ) (g : Dev Cert.PbRefIdeal.nD → PrngReg), Pre_PbRefIdeal m →
    θ_run (Cert.PbRefIdeal.defs (F := Ideal)) (onTc (τ := Cert.PbRefIdeal.τ) (Cert.PbRefIdeal.main (F := Ideal))) ⟨m, fun _ => 0, g⟩ (fun r => (∀ c : Dev Cert.PbRefIdeal.nD,
      r.2.mem ((c.tc : Thread Cert.PbRefIdeal.nD Cert.PbRefIdeal.τ).loc Cert.PbRefIdeal.main_arg0) = m ((c.tc : Thread Cert.PbRefIdeal.nD Cert.PbRefIdeal.τ).loc Cert.PbRefIdeal.main_arg0)
      ∧ r.2.mem ((c.tc : Thread Cert.PbRefIdeal.nD Cert.PbRefIdeal.τ).loc Cert.PbRefIdeal.main_arg1) = m ((c.tc : Thread Cert.PbRefIdeal.nD Cert.PbRefIdeal.τ).loc Cert.PbRefIdeal.main_arg1)
      ∧ r.2.mem ((c.tc : Thread Cert.PbRefIdeal.nD Cert.PbRefIdeal.τ).loc Cert.PbRefIdeal.main_arg2) = m ((c.tc : Thread Cert.PbRefIdeal.nD Cert.PbRefIdeal.τ).loc Cert.PbRefIdeal.main_arg2)
      ∧ r.2.mem ((c.tc : Thread Cert.PbRefIdeal.nD Cert.PbRefIdeal.τ).loc Cert.PbRefIdeal.main_arg3) = m ((c.tc : Thread Cert.PbRefIdeal.nD Cert.PbRefIdeal.τ).loc Cert.PbRefIdeal.main_arg3)
      ∧ r.2.mem ((c.tc : Thread Cert.PbRefIdeal.nD Cert.PbRefIdeal.τ).loc Cert.PbRefIdeal.main_arg4) = m ((c.tc : Thread Cert.PbRefIdeal.nD Cert.PbRefIdeal.τ).loc Cert.PbRefIdeal.main_arg4))
      ∧ r.2.sem = fun _ => 0)

def quiescent_Outp [hOutp : Cert.Outp.Facts] : Prop :=
  ∀ (m : (ℓ : Loc Cert.Outp.nD Cert.Outp.τ Cert.Outp.sig) → Buf (Elt Bits) ℓ) (g : Dev Cert.Outp.nD → PrngReg), Pre_Outp m →
    θ_run (Cert.Outp.defs (F := Bits)) (onTc (τ := Cert.Outp.τ) (Cert.Outp.main (F := Bits))) ⟨m, fun _ => 0, g⟩ (fun r => (∀ c : Dev Cert.Outp.nD,
      r.2.mem ((c.tc : Thread Cert.Outp.nD Cert.Outp.τ).loc Cert.Outp.main_arg0) = m ((c.tc : Thread Cert.Outp.nD Cert.Outp.τ).loc Cert.Outp.main_arg0)
      ∧ r.2.mem ((c.tc : Thread Cert.Outp.nD Cert.Outp.τ).loc Cert.Outp.main_arg1) = m ((c.tc : Thread Cert.Outp.nD Cert.Outp.τ).loc Cert.Outp.main_arg1)
      ∧ r.2.mem ((c.tc : Thread Cert.Outp.nD Cert.Outp.τ).loc Cert.Outp.main_arg2) = m ((c.tc : Thread Cert.Outp.nD Cert.Outp.τ).loc Cert.Outp.main_arg2)
      ∧ r.2.mem ((c.tc : Thread Cert.Outp.nD Cert.Outp.τ).loc Cert.Outp.main_arg3) = m ((c.tc : Thread Cert.Outp.nD Cert.Outp.τ).loc Cert.Outp.main_arg3))
      ∧ r.2.sem = fun _ => 0)

def quiescent_OutpIdeal [hOutpIdeal : Cert.OutpIdeal.Facts] : Prop :=
  ∀ (m : (ℓ : Loc Cert.OutpIdeal.nD Cert.OutpIdeal.τ Cert.OutpIdeal.sig) → Buf (Elt Ideal) ℓ) (g : Dev Cert.OutpIdeal.nD → PrngReg), Pre_OutpIdeal m →
    θ_run (Cert.OutpIdeal.defs (F := Ideal)) (onTc (τ := Cert.OutpIdeal.τ) (Cert.OutpIdeal.main (F := Ideal))) ⟨m, fun _ => 0, g⟩ (fun r => (∀ c : Dev Cert.OutpIdeal.nD,
      r.2.mem ((c.tc : Thread Cert.OutpIdeal.nD Cert.OutpIdeal.τ).loc Cert.OutpIdeal.main_arg0) = m ((c.tc : Thread Cert.OutpIdeal.nD Cert.OutpIdeal.τ).loc Cert.OutpIdeal.main_arg0)
      ∧ r.2.mem ((c.tc : Thread Cert.OutpIdeal.nD Cert.OutpIdeal.τ).loc Cert.OutpIdeal.main_arg1) = m ((c.tc : Thread Cert.OutpIdeal.nD Cert.OutpIdeal.τ).loc Cert.OutpIdeal.main_arg1)
      ∧ r.2.mem ((c.tc : Thread Cert.OutpIdeal.nD Cert.OutpIdeal.τ).loc Cert.OutpIdeal.main_arg2) = m ((c.tc : Thread Cert.OutpIdeal.nD Cert.OutpIdeal.τ).loc Cert.OutpIdeal.main_arg2)
      ∧ r.2.mem ((c.tc : Thread Cert.OutpIdeal.nD Cert.OutpIdeal.τ).loc Cert.OutpIdeal.main_arg3) = m ((c.tc : Thread Cert.OutpIdeal.nD Cert.OutpIdeal.τ).loc Cert.OutpIdeal.main_arg3))
      ∧ r.2.sem = fun _ => 0)

def quiescent_OutpRefIdeal [hOutpRefIdeal : Cert.OutpRefIdeal.Facts] : Prop :=
  ∀ (m : (ℓ : Loc Cert.OutpRefIdeal.nD Cert.OutpRefIdeal.τ Cert.OutpRefIdeal.sig) → Buf (Elt Ideal) ℓ) (g : Dev Cert.OutpRefIdeal.nD → PrngReg), Pre_OutpRefIdeal m →
    θ_run (Cert.OutpRefIdeal.defs (F := Ideal)) (onTc (τ := Cert.OutpRefIdeal.τ) (Cert.OutpRefIdeal.main (F := Ideal))) ⟨m, fun _ => 0, g⟩ (fun r => (∀ c : Dev Cert.OutpRefIdeal.nD,
      r.2.mem ((c.tc : Thread Cert.OutpRefIdeal.nD Cert.OutpRefIdeal.τ).loc Cert.OutpRefIdeal.main_arg0) = m ((c.tc : Thread Cert.OutpRefIdeal.nD Cert.OutpRefIdeal.τ).loc Cert.OutpRefIdeal.main_arg0)
      ∧ r.2.mem ((c.tc : Thread Cert.OutpRefIdeal.nD Cert.OutpRefIdeal.τ).loc Cert.OutpRefIdeal.main_arg1) = m ((c.tc : Thread Cert.OutpRefIdeal.nD Cert.OutpRefIdeal.τ).loc Cert.OutpRefIdeal.main_arg1)
      ∧ r.2.mem ((c.tc : Thread Cert.OutpRefIdeal.nD Cert.OutpRefIdeal.τ).loc Cert.OutpRefIdeal.main_arg2) = m ((c.tc : Thread Cert.OutpRefIdeal.nD Cert.OutpRefIdeal.τ).loc Cert.OutpRefIdeal.main_arg2)
      ∧ r.2.mem ((c.tc : Thread Cert.OutpRefIdeal.nD Cert.OutpRefIdeal.τ).loc Cert.OutpRefIdeal.main_arg3) = m ((c.tc : Thread Cert.OutpRefIdeal.nD Cert.OutpRefIdeal.τ).loc Cert.OutpRefIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_Ac [hAc : Cert.Ac.Facts] : Prop :=
  ∀ (m : (ℓ : Loc Cert.Ac.nD Cert.Ac.τ Cert.Ac.sig) → Buf (Elt Bits) ℓ) (g : Dev Cert.Ac.nD → PrngReg), Pre_Ac m →
    θ_run (Cert.Ac.defs (F := Bits)) (onTc (τ := Cert.Ac.τ) (Cert.Ac.main (F := Bits))) ⟨m, fun _ => 0, g⟩ (fun r => (∀ c : Dev Cert.Ac.nD,
      r.2.mem ((c.tc : Thread Cert.Ac.nD Cert.Ac.τ).loc Cert.Ac.main_arg0) = m ((c.tc : Thread Cert.Ac.nD Cert.Ac.τ).loc Cert.Ac.main_arg0)
      ∧ r.2.mem ((c.tc : Thread Cert.Ac.nD Cert.Ac.τ).loc Cert.Ac.main_arg1) = m ((c.tc : Thread Cert.Ac.nD Cert.Ac.τ).loc Cert.Ac.main_arg1)
      ∧ r.2.mem ((c.tc : Thread Cert.Ac.nD Cert.Ac.τ).loc Cert.Ac.main_arg2) = m ((c.tc : Thread Cert.Ac.nD Cert.Ac.τ).loc Cert.Ac.main_arg2)
      ∧ r.2.mem ((c.tc : Thread Cert.Ac.nD Cert.Ac.τ).loc Cert.Ac.main_arg3) = m ((c.tc : Thread Cert.Ac.nD Cert.Ac.τ).loc Cert.Ac.main_arg3))
      ∧ r.2.sem = fun _ => 0)

def quiescent_AcIdeal [hAcIdeal : Cert.AcIdeal.Facts] : Prop :=
  ∀ (m : (ℓ : Loc Cert.AcIdeal.nD Cert.AcIdeal.τ Cert.AcIdeal.sig) → Buf (Elt Ideal) ℓ) (g : Dev Cert.AcIdeal.nD → PrngReg), Pre_AcIdeal m →
    θ_run (Cert.AcIdeal.defs (F := Ideal)) (onTc (τ := Cert.AcIdeal.τ) (Cert.AcIdeal.main (F := Ideal))) ⟨m, fun _ => 0, g⟩ (fun r => (∀ c : Dev Cert.AcIdeal.nD,
      r.2.mem ((c.tc : Thread Cert.AcIdeal.nD Cert.AcIdeal.τ).loc Cert.AcIdeal.main_arg0) = m ((c.tc : Thread Cert.AcIdeal.nD Cert.AcIdeal.τ).loc Cert.AcIdeal.main_arg0)
      ∧ r.2.mem ((c.tc : Thread Cert.AcIdeal.nD Cert.AcIdeal.τ).loc Cert.AcIdeal.main_arg1) = m ((c.tc : Thread Cert.AcIdeal.nD Cert.AcIdeal.τ).loc Cert.AcIdeal.main_arg1)
      ∧ r.2.mem ((c.tc : Thread Cert.AcIdeal.nD Cert.AcIdeal.τ).loc Cert.AcIdeal.main_arg2) = m ((c.tc : Thread Cert.AcIdeal.nD Cert.AcIdeal.τ).loc Cert.AcIdeal.main_arg2)
      ∧ r.2.mem ((c.tc : Thread Cert.AcIdeal.nD Cert.AcIdeal.τ).loc Cert.AcIdeal.main_arg3) = m ((c.tc : Thread Cert.AcIdeal.nD Cert.AcIdeal.τ).loc Cert.AcIdeal.main_arg3))
      ∧ r.2.sem = fun _ => 0)

def quiescent_AcRefIdeal [hAcRefIdeal : Cert.AcRefIdeal.Facts] : Prop :=
  ∀ (m : (ℓ : Loc Cert.AcRefIdeal.nD Cert.AcRefIdeal.τ Cert.AcRefIdeal.sig) → Buf (Elt Ideal) ℓ) (g : Dev Cert.AcRefIdeal.nD → PrngReg), Pre_AcRefIdeal m →
    θ_run (Cert.AcRefIdeal.defs (F := Ideal)) (onTc (τ := Cert.AcRefIdeal.τ) (Cert.AcRefIdeal.main (F := Ideal))) ⟨m, fun _ => 0, g⟩ (fun r => (∀ c : Dev Cert.AcRefIdeal.nD,
      r.2.mem ((c.tc : Thread Cert.AcRefIdeal.nD Cert.AcRefIdeal.τ).loc Cert.AcRefIdeal.main_arg0) = m ((c.tc : Thread Cert.AcRefIdeal.nD Cert.AcRefIdeal.τ).loc Cert.AcRefIdeal.main_arg0)
      ∧ r.2.mem ((c.tc : Thread Cert.AcRefIdeal.nD Cert.AcRefIdeal.τ).loc Cert.AcRefIdeal.main_arg1) = m ((c.tc : Thread Cert.AcRefIdeal.nD Cert.AcRefIdeal.τ).loc Cert.AcRefIdeal.main_arg1)
      ∧ r.2.mem ((c.tc : Thread Cert.AcRefIdeal.nD Cert.AcRefIdeal.τ).loc Cert.AcRefIdeal.main_arg2) = m ((c.tc : Thread Cert.AcRefIdeal.nD Cert.AcRefIdeal.τ).loc Cert.AcRefIdeal.main_arg2)
      ∧ r.2.mem ((c.tc : Thread Cert.AcRefIdeal.nD Cert.AcRefIdeal.τ).loc Cert.AcRefIdeal.main_arg3) = m ((c.tc : Thread Cert.AcRefIdeal.nD Cert.AcRefIdeal.τ).loc Cert.AcRefIdeal.main_arg3))
      ∧ r.2.sem = fun _ => 0)

def quiescent_Ain [hAin : Cert.Ain.Facts] : Prop :=
  ∀ (m : (ℓ : Loc Cert.Ain.nD Cert.Ain.τ Cert.Ain.sig) → Buf (Elt Bits) ℓ) (g : Dev Cert.Ain.nD → PrngReg), Pre_Ain m →
    θ_run (Cert.Ain.defs (F := Bits)) (onTc (τ := Cert.Ain.τ) (Cert.Ain.main (F := Bits))) ⟨m, fun _ => 0, g⟩ (fun r => (∀ c : Dev Cert.Ain.nD,
      r.2.mem ((c.tc : Thread Cert.Ain.nD Cert.Ain.τ).loc Cert.Ain.main_arg0) = m ((c.tc : Thread Cert.Ain.nD Cert.Ain.τ).loc Cert.Ain.main_arg0)
      ∧ r.2.mem ((c.tc : Thread Cert.Ain.nD Cert.Ain.τ).loc Cert.Ain.main_arg1) = m ((c.tc : Thread Cert.Ain.nD Cert.Ain.τ).loc Cert.Ain.main_arg1)
      ∧ r.2.mem ((c.tc : Thread Cert.Ain.nD Cert.Ain.τ).loc Cert.Ain.main_arg2) = m ((c.tc : Thread Cert.Ain.nD Cert.Ain.τ).loc Cert.Ain.main_arg2)
      ∧ r.2.mem ((c.tc : Thread Cert.Ain.nD Cert.Ain.τ).loc Cert.Ain.main_arg3) = m ((c.tc : Thread Cert.Ain.nD Cert.Ain.τ).loc Cert.Ain.main_arg3)
      ∧ r.2.mem ((c.tc : Thread Cert.Ain.nD Cert.Ain.τ).loc Cert.Ain.main_arg4) = m ((c.tc : Thread Cert.Ain.nD Cert.Ain.τ).loc Cert.Ain.main_arg4)
      ∧ r.2.mem ((c.tc : Thread Cert.Ain.nD Cert.Ain.τ).loc Cert.Ain.main_arg5) = m ((c.tc : Thread Cert.Ain.nD Cert.Ain.τ).loc Cert.Ain.main_arg5))
      ∧ r.2.sem = fun _ => 0)

def quiescent_AinIdeal [hAinIdeal : Cert.AinIdeal.Facts] : Prop :=
  ∀ (m : (ℓ : Loc Cert.AinIdeal.nD Cert.AinIdeal.τ Cert.AinIdeal.sig) → Buf (Elt Ideal) ℓ) (g : Dev Cert.AinIdeal.nD → PrngReg), Pre_AinIdeal m →
    θ_run (Cert.AinIdeal.defs (F := Ideal)) (onTc (τ := Cert.AinIdeal.τ) (Cert.AinIdeal.main (F := Ideal))) ⟨m, fun _ => 0, g⟩ (fun r => (∀ c : Dev Cert.AinIdeal.nD,
      r.2.mem ((c.tc : Thread Cert.AinIdeal.nD Cert.AinIdeal.τ).loc Cert.AinIdeal.main_arg0) = m ((c.tc : Thread Cert.AinIdeal.nD Cert.AinIdeal.τ).loc Cert.AinIdeal.main_arg0)
      ∧ r.2.mem ((c.tc : Thread Cert.AinIdeal.nD Cert.AinIdeal.τ).loc Cert.AinIdeal.main_arg1) = m ((c.tc : Thread Cert.AinIdeal.nD Cert.AinIdeal.τ).loc Cert.AinIdeal.main_arg1)
      ∧ r.2.mem ((c.tc : Thread Cert.AinIdeal.nD Cert.AinIdeal.τ).loc Cert.AinIdeal.main_arg2) = m ((c.tc : Thread Cert.AinIdeal.nD Cert.AinIdeal.τ).loc Cert.AinIdeal.main_arg2)
      ∧ r.2.mem ((c.tc : Thread Cert.AinIdeal.nD Cert.AinIdeal.τ).loc Cert.AinIdeal.main_arg3) = m ((c.tc : Thread Cert.AinIdeal.nD Cert.AinIdeal.τ).loc Cert.AinIdeal.main_arg3)
      ∧ r.2.mem ((c.tc : Thread Cert.AinIdeal.nD Cert.AinIdeal.τ).loc Cert.AinIdeal.main_arg4) = m ((c.tc : Thread Cert.AinIdeal.nD Cert.AinIdeal.τ).loc Cert.AinIdeal.main_arg4)
      ∧ r.2.mem ((c.tc : Thread Cert.AinIdeal.nD Cert.AinIdeal.τ).loc Cert.AinIdeal.main_arg5) = m ((c.tc : Thread Cert.AinIdeal.nD Cert.AinIdeal.τ).loc Cert.AinIdeal.main_arg5))
      ∧ r.2.sem = fun _ => 0)

def quiescent_AinRefIdeal [hAinRefIdeal : Cert.AinRefIdeal.Facts] : Prop :=
  ∀ (m : (ℓ : Loc Cert.AinRefIdeal.nD Cert.AinRefIdeal.τ Cert.AinRefIdeal.sig) → Buf (Elt Ideal) ℓ) (g : Dev Cert.AinRefIdeal.nD → PrngReg), Pre_AinRefIdeal m →
    θ_run (Cert.AinRefIdeal.defs (F := Ideal)) (onTc (τ := Cert.AinRefIdeal.τ) (Cert.AinRefIdeal.main (F := Ideal))) ⟨m, fun _ => 0, g⟩ (fun r => (∀ c : Dev Cert.AinRefIdeal.nD,
      r.2.mem ((c.tc : Thread Cert.AinRefIdeal.nD Cert.AinRefIdeal.τ).loc Cert.AinRefIdeal.main_arg0) = m ((c.tc : Thread Cert.AinRefIdeal.nD Cert.AinRefIdeal.τ).loc Cert.AinRefIdeal.main_arg0)
      ∧ r.2.mem ((c.tc : Thread Cert.AinRefIdeal.nD Cert.AinRefIdeal.τ).loc Cert.AinRefIdeal.main_arg1) = m ((c.tc : Thread Cert.AinRefIdeal.nD Cert.AinRefIdeal.τ).loc Cert.AinRefIdeal.main_arg1)
      ∧ r.2.mem ((c.tc : Thread Cert.AinRefIdeal.nD Cert.AinRefIdeal.τ).loc Cert.AinRefIdeal.main_arg2) = m ((c.tc : Thread Cert.AinRefIdeal.nD Cert.AinRefIdeal.τ).loc Cert.AinRefIdeal.main_arg2)
      ∧ r.2.mem ((c.tc : Thread Cert.AinRefIdeal.nD Cert.AinRefIdeal.τ).loc Cert.AinRefIdeal.main_arg3) = m ((c.tc : Thread Cert.AinRefIdeal.nD Cert.AinRefIdeal.τ).loc Cert.AinRefIdeal.main_arg3)
      ∧ r.2.mem ((c.tc : Thread Cert.AinRefIdeal.nD Cert.AinRefIdeal.τ).loc Cert.AinRefIdeal.main_arg4) = m ((c.tc : Thread Cert.AinRefIdeal.nD Cert.AinRefIdeal.τ).loc Cert.AinRefIdeal.main_arg4)
      ∧ r.2.mem ((c.tc : Thread Cert.AinRefIdeal.nD Cert.AinRefIdeal.τ).loc Cert.AinRefIdeal.main_arg5) = m ((c.tc : Thread Cert.AinRefIdeal.nD Cert.AinRefIdeal.τ).loc Cert.AinRefIdeal.main_arg5))
      ∧ r.2.sem = fun _ => 0)

def quiescent_Apa [hApa : Cert.Apa.Facts] : Prop :=
  ∀ (m : (ℓ : Loc Cert.Apa.nD Cert.Apa.τ Cert.Apa.sig) → Buf (Elt Bits) ℓ) (g : Dev Cert.Apa.nD → PrngReg), Pre_Apa m →
    θ_run (Cert.Apa.defs (F := Bits)) (onTc (τ := Cert.Apa.τ) (Cert.Apa.main (F := Bits))) ⟨m, fun _ => 0, g⟩ (fun r => (∀ c : Dev Cert.Apa.nD,
      r.2.mem ((c.tc : Thread Cert.Apa.nD Cert.Apa.τ).loc Cert.Apa.main_arg0) = m ((c.tc : Thread Cert.Apa.nD Cert.Apa.τ).loc Cert.Apa.main_arg0)
      ∧ r.2.mem ((c.tc : Thread Cert.Apa.nD Cert.Apa.τ).loc Cert.Apa.main_arg1) = m ((c.tc : Thread Cert.Apa.nD Cert.Apa.τ).loc Cert.Apa.main_arg1)
      ∧ r.2.mem ((c.tc : Thread Cert.Apa.nD Cert.Apa.τ).loc Cert.Apa.main_arg2) = m ((c.tc : Thread Cert.Apa.nD Cert.Apa.τ).loc Cert.Apa.main_arg2)
      ∧ r.2.mem ((c.tc : Thread Cert.Apa.nD Cert.Apa.τ).loc Cert.Apa.main_arg3) = m ((c.tc : Thread Cert.Apa.nD Cert.Apa.τ).loc Cert.Apa.main_arg3)
      ∧ r.2.mem ((c.tc : Thread Cert.Apa.nD Cert.Apa.τ).loc Cert.Apa.main_arg4) = m ((c.tc : Thread Cert.Apa.nD Cert.Apa.τ).loc Cert.Apa.main_arg4)
      ∧ r.2.mem ((c.tc : Thread Cert.Apa.nD Cert.Apa.τ).loc Cert.Apa.main_arg5) = m ((c.tc : Thread Cert.Apa.nD Cert.Apa.τ).loc Cert.Apa.main_arg5))
      ∧ r.2.sem = fun _ => 0)

def quiescent_ApaIdeal [hApaIdeal : Cert.ApaIdeal.Facts] : Prop :=
  ∀ (m : (ℓ : Loc Cert.ApaIdeal.nD Cert.ApaIdeal.τ Cert.ApaIdeal.sig) → Buf (Elt Ideal) ℓ) (g : Dev Cert.ApaIdeal.nD → PrngReg), Pre_ApaIdeal m →
    θ_run (Cert.ApaIdeal.defs (F := Ideal)) (onTc (τ := Cert.ApaIdeal.τ) (Cert.ApaIdeal.main (F := Ideal))) ⟨m, fun _ => 0, g⟩ (fun r => (∀ c : Dev Cert.ApaIdeal.nD,
      r.2.mem ((c.tc : Thread Cert.ApaIdeal.nD Cert.ApaIdeal.τ).loc Cert.ApaIdeal.main_arg0) = m ((c.tc : Thread Cert.ApaIdeal.nD Cert.ApaIdeal.τ).loc Cert.ApaIdeal.main_arg0)
      ∧ r.2.mem ((c.tc : Thread Cert.ApaIdeal.nD Cert.ApaIdeal.τ).loc Cert.ApaIdeal.main_arg1) = m ((c.tc : Thread Cert.ApaIdeal.nD Cert.ApaIdeal.τ).loc Cert.ApaIdeal.main_arg1)
      ∧ r.2.mem ((c.tc : Thread Cert.ApaIdeal.nD Cert.ApaIdeal.τ).loc Cert.ApaIdeal.main_arg2) = m ((c.tc : Thread Cert.ApaIdeal.nD Cert.ApaIdeal.τ).loc Cert.ApaIdeal.main_arg2)
      ∧ r.2.mem ((c.tc : Thread Cert.ApaIdeal.nD Cert.ApaIdeal.τ).loc Cert.ApaIdeal.main_arg3) = m ((c.tc : Thread Cert.ApaIdeal.nD Cert.ApaIdeal.τ).loc Cert.ApaIdeal.main_arg3)
      ∧ r.2.mem ((c.tc : Thread Cert.ApaIdeal.nD Cert.ApaIdeal.τ).loc Cert.ApaIdeal.main_arg4) = m ((c.tc : Thread Cert.ApaIdeal.nD Cert.ApaIdeal.τ).loc Cert.ApaIdeal.main_arg4)
      ∧ r.2.mem ((c.tc : Thread Cert.ApaIdeal.nD Cert.ApaIdeal.τ).loc Cert.ApaIdeal.main_arg5) = m ((c.tc : Thread Cert.ApaIdeal.nD Cert.ApaIdeal.τ).loc Cert.ApaIdeal.main_arg5))
      ∧ r.2.sem = fun _ => 0)

def quiescent_ApaRefIdeal [hApaRefIdeal : Cert.ApaRefIdeal.Facts] : Prop :=
  ∀ (m : (ℓ : Loc Cert.ApaRefIdeal.nD Cert.ApaRefIdeal.τ Cert.ApaRefIdeal.sig) → Buf (Elt Ideal) ℓ) (g : Dev Cert.ApaRefIdeal.nD → PrngReg), Pre_ApaRefIdeal m →
    θ_run (Cert.ApaRefIdeal.defs (F := Ideal)) (onTc (τ := Cert.ApaRefIdeal.τ) (Cert.ApaRefIdeal.main (F := Ideal))) ⟨m, fun _ => 0, g⟩ (fun r => (∀ c : Dev Cert.ApaRefIdeal.nD,
      r.2.mem ((c.tc : Thread Cert.ApaRefIdeal.nD Cert.ApaRefIdeal.τ).loc Cert.ApaRefIdeal.main_arg0) = m ((c.tc : Thread Cert.ApaRefIdeal.nD Cert.ApaRefIdeal.τ).loc Cert.ApaRefIdeal.main_arg0)
      ∧ r.2.mem ((c.tc : Thread Cert.ApaRefIdeal.nD Cert.ApaRefIdeal.τ).loc Cert.ApaRefIdeal.main_arg1) = m ((c.tc : Thread Cert.ApaRefIdeal.nD Cert.ApaRefIdeal.τ).loc Cert.ApaRefIdeal.main_arg1)
      ∧ r.2.mem ((c.tc : Thread Cert.ApaRefIdeal.nD Cert.ApaRefIdeal.τ).loc Cert.ApaRefIdeal.main_arg2) = m ((c.tc : Thread Cert.ApaRefIdeal.nD Cert.ApaRefIdeal.τ).loc Cert.ApaRefIdeal.main_arg2)
      ∧ r.2.mem ((c.tc : Thread Cert.ApaRefIdeal.nD Cert.ApaRefIdeal.τ).loc Cert.ApaRefIdeal.main_arg3) = m ((c.tc : Thread Cert.ApaRefIdeal.nD Cert.ApaRefIdeal.τ).loc Cert.ApaRefIdeal.main_arg3)
      ∧ r.2.mem ((c.tc : Thread Cert.ApaRefIdeal.nD Cert.ApaRefIdeal.τ).loc Cert.ApaRefIdeal.main_arg4) = m ((c.tc : Thread Cert.ApaRefIdeal.nD Cert.ApaRefIdeal.τ).loc Cert.ApaRefIdeal.main_arg4)
      ∧ r.2.mem ((c.tc : Thread Cert.ApaRefIdeal.nD Cert.ApaRefIdeal.τ).loc Cert.ApaRefIdeal.main_arg5) = m ((c.tc : Thread Cert.ApaRefIdeal.nD Cert.ApaRefIdeal.τ).loc Cert.ApaRefIdeal.main_arg5))
      ∧ r.2.sem = fun _ => 0)

def quiescent_Aout [hAout : Cert.Aout.Facts] : Prop :=
  ∀ (m : (ℓ : Loc Cert.Aout.nD Cert.Aout.τ Cert.Aout.sig) → Buf (Elt Bits) ℓ) (g : Dev Cert.Aout.nD → PrngReg), Pre_Aout m →
    θ_run (Cert.Aout.defs (F := Bits)) (onTc (τ := Cert.Aout.τ) (Cert.Aout.main (F := Bits))) ⟨m, fun _ => 0, g⟩ (fun r => (∀ c : Dev Cert.Aout.nD,
      r.2.mem ((c.tc : Thread Cert.Aout.nD Cert.Aout.τ).loc Cert.Aout.main_arg0) = m ((c.tc : Thread Cert.Aout.nD Cert.Aout.τ).loc Cert.Aout.main_arg0)
      ∧ r.2.mem ((c.tc : Thread Cert.Aout.nD Cert.Aout.τ).loc Cert.Aout.main_arg1) = m ((c.tc : Thread Cert.Aout.nD Cert.Aout.τ).loc Cert.Aout.main_arg1)
      ∧ r.2.mem ((c.tc : Thread Cert.Aout.nD Cert.Aout.τ).loc Cert.Aout.main_arg2) = m ((c.tc : Thread Cert.Aout.nD Cert.Aout.τ).loc Cert.Aout.main_arg2)
      ∧ r.2.mem ((c.tc : Thread Cert.Aout.nD Cert.Aout.τ).loc Cert.Aout.main_arg3) = m ((c.tc : Thread Cert.Aout.nD Cert.Aout.τ).loc Cert.Aout.main_arg3)
      ∧ r.2.mem ((c.tc : Thread Cert.Aout.nD Cert.Aout.τ).loc Cert.Aout.main_arg4) = m ((c.tc : Thread Cert.Aout.nD Cert.Aout.τ).loc Cert.Aout.main_arg4)
      ∧ r.2.mem ((c.tc : Thread Cert.Aout.nD Cert.Aout.τ).loc Cert.Aout.main_arg5) = m ((c.tc : Thread Cert.Aout.nD Cert.Aout.τ).loc Cert.Aout.main_arg5))
      ∧ r.2.sem = fun _ => 0)

def quiescent_AoutIdeal [hAoutIdeal : Cert.AoutIdeal.Facts] : Prop :=
  ∀ (m : (ℓ : Loc Cert.AoutIdeal.nD Cert.AoutIdeal.τ Cert.AoutIdeal.sig) → Buf (Elt Ideal) ℓ) (g : Dev Cert.AoutIdeal.nD → PrngReg), Pre_AoutIdeal m →
    θ_run (Cert.AoutIdeal.defs (F := Ideal)) (onTc (τ := Cert.AoutIdeal.τ) (Cert.AoutIdeal.main (F := Ideal))) ⟨m, fun _ => 0, g⟩ (fun r => (∀ c : Dev Cert.AoutIdeal.nD,
      r.2.mem ((c.tc : Thread Cert.AoutIdeal.nD Cert.AoutIdeal.τ).loc Cert.AoutIdeal.main_arg0) = m ((c.tc : Thread Cert.AoutIdeal.nD Cert.AoutIdeal.τ).loc Cert.AoutIdeal.main_arg0)
      ∧ r.2.mem ((c.tc : Thread Cert.AoutIdeal.nD Cert.AoutIdeal.τ).loc Cert.AoutIdeal.main_arg1) = m ((c.tc : Thread Cert.AoutIdeal.nD Cert.AoutIdeal.τ).loc Cert.AoutIdeal.main_arg1)
      ∧ r.2.mem ((c.tc : Thread Cert.AoutIdeal.nD Cert.AoutIdeal.τ).loc Cert.AoutIdeal.main_arg2) = m ((c.tc : Thread Cert.AoutIdeal.nD Cert.AoutIdeal.τ).loc Cert.AoutIdeal.main_arg2)
      ∧ r.2.mem ((c.tc : Thread Cert.AoutIdeal.nD Cert.AoutIdeal.τ).loc Cert.AoutIdeal.main_arg3) = m ((c.tc : Thread Cert.AoutIdeal.nD Cert.AoutIdeal.τ).loc Cert.AoutIdeal.main_arg3)
      ∧ r.2.mem ((c.tc : Thread Cert.AoutIdeal.nD Cert.AoutIdeal.τ).loc Cert.AoutIdeal.main_arg4) = m ((c.tc : Thread Cert.AoutIdeal.nD Cert.AoutIdeal.τ).loc Cert.AoutIdeal.main_arg4)
      ∧ r.2.mem ((c.tc : Thread Cert.AoutIdeal.nD Cert.AoutIdeal.τ).loc Cert.AoutIdeal.main_arg5) = m ((c.tc : Thread Cert.AoutIdeal.nD Cert.AoutIdeal.τ).loc Cert.AoutIdeal.main_arg5))
      ∧ r.2.sem = fun _ => 0)

def quiescent_AoutRefIdeal [hAoutRefIdeal : Cert.AoutRefIdeal.Facts] : Prop :=
  ∀ (m : (ℓ : Loc Cert.AoutRefIdeal.nD Cert.AoutRefIdeal.τ Cert.AoutRefIdeal.sig) → Buf (Elt Ideal) ℓ) (g : Dev Cert.AoutRefIdeal.nD → PrngReg), Pre_AoutRefIdeal m →
    θ_run (Cert.AoutRefIdeal.defs (F := Ideal)) (onTc (τ := Cert.AoutRefIdeal.τ) (Cert.AoutRefIdeal.main (F := Ideal))) ⟨m, fun _ => 0, g⟩ (fun r => (∀ c : Dev Cert.AoutRefIdeal.nD,
      r.2.mem ((c.tc : Thread Cert.AoutRefIdeal.nD Cert.AoutRefIdeal.τ).loc Cert.AoutRefIdeal.main_arg0) = m ((c.tc : Thread Cert.AoutRefIdeal.nD Cert.AoutRefIdeal.τ).loc Cert.AoutRefIdeal.main_arg0)
      ∧ r.2.mem ((c.tc : Thread Cert.AoutRefIdeal.nD Cert.AoutRefIdeal.τ).loc Cert.AoutRefIdeal.main_arg1) = m ((c.tc : Thread Cert.AoutRefIdeal.nD Cert.AoutRefIdeal.τ).loc Cert.AoutRefIdeal.main_arg1)
      ∧ r.2.mem ((c.tc : Thread Cert.AoutRefIdeal.nD Cert.AoutRefIdeal.τ).loc Cert.AoutRefIdeal.main_arg2) = m ((c.tc : Thread Cert.AoutRefIdeal.nD Cert.AoutRefIdeal.τ).loc Cert.AoutRefIdeal.main_arg2)
      ∧ r.2.mem ((c.tc : Thread Cert.AoutRefIdeal.nD Cert.AoutRefIdeal.τ).loc Cert.AoutRefIdeal.main_arg3) = m ((c.tc : Thread Cert.AoutRefIdeal.nD Cert.AoutRefIdeal.τ).loc Cert.AoutRefIdeal.main_arg3)
      ∧ r.2.mem ((c.tc : Thread Cert.AoutRefIdeal.nD Cert.AoutRefIdeal.τ).loc Cert.AoutRefIdeal.main_arg4) = m ((c.tc : Thread Cert.AoutRefIdeal.nD Cert.AoutRefIdeal.τ).loc Cert.AoutRefIdeal.main_arg4)
      ∧ r.2.mem ((c.tc : Thread Cert.AoutRefIdeal.nD Cert.AoutRefIdeal.τ).loc Cert.AoutRefIdeal.main_arg5) = m ((c.tc : Thread Cert.AoutRefIdeal.nD Cert.AoutRefIdeal.τ).loc Cert.AoutRefIdeal.main_arg5))
      ∧ r.2.sem = fun _ => 0)

def quiescent_Apb [hApb : Cert.Apb.Facts] : Prop :=
  ∀ (m : (ℓ : Loc Cert.Apb.nD Cert.Apb.τ Cert.Apb.sig) → Buf (Elt Bits) ℓ) (g : Dev Cert.Apb.nD → PrngReg), Pre_Apb m →
    θ_run (Cert.Apb.defs (F := Bits)) (onTc (τ := Cert.Apb.τ) (Cert.Apb.main (F := Bits))) ⟨m, fun _ => 0, g⟩ (fun r => (∀ c : Dev Cert.Apb.nD,
      r.2.mem ((c.tc : Thread Cert.Apb.nD Cert.Apb.τ).loc Cert.Apb.main_arg0) = m ((c.tc : Thread Cert.Apb.nD Cert.Apb.τ).loc Cert.Apb.main_arg0)
      ∧ r.2.mem ((c.tc : Thread Cert.Apb.nD Cert.Apb.τ).loc Cert.Apb.main_arg1) = m ((c.tc : Thread Cert.Apb.nD Cert.Apb.τ).loc Cert.Apb.main_arg1)
      ∧ r.2.mem ((c.tc : Thread Cert.Apb.nD Cert.Apb.τ).loc Cert.Apb.main_arg2) = m ((c.tc : Thread Cert.Apb.nD Cert.Apb.τ).loc Cert.Apb.main_arg2)
      ∧ r.2.mem ((c.tc : Thread Cert.Apb.nD Cert.Apb.τ).loc Cert.Apb.main_arg3) = m ((c.tc : Thread Cert.Apb.nD Cert.Apb.τ).loc Cert.Apb.main_arg3)
      ∧ r.2.mem ((c.tc : Thread Cert.Apb.nD Cert.Apb.τ).loc Cert.Apb.main_arg4) = m ((c.tc : Thread Cert.Apb.nD Cert.Apb.τ).loc Cert.Apb.main_arg4)
      ∧ r.2.mem ((c.tc : Thread Cert.Apb.nD Cert.Apb.τ).loc Cert.Apb.main_arg5) = m ((c.tc : Thread Cert.Apb.nD Cert.Apb.τ).loc Cert.Apb.main_arg5))
      ∧ r.2.sem = fun _ => 0)

def quiescent_ApbIdeal [hApbIdeal : Cert.ApbIdeal.Facts] : Prop :=
  ∀ (m : (ℓ : Loc Cert.ApbIdeal.nD Cert.ApbIdeal.τ Cert.ApbIdeal.sig) → Buf (Elt Ideal) ℓ) (g : Dev Cert.ApbIdeal.nD → PrngReg), Pre_ApbIdeal m →
    θ_run (Cert.ApbIdeal.defs (F := Ideal)) (onTc (τ := Cert.ApbIdeal.τ) (Cert.ApbIdeal.main (F := Ideal))) ⟨m, fun _ => 0, g⟩ (fun r => (∀ c : Dev Cert.ApbIdeal.nD,
      r.2.mem ((c.tc : Thread Cert.ApbIdeal.nD Cert.ApbIdeal.τ).loc Cert.ApbIdeal.main_arg0) = m ((c.tc : Thread Cert.ApbIdeal.nD Cert.ApbIdeal.τ).loc Cert.ApbIdeal.main_arg0)
      ∧ r.2.mem ((c.tc : Thread Cert.ApbIdeal.nD Cert.ApbIdeal.τ).loc Cert.ApbIdeal.main_arg1) = m ((c.tc : Thread Cert.ApbIdeal.nD Cert.ApbIdeal.τ).loc Cert.ApbIdeal.main_arg1)
      ∧ r.2.mem ((c.tc : Thread Cert.ApbIdeal.nD Cert.ApbIdeal.τ).loc Cert.ApbIdeal.main_arg2) = m ((c.tc : Thread Cert.ApbIdeal.nD Cert.ApbIdeal.τ).loc Cert.ApbIdeal.main_arg2)
      ∧ r.2.mem ((c.tc : Thread Cert.ApbIdeal.nD Cert.ApbIdeal.τ).loc Cert.ApbIdeal.main_arg3) = m ((c.tc : Thread Cert.ApbIdeal.nD Cert.ApbIdeal.τ).loc Cert.ApbIdeal.main_arg3)
      ∧ r.2.mem ((c.tc : Thread Cert.ApbIdeal.nD Cert.ApbIdeal.τ).loc Cert.ApbIdeal.main_arg4) = m ((c.tc : Thread Cert.ApbIdeal.nD Cert.ApbIdeal.τ).loc Cert.ApbIdeal.main_arg4)
      ∧ r.2.mem ((c.tc : Thread Cert.ApbIdeal.nD Cert.ApbIdeal.τ).loc Cert.ApbIdeal.main_arg5) = m ((c.tc : Thread Cert.ApbIdeal.nD Cert.ApbIdeal.τ).loc Cert.ApbIdeal.main_arg5))
      ∧ r.2.sem = fun _ => 0)

def quiescent_ApbRefIdeal [hApbRefIdeal : Cert.ApbRefIdeal.Facts] : Prop :=
  ∀ (m : (ℓ : Loc Cert.ApbRefIdeal.nD Cert.ApbRefIdeal.τ Cert.ApbRefIdeal.sig) → Buf (Elt Ideal) ℓ) (g : Dev Cert.ApbRefIdeal.nD → PrngReg), Pre_ApbRefIdeal m →
    θ_run (Cert.ApbRefIdeal.defs (F := Ideal)) (onTc (τ := Cert.ApbRefIdeal.τ) (Cert.ApbRefIdeal.main (F := Ideal))) ⟨m, fun _ => 0, g⟩ (fun r => (∀ c : Dev Cert.ApbRefIdeal.nD,
      r.2.mem ((c.tc : Thread Cert.ApbRefIdeal.nD Cert.ApbRefIdeal.τ).loc Cert.ApbRefIdeal.main_arg0) = m ((c.tc : Thread Cert.ApbRefIdeal.nD Cert.ApbRefIdeal.τ).loc Cert.ApbRefIdeal.main_arg0)
      ∧ r.2.mem ((c.tc : Thread Cert.ApbRefIdeal.nD Cert.ApbRefIdeal.τ).loc Cert.ApbRefIdeal.main_arg1) = m ((c.tc : Thread Cert.ApbRefIdeal.nD Cert.ApbRefIdeal.τ).loc Cert.ApbRefIdeal.main_arg1)
      ∧ r.2.mem ((c.tc : Thread Cert.ApbRefIdeal.nD Cert.ApbRefIdeal.τ).loc Cert.ApbRefIdeal.main_arg2) = m ((c.tc : Thread Cert.ApbRefIdeal.nD Cert.ApbRefIdeal.τ).loc Cert.ApbRefIdeal.main_arg2)
      ∧ r.2.mem ((c.tc : Thread Cert.ApbRefIdeal.nD Cert.ApbRefIdeal.τ).loc Cert.ApbRefIdeal.main_arg3) = m ((c.tc : Thread Cert.ApbRefIdeal.nD Cert.ApbRefIdeal.τ).loc Cert.ApbRefIdeal.main_arg3)
      ∧ r.2.mem ((c.tc : Thread Cert.ApbRefIdeal.nD Cert.ApbRefIdeal.τ).loc Cert.ApbRefIdeal.main_arg4) = m ((c.tc : Thread Cert.ApbRefIdeal.nD Cert.ApbRefIdeal.τ).loc Cert.ApbRefIdeal.main_arg4)
      ∧ r.2.mem ((c.tc : Thread Cert.ApbRefIdeal.nD Cert.ApbRefIdeal.τ).loc Cert.ApbRefIdeal.main_arg5) = m ((c.tc : Thread Cert.ApbRefIdeal.nD Cert.ApbRefIdeal.τ).loc Cert.ApbRefIdeal.main_arg5))
      ∧ r.2.sem = fun _ => 0)

def quiescent_Aup [hAup : Cert.Aup.Facts] : Prop :=
  ∀ (m : (ℓ : Loc Cert.Aup.nD Cert.Aup.τ Cert.Aup.sig) → Buf (Elt Bits) ℓ) (g : Dev Cert.Aup.nD → PrngReg), Pre_Aup m →
    θ_run (Cert.Aup.defs (F := Bits)) (onTc (τ := Cert.Aup.τ) (Cert.Aup.main (F := Bits))) ⟨m, fun _ => 0, g⟩ (fun r => (∀ c : Dev Cert.Aup.nD,
      r.2.mem ((c.tc : Thread Cert.Aup.nD Cert.Aup.τ).loc Cert.Aup.main_arg0) = m ((c.tc : Thread Cert.Aup.nD Cert.Aup.τ).loc Cert.Aup.main_arg0)
      ∧ r.2.mem ((c.tc : Thread Cert.Aup.nD Cert.Aup.τ).loc Cert.Aup.main_arg1) = m ((c.tc : Thread Cert.Aup.nD Cert.Aup.τ).loc Cert.Aup.main_arg1)
      ∧ r.2.mem ((c.tc : Thread Cert.Aup.nD Cert.Aup.τ).loc Cert.Aup.main_arg2) = m ((c.tc : Thread Cert.Aup.nD Cert.Aup.τ).loc Cert.Aup.main_arg2)
      ∧ r.2.mem ((c.tc : Thread Cert.Aup.nD Cert.Aup.τ).loc Cert.Aup.main_arg3) = m ((c.tc : Thread Cert.Aup.nD Cert.Aup.τ).loc Cert.Aup.main_arg3)
      ∧ r.2.mem ((c.tc : Thread Cert.Aup.nD Cert.Aup.τ).loc Cert.Aup.main_arg4) = m ((c.tc : Thread Cert.Aup.nD Cert.Aup.τ).loc Cert.Aup.main_arg4)
      ∧ r.2.mem ((c.tc : Thread Cert.Aup.nD Cert.Aup.τ).loc Cert.Aup.main_arg5) = m ((c.tc : Thread Cert.Aup.nD Cert.Aup.τ).loc Cert.Aup.main_arg5))
      ∧ r.2.sem = fun _ => 0)

def quiescent_AupIdeal [hAupIdeal : Cert.AupIdeal.Facts] : Prop :=
  ∀ (m : (ℓ : Loc Cert.AupIdeal.nD Cert.AupIdeal.τ Cert.AupIdeal.sig) → Buf (Elt Ideal) ℓ) (g : Dev Cert.AupIdeal.nD → PrngReg), Pre_AupIdeal m →
    θ_run (Cert.AupIdeal.defs (F := Ideal)) (onTc (τ := Cert.AupIdeal.τ) (Cert.AupIdeal.main (F := Ideal))) ⟨m, fun _ => 0, g⟩ (fun r => (∀ c : Dev Cert.AupIdeal.nD,
      r.2.mem ((c.tc : Thread Cert.AupIdeal.nD Cert.AupIdeal.τ).loc Cert.AupIdeal.main_arg0) = m ((c.tc : Thread Cert.AupIdeal.nD Cert.AupIdeal.τ).loc Cert.AupIdeal.main_arg0)
      ∧ r.2.mem ((c.tc : Thread Cert.AupIdeal.nD Cert.AupIdeal.τ).loc Cert.AupIdeal.main_arg1) = m ((c.tc : Thread Cert.AupIdeal.nD Cert.AupIdeal.τ).loc Cert.AupIdeal.main_arg1)
      ∧ r.2.mem ((c.tc : Thread Cert.AupIdeal.nD Cert.AupIdeal.τ).loc Cert.AupIdeal.main_arg2) = m ((c.tc : Thread Cert.AupIdeal.nD Cert.AupIdeal.τ).loc Cert.AupIdeal.main_arg2)
      ∧ r.2.mem ((c.tc : Thread Cert.AupIdeal.nD Cert.AupIdeal.τ).loc Cert.AupIdeal.main_arg3) = m ((c.tc : Thread Cert.AupIdeal.nD Cert.AupIdeal.τ).loc Cert.AupIdeal.main_arg3)
      ∧ r.2.mem ((c.tc : Thread Cert.AupIdeal.nD Cert.AupIdeal.τ).loc Cert.AupIdeal.main_arg4) = m ((c.tc : Thread Cert.AupIdeal.nD Cert.AupIdeal.τ).loc Cert.AupIdeal.main_arg4)
      ∧ r.2.mem ((c.tc : Thread Cert.AupIdeal.nD Cert.AupIdeal.τ).loc Cert.AupIdeal.main_arg5) = m ((c.tc : Thread Cert.AupIdeal.nD Cert.AupIdeal.τ).loc Cert.AupIdeal.main_arg5))
      ∧ r.2.sem = fun _ => 0)

def quiescent_AupRefIdeal [hAupRefIdeal : Cert.AupRefIdeal.Facts] : Prop :=
  ∀ (m : (ℓ : Loc Cert.AupRefIdeal.nD Cert.AupRefIdeal.τ Cert.AupRefIdeal.sig) → Buf (Elt Ideal) ℓ) (g : Dev Cert.AupRefIdeal.nD → PrngReg), Pre_AupRefIdeal m →
    θ_run (Cert.AupRefIdeal.defs (F := Ideal)) (onTc (τ := Cert.AupRefIdeal.τ) (Cert.AupRefIdeal.main (F := Ideal))) ⟨m, fun _ => 0, g⟩ (fun r => (∀ c : Dev Cert.AupRefIdeal.nD,
      r.2.mem ((c.tc : Thread Cert.AupRefIdeal.nD Cert.AupRefIdeal.τ).loc Cert.AupRefIdeal.main_arg0) = m ((c.tc : Thread Cert.AupRefIdeal.nD Cert.AupRefIdeal.τ).loc Cert.AupRefIdeal.main_arg0)
      ∧ r.2.mem ((c.tc : Thread Cert.AupRefIdeal.nD Cert.AupRefIdeal.τ).loc Cert.AupRefIdeal.main_arg1) = m ((c.tc : Thread Cert.AupRefIdeal.nD Cert.AupRefIdeal.τ).loc Cert.AupRefIdeal.main_arg1)
      ∧ r.2.mem ((c.tc : Thread Cert.AupRefIdeal.nD Cert.AupRefIdeal.τ).loc Cert.AupRefIdeal.main_arg2) = m ((c.tc : Thread Cert.AupRefIdeal.nD Cert.AupRefIdeal.τ).loc Cert.AupRefIdeal.main_arg2)
      ∧ r.2.mem ((c.tc : Thread Cert.AupRefIdeal.nD Cert.AupRefIdeal.τ).loc Cert.AupRefIdeal.main_arg3) = m ((c.tc : Thread Cert.AupRefIdeal.nD Cert.AupRefIdeal.τ).loc Cert.AupRefIdeal.main_arg3)
      ∧ r.2.mem ((c.tc : Thread Cert.AupRefIdeal.nD Cert.AupRefIdeal.τ).loc Cert.AupRefIdeal.main_arg4) = m ((c.tc : Thread Cert.AupRefIdeal.nD Cert.AupRefIdeal.τ).loc Cert.AupRefIdeal.main_arg4)
      ∧ r.2.mem ((c.tc : Thread Cert.AupRefIdeal.nD Cert.AupRefIdeal.τ).loc Cert.AupRefIdeal.main_arg5) = m ((c.tc : Thread Cert.AupRefIdeal.nD Cert.AupRefIdeal.τ).loc Cert.AupRefIdeal.main_arg5))
      ∧ r.2.sem = fun _ => 0)

def quiescent_Adown [hAdown : Cert.Adown.Facts] : Prop :=
  ∀ (m : (ℓ : Loc Cert.Adown.nD Cert.Adown.τ Cert.Adown.sig) → Buf (Elt Bits) ℓ) (g : Dev Cert.Adown.nD → PrngReg), Pre_Adown m →
    θ_run (Cert.Adown.defs (F := Bits)) (onTc (τ := Cert.Adown.τ) (Cert.Adown.main (F := Bits))) ⟨m, fun _ => 0, g⟩ (fun r => (∀ c : Dev Cert.Adown.nD,
      r.2.mem ((c.tc : Thread Cert.Adown.nD Cert.Adown.τ).loc Cert.Adown.main_arg0) = m ((c.tc : Thread Cert.Adown.nD Cert.Adown.τ).loc Cert.Adown.main_arg0)
      ∧ r.2.mem ((c.tc : Thread Cert.Adown.nD Cert.Adown.τ).loc Cert.Adown.main_arg1) = m ((c.tc : Thread Cert.Adown.nD Cert.Adown.τ).loc Cert.Adown.main_arg1)
      ∧ r.2.mem ((c.tc : Thread Cert.Adown.nD Cert.Adown.τ).loc Cert.Adown.main_arg2) = m ((c.tc : Thread Cert.Adown.nD Cert.Adown.τ).loc Cert.Adown.main_arg2)
      ∧ r.2.mem ((c.tc : Thread Cert.Adown.nD Cert.Adown.τ).loc Cert.Adown.main_arg3) = m ((c.tc : Thread Cert.Adown.nD Cert.Adown.τ).loc Cert.Adown.main_arg3)
      ∧ r.2.mem ((c.tc : Thread Cert.Adown.nD Cert.Adown.τ).loc Cert.Adown.main_arg4) = m ((c.tc : Thread Cert.Adown.nD Cert.Adown.τ).loc Cert.Adown.main_arg4)
      ∧ r.2.mem ((c.tc : Thread Cert.Adown.nD Cert.Adown.τ).loc Cert.Adown.main_arg5) = m ((c.tc : Thread Cert.Adown.nD Cert.Adown.τ).loc Cert.Adown.main_arg5))
      ∧ r.2.sem = fun _ => 0)

def quiescent_AdownIdeal [hAdownIdeal : Cert.AdownIdeal.Facts] : Prop :=
  ∀ (m : (ℓ : Loc Cert.AdownIdeal.nD Cert.AdownIdeal.τ Cert.AdownIdeal.sig) → Buf (Elt Ideal) ℓ) (g : Dev Cert.AdownIdeal.nD → PrngReg), Pre_AdownIdeal m →
    θ_run (Cert.AdownIdeal.defs (F := Ideal)) (onTc (τ := Cert.AdownIdeal.τ) (Cert.AdownIdeal.main (F := Ideal))) ⟨m, fun _ => 0, g⟩ (fun r => (∀ c : Dev Cert.AdownIdeal.nD,
      r.2.mem ((c.tc : Thread Cert.AdownIdeal.nD Cert.AdownIdeal.τ).loc Cert.AdownIdeal.main_arg0) = m ((c.tc : Thread Cert.AdownIdeal.nD Cert.AdownIdeal.τ).loc Cert.AdownIdeal.main_arg0)
      ∧ r.2.mem ((c.tc : Thread Cert.AdownIdeal.nD Cert.AdownIdeal.τ).loc Cert.AdownIdeal.main_arg1) = m ((c.tc : Thread Cert.AdownIdeal.nD Cert.AdownIdeal.τ).loc Cert.AdownIdeal.main_arg1)
      ∧ r.2.mem ((c.tc : Thread Cert.AdownIdeal.nD Cert.AdownIdeal.τ).loc Cert.AdownIdeal.main_arg2) = m ((c.tc : Thread Cert.AdownIdeal.nD Cert.AdownIdeal.τ).loc Cert.AdownIdeal.main_arg2)
      ∧ r.2.mem ((c.tc : Thread Cert.AdownIdeal.nD Cert.AdownIdeal.τ).loc Cert.AdownIdeal.main_arg3) = m ((c.tc : Thread Cert.AdownIdeal.nD Cert.AdownIdeal.τ).loc Cert.AdownIdeal.main_arg3)
      ∧ r.2.mem ((c.tc : Thread Cert.AdownIdeal.nD Cert.AdownIdeal.τ).loc Cert.AdownIdeal.main_arg4) = m ((c.tc : Thread Cert.AdownIdeal.nD Cert.AdownIdeal.τ).loc Cert.AdownIdeal.main_arg4)
      ∧ r.2.mem ((c.tc : Thread Cert.AdownIdeal.nD Cert.AdownIdeal.τ).loc Cert.AdownIdeal.main_arg5) = m ((c.tc : Thread Cert.AdownIdeal.nD Cert.AdownIdeal.τ).loc Cert.AdownIdeal.main_arg5))
      ∧ r.2.sem = fun _ => 0)

def quiescent_AdownRefIdeal [hAdownRefIdeal : Cert.AdownRefIdeal.Facts] : Prop :=
  ∀ (m : (ℓ : Loc Cert.AdownRefIdeal.nD Cert.AdownRefIdeal.τ Cert.AdownRefIdeal.sig) → Buf (Elt Ideal) ℓ) (g : Dev Cert.AdownRefIdeal.nD → PrngReg), Pre_AdownRefIdeal m →
    θ_run (Cert.AdownRefIdeal.defs (F := Ideal)) (onTc (τ := Cert.AdownRefIdeal.τ) (Cert.AdownRefIdeal.main (F := Ideal))) ⟨m, fun _ => 0, g⟩ (fun r => (∀ c : Dev Cert.AdownRefIdeal.nD,
      r.2.mem ((c.tc : Thread Cert.AdownRefIdeal.nD Cert.AdownRefIdeal.τ).loc Cert.AdownRefIdeal.main_arg0) = m ((c.tc : Thread Cert.AdownRefIdeal.nD Cert.AdownRefIdeal.τ).loc Cert.AdownRefIdeal.main_arg0)
      ∧ r.2.mem ((c.tc : Thread Cert.AdownRefIdeal.nD Cert.AdownRefIdeal.τ).loc Cert.AdownRefIdeal.main_arg1) = m ((c.tc : Thread Cert.AdownRefIdeal.nD Cert.AdownRefIdeal.τ).loc Cert.AdownRefIdeal.main_arg1)
      ∧ r.2.mem ((c.tc : Thread Cert.AdownRefIdeal.nD Cert.AdownRefIdeal.τ).loc Cert.AdownRefIdeal.main_arg2) = m ((c.tc : Thread Cert.AdownRefIdeal.nD Cert.AdownRefIdeal.τ).loc Cert.AdownRefIdeal.main_arg2)
      ∧ r.2.mem ((c.tc : Thread Cert.AdownRefIdeal.nD Cert.AdownRefIdeal.τ).loc Cert.AdownRefIdeal.main_arg3) = m ((c.tc : Thread Cert.AdownRefIdeal.nD Cert.AdownRefIdeal.τ).loc Cert.AdownRefIdeal.main_arg3)
      ∧ r.2.mem ((c.tc : Thread Cert.AdownRefIdeal.nD Cert.AdownRefIdeal.τ).loc Cert.AdownRefIdeal.main_arg4) = m ((c.tc : Thread Cert.AdownRefIdeal.nD Cert.AdownRefIdeal.τ).loc Cert.AdownRefIdeal.main_arg4)
      ∧ r.2.mem ((c.tc : Thread Cert.AdownRefIdeal.nD Cert.AdownRefIdeal.τ).loc Cert.AdownRefIdeal.main_arg5) = m ((c.tc : Thread Cert.AdownRefIdeal.nD Cert.AdownRefIdeal.τ).loc Cert.AdownRefIdeal.main_arg5))
      ∧ r.2.sem = fun _ => 0)

def preserves_Kernel_KernelIdeal : Prop :=
  IdealRules.named_const.Statement Cert.KernelIdeal.κ "inv_sqrt2" .f32 0x3F3504F3#32 (((Real.sqrt 2)⁻¹ : ℝ) : EReal)
  ∧ IdealRules.named_const.Statement Cert.KernelIdeal.κ "inv_sqrt_2pi" .f32 0x3ECC422A#32 (((Real.sqrt (2 * Real.pi))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v120) = v2 c
          ∧ r.2.mem ((c.tc : Thread Cert.ReferenceIdeal.nD Cert.ReferenceIdeal.τ).loc Cert.ReferenceIdeal.main_v78) = v3 c
          ∧ r.2.mem ((c.tc : Thread Cert.ReferenceIdeal.nD Cert.ReferenceIdeal.τ).loc Cert.ReferenceIdeal.main_v75) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Dx_DxIdeal : Prop :=
  True

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)
      ∧ m' ((c.tc : Thread Cert.DxRefIdeal.nD Cert.DxRefIdeal.τ).loc Cert.DxRefIdeal.main_arg3) = m ((c.tc : Thread Cert.DxIdeal.nD Cert.DxIdeal.τ).loc Cert.DxIdeal.main_arg3)
      ∧ m' ((c.tc : Thread Cert.DxRefIdeal.nD Cert.DxRefIdeal.τ).loc Cert.DxRefIdeal.main_arg4) = m ((c.tc : Thread Cert.DxIdeal.nD Cert.DxIdeal.τ).loc Cert.DxIdeal.main_arg4)
      ∧ m' ((c.tc : Thread Cert.DxRefIdeal.nD Cert.DxRefIdeal.τ).loc Cert.DxRefIdeal.main_arg5) = m ((c.tc : Thread Cert.DxIdeal.nD Cert.DxIdeal.τ).loc Cert.DxIdeal.main_arg5)
      ∧ m' ((c.tc : Thread Cert.DxRefIdeal.nD Cert.DxRefIdeal.τ).loc Cert.DxRefIdeal.main_arg6) = m ((c.tc : Thread Cert.DxIdeal.nD Cert.DxIdeal.τ).loc Cert.DxIdeal.main_arg6)) →
    ∃ (v0 : (c : Dev Cert.DxIdeal.nD) → Buf (Elt Ideal) ((c.tc : Thread Cert.DxIdeal.nD Cert.DxIdeal.τ).loc Cert.DxIdeal.main_v1_0)) (v1 : (c : Dev Cert.DxIdeal.nD) → Buf (Elt Ideal) ((c.tc : Thread Cert.DxIdeal.nD Cert.DxIdeal.τ).loc Cert.DxIdeal.main_v1_1)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v1_0) = v0 c
          ∧ r.2.mem ((c.tc : Thread Cert.DxIdeal.nD Cert.DxIdeal.τ).loc Cert.DxIdeal.main_v1_1) = v1 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
          ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
          ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
          ∧ r.2.mem ((c.tc : Thread Cert.DxIdeal.nD Cert.DxIdeal.τ).loc Cert.DxIdeal.main_arg6) = m ((c.tc : Thread Cert.DxIdeal.nD Cert.DxIdeal.τ).loc Cert.DxIdeal.main_arg6))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v46) = v0 c
          ∧ r.2.mem ((c.tc : Thread Cert.DxRefIdeal.nD Cert.DxRefIdeal.τ).loc Cert.DxRefIdeal.main_v29) = v1 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2)
          ∧ r.2.mem ((c.tc : Thread Cert.DxRefIdeal.nD Cert.DxRefIdeal.τ).loc Cert.DxRefIdeal.main_arg3) = m' ((c.tc : Thread Cert.DxRefIdeal.nD Cert.DxRefIdeal.τ).loc Cert.DxRefIdeal.main_arg3)
          ∧ r.2.mem ((c.tc : Thread Cert.DxRefIdeal.nD Cert.DxRefIdeal.τ).loc Cert.DxRefIdeal.main_arg4) = m' ((c.tc : Thread Cert.DxRefIdeal.nD Cert.DxRefIdeal.τ).loc Cert.DxRefIdeal.main_arg4)
          ∧ r.2.mem ((c.tc : Thread Cert.DxRefIdeal.nD Cert.DxRefIdeal.τ).loc Cert.DxRefIdeal.main_arg5) = m' ((c.tc : Thread Cert.DxRefIdeal.nD Cert.DxRefIdeal.τ).loc Cert.DxRefIdeal.main_arg5)
          ∧ r.2.mem ((c.tc : Thread Cert.DxRefIdeal.nD Cert.DxRefIdeal.τ).loc Cert.DxRefIdeal.main_arg6) = m' ((c.tc : Thread Cert.DxRefIdeal.nD Cert.DxRefIdeal.τ).loc Cert.DxRefIdeal.main_arg6))

def preserves_Dmlp_DmlpIdeal : Prop :=
  True

def algebraic_DmlpIdeal_DmlpRefIdeal [hDmlpIdeal : Cert.DmlpIdeal.Facts] [hDmlpRefIdeal : Cert.DmlpRefIdeal.Facts] : Prop :=
  ∀ (m : (ℓ : Loc Cert.DmlpIdeal.nD Cert.DmlpIdeal.τ Cert.DmlpIdeal.sig) → Buf (Elt Ideal) ℓ) (g : Dev Cert.DmlpIdeal.nD → PrngReg)
    (m' : (ℓ : Loc Cert.DmlpRefIdeal.nD Cert.DmlpRefIdeal.τ Cert.DmlpRefIdeal.sig) → Buf (Elt Ideal) ℓ) (g' : Dev Cert.DmlpRefIdeal.nD → PrngReg), Pre_DmlpIdeal m →
    (∀ c : Dev Cert.DmlpIdeal.nD,
      m' ((c.tc : Thread Cert.DmlpRefIdeal.nD Cert.DmlpRefIdeal.τ).loc Cert.DmlpRefIdeal.main_arg0) = m ((c.tc : Thread Cert.DmlpIdeal.nD Cert.DmlpIdeal.τ).loc Cert.DmlpIdeal.main_arg0)
      ∧ m' ((c.tc : Thread Cert.DmlpRefIdeal.nD Cert.DmlpRefIdeal.τ).loc Cert.DmlpRefIdeal.main_arg1) = m ((c.tc : Thread Cert.DmlpIdeal.nD Cert.DmlpIdeal.τ).loc Cert.DmlpIdeal.main_arg1)
      ∧ m' ((c.tc : Thread Cert.DmlpRefIdeal.nD Cert.DmlpRefIdeal.τ).loc Cert.DmlpRefIdeal.main_arg2) = m ((c.tc : Thread Cert.DmlpIdeal.nD Cert.DmlpIdeal.τ).loc Cert.DmlpIdeal.main_arg2)
      ∧ m' ((c.tc : Thread Cert.DmlpRefIdeal.nD Cert.DmlpRefIdeal.τ).loc Cert.DmlpRefIdeal.main_arg3) = m ((c.tc : Thread Cert.DmlpIdeal.nD Cert.DmlpIdeal.τ).loc Cert.DmlpIdeal.main_arg3)
      ∧ m' ((c.tc : Thread Cert.DmlpRefIdeal.nD Cert.DmlpRefIdeal.τ).loc Cert.DmlpRefIdeal.main_arg4) = m ((c.tc : Thread Cert.DmlpIdeal.nD Cert.DmlpIdeal.τ).loc Cert.DmlpIdeal.main_arg4)) →
    ∃ (v0 : (c : Dev Cert.DmlpIdeal.nD) → Buf (Elt Ideal) ((c.tc : Thread Cert.DmlpIdeal.nD Cert.DmlpIdeal.τ).loc Cert.DmlpIdeal.main_v0_0)) (v1 : (c : Dev Cert.DmlpIdeal.nD) → Buf (Elt Ideal) ((c.tc : Thread Cert.DmlpIdeal.nD Cert.DmlpIdeal.τ).loc Cert.DmlpIdeal.main_v0_1)) (v2 : (c : Dev Cert.DmlpIdeal.nD) → Buf (Elt Ideal) ((c.tc : Thread Cert.DmlpIdeal.nD Cert.DmlpIdeal.τ).loc Cert.DmlpIdeal.main_v0_2)),
      θ_run (Cert.DmlpIdeal.defs (F := Ideal)) (onTc (τ := Cert.DmlpIdeal.τ) (Cert.DmlpIdeal.main (F := Ideal))) ⟨m, fun _ => 0, g⟩ (fun r => ∀ c : Dev Cert.DmlpIdeal.nD,
          r.2.mem ((c.tc : Thread Cert.DmlpIdeal.nD Cert.DmlpIdeal.τ).loc Cert.DmlpIdeal.main_v0_0) = v0 c
          ∧ r.2.mem ((c.tc : Thread Cert.DmlpIdeal.nD Cert.DmlpIdeal.τ).loc Cert.DmlpIdeal.main_v0_1) = v1 c
          ∧ r.2.mem ((c.tc : Thread Cert.DmlpIdeal.nD Cert.DmlpIdeal.τ).loc Cert.DmlpIdeal.main_v0_2) = v2 c
          ∧ r.2.mem ((c.tc : Thread Cert.DmlpIdeal.nD Cert.DmlpIdeal.τ).loc Cert.DmlpIdeal.main_arg0) = m ((c.tc : Thread Cert.DmlpIdeal.nD Cert.DmlpIdeal.τ).loc Cert.DmlpIdeal.main_arg0)
          ∧ r.2.mem ((c.tc : Thread Cert.DmlpIdeal.nD Cert.DmlpIdeal.τ).loc Cert.DmlpIdeal.main_arg1) = m ((c.tc : Thread Cert.DmlpIdeal.nD Cert.DmlpIdeal.τ).loc Cert.DmlpIdeal.main_arg1)
          ∧ r.2.mem ((c.tc : Thread Cert.DmlpIdeal.nD Cert.DmlpIdeal.τ).loc Cert.DmlpIdeal.main_arg2) = m ((c.tc : Thread Cert.DmlpIdeal.nD Cert.DmlpIdeal.τ).loc Cert.DmlpIdeal.main_arg2)
          ∧ r.2.mem ((c.tc : Thread Cert.DmlpIdeal.nD Cert.DmlpIdeal.τ).loc Cert.DmlpIdeal.main_arg3) = m ((c.tc : Thread Cert.DmlpIdeal.nD Cert.DmlpIdeal.τ).loc Cert.DmlpIdeal.main_arg3)
          ∧ r.2.mem ((c.tc : Thread Cert.DmlpIdeal.nD Cert.DmlpIdeal.τ).loc Cert.DmlpIdeal.main_arg4) = m ((c.tc : Thread Cert.DmlpIdeal.nD Cert.DmlpIdeal.τ).loc Cert.DmlpIdeal.main_arg4))
      ∧ θ_run (Cert.DmlpRefIdeal.defs (F := Ideal)) (onTc (τ := Cert.DmlpRefIdeal.τ) (Cert.DmlpRefIdeal.main (F := Ideal))) ⟨m', fun _ => 0, g'⟩ (fun r => ∀ c : Dev Cert.DmlpRefIdeal.nD,
          r.2.mem ((c.tc : Thread Cert.DmlpRefIdeal.nD Cert.DmlpRefIdeal.τ).loc Cert.DmlpRefIdeal.main_v38) = v0 c
          ∧ r.2.mem ((c.tc : Thread Cert.DmlpRefIdeal.nD Cert.DmlpRefIdeal.τ).loc Cert.DmlpRefIdeal.main_v39) = v1 c
          ∧ r.2.mem ((c.tc : Thread Cert.DmlpRefIdeal.nD Cert.DmlpRefIdeal.τ).loc Cert.DmlpRefIdeal.main_v21) = v2 c
          ∧ r.2.mem ((c.tc : Thread Cert.DmlpRefIdeal.nD Cert.DmlpRefIdeal.τ).loc Cert.DmlpRefIdeal.main_arg0) = m' ((c.tc : Thread Cert.DmlpRefIdeal.nD Cert.DmlpRefIdeal.τ).loc Cert.DmlpRefIdeal.main_arg0)
          ∧ r.2.mem ((c.tc : Thread Cert.DmlpRefIdeal.nD Cert.DmlpRefIdeal.τ).loc Cert.DmlpRefIdeal.main_arg1) = m' ((c.tc : Thread Cert.DmlpRefIdeal.nD Cert.DmlpRefIdeal.τ).loc Cert.DmlpRefIdeal.main_arg1)
          ∧ r.2.mem ((c.tc : Thread Cert.DmlpRefIdeal.nD Cert.DmlpRefIdeal.τ).loc Cert.DmlpRefIdeal.main_arg2) = m' ((c.tc : Thread Cert.DmlpRefIdeal.nD Cert.DmlpRefIdeal.τ).loc Cert.DmlpRefIdeal.main_arg2)
          ∧ r.2.mem ((c.tc : Thread Cert.DmlpRefIdeal.nD Cert.DmlpRefIdeal.τ).loc Cert.DmlpRefIdeal.main_arg3) = m' ((c.tc : Thread Cert.DmlpRefIdeal.nD Cert.DmlpRefIdeal.τ).loc Cert.DmlpRefIdeal.main_arg3)
          ∧ r.2.mem ((c.tc : Thread Cert.DmlpRefIdeal.nD Cert.DmlpRefIdeal.τ).loc Cert.DmlpRefIdeal.main_arg4) = m' ((c.tc : Thread Cert.DmlpRefIdeal.nD Cert.DmlpRefIdeal.τ).loc Cert.DmlpRefIdeal.main_arg4))

def preserves_Dact_DactIdeal : Prop :=
  True

def algebraic_DactIdeal_DactRefIdeal [hDactIdeal : Cert.DactIdeal.Facts] [hDactRefIdeal : Cert.DactRefIdeal.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)
      ∧ m' ((c.tc : Thread Cert.DactRefIdeal.nD Cert.DactRefIdeal.τ).loc Cert.DactRefIdeal.main_arg2) = m ((c.tc : Thread Cert.DactIdeal.nD Cert.DactIdeal.τ).loc Cert.DactIdeal.main_arg2)) →
    ∃ (v0 : (c : Dev Cert.DactIdeal.nD) → Buf (Elt Ideal) ((c.tc : Thread Cert.DactIdeal.nD Cert.DactIdeal.τ).loc Cert.DactIdeal.main_v4)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v4) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
          ∧ r.2.mem ((c.tc : Thread Cert.DactIdeal.nD Cert.DactIdeal.τ).loc Cert.DactIdeal.main_arg2) = m ((c.tc : Thread Cert.DactIdeal.nD Cert.DactIdeal.τ).loc Cert.DactIdeal.main_arg2))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v13) = v0 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1)
          ∧ r.2.mem ((c.tc : Thread Cert.DactRefIdeal.nD Cert.DactRefIdeal.τ).loc Cert.DactRefIdeal.main_arg2) = m' ((c.tc : Thread Cert.DactRefIdeal.nD Cert.DactRefIdeal.τ).loc Cert.DactRefIdeal.main_arg2))

def preserves_Gdown_GdownIdeal : Prop :=
  True

def algebraic_GdownIdeal_GdownRefIdeal [hGdownIdeal : Cert.GdownIdeal.Facts] [hGdownRefIdeal : Cert.GdownRefIdeal.Facts] : Prop :=
  ∀ (m : (ℓ : Loc Cert.GdownIdeal.nD Cert.GdownIdeal.τ Cert.GdownIdeal.sig) → Buf (Elt Ideal) ℓ) (g : Dev Cert.GdownIdeal.nD → PrngReg)
    (m' : (ℓ : Loc Cert.GdownRefIdeal.nD Cert.GdownRefIdeal.τ Cert.GdownRefIdeal.sig) → Buf (Elt Ideal) ℓ) (g' : Dev Cert.GdownRefIdeal.nD → PrngReg), Pre_GdownIdeal m →
    (∀ c : Dev Cert.GdownIdeal.nD,
      m' ((c.tc : Thread Cert.GdownRefIdeal.nD Cert.GdownRefIdeal.τ).loc Cert.GdownRefIdeal.main_arg0) = m ((c.tc : Thread Cert.GdownIdeal.nD Cert.GdownIdeal.τ).loc Cert.GdownIdeal.main_arg0)
      ∧ m' ((c.tc : Thread Cert.GdownRefIdeal.nD Cert.GdownRefIdeal.τ).loc Cert.GdownRefIdeal.main_arg1) = m ((c.tc : Thread Cert.GdownIdeal.nD Cert.GdownIdeal.τ).loc Cert.GdownIdeal.main_arg1)) →
    ∃ (v0 : (c : Dev Cert.GdownIdeal.nD) → Buf (Elt Ideal) ((c.tc : Thread Cert.GdownIdeal.nD Cert.GdownIdeal.τ).loc Cert.GdownIdeal.main_v0)),
      θ_run (Cert.GdownIdeal.defs (F := Ideal)) (onTc (τ := Cert.GdownIdeal.τ) (Cert.GdownIdeal.main (F := Ideal))) ⟨m, fun _ => 0, g⟩ (fun r => ∀ c : Dev Cert.GdownIdeal.nD,
          r.2.mem ((c.tc : Thread Cert.GdownIdeal.nD Cert.GdownIdeal.τ).loc Cert.GdownIdeal.main_v0) = v0 c
          ∧ r.2.mem ((c.tc : Thread Cert.GdownIdeal.nD Cert.GdownIdeal.τ).loc Cert.GdownIdeal.main_arg0) = m ((c.tc : Thread Cert.GdownIdeal.nD Cert.GdownIdeal.τ).loc Cert.GdownIdeal.main_arg0)
          ∧ r.2.mem ((c.tc : Thread Cert.GdownIdeal.nD Cert.GdownIdeal.τ).loc Cert.GdownIdeal.main_arg1) = m ((c.tc : Thread Cert.GdownIdeal.nD Cert.GdownIdeal.τ).loc Cert.GdownIdeal.main_arg1))
      ∧ θ_run (Cert.GdownRefIdeal.defs (F := Ideal)) (onTc (τ := Cert.GdownRefIdeal.τ) (Cert.GdownRefIdeal.main (F := Ideal))) ⟨m', fun _ => 0, g'⟩ (fun r => ∀ c : Dev Cert.GdownRefIdeal.nD,
          r.2.mem ((c.tc : Thread Cert.GdownRefIdeal.nD Cert.GdownRefIdeal.τ).loc Cert.GdownRefIdeal.main_v6) = v0 c
          ∧ r.2.mem ((c.tc : Thread Cert.GdownRefIdeal.nD Cert.GdownRefIdeal.τ).loc Cert.GdownRefIdeal.main_arg0) = m' ((c.tc : Thread Cert.GdownRefIdeal.nD Cert.GdownRefIdeal.τ).loc Cert.GdownRefIdeal.main_arg0)
          ∧ r.2.mem ((c.tc : Thread Cert.GdownRefIdeal.nD Cert.GdownRefIdeal.τ).loc Cert.GdownRefIdeal.main_arg1) = m' ((c.tc : Thread Cert.GdownRefIdeal.nD Cert.GdownRefIdeal.τ).loc Cert.GdownRefIdeal.main_arg1))

def preserves_Gup_GupIdeal : Prop :=
  True

def algebraic_GupIdeal_GupRefIdeal [hGupIdeal : Cert.GupIdeal.Facts] [hGupRefIdeal : Cert.GupRefIdeal.Facts] : Prop :=
  ∀ (m : (ℓ : Loc Cert.GupIdeal.nD Cert.GupIdeal.τ Cert.GupIdeal.sig) → Buf (Elt Ideal) ℓ) (g : Dev Cert.GupIdeal.nD → PrngReg)
    (m' : (ℓ : Loc Cert.GupRefIdeal.nD Cert.GupRefIdeal.τ Cert.GupRefIdeal.sig) → Buf (Elt Ideal) ℓ) (g' : Dev Cert.GupRefIdeal.nD → PrngReg), Pre_GupIdeal m →
    (∀ c : Dev Cert.GupIdeal.nD,
      m' ((c.tc : Thread Cert.GupRefIdeal.nD Cert.GupRefIdeal.τ).loc Cert.GupRefIdeal.main_arg0) = m ((c.tc : Thread Cert.GupIdeal.nD Cert.GupIdeal.τ).loc Cert.GupIdeal.main_arg0)
      ∧ m' ((c.tc : Thread Cert.GupRefIdeal.nD Cert.GupRefIdeal.τ).loc Cert.GupRefIdeal.main_arg1) = m ((c.tc : Thread Cert.GupIdeal.nD Cert.GupIdeal.τ).loc Cert.GupIdeal.main_arg1)) →
    ∃ (v0 : (c : Dev Cert.GupIdeal.nD) → Buf (Elt Ideal) ((c.tc : Thread Cert.GupIdeal.nD Cert.GupIdeal.τ).loc Cert.GupIdeal.main_v0)),
      θ_run (Cert.GupIdeal.defs (F := Ideal)) (onTc (τ := Cert.GupIdeal.τ) (Cert.GupIdeal.main (F := Ideal))) ⟨m, fun _ => 0, g⟩ (fun r => ∀ c : Dev Cert.GupIdeal.nD,
          r.2.mem ((c.tc : Thread Cert.GupIdeal.nD Cert.GupIdeal.τ).loc Cert.GupIdeal.main_v0) = v0 c
          ∧ r.2.mem ((c.tc : Thread Cert.GupIdeal.nD Cert.GupIdeal.τ).loc Cert.GupIdeal.main_arg0) = m ((c.tc : Thread Cert.GupIdeal.nD Cert.GupIdeal.τ).loc Cert.GupIdeal.main_arg0)
          ∧ r.2.mem ((c.tc : Thread Cert.GupIdeal.nD Cert.GupIdeal.τ).loc Cert.GupIdeal.main_arg1) = m ((c.tc : Thread Cert.GupIdeal.nD Cert.GupIdeal.τ).loc Cert.GupIdeal.main_arg1))
      ∧ θ_run (Cert.GupRefIdeal.defs (F := Ideal)) (onTc (τ := Cert.GupRefIdeal.τ) (Cert.GupRefIdeal.main (F := Ideal))) ⟨m', fun _ => 0, g'⟩ (fun r => ∀ c : Dev Cert.GupRefIdeal.nD,
          r.2.mem ((c.tc : Thread Cert.GupRefIdeal.nD Cert.GupRefIdeal.τ).loc Cert.GupRefIdeal.main_v6) = v0 c
          ∧ r.2.mem ((c.tc : Thread Cert.GupRefIdeal.nD Cert.GupRefIdeal.τ).loc Cert.GupRefIdeal.main_arg0) = m' ((c.tc : Thread Cert.GupRefIdeal.nD Cert.GupRefIdeal.τ).loc Cert.GupRefIdeal.main_arg0)
          ∧ r.2.mem ((c.tc : Thread Cert.GupRefIdeal.nD Cert.GupRefIdeal.τ).loc Cert.GupRefIdeal.main_arg1) = m' ((c.tc : Thread Cert.GupRefIdeal.nD Cert.GupRefIdeal.τ).loc Cert.GupRefIdeal.main_arg1))

def preserves_Gin_GinIdeal : Prop :=
  True

def algebraic_GinIdeal_GinRefIdeal [hGinIdeal : Cert.GinIdeal.Facts] [hGinRefIdeal : Cert.GinRefIdeal.Facts] : Prop :=
  ∀ (m : (ℓ : Loc Cert.GinIdeal.nD Cert.GinIdeal.τ Cert.GinIdeal.sig) → Buf (Elt Ideal) ℓ) (g : Dev Cert.GinIdeal.nD → PrngReg)
    (m' : (ℓ : Loc Cert.GinRefIdeal.nD Cert.GinRefIdeal.τ Cert.GinRefIdeal.sig) → Buf (Elt Ideal) ℓ) (g' : Dev Cert.GinRefIdeal.nD → PrngReg), Pre_GinIdeal m →
    (∀ c : Dev Cert.GinIdeal.nD,
      m' ((c.tc : Thread Cert.GinRefIdeal.nD Cert.GinRefIdeal.τ).loc Cert.GinRefIdeal.main_arg0) = m ((c.tc : Thread Cert.GinIdeal.nD Cert.GinIdeal.τ).loc Cert.GinIdeal.main_arg0)
      ∧ m' ((c.tc : Thread Cert.GinRefIdeal.nD Cert.GinRefIdeal.τ).loc Cert.GinRefIdeal.main_arg1) = m ((c.tc : Thread Cert.GinIdeal.nD Cert.GinIdeal.τ).loc Cert.GinIdeal.main_arg1)) →
    ∃ (v0 : (c : Dev Cert.GinIdeal.nD) → Buf (Elt Ideal) ((c.tc : Thread Cert.GinIdeal.nD Cert.GinIdeal.τ).loc Cert.GinIdeal.main_v0)),
      θ_run (Cert.GinIdeal.defs (F := Ideal)) (onTc (τ := Cert.GinIdeal.τ) (Cert.GinIdeal.main (F := Ideal))) ⟨m, fun _ => 0, g⟩ (fun r => ∀ c : Dev Cert.GinIdeal.nD,
          r.2.mem ((c.tc : Thread Cert.GinIdeal.nD Cert.GinIdeal.τ).loc Cert.GinIdeal.main_v0) = v0 c
          ∧ r.2.mem ((c.tc : Thread Cert.GinIdeal.nD Cert.GinIdeal.τ).loc Cert.GinIdeal.main_arg0) = m ((c.tc : Thread Cert.GinIdeal.nD Cert.GinIdeal.τ).loc Cert.GinIdeal.main_arg0)
          ∧ r.2.mem ((c.tc : Thread Cert.GinIdeal.nD Cert.GinIdeal.τ).loc Cert.GinIdeal.main_arg1) = m ((c.tc : Thread Cert.GinIdeal.nD Cert.GinIdeal.τ).loc Cert.GinIdeal.main_arg1))
      ∧ θ_run (Cert.GinRefIdeal.defs (F := Ideal)) (onTc (τ := Cert.GinRefIdeal.τ) (Cert.GinRefIdeal.main (F := Ideal))) ⟨m', fun _ => 0, g'⟩ (fun r => ∀ c : Dev Cert.GinRefIdeal.nD,
          r.2.mem ((c.tc : Thread Cert.GinRefIdeal.nD Cert.GinRefIdeal.τ).loc Cert.GinRefIdeal.main_v8) = v0 c
          ∧ r.2.mem ((c.tc : Thread Cert.GinRefIdeal.nD Cert.GinRefIdeal.τ).loc Cert.GinRefIdeal.main_arg0) = m' ((c.tc : Thread Cert.GinRefIdeal.nD Cert.GinRefIdeal.τ).loc Cert.GinRefIdeal.main_arg0)
          ∧ r.2.mem ((c.tc : Thread Cert.GinRefIdeal.nD Cert.GinRefIdeal.τ).loc Cert.GinRefIdeal.main_arg1) = m' ((c.tc : Thread Cert.GinRefIdeal.nD Cert.GinRefIdeal.τ).loc Cert.GinRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v4) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v5) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Pa_PaIdeal : Prop :=
  True

def algebraic_PaIdeal_PaRefIdeal [hPaIdeal : Cert.PaIdeal.Facts] [hPaRefIdeal : Cert.PaRefIdeal.Facts] : Prop :=
  ∀ (m : (ℓ : Loc Cert.PaIdeal.nD Cert.PaIdeal.τ Cert.PaIdeal.sig) → Buf (Elt Ideal) ℓ) (g : Dev Cert.PaIdeal.nD → PrngReg)
    (m' : (ℓ : Loc Cert.PaRefIdeal.nD Cert.PaRefIdeal.τ Cert.PaRefIdeal.sig) → Buf (Elt Ideal) ℓ) (g' : Dev Cert.PaRefIdeal.nD → PrngReg), Pre_PaIdeal m →
    (∀ c : Dev Cert.PaIdeal.nD,
      m' ((c.tc : Thread Cert.PaRefIdeal.nD Cert.PaRefIdeal.τ).loc Cert.PaRefIdeal.main_arg0) = m ((c.tc : Thread Cert.PaIdeal.nD Cert.PaIdeal.τ).loc Cert.PaIdeal.main_arg0)
      ∧ m' ((c.tc : Thread Cert.PaRefIdeal.nD Cert.PaRefIdeal.τ).loc Cert.PaRefIdeal.main_arg1) = m ((c.tc : Thread Cert.PaIdeal.nD Cert.PaIdeal.τ).loc Cert.PaIdeal.main_arg1)) →
    ∃ (v0 : (c : Dev Cert.PaIdeal.nD) → Buf (Elt Ideal) ((c.tc : Thread Cert.PaIdeal.nD Cert.PaIdeal.τ).loc Cert.PaIdeal.main_v0)),
      θ_run (Cert.PaIdeal.defs (F := Ideal)) (onTc (τ := Cert.PaIdeal.τ) (Cert.PaIdeal.main (F := Ideal))) ⟨m, fun _ => 0, g⟩ (fun r => ∀ c : Dev Cert.PaIdeal.nD,
          r.2.mem ((c.tc : Thread Cert.PaIdeal.nD Cert.PaIdeal.τ).loc Cert.PaIdeal.main_v0) = v0 c
          ∧ r.2.mem ((c.tc : Thread Cert.PaIdeal.nD Cert.PaIdeal.τ).loc Cert.PaIdeal.main_arg0) = m ((c.tc : Thread Cert.PaIdeal.nD Cert.PaIdeal.τ).loc Cert.PaIdeal.main_arg0)
          ∧ r.2.mem ((c.tc : Thread Cert.PaIdeal.nD Cert.PaIdeal.τ).loc Cert.PaIdeal.main_arg1) = m ((c.tc : Thread Cert.PaIdeal.nD Cert.PaIdeal.τ).loc Cert.PaIdeal.main_arg1))
      ∧ θ_run (Cert.PaRefIdeal.defs (F := Ideal)) (onTc (τ := Cert.PaRefIdeal.τ) (Cert.PaRefIdeal.main (F := Ideal))) ⟨m', fun _ => 0, g'⟩ (fun r => ∀ c : Dev Cert.PaRefIdeal.nD,
          r.2.mem ((c.tc : Thread Cert.PaRefIdeal.nD Cert.PaRefIdeal.τ).loc Cert.PaRefIdeal.main_v3) = v0 c
          ∧ r.2.mem ((c.tc : Thread Cert.PaRefIdeal.nD Cert.PaRefIdeal.τ).loc Cert.PaRefIdeal.main_arg0) = m' ((c.tc : Thread Cert.PaRefIdeal.nD Cert.PaRefIdeal.τ).loc Cert.PaRefIdeal.main_arg0)
          ∧ r.2.mem ((c.tc : Thread Cert.PaRefIdeal.nD Cert.PaRefIdeal.τ).loc Cert.PaRefIdeal.main_arg1) = m' ((c.tc : Thread Cert.PaRefIdeal.nD Cert.PaRefIdeal.τ).loc Cert.PaRefIdeal.main_arg1))

def preserves_Gout_GoutIdeal : Prop :=
  True

def algebraic_GoutIdeal_GoutRefIdeal [hGoutIdeal : Cert.GoutIdeal.Facts] [hGoutRefIdeal : Cert.GoutRefIdeal.Facts] : Prop :=
  ∀ (m : (ℓ : Loc Cert.GoutIdeal.nD Cert.GoutIdeal.τ Cert.GoutIdeal.sig) → Buf (Elt Ideal) ℓ) (g : Dev Cert.GoutIdeal.nD → PrngReg)
    (m' : (ℓ : Loc Cert.GoutRefIdeal.nD Cert.GoutRefIdeal.τ Cert.GoutRefIdeal.sig) → Buf (Elt Ideal) ℓ) (g' : Dev Cert.GoutRefIdeal.nD → PrngReg), Pre_GoutIdeal m →
    (∀ c : Dev Cert.GoutIdeal.nD,
      m' ((c.tc : Thread Cert.GoutRefIdeal.nD Cert.GoutRefIdeal.τ).loc Cert.GoutRefIdeal.main_arg0) = m ((c.tc : Thread Cert.GoutIdeal.nD Cert.GoutIdeal.τ).loc Cert.GoutIdeal.main_arg0)
      ∧ m' ((c.tc : Thread Cert.GoutRefIdeal.nD Cert.GoutRefIdeal.τ).loc Cert.GoutRefIdeal.main_arg1) = m ((c.tc : Thread Cert.GoutIdeal.nD Cert.GoutIdeal.τ).loc Cert.GoutIdeal.main_arg1)) →
    ∃ (v0 : (c : Dev Cert.GoutIdeal.nD) → Buf (Elt Ideal) ((c.tc : Thread Cert.GoutIdeal.nD Cert.GoutIdeal.τ).loc Cert.GoutIdeal.main_v0)),
      θ_run (Cert.GoutIdeal.defs (F := Ideal)) (onTc (τ := Cert.GoutIdeal.τ) (Cert.GoutIdeal.main (F := Ideal))) ⟨m, fun _ => 0, g⟩ (fun r => ∀ c : Dev Cert.GoutIdeal.nD,
          r.2.mem ((c.tc : Thread Cert.GoutIdeal.nD Cert.GoutIdeal.τ).loc Cert.GoutIdeal.main_v0) = v0 c
          ∧ r.2.mem ((c.tc : Thread Cert.GoutIdeal.nD Cert.GoutIdeal.τ).loc Cert.GoutIdeal.main_arg0) = m ((c.tc : Thread Cert.GoutIdeal.nD Cert.GoutIdeal.τ).loc Cert.GoutIdeal.main_arg0)
          ∧ r.2.mem ((c.tc : Thread Cert.GoutIdeal.nD Cert.GoutIdeal.τ).loc Cert.GoutIdeal.main_arg1) = m ((c.tc : Thread Cert.GoutIdeal.nD Cert.GoutIdeal.τ).loc Cert.GoutIdeal.main_arg1))
      ∧ θ_run (Cert.GoutRefIdeal.defs (F := Ideal)) (onTc (τ := Cert.GoutRefIdeal.τ) (Cert.GoutRefIdeal.main (F := Ideal))) ⟨m', fun _ => 0, g'⟩ (fun r => ∀ c : Dev Cert.GoutRefIdeal.nD,
          r.2.mem ((c.tc : Thread Cert.GoutRefIdeal.nD Cert.GoutRefIdeal.τ).loc Cert.GoutRefIdeal.main_v6) = v0 c
          ∧ r.2.mem ((c.tc : Thread Cert.GoutRefIdeal.nD Cert.GoutRefIdeal.τ).loc Cert.GoutRefIdeal.main_arg0) = m' ((c.tc : Thread Cert.GoutRefIdeal.nD Cert.GoutRefIdeal.τ).loc Cert.GoutRefIdeal.main_arg0)
          ∧ r.2.mem ((c.tc : Thread Cert.GoutRefIdeal.nD Cert.GoutRefIdeal.τ).loc Cert.GoutRefIdeal.main_arg1) = m' ((c.tc : Thread Cert.GoutRefIdeal.nD Cert.GoutRefIdeal.τ).loc Cert.GoutRefIdeal.main_arg1))

def preserves_Gpa_GpaIdeal : Prop :=
  True

def algebraic_GpaIdeal_GpaRefIdeal [hGpaIdeal : Cert.GpaIdeal.Facts] [hGpaRefIdeal : Cert.GpaRefIdeal.Facts] : Prop :=
  ∀ (m : (ℓ : Loc Cert.GpaIdeal.nD Cert.GpaIdeal.τ Cert.GpaIdeal.sig) → Buf (Elt Ideal) ℓ) (g : Dev Cert.GpaIdeal.nD → PrngReg)
    (m' : (ℓ : Loc Cert.GpaRefIdeal.nD Cert.GpaRefIdeal.τ Cert.GpaRefIdeal.sig) → Buf (Elt Ideal) ℓ) (g' : Dev Cert.GpaRefIdeal.nD → PrngReg), Pre_GpaIdeal m →
    (∀ c : Dev Cert.GpaIdeal.nD,
      m' ((c.tc : Thread Cert.GpaRefIdeal.nD Cert.GpaRefIdeal.τ).loc Cert.GpaRefIdeal.main_arg0) = m ((c.tc : Thread Cert.GpaIdeal.nD Cert.GpaIdeal.τ).loc Cert.GpaIdeal.main_arg0)
      ∧ m' ((c.tc : Thread Cert.GpaRefIdeal.nD Cert.GpaRefIdeal.τ).loc Cert.GpaRefIdeal.main_arg1) = m ((c.tc : Thread Cert.GpaIdeal.nD Cert.GpaIdeal.τ).loc Cert.GpaIdeal.main_arg1)) →
    ∃ (v0 : (c : Dev Cert.GpaIdeal.nD) → Buf (Elt Ideal) ((c.tc : Thread Cert.GpaIdeal.nD Cert.GpaIdeal.τ).loc Cert.GpaIdeal.main_v0)),
      θ_run (Cert.GpaIdeal.defs (F := Ideal)) (onTc (τ := Cert.GpaIdeal.τ) (Cert.GpaIdeal.main (F := Ideal))) ⟨m, fun _ => 0, g⟩ (fun r => ∀ c : Dev Cert.GpaIdeal.nD,
          r.2.mem ((c.tc : Thread Cert.GpaIdeal.nD Cert.GpaIdeal.τ).loc Cert.GpaIdeal.main_v0) = v0 c
          ∧ r.2.mem ((c.tc : Thread Cert.GpaIdeal.nD Cert.GpaIdeal.τ).loc Cert.GpaIdeal.main_arg0) = m ((c.tc : Thread Cert.GpaIdeal.nD Cert.GpaIdeal.τ).loc Cert.GpaIdeal.main_arg0)
          ∧ r.2.mem ((c.tc : Thread Cert.GpaIdeal.nD Cert.GpaIdeal.τ).loc Cert.GpaIdeal.main_arg1) = m ((c.tc : Thread Cert.GpaIdeal.nD Cert.GpaIdeal.τ).loc Cert.GpaIdeal.main_arg1))
      ∧ θ_run (Cert.GpaRefIdeal.defs (F := Ideal)) (onTc (τ := Cert.GpaRefIdeal.τ) (Cert.GpaRefIdeal.main (F := Ideal))) ⟨m', fun _ => 0, g'⟩ (fun r => ∀ c : Dev Cert.GpaRefIdeal.nD,
          r.2.mem ((c.tc : Thread Cert.GpaRefIdeal.nD Cert.GpaRefIdeal.τ).loc Cert.GpaRefIdeal.main_v6) = v0 c
          ∧ r.2.mem ((c.tc : Thread Cert.GpaRefIdeal.nD Cert.GpaRefIdeal.τ).loc Cert.GpaRefIdeal.main_arg0) = m' ((c.tc : Thread Cert.GpaRefIdeal.nD Cert.GpaRefIdeal.τ).loc Cert.GpaRefIdeal.main_arg0)
          ∧ r.2.mem ((c.tc : Thread Cert.GpaRefIdeal.nD Cert.GpaRefIdeal.τ).loc Cert.GpaRefIdeal.main_arg1) = m' ((c.tc : Thread Cert.GpaRefIdeal.nD Cert.GpaRefIdeal.τ).loc Cert.GpaRefIdeal.main_arg1))

def preserves_Gpb_GpbIdeal : Prop :=
  True

def algebraic_GpbIdeal_GpbRefIdeal [hGpbIdeal : Cert.GpbIdeal.Facts] [hGpbRefIdeal : Cert.GpbRefIdeal.Facts] : Prop :=
  ∀ (m : (ℓ : Loc Cert.GpbIdeal.nD Cert.GpbIdeal.τ Cert.GpbIdeal.sig) → Buf (Elt Ideal) ℓ) (g : Dev Cert.GpbIdeal.nD → PrngReg)
    (m' : (ℓ : Loc Cert.GpbRefIdeal.nD Cert.GpbRefIdeal.τ Cert.GpbRefIdeal.sig) → Buf (Elt Ideal) ℓ) (g' : Dev Cert.GpbRefIdeal.nD → PrngReg), Pre_GpbIdeal m →
    (∀ c : Dev Cert.GpbIdeal.nD,
      m' ((c.tc : Thread Cert.GpbRefIdeal.nD Cert.GpbRefIdeal.τ).loc Cert.GpbRefIdeal.main_arg0) = m ((c.tc : Thread Cert.GpbIdeal.nD Cert.GpbIdeal.τ).loc Cert.GpbIdeal.main_arg0)
      ∧ m' ((c.tc : Thread Cert.GpbRefIdeal.nD Cert.GpbRefIdeal.τ).loc Cert.GpbRefIdeal.main_arg1) = m ((c.tc : Thread Cert.GpbIdeal.nD Cert.GpbIdeal.τ).loc Cert.GpbIdeal.main_arg1)) →
    ∃ (v0 : (c : Dev Cert.GpbIdeal.nD) → Buf (Elt Ideal) ((c.tc : Thread Cert.GpbIdeal.nD Cert.GpbIdeal.τ).loc Cert.GpbIdeal.main_v0)),
      θ_run (Cert.GpbIdeal.defs (F := Ideal)) (onTc (τ := Cert.GpbIdeal.τ) (Cert.GpbIdeal.main (F := Ideal))) ⟨m, fun _ => 0, g⟩ (fun r => ∀ c : Dev Cert.GpbIdeal.nD,
          r.2.mem ((c.tc : Thread Cert.GpbIdeal.nD Cert.GpbIdeal.τ).loc Cert.GpbIdeal.main_v0) = v0 c
          ∧ r.2.mem ((c.tc : Thread Cert.GpbIdeal.nD Cert.GpbIdeal.τ).loc Cert.GpbIdeal.main_arg0) = m ((c.tc : Thread Cert.GpbIdeal.nD Cert.GpbIdeal.τ).loc Cert.GpbIdeal.main_arg0)
          ∧ r.2.mem ((c.tc : Thread Cert.GpbIdeal.nD Cert.GpbIdeal.τ).loc Cert.GpbIdeal.main_arg1) = m ((c.tc : Thread Cert.GpbIdeal.nD Cert.GpbIdeal.τ).loc Cert.GpbIdeal.main_arg1))
      ∧ θ_run (Cert.GpbRefIdeal.defs (F := Ideal)) (onTc (τ := Cert.GpbRefIdeal.τ) (Cert.GpbRefIdeal.main (F := Ideal))) ⟨m', fun _ => 0, g'⟩ (fun r => ∀ c : Dev Cert.GpbRefIdeal.nD,
          r.2.mem ((c.tc : Thread Cert.GpbRefIdeal.nD Cert.GpbRefIdeal.τ).loc Cert.GpbRefIdeal.main_v6) = v0 c
          ∧ r.2.mem ((c.tc : Thread Cert.GpbRefIdeal.nD Cert.GpbRefIdeal.τ).loc Cert.GpbRefIdeal.main_arg0) = m' ((c.tc : Thread Cert.GpbRefIdeal.nD Cert.GpbRefIdeal.τ).loc Cert.GpbRefIdeal.main_arg0)
          ∧ r.2.mem ((c.tc : Thread Cert.GpbRefIdeal.nD Cert.GpbRefIdeal.τ).loc Cert.GpbRefIdeal.main_arg1) = m' ((c.tc : Thread Cert.GpbRefIdeal.nD Cert.GpbRefIdeal.τ).loc Cert.GpbRefIdeal.main_arg1))

def preserves_Dya_DyaIdeal : Prop :=
  True

def algebraic_DyaIdeal_DyaRefIdeal [hDyaIdeal : Cert.DyaIdeal.Facts] [hDyaRefIdeal : Cert.DyaRefIdeal.Facts] : Prop :=
  ∀ (m : (ℓ : Loc Cert.DyaIdeal.nD Cert.DyaIdeal.τ Cert.DyaIdeal.sig) → Buf (Elt Ideal) ℓ) (g : Dev Cert.DyaIdeal.nD → PrngReg)
    (m' : (ℓ : Loc Cert.DyaRefIdeal.nD Cert.DyaRefIdeal.τ Cert.DyaRefIdeal.sig) → Buf (Elt Ideal) ℓ) (g' : Dev Cert.DyaRefIdeal.nD → PrngReg), Pre_DyaIdeal m →
    (∀ c : Dev Cert.DyaIdeal.nD,
      m' ((c.tc : Thread Cert.DyaRefIdeal.nD Cert.DyaRefIdeal.τ).loc Cert.DyaRefIdeal.main_arg0) = m ((c.tc : Thread Cert.DyaIdeal.nD Cert.DyaIdeal.τ).loc Cert.DyaIdeal.main_arg0)
      ∧ m' ((c.tc : Thread Cert.DyaRefIdeal.nD Cert.DyaRefIdeal.τ).loc Cert.DyaRefIdeal.main_arg1) = m ((c.tc : Thread Cert.DyaIdeal.nD Cert.DyaIdeal.τ).loc Cert.DyaIdeal.main_arg1)) →
    ∃ (v0 : (c : Dev Cert.DyaIdeal.nD) → Buf (Elt Ideal) ((c.tc : Thread Cert.DyaIdeal.nD Cert.DyaIdeal.τ).loc Cert.DyaIdeal.main_v0)),
      θ_run (Cert.DyaIdeal.defs (F := Ideal)) (onTc (τ := Cert.DyaIdeal.τ) (Cert.DyaIdeal.main (F := Ideal))) ⟨m, fun _ => 0, g⟩ (fun r => ∀ c : Dev Cert.DyaIdeal.nD,
          r.2.mem ((c.tc : Thread Cert.DyaIdeal.nD Cert.DyaIdeal.τ).loc Cert.DyaIdeal.main_v0) = v0 c
          ∧ r.2.mem ((c.tc : Thread Cert.DyaIdeal.nD Cert.DyaIdeal.τ).loc Cert.DyaIdeal.main_arg0) = m ((c.tc : Thread Cert.DyaIdeal.nD Cert.DyaIdeal.τ).loc Cert.DyaIdeal.main_arg0)
          ∧ r.2.mem ((c.tc : Thread Cert.DyaIdeal.nD Cert.DyaIdeal.τ).loc Cert.DyaIdeal.main_arg1) = m ((c.tc : Thread Cert.DyaIdeal.nD Cert.DyaIdeal.τ).loc Cert.DyaIdeal.main_arg1))
      ∧ θ_run (Cert.DyaRefIdeal.defs (F := Ideal)) (onTc (τ := Cert.DyaRefIdeal.τ) (Cert.DyaRefIdeal.main (F := Ideal))) ⟨m', fun _ => 0, g'⟩ (fun r => ∀ c : Dev Cert.DyaRefIdeal.nD,
          r.2.mem ((c.tc : Thread Cert.DyaRefIdeal.nD Cert.DyaRefIdeal.τ).loc Cert.DyaRefIdeal.main_v5) = v0 c
          ∧ r.2.mem ((c.tc : Thread Cert.DyaRefIdeal.nD Cert.DyaRefIdeal.τ).loc Cert.DyaRefIdeal.main_arg0) = m' ((c.tc : Thread Cert.DyaRefIdeal.nD Cert.DyaRefIdeal.τ).loc Cert.DyaRefIdeal.main_arg0)
          ∧ r.2.mem ((c.tc : Thread Cert.DyaRefIdeal.nD Cert.DyaRefIdeal.τ).loc Cert.DyaRefIdeal.main_arg1) = m' ((c.tc : Thread Cert.DyaRefIdeal.nD Cert.DyaRefIdeal.τ).loc Cert.DyaRefIdeal.main_arg1))

def preserves_Dyb_DybIdeal : Prop :=
  True

def algebraic_DybIdeal_DybRefIdeal [hDybIdeal : Cert.DybIdeal.Facts] [hDybRefIdeal : Cert.DybRefIdeal.Facts] : Prop :=
  ∀ (m : (ℓ : Loc Cert.DybIdeal.nD Cert.DybIdeal.τ Cert.DybIdeal.sig) → Buf (Elt Ideal) ℓ) (g : Dev Cert.DybIdeal.nD → PrngReg)
    (m' : (ℓ : Loc Cert.DybRefIdeal.nD Cert.DybRefIdeal.τ Cert.DybRefIdeal.sig) → Buf (Elt Ideal) ℓ) (g' : Dev Cert.DybRefIdeal.nD → PrngReg), Pre_DybIdeal m →
    (∀ c : Dev Cert.DybIdeal.nD,
      m' ((c.tc : Thread Cert.DybRefIdeal.nD Cert.DybRefIdeal.τ).loc Cert.DybRefIdeal.main_arg0) = m ((c.tc : Thread Cert.DybIdeal.nD Cert.DybIdeal.τ).loc Cert.DybIdeal.main_arg0)
      ∧ m' ((c.tc : Thread Cert.DybRefIdeal.nD Cert.DybRefIdeal.τ).loc Cert.DybRefIdeal.main_arg1) = m ((c.tc : Thread Cert.DybIdeal.nD Cert.DybIdeal.τ).loc Cert.DybIdeal.main_arg1)) →
    ∃ (v0 : (c : Dev Cert.DybIdeal.nD) → Buf (Elt Ideal) ((c.tc : Thread Cert.DybIdeal.nD Cert.DybIdeal.τ).loc Cert.DybIdeal.main_v0)),
      θ_run (Cert.DybIdeal.defs (F := Ideal)) (onTc (τ := Cert.DybIdeal.τ) (Cert.DybIdeal.main (F := Ideal))) ⟨m, fun _ => 0, g⟩ (fun r => ∀ c : Dev Cert.DybIdeal.nD,
          r.2.mem ((c.tc : Thread Cert.DybIdeal.nD Cert.DybIdeal.τ).loc Cert.DybIdeal.main_v0) = v0 c
          ∧ r.2.mem ((c.tc : Thread Cert.DybIdeal.nD Cert.DybIdeal.τ).loc Cert.DybIdeal.main_arg0) = m ((c.tc : Thread Cert.DybIdeal.nD Cert.DybIdeal.τ).loc Cert.DybIdeal.main_arg0)
          ∧ r.2.mem ((c.tc : Thread Cert.DybIdeal.nD Cert.DybIdeal.τ).loc Cert.DybIdeal.main_arg1) = m ((c.tc : Thread Cert.DybIdeal.nD Cert.DybIdeal.τ).loc Cert.DybIdeal.main_arg1))
      ∧ θ_run (Cert.DybRefIdeal.defs (F := Ideal)) (onTc (τ := Cert.DybRefIdeal.τ) (Cert.DybRefIdeal.main (F := Ideal))) ⟨m', fun _ => 0, g'⟩ (fun r => ∀ c : Dev Cert.DybRefIdeal.nD,
          r.2.mem ((c.tc : Thread Cert.DybRefIdeal.nD Cert.DybRefIdeal.τ).loc Cert.DybRefIdeal.main_v5) = v0 c
          ∧ r.2.mem ((c.tc : Thread Cert.DybRefIdeal.nD Cert.DybRefIdeal.τ).loc Cert.DybRefIdeal.main_arg0) = m' ((c.tc : Thread Cert.DybRefIdeal.nD Cert.DybRefIdeal.τ).loc Cert.DybRefIdeal.main_arg0)
          ∧ r.2.mem ((c.tc : Thread Cert.DybRefIdeal.nD Cert.DybRefIdeal.τ).loc Cert.DybRefIdeal.main_arg1) = m' ((c.tc : Thread Cert.DybRefIdeal.nD Cert.DybRefIdeal.τ).loc Cert.DybRefIdeal.main_arg1))

def preserves_Pb_PbIdeal : Prop :=
  True

def algebraic_PbIdeal_PbRefIdeal [hPbIdeal : Cert.PbIdeal.Facts] [hPbRefIdeal : Cert.PbRefIdeal.Facts] : Prop :=
  ∀ (m : (ℓ : Loc Cert.PbIdeal.nD Cert.PbIdeal.τ Cert.PbIdeal.sig) → Buf (Elt Ideal) ℓ) (g : Dev Cert.PbIdeal.nD → PrngReg)
    (m' : (ℓ : Loc Cert.PbRefIdeal.nD Cert.PbRefIdeal.τ Cert.PbRefIdeal.sig) → Buf (Elt Ideal) ℓ) (g' : Dev Cert.PbRefIdeal.nD → PrngReg), Pre_PbIdeal m →
    (∀ c : Dev Cert.PbIdeal.nD,
      m' ((c.tc : Thread Cert.PbRefIdeal.nD Cert.PbRefIdeal.τ).loc Cert.PbRefIdeal.main_arg0) = m ((c.tc : Thread Cert.PbIdeal.nD Cert.PbIdeal.τ).loc Cert.PbIdeal.main_arg0)
      ∧ m' ((c.tc : Thread Cert.PbRefIdeal.nD Cert.PbRefIdeal.τ).loc Cert.PbRefIdeal.main_arg1) = m ((c.tc : Thread Cert.PbIdeal.nD Cert.PbIdeal.τ).loc Cert.PbIdeal.main_arg1)
      ∧ m' ((c.tc : Thread Cert.PbRefIdeal.nD Cert.PbRefIdeal.τ).loc Cert.PbRefIdeal.main_arg2) = m ((c.tc : Thread Cert.PbIdeal.nD Cert.PbIdeal.τ).loc Cert.PbIdeal.main_arg2)
      ∧ m' ((c.tc : Thread Cert.PbRefIdeal.nD Cert.PbRefIdeal.τ).loc Cert.PbRefIdeal.main_arg3) = m ((c.tc : Thread Cert.PbIdeal.nD Cert.PbIdeal.τ).loc Cert.PbIdeal.main_arg3)
      ∧ m' ((c.tc : Thread Cert.PbRefIdeal.nD Cert.PbRefIdeal.τ).loc Cert.PbRefIdeal.main_arg4) = m ((c.tc : Thread Cert.PbIdeal.nD Cert.PbIdeal.τ).loc Cert.PbIdeal.main_arg4)) →
    ∃ (v0 : (c : Dev Cert.PbIdeal.nD) → Buf (Elt Ideal) ((c.tc : Thread Cert.PbIdeal.nD Cert.PbIdeal.τ).loc Cert.PbIdeal.main_v0_0)) (v1 : (c : Dev Cert.PbIdeal.nD) → Buf (Elt Ideal) ((c.tc : Thread Cert.PbIdeal.nD Cert.PbIdeal.τ).loc Cert.PbIdeal.main_v0_1)),
      θ_run (Cert.PbIdeal.defs (F := Ideal)) (onTc (τ := Cert.PbIdeal.τ) (Cert.PbIdeal.main (F := Ideal))) ⟨m, fun _ => 0, g⟩ (fun r => ∀ c : Dev Cert.PbIdeal.nD,
          r.2.mem ((c.tc : Thread Cert.PbIdeal.nD Cert.PbIdeal.τ).loc Cert.PbIdeal.main_v0_0) = v0 c
          ∧ r.2.mem ((c.tc : Thread Cert.PbIdeal.nD Cert.PbIdeal.τ).loc Cert.PbIdeal.main_v0_1) = v1 c
          ∧ r.2.mem ((c.tc : Thread Cert.PbIdeal.nD Cert.PbIdeal.τ).loc Cert.PbIdeal.main_arg0) = m ((c.tc : Thread Cert.PbIdeal.nD Cert.PbIdeal.τ).loc Cert.PbIdeal.main_arg0)
          ∧ r.2.mem ((c.tc : Thread Cert.PbIdeal.nD Cert.PbIdeal.τ).loc Cert.PbIdeal.main_arg1) = m ((c.tc : Thread Cert.PbIdeal.nD Cert.PbIdeal.τ).loc Cert.PbIdeal.main_arg1)
          ∧ r.2.mem ((c.tc : Thread Cert.PbIdeal.nD Cert.PbIdeal.τ).loc Cert.PbIdeal.main_arg2) = m ((c.tc : Thread Cert.PbIdeal.nD Cert.PbIdeal.τ).loc Cert.PbIdeal.main_arg2)
          ∧ r.2.mem ((c.tc : Thread Cert.PbIdeal.nD Cert.PbIdeal.τ).loc Cert.PbIdeal.main_arg3) = m ((c.tc : Thread Cert.PbIdeal.nD Cert.PbIdeal.τ).loc Cert.PbIdeal.main_arg3)
          ∧ r.2.mem ((c.tc : Thread Cert.PbIdeal.nD Cert.PbIdeal.τ).loc Cert.PbIdeal.main_arg4) = m ((c.tc : Thread Cert.PbIdeal.nD Cert.PbIdeal.τ).loc Cert.PbIdeal.main_arg4))
      ∧ θ_run (Cert.PbRefIdeal.defs (F := Ideal)) (onTc (τ := Cert.PbRefIdeal.τ) (Cert.PbRefIdeal.main (F := Ideal))) ⟨m', fun _ => 0, g'⟩ (fun r => ∀ c : Dev Cert.PbRefIdeal.nD,
          r.2.mem ((c.tc : Thread Cert.PbRefIdeal.nD Cert.PbRefIdeal.τ).loc Cert.PbRefIdeal.main_v3) = v0 c
          ∧ r.2.mem ((c.tc : Thread Cert.PbRefIdeal.nD Cert.PbRefIdeal.τ).loc Cert.PbRefIdeal.main_v20) = v1 c
          ∧ r.2.mem ((c.tc : Thread Cert.PbRefIdeal.nD Cert.PbRefIdeal.τ).loc Cert.PbRefIdeal.main_arg0) = m' ((c.tc : Thread Cert.PbRefIdeal.nD Cert.PbRefIdeal.τ).loc Cert.PbRefIdeal.main_arg0)
          ∧ r.2.mem ((c.tc : Thread Cert.PbRefIdeal.nD Cert.PbRefIdeal.τ).loc Cert.PbRefIdeal.main_arg1) = m' ((c.tc : Thread Cert.PbRefIdeal.nD Cert.PbRefIdeal.τ).loc Cert.PbRefIdeal.main_arg1)
          ∧ r.2.mem ((c.tc : Thread Cert.PbRefIdeal.nD Cert.PbRefIdeal.τ).loc Cert.PbRefIdeal.main_arg2) = m' ((c.tc : Thread Cert.PbRefIdeal.nD Cert.PbRefIdeal.τ).loc Cert.PbRefIdeal.main_arg2)
          ∧ r.2.mem ((c.tc : Thread Cert.PbRefIdeal.nD Cert.PbRefIdeal.τ).loc Cert.PbRefIdeal.main_arg3) = m' ((c.tc : Thread Cert.PbRefIdeal.nD Cert.PbRefIdeal.τ).loc Cert.PbRefIdeal.main_arg3)
          ∧ r.2.mem ((c.tc : Thread Cert.PbRefIdeal.nD Cert.PbRefIdeal.τ).loc Cert.PbRefIdeal.main_arg4) = m' ((c.tc : Thread Cert.PbRefIdeal.nD Cert.PbRefIdeal.τ).loc Cert.PbRefIdeal.main_arg4))

def preserves_Outp_OutpIdeal : Prop :=
  True

def algebraic_OutpIdeal_OutpRefIdeal [hOutpIdeal : Cert.OutpIdeal.Facts] [hOutpRefIdeal : Cert.OutpRefIdeal.Facts] : Prop :=
  ∀ (m : (ℓ : Loc Cert.OutpIdeal.nD Cert.OutpIdeal.τ Cert.OutpIdeal.sig) → Buf (Elt Ideal) ℓ) (g : Dev Cert.OutpIdeal.nD → PrngReg)
    (m' : (ℓ : Loc Cert.OutpRefIdeal.nD Cert.OutpRefIdeal.τ Cert.OutpRefIdeal.sig) → Buf (Elt Ideal) ℓ) (g' : Dev Cert.OutpRefIdeal.nD → PrngReg), Pre_OutpIdeal m →
    (∀ c : Dev Cert.OutpIdeal.nD,
      m' ((c.tc : Thread Cert.OutpRefIdeal.nD Cert.OutpRefIdeal.τ).loc Cert.OutpRefIdeal.main_arg0) = m ((c.tc : Thread Cert.OutpIdeal.nD Cert.OutpIdeal.τ).loc Cert.OutpIdeal.main_arg0)
      ∧ m' ((c.tc : Thread Cert.OutpRefIdeal.nD Cert.OutpRefIdeal.τ).loc Cert.OutpRefIdeal.main_arg1) = m ((c.tc : Thread Cert.OutpIdeal.nD Cert.OutpIdeal.τ).loc Cert.OutpIdeal.main_arg1)
      ∧ m' ((c.tc : Thread Cert.OutpRefIdeal.nD Cert.OutpRefIdeal.τ).loc Cert.OutpRefIdeal.main_arg2) = m ((c.tc : Thread Cert.OutpIdeal.nD Cert.OutpIdeal.τ).loc Cert.OutpIdeal.main_arg2)
      ∧ m' ((c.tc : Thread Cert.OutpRefIdeal.nD Cert.OutpRefIdeal.τ).loc Cert.OutpRefIdeal.main_arg3) = m ((c.tc : Thread Cert.OutpIdeal.nD Cert.OutpIdeal.τ).loc Cert.OutpIdeal.main_arg3)) →
    ∃ (v0 : (c : Dev Cert.OutpIdeal.nD) → Buf (Elt Ideal) ((c.tc : Thread Cert.OutpIdeal.nD Cert.OutpIdeal.τ).loc Cert.OutpIdeal.main_v0_0)) (v1 : (c : Dev Cert.OutpIdeal.nD) → Buf (Elt Ideal) ((c.tc : Thread Cert.OutpIdeal.nD Cert.OutpIdeal.τ).loc Cert.OutpIdeal.main_v0_1)),
      θ_run (Cert.OutpIdeal.defs (F := Ideal)) (onTc (τ := Cert.OutpIdeal.τ) (Cert.OutpIdeal.main (F := Ideal))) ⟨m, fun _ => 0, g⟩ (fun r => ∀ c : Dev Cert.OutpIdeal.nD,
          r.2.mem ((c.tc : Thread Cert.OutpIdeal.nD Cert.OutpIdeal.τ).loc Cert.OutpIdeal.main_v0_0) = v0 c
          ∧ r.2.mem ((c.tc : Thread Cert.OutpIdeal.nD Cert.OutpIdeal.τ).loc Cert.OutpIdeal.main_v0_1) = v1 c
          ∧ r.2.mem ((c.tc : Thread Cert.OutpIdeal.nD Cert.OutpIdeal.τ).loc Cert.OutpIdeal.main_arg0) = m ((c.tc : Thread Cert.OutpIdeal.nD Cert.OutpIdeal.τ).loc Cert.OutpIdeal.main_arg0)
          ∧ r.2.mem ((c.tc : Thread Cert.OutpIdeal.nD Cert.OutpIdeal.τ).loc Cert.OutpIdeal.main_arg1) = m ((c.tc : Thread Cert.OutpIdeal.nD Cert.OutpIdeal.τ).loc Cert.OutpIdeal.main_arg1)
          ∧ r.2.mem ((c.tc : Thread Cert.OutpIdeal.nD Cert.OutpIdeal.τ).loc Cert.OutpIdeal.main_arg2) = m ((c.tc : Thread Cert.OutpIdeal.nD Cert.OutpIdeal.τ).loc Cert.OutpIdeal.main_arg2)
          ∧ r.2.mem ((c.tc : Thread Cert.OutpIdeal.nD Cert.OutpIdeal.τ).loc Cert.OutpIdeal.main_arg3) = m ((c.tc : Thread Cert.OutpIdeal.nD Cert.OutpIdeal.τ).loc Cert.OutpIdeal.main_arg3))
      ∧ θ_run (Cert.OutpRefIdeal.defs (F := Ideal)) (onTc (τ := Cert.OutpRefIdeal.τ) (Cert.OutpRefIdeal.main (F := Ideal))) ⟨m', fun _ => 0, g'⟩ (fun r => ∀ c : Dev Cert.OutpRefIdeal.nD,
          r.2.mem ((c.tc : Thread Cert.OutpRefIdeal.nD Cert.OutpRefIdeal.τ).loc Cert.OutpRefIdeal.main_v3) = v0 c
          ∧ r.2.mem ((c.tc : Thread Cert.OutpRefIdeal.nD Cert.OutpRefIdeal.τ).loc Cert.OutpRefIdeal.main_v16) = v1 c
          ∧ r.2.mem ((c.tc : Thread Cert.OutpRefIdeal.nD Cert.OutpRefIdeal.τ).loc Cert.OutpRefIdeal.main_arg0) = m' ((c.tc : Thread Cert.OutpRefIdeal.nD Cert.OutpRefIdeal.τ).loc Cert.OutpRefIdeal.main_arg0)
          ∧ r.2.mem ((c.tc : Thread Cert.OutpRefIdeal.nD Cert.OutpRefIdeal.τ).loc Cert.OutpRefIdeal.main_arg1) = m' ((c.tc : Thread Cert.OutpRefIdeal.nD Cert.OutpRefIdeal.τ).loc Cert.OutpRefIdeal.main_arg1)
          ∧ r.2.mem ((c.tc : Thread Cert.OutpRefIdeal.nD Cert.OutpRefIdeal.τ).loc Cert.OutpRefIdeal.main_arg2) = m' ((c.tc : Thread Cert.OutpRefIdeal.nD Cert.OutpRefIdeal.τ).loc Cert.OutpRefIdeal.main_arg2)
          ∧ r.2.mem ((c.tc : Thread Cert.OutpRefIdeal.nD Cert.OutpRefIdeal.τ).loc Cert.OutpRefIdeal.main_arg3) = m' ((c.tc : Thread Cert.OutpRefIdeal.nD Cert.OutpRefIdeal.τ).loc Cert.OutpRefIdeal.main_arg3))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)) (v2 : (c : Dev Cert.DownIdeal.nD) → Buf (Elt Ideal) ((c.tc : Thread Cert.DownIdeal.nD Cert.DownIdeal.τ).loc Cert.DownIdeal.main_v0_2)) (v3 : (c : Dev Cert.DownIdeal.nD) → Buf (Elt Ideal) ((c.tc : Thread Cert.DownIdeal.nD Cert.DownIdeal.τ).loc Cert.DownIdeal.main_v0_4)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_v0_2) = v2 c
          ∧ r.2.mem ((c.tc : Thread Cert.DownIdeal.nD Cert.DownIdeal.τ).loc Cert.DownIdeal.main_v0_4) = v3 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v52) = v0 c
          ∧ r.2.mem ((c.tc : Thread Cert.DownRefIdeal.nD Cert.DownRefIdeal.τ).loc Cert.DownRefIdeal.main_v53) = v1 c
          ∧ r.2.mem ((c.tc : Thread Cert.DownRefIdeal.nD Cert.DownRefIdeal.τ).loc Cert.DownRefIdeal.main_v36) = v2 c
          ∧ r.2.mem ((c.tc : Thread Cert.DownRefIdeal.nD Cert.DownRefIdeal.τ).loc Cert.DownRefIdeal.main_v54) = v3 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_Ac_AcIdeal : Prop :=
  IdealRules.named_const.Statement Cert.AcIdeal.κ "m_hat" .f32 0x3FC48605#32 ((8388608 / 5463681 : ℝ) : EReal)
  ∧ IdealRules.named_const.Statement Cert.AcIdeal.κ "v_hat" .f32 0x42C8E6D3#32 ((268435456 / 2672307 : ℝ) : EReal)

def algebraic_AcIdeal_AcRefIdeal [hAcIdeal : Cert.AcIdeal.Facts] [hAcRefIdeal : Cert.AcRefIdeal.Facts] : Prop :=
  ∀ (m : (ℓ : Loc Cert.AcIdeal.nD Cert.AcIdeal.τ Cert.AcIdeal.sig) → Buf (Elt Ideal) ℓ) (g : Dev Cert.AcIdeal.nD → PrngReg)
    (m' : (ℓ : Loc Cert.AcRefIdeal.nD Cert.AcRefIdeal.τ Cert.AcRefIdeal.sig) → Buf (Elt Ideal) ℓ) (g' : Dev Cert.AcRefIdeal.nD → PrngReg), Pre_AcIdeal m →
    (∀ c : Dev Cert.AcIdeal.nD,
      m' ((c.tc : Thread Cert.AcRefIdeal.nD Cert.AcRefIdeal.τ).loc Cert.AcRefIdeal.main_arg0) = m ((c.tc : Thread Cert.AcIdeal.nD Cert.AcIdeal.τ).loc Cert.AcIdeal.main_arg0)
      ∧ m' ((c.tc : Thread Cert.AcRefIdeal.nD Cert.AcRefIdeal.τ).loc Cert.AcRefIdeal.main_arg1) = m ((c.tc : Thread Cert.AcIdeal.nD Cert.AcIdeal.τ).loc Cert.AcIdeal.main_arg1)
      ∧ m' ((c.tc : Thread Cert.AcRefIdeal.nD Cert.AcRefIdeal.τ).loc Cert.AcRefIdeal.main_arg2) = m ((c.tc : Thread Cert.AcIdeal.nD Cert.AcIdeal.τ).loc Cert.AcIdeal.main_arg2)
      ∧ m' ((c.tc : Thread Cert.AcRefIdeal.nD Cert.AcRefIdeal.τ).loc Cert.AcRefIdeal.main_arg3) = m ((c.tc : Thread Cert.AcIdeal.nD Cert.AcIdeal.τ).loc Cert.AcIdeal.main_arg3)) →
    ∃ (v0 : (c : Dev Cert.AcIdeal.nD) → Buf (Elt Ideal) ((c.tc : Thread Cert.AcIdeal.nD Cert.AcIdeal.τ).loc Cert.AcIdeal.main_v1_0)) (v1 : (c : Dev Cert.AcIdeal.nD) → Buf (Elt Ideal) ((c.tc : Thread Cert.AcIdeal.nD Cert.AcIdeal.τ).loc Cert.AcIdeal.main_v1_1)) (v2 : (c : Dev Cert.AcIdeal.nD) → Buf (Elt Ideal) ((c.tc : Thread Cert.AcIdeal.nD Cert.AcIdeal.τ).loc Cert.AcIdeal.main_v1_2)) (v3 : (c : Dev Cert.AcIdeal.nD) → Buf (Elt Ideal) ((c.tc : Thread Cert.AcIdeal.nD Cert.AcIdeal.τ).loc Cert.AcIdeal.main_v1_3)),
      θ_run (Cert.AcIdeal.defs (F := Ideal)) (onTc (τ := Cert.AcIdeal.τ) (Cert.AcIdeal.main (F := Ideal))) ⟨m, fun _ => 0, g⟩ (fun r => ∀ c : Dev Cert.AcIdeal.nD,
          r.2.mem ((c.tc : Thread Cert.AcIdeal.nD Cert.AcIdeal.τ).loc Cert.AcIdeal.main_v1_0) = v0 c
          ∧ r.2.mem ((c.tc : Thread Cert.AcIdeal.nD Cert.AcIdeal.τ).loc Cert.AcIdeal.main_v1_1) = v1 c
          ∧ r.2.mem ((c.tc : Thread Cert.AcIdeal.nD Cert.AcIdeal.τ).loc Cert.AcIdeal.main_v1_2) = v2 c
          ∧ r.2.mem ((c.tc : Thread Cert.AcIdeal.nD Cert.AcIdeal.τ).loc Cert.AcIdeal.main_v1_3) = v3 c
          ∧ r.2.mem ((c.tc : Thread Cert.AcIdeal.nD Cert.AcIdeal.τ).loc Cert.AcIdeal.main_arg0) = m ((c.tc : Thread Cert.AcIdeal.nD Cert.AcIdeal.τ).loc Cert.AcIdeal.main_arg0)
          ∧ r.2.mem ((c.tc : Thread Cert.AcIdeal.nD Cert.AcIdeal.τ).loc Cert.AcIdeal.main_arg1) = m ((c.tc : Thread Cert.AcIdeal.nD Cert.AcIdeal.τ).loc Cert.AcIdeal.main_arg1)
          ∧ r.2.mem ((c.tc : Thread Cert.AcIdeal.nD Cert.AcIdeal.τ).loc Cert.AcIdeal.main_arg2) = m ((c.tc : Thread Cert.AcIdeal.nD Cert.AcIdeal.τ).loc Cert.AcIdeal.main_arg2)
          ∧ r.2.mem ((c.tc : Thread Cert.AcIdeal.nD Cert.AcIdeal.τ).loc Cert.AcIdeal.main_arg3) = m ((c.tc : Thread Cert.AcIdeal.nD Cert.AcIdeal.τ).loc Cert.AcIdeal.main_arg3))
      ∧ θ_run (Cert.AcRefIdeal.defs (F := Ideal)) (onTc (τ := Cert.AcRefIdeal.τ) (Cert.AcRefIdeal.main (F := Ideal))) ⟨m', fun _ => 0, g'⟩ (fun r => ∀ c : Dev Cert.AcRefIdeal.nD,
          r.2.mem ((c.tc : Thread Cert.AcRefIdeal.nD Cert.AcRefIdeal.τ).loc Cert.AcRefIdeal.main_arg0) = v0 c
          ∧ r.2.mem ((c.tc : Thread Cert.AcRefIdeal.nD Cert.AcRefIdeal.τ).loc Cert.AcRefIdeal.main_v23) = v1 c
          ∧ r.2.mem ((c.tc : Thread Cert.AcRefIdeal.nD Cert.AcRefIdeal.τ).loc Cert.AcRefIdeal.main_v4) = v2 c
          ∧ r.2.mem ((c.tc : Thread Cert.AcRefIdeal.nD Cert.AcRefIdeal.τ).loc Cert.AcRefIdeal.main_v10) = v3 c
          ∧ r.2.mem ((c.tc : Thread Cert.AcRefIdeal.nD Cert.AcRefIdeal.τ).loc Cert.AcRefIdeal.main_arg0) = m' ((c.tc : Thread Cert.AcRefIdeal.nD Cert.AcRefIdeal.τ).loc Cert.AcRefIdeal.main_arg0)
          ∧ r.2.mem ((c.tc : Thread Cert.AcRefIdeal.nD Cert.AcRefIdeal.τ).loc Cert.AcRefIdeal.main_arg1) = m' ((c.tc : Thread Cert.AcRefIdeal.nD Cert.AcRefIdeal.τ).loc Cert.AcRefIdeal.main_arg1)
          ∧ r.2.mem ((c.tc : Thread Cert.AcRefIdeal.nD Cert.AcRefIdeal.τ).loc Cert.AcRefIdeal.main_arg2) = m' ((c.tc : Thread Cert.AcRefIdeal.nD Cert.AcRefIdeal.τ).loc Cert.AcRefIdeal.main_arg2)
          ∧ r.2.mem ((c.tc : Thread Cert.AcRefIdeal.nD Cert.AcRefIdeal.τ).loc Cert.AcRefIdeal.main_arg3) = m' ((c.tc : Thread Cert.AcRefIdeal.nD Cert.AcRefIdeal.τ).loc Cert.AcRefIdeal.main_arg3))

def preserves_Ain_AinIdeal : Prop :=
  IdealRules.named_const.Statement Cert.AinIdeal.κ "m_hat" .f32 0x3FC48605#32 ((8388608 / 5463681 : ℝ) : EReal)
  ∧ IdealRules.named_const.Statement Cert.AinIdeal.κ "v_hat" .f32 0x42C8E6D3#32 ((268435456 / 2672307 : ℝ) : EReal)

def algebraic_AinIdeal_AinRefIdeal [hAinIdeal : Cert.AinIdeal.Facts] [hAinRefIdeal : Cert.AinRefIdeal.Facts] : Prop :=
  ∀ (m : (ℓ : Loc Cert.AinIdeal.nD Cert.AinIdeal.τ Cert.AinIdeal.sig) → Buf (Elt Ideal) ℓ) (g : Dev Cert.AinIdeal.nD → PrngReg)
    (m' : (ℓ : Loc Cert.AinRefIdeal.nD Cert.AinRefIdeal.τ Cert.AinRefIdeal.sig) → Buf (Elt Ideal) ℓ) (g' : Dev Cert.AinRefIdeal.nD → PrngReg), Pre_AinIdeal m →
    (∀ c : Dev Cert.AinIdeal.nD,
      m' ((c.tc : Thread Cert.AinRefIdeal.nD Cert.AinRefIdeal.τ).loc Cert.AinRefIdeal.main_arg0) = m ((c.tc : Thread Cert.AinIdeal.nD Cert.AinIdeal.τ).loc Cert.AinIdeal.main_arg0)
      ∧ m' ((c.tc : Thread Cert.AinRefIdeal.nD Cert.AinRefIdeal.τ).loc Cert.AinRefIdeal.main_arg1) = m ((c.tc : Thread Cert.AinIdeal.nD Cert.AinIdeal.τ).loc Cert.AinIdeal.main_arg1)
      ∧ m' ((c.tc : Thread Cert.AinRefIdeal.nD Cert.AinRefIdeal.τ).loc Cert.AinRefIdeal.main_arg2) = m ((c.tc : Thread Cert.AinIdeal.nD Cert.AinIdeal.τ).loc Cert.AinIdeal.main_arg2)
      ∧ m' ((c.tc : Thread Cert.AinRefIdeal.nD Cert.AinRefIdeal.τ).loc Cert.AinRefIdeal.main_arg3) = m ((c.tc : Thread Cert.AinIdeal.nD Cert.AinIdeal.τ).loc Cert.AinIdeal.main_arg3)
      ∧ m' ((c.tc : Thread Cert.AinRefIdeal.nD Cert.AinRefIdeal.τ).loc Cert.AinRefIdeal.main_arg4) = m ((c.tc : Thread Cert.AinIdeal.nD Cert.AinIdeal.τ).loc Cert.AinIdeal.main_arg4)
      ∧ m' ((c.tc : Thread Cert.AinRefIdeal.nD Cert.AinRefIdeal.τ).loc Cert.AinRefIdeal.main_arg5) = m ((c.tc : Thread Cert.AinIdeal.nD Cert.AinIdeal.τ).loc Cert.AinIdeal.main_arg5)) →
    ∃ (v0 : (c : Dev Cert.AinIdeal.nD) → Buf (Elt Ideal) ((c.tc : Thread Cert.AinIdeal.nD Cert.AinIdeal.τ).loc Cert.AinIdeal.main_v0_0)) (v1 : (c : Dev Cert.AinIdeal.nD) → Buf (Elt Ideal) ((c.tc : Thread Cert.AinIdeal.nD Cert.AinIdeal.τ).loc Cert.AinIdeal.main_v0_1)) (v2 : (c : Dev Cert.AinIdeal.nD) → Buf (Elt Ideal) ((c.tc : Thread Cert.AinIdeal.nD Cert.AinIdeal.τ).loc Cert.AinIdeal.main_v0_2)) (v3 : (c : Dev Cert.AinIdeal.nD) → Buf (Elt Ideal) ((c.tc : Thread Cert.AinIdeal.nD Cert.AinIdeal.τ).loc Cert.AinIdeal.main_v0_3)),
      θ_run (Cert.AinIdeal.defs (F := Ideal)) (onTc (τ := Cert.AinIdeal.τ) (Cert.AinIdeal.main (F := Ideal))) ⟨m, fun _ => 0, g⟩ (fun r => ∀ c : Dev Cert.AinIdeal.nD,
          r.2.mem ((c.tc : Thread Cert.AinIdeal.nD Cert.AinIdeal.τ).loc Cert.AinIdeal.main_v0_0) = v0 c
          ∧ r.2.mem ((c.tc : Thread Cert.AinIdeal.nD Cert.AinIdeal.τ).loc Cert.AinIdeal.main_v0_1) = v1 c
          ∧ r.2.mem ((c.tc : Thread Cert.AinIdeal.nD Cert.AinIdeal.τ).loc Cert.AinIdeal.main_v0_2) = v2 c
          ∧ r.2.mem ((c.tc : Thread Cert.AinIdeal.nD Cert.AinIdeal.τ).loc Cert.AinIdeal.main_v0_3) = v3 c
          ∧ r.2.mem ((c.tc : Thread Cert.AinIdeal.nD Cert.AinIdeal.τ).loc Cert.AinIdeal.main_arg0) = m ((c.tc : Thread Cert.AinIdeal.nD Cert.AinIdeal.τ).loc Cert.AinIdeal.main_arg0)
          ∧ r.2.mem ((c.tc : Thread Cert.AinIdeal.nD Cert.AinIdeal.τ).loc Cert.AinIdeal.main_arg1) = m ((c.tc : Thread Cert.AinIdeal.nD Cert.AinIdeal.τ).loc Cert.AinIdeal.main_arg1)
          ∧ r.2.mem ((c.tc : Thread Cert.AinIdeal.nD Cert.AinIdeal.τ).loc Cert.AinIdeal.main_arg2) = m ((c.tc : Thread Cert.AinIdeal.nD Cert.AinIdeal.τ).loc Cert.AinIdeal.main_arg2)
          ∧ r.2.mem ((c.tc : Thread Cert.AinIdeal.nD Cert.AinIdeal.τ).loc Cert.AinIdeal.main_arg3) = m ((c.tc : Thread Cert.AinIdeal.nD Cert.AinIdeal.τ).loc Cert.AinIdeal.main_arg3)
          ∧ r.2.mem ((c.tc : Thread Cert.AinIdeal.nD Cert.AinIdeal.τ).loc Cert.AinIdeal.main_arg4) = m ((c.tc : Thread Cert.AinIdeal.nD Cert.AinIdeal.τ).loc Cert.AinIdeal.main_arg4)
          ∧ r.2.mem ((c.tc : Thread Cert.AinIdeal.nD Cert.AinIdeal.τ).loc Cert.AinIdeal.main_arg5) = m ((c.tc : Thread Cert.AinIdeal.nD Cert.AinIdeal.τ).loc Cert.AinIdeal.main_arg5))
      ∧ θ_run (Cert.AinRefIdeal.defs (F := Ideal)) (onTc (τ := Cert.AinRefIdeal.τ) (Cert.AinRefIdeal.main (F := Ideal))) ⟨m', fun _ => 0, g'⟩ (fun r => ∀ c : Dev Cert.AinRefIdeal.nD,
          r.2.mem ((c.tc : Thread Cert.AinRefIdeal.nD Cert.AinRefIdeal.τ).loc Cert.AinRefIdeal.main_v7) = v0 c
          ∧ r.2.mem ((c.tc : Thread Cert.AinRefIdeal.nD Cert.AinRefIdeal.τ).loc Cert.AinRefIdeal.main_v31) = v1 c
          ∧ r.2.mem ((c.tc : Thread Cert.AinRefIdeal.nD Cert.AinRefIdeal.τ).loc Cert.AinRefIdeal.main_v12) = v2 c
          ∧ r.2.mem ((c.tc : Thread Cert.AinRefIdeal.nD Cert.AinRefIdeal.τ).loc Cert.AinRefIdeal.main_v18) = v3 c
          ∧ r.2.mem ((c.tc : Thread Cert.AinRefIdeal.nD Cert.AinRefIdeal.τ).loc Cert.AinRefIdeal.main_arg0) = m' ((c.tc : Thread Cert.AinRefIdeal.nD Cert.AinRefIdeal.τ).loc Cert.AinRefIdeal.main_arg0)
          ∧ r.2.mem ((c.tc : Thread Cert.AinRefIdeal.nD Cert.AinRefIdeal.τ).loc Cert.AinRefIdeal.main_arg1) = m' ((c.tc : Thread Cert.AinRefIdeal.nD Cert.AinRefIdeal.τ).loc Cert.AinRefIdeal.main_arg1)
          ∧ r.2.mem ((c.tc : Thread Cert.AinRefIdeal.nD Cert.AinRefIdeal.τ).loc Cert.AinRefIdeal.main_arg2) = m' ((c.tc : Thread Cert.AinRefIdeal.nD Cert.AinRefIdeal.τ).loc Cert.AinRefIdeal.main_arg2)
          ∧ r.2.mem ((c.tc : Thread Cert.AinRefIdeal.nD Cert.AinRefIdeal.τ).loc Cert.AinRefIdeal.main_arg3) = m' ((c.tc : Thread Cert.AinRefIdeal.nD Cert.AinRefIdeal.τ).loc Cert.AinRefIdeal.main_arg3)
          ∧ r.2.mem ((c.tc : Thread Cert.AinRefIdeal.nD Cert.AinRefIdeal.τ).loc Cert.AinRefIdeal.main_arg4) = m' ((c.tc : Thread Cert.AinRefIdeal.nD Cert.AinRefIdeal.τ).loc Cert.AinRefIdeal.main_arg4)
          ∧ r.2.mem ((c.tc : Thread Cert.AinRefIdeal.nD Cert.AinRefIdeal.τ).loc Cert.AinRefIdeal.main_arg5) = m' ((c.tc : Thread Cert.AinRefIdeal.nD Cert.AinRefIdeal.τ).loc Cert.AinRefIdeal.main_arg5))

def preserves_Apa_ApaIdeal : Prop :=
  IdealRules.named_const.Statement Cert.ApaIdeal.κ "m_hat" .f32 0x3FC48605#32 ((8388608 / 5463681 : ℝ) : EReal)
  ∧ IdealRules.named_const.Statement Cert.ApaIdeal.κ "v_hat" .f32 0x42C8E6D3#32 ((268435456 / 2672307 : ℝ) : EReal)

def algebraic_ApaIdeal_ApaRefIdeal [hApaIdeal : Cert.ApaIdeal.Facts] [hApaRefIdeal : Cert.ApaRefIdeal.Facts] : Prop :=
  ∀ (m : (ℓ : Loc Cert.ApaIdeal.nD Cert.ApaIdeal.τ Cert.ApaIdeal.sig) → Buf (Elt Ideal) ℓ) (g : Dev Cert.ApaIdeal.nD → PrngReg)
    (m' : (ℓ : Loc Cert.ApaRefIdeal.nD Cert.ApaRefIdeal.τ Cert.ApaRefIdeal.sig) → Buf (Elt Ideal) ℓ) (g' : Dev Cert.ApaRefIdeal.nD → PrngReg), Pre_ApaIdeal m →
    (∀ c : Dev Cert.ApaIdeal.nD,
      m' ((c.tc : Thread Cert.ApaRefIdeal.nD Cert.ApaRefIdeal.τ).loc Cert.ApaRefIdeal.main_arg0) = m ((c.tc : Thread Cert.ApaIdeal.nD Cert.ApaIdeal.τ).loc Cert.ApaIdeal.main_arg0)
      ∧ m' ((c.tc : Thread Cert.ApaRefIdeal.nD Cert.ApaRefIdeal.τ).loc Cert.ApaRefIdeal.main_arg1) = m ((c.tc : Thread Cert.ApaIdeal.nD Cert.ApaIdeal.τ).loc Cert.ApaIdeal.main_arg1)
      ∧ m' ((c.tc : Thread Cert.ApaRefIdeal.nD Cert.ApaRefIdeal.τ).loc Cert.ApaRefIdeal.main_arg2) = m ((c.tc : Thread Cert.ApaIdeal.nD Cert.ApaIdeal.τ).loc Cert.ApaIdeal.main_arg2)
      ∧ m' ((c.tc : Thread Cert.ApaRefIdeal.nD Cert.ApaRefIdeal.τ).loc Cert.ApaRefIdeal.main_arg3) = m ((c.tc : Thread Cert.ApaIdeal.nD Cert.ApaIdeal.τ).loc Cert.ApaIdeal.main_arg3)
      ∧ m' ((c.tc : Thread Cert.ApaRefIdeal.nD Cert.ApaRefIdeal.τ).loc Cert.ApaRefIdeal.main_arg4) = m ((c.tc : Thread Cert.ApaIdeal.nD Cert.ApaIdeal.τ).loc Cert.ApaIdeal.main_arg4)
      ∧ m' ((c.tc : Thread Cert.ApaRefIdeal.nD Cert.ApaRefIdeal.τ).loc Cert.ApaRefIdeal.main_arg5) = m ((c.tc : Thread Cert.ApaIdeal.nD Cert.ApaIdeal.τ).loc Cert.ApaIdeal.main_arg5)) →
    ∃ (v0 : (c : Dev Cert.ApaIdeal.nD) → Buf (Elt Ideal) ((c.tc : Thread Cert.ApaIdeal.nD Cert.ApaIdeal.τ).loc Cert.ApaIdeal.main_v0_0)) (v1 : (c : Dev Cert.ApaIdeal.nD) → Buf (Elt Ideal) ((c.tc : Thread Cert.ApaIdeal.nD Cert.ApaIdeal.τ).loc Cert.ApaIdeal.main_v0_1)) (v2 : (c : Dev Cert.ApaIdeal.nD) → Buf (Elt Ideal) ((c.tc : Thread Cert.ApaIdeal.nD Cert.ApaIdeal.τ).loc Cert.ApaIdeal.main_v0_2)) (v3 : (c : Dev Cert.ApaIdeal.nD) → Buf (Elt Ideal) ((c.tc : Thread Cert.ApaIdeal.nD Cert.ApaIdeal.τ).loc Cert.ApaIdeal.main_v0_3)),
      θ_run (Cert.ApaIdeal.defs (F := Ideal)) (onTc (τ := Cert.ApaIdeal.τ) (Cert.ApaIdeal.main (F := Ideal))) ⟨m, fun _ => 0, g⟩ (fun r => ∀ c : Dev Cert.ApaIdeal.nD,
          r.2.mem ((c.tc : Thread Cert.ApaIdeal.nD Cert.ApaIdeal.τ).loc Cert.ApaIdeal.main_v0_0) = v0 c
          ∧ r.2.mem ((c.tc : Thread Cert.ApaIdeal.nD Cert.ApaIdeal.τ).loc Cert.ApaIdeal.main_v0_1) = v1 c
          ∧ r.2.mem ((c.tc : Thread Cert.ApaIdeal.nD Cert.ApaIdeal.τ).loc Cert.ApaIdeal.main_v0_2) = v2 c
          ∧ r.2.mem ((c.tc : Thread Cert.ApaIdeal.nD Cert.ApaIdeal.τ).loc Cert.ApaIdeal.main_v0_3) = v3 c
          ∧ r.2.mem ((c.tc : Thread Cert.ApaIdeal.nD Cert.ApaIdeal.τ).loc Cert.ApaIdeal.main_arg0) = m ((c.tc : Thread Cert.ApaIdeal.nD Cert.ApaIdeal.τ).loc Cert.ApaIdeal.main_arg0)
          ∧ r.2.mem ((c.tc : Thread Cert.ApaIdeal.nD Cert.ApaIdeal.τ).loc Cert.ApaIdeal.main_arg1) = m ((c.tc : Thread Cert.ApaIdeal.nD Cert.ApaIdeal.τ).loc Cert.ApaIdeal.main_arg1)
          ∧ r.2.mem ((c.tc : Thread Cert.ApaIdeal.nD Cert.ApaIdeal.τ).loc Cert.ApaIdeal.main_arg2) = m ((c.tc : Thread Cert.ApaIdeal.nD Cert.ApaIdeal.τ).loc Cert.ApaIdeal.main_arg2)
          ∧ r.2.mem ((c.tc : Thread Cert.ApaIdeal.nD Cert.ApaIdeal.τ).loc Cert.ApaIdeal.main_arg3) = m ((c.tc : Thread Cert.ApaIdeal.nD Cert.ApaIdeal.τ).loc Cert.ApaIdeal.main_arg3)
          ∧ r.2.mem ((c.tc : Thread Cert.ApaIdeal.nD Cert.ApaIdeal.τ).loc Cert.ApaIdeal.main_arg4) = m ((c.tc : Thread Cert.ApaIdeal.nD Cert.ApaIdeal.τ).loc Cert.ApaIdeal.main_arg4)
          ∧ r.2.mem ((c.tc : Thread Cert.ApaIdeal.nD Cert.ApaIdeal.τ).loc Cert.ApaIdeal.main_arg5) = m ((c.tc : Thread Cert.ApaIdeal.nD Cert.ApaIdeal.τ).loc Cert.ApaIdeal.main_arg5))
      ∧ θ_run (Cert.ApaRefIdeal.defs (F := Ideal)) (onTc (τ := Cert.ApaRefIdeal.τ) (Cert.ApaRefIdeal.main (F := Ideal))) ⟨m', fun _ => 0, g'⟩ (fun r => ∀ c : Dev Cert.ApaRefIdeal.nD,
          r.2.mem ((c.tc : Thread Cert.ApaRefIdeal.nD Cert.ApaRefIdeal.τ).loc Cert.ApaRefIdeal.main_v7) = v0 c
          ∧ r.2.mem ((c.tc : Thread Cert.ApaRefIdeal.nD Cert.ApaRefIdeal.τ).loc Cert.ApaRefIdeal.main_v31) = v1 c
          ∧ r.2.mem ((c.tc : Thread Cert.ApaRefIdeal.nD Cert.ApaRefIdeal.τ).loc Cert.ApaRefIdeal.main_v12) = v2 c
          ∧ r.2.mem ((c.tc : Thread Cert.ApaRefIdeal.nD Cert.ApaRefIdeal.τ).loc Cert.ApaRefIdeal.main_v18) = v3 c
          ∧ r.2.mem ((c.tc : Thread Cert.ApaRefIdeal.nD Cert.ApaRefIdeal.τ).loc Cert.ApaRefIdeal.main_arg0) = m' ((c.tc : Thread Cert.ApaRefIdeal.nD Cert.ApaRefIdeal.τ).loc Cert.ApaRefIdeal.main_arg0)
          ∧ r.2.mem ((c.tc : Thread Cert.ApaRefIdeal.nD Cert.ApaRefIdeal.τ).loc Cert.ApaRefIdeal.main_arg1) = m' ((c.tc : Thread Cert.ApaRefIdeal.nD Cert.ApaRefIdeal.τ).loc Cert.ApaRefIdeal.main_arg1)
          ∧ r.2.mem ((c.tc : Thread Cert.ApaRefIdeal.nD Cert.ApaRefIdeal.τ).loc Cert.ApaRefIdeal.main_arg2) = m' ((c.tc : Thread Cert.ApaRefIdeal.nD Cert.ApaRefIdeal.τ).loc Cert.ApaRefIdeal.main_arg2)
          ∧ r.2.mem ((c.tc : Thread Cert.ApaRefIdeal.nD Cert.ApaRefIdeal.τ).loc Cert.ApaRefIdeal.main_arg3) = m' ((c.tc : Thread Cert.ApaRefIdeal.nD Cert.ApaRefIdeal.τ).loc Cert.ApaRefIdeal.main_arg3)
          ∧ r.2.mem ((c.tc : Thread Cert.ApaRefIdeal.nD Cert.ApaRefIdeal.τ).loc Cert.ApaRefIdeal.main_arg4) = m' ((c.tc : Thread Cert.ApaRefIdeal.nD Cert.ApaRefIdeal.τ).loc Cert.ApaRefIdeal.main_arg4)
          ∧ r.2.mem ((c.tc : Thread Cert.ApaRefIdeal.nD Cert.ApaRefIdeal.τ).loc Cert.ApaRefIdeal.main_arg5) = m' ((c.tc : Thread Cert.ApaRefIdeal.nD Cert.ApaRefIdeal.τ).loc Cert.ApaRefIdeal.main_arg5))

def preserves_Aout_AoutIdeal : Prop :=
  IdealRules.named_const.Statement Cert.AoutIdeal.κ "m_hat" .f32 0x3FC48605#32 ((8388608 / 5463681 : ℝ) : EReal)
  ∧ IdealRules.named_const.Statement Cert.AoutIdeal.κ "v_hat" .f32 0x42C8E6D3#32 ((268435456 / 2672307 : ℝ) : EReal)

def algebraic_AoutIdeal_AoutRefIdeal [hAoutIdeal : Cert.AoutIdeal.Facts] [hAoutRefIdeal : Cert.AoutRefIdeal.Facts] : Prop :=
  ∀ (m : (ℓ : Loc Cert.AoutIdeal.nD Cert.AoutIdeal.τ Cert.AoutIdeal.sig) → Buf (Elt Ideal) ℓ) (g : Dev Cert.AoutIdeal.nD → PrngReg)
    (m' : (ℓ : Loc Cert.AoutRefIdeal.nD Cert.AoutRefIdeal.τ Cert.AoutRefIdeal.sig) → Buf (Elt Ideal) ℓ) (g' : Dev Cert.AoutRefIdeal.nD → PrngReg), Pre_AoutIdeal m →
    (∀ c : Dev Cert.AoutIdeal.nD,
      m' ((c.tc : Thread Cert.AoutRefIdeal.nD Cert.AoutRefIdeal.τ).loc Cert.AoutRefIdeal.main_arg0) = m ((c.tc : Thread Cert.AoutIdeal.nD Cert.AoutIdeal.τ).loc Cert.AoutIdeal.main_arg0)
      ∧ m' ((c.tc : Thread Cert.AoutRefIdeal.nD Cert.AoutRefIdeal.τ).loc Cert.AoutRefIdeal.main_arg1) = m ((c.tc : Thread Cert.AoutIdeal.nD Cert.AoutIdeal.τ).loc Cert.AoutIdeal.main_arg1)
      ∧ m' ((c.tc : Thread Cert.AoutRefIdeal.nD Cert.AoutRefIdeal.τ).loc Cert.AoutRefIdeal.main_arg2) = m ((c.tc : Thread Cert.AoutIdeal.nD Cert.AoutIdeal.τ).loc Cert.AoutIdeal.main_arg2)
      ∧ m' ((c.tc : Thread Cert.AoutRefIdeal.nD Cert.AoutRefIdeal.τ).loc Cert.AoutRefIdeal.main_arg3) = m ((c.tc : Thread Cert.AoutIdeal.nD Cert.AoutIdeal.τ).loc Cert.AoutIdeal.main_arg3)
      ∧ m' ((c.tc : Thread Cert.AoutRefIdeal.nD Cert.AoutRefIdeal.τ).loc Cert.AoutRefIdeal.main_arg4) = m ((c.tc : Thread Cert.AoutIdeal.nD Cert.AoutIdeal.τ).loc Cert.AoutIdeal.main_arg4)
      ∧ m' ((c.tc : Thread Cert.AoutRefIdeal.nD Cert.AoutRefIdeal.τ).loc Cert.AoutRefIdeal.main_arg5) = m ((c.tc : Thread Cert.AoutIdeal.nD Cert.AoutIdeal.τ).loc Cert.AoutIdeal.main_arg5)) →
    ∃ (v0 : (c : Dev Cert.AoutIdeal.nD) → Buf (Elt Ideal) ((c.tc : Thread Cert.AoutIdeal.nD Cert.AoutIdeal.τ).loc Cert.AoutIdeal.main_v0_0)) (v1 : (c : Dev Cert.AoutIdeal.nD) → Buf (Elt Ideal) ((c.tc : Thread Cert.AoutIdeal.nD Cert.AoutIdeal.τ).loc Cert.AoutIdeal.main_v0_1)) (v2 : (c : Dev Cert.AoutIdeal.nD) → Buf (Elt Ideal) ((c.tc : Thread Cert.AoutIdeal.nD Cert.AoutIdeal.τ).loc Cert.AoutIdeal.main_v0_2)) (v3 : (c : Dev Cert.AoutIdeal.nD) → Buf (Elt Ideal) ((c.tc : Thread Cert.AoutIdeal.nD Cert.AoutIdeal.τ).loc Cert.AoutIdeal.main_v0_3)),
      θ_run (Cert.AoutIdeal.defs (F := Ideal)) (onTc (τ := Cert.AoutIdeal.τ) (Cert.AoutIdeal.main (F := Ideal))) ⟨m, fun _ => 0, g⟩ (fun r => ∀ c : Dev Cert.AoutIdeal.nD,
          r.2.mem ((c.tc : Thread Cert.AoutIdeal.nD Cert.AoutIdeal.τ).loc Cert.AoutIdeal.main_v0_0) = v0 c
          ∧ r.2.mem ((c.tc : Thread Cert.AoutIdeal.nD Cert.AoutIdeal.τ).loc Cert.AoutIdeal.main_v0_1) = v1 c
          ∧ r.2.mem ((c.tc : Thread Cert.AoutIdeal.nD Cert.AoutIdeal.τ).loc Cert.AoutIdeal.main_v0_2) = v2 c
          ∧ r.2.mem ((c.tc : Thread Cert.AoutIdeal.nD Cert.AoutIdeal.τ).loc Cert.AoutIdeal.main_v0_3) = v3 c
          ∧ r.2.mem ((c.tc : Thread Cert.AoutIdeal.nD Cert.AoutIdeal.τ).loc Cert.AoutIdeal.main_arg0) = m ((c.tc : Thread Cert.AoutIdeal.nD Cert.AoutIdeal.τ).loc Cert.AoutIdeal.main_arg0)
          ∧ r.2.mem ((c.tc : Thread Cert.AoutIdeal.nD Cert.AoutIdeal.τ).loc Cert.AoutIdeal.main_arg1) = m ((c.tc : Thread Cert.AoutIdeal.nD Cert.AoutIdeal.τ).loc Cert.AoutIdeal.main_arg1)
          ∧ r.2.mem ((c.tc : Thread Cert.AoutIdeal.nD Cert.AoutIdeal.τ).loc Cert.AoutIdeal.main_arg2) = m ((c.tc : Thread Cert.AoutIdeal.nD Cert.AoutIdeal.τ).loc Cert.AoutIdeal.main_arg2)
          ∧ r.2.mem ((c.tc : Thread Cert.AoutIdeal.nD Cert.AoutIdeal.τ).loc Cert.AoutIdeal.main_arg3) = m ((c.tc : Thread Cert.AoutIdeal.nD Cert.AoutIdeal.τ).loc Cert.AoutIdeal.main_arg3)
          ∧ r.2.mem ((c.tc : Thread Cert.AoutIdeal.nD Cert.AoutIdeal.τ).loc Cert.AoutIdeal.main_arg4) = m ((c.tc : Thread Cert.AoutIdeal.nD Cert.AoutIdeal.τ).loc Cert.AoutIdeal.main_arg4)
          ∧ r.2.mem ((c.tc : Thread Cert.AoutIdeal.nD Cert.AoutIdeal.τ).loc Cert.AoutIdeal.main_arg5) = m ((c.tc : Thread Cert.AoutIdeal.nD Cert.AoutIdeal.τ).loc Cert.AoutIdeal.main_arg5))
      ∧ θ_run (Cert.AoutRefIdeal.defs (F := Ideal)) (onTc (τ := Cert.AoutRefIdeal.τ) (Cert.AoutRefIdeal.main (F := Ideal))) ⟨m', fun _ => 0, g'⟩ (fun r => ∀ c : Dev Cert.AoutRefIdeal.nD,
          r.2.mem ((c.tc : Thread Cert.AoutRefIdeal.nD Cert.AoutRefIdeal.τ).loc Cert.AoutRefIdeal.main_v7) = v0 c
          ∧ r.2.mem ((c.tc : Thread Cert.AoutRefIdeal.nD Cert.AoutRefIdeal.τ).loc Cert.AoutRefIdeal.main_v31) = v1 c
          ∧ r.2.mem ((c.tc : Thread Cert.AoutRefIdeal.nD Cert.AoutRefIdeal.τ).loc Cert.AoutRefIdeal.main_v12) = v2 c
          ∧ r.2.mem ((c.tc : Thread Cert.AoutRefIdeal.nD Cert.AoutRefIdeal.τ).loc Cert.AoutRefIdeal.main_v18) = v3 c
          ∧ r.2.mem ((c.tc : Thread Cert.AoutRefIdeal.nD Cert.AoutRefIdeal.τ).loc Cert.AoutRefIdeal.main_arg0) = m' ((c.tc : Thread Cert.AoutRefIdeal.nD Cert.AoutRefIdeal.τ).loc Cert.AoutRefIdeal.main_arg0)
          ∧ r.2.mem ((c.tc : Thread Cert.AoutRefIdeal.nD Cert.AoutRefIdeal.τ).loc Cert.AoutRefIdeal.main_arg1) = m' ((c.tc : Thread Cert.AoutRefIdeal.nD Cert.AoutRefIdeal.τ).loc Cert.AoutRefIdeal.main_arg1)
          ∧ r.2.mem ((c.tc : Thread Cert.AoutRefIdeal.nD Cert.AoutRefIdeal.τ).loc Cert.AoutRefIdeal.main_arg2) = m' ((c.tc : Thread Cert.AoutRefIdeal.nD Cert.AoutRefIdeal.τ).loc Cert.AoutRefIdeal.main_arg2)
          ∧ r.2.mem ((c.tc : Thread Cert.AoutRefIdeal.nD Cert.AoutRefIdeal.τ).loc Cert.AoutRefIdeal.main_arg3) = m' ((c.tc : Thread Cert.AoutRefIdeal.nD Cert.AoutRefIdeal.τ).loc Cert.AoutRefIdeal.main_arg3)
          ∧ r.2.mem ((c.tc : Thread Cert.AoutRefIdeal.nD Cert.AoutRefIdeal.τ).loc Cert.AoutRefIdeal.main_arg4) = m' ((c.tc : Thread Cert.AoutRefIdeal.nD Cert.AoutRefIdeal.τ).loc Cert.AoutRefIdeal.main_arg4)
          ∧ r.2.mem ((c.tc : Thread Cert.AoutRefIdeal.nD Cert.AoutRefIdeal.τ).loc Cert.AoutRefIdeal.main_arg5) = m' ((c.tc : Thread Cert.AoutRefIdeal.nD Cert.AoutRefIdeal.τ).loc Cert.AoutRefIdeal.main_arg5))

def preserves_Apb_ApbIdeal : Prop :=
  IdealRules.named_const.Statement Cert.ApbIdeal.κ "m_hat" .f32 0x3FC48605#32 ((8388608 / 5463681 : ℝ) : EReal)
  ∧ IdealRules.named_const.Statement Cert.ApbIdeal.κ "v_hat" .f32 0x42C8E6D3#32 ((268435456 / 2672307 : ℝ) : EReal)

def algebraic_ApbIdeal_ApbRefIdeal [hApbIdeal : Cert.ApbIdeal.Facts] [hApbRefIdeal : Cert.ApbRefIdeal.Facts] : Prop :=
  ∀ (m : (ℓ : Loc Cert.ApbIdeal.nD Cert.ApbIdeal.τ Cert.ApbIdeal.sig) → Buf (Elt Ideal) ℓ) (g : Dev Cert.ApbIdeal.nD → PrngReg)
    (m' : (ℓ : Loc Cert.ApbRefIdeal.nD Cert.ApbRefIdeal.τ Cert.ApbRefIdeal.sig) → Buf (Elt Ideal) ℓ) (g' : Dev Cert.ApbRefIdeal.nD → PrngReg), Pre_ApbIdeal m →
    (∀ c : Dev Cert.ApbIdeal.nD,
      m' ((c.tc : Thread Cert.ApbRefIdeal.nD Cert.ApbRefIdeal.τ).loc Cert.ApbRefIdeal.main_arg0) = m ((c.tc : Thread Cert.ApbIdeal.nD Cert.ApbIdeal.τ).loc Cert.ApbIdeal.main_arg0)
      ∧ m' ((c.tc : Thread Cert.ApbRefIdeal.nD Cert.ApbRefIdeal.τ).loc Cert.ApbRefIdeal.main_arg1) = m ((c.tc : Thread Cert.ApbIdeal.nD Cert.ApbIdeal.τ).loc Cert.ApbIdeal.main_arg1)
      ∧ m' ((c.tc : Thread Cert.ApbRefIdeal.nD Cert.ApbRefIdeal.τ).loc Cert.ApbRefIdeal.main_arg2) = m ((c.tc : Thread Cert.ApbIdeal.nD Cert.ApbIdeal.τ).loc Cert.ApbIdeal.main_arg2)
      ∧ m' ((c.tc : Thread Cert.ApbRefIdeal.nD Cert.ApbRefIdeal.τ).loc Cert.ApbRefIdeal.main_arg3) = m ((c.tc : Thread Cert.ApbIdeal.nD Cert.ApbIdeal.τ).loc Cert.ApbIdeal.main_arg3)
      ∧ m' ((c.tc : Thread Cert.ApbRefIdeal.nD Cert.ApbRefIdeal.τ).loc Cert.ApbRefIdeal.main_arg4) = m ((c.tc : Thread Cert.ApbIdeal.nD Cert.ApbIdeal.τ).loc Cert.ApbIdeal.main_arg4)
      ∧ m' ((c.tc : Thread Cert.ApbRefIdeal.nD Cert.ApbRefIdeal.τ).loc Cert.ApbRefIdeal.main_arg5) = m ((c.tc : Thread Cert.ApbIdeal.nD Cert.ApbIdeal.τ).loc Cert.ApbIdeal.main_arg5)) →
    ∃ (v0 : (c : Dev Cert.ApbIdeal.nD) → Buf (Elt Ideal) ((c.tc : Thread Cert.ApbIdeal.nD Cert.ApbIdeal.τ).loc Cert.ApbIdeal.main_v0_0)) (v1 : (c : Dev Cert.ApbIdeal.nD) → Buf (Elt Ideal) ((c.tc : Thread Cert.ApbIdeal.nD Cert.ApbIdeal.τ).loc Cert.ApbIdeal.main_v0_1)) (v2 : (c : Dev Cert.ApbIdeal.nD) → Buf (Elt Ideal) ((c.tc : Thread Cert.ApbIdeal.nD Cert.ApbIdeal.τ).loc Cert.ApbIdeal.main_v0_2)) (v3 : (c : Dev Cert.ApbIdeal.nD) → Buf (Elt Ideal) ((c.tc : Thread Cert.ApbIdeal.nD Cert.ApbIdeal.τ).loc Cert.ApbIdeal.main_v0_3)),
      θ_run (Cert.ApbIdeal.defs (F := Ideal)) (onTc (τ := Cert.ApbIdeal.τ) (Cert.ApbIdeal.main (F := Ideal))) ⟨m, fun _ => 0, g⟩ (fun r => ∀ c : Dev Cert.ApbIdeal.nD,
          r.2.mem ((c.tc : Thread Cert.ApbIdeal.nD Cert.ApbIdeal.τ).loc Cert.ApbIdeal.main_v0_0) = v0 c
          ∧ r.2.mem ((c.tc : Thread Cert.ApbIdeal.nD Cert.ApbIdeal.τ).loc Cert.ApbIdeal.main_v0_1) = v1 c
          ∧ r.2.mem ((c.tc : Thread Cert.ApbIdeal.nD Cert.ApbIdeal.τ).loc Cert.ApbIdeal.main_v0_2) = v2 c
          ∧ r.2.mem ((c.tc : Thread Cert.ApbIdeal.nD Cert.ApbIdeal.τ).loc Cert.ApbIdeal.main_v0_3) = v3 c
          ∧ r.2.mem ((c.tc : Thread Cert.ApbIdeal.nD Cert.ApbIdeal.τ).loc Cert.ApbIdeal.main_arg0) = m ((c.tc : Thread Cert.ApbIdeal.nD Cert.ApbIdeal.τ).loc Cert.ApbIdeal.main_arg0)
          ∧ r.2.mem ((c.tc : Thread Cert.ApbIdeal.nD Cert.ApbIdeal.τ).loc Cert.ApbIdeal.main_arg1) = m ((c.tc : Thread Cert.ApbIdeal.nD Cert.ApbIdeal.τ).loc Cert.ApbIdeal.main_arg1)
          ∧ r.2.mem ((c.tc : Thread Cert.ApbIdeal.nD Cert.ApbIdeal.τ).loc Cert.ApbIdeal.main_arg2) = m ((c.tc : Thread Cert.ApbIdeal.nD Cert.ApbIdeal.τ).loc Cert.ApbIdeal.main_arg2)
          ∧ r.2.mem ((c.tc : Thread Cert.ApbIdeal.nD Cert.ApbIdeal.τ).loc Cert.ApbIdeal.main_arg3) = m ((c.tc : Thread Cert.ApbIdeal.nD Cert.ApbIdeal.τ).loc Cert.ApbIdeal.main_arg3)
          ∧ r.2.mem ((c.tc : Thread Cert.ApbIdeal.nD Cert.ApbIdeal.τ).loc Cert.ApbIdeal.main_arg4) = m ((c.tc : Thread Cert.ApbIdeal.nD Cert.ApbIdeal.τ).loc Cert.ApbIdeal.main_arg4)
          ∧ r.2.mem ((c.tc : Thread Cert.ApbIdeal.nD Cert.ApbIdeal.τ).loc Cert.ApbIdeal.main_arg5) = m ((c.tc : Thread Cert.ApbIdeal.nD Cert.ApbIdeal.τ).loc Cert.ApbIdeal.main_arg5))
      ∧ θ_run (Cert.ApbRefIdeal.defs (F := Ideal)) (onTc (τ := Cert.ApbRefIdeal.τ) (Cert.ApbRefIdeal.main (F := Ideal))) ⟨m', fun _ => 0, g'⟩ (fun r => ∀ c : Dev Cert.ApbRefIdeal.nD,
          r.2.mem ((c.tc : Thread Cert.ApbRefIdeal.nD Cert.ApbRefIdeal.τ).loc Cert.ApbRefIdeal.main_v7) = v0 c
          ∧ r.2.mem ((c.tc : Thread Cert.ApbRefIdeal.nD Cert.ApbRefIdeal.τ).loc Cert.ApbRefIdeal.main_v31) = v1 c
          ∧ r.2.mem ((c.tc : Thread Cert.ApbRefIdeal.nD Cert.ApbRefIdeal.τ).loc Cert.ApbRefIdeal.main_v12) = v2 c
          ∧ r.2.mem ((c.tc : Thread Cert.ApbRefIdeal.nD Cert.ApbRefIdeal.τ).loc Cert.ApbRefIdeal.main_v18) = v3 c
          ∧ r.2.mem ((c.tc : Thread Cert.ApbRefIdeal.nD Cert.ApbRefIdeal.τ).loc Cert.ApbRefIdeal.main_arg0) = m' ((c.tc : Thread Cert.ApbRefIdeal.nD Cert.ApbRefIdeal.τ).loc Cert.ApbRefIdeal.main_arg0)
          ∧ r.2.mem ((c.tc : Thread Cert.ApbRefIdeal.nD Cert.ApbRefIdeal.τ).loc Cert.ApbRefIdeal.main_arg1) = m' ((c.tc : Thread Cert.ApbRefIdeal.nD Cert.ApbRefIdeal.τ).loc Cert.ApbRefIdeal.main_arg1)
          ∧ r.2.mem ((c.tc : Thread Cert.ApbRefIdeal.nD Cert.ApbRefIdeal.τ).loc Cert.ApbRefIdeal.main_arg2) = m' ((c.tc : Thread Cert.ApbRefIdeal.nD Cert.ApbRefIdeal.τ).loc Cert.ApbRefIdeal.main_arg2)
          ∧ r.2.mem ((c.tc : Thread Cert.ApbRefIdeal.nD Cert.ApbRefIdeal.τ).loc Cert.ApbRefIdeal.main_arg3) = m' ((c.tc : Thread Cert.ApbRefIdeal.nD Cert.ApbRefIdeal.τ).loc Cert.ApbRefIdeal.main_arg3)
          ∧ r.2.mem ((c.tc : Thread Cert.ApbRefIdeal.nD Cert.ApbRefIdeal.τ).loc Cert.ApbRefIdeal.main_arg4) = m' ((c.tc : Thread Cert.ApbRefIdeal.nD Cert.ApbRefIdeal.τ).loc Cert.ApbRefIdeal.main_arg4)
          ∧ r.2.mem ((c.tc : Thread Cert.ApbRefIdeal.nD Cert.ApbRefIdeal.τ).loc Cert.ApbRefIdeal.main_arg5) = m' ((c.tc : Thread Cert.ApbRefIdeal.nD Cert.ApbRefIdeal.τ).loc Cert.ApbRefIdeal.main_arg5))

def preserves_Aup_AupIdeal : Prop :=
  IdealRules.named_const.Statement Cert.AupIdeal.κ "m_hat" .f32 0x3FC48605#32 ((8388608 / 5463681 : ℝ) : EReal)
  ∧ IdealRules.named_const.Statement Cert.AupIdeal.κ "v_hat" .f32 0x42C8E6D3#32 ((268435456 / 2672307 : ℝ) : EReal)

def algebraic_AupIdeal_AupRefIdeal [hAupIdeal : Cert.AupIdeal.Facts] [hAupRefIdeal : Cert.AupRefIdeal.Facts] : Prop :=
  ∀ (m : (ℓ : Loc Cert.AupIdeal.nD Cert.AupIdeal.τ Cert.AupIdeal.sig) → Buf (Elt Ideal) ℓ) (g : Dev Cert.AupIdeal.nD → PrngReg)
    (m' : (ℓ : Loc Cert.AupRefIdeal.nD Cert.AupRefIdeal.τ Cert.AupRefIdeal.sig) → Buf (Elt Ideal) ℓ) (g' : Dev Cert.AupRefIdeal.nD → PrngReg), Pre_AupIdeal m →
    (∀ c : Dev Cert.AupIdeal.nD,
      m' ((c.tc : Thread Cert.AupRefIdeal.nD Cert.AupRefIdeal.τ).loc Cert.AupRefIdeal.main_arg0) = m ((c.tc : Thread Cert.AupIdeal.nD Cert.AupIdeal.τ).loc Cert.AupIdeal.main_arg0)
      ∧ m' ((c.tc : Thread Cert.AupRefIdeal.nD Cert.AupRefIdeal.τ).loc Cert.AupRefIdeal.main_arg1) = m ((c.tc : Thread Cert.AupIdeal.nD Cert.AupIdeal.τ).loc Cert.AupIdeal.main_arg1)
      ∧ m' ((c.tc : Thread Cert.AupRefIdeal.nD Cert.AupRefIdeal.τ).loc Cert.AupRefIdeal.main_arg2) = m ((c.tc : Thread Cert.AupIdeal.nD Cert.AupIdeal.τ).loc Cert.AupIdeal.main_arg2)
      ∧ m' ((c.tc : Thread Cert.AupRefIdeal.nD Cert.AupRefIdeal.τ).loc Cert.AupRefIdeal.main_arg3) = m ((c.tc : Thread Cert.AupIdeal.nD Cert.AupIdeal.τ).loc Cert.AupIdeal.main_arg3)
      ∧ m' ((c.tc : Thread Cert.AupRefIdeal.nD Cert.AupRefIdeal.τ).loc Cert.AupRefIdeal.main_arg4) = m ((c.tc : Thread Cert.AupIdeal.nD Cert.AupIdeal.τ).loc Cert.AupIdeal.main_arg4)
      ∧ m' ((c.tc : Thread Cert.AupRefIdeal.nD Cert.AupRefIdeal.τ).loc Cert.AupRefIdeal.main_arg5) = m ((c.tc : Thread Cert.AupIdeal.nD Cert.AupIdeal.τ).loc Cert.AupIdeal.main_arg5)) →
    ∃ (v0 : (c : Dev Cert.AupIdeal.nD) → Buf (Elt Ideal) ((c.tc : Thread Cert.AupIdeal.nD Cert.AupIdeal.τ).loc Cert.AupIdeal.main_v0_0)) (v1 : (c : Dev Cert.AupIdeal.nD) → Buf (Elt Ideal) ((c.tc : Thread Cert.AupIdeal.nD Cert.AupIdeal.τ).loc Cert.AupIdeal.main_v0_1)) (v2 : (c : Dev Cert.AupIdeal.nD) → Buf (Elt Ideal) ((c.tc : Thread Cert.AupIdeal.nD Cert.AupIdeal.τ).loc Cert.AupIdeal.main_v0_2)) (v3 : (c : Dev Cert.AupIdeal.nD) → Buf (Elt Ideal) ((c.tc : Thread Cert.AupIdeal.nD Cert.AupIdeal.τ).loc Cert.AupIdeal.main_v0_3)),
      θ_run (Cert.AupIdeal.defs (F := Ideal)) (onTc (τ := Cert.AupIdeal.τ) (Cert.AupIdeal.main (F := Ideal))) ⟨m, fun _ => 0, g⟩ (fun r => ∀ c : Dev Cert.AupIdeal.nD,
          r.2.mem ((c.tc : Thread Cert.AupIdeal.nD Cert.AupIdeal.τ).loc Cert.AupIdeal.main_v0_0) = v0 c
          ∧ r.2.mem ((c.tc : Thread Cert.AupIdeal.nD Cert.AupIdeal.τ).loc Cert.AupIdeal.main_v0_1) = v1 c
          ∧ r.2.mem ((c.tc : Thread Cert.AupIdeal.nD Cert.AupIdeal.τ).loc Cert.AupIdeal.main_v0_2) = v2 c
          ∧ r.2.mem ((c.tc : Thread Cert.AupIdeal.nD Cert.AupIdeal.τ).loc Cert.AupIdeal.main_v0_3) = v3 c
          ∧ r.2.mem ((c.tc : Thread Cert.AupIdeal.nD Cert.AupIdeal.τ).loc Cert.AupIdeal.main_arg0) = m ((c.tc : Thread Cert.AupIdeal.nD Cert.AupIdeal.τ).loc Cert.AupIdeal.main_arg0)
          ∧ r.2.mem ((c.tc : Thread Cert.AupIdeal.nD Cert.AupIdeal.τ).loc Cert.AupIdeal.main_arg1) = m ((c.tc : Thread Cert.AupIdeal.nD Cert.AupIdeal.τ).loc Cert.AupIdeal.main_arg1)
          ∧ r.2.mem ((c.tc : Thread Cert.AupIdeal.nD Cert.AupIdeal.τ).loc Cert.AupIdeal.main_arg2) = m ((c.tc : Thread Cert.AupIdeal.nD Cert.AupIdeal.τ).loc Cert.AupIdeal.main_arg2)
          ∧ r.2.mem ((c.tc : Thread Cert.AupIdeal.nD Cert.AupIdeal.τ).loc Cert.AupIdeal.main_arg3) = m ((c.tc : Thread Cert.AupIdeal.nD Cert.AupIdeal.τ).loc Cert.AupIdeal.main_arg3)
          ∧ r.2.mem ((c.tc : Thread Cert.AupIdeal.nD Cert.AupIdeal.τ).loc Cert.AupIdeal.main_arg4) = m ((c.tc : Thread Cert.AupIdeal.nD Cert.AupIdeal.τ).loc Cert.AupIdeal.main_arg4)
          ∧ r.2.mem ((c.tc : Thread Cert.AupIdeal.nD Cert.AupIdeal.τ).loc Cert.AupIdeal.main_arg5) = m ((c.tc : Thread Cert.AupIdeal.nD Cert.AupIdeal.τ).loc Cert.AupIdeal.main_arg5))
      ∧ θ_run (Cert.AupRefIdeal.defs (F := Ideal)) (onTc (τ := Cert.AupRefIdeal.τ) (Cert.AupRefIdeal.main (F := Ideal))) ⟨m', fun _ => 0, g'⟩ (fun r => ∀ c : Dev Cert.AupRefIdeal.nD,
          r.2.mem ((c.tc : Thread Cert.AupRefIdeal.nD Cert.AupRefIdeal.τ).loc Cert.AupRefIdeal.main_v7) = v0 c
          ∧ r.2.mem ((c.tc : Thread Cert.AupRefIdeal.nD Cert.AupRefIdeal.τ).loc Cert.AupRefIdeal.main_v31) = v1 c
          ∧ r.2.mem ((c.tc : Thread Cert.AupRefIdeal.nD Cert.AupRefIdeal.τ).loc Cert.AupRefIdeal.main_v12) = v2 c
          ∧ r.2.mem ((c.tc : Thread Cert.AupRefIdeal.nD Cert.AupRefIdeal.τ).loc Cert.AupRefIdeal.main_v18) = v3 c
          ∧ r.2.mem ((c.tc : Thread Cert.AupRefIdeal.nD Cert.AupRefIdeal.τ).loc Cert.AupRefIdeal.main_arg0) = m' ((c.tc : Thread Cert.AupRefIdeal.nD Cert.AupRefIdeal.τ).loc Cert.AupRefIdeal.main_arg0)
          ∧ r.2.mem ((c.tc : Thread Cert.AupRefIdeal.nD Cert.AupRefIdeal.τ).loc Cert.AupRefIdeal.main_arg1) = m' ((c.tc : Thread Cert.AupRefIdeal.nD Cert.AupRefIdeal.τ).loc Cert.AupRefIdeal.main_arg1)
          ∧ r.2.mem ((c.tc : Thread Cert.AupRefIdeal.nD Cert.AupRefIdeal.τ).loc Cert.AupRefIdeal.main_arg2) = m' ((c.tc : Thread Cert.AupRefIdeal.nD Cert.AupRefIdeal.τ).loc Cert.AupRefIdeal.main_arg2)
          ∧ r.2.mem ((c.tc : Thread Cert.AupRefIdeal.nD Cert.AupRefIdeal.τ).loc Cert.AupRefIdeal.main_arg3) = m' ((c.tc : Thread Cert.AupRefIdeal.nD Cert.AupRefIdeal.τ).loc Cert.AupRefIdeal.main_arg3)
          ∧ r.2.mem ((c.tc : Thread Cert.AupRefIdeal.nD Cert.AupRefIdeal.τ).loc Cert.AupRefIdeal.main_arg4) = m' ((c.tc : Thread Cert.AupRefIdeal.nD Cert.AupRefIdeal.τ).loc Cert.AupRefIdeal.main_arg4)
          ∧ r.2.mem ((c.tc : Thread Cert.AupRefIdeal.nD Cert.AupRefIdeal.τ).loc Cert.AupRefIdeal.main_arg5) = m' ((c.tc : Thread Cert.AupRefIdeal.nD Cert.AupRefIdeal.τ).loc Cert.AupRefIdeal.main_arg5))

def preserves_Adown_AdownIdeal : Prop :=
  IdealRules.named_const.Statement Cert.AdownIdeal.κ "m_hat" .f32 0x3FC48605#32 ((8388608 / 5463681 : ℝ) : EReal)
  ∧ IdealRules.named_const.Statement Cert.AdownIdeal.κ "v_hat" .f32 0x42C8E6D3#32 ((268435456 / 2672307 : ℝ) : EReal)

def algebraic_AdownIdeal_AdownRefIdeal [hAdownIdeal : Cert.AdownIdeal.Facts] [hAdownRefIdeal : Cert.AdownRefIdeal.Facts] : Prop :=
  ∀ (m : (ℓ : Loc Cert.AdownIdeal.nD Cert.AdownIdeal.τ Cert.AdownIdeal.sig) → Buf (Elt Ideal) ℓ) (g : Dev Cert.AdownIdeal.nD → PrngReg)
    (m' : (ℓ : Loc Cert.AdownRefIdeal.nD Cert.AdownRefIdeal.τ Cert.AdownRefIdeal.sig) → Buf (Elt Ideal) ℓ) (g' : Dev Cert.AdownRefIdeal.nD → PrngReg), Pre_AdownIdeal m →
    (∀ c : Dev Cert.AdownIdeal.nD,
      m' ((c.tc : Thread Cert.AdownRefIdeal.nD Cert.AdownRefIdeal.τ).loc Cert.AdownRefIdeal.main_arg0) = m ((c.tc : Thread Cert.AdownIdeal.nD Cert.AdownIdeal.τ).loc Cert.AdownIdeal.main_arg0)
      ∧ m' ((c.tc : Thread Cert.AdownRefIdeal.nD Cert.AdownRefIdeal.τ).loc Cert.AdownRefIdeal.main_arg1) = m ((c.tc : Thread Cert.AdownIdeal.nD Cert.AdownIdeal.τ).loc Cert.AdownIdeal.main_arg1)
      ∧ m' ((c.tc : Thread Cert.AdownRefIdeal.nD Cert.AdownRefIdeal.τ).loc Cert.AdownRefIdeal.main_arg2) = m ((c.tc : Thread Cert.AdownIdeal.nD Cert.AdownIdeal.τ).loc Cert.AdownIdeal.main_arg2)
      ∧ m' ((c.tc : Thread Cert.AdownRefIdeal.nD Cert.AdownRefIdeal.τ).loc Cert.AdownRefIdeal.main_arg3) = m ((c.tc : Thread Cert.AdownIdeal.nD Cert.AdownIdeal.τ).loc Cert.AdownIdeal.main_arg3)
      ∧ m' ((c.tc : Thread Cert.AdownRefIdeal.nD Cert.AdownRefIdeal.τ).loc Cert.AdownRefIdeal.main_arg4) = m ((c.tc : Thread Cert.AdownIdeal.nD Cert.AdownIdeal.τ).loc Cert.AdownIdeal.main_arg4)
      ∧ m' ((c.tc : Thread Cert.AdownRefIdeal.nD Cert.AdownRefIdeal.τ).loc Cert.AdownRefIdeal.main_arg5) = m ((c.tc : Thread Cert.AdownIdeal.nD Cert.AdownIdeal.τ).loc Cert.AdownIdeal.main_arg5)) →
    ∃ (v0 : (c : Dev Cert.AdownIdeal.nD) → Buf (Elt Ideal) ((c.tc : Thread Cert.AdownIdeal.nD Cert.AdownIdeal.τ).loc Cert.AdownIdeal.main_v0_0)) (v1 : (c : Dev Cert.AdownIdeal.nD) → Buf (Elt Ideal) ((c.tc : Thread Cert.AdownIdeal.nD Cert.AdownIdeal.τ).loc Cert.AdownIdeal.main_v0_1)) (v2 : (c : Dev Cert.AdownIdeal.nD) → Buf (Elt Ideal) ((c.tc : Thread Cert.AdownIdeal.nD Cert.AdownIdeal.τ).loc Cert.AdownIdeal.main_v0_2)) (v3 : (c : Dev Cert.AdownIdeal.nD) → Buf (Elt Ideal) ((c.tc : Thread Cert.AdownIdeal.nD Cert.AdownIdeal.τ).loc Cert.AdownIdeal.main_v0_3)),
      θ_run (Cert.AdownIdeal.defs (F := Ideal)) (onTc (τ := Cert.AdownIdeal.τ) (Cert.AdownIdeal.main (F := Ideal))) ⟨m, fun _ => 0, g⟩ (fun r => ∀ c : Dev Cert.AdownIdeal.nD,
          r.2.mem ((c.tc : Thread Cert.AdownIdeal.nD Cert.AdownIdeal.τ).loc Cert.AdownIdeal.main_v0_0) = v0 c
          ∧ r.2.mem ((c.tc : Thread Cert.AdownIdeal.nD Cert.AdownIdeal.τ).loc Cert.AdownIdeal.main_v0_1) = v1 c
          ∧ r.2.mem ((c.tc : Thread Cert.AdownIdeal.nD Cert.AdownIdeal.τ).loc Cert.AdownIdeal.main_v0_2) = v2 c
          ∧ r.2.mem ((c.tc : Thread Cert.AdownIdeal.nD Cert.AdownIdeal.τ).loc Cert.AdownIdeal.main_v0_3) = v3 c
          ∧ r.2.mem ((c.tc : Thread Cert.AdownIdeal.nD Cert.AdownIdeal.τ).loc Cert.AdownIdeal.main_arg0) = m ((c.tc : Thread Cert.AdownIdeal.nD Cert.AdownIdeal.τ).loc Cert.AdownIdeal.main_arg0)
          ∧ r.2.mem ((c.tc : Thread Cert.AdownIdeal.nD Cert.AdownIdeal.τ).loc Cert.AdownIdeal.main_arg1) = m ((c.tc : Thread Cert.AdownIdeal.nD Cert.AdownIdeal.τ).loc Cert.AdownIdeal.main_arg1)
          ∧ r.2.mem ((c.tc : Thread Cert.AdownIdeal.nD Cert.AdownIdeal.τ).loc Cert.AdownIdeal.main_arg2) = m ((c.tc : Thread Cert.AdownIdeal.nD Cert.AdownIdeal.τ).loc Cert.AdownIdeal.main_arg2)
          ∧ r.2.mem ((c.tc : Thread Cert.AdownIdeal.nD Cert.AdownIdeal.τ).loc Cert.AdownIdeal.main_arg3) = m ((c.tc : Thread Cert.AdownIdeal.nD Cert.AdownIdeal.τ).loc Cert.AdownIdeal.main_arg3)
          ∧ r.2.mem ((c.tc : Thread Cert.AdownIdeal.nD Cert.AdownIdeal.τ).loc Cert.AdownIdeal.main_arg4) = m ((c.tc : Thread Cert.AdownIdeal.nD Cert.AdownIdeal.τ).loc Cert.AdownIdeal.main_arg4)
          ∧ r.2.mem ((c.tc : Thread Cert.AdownIdeal.nD Cert.AdownIdeal.τ).loc Cert.AdownIdeal.main_arg5) = m ((c.tc : Thread Cert.AdownIdeal.nD Cert.AdownIdeal.τ).loc Cert.AdownIdeal.main_arg5))
      ∧ θ_run (Cert.AdownRefIdeal.defs (F := Ideal)) (onTc (τ := Cert.AdownRefIdeal.τ) (Cert.AdownRefIdeal.main (F := Ideal))) ⟨m', fun _ => 0, g'⟩ (fun r => ∀ c : Dev Cert.AdownRefIdeal.nD,
          r.2.mem ((c.tc : Thread Cert.AdownRefIdeal.nD Cert.AdownRefIdeal.τ).loc Cert.AdownRefIdeal.main_v7) = v0 c
          ∧ r.2.mem ((c.tc : Thread Cert.AdownRefIdeal.nD Cert.AdownRefIdeal.τ).loc Cert.AdownRefIdeal.main_v31) = v1 c
          ∧ r.2.mem ((c.tc : Thread Cert.AdownRefIdeal.nD Cert.AdownRefIdeal.τ).loc Cert.AdownRefIdeal.main_v12) = v2 c
          ∧ r.2.mem ((c.tc : Thread Cert.AdownRefIdeal.nD Cert.AdownRefIdeal.τ).loc Cert.AdownRefIdeal.main_v18) = v3 c
          ∧ r.2.mem ((c.tc : Thread Cert.AdownRefIdeal.nD Cert.AdownRefIdeal.τ).loc Cert.AdownRefIdeal.main_arg0) = m' ((c.tc : Thread Cert.AdownRefIdeal.nD Cert.AdownRefIdeal.τ).loc Cert.AdownRefIdeal.main_arg0)
          ∧ r.2.mem ((c.tc : Thread Cert.AdownRefIdeal.nD Cert.AdownRefIdeal.τ).loc Cert.AdownRefIdeal.main_arg1) = m' ((c.tc : Thread Cert.AdownRefIdeal.nD Cert.AdownRefIdeal.τ).loc Cert.AdownRefIdeal.main_arg1)
          ∧ r.2.mem ((c.tc : Thread Cert.AdownRefIdeal.nD Cert.AdownRefIdeal.τ).loc Cert.AdownRefIdeal.main_arg2) = m' ((c.tc : Thread Cert.AdownRefIdeal.nD Cert.AdownRefIdeal.τ).loc Cert.AdownRefIdeal.main_arg2)
          ∧ r.2.mem ((c.tc : Thread Cert.AdownRefIdeal.nD Cert.AdownRefIdeal.τ).loc Cert.AdownRefIdeal.main_arg3) = m' ((c.tc : Thread Cert.AdownRefIdeal.nD Cert.AdownRefIdeal.τ).loc Cert.AdownRefIdeal.main_arg3)
          ∧ r.2.mem ((c.tc : Thread Cert.AdownRefIdeal.nD Cert.AdownRefIdeal.τ).loc Cert.AdownRefIdeal.main_arg4) = m' ((c.tc : Thread Cert.AdownRefIdeal.nD Cert.AdownRefIdeal.τ).loc Cert.AdownRefIdeal.main_arg4)
          ∧ r.2.mem ((c.tc : Thread Cert.AdownRefIdeal.nD Cert.AdownRefIdeal.τ).loc Cert.AdownRefIdeal.main_arg5) = m' ((c.tc : Thread Cert.AdownRefIdeal.nD Cert.AdownRefIdeal.τ).loc Cert.AdownRefIdeal.main_arg5))

def Claim : Prop :=
  ∃ (hKernel : Cert.Kernel.Facts) (hKernelIdeal : Cert.KernelIdeal.Facts) (hReferenceIdeal : Cert.ReferenceIdeal.Facts) (hDx : Cert.Dx.Facts) (hDxIdeal : Cert.DxIdeal.Facts) (hDxRefIdeal : Cert.DxRefIdeal.Facts) (hDmlp : Cert.Dmlp.Facts) (hDmlpIdeal : Cert.DmlpIdeal.Facts) (hDmlpRefIdeal : Cert.DmlpRefIdeal.Facts) (hDact : Cert.Dact.Facts) (hDactIdeal : Cert.DactIdeal.Facts) (hDactRefIdeal : Cert.DactRefIdeal.Facts) (hGdown : Cert.Gdown.Facts) (hGdownIdeal : Cert.GdownIdeal.Facts) (hGdownRefIdeal : Cert.GdownRefIdeal.Facts) (hGup : Cert.Gup.Facts) (hGupIdeal : Cert.GupIdeal.Facts) (hGupRefIdeal : Cert.GupRefIdeal.Facts) (hGin : Cert.Gin.Facts) (hGinIdeal : Cert.GinIdeal.Facts) (hGinRefIdeal : Cert.GinRefIdeal.Facts) (hProj : Cert.Proj.Facts) (hProjIdeal : Cert.ProjIdeal.Facts) (hProjRefIdeal : Cert.ProjRefIdeal.Facts) (hUp : Cert.Up.Facts) (hUpIdeal : Cert.UpIdeal.Facts) (hUpRefIdeal : Cert.UpRefIdeal.Facts) (hPa : Cert.Pa.Facts) (hPaIdeal : Cert.PaIdeal.Facts) (hPaRefIdeal : Cert.PaRefIdeal.Facts) (hGout : Cert.Gout.Facts) (hGoutIdeal : Cert.GoutIdeal.Facts) (hGoutRefIdeal : Cert.GoutRefIdeal.Facts) (hGpa : Cert.Gpa.Facts) (hGpaIdeal : Cert.GpaIdeal.Facts) (hGpaRefIdeal : Cert.GpaRefIdeal.Facts) (hGpb : Cert.Gpb.Facts) (hGpbIdeal : Cert.GpbIdeal.Facts) (hGpbRefIdeal : Cert.GpbRefIdeal.Facts) (hDya : Cert.Dya.Facts) (hDyaIdeal : Cert.DyaIdeal.Facts) (hDyaRefIdeal : Cert.DyaRefIdeal.Facts) (hDyb : Cert.Dyb.Facts) (hDybIdeal : Cert.DybIdeal.Facts) (hDybRefIdeal : Cert.DybRefIdeal.Facts) (hPb : Cert.Pb.Facts) (hPbIdeal : Cert.PbIdeal.Facts) (hPbRefIdeal : Cert.PbRefIdeal.Facts) (hOutp : Cert.Outp.Facts) (hOutpIdeal : Cert.OutpIdeal.Facts) (hOutpRefIdeal : Cert.OutpRefIdeal.Facts) (hDown : Cert.Down.Facts) (hDownIdeal : Cert.DownIdeal.Facts) (hDownRefIdeal : Cert.DownRefIdeal.Facts) (hAc : Cert.Ac.Facts) (hAcIdeal : Cert.AcIdeal.Facts) (hAcRefIdeal : Cert.AcRefIdeal.Facts) (hAin : Cert.Ain.Facts) (hAinIdeal : Cert.AinIdeal.Facts) (hAinRefIdeal : Cert.AinRefIdeal.Facts) (hApa : Cert.Apa.Facts) (hApaIdeal : Cert.ApaIdeal.Facts) (hApaRefIdeal : Cert.ApaRefIdeal.Facts) (hAout : Cert.Aout.Facts) (hAoutIdeal : Cert.AoutIdeal.Facts) (hAoutRefIdeal : Cert.AoutRefIdeal.Facts) (hApb : Cert.Apb.Facts) (hApbIdeal : Cert.ApbIdeal.Facts) (hApbRefIdeal : Cert.ApbRefIdeal.Facts) (hAup : Cert.Aup.Facts) (hAupIdeal : Cert.AupIdeal.Facts) (hAupRefIdeal : Cert.AupRefIdeal.Facts) (hAdown : Cert.Adown.Facts) (hAdownIdeal : Cert.AdownIdeal.Facts) (hAdownRefIdeal : Cert.AdownRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Dx (hDx := hDx)
    ∧ quiescent_DxIdeal (hDxIdeal := hDxIdeal)
    ∧ quiescent_DxRefIdeal (hDxRefIdeal := hDxRefIdeal)
    ∧ quiescent_Dmlp (hDmlp := hDmlp)
    ∧ quiescent_DmlpIdeal (hDmlpIdeal := hDmlpIdeal)
    ∧ quiescent_DmlpRefIdeal (hDmlpRefIdeal := hDmlpRefIdeal)
    ∧ quiescent_Dact (hDact := hDact)
    ∧ quiescent_DactIdeal (hDactIdeal := hDactIdeal)
    ∧ quiescent_DactRefIdeal (hDactRefIdeal := hDactRefIdeal)
    ∧ quiescent_Gdown (hGdown := hGdown)
    ∧ quiescent_GdownIdeal (hGdownIdeal := hGdownIdeal)
    ∧ quiescent_GdownRefIdeal (hGdownRefIdeal := hGdownRefIdeal)
    ∧ quiescent_Gup (hGup := hGup)
    ∧ quiescent_GupIdeal (hGupIdeal := hGupIdeal)
    ∧ quiescent_GupRefIdeal (hGupRefIdeal := hGupRefIdeal)
    ∧ quiescent_Gin (hGin := hGin)
    ∧ quiescent_GinIdeal (hGinIdeal := hGinIdeal)
    ∧ quiescent_GinRefIdeal (hGinRefIdeal := hGinRefIdeal)
    ∧ quiescent_Proj (hProj := hProj)
    ∧ quiescent_ProjIdeal (hProjIdeal := hProjIdeal)
    ∧ quiescent_ProjRefIdeal (hProjRefIdeal := hProjRefIdeal)
    ∧ quiescent_Up (hUp := hUp)
    ∧ quiescent_UpIdeal (hUpIdeal := hUpIdeal)
    ∧ quiescent_UpRefIdeal (hUpRefIdeal := hUpRefIdeal)
    ∧ quiescent_Pa (hPa := hPa)
    ∧ quiescent_PaIdeal (hPaIdeal := hPaIdeal)
    ∧ quiescent_PaRefIdeal (hPaRefIdeal := hPaRefIdeal)
    ∧ quiescent_Gout (hGout := hGout)
    ∧ quiescent_GoutIdeal (hGoutIdeal := hGoutIdeal)
    ∧ quiescent_GoutRefIdeal (hGoutRefIdeal := hGoutRefIdeal)
    ∧ quiescent_Gpa (hGpa := hGpa)
    ∧ quiescent_GpaIdeal (hGpaIdeal := hGpaIdeal)
    ∧ quiescent_GpaRefIdeal (hGpaRefIdeal := hGpaRefIdeal)
    ∧ quiescent_Gpb (hGpb := hGpb)
    ∧ quiescent_GpbIdeal (hGpbIdeal := hGpbIdeal)
    ∧ quiescent_GpbRefIdeal (hGpbRefIdeal := hGpbRefIdeal)
    ∧ quiescent_Dya (hDya := hDya)
    ∧ quiescent_DyaIdeal (hDyaIdeal := hDyaIdeal)
    ∧ quiescent_DyaRefIdeal (hDyaRefIdeal := hDyaRefIdeal)
    ∧ quiescent_Dyb (hDyb := hDyb)
    ∧ quiescent_DybIdeal (hDybIdeal := hDybIdeal)
    ∧ quiescent_DybRefIdeal (hDybRefIdeal := hDybRefIdeal)
    ∧ quiescent_Pb (hPb := hPb)
    ∧ quiescent_PbIdeal (hPbIdeal := hPbIdeal)
    ∧ quiescent_PbRefIdeal (hPbRefIdeal := hPbRefIdeal)
    ∧ quiescent_Outp (hOutp := hOutp)
    ∧ quiescent_OutpIdeal (hOutpIdeal := hOutpIdeal)
    ∧ quiescent_OutpRefIdeal (hOutpRefIdeal := hOutpRefIdeal)
    ∧ quiescent_Down (hDown := hDown)
    ∧ quiescent_DownIdeal (hDownIdeal := hDownIdeal)
    ∧ quiescent_DownRefIdeal (hDownRefIdeal := hDownRefIdeal)
    ∧ quiescent_Ac (hAc := hAc)
    ∧ quiescent_AcIdeal (hAcIdeal := hAcIdeal)
    ∧ quiescent_AcRefIdeal (hAcRefIdeal := hAcRefIdeal)
    ∧ quiescent_Ain (hAin := hAin)
    ∧ quiescent_AinIdeal (hAinIdeal := hAinIdeal)
    ∧ quiescent_AinRefIdeal (hAinRefIdeal := hAinRefIdeal)
    ∧ quiescent_Apa (hApa := hApa)
    ∧ quiescent_ApaIdeal (hApaIdeal := hApaIdeal)
    ∧ quiescent_ApaRefIdeal (hApaRefIdeal := hApaRefIdeal)
    ∧ quiescent_Aout (hAout := hAout)
    ∧ quiescent_AoutIdeal (hAoutIdeal := hAoutIdeal)
    ∧ quiescent_AoutRefIdeal (hAoutRefIdeal := hAoutRefIdeal)
    ∧ quiescent_Apb (hApb := hApb)
    ∧ quiescent_ApbIdeal (hApbIdeal := hApbIdeal)
    ∧ quiescent_ApbRefIdeal (hApbRefIdeal := hApbRefIdeal)
    ∧ quiescent_Aup (hAup := hAup)
    ∧ quiescent_AupIdeal (hAupIdeal := hAupIdeal)
    ∧ quiescent_AupRefIdeal (hAupRefIdeal := hAupRefIdeal)
    ∧ quiescent_Adown (hAdown := hAdown)
    ∧ quiescent_AdownIdeal (hAdownIdeal := hAdownIdeal)
    ∧ quiescent_AdownRefIdeal (hAdownRefIdeal := hAdownRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Dx_DxIdeal
    ∧ algebraic_DxIdeal_DxRefIdeal (hDxIdeal := hDxIdeal) (hDxRefIdeal := hDxRefIdeal)
    ∧ preserves_Dmlp_DmlpIdeal
    ∧ algebraic_DmlpIdeal_DmlpRefIdeal (hDmlpIdeal := hDmlpIdeal) (hDmlpRefIdeal := hDmlpRefIdeal)
    ∧ preserves_Dact_DactIdeal
    ∧ algebraic_DactIdeal_DactRefIdeal (hDactIdeal := hDactIdeal) (hDactRefIdeal := hDactRefIdeal)
    ∧ preserves_Gdown_GdownIdeal
    ∧ algebraic_GdownIdeal_GdownRefIdeal (hGdownIdeal := hGdownIdeal) (hGdownRefIdeal := hGdownRefIdeal)
    ∧ preserves_Gup_GupIdeal
    ∧ algebraic_GupIdeal_GupRefIdeal (hGupIdeal := hGupIdeal) (hGupRefIdeal := hGupRefIdeal)
    ∧ preserves_Gin_GinIdeal
    ∧ algebraic_GinIdeal_GinRefIdeal (hGinIdeal := hGinIdeal) (hGinRefIdeal := hGinRefIdeal)
    ∧ preserves_Proj_ProjIdeal
    ∧ algebraic_ProjIdeal_ProjRefIdeal (hProjIdeal := hProjIdeal) (hProjRefIdeal := hProjRefIdeal)
    ∧ preserves_Up_UpIdeal
    ∧ algebraic_UpIdeal_UpRefIdeal (hUpIdeal := hUpIdeal) (hUpRefIdeal := hUpRefIdeal)
    ∧ preserves_Pa_PaIdeal
    ∧ algebraic_PaIdeal_PaRefIdeal (hPaIdeal := hPaIdeal) (hPaRefIdeal := hPaRefIdeal)
    ∧ preserves_Gout_GoutIdeal
    ∧ algebraic_GoutIdeal_GoutRefIdeal (hGoutIdeal := hGoutIdeal) (hGoutRefIdeal := hGoutRefIdeal)
    ∧ preserves_Gpa_GpaIdeal
    ∧ algebraic_GpaIdeal_GpaRefIdeal (hGpaIdeal := hGpaIdeal) (hGpaRefIdeal := hGpaRefIdeal)
    ∧ preserves_Gpb_GpbIdeal
    ∧ algebraic_GpbIdeal_GpbRefIdeal (hGpbIdeal := hGpbIdeal) (hGpbRefIdeal := hGpbRefIdeal)
    ∧ preserves_Dya_DyaIdeal
    ∧ algebraic_DyaIdeal_DyaRefIdeal (hDyaIdeal := hDyaIdeal) (hDyaRefIdeal := hDyaRefIdeal)
    ∧ preserves_Dyb_DybIdeal
    ∧ algebraic_DybIdeal_DybRefIdeal (hDybIdeal := hDybIdeal) (hDybRefIdeal := hDybRefIdeal)
    ∧ preserves_Pb_PbIdeal
    ∧ algebraic_PbIdeal_PbRefIdeal (hPbIdeal := hPbIdeal) (hPbRefIdeal := hPbRefIdeal)
    ∧ preserves_Outp_OutpIdeal
    ∧ algebraic_OutpIdeal_OutpRefIdeal (hOutpIdeal := hOutpIdeal) (hOutpRefIdeal := hOutpRefIdeal)
    ∧ preserves_Down_DownIdeal
    ∧ algebraic_DownIdeal_DownRefIdeal (hDownIdeal := hDownIdeal) (hDownRefIdeal := hDownRefIdeal)
    ∧ preserves_Ac_AcIdeal
    ∧ algebraic_AcIdeal_AcRefIdeal (hAcIdeal := hAcIdeal) (hAcRefIdeal := hAcRefIdeal)
    ∧ preserves_Ain_AinIdeal
    ∧ algebraic_AinIdeal_AinRefIdeal (hAinIdeal := hAinIdeal) (hAinRefIdeal := hAinRefIdeal)
    ∧ preserves_Apa_ApaIdeal
    ∧ algebraic_ApaIdeal_ApaRefIdeal (hApaIdeal := hApaIdeal) (hApaRefIdeal := hApaRefIdeal)
    ∧ preserves_Aout_AoutIdeal
    ∧ algebraic_AoutIdeal_AoutRefIdeal (hAoutIdeal := hAoutIdeal) (hAoutRefIdeal := hAoutRefIdeal)
    ∧ preserves_Apb_ApbIdeal
    ∧ algebraic_ApbIdeal_ApbRefIdeal (hApbIdeal := hApbIdeal) (hApbRefIdeal := hApbRefIdeal)
    ∧ preserves_Aup_AupIdeal
    ∧ algebraic_AupIdeal_AupRefIdeal (hAupIdeal := hAupIdeal) (hAupRefIdeal := hAupRefIdeal)
    ∧ preserves_Adown_AdownIdeal
    ∧ algebraic_AdownIdeal_AdownRefIdeal (hAdownIdeal := hAdownIdeal) (hAdownRefIdeal := hAdownRefIdeal)
-- ==== Pre_finite.lean ====
abbrev S8192x10240 : Shape := ⟨2, ![8192, 10240]⟩
abbrev S8192x1024 : Shape := ⟨2, ![8192, 1024]⟩
abbrev S1x1024 : Shape := ⟨2, ![1, 1024]⟩
abbrev S8x128x128 : Shape := ⟨3, ![8, 128, 128]⟩
abbrev S8x128 : Shape := ⟨2, ![8, 128]⟩
abbrev S_ : Shape := ⟨0, ![]⟩

class Facts : Prop where
  bcast_S_S8192x10240 : S_.BroadcastsInDim S8192x10240 (![] : Fin 0 → Fin S8192x10240.rank)
  bcast_S_S8192x1024 : S_.BroadcastsInDim S8192x1024 (![] : Fin 0 → Fin S8192x1024.rank)
  bcast_S_S1x1024 : S_.BroadcastsInDim S1x1024 (![] : Fin 0 → Fin S1x1024.rank)
  bcast_S_S8x128x128 : S_.BroadcastsInDim S8x128x128 (![] : Fin 0 → Fin S8x128x128.rank)
  bcast_S_S8x128 : S_.BroadcastsInDim S8x128 (![] : Fin 0 → Fin S8x128.rank)

variable [Facts]

def fn {F : FTy → Type} [FloatOps F] (main_arg0 : FVec F S8192x10240 .bf16) (main_arg1 : FVec F S8192x1024 .bf16) (main_arg2 : FVec F S1x1024 .f32) (main_arg3 : FVec F S1x1024 .f32) (main_arg4 : FVec F S8x128x128 .f32) (main_arg5 : FVec F S8x128 .f32) (main_arg6 : FVec F S8192x10240 .bf16) : IVec S8192x10240 1 × IVec S8192x1024 1 × IVec S1x1024 1 × IVec S1x1024 1 × IVec S8x128x128 1 × IVec S8x128 1 :=
  let main_v0 : FVec F S8192x10240 .bf16 := Host.absf main_arg0
  let main_cst : FVec F S_ .bf16 := constant S_ .bf16 0x7F80#16
  let main_v1 : FVec F S8192x10240 .bf16 := broadcastInDim S8192x10240 ![] bcast_S_S8192x10240 main_cst
  let main_v2 : IVec S8192x10240 1 := cmpf .olt main_v0 main_v1
  let main_v3 : FVec F S8192x1024 .bf16 := Host.absf main_arg1
  let main_cst_0 : FVec F S_ .bf16 := constant S_ .bf16 0x7F80#16
  let main_v4 : FVec F S8192x1024 .bf16 := broadcastInDim S8192x1024 ![] bcast_S_S8192x1024 main_cst_0
  let main_v5 : IVec S8192x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S8x128x128 .f32 := Host.absf main_arg4
  let main_cst_3 : FVec F S_ .f32 := constant S_ .f32 0x7F800000#32
  let main_v13 : FVec F S8x128x128 .f32 := broadcastInDim S8x128x128 ![] bcast_S_S8x128x128 main_cst_3
  let main_v14 : IVec S8x128x128 1 := cmpf .olt main_v12 main_v13
  let main_v15 : FVec F S8x128 .f32 := Host.absf main_arg5
  let main_cst_4 : FVec F S_ .f32 := constant S_ .f32 0x7F800000#32
  let main_v16 : FVec F S8x128 .f32 := broadcastInDim S8x128 ![] bcast_S_S8x128 main_cst_4
  let main_v17 : IVec S8x128 1 := cmpf .olt main_v15 main_v16
  (main_v2, main_v5, main_v8, main_v11, main_v14, main_v17)
-- ==== Kernel.lean ====
abbrev S8192x10240 : Shape := ⟨2, ![8192, 10240]⟩
abbrev S8192x1024 : Shape := ⟨2, ![8192, 1024]⟩
abbrev S1x1024 : Shape := ⟨2, ![1, 1024]⟩
abbrev S8x128x128 : Shape := ⟨3, ![8, 128, 128]⟩
abbrev S8x128 : Shape := ⟨2, ![8, 128]⟩
abbrev S128x8 : Shape := ⟨2, ![128, 8]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S128x512 : Shape := ⟨2, ![128, 512]⟩
abbrev S128x1 : Shape := ⟨2, ![128, 1]⟩
abbrev S128 : Shape := ⟨1, ![128]⟩
abbrev S1024 : Shape := ⟨1, ![1024]⟩

abbrev nBuf : Space → Nat
  | .hbm => 13
  | .vmem => 18
  | .smem => 0
  | _ => 0

abbrev bufTy : (tb : Table) → Fin (tcTables nBuf tb) → BufTy
  | .hbm, ⟨0, _⟩ => ⟨S8192x10240, .bf16⟩
  | .hbm, ⟨1, _⟩ => ⟨S8192x1024, .bf16⟩
  | .hbm, ⟨2, _⟩ => ⟨S1x1024, .f32⟩
  | .hbm, ⟨3, _⟩ => ⟨S1x1024, .f32⟩
  | .hbm, ⟨4, _⟩ => ⟨S8x128x128, .f32⟩
  | .hbm, ⟨5, _⟩ => ⟨S8x128, .f32⟩
  | .hbm, ⟨6, _⟩ => ⟨S8192x10240, .bf16⟩
  | .hbm, ⟨7, _⟩ => ⟨S128x8, .f32⟩
  | .hbm, ⟨8, _⟩ => ⟨S8192x10240, .bf16⟩
  | .hbm, ⟨9, _⟩ => ⟨S8x128x128, .f32⟩
  | .hbm, ⟨10, _⟩ => ⟨S128x8, .f32⟩
  | .hbm, ⟨11, _⟩ => ⟨S1x1024, .f32⟩
  | .hbm, ⟨12, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1x1024, .f32⟩
  | .local _ .vmem, ⟨8, _⟩ => ⟨S8x128x128, .f32⟩
  | .local _ .vmem, ⟨9, _⟩ => ⟨S128x8, .f32⟩
  | .local _ .vmem, ⟨10, _⟩ => ⟨S512x2048, .bf16⟩
  | .local _ .vmem, ⟨11, _⟩ => ⟨S512x2048, .bf16⟩
  | .local _ .vmem, ⟨12, _⟩ => ⟨S8x128x128, .f32⟩
  | .local _ .vmem, ⟨13, _⟩ => ⟨S128x8, .f32⟩
  | .local _ .vmem, ⟨14, _⟩ => ⟨S1x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | _, _ => ⟨S8192x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelIdeal.lean ====
abbrev S8192x10240 : Shape := ⟨2, ![8192, 10240]⟩
abbrev S8192x1024 : Shape := ⟨2, ![8192, 1024]⟩
abbrev S1x1024 : Shape := ⟨2, ![1, 1024]⟩
abbrev S8x128x128 : Shape := ⟨3, ![8, 128, 128]⟩
abbrev S8x128 : Shape := ⟨2, ![8, 128]⟩
abbrev S128x8 : Shape := ⟨2, ![128, 8]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S128x512 : Shape := ⟨2, ![128, 512]⟩
abbrev S128x1 : Shape := ⟨2, ![128, 1]⟩
abbrev S128 : Shape := ⟨1, ![128]⟩
abbrev S1024 : Shape := ⟨1, ![1024]⟩

abbrev nBuf : Space → Nat
  | .hbm => 13
  | .vmem => 18
  | .smem => 0
  | _ => 0

abbrev bufTy : (tb : Table) → Fin (tcTables nBuf tb) → BufTy
  | .hbm, ⟨0, _⟩ => ⟨S8192x10240, .bf16⟩
  | .hbm, ⟨1, _⟩ => ⟨S8192x1024, .bf16⟩
  | .hbm, ⟨2, _⟩ => ⟨S1x1024, .f32⟩
  | .hbm, ⟨3, _⟩ => ⟨S1x1024, .f32⟩
  | .hbm, ⟨4, _⟩ => ⟨S8x128x128, .f32⟩
  | .hbm, ⟨5, _⟩ => ⟨S8x128, .f32⟩
  | .hbm, ⟨6, _⟩ => ⟨S8192x10240, .bf16⟩
  | .hbm, ⟨7, _⟩ => ⟨S128x8, .f32⟩
  | .hbm, ⟨8, _⟩ => ⟨S8192x10240, .bf16⟩
  | .hbm, ⟨9, _⟩ => ⟨S8x128x128, .f32⟩
  | .hbm, ⟨10, _⟩ => ⟨S128x8, .f32⟩
  | .hbm, ⟨11, _⟩ => ⟨S1x1024, .f32⟩
  | .hbm, ⟨12, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1x1024, .f32⟩
  | .local _ .vmem, ⟨8, _⟩ => ⟨S8x128x128, .f32⟩
  | .local _ .vmem, ⟨9, _⟩ => ⟨S128x8, .f32⟩
  | .local _ .vmem, ⟨10, _⟩ => ⟨S512x2048, .bf16⟩
  | .local _ .vmem, ⟨11, _⟩ => ⟨S512x2048, .bf16⟩
  | .local _ .vmem, ⟨12, _⟩ => ⟨S8x128x128, .f32⟩
  | .local _ .vmem, ⟨13, _⟩ => ⟨S128x8, .f32⟩
  | .local _ .vmem, ⟨14, _⟩ => ⟨S1x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | _, _ => ⟨S8192x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F] [Named F]

def κ : String → Option EReal := fun
  | "inv_sqrt2" => some (((Real.sqrt 2)⁻¹ : ℝ) : EReal)
  | "inv_sqrt_2pi" => some (((Real.sqrt (2 * Real.pi))⁻¹ : ℝ) : EReal)
  | _ => none

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S8192x10240 : Shape := ⟨2, ![8192, 10240]⟩
abbrev S8192x1024 : Shape := ⟨2, ![8192, 1024]⟩
abbrev S1x1024 : Shape := ⟨2, ![1, 1024]⟩
abbrev S8x128x128 : Shape := ⟨3, ![8, 128, 128]⟩
abbrev S8x128 : Shape := ⟨2, ![8, 128]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S64x128x8x128 : Shape := ⟨4, ![64, 128, 8, 128]⟩
abbrev S128x128 : Shape := ⟨2, ![128, 128]⟩
abbrev S1x128x128 : Shape := ⟨3, ![1, 128, 128]⟩
abbrev S8x64x128x128 : Shape := ⟨4, ![8, 64, 128, 128]⟩
abbrev S128x8 : Shape := ⟨2, ![128, 8]⟩
abbrev S1x128x8x1 : Shape := ⟨4, ![1, 128, 8, 1]⟩
abbrev S1024 : Shape := ⟨1, ![1024]⟩
abbrev S8192x8192 : Shape := ⟨2, ![8192, 8192]⟩

abbrev nBuf : Space → Nat
  | .hbm => 167
  | .vmem => 0
  | .smem => 0
  | _ => 0

abbrev hbmTy0_0 (i : Nat) : BufTy := match i % 128 with
  | 0 => ⟨S8192x10240, .bf16⟩
  | 1 => ⟨S8192x1024, .bf16⟩
  | 2 => ⟨S1x1024, .f32⟩
  | 3 => ⟨S1x1024, .f32⟩
  | 4 => ⟨S8x128x128, .f32⟩
  | 5 => ⟨S8x128, .f32⟩
  | 6 => ⟨S8192x10240, .bf16⟩
  | 7 => ⟨S8192x2048, .bf16⟩
  | 8 => ⟨S8192x2048, .f32⟩
  | 9 => ⟨S_, .f32⟩
  | 10 => ⟨S8192x2048, .f32⟩
  | 11 => ⟨S8192x2048, .f32⟩
  | 12 => ⟨S8192x2048, .f32⟩
  | 13 => ⟨S_, .f32⟩
  | 14 => ⟨S_, .f32⟩
  | 15 => ⟨S8192x2048, .f32⟩
  | 16 => ⟨S8192x2048, .f32⟩
  | 17 => ⟨S8192x2048, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S8192x2048, .f32⟩
  | 26 => ⟨S8192x2048, .f32⟩
  | 27 => ⟨S8192x2048, .f32⟩
  | 28 => ⟨S8192x2048, .f32⟩
  | 29 => ⟨S8192x1024, .f32⟩
  | 30 => ⟨S8192x1024, .f32⟩
  | 31 => ⟨S_, .f32⟩
  | 32 => ⟨S8192, .f32⟩
  | 33 => ⟨S8192x1, .f32⟩
  | 34 => ⟨S_, .f32⟩
  | 35 => ⟨S8192x1, .f32⟩
  | 36 => ⟨S8192x1, .f32⟩
  | 37 => ⟨S8192x1024, .f32⟩
  | 38 => ⟨S8192x1024, .f32⟩
  | 39 => ⟨S8192x1024, .f32⟩
  | 40 => ⟨S_, .f32⟩
  | 41 => ⟨S8192x1024, .f32⟩
  | 42 => ⟨S8192x1024, .f32⟩
  | 43 => ⟨S_, .f32⟩
  | 44 => ⟨S8192, .f32⟩
  | 45 => ⟨S8192x1, .f32⟩
  | 46 => ⟨S_, .f32⟩
  | 47 => ⟨S8192x1, .f32⟩
  | 48 => ⟨S8192x1, .f32⟩
  | 49 => ⟨S8192x1024, .f32⟩
  | 50 => ⟨S8192x1024, .f32⟩
  | 51 => ⟨S_, .f32⟩
  | 52 => ⟨S8192x1, .f32⟩
  | 53 => ⟨S8192x1, .f32⟩
  | 54 => ⟨S8192x1, .f32⟩
  | 55 => ⟨S8192x1, .f32⟩
  | 56 => ⟨S_, .f32⟩
  | 57 => ⟨S8192x1, .f32⟩
  | 58 => ⟨S8192x1, .f32⟩
  | 59 => ⟨S8192x1024, .f32⟩
  | 60 => ⟨S8192x1024, .f32⟩
  | 61 => ⟨S8192x1024, .f32⟩
  | 62 => ⟨S8192x1024, .f32⟩
  | 63 => ⟨S8192x1024, .f32⟩
  | 64 => ⟨S8192x1024, .f32⟩
  | 65 => ⟨S64x128x8x128, .f32⟩
  | 66 => ⟨S_, .i1⟩
  | 67 => ⟨S128x128, .i1⟩
  | 68 => ⟨S128x128, .i32⟩
  | 69 => ⟨S_, .i32⟩
  | 70 => ⟨S128x128, .i32⟩
  | 71 => ⟨S128x128, .i32⟩
  | 72 => ⟨S128x128, .i32⟩
  | 73 => ⟨S128x128, .i1⟩
  | 74 => ⟨S_, .i1⟩
  | 75 => ⟨S128x128, .i1⟩
  | 76 => ⟨S128x128, .i1⟩
  | 77 => ⟨S1x128x128, .i1⟩
  | 78 => ⟨S_, .f32⟩
  | 79 => ⟨S8x128x128, .f32⟩
  | 80 => ⟨S8x128x128, .i1⟩
  | 81 => ⟨S8x128x128, .f32⟩
  | 82 => ⟨S_, .f32⟩
  | 83 => ⟨S8x128x128, .f32⟩
  | 84 => ⟨S8x64x128x128, .f32⟩
  | 85 => ⟨S64x128x8x128, .f32⟩
  | 86 => ⟨S128x8, .f32⟩
  | 87 => ⟨S1x128x8x1, .f32⟩
  | 88 => ⟨S64x128x8x128, .f32⟩
  | 89 => ⟨S64x128x8x128, .f32⟩
  | 90 => ⟨S8192x1024, .f32⟩
  | 91 => ⟨S8192x1024, .f32⟩
  | 92 => ⟨S8192x1024, .f32⟩
  | 93 => ⟨S8192x1024, .f32⟩
  | 94 => ⟨S8192x1024, .f32⟩
  | 95 => ⟨S64x128x8x128, .f32⟩
  | 96 => ⟨S_, .f32⟩
  | 97 => ⟨S128x8, .f32⟩
  | 98 => ⟨S1x128x8x1, .f32⟩
  | 99 => ⟨S_, .f32⟩
  | 100 => ⟨S128x8, .f32⟩
  | 101 => ⟨S8x128, .f32⟩
  | 102 => ⟨S8x64x128x128, .f32⟩
  | 103 => ⟨S8x128x128, .f32⟩
  | 104 => ⟨S8x64x128x128, .f32⟩
  | 105 => ⟨S64x128x8x128, .f32⟩
  | 106 => ⟨S_, .f32⟩
  | 107 => ⟨S8x128x128, .f32⟩
  | 108 => ⟨S8x128x128, .f32⟩
  | 109 => ⟨S8192x1024, .f32⟩
  | 110 => ⟨S_, .f32⟩
  | 111 => ⟨S1024, .f32⟩
  | 112 => ⟨S1x1024, .f32⟩
  | 113 => ⟨S8192x1024, .f32⟩
  | 114 => ⟨S_, .f32⟩
  | 115 => ⟨S1024, .f32⟩
  | 116 => ⟨S1x1024, .f32⟩
  | 117 => ⟨S8192x1024, .f32⟩
  | 118 => ⟨S8192x1024, .f32⟩
  | 119 => ⟨S8192x1024, .f32⟩
  | 120 => ⟨S_, .f32⟩
  | 121 => ⟨S8192, .f32⟩
  | 122 => ⟨S8192x1, .f32⟩
  | 123 => ⟨S8192x1024, .f32⟩
  | 124 => ⟨S8192x1024, .f32⟩
  | 125 => ⟨S8192x1, .f32⟩
  | 126 => ⟨S8192x1024, .f32⟩
  | 127 => ⟨S_, .f32⟩
  | _ => ⟨S8192x10240, .bf16⟩

abbrev hbmTy0_1 (i : Nat) : BufTy := match i % 128 with
  | 0 => ⟨S8192, .f32⟩
  | 1 => ⟨S8192x1, .f32⟩
  | 2 => ⟨S_, .f32⟩
  | 3 => ⟨S8192x1, .f32⟩
  | 4 => ⟨S8192x1, .f32⟩
  | 5 => ⟨S_, .f32⟩
  | 6 => ⟨S8192, .f32⟩
  | 7 => ⟨S8192x1024, .f32⟩
  | 8 => ⟨S8192x1024, .f32⟩
  | 9 => ⟨S8192x1024, .f32⟩
  | 10 => ⟨S_, .f32⟩
  | 11 => ⟨S8192, .f32⟩
  | 12 => ⟨S8192x1, .f32⟩
  | 13 => ⟨S8192x1024, .f32⟩
  | 14 => ⟨S8192x1, .f32⟩
  | 15 => ⟨S_, .f32⟩
  | 16 => ⟨S8192x1, .f32⟩
  | 17 => ⟨S8192x1, .f32⟩
  | 18 => ⟨S_, .f32⟩
  | 19 => ⟨S8192, .f32⟩
  | 20 => ⟨S8192x1024, .f32⟩
  | 21 => ⟨S8192x1024, .f32⟩
  | 22 => ⟨S8192x2048, .f32⟩
  | 23 => ⟨S8192x2048, .f32⟩
  | 24 => ⟨S8192x2048, .f32⟩
  | 25 => ⟨S8192x2048, .f32⟩
  | 26 => ⟨S8192x2048, .f32⟩
  | 27 => ⟨S8192x2048, .f32⟩
  | 28 => ⟨S8192x2048, .f32⟩
  | 29 => ⟨S8192x2048, .f32⟩
  | 30 => ⟨S8192x2048, .f32⟩
  | 31 => ⟨S_, .f32⟩
  | 32 => ⟨S8192x2048, .f32⟩
  | 33 => ⟨S8192x2048, .f32⟩
  | 34 => ⟨S8192x2048, .f32⟩
  | 35 => ⟨S8192x2048, .bf16⟩
  | 36 => ⟨S8192x8192, .bf16⟩
  | 37 => ⟨S8192x10240, .bf16⟩
  | 38 => ⟨S128x8, .f32⟩
  | _ => ⟨S8192x10240, .bf16⟩

abbrev hbmTy (i : Nat) : BufTy := match i / 128 with
  | 0 => hbmTy0_0 i
  | 1 => hbmTy0_1 i
  | _ => ⟨S8192x10240, .bf16⟩

abbrev bufTy : (tb : Table) → Fin (tcTables nBuf tb) → BufTy
  | .hbm, ⟨i, _⟩ => hbmTy i
  | _, _ => ⟨S8192x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_9 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_10 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c : Ref sig .tc := ⟨.hbm, 66, rfl⟩
abbrev main_v47 : Ref sig .tc := ⟨.hbm, 67, rfl⟩
abbrev main_call0_v0 : Ref sig .tc := ⟨.hbm, 68, rfl⟩
abbrev main_call0_c : Ref sig .tc := ⟨.hbm, 69, rfl⟩
abbrev main_call0_v1 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_call0_c_0 : Ref sig .tc := ⟨.hbm, 74, rfl⟩
abbrev main_call0_v5 : Ref sig .tc := ⟨.hbm, 75, rfl⟩
abbrev main_v48 : Ref sig .tc := ⟨.hbm, 76, rfl⟩
abbrev main_v49 : Ref sig .tc := ⟨.hbm, 77, rfl⟩
abbrev main_cst_11 : Ref sig .tc := ⟨.hbm, 78, rfl⟩
abbrev main_v50 : Ref sig .tc := ⟨.hbm, 79, rfl⟩
abbrev main_v51_1 : Ref sig .tc := ⟨.hbm, 80, rfl⟩
abbrev main_v51_0 : Ref sig .tc := ⟨.hbm, 81, rfl⟩
abbrev main_call1_cst : Ref sig .tc := ⟨.hbm, 82, rfl⟩
abbrev main_v51_2 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_12 : Ref sig .tc := ⟨.hbm, 96, rfl⟩
abbrev main_v64 : Ref sig .tc := ⟨.hbm, 97, rfl⟩
abbrev main_v65 : Ref sig .tc := ⟨.hbm, 98, rfl⟩
abbrev main_cst_13 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_call2_cst : Ref sig .tc := ⟨.hbm, 106, rfl⟩
abbrev main_call2_v0 : Ref sig .tc := ⟨.hbm, 107, rfl⟩
abbrev main_v72 : Ref sig .tc := ⟨.hbm, 108, rfl⟩
abbrev main_v73 : Ref sig .tc := ⟨.hbm, 109, rfl⟩
abbrev main_cst_14 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_15 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_16 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_17 : Ref sig .tc := ⟨.hbm, 127, rfl⟩
abbrev main_v88 : Ref sig .tc := ⟨.hbm, 128, rfl⟩
abbrev main_v89 : Ref sig .tc := ⟨.hbm, 129, rfl⟩
abbrev main_cst_18 : Ref sig .tc := ⟨.hbm, 130, rfl⟩
abbrev main_v90 : Ref sig .tc := ⟨.hbm, 131, rfl⟩
abbrev main_v91 : Ref sig .tc := ⟨.hbm, 132, rfl⟩
abbrev main_cst_19 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_20 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_cst_21 : Ref sig .tc := ⟨.hbm, 143, rfl⟩
abbrev main_v100 : Ref sig .tc := ⟨.hbm, 144, rfl⟩
abbrev main_v101 : Ref sig .tc := ⟨.hbm, 145, rfl⟩
abbrev main_cst_22 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_cst_23 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩

abbrev nD : Nat := 1
abbrev τ : Topo := Topo.v7x

variable {F : FTy → Type} [FloatOps F]
-- ==== Dx.lean ====
abbrev S8192x10240 : Shape := ⟨2, ![8192, 10240]⟩
abbrev S10240x1024 : Shape := ⟨2, ![10240, 1024]⟩
abbrev S8192x1024 : Shape := ⟨2, ![8192, 1024]⟩
abbrev S1x1024 : Shape := ⟨2, ![1, 1024]⟩
abbrev S8192x128 : Shape := ⟨2, ![8192, 128]⟩
abbrev S32x1024 : Shape := ⟨2, ![32, 1024]⟩
abbrev S_ : Shape := ⟨0, ![]⟩
abbrev S128x1024 : Shape := ⟨2, ![128, 1024]⟩
abbrev S1024x2048 : Shape := ⟨2, ![1024, 2048]⟩
abbrev S2048x1024 : Shape := ⟨2, ![2048, 1024]⟩
abbrev S1024x1024 : Shape := ⟨2, ![1024, 1024]⟩
abbrev S1024x128 : Shape := ⟨2, ![1024, 128]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S1024 : Shape := ⟨1, ![1024]⟩

abbrev nBuf : Space → Nat
  | .hbm => 12
  | .vmem => 16
  | .smem => 0
  | _ => 0

abbrev bufTy : (tb : Table) → Fin (tcTables nBuf tb) → BufTy
  | .hbm, ⟨0, _⟩ => ⟨S8192x10240, .bf16⟩
  | .hbm, ⟨1, _⟩ => ⟨S10240x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x128, .bf16⟩
  | .hbm, ⟨6, _⟩ => ⟨S32x1024, .bf16⟩
  | .hbm, ⟨7, _⟩ => ⟨S_, .i32⟩
  | .hbm, ⟨8, _⟩ => ⟨S_, .bf16⟩
  | .hbm, ⟨9, _⟩ => ⟨S128x1024, .bf16⟩
  | .hbm, ⟨10, _⟩ => ⟨S8192x1024, .f32⟩
  | .hbm, ⟨11, _⟩ => ⟨S1x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x128, .bf16⟩
  | .local _ .vmem, ⟨10, _⟩ => ⟨S1024x128, .bf16⟩
  | .local _ .vmem, ⟨11, _⟩ => ⟨S128x1024, .bf16⟩
  | .local _ .vmem, ⟨12, _⟩ => ⟨S1024x1024, .f32⟩
  | .local _ .vmem, ⟨13, _⟩ => ⟨S1024x1024, .f32⟩
  | .local _ .vmem, ⟨14, _⟩ => ⟨S1x1024, .f32⟩
  | .local _ .vmem, ⟨15, _⟩ => ⟨S1024x1024, .f32⟩
  | _, _ => ⟨S8192x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨3, ![8, 1, 5], ![false, false, false]⟩

def k0_cond3 (i : grid0.Coords) : BitVec 1 :=
  let arg2 : BitVec 32 := BitVec.ofNat 32 (i 2).val
  let c4_i32 : BitVec 32 := 4#32
  let v10 : BitVec 1 := Scalar.cmpi .eq arg2 c4_i32
  let v11 : BitVec 32 := Scalar.extui v10
  let c0_i32_7 : BitVec 32 := 0#32
  let v12 : BitVec 1 := Scalar.cmpi .ne v11 c0_i32_7
  v12

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v163 : BitVec 32 := Scalar.extui v0
  let c0_i32_84 : BitVec 32 := 0#32
  let v164 : BitVec 1 := Scalar.cmpi .ne v163 c0_i32_84
  v164

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]
-- ==== DxRefIdeal.lean ====
abbrev S8192x10240 : Shape := ⟨2, ![8192, 10240]⟩
abbrev S10240x1024 : Shape := ⟨2, ![10240, 1024]⟩
abbrev S8192x1024 : Shape := ⟨2, ![8192, 1024]⟩
abbrev S1x1024 : Shape := ⟨2, ![1, 1024]⟩
abbrev S8192x128 : Shape := ⟨2, ![8192, 128]⟩
abbrev S32x1024 : Shape := ⟨2, ![32, 1024]⟩
abbrev S2048x1024 : Shape := ⟨2, ![2048, 1024]⟩
abbrev S10272x1024 : Shape := ⟨2, ![10272, 1024]⟩
abbrev S1024x10272 : Shape := ⟨2, ![1024, 10272]⟩
abbrev S8192x8192 : Shape := ⟨2, ![8192, 8192]⟩
abbrev S8192x32 : Shape := ⟨2, ![8192, 32]⟩
abbrev S8192x2048 : Shape := ⟨2, ![8192, 2048]⟩
abbrev S8192x10272 : Shape := ⟨2, ![8192, 10272]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 62
  | .vmem => 0
  | .smem => 0
  | _ => 0

abbrev bufTy : (tb : Table) → Fin (tcTables nBuf tb) → BufTy
  | .hbm, ⟨0, _⟩ => ⟨S8192x10240, .bf16⟩
  | .hbm, ⟨1, _⟩ => ⟨S10240x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x128, .bf16⟩
  | .hbm, ⟨6, _⟩ => ⟨S32x1024, .bf16⟩
  | .hbm, ⟨7, _⟩ => ⟨S8192x1024, .bf16⟩
  | .hbm, ⟨8, _⟩ => ⟨S2048x1024, .bf16⟩
  | .hbm, ⟨9, _⟩ => ⟨S10272x1024, .bf16⟩
  | .hbm, ⟨10, _⟩ => ⟨S1024x10272, .bf16⟩
  | .hbm, ⟨11, _⟩ => ⟨S1024x10272, .f32⟩
  | .hbm, ⟨12, _⟩ => ⟨S8192x8192, .bf16⟩
  | .hbm, ⟨13, _⟩ => ⟨S8192x32, .bf16⟩
  | .hbm, ⟨14, _⟩ => ⟨S8192x2048, .bf16⟩
  | .hbm, ⟨15, _⟩ => ⟨S8192x10272, .bf16⟩
  | .hbm, ⟨16, _⟩ => ⟨S8192x10272, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x10272, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S_, .f32⟩
  | .hbm, ⟨56, _⟩ => ⟨S8192, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | _, _ => ⟨S8192x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== Dmlp.lean ====
abbrev S8192x4096 : Shape := ⟨2, ![8192, 4096]⟩
abbrev S1024x4096 : Shape := ⟨2, ![1024, 4096]⟩
abbrev S8192x1024 : Shape := ⟨2, ![8192, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== DmlpRefIdeal.lean ====
abbrev S8192x4096 : Shape := ⟨2, ![8192, 4096]⟩
abbrev S1024x4096 : Shape := ⟨2, ![1024, 4096]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1024x4096, .f32⟩
  | .hbm, ⟨25, _⟩ => ⟨S8192x4096, .f32⟩
  | .hbm, ⟨26, _⟩ => ⟨S8192x4096, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Dact.lean ====
abbrev S8192x1024 : Shape := ⟨2, ![8192, 1024]⟩
abbrev S4096x1024 : Shape := ⟨2, ![4096, 1024]⟩
abbrev S8192x4096 : Shape := ⟨2, ![8192, 4096]⟩
abbrev S_ : Shape := ⟨0, ![]⟩
abbrev S2048x1024 : Shape := ⟨2, ![2048, 1024]⟩
abbrev S1024x1024 : Shape := ⟨2, ![1024, 1024]⟩

abbrev nBuf : Space → Nat
  | .hbm => 10
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S4096x1024, .bf16⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .bf16⟩
  | .hbm, ⟨8, _⟩ => ⟨S8192x1024, .bf16⟩
  | .hbm, ⟨9, _⟩ => ⟨S8192x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DactRefIdeal.lean ====
abbrev S8192x1024 : Shape := ⟨2, ![8192, 1024]⟩
abbrev S4096x1024 : Shape := ⟨2, ![4096, 1024]⟩
abbrev S8192x4096 : Shape := ⟨2, ![8192, 4096]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4096x1024, .bf16⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .i1⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S4096x1024, .f32⟩
  | .hbm, ⟨16, _⟩ => ⟨S8192x1024, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S8192x4096, .f32⟩
  | .hbm, ⟨21, _⟩ => ⟨S8192x4096, .f32⟩
  | .hbm, ⟨22, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== Gdown.lean ====
abbrev S8192x4096 : Shape := ⟨2, ![8192, 4096]⟩
abbrev S8192x1024 : Shape := ⟨2, ![8192, 1024]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GdownRefIdeal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S_, .f32⟩
  | .hbm, ⟨3, _⟩ => ⟨S4096x1024, .f32⟩
  | .hbm, ⟨4, _⟩ => ⟨S8192x4096, .f32⟩
  | .hbm, ⟨5, _⟩ => ⟨S8192x1024, .f32⟩
  | .hbm, ⟨6, _⟩ => ⟨S8192x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Gup.lean ====
abbrev S8192x1024 : Shape := ⟨2, ![8192, 1024]⟩
abbrev S8192x4096 : Shape := ⟨2, ![8192, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GupRefIdeal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S_, .f32⟩
  | .hbm, ⟨3, _⟩ => ⟨S1024x4096, .f32⟩
  | .hbm, ⟨4, _⟩ => ⟨S8192x1024, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Gin.lean ====
abbrev S8192x10240 : Shape := ⟨2, ![8192, 10240]⟩
abbrev S8192x1024 : Shape := ⟨2, ![8192, 1024]⟩
abbrev S10240x1024 : Shape := ⟨2, ![10240, 1024]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x10240, .bf16⟩
  | .hbm, ⟨1, _⟩ => ⟨S8192x1024, .bf16⟩
  | .hbm, ⟨2, _⟩ => ⟨S10240x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![10, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GinRefIdeal.lean ====
abbrev S8192x10240 : Shape := ⟨2, ![8192, 10240]⟩
abbrev S8192x1024 : Shape := ⟨2, ![8192, 1024]⟩
abbrev S_ : Shape := ⟨0, ![]⟩
abbrev S10240x1024 : Shape := ⟨2, ![10240, 1024]⟩
abbrev S1024x10240 : Shape := ⟨2, ![1024, 10240]⟩

abbrev nBuf : Space → Nat
  | .hbm => 12
  | .vmem => 0
  | .smem => 0
  | _ => 0

abbrev bufTy : (tb : Table) → Fin (tcTables nBuf tb) → BufTy
  | .hbm, ⟨0, _⟩ => ⟨S8192x10240, .bf16⟩
  | .hbm, ⟨1, _⟩ => ⟨S8192x1024, .bf16⟩
  | .hbm, ⟨2, _⟩ => ⟨S_, .f32⟩
  | .hbm, ⟨3, _⟩ => ⟨S10240x1024, .f32⟩
  | .hbm, ⟨4, _⟩ => ⟨S8192x1024, .f32⟩
  | .hbm, ⟨5, _⟩ => ⟨S1024x10240, .f32⟩
  | .hbm, ⟨6, _⟩ => ⟨S8192x10240, .f32⟩
  | .hbm, ⟨7, _⟩ => ⟨S8192x10240, .f32⟩
  | .hbm, ⟨8, _⟩ => ⟨S10240x1024, .f32⟩
  | .hbm, ⟨9, _⟩ => ⟨S1024x10240, .f32⟩
  | .hbm, ⟨10, _⟩ => ⟨S10240x1024, .f32⟩
  | .hbm, ⟨11, _⟩ => ⟨S10240x1024, .bf16⟩
  | _, _ => ⟨S8192x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Proj.lean ====
abbrev S8192x1024 : Shape := ⟨2, ![8192, 1024]⟩
abbrev S10240x1024 : Shape := ⟨2, ![10240, 1024]⟩
abbrev S8192x10240 : Shape := ⟨2, ![8192, 10240]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S10240x1024, .bf16⟩
  | .hbm, ⟨2, _⟩ => ⟨S8192x10240, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 10, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S8192x1024 : Shape := ⟨2, ![8192, 1024]⟩
abbrev S10240x1024 : Shape := ⟨2, ![10240, 1024]⟩
abbrev S1024x10240 : Shape := ⟨2, ![1024, 10240]⟩
abbrev S8192x10240 : Shape := ⟨2, ![8192, 10240]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S10240x1024, .bf16⟩
  | .hbm, ⟨2, _⟩ => ⟨S8192x1024, .f32⟩
  | .hbm, ⟨3, _⟩ => ⟨S1024x10240, .bf16⟩
  | .hbm, ⟨4, _⟩ => ⟨S1024x10240, .f32⟩
  | .hbm, ⟨5, _⟩ => ⟨S8192x10240, .f32⟩
  | .hbm, ⟨6, _⟩ => ⟨S8192x10240, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Up.lean ====
abbrev S8192x1024 : Shape := ⟨2, ![8192, 1024]⟩
abbrev S1024x4096 : Shape := ⟨2, ![1024, 4096]⟩
abbrev S8192x4096 : Shape := ⟨2, ![8192, 4096]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x1024, .f32⟩
  | .hbm, ⟨3, _⟩ => ⟨S1024x4096, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Pa.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PaRefIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Gout.lean ====
abbrev S8192x1024 : Shape := ⟨2, ![8192, 1024]⟩
abbrev S1024x1024 : Shape := ⟨2, ![1024, 1024]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GoutRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Gpa.lean ====
abbrev S8192x1024 : Shape := ⟨2, ![8192, 1024]⟩
abbrev S1024x1024 : Shape := ⟨2, ![1024, 1024]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GpaRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Gpb.lean ====
abbrev S8192x2048 : Shape := ⟨2, ![8192, 2048]⟩
abbrev S8192x1024 : Shape := ⟨2, ![8192, 1024]⟩
abbrev S2048x1024 : Shape := ⟨2, ![2048, 1024]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GpbRefIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S_, .f32⟩
  | .hbm, ⟨3, _⟩ => ⟨S2048x1024, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dya.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DyaRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dyb.lean ====
abbrev S8192x1024 : Shape := ⟨2, ![8192, 1024]⟩
abbrev S2048x1024 : Shape := ⟨2, ![2048, 1024]⟩
abbrev S8192x2048 : Shape := ⟨2, ![8192, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DybRefIdeal.lean ====
abbrev S8192x1024 : Shape := ⟨2, ![8192, 1024]⟩
abbrev S2048x1024 : Shape := ⟨2, ![2048, 1024]⟩
abbrev S_ : Shape := ⟨0, ![]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S_, .f32⟩
  | .hbm, ⟨3, _⟩ => ⟨S8192x2048, .f32⟩
  | .hbm, ⟨4, _⟩ => ⟨S2048x1024, .f32⟩
  | .hbm, ⟨5, _⟩ => ⟨S8192x1024, .f32⟩
  | .hbm, ⟨6, _⟩ => ⟨S8192x1024, .f32⟩
  | .hbm, ⟨7, _⟩ => ⟨S8192x2048, .f32⟩
  | .hbm, ⟨8, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Pb.lean ====
abbrev S8192x2048 : Shape := ⟨2, ![8192, 2048]⟩
abbrev S2048x1024 : Shape := ⟨2, ![2048, 1024]⟩
abbrev S8192x1024 : Shape := ⟨2, ![8192, 1024]⟩
abbrev S8192x10240 : Shape := ⟨2, ![8192, 10240]⟩
abbrev S1x2048 : Shape := ⟨2, ![1, 2048]⟩
abbrev S512x2048 : Shape := ⟨2, ![512, 2048]⟩
abbrev S512x1024 : Shape := ⟨2, ![512, 1024]⟩
abbrev S1x1024 : Shape := ⟨2, ![1, 1024]⟩

abbrev nBuf : Space → Nat
  | .hbm => 7
  | .vmem => 15
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .bf16⟩
  | .hbm, ⟨3, _⟩ => ⟨S8192x10240, .bf16⟩
  | .hbm, ⟨4, _⟩ => ⟨S1x2048, .f32⟩
  | .hbm, ⟨5, _⟩ => ⟨S8192x1024, .bf16⟩
  | .hbm, ⟨6, _⟩ => ⟨S8192x1024, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S1x1024, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let c0_i32 : BitVec 32 := 0#32
  ![arg0.toNat, c8_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let c0_i32 : BitVec 32 := 0#32
  ![arg0.toNat, c9_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  ![c0_i32.toNat, c1_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== PbRefIdeal.lean ====
abbrev S8192x2048 : Shape := ⟨2, ![8192, 2048]⟩
abbrev S2048x1024 : Shape := ⟨2, ![2048, 1024]⟩
abbrev S8192x1024 : Shape := ⟨2, ![8192, 1024]⟩
abbrev S8192x10240 : Shape := ⟨2, ![8192, 10240]⟩
abbrev S1x2048 : Shape := ⟨2, ![1, 2048]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .bf16⟩
  | .hbm, ⟨3, _⟩ => ⟨S8192x10240, .bf16⟩
  | .hbm, ⟨4, _⟩ => ⟨S1x2048, .f32⟩
  | .hbm, ⟨5, _⟩ => ⟨S8192x2048, .f32⟩
  | .hbm, ⟨6, _⟩ => ⟨S2048x1024, .f32⟩
  | .hbm, ⟨7, _⟩ => ⟨S8192x1024, .f32⟩
  | .hbm, ⟨8, _⟩ => ⟨S8192x1024, .bf16⟩
  | .hbm, ⟨9, _⟩ => ⟨S8192x1024, .f32⟩
  | .hbm, ⟨10, _⟩ => ⟨S8192x2048, .bf16⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Outp.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OutpRefIdeal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Down.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S1x128 : Shape := ⟨2, ![1, 128]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1 : Shape := ⟨1, ![1]⟩
abbrev S1x1 : Shape := ⟨2, ![1, 1]⟩

abbrev nBuf : Space → Nat
  | .hbm => 10
  | .vmem => 15
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .hbm, ⟨8, _⟩ => ⟨S1x1024, .f32⟩
  | .hbm, ⟨9, _⟩ => ⟨S1x128, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | .local _ .vmem, ⟨14, _⟩ => ⟨S1x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]
-- ==== DownRefIdeal.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x4096, .f32⟩
  | .hbm, ⟨6, _⟩ => ⟨S4096x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S8192x1024, .f32⟩
  | .hbm, ⟨62, _⟩ => ⟨S8192x1024, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S_, .f32⟩
  | .hbm, ⟨68, _⟩ => ⟨S8192, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .bf16⟩
  | .hbm, ⟨75, _⟩ => ⟨S1x128, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== Ac.lean ====
abbrev S4x512 : Shape := ⟨2, ![4, 512]⟩
abbrev S1x4x512 : Shape := ⟨3, ![1, 4, 512]⟩

abbrev nBuf : Space → Nat
  | .hbm => 9
  | .vmem => 8
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S1x4x512, .f32⟩
  | .hbm, ⟨5, _⟩ => ⟨S4x512, .f32⟩
  | .hbm, ⟨6, _⟩ => ⟨S4x512, .f32⟩
  | .hbm, ⟨7, _⟩ => ⟨S4x512, .f32⟩
  | .hbm, ⟨8, _⟩ => ⟨S4x512, .f32⟩
  | .local _ .vmem, ⟨0, _⟩ => ⟨S1x4x512, .f32⟩
  | .local _ .vmem, ⟨1, _⟩ => ⟨S4x512, .f32⟩
  | .local _ .vmem, ⟨2, _⟩ => ⟨S4x512, .f32⟩
  | .local _ .vmem, ⟨3, _⟩ => ⟨S4x512, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | .local _ .vmem, ⟨7, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S4x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AcIdeal.lean ====
variable {F : FTy → Type} [FloatOps F] [Named F]
def κ : String → Option EReal := fun
  | "m_hat" => some ((8388608 / 5463681 : ℝ) : EReal)
  | "v_hat" => some ((268435456 / 2672307 : ℝ) : EReal)
  | _ => none
-- ==== AcRefIdeal.lean ====
abbrev S4x512 : Shape := ⟨2, ![4, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S_, .f32⟩
  | .hbm, ⟨5, _⟩ => ⟨S4x512, .f32⟩
  | .hbm, ⟨6, _⟩ => ⟨S4x512, .f32⟩
  | .hbm, ⟨7, _⟩ => ⟨S_, .f32⟩
  | .hbm, ⟨8, _⟩ => ⟨S4x512, .f32⟩
  | .hbm, ⟨9, _⟩ => ⟨S4x512, .f32⟩
  | .hbm, ⟨10, _⟩ => ⟨S4x512, .f32⟩
  | .hbm, ⟨11, _⟩ => ⟨S_, .f32⟩
  | .hbm, ⟨12, _⟩ => ⟨S4x512, .f32⟩
  | .hbm, ⟨13, _⟩ => ⟨S4x512, .f32⟩
  | .hbm, ⟨14, _⟩ => ⟨S4x512, .f32⟩
  | .hbm, ⟨15, _⟩ => ⟨S_, .f32⟩
  | .hbm, ⟨16, _⟩ => ⟨S4x512, .f32⟩
  | .hbm, ⟨17, _⟩ => ⟨S4x512, .f32⟩
  | .hbm, ⟨18, _⟩ => ⟨S4x512, .f32⟩
  | .hbm, ⟨19, _⟩ => ⟨S_, .f32⟩
  | .hbm, ⟨20, _⟩ => ⟨S4x512, .f32⟩
  | .hbm, ⟨21, _⟩ => ⟨S4x512, .f32⟩
  | .hbm, ⟨22, _⟩ => ⟨S_, .f32⟩
  | .hbm, ⟨23, _⟩ => ⟨S4x512, .f32⟩
  | .hbm, ⟨24, _⟩ => ⟨S4x512, .f32⟩
  | .hbm, ⟨25, _⟩ => ⟨S4x512, .f32⟩
  | .hbm, ⟨26, _⟩ => ⟨S_, .f32⟩
  | .hbm, ⟨27, _⟩ => ⟨S4x512, .f32⟩
  | .hbm, ⟨28, _⟩ => ⟨S4x512, .f32⟩
  | .hbm, ⟨29, _⟩ => ⟨S4x512, .f32⟩
  | .hbm, ⟨30, _⟩ => ⟨S_, .f32⟩
  | .hbm, ⟨31, _⟩ => ⟨S4x512, .f32⟩
  | .hbm, ⟨32, _⟩ => ⟨S4x512, .f32⟩
  | .hbm, ⟨33, _⟩ => ⟨S4x512, .f32⟩
  | .hbm, ⟨34, _⟩ => ⟨S_, .f32⟩
  | .hbm, ⟨35, _⟩ => ⟨S4x512, .f32⟩
  | .hbm, ⟨36, _⟩ => ⟨S4x512, .f32⟩
  | _, _ => ⟨S4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Ain.lean ====
abbrev S4x1284x1024 : Shape := ⟨3, ![4, 1284, 1024]⟩
abbrev S1 : Shape := ⟨1, ![1]⟩
abbrev S1284x1024 : Shape := ⟨2, ![1284, 1024]⟩
abbrev S4x1284x128 : Shape := ⟨3, ![4, 1284, 128]⟩
abbrev S1284x128 : Shape := ⟨2, ![1284, 128]⟩
abbrev S1x1284x128 : Shape := ⟨3, ![1, 1284, 128]⟩

abbrev nBuf : Space → Nat
  | .hbm => 9
  | .vmem => 18
  | .smem => 1
  | _ => 0

abbrev bufTy : (tb : Table) → Fin (tcTables nBuf tb) → BufTy
  | .hbm, ⟨0, _⟩ => ⟨S4x1284x1024, .bf16⟩
  | .hbm, ⟨1, _⟩ => ⟨S4x1284x1024, .bf16⟩
  | .hbm, ⟨2, _⟩ => ⟨S1284x1024, .f32⟩
  | .hbm, ⟨3, _⟩ => ⟨S1284x1024, .f32⟩
  | .hbm, ⟨4, _⟩ => ⟨S1284x1024, .f32⟩
  | .hbm, ⟨5, _⟩ => ⟨S1284x1024, .f32⟩
  | .hbm, ⟨6, _⟩ => ⟨S1284x1024, .f32⟩
  | .hbm, ⟨7, _⟩ => ⟨S1284x1024, .f32⟩
  | .hbm, ⟨8, _⟩ => ⟨S1284x1024, .f32⟩
  | .local _ .vmem, ⟨0, _⟩ => ⟨S4x1284x128, .bf16⟩
  | .local _ .vmem, ⟨1, _⟩ => ⟨S4x1284x128, .bf16⟩
  | .local _ .vmem, ⟨2, _⟩ => ⟨S4x1284x128, .bf16⟩
  | .local _ .vmem, ⟨3, _⟩ => ⟨S4x1284x128, .bf16⟩
  | .local _ .vmem, ⟨4, _⟩ => ⟨S1284x128, .f32⟩
  | .local _ .vmem, ⟨5, _⟩ => ⟨S1284x128, .f32⟩
  | .local _ .vmem, ⟨6, _⟩ => ⟨S1284x128, .f32⟩
  | .local _ .vmem, ⟨7, _⟩ => ⟨S1284x128, .f32⟩
  | .local _ .vmem, ⟨8, _⟩ => ⟨S1284x128, .f32⟩
  | .local _ .vmem, ⟨9, _⟩ => ⟨S1284x128, .f32⟩
  | .local _ .vmem, ⟨10, _⟩ => ⟨S1284x128, .f32⟩
  | .local _ .vmem, ⟨11, _⟩ => ⟨S1284x128, .f32⟩
  | .local _ .vmem, ⟨12, _⟩ => ⟨S1284x128, .f32⟩
  | .local _ .vmem, ⟨13, _⟩ => ⟨S1284x128, .f32⟩
  | .local _ .vmem, ⟨14, _⟩ => ⟨S1284x128, .f32⟩
  | .local _ .vmem, ⟨15, _⟩ => ⟨S1284x128, .f32⟩
  | .local _ .vmem, ⟨16, _⟩ => ⟨S1284x128, .f32⟩
  | .local _ .vmem, ⟨17, _⟩ => ⟨S1284x128, .f32⟩
  | .local _ .smem, ⟨0, _⟩ => ⟨S1, .i32⟩
  | _, _ => ⟨S4x1284x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 8], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4x1284x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1284x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1284x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1284x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1284x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1284x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1284x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1284x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1284x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AinIdeal.lean ====
abbrev S4x1284x1024 : Shape := ⟨3, ![4, 1284, 1024]⟩
abbrev S1 : Shape := ⟨1, ![1]⟩
abbrev S1284x1024 : Shape := ⟨2, ![1284, 1024]⟩
abbrev S4x1284x128 : Shape := ⟨3, ![4, 1284, 128]⟩
abbrev S1284x128 : Shape := ⟨2, ![1284, 128]⟩
abbrev S1x1284x128 : Shape := ⟨3, ![1, 1284, 128]⟩

abbrev nBuf : Space → Nat
  | .hbm => 9
  | .vmem => 18
  | .smem => 1
  | _ => 0

abbrev bufTy : (tb : Table) → Fin (tcTables nBuf tb) → BufTy
  | .hbm, ⟨0, _⟩ => ⟨S4x1284x1024, .bf16⟩
  | .hbm, ⟨1, _⟩ => ⟨S4x1284x1024, .bf16⟩
  | .hbm, ⟨2, _⟩ => ⟨S1284x1024, .f32⟩
  | .hbm, ⟨3, _⟩ => ⟨S1284x1024, .f32⟩
  | .hbm, ⟨4, _⟩ => ⟨S1284x1024, .f32⟩
  | .hbm, ⟨5, _⟩ => ⟨S1284x1024, .f32⟩
  | .hbm, ⟨6, _⟩ => ⟨S1284x1024, .f32⟩
  | .hbm, ⟨7, _⟩ => ⟨S1284x1024, .f32⟩
  | .hbm, ⟨8, _⟩ => ⟨S1284x1024, .f32⟩
  | .local _ .vmem, ⟨0, _⟩ => ⟨S4x1284x128, .bf16⟩
  | .local _ .vmem, ⟨1, _⟩ => ⟨S4x1284x128, .bf16⟩
  | .local _ .vmem, ⟨2, _⟩ => ⟨S4x1284x128, .bf16⟩
  | .local _ .vmem, ⟨3, _⟩ => ⟨S4x1284x128, .bf16⟩
  | .local _ .vmem, ⟨4, _⟩ => ⟨S1284x128, .f32⟩
  | .local _ .vmem, ⟨5, _⟩ => ⟨S1284x128, .f32⟩
  | .local _ .vmem, ⟨6, _⟩ => ⟨S1284x128, .f32⟩
  | .local _ .vmem, ⟨7, _⟩ => ⟨S1284x128, .f32⟩
  | .local _ .vmem, ⟨8, _⟩ => ⟨S1284x128, .f32⟩
  | .local _ .vmem, ⟨9, _⟩ => ⟨S1284x128, .f32⟩
  | .local _ .vmem, ⟨10, _⟩ => ⟨S1284x128, .f32⟩
  | .local _ .vmem, ⟨11, _⟩ => ⟨S1284x128, .f32⟩
  | .local _ .vmem, ⟨12, _⟩ => ⟨S1284x128, .f32⟩
  | .local _ .vmem, ⟨13, _⟩ => ⟨S1284x128, .f32⟩
  | .local _ .vmem, ⟨14, _⟩ => ⟨S1284x128, .f32⟩
  | .local _ .vmem, ⟨15, _⟩ => ⟨S1284x128, .f32⟩
  | .local _ .vmem, ⟨16, _⟩ => ⟨S1284x128, .f32⟩
  | .local _ .vmem, ⟨17, _⟩ => ⟨S1284x128, .f32⟩
  | .local _ .smem, ⟨0, _⟩ => ⟨S1, .i32⟩
  | _, _ => ⟨S4x1284x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "m_hat" => some ((8388608 / 5463681 : ℝ) : EReal)
  | "v_hat" => some ((268435456 / 2672307 : ℝ) : EReal)
  | _ => none

abbrev grid0 : Pipeline.Grid := ⟨2, ![1, 8], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4x1284x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1284x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1284x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1284x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1284x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1284x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1284x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1284x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1284x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AinRefIdeal.lean ====
abbrev S4x1284x1024 : Shape := ⟨3, ![4, 1284, 1024]⟩
abbrev S1 : Shape := ⟨1, ![1]⟩
abbrev S1284x1024 : Shape := ⟨2, ![1284, 1024]⟩
abbrev S4 : Shape := ⟨1, ![4]⟩
abbrev S4x1x1 : Shape := ⟨3, ![4, 1, 1]⟩
abbrev S1x1x1 : Shape := ⟨3, ![1, 1, 1]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S4x1284x1024, .bf16⟩
  | .hbm, ⟨1, _⟩ => ⟨S4x1284x1024, .bf16⟩
  | .hbm, ⟨2, _⟩ => ⟨S1, .i32⟩
  | .hbm, ⟨3, _⟩ => ⟨S1284x1024, .f32⟩
  | .hbm, ⟨4, _⟩ => ⟨S1284x1024, .f32⟩
  | .hbm, ⟨5, _⟩ => ⟨S1284x1024, .f32⟩
  | .hbm, ⟨6, _⟩ => ⟨S4, .i32⟩
  | .hbm, ⟨7, _⟩ => ⟨S4x1x1, .i32⟩
  | .hbm, ⟨8, _⟩ => ⟨S1x1x1, .i32⟩
  | .hbm, ⟨9, _⟩ => ⟨S4x1x1, .i32⟩
  | .hbm, ⟨10, _⟩ => ⟨S4x1x1, .i1⟩
  | .hbm, ⟨11, _⟩ => ⟨S4x1284x1024, .i1⟩
  | .hbm, ⟨12, _⟩ => ⟨S4x1284x1024, .bf16⟩
  | .hbm, ⟨13, _⟩ => ⟨S4x1284x1024, .f32⟩
  | .hbm, ⟨14, _⟩ => ⟨S_, .f32⟩
  | .hbm, ⟨15, _⟩ => ⟨S1284x1024, .f32⟩
  | .hbm, ⟨16, _⟩ => ⟨S_, .f32⟩
  | .hbm, ⟨17, _⟩ => ⟨S1284x1024, .f32⟩
  | .hbm, ⟨18, _⟩ => ⟨S1284x1024, .f32⟩
  | .hbm, ⟨19, _⟩ => ⟨S_, .f32⟩
  | .hbm, ⟨20, _⟩ => ⟨S1284x1024, .f32⟩
  | .hbm, ⟨21, _⟩ => ⟨S1284x1024, .f32⟩
  | .hbm, ⟨22, _⟩ => ⟨S1284x1024, .f32⟩
  | .hbm, ⟨23, _⟩ => ⟨S_, .f32⟩
  | .hbm, ⟨24, _⟩ => ⟨S1284x1024, .f32⟩
  | .hbm, ⟨25, _⟩ => ⟨S1284x1024, .f32⟩
  | .hbm, ⟨26, _⟩ => ⟨S1284x1024, .f32⟩
  | .hbm, ⟨27, _⟩ => ⟨S_, .f32⟩
  | .hbm, ⟨28, _⟩ => ⟨S1284x1024, .f32⟩
  | .hbm, ⟨29, _⟩ => ⟨S1284x1024, .f32⟩
  | .hbm, ⟨30, _⟩ => ⟨S1284x1024, .f32⟩
  | .hbm, ⟨31, _⟩ => ⟨S_, .f32⟩
  | .hbm, ⟨32, _⟩ => ⟨S1284x1024, .f32⟩
  | .hbm, ⟨33, _⟩ => ⟨S1284x1024, .f32⟩
  | .hbm, ⟨34, _⟩ => ⟨S_, .f32⟩
  | .hbm, ⟨35, _⟩ => ⟨S1284x1024, .f32⟩
  | .hbm, ⟨36, _⟩ => ⟨S1284x1024, .f32⟩
  | .hbm, ⟨37, _⟩ => ⟨S1284x1024, .f32⟩
  | .hbm, ⟨38, _⟩ => ⟨S_, .f32⟩
  | .hbm, ⟨39, _⟩ => ⟨S1284x1024, .f32⟩
  | .hbm, ⟨40, _⟩ => ⟨S1284x1024, .f32⟩
  | .hbm, ⟨41, _⟩ => ⟨S1284x1024, .f32⟩
  | .hbm, ⟨42, _⟩ => ⟨S_, .f32⟩
  | .hbm, ⟨43, _⟩ => ⟨S1284x1024, .f32⟩
  | .hbm, ⟨44, _⟩ => ⟨S1284x1024, .f32⟩
  | .hbm, ⟨45, _⟩ => ⟨S1284x1024, .f32⟩
  | .hbm, ⟨46, _⟩ => ⟨S_, .f32⟩
  | .hbm, ⟨47, _⟩ => ⟨S1284x1024, .f32⟩
  | .hbm, ⟨48, _⟩ => ⟨S1284x1024, .f32⟩
  | _, _ => ⟨S4x1284x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Apa.lean ====
abbrev S4x128x1024 : Shape := ⟨3, ![4, 128, 1024]⟩
abbrev S1 : Shape := ⟨1, ![1]⟩
abbrev S128x1024 : Shape := ⟨2, ![128, 1024]⟩
abbrev S1x128x1024 : Shape := ⟨3, ![1, 128, 1024]⟩

abbrev nBuf : Space → Nat
  | .hbm => 9
  | .vmem => 9
  | .smem => 1
  | _ => 0

abbrev bufTy : (tb : Table) → Fin (tcTables nBuf tb) → BufTy
  | .hbm, ⟨0, _⟩ => ⟨S4x128x1024, .bf16⟩
  | .hbm, ⟨1, _⟩ => ⟨S4x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S4x128x1024, .bf16⟩
  | .local _ .vmem, ⟨1, _⟩ => ⟨S4x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .smem, ⟨0, _⟩ => ⟨S1, .i32⟩
  | _, _ => ⟨S4x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨2, ![1, 1], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S4x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]
-- ==== ApaIdeal.lean ====
abbrev S4x128x1024 : Shape := ⟨3, ![4, 128, 1024]⟩
abbrev S1 : Shape := ⟨1, ![1]⟩
abbrev S128x1024 : Shape := ⟨2, ![128, 1024]⟩
abbrev S1x128x1024 : Shape := ⟨3, ![1, 128, 1024]⟩

abbrev nBuf : Space → Nat
  | .hbm => 9
  | .vmem => 9
  | .smem => 1
  | _ => 0

abbrev bufTy : (tb : Table) → Fin (tcTables nBuf tb) → BufTy
  | .hbm, ⟨0, _⟩ => ⟨S4x128x1024, .bf16⟩
  | .hbm, ⟨1, _⟩ => ⟨S4x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S4x128x1024, .bf16⟩
  | .local _ .vmem, ⟨1, _⟩ => ⟨S4x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .smem, ⟨0, _⟩ => ⟨S1, .i32⟩
  | _, _ => ⟨S4x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F] [Named F]

def κ : String → Option EReal := fun
  | "m_hat" => some ((8388608 / 5463681 : ℝ) : EReal)
  | "v_hat" => some ((268435456 / 2672307 : ℝ) : EReal)
  | _ => none

abbrev grid0 : Pipeline.Grid := ⟨2, ![1, 1], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S4x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]
-- ==== ApaRefIdeal.lean ====
abbrev S4x128x1024 : Shape := ⟨3, ![4, 128, 1024]⟩
abbrev S1 : Shape := ⟨1, ![1]⟩
abbrev S128x1024 : Shape := ⟨2, ![128, 1024]⟩
abbrev S4 : Shape := ⟨1, ![4]⟩
abbrev S4x1x1 : Shape := ⟨3, ![4, 1, 1]⟩
abbrev S1x1x1 : Shape := ⟨3, ![1, 1, 1]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S4x128x1024, .bf16⟩
  | .hbm, ⟨1, _⟩ => ⟨S4x128x1024, .bf16⟩
  | .hbm, ⟨2, _⟩ => ⟨S1, .i32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S4, .i32⟩
  | .hbm, ⟨7, _⟩ => ⟨S4x1x1, .i32⟩
  | .hbm, ⟨8, _⟩ => ⟨S1x1x1, .i32⟩
  | .hbm, ⟨9, _⟩ => ⟨S4x1x1, .i32⟩
  | .hbm, ⟨10, _⟩ => ⟨S4x1x1, .i1⟩
  | .hbm, ⟨11, _⟩ => ⟨S4x128x1024, .i1⟩
  | .hbm, ⟨12, _⟩ => ⟨S4x128x1024, .bf16⟩
  | .hbm, ⟨13, _⟩ => ⟨S4x128x1024, .f32⟩
  | .hbm, ⟨14, _⟩ => ⟨S_, .f32⟩
  | .hbm, ⟨15, _⟩ => ⟨S128x1024, .f32⟩
  | .hbm, ⟨16, _⟩ => ⟨S_, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S_, .f32⟩
  | .hbm, ⟨24, _⟩ => ⟨S128x1024, .f32⟩
  | .hbm, ⟨25, _⟩ => ⟨S128x1024, .f32⟩
  | .hbm, ⟨26, _⟩ => ⟨S128x1024, .f32⟩
  | .hbm, ⟨27, _⟩ => ⟨S_, .f32⟩
  | .hbm, ⟨28, _⟩ => ⟨S128x1024, .f32⟩
  | .hbm, ⟨29, _⟩ => ⟨S128x1024, .f32⟩
  | .hbm, ⟨30, _⟩ => ⟨S128x1024, .f32⟩
  | .hbm, ⟨31, _⟩ => ⟨S_, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | .hbm, ⟨37, _⟩ => ⟨S128x1024, .f32⟩
  | .hbm, ⟨38, _⟩ => ⟨S_, .f32⟩
  | .hbm, ⟨39, _⟩ => ⟨S128x1024, .f32⟩
  | .hbm, ⟨40, _⟩ => ⟨S128x1024, .f32⟩
  | .hbm, ⟨41, _⟩ => ⟨S128x1024, .f32⟩
  | .hbm, ⟨42, _⟩ => ⟨S_, .f32⟩
  | .hbm, ⟨43, _⟩ => ⟨S128x1024, .f32⟩
  | .hbm, ⟨44, _⟩ => ⟨S128x1024, .f32⟩
  | .hbm, ⟨45, _⟩ => ⟨S128x1024, .f32⟩
  | .hbm, ⟨46, _⟩ => ⟨S_, .f32⟩
  | .hbm, ⟨47, _⟩ => ⟨S128x1024, .f32⟩
  | .hbm, ⟨48, _⟩ => ⟨S128x1024, .f32⟩
  | _, _ => ⟨S4x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Aout.lean ====
abbrev S4x128x1024 : Shape := ⟨3, ![4, 128, 1024]⟩
abbrev S1 : Shape := ⟨1, ![1]⟩
abbrev S128x1024 : Shape := ⟨2, ![128, 1024]⟩
abbrev S1x128x1024 : Shape := ⟨3, ![1, 128, 1024]⟩

abbrev nBuf : Space → Nat
  | .hbm => 9
  | .vmem => 9
  | .smem => 1
  | _ => 0

abbrev bufTy : (tb : Table) → Fin (tcTables nBuf tb) → BufTy
  | .hbm, ⟨0, _⟩ => ⟨S4x128x1024, .bf16⟩
  | .hbm, ⟨1, _⟩ => ⟨S4x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S4x128x1024, .bf16⟩
  | .local _ .vmem, ⟨1, _⟩ => ⟨S4x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .smem, ⟨0, _⟩ => ⟨S1, .i32⟩
  | _, _ => ⟨S4x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨2, ![1, 1], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S4x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]
-- ==== AoutIdeal.lean ====
abbrev S4x128x1024 : Shape := ⟨3, ![4, 128, 1024]⟩
abbrev S1 : Shape := ⟨1, ![1]⟩
abbrev S128x1024 : Shape := ⟨2, ![128, 1024]⟩
abbrev S1x128x1024 : Shape := ⟨3, ![1, 128, 1024]⟩

abbrev nBuf : Space → Nat
  | .hbm => 9
  | .vmem => 9
  | .smem => 1
  | _ => 0

abbrev bufTy : (tb : Table) → Fin (tcTables nBuf tb) → BufTy
  | .hbm, ⟨0, _⟩ => ⟨S4x128x1024, .bf16⟩
  | .hbm, ⟨1, _⟩ => ⟨S4x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S4x128x1024, .bf16⟩
  | .local _ .vmem, ⟨1, _⟩ => ⟨S4x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .smem, ⟨0, _⟩ => ⟨S1, .i32⟩
  | _, _ => ⟨S4x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F] [Named F]

def κ : String → Option EReal := fun
  | "m_hat" => some ((8388608 / 5463681 : ℝ) : EReal)
  | "v_hat" => some ((268435456 / 2672307 : ℝ) : EReal)
  | _ => none

abbrev grid0 : Pipeline.Grid := ⟨2, ![1, 1], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S4x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]
-- ==== AoutRefIdeal.lean ====
abbrev S4x128x1024 : Shape := ⟨3, ![4, 128, 1024]⟩
abbrev S1 : Shape := ⟨1, ![1]⟩
abbrev S128x1024 : Shape := ⟨2, ![128, 1024]⟩
abbrev S4 : Shape := ⟨1, ![4]⟩
abbrev S4x1x1 : Shape := ⟨3, ![4, 1, 1]⟩
abbrev S1x1x1 : Shape := ⟨3, ![1, 1, 1]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S4x128x1024, .bf16⟩
  | .hbm, ⟨1, _⟩ => ⟨S4x128x1024, .bf16⟩
  | .hbm, ⟨2, _⟩ => ⟨S1, .i32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S4, .i32⟩
  | .hbm, ⟨7, _⟩ => ⟨S4x1x1, .i32⟩
  | .hbm, ⟨8, _⟩ => ⟨S1x1x1, .i32⟩
  | .hbm, ⟨9, _⟩ => ⟨S4x1x1, .i32⟩
  | .hbm, ⟨10, _⟩ => ⟨S4x1x1, .i1⟩
  | .hbm, ⟨11, _⟩ => ⟨S4x128x1024, .i1⟩
  | .hbm, ⟨12, _⟩ => ⟨S4x128x1024, .bf16⟩
  | .hbm, ⟨13, _⟩ => ⟨S4x128x1024, .f32⟩
  | .hbm, ⟨14, _⟩ => ⟨S_, .f32⟩
  | .hbm, ⟨15, _⟩ => ⟨S128x1024, .f32⟩
  | .hbm, ⟨16, _⟩ => ⟨S_, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S_, .f32⟩
  | .hbm, ⟨24, _⟩ => ⟨S128x1024, .f32⟩
  | .hbm, ⟨25, _⟩ => ⟨S128x1024, .f32⟩
  | .hbm, ⟨26, _⟩ => ⟨S128x1024, .f32⟩
  | .hbm, ⟨27, _⟩ => ⟨S_, .f32⟩
  | .hbm, ⟨28, _⟩ => ⟨S128x1024, .f32⟩
  | .hbm, ⟨29, _⟩ => ⟨S128x1024, .f32⟩
  | .hbm, ⟨30, _⟩ => ⟨S128x1024, .f32⟩
  | .hbm, ⟨31, _⟩ => ⟨S_, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | .hbm, ⟨37, _⟩ => ⟨S128x1024, .f32⟩
  | .hbm, ⟨38, _⟩ => ⟨S_, .f32⟩
  | .hbm, ⟨39, _⟩ => ⟨S128x1024, .f32⟩
  | .hbm, ⟨40, _⟩ => ⟨S128x1024, .f32⟩
  | .hbm, ⟨41, _⟩ => ⟨S128x1024, .f32⟩
  | .hbm, ⟨42, _⟩ => ⟨S_, .f32⟩
  | .hbm, ⟨43, _⟩ => ⟨S128x1024, .f32⟩
  | .hbm, ⟨44, _⟩ => ⟨S128x1024, .f32⟩
  | .hbm, ⟨45, _⟩ => ⟨S128x1024, .f32⟩
  | .hbm, ⟨46, _⟩ => ⟨S_, .f32⟩
  | .hbm, ⟨47, _⟩ => ⟨S128x1024, .f32⟩
  | .hbm, ⟨48, _⟩ => ⟨S128x1024, .f32⟩
  | _, _ => ⟨S4x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Apb.lean ====
abbrev S4x256x1024 : Shape := ⟨3, ![4, 256, 1024]⟩
abbrev S1 : Shape := ⟨1, ![1]⟩
abbrev S256x1024 : Shape := ⟨2, ![256, 1024]⟩
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 9
  | .vmem => 18
  | .smem => 1
  | _ => 0

abbrev bufTy : (tb : Table) → Fin (tcTables nBuf tb) → BufTy
  | .hbm, ⟨0, _⟩ => ⟨S4x256x1024, .bf16⟩
  | .hbm, ⟨1, _⟩ => ⟨S4x256x1024, .bf16⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S4x128x1024, .bf16⟩
  | .local _ .vmem, ⟨1, _⟩ => ⟨S4x128x1024, .bf16⟩
  | .local _ .vmem, ⟨2, _⟩ => ⟨S4x128x1024, .bf16⟩
  | .local _ .vmem, ⟨3, _⟩ => ⟨S4x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .smem, ⟨0, _⟩ => ⟨S1, .i32⟩
  | _, _ => ⟨S4x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ApbIdeal.lean ====
abbrev S4x256x1024 : Shape := ⟨3, ![4, 256, 1024]⟩
abbrev S1 : Shape := ⟨1, ![1]⟩
abbrev S256x1024 : Shape := ⟨2, ![256, 1024]⟩
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 9
  | .vmem => 18
  | .smem => 1
  | _ => 0

abbrev bufTy : (tb : Table) → Fin (tcTables nBuf tb) → BufTy
  | .hbm, ⟨0, _⟩ => ⟨S4x256x1024, .bf16⟩
  | .hbm, ⟨1, _⟩ => ⟨S4x256x1024, .bf16⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S4x128x1024, .bf16⟩
  | .local _ .vmem, ⟨1, _⟩ => ⟨S4x128x1024, .bf16⟩
  | .local _ .vmem, ⟨2, _⟩ => ⟨S4x128x1024, .bf16⟩
  | .local _ .vmem, ⟨3, _⟩ => ⟨S4x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .smem, ⟨0, _⟩ => ⟨S1, .i32⟩
  | _, _ => ⟨S4x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "m_hat" => some ((8388608 / 5463681 : ℝ) : EReal)
  | "v_hat" => some ((268435456 / 2672307 : ℝ) : EReal)
  | _ => none

abbrev grid0 : Pipeline.Grid := ⟨2, ![2, 1], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ApbRefIdeal.lean ====
abbrev S4x256x1024 : Shape := ⟨3, ![4, 256, 1024]⟩
abbrev S1 : Shape := ⟨1, ![1]⟩
abbrev S256x1024 : Shape := ⟨2, ![256, 1024]⟩
abbrev S4 : Shape := ⟨1, ![4]⟩
abbrev S4x1x1 : Shape := ⟨3, ![4, 1, 1]⟩
abbrev S1x1x1 : Shape := ⟨3, ![1, 1, 1]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S4x256x1024, .bf16⟩
  | .hbm, ⟨1, _⟩ => ⟨S4x256x1024, .bf16⟩
  | .hbm, ⟨2, _⟩ => ⟨S1, .i32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S4, .i32⟩
  | .hbm, ⟨7, _⟩ => ⟨S4x1x1, .i32⟩
  | .hbm, ⟨8, _⟩ => ⟨S1x1x1, .i32⟩
  | .hbm, ⟨9, _⟩ => ⟨S4x1x1, .i32⟩
  | .hbm, ⟨10, _⟩ => ⟨S4x1x1, .i1⟩
  | .hbm, ⟨11, _⟩ => ⟨S4x256x1024, .i1⟩
  | .hbm, ⟨12, _⟩ => ⟨S4x256x1024, .bf16⟩
  | .hbm, ⟨13, _⟩ => ⟨S4x256x1024, .f32⟩
  | .hbm, ⟨14, _⟩ => ⟨S_, .f32⟩
  | .hbm, ⟨15, _⟩ => ⟨S256x1024, .f32⟩
  | .hbm, ⟨16, _⟩ => ⟨S_, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S_, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S_, .f32⟩
  | .hbm, ⟨39, _⟩ => ⟨S256x1024, .f32⟩
  | .hbm, ⟨40, _⟩ => ⟨S256x1024, .f32⟩
  | .hbm, ⟨41, _⟩ => ⟨S256x1024, .f32⟩
  | .hbm, ⟨42, _⟩ => ⟨S_, .f32⟩
  | .hbm, ⟨43, _⟩ => ⟨S256x1024, .f32⟩
  | .hbm, ⟨44, _⟩ => ⟨S256x1024, .f32⟩
  | .hbm, ⟨45, _⟩ => ⟨S256x1024, .f32⟩
  | .hbm, ⟨46, _⟩ => ⟨S_, .f32⟩
  | .hbm, ⟨47, _⟩ => ⟨S256x1024, .f32⟩
  | .hbm, ⟨48, _⟩ => ⟨S256x1024, .f32⟩
  | _, _ => ⟨S4x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Aup.lean ====
abbrev S4x1024x512 : Shape := ⟨3, ![4, 1024, 512]⟩
abbrev S1 : Shape := ⟨1, ![1]⟩
abbrev S1024x512 : Shape := ⟨2, ![1024, 512]⟩
abbrev S4x256x512 : Shape := ⟨3, ![4, 256, 512]⟩
abbrev S256x512 : Shape := ⟨2, ![256, 512]⟩
abbrev S1x256x512 : Shape := ⟨3, ![1, 256, 512]⟩

abbrev nBuf : Space → Nat
  | .hbm => 9
  | .vmem => 18
  | .smem => 1
  | _ => 0

abbrev bufTy : (tb : Table) → Fin (tcTables nBuf tb) → BufTy
  | .hbm, ⟨0, _⟩ => ⟨S4x1024x512, .bf16⟩
  | .hbm, ⟨1, _⟩ => ⟨S4x1024x512, .bf16⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .local _ .vmem, ⟨0, _⟩ => ⟨S4x256x512, .bf16⟩
  | .local _ .vmem, ⟨1, _⟩ => ⟨S4x256x512, .bf16⟩
  | .local _ .vmem, ⟨2, _⟩ => ⟨S4x256x512, .bf16⟩
  | .local _ .vmem, ⟨3, _⟩ => ⟨S4x256x512, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .smem, ⟨0, _⟩ => ⟨S1, .i32⟩
  | _, _ => ⟨S4x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AupIdeal.lean ====
abbrev S4x1024x512 : Shape := ⟨3, ![4, 1024, 512]⟩
abbrev S1 : Shape := ⟨1, ![1]⟩
abbrev S1024x512 : Shape := ⟨2, ![1024, 512]⟩
abbrev S4x256x512 : Shape := ⟨3, ![4, 256, 512]⟩
abbrev S256x512 : Shape := ⟨2, ![256, 512]⟩
abbrev S1x256x512 : Shape := ⟨3, ![1, 256, 512]⟩

abbrev nBuf : Space → Nat
  | .hbm => 9
  | .vmem => 18
  | .smem => 1
  | _ => 0

abbrev bufTy : (tb : Table) → Fin (tcTables nBuf tb) → BufTy
  | .hbm, ⟨0, _⟩ => ⟨S4x1024x512, .bf16⟩
  | .hbm, ⟨1, _⟩ => ⟨S4x1024x512, .bf16⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .local _ .vmem, ⟨0, _⟩ => ⟨S4x256x512, .bf16⟩
  | .local _ .vmem, ⟨1, _⟩ => ⟨S4x256x512, .bf16⟩
  | .local _ .vmem, ⟨2, _⟩ => ⟨S4x256x512, .bf16⟩
  | .local _ .vmem, ⟨3, _⟩ => ⟨S4x256x512, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .smem, ⟨0, _⟩ => ⟨S1, .i32⟩
  | _, _ => ⟨S4x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "m_hat" => some ((8388608 / 5463681 : ℝ) : EReal)
  | "v_hat" => some ((268435456 / 2672307 : ℝ) : EReal)
  | _ => none

abbrev grid0 : Pipeline.Grid := ⟨2, ![4, 1], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AupRefIdeal.lean ====
abbrev S4x1024x512 : Shape := ⟨3, ![4, 1024, 512]⟩
abbrev S1 : Shape := ⟨1, ![1]⟩
abbrev S1024x512 : Shape := ⟨2, ![1024, 512]⟩
abbrev S4 : Shape := ⟨1, ![4]⟩
abbrev S4x1x1 : Shape := ⟨3, ![4, 1, 1]⟩
abbrev S1x1x1 : Shape := ⟨3, ![1, 1, 1]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S4x1024x512, .bf16⟩
  | .hbm, ⟨1, _⟩ => ⟨S4x1024x512, .bf16⟩
  | .hbm, ⟨2, _⟩ => ⟨S1, .i32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S4, .i32⟩
  | .hbm, ⟨7, _⟩ => ⟨S4x1x1, .i32⟩
  | .hbm, ⟨8, _⟩ => ⟨S1x1x1, .i32⟩
  | .hbm, ⟨9, _⟩ => ⟨S4x1x1, .i32⟩
  | .hbm, ⟨10, _⟩ => ⟨S4x1x1, .i1⟩
  | .hbm, ⟨11, _⟩ => ⟨S4x1024x512, .i1⟩
  | .hbm, ⟨12, _⟩ => ⟨S4x1024x512, .bf16⟩
  | .hbm, ⟨13, _⟩ => ⟨S4x1024x512, .f32⟩
  | .hbm, ⟨14, _⟩ => ⟨S_, .f32⟩
  | .hbm, ⟨15, _⟩ => ⟨S1024x512, .f32⟩
  | .hbm, ⟨16, _⟩ => ⟨S_, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S1024x512, .f32⟩
  | .hbm, ⟨23, _⟩ => ⟨S_, .f32⟩
  | .hbm, ⟨24, _⟩ => ⟨S1024x512, .f32⟩
  | .hbm, ⟨25, _⟩ => ⟨S1024x512, .f32⟩
  | .hbm, ⟨26, _⟩ => ⟨S1024x512, .f32⟩
  | .hbm, ⟨27, _⟩ => ⟨S_, .f32⟩
  | .hbm, ⟨28, _⟩ => ⟨S1024x512, .f32⟩
  | .hbm, ⟨29, _⟩ => ⟨S1024x512, .f32⟩
  | .hbm, ⟨30, _⟩ => ⟨S1024x512, .f32⟩
  | .hbm, ⟨31, _⟩ => ⟨S_, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | .hbm, ⟨37, _⟩ => ⟨S1024x512, .f32⟩
  | .hbm, ⟨38, _⟩ => ⟨S_, .f32⟩
  | .hbm, ⟨39, _⟩ => ⟨S1024x512, .f32⟩
  | .hbm, ⟨40, _⟩ => ⟨S1024x512, .f32⟩
  | .hbm, ⟨41, _⟩ => ⟨S1024x512, .f32⟩
  | .hbm, ⟨42, _⟩ => ⟨S_, .f32⟩
  | .hbm, ⟨43, _⟩ => ⟨S1024x512, .f32⟩
  | .hbm, ⟨44, _⟩ => ⟨S1024x512, .f32⟩
  | .hbm, ⟨45, _⟩ => ⟨S1024x512, .f32⟩
  | .hbm, ⟨46, _⟩ => ⟨S_, .f32⟩
  | .hbm, ⟨47, _⟩ => ⟨S1024x512, .f32⟩
  | .hbm, ⟨48, _⟩ => ⟨S1024x512, .f32⟩
  | _, _ => ⟨S4x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Adown.lean ====
abbrev S4x512x1024 : Shape := ⟨3, ![4, 512, 1024]⟩
abbrev S1 : Shape := ⟨1, ![1]⟩
abbrev S512x1024 : Shape := ⟨2, ![512, 1024]⟩
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 9
  | .vmem => 18
  | .smem => 1
  | _ => 0

abbrev bufTy : (tb : Table) → Fin (tcTables nBuf tb) → BufTy
  | .hbm, ⟨0, _⟩ => ⟨S4x512x1024, .bf16⟩
  | .hbm, ⟨1, _⟩ => ⟨S4x512x1024, .bf16⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .local _ .vmem, ⟨0, _⟩ => ⟨S4x128x1024, .bf16⟩
  | .local _ .vmem, ⟨1, _⟩ => ⟨S4x128x1024, .bf16⟩
  | .local _ .vmem, ⟨2, _⟩ => ⟨S4x128x1024, .bf16⟩
  | .local _ .vmem, ⟨3, _⟩ => ⟨S4x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .smem, ⟨0, _⟩ => ⟨S1, .i32⟩
  | _, _ => ⟨S4x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdownIdeal.lean ====
variable {F : FTy → Type} [FloatOps F] [Named F]
def κ : String → Option EReal := fun
  | "m_hat" => some ((8388608 / 5463681 : ℝ) : EReal)
  | "v_hat" => some ((268435456 / 2672307 : ℝ) : EReal)
  | _ => none
-- ==== AdownRefIdeal.lean ====
abbrev S4x512x1024 : Shape := ⟨3, ![4, 512, 1024]⟩
abbrev S1 : Shape := ⟨1, ![1]⟩
abbrev S512x1024 : Shape := ⟨2, ![512, 1024]⟩
abbrev S4 : Shape := ⟨1, ![4]⟩
abbrev S4x1x1 : Shape := ⟨3, ![4, 1, 1]⟩
abbrev S1x1x1 : Shape := ⟨3, ![1, 1, 1]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S4x512x1024, .bf16⟩
  | .hbm, ⟨1, _⟩ => ⟨S4x512x1024, .bf16⟩
  | .hbm, ⟨2, _⟩ => ⟨S1, .i32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S4, .i32⟩
  | .hbm, ⟨7, _⟩ => ⟨S4x1x1, .i32⟩
  | .hbm, ⟨8, _⟩ => ⟨S1x1x1, .i32⟩
  | .hbm, ⟨9, _⟩ => ⟨S4x1x1, .i32⟩
  | .hbm, ⟨10, _⟩ => ⟨S4x1x1, .i1⟩
  | .hbm, ⟨11, _⟩ => ⟨S4x512x1024, .i1⟩
  | .hbm, ⟨12, _⟩ => ⟨S4x512x1024, .bf16⟩
  | .hbm, ⟨13, _⟩ => ⟨S4x512x1024, .f32⟩
  | .hbm, ⟨14, _⟩ => ⟨S_, .f32⟩
  | .hbm, ⟨15, _⟩ => ⟨S512x1024, .f32⟩
  | .hbm, ⟨16, _⟩ => ⟨S_, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S512x1024, .f32⟩
  | .hbm, ⟨23, _⟩ => ⟨S_, .f32⟩
  | .hbm, ⟨24, _⟩ => ⟨S512x1024, .f32⟩
  | .hbm, ⟨25, _⟩ => ⟨S512x1024, .f32⟩
  | .hbm, ⟨26, _⟩ => ⟨S512x1024, .f32⟩
  | .hbm, ⟨27, _⟩ => ⟨S_, .f32⟩
  | .hbm, ⟨28, _⟩ => ⟨S512x1024, .f32⟩
  | .hbm, ⟨29, _⟩ => ⟨S512x1024, .f32⟩
  | .hbm, ⟨30, _⟩ => ⟨S512x1024, .f32⟩
  | .hbm, ⟨31, _⟩ => ⟨S_, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | .hbm, ⟨37, _⟩ => ⟨S512x1024, .f32⟩
  | .hbm, ⟨38, _⟩ => ⟨S_, .f32⟩
  | .hbm, ⟨39, _⟩ => ⟨S512x1024, .f32⟩
  | .hbm, ⟨40, _⟩ => ⟨S512x1024, .f32⟩
  | .hbm, ⟨41, _⟩ => ⟨S512x1024, .f32⟩
  | .hbm, ⟨42, _⟩ => ⟨S_, .f32⟩
  | .hbm, ⟨43, _⟩ => ⟨S512x1024, .f32⟩
  | .hbm, ⟨44, _⟩ => ⟨S512x1024, .f32⟩
  | .hbm, ⟨45, _⟩ => ⟨S512x1024, .f32⟩
  | .hbm, ⟨46, _⟩ => ⟨S_, .f32⟩
  | .hbm, ⟨47, _⟩ => ⟨S512x1024, .f32⟩
  | .hbm, ⟨48, _⟩ => ⟨S512x1024, .f32⟩
  | _, _ => ⟨S4x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Proof.Gate.Basic.lean ====
module

public import Idealize.ShloMosaic.Lib.Pointwise

@[expose] public section

noncomputable section

namespace Cert.Gate

open Idealize.ShloMosaic

/-- The error function on the reals. -/
def erfR (x : ℝ) : ℝ := 2 / Real.sqrt Real.pi * ∫ t in (0 : ℝ)..x, Real.exp (-(t ^ 2))

/-- The normal distribution function, by the error function. -/
def cdf (x : ℝ) : ℝ := 1 / 2 * (1 + erfR (x * (Real.sqrt 2)⁻¹))

/-- The exact GELU. -/
def gelu (x : ℝ) : ℝ := x * cdf x

/-- Its derivative. -/
def dgelu (x : ℝ) : ℝ := cdf x + x * Real.exp (-(1 / 2) * x * x) * (Real.sqrt (2 * Real.pi))⁻¹

theorem erf_coe (x : ℝ) : Ideal.erf (x : EReal) = (erfR x : EReal) := rfl

theorem word_half : Ideal.ofBits .f32 0x3F000000#32 = ((1 / 2 : ℝ) : EReal) := by
  simp [Ideal.ofBits, Ideal.ieee, -EReal.coe_mul]; try norm_num

theorem word_neg_half : Ideal.ofBits .f32 0xBF000000#32 = ((-(1 / 2) : ℝ) : EReal) := by
  simp [Ideal.ofBits, Ideal.ieee, -EReal.coe_mul]; try norm_num

theorem word_one : Ideal.ofBits .f32 0x3F800000#32 = ((1 : ℝ) : EReal) := by
  simp [Ideal.ofBits, Ideal.ieee, -EReal.coe_mul]; try norm_num

theorem word_1024 : Ideal.ofBits .f32 0x44800000#32 = ((1024 : ℝ) : EReal) := by
  simp [Ideal.ofBits, Ideal.ieee, -EReal.coe_mul]; try norm_num

/-- The number the word of `1e-6` stands for. -/
def eps : ℝ := 8796093 / 2 ^ 43

theorem word_eps : Ideal.ofBits .f32 0x358637BD#32 = (eps : EReal) := by
  simp [Ideal.ofBits, Ideal.ieee, eps, -EReal.coe_mul]; try norm_num

theorem eps_pos : 0 < eps := by norm_num [eps]

theorem word_zero : Ideal.ofBits .f32 0x00000000#32 = ((0 : ℝ) : EReal) := by
  simp [Ideal.ofBits, Ideal.ieee]

theorem word_two : Ideal.ofBits .f32 0x40000000#32 = ((2 : ℝ) : EReal) := by
  simp [Ideal.ofBits, Ideal.ieee, -EReal.coe_mul]; try norm_num

/-- A finite sum of numbers is the number of the finite sum. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The error function is odd. -/
theorem erfR_neg (x : ℝ) : erfR (-x) = -erfR x := by
  have h : ∫ t in (0 : ℝ)..(-x), Real.exp (-(t ^ 2)) = -∫ t in (0 : ℝ)..x, Real.exp (-(t ^ 2)) := by
    have := intervalIntegral.integral_comp_neg (a := 0) (b := x) (fun t : ℝ => Real.exp (-(t ^ 2)))
    simp only [neg_zero, neg_sq] at this
    rw [intervalIntegral.integral_symm, ← this]
  rw [erfR, erfR, h, mul_neg]

/-- The reference writes GELU by the complementary error function. -/
theorem gelu_erfc (x : ℝ) : 1 / 2 * x * (1 - erfR (-x * (Real.sqrt 2)⁻¹)) = gelu x := by
  rw [neg_mul, erfR_neg, gelu, cdf]; ring

/-- The reference's derivative of GELU times a cotangent. -/
theorem dgelu_erfc (x t : ℝ) :
    -(-(2 * (Real.sqrt Real.pi)⁻¹) * (1 / 2 * x * t)
        * Real.exp (-(-x * (Real.sqrt 2)⁻¹ * (-x * (Real.sqrt 2)⁻¹))) * (Real.sqrt 2)⁻¹)
      + 1 / 2 * (t * (1 - erfR (-x * (Real.sqrt 2)⁻¹))) = t * dgelu x := by
  have h2 : (Real.sqrt 2)⁻¹ * (Real.sqrt 2)⁻¹ = 1 / 2 := by
    rw [← mul_inv, Real.mul_self_sqrt (by norm_num)]; norm_num
  have he : -(-x * (Real.sqrt 2)⁻¹ * (-x * (Real.sqrt 2)⁻¹)) = -(1 / 2) * x * x := by
    have : -(-x * (Real.sqrt 2)⁻¹ * (-x * (Real.sqrt 2)⁻¹)) = -(x * x) * ((Real.sqrt 2)⁻¹ * (Real.sqrt 2)⁻¹) := by ring
    rw [this, h2]; ring
  have hp : (Real.sqrt (2 * Real.pi))⁻¹ = (Real.sqrt 2)⁻¹ * (Real.sqrt Real.pi)⁻¹ := by
    rw [Real.sqrt_mul (by norm_num), mul_inv]
  rw [he, neg_mul x, erfR_neg, dgelu, cdf, hp]; ring

/-- The mean of a row. -/
def mean (f : Fin 1024 → ℝ) : ℝ := (∑ k, f k) * (1 / 1024)

/-- A row less its mean. -/
def cen (z : Fin 1024 → ℝ) (k : Fin 1024) : ℝ := z k - mean z

/-- The variance of a row, plus the small number of the norm. -/
def varE (z : Fin 1024 → ℝ) : ℝ := mean (fun k => cen z k * cen z k) + eps

/-- One over the deviation. -/
def rstd (z : Fin 1024 → ℝ) : ℝ := (Real.sqrt (varE z))⁻¹

/-- A normalised row. -/
def hat (z : Fin 1024 → ℝ) (k : Fin 1024) : ℝ := cen z k * rstd z

/-- The cotangent of a row from the cotangent of its normalised row. -/
def lnBack (z t : Fin 1024 → ℝ) (k : Fin 1024) : ℝ :=
  rstd z * (t k - mean t - hat z k * mean (fun j => t j * hat z j))

theorem varE_pos (z : Fin 1024 → ℝ) : 0 < varE z := by
  have : 0 ≤ mean (fun k => cen z k * cen z k) :=
    mul_nonneg (Finset.sum_nonneg fun k _ => mul_self_nonneg _) (by norm_num)
  have := eps_pos
  unfold varE; linarith

theorem sum_cen (z : Fin 1024 → ℝ) : ∑ k, cen z k = 0 := by
  simp only [cen, mean, Finset.sum_sub_distrib, Finset.sum_const, Finset.card_univ, Fintype.card_fin, nsmul_eq_mul]
  push_cast; ring

theorem rstd_sq (z : Fin 1024 → ℝ) : rstd z * (1 / varE z) = rstd z * rstd z * rstd z := by
  have h := varE_pos z
  have : rstd z * rstd z = 1 / varE z := by
    rw [rstd, ← mul_inv, Real.mul_self_sqrt h.le, one_div]
  rw [mul_assoc, this]

/-- The reference's cotangent of a row: through the mean and through the variance. -/
theorem lnBack_ref (z t : Fin 1024 → ℝ) (k : Fin 1024) :
    let e : ℝ := (∑ j, cen z j * t j) * (-(1 / 2) * (rstd z * (1 / varE z))) * (1 / 1024)
    t k * rstd z + e * (2 * cen z k)
        + (∑ j, -(t j * rstd z) + ∑ j, -(e * (2 * cen z j))) * (1 / 1024) = lnBack z t k := by
  intro e
  have h1 : ∑ j, -(t j * rstd z) = -((∑ j, t j) * rstd z) := by rw [Finset.sum_neg_distrib, Finset.sum_mul]
  have h2 : ∑ j, -(e * (2 * cen z j)) = 0 := by
    have : ∀ j, -(e * (2 * cen z j)) = (-(e * 2)) * cen z j := fun j => by ring
    rw [Finset.sum_congr rfl fun j _ => this j, ← Finset.mul_sum, sum_cen, mul_zero]
  have h3 : ∑ j, t j * hat z j = (∑ j, cen z j * t j) * rstd z := by
    rw [Finset.sum_mul]; exact Finset.sum_congr rfl fun j _ => by rw [hat]; ring
  have he : e = (∑ j, cen z j * t j) * (-(1 / 2) * (rstd z * rstd z * rstd z)) * (1 / 1024) := by
    show (∑ j, cen z j * t j) * (-(1 / 2) * (rstd z * (1 / varE z))) * (1 / 1024) = _
    rw [rstd_sq]
  rw [h1, h2, lnBack, mean, mean, h3, he, hat]; ring

end Cert.Gate

end
-- ==== Proof.Gate.Model.lean ====
module

public import proofs.«01_k».proof.Proof.Gate.Basic

@[expose] public section

noncomputable section

namespace Cert.Gate

open Idealize.ShloMosaic

/-- The head a column belongs to. -/
def head (k : Fin 1024) : Fin 8 := ⟨k.val / 128, by omega⟩

/-- Column `d` of head `h`. -/
def col (h : Fin 8) (d : Fin 128) : Fin 1024 := ⟨128 * h.val + d.val, by omega⟩

/-- Row `i` of the `c`-th run of 128 rows among 512. -/
def row4 (c : Fin 4) (i : Fin 128) : Fin 512 := ⟨128 * c.val + i.val, by omega⟩

theorem head_col (h : Fin 8) (d : Fin 128) : head (col h d) = h := Fin.ext (by simp only [head, col]; omega)

theorem row4_surj (r : Fin 512) : ∃ c i, r = row4 c i :=
  ⟨⟨r.val / 128, by omega⟩, ⟨r.val % 128, by omega⟩, Fin.ext (by simp only [row4]; omega)⟩

theorem col_surj (k : Fin 1024) : ∃ h d, k = col h d :=
  ⟨⟨k.val / 128, by omega⟩, ⟨k.val % 128, by omega⟩, Fin.ext (by simp only [col]; omega)⟩

/-- A sum over `n * m` positions is a sum over `n` runs of `m`. -/
theorem sum_runs {M : Type*} [AddCommMonoid M] {n m N : ℕ} (hN : n * m = N) (f : Fin N → M)
    (g : Fin n → Fin m → Fin N) (hg : ∀ c i, (g c i).val = m * c.val + i.val) :
    ∑ l, f l = ∑ c, ∑ i, f (g c i) := by
  subst hN
  rw [← Finset.sum_product', ← Equiv.sum_comp finProdFinEquiv]
  refine Finset.sum_congr rfl fun p _ => congrArg f (Fin.ext ?_)
  rw [hg]; simp [finProdFinEquiv]; ring

theorem sum_row4 {M : Type*} [AddCommMonoid M] (f : Fin 512 → M) : ∑ l, f l = ∑ c, ∑ i, f (row4 c i) :=
  sum_runs (by norm_num) f row4 fun _ _ => rfl

section Chunk

/- The gate on 128 rows: the scale and the shift of the norm, the mixing matrix and the bias of every head, the rows of
   the two halves of the input before the nonlinearity, and the cotangent of the gate's result. -/
variable (g b : Fin 1024 → ℝ) (w : Fin 8 → Fin 128 → Fin 128 → ℝ) (bs : Fin 128 → Fin 8 → ℝ)
  (xu xv y : Fin 128 → Fin 1024 → ℝ)

/-- A row after the nonlinearity. -/
def act (x : Fin 1024 → ℝ) (k : Fin 1024) : ℝ := gelu (x k)

/-- The normalised second half. -/
def vn (x : Fin 1024 → ℝ) (k : Fin 1024) : ℝ := hat (act x) k * g k + b k

/-- The mixing matrix below and on its diagonal. -/
def wm (h : Fin 8) (i j : Fin 128) : ℝ := if j ≤ i then w h i j else 0

/-- The mixed second half, plus the bias. -/
def sp (i : Fin 128) (k : Fin 1024) : ℝ := ∑ j, wm w (head k) i j * vn g b (xv j) k + bs i (head k)

/-- The cotangent of the mixed half. -/
def ds (i : Fin 128) (k : Fin 1024) : ℝ := y i k * gelu (xu i k)

/-- The cotangent of the normalised half. -/
def dvn (j : Fin 128) (k : Fin 1024) : ℝ := ∑ i, wm w (head k) i j * ds xu y i k

/-- The gradient of the first half of the input. -/
def gradU (i : Fin 128) (k : Fin 1024) : ℝ := y i k * sp g b w bs xv i k * dgelu (xu i k)

/-- The gradient of the second half of the input. -/
def gradV (i : Fin 128) (k : Fin 1024) : ℝ :=
  lnBack (act (xv i)) (fun j => dvn w xu y i j * g j) k * dgelu (xv i k)

/-- These rows' part of the gradient of the mixing matrix. -/
def partW (h : Fin 8) (i j : Fin 128) : ℝ :=
  if j ≤ i then ∑ d, ds xu y i (col h d) * vn g b (xv j) (col h d) else 0

/-- These rows' part of the gradient of the bias. -/
def partB (i : Fin 128) (h : Fin 8) : ℝ := ∑ d, ds xu y i (col h d)

/-- These rows' part of the gradient of the norm's scale. -/
def partG (k : Fin 1024) : ℝ := ∑ i, dvn w xu y i k * hat (act (xv i)) k

/-- These rows' part of the gradient of the norm's shift. -/
def partS (k : Fin 1024) : ℝ := ∑ i, dvn w xu y i k

end Chunk

end Cert.Gate

end
-- ==== Proof.Gate.Rows.lean ====
module

public import proofs.«01_k».proof.Proof.Gate.Model
public import proofs.«01_k».proof.Proof.Gen.KernelIdeal.Skeleton
public import Idealize.ShloMosaic.Lib.Pointwise

@[expose] public section

noncomputable section

namespace Cert.Gate

open Idealize.ShloMosaic Cert.KernelIdeal Cert.KernelIdeal.Gen

theorem named_r2 : Named.named (F := Ideal) κ "inv_sqrt2" (φ := .f32) 0x3F3504F3#32 = (((Real.sqrt 2)⁻¹ : ℝ) : EReal) :=
  IdealRules.named_const.ideal_named_scalar _ _ _ _ rfl

theorem named_r2pi : Named.named (F := Ideal) κ "inv_sqrt_2pi" (φ := .f32) 0x3ECC422A#32
    = (((Real.sqrt (2 * Real.pi))⁻¹ : ℝ) : EReal) :=
  IdealRules.named_const.ideal_named_scalar _ _ _ _ rfl

theorem div_1024 (t : EReal) : Ideal.div t (Ideal.ofBits .f32 0x44800000#32) = t * ((1 / 1024 : ℝ) : EReal) := by
  rw [word_1024]; exact Ideal.div_coe (by norm_num) t

section One

variable (X : Fin 512 → Fin 1024 → ℝ) (x : Vec Ideal S512x1024 .bf16) (hx : ∀ r k, x (ix2 r k) = (X r k : EReal))
include hx

theorem pay2_eq (r : Fin 512) (k : Fin 1024) : k0_pay2 x (ix2 r k) = (X r k : EReal) := by
  pointwise [k0_pay2]; exact hx r k

theorem pay3_eq (r : Fin 512) (k : Fin 1024) : k0_pay3 x (ix2 r k) = (X r k : EReal) := by
  pointwise [k0_pay3]; exact hx r k

theorem pay12_eq (r : Fin 512) (k : Fin 1024) : k0_pay12 x (ix2 r k) = (X r k : EReal) := by
  pointwise [k0_pay12]; exact hx r k

theorem pay4_eq (r : Fin 512) (k : Fin 1024) : k0_pay4 x (ix2 r k) = (cdf (X r k) : EReal) := by
  pointwise [k0_pay4]
  simp only [pay2_eq X x hx, named_r2, word_half, ← EReal.coe_mul, Ideal.erf_def, erf_coe, ← EReal.coe_one, ← EReal.coe_add, cdf]

theorem pay5_eq (r : Fin 512) (k : Fin 1024) : k0_pay5 x (ix2 r k) = (cdf (X r k) : EReal) := by
  pointwise [k0_pay5]
  simp only [pay3_eq X x hx, named_r2, word_half, ← EReal.coe_mul, Ideal.erf_def, erf_coe, ← EReal.coe_one, ← EReal.coe_add, cdf]

theorem pay6_eq (r : Fin 512) (k : Fin 1024) : k0_pay6 x (ix2 r k) = (gelu (X r k) : EReal) := by
  pointwise [k0_pay6]
  simp only [pay2_eq X x hx, pay4_eq X x hx, ← EReal.coe_mul, gelu]

theorem pay7_eq (r : Fin 512) (k : Fin 1024) : k0_pay7 x (ix2 r k) = (cen (act (X r)) k : EReal) := by
  pointwise [k0_pay7]
  simp only [pay3_eq X x hx, pay5_eq X x hx, div_1024, ← EReal.coe_mul, ← coe_sum, ← EReal.coe_sub, cen, mean, act, gelu]

theorem pay8_eq (r : Fin 512) (o : Fin 1) : k0_pay8 x (ix2 r o) = (rstd (act (X r)) : EReal) := by
  pointwise [k0_pay8]
  simp only [pay7_eq X x hx, div_1024, ← EReal.coe_mul, ← coe_sum, word_eps, ← EReal.coe_add, Ideal.rsqrt_def]
  have h : 0 < (∑ k, cen (act (X r)) k * cen (act (X r)) k) * (1 / 1024) + eps := varE_pos (act (X r))
  rw [Ideal.rsqrt_coe, if_neg (not_lt.mpr h.le), if_neg h.ne']
  rfl

theorem pay9_eq (r : Fin 512) (k : Fin 1024) : k0_pay9 x (ix2 r k) = (hat (act (X r)) k : EReal) := by
  pointwise [k0_pay9]
  simp only [pay7_eq X x hx, pay8_eq X x hx, ← EReal.coe_mul, hat]

theorem pay1_eq (v721 : FVec Ideal S512x1024 .f32) (T : Fin 512 → Fin 1024 → ℝ) (hT : ∀ r k, v721 (ix2 r k) = (T r k : EReal))
    (r : Fin 512) (k : Fin 1024) :
    k0_pay1 (k0_pay3 x) (k0_pay5 x) v721 k0_pay161 (ix2 r k) = ((T r k * dgelu (X r k) : ℝ) : EReal) := by
  pointwise [k0_pay1, k0_pay161]
  simp only [pay3_eq X x hx, pay5_eq X x hx, hT, word_neg_half, named_r2pi, Ideal.exp_def, Ideal.exp_coe, ← EReal.coe_mul,
    ← EReal.coe_add, dgelu]

theorem pay160_eq (v722 : FVec Ideal S512x1024 .f32) (T : Fin 512 → Fin 1024 → ℝ) (hT : ∀ r k, v722 (ix2 r k) = (T r k : EReal))
    (r : Fin 512) (k : Fin 1024) :
    k0_pay160 (k0_pay2 x) (k0_pay4 x) v722 (ix2 r k) = ((T r k * dgelu (X r k) : ℝ) : EReal) := by
  pointwise [k0_pay160]
  simp only [pay2_eq X x hx, pay4_eq X x hx, hT, word_neg_half, named_r2pi, Ideal.exp_def, Ideal.exp_coe, ← EReal.coe_mul,
    ← EReal.coe_add, dgelu]

variable (g b : Fin 1024 → ℝ) (vg vb : Vec Ideal S1x1024 .f32) (hg : ∀ o k, vg (ix2 o k) = (g k : EReal))
  (hb : ∀ o k, vb (ix2 o k) = (b k : EReal))
include hg

/-- The cotangent through the norm, from the accumulated cotangent of the normalised half. -/
theorem pay159_eq (v690 : FVec Ideal S512x1024 .f32) (T : Fin 512 → Fin 1024 → ℝ) (hT : ∀ r k, v690 (ix2 r k) = (T r k : EReal))
    (r : Fin 512) (k : Fin 1024) :
    k0_pay159 (k0_pay8 x) (k0_pay9 x) v690 (k0_pay158 vg) (ix2 r k)
      = (lnBack (act (X r)) (fun j => T r j * g j) k : EReal) := by
  pointwise [k0_pay159, k0_pay158]
  simp only [pay8_eq X x hx, pay9_eq X x hx, hT, hg, div_1024, ← EReal.coe_mul, ← coe_sum, ← EReal.coe_sub, lnBack, mean]

theorem pay156_eq (v690 : FVec Ideal S512x1024 .f32) (T : Fin 512 → Fin 1024 → ℝ) (hT : ∀ r k, v690 (ix2 r k) = (T r k : EReal))
    (a : Vec Ideal S1x1024 .f32) (A : Fin 1024 → ℝ) (hA : ∀ o k, a (ix2 o k) = (A k : EReal)) (o : Fin 1) (k : Fin 1024) :
    k0_pay156 (k0_pay9 x) v690 a (ix2 o k) = ((A k + ∑ r, T r k * hat (act (X r)) k : ℝ) : EReal) := by
  pointwise [k0_pay156]
  simp only [pay9_eq X x hx, hT, hA, ← EReal.coe_mul, ← coe_sum, ← EReal.coe_add]

include hb

theorem pay11_eq (r : Fin 512) (k : Fin 1024) :
    k0_pay11 vb (k0_pay10 x vg) (ix2 r k) = (vn g b (X r) k : EReal) := by
  pointwise [k0_pay11, k0_pay10]
  simp only [pay9_eq X x hx, hg, hb, ← EReal.coe_mul, ← EReal.coe_add, vn]

end One

theorem pay157_eq (v690 : FVec Ideal S512x1024 .f32) (T : Fin 512 → Fin 1024 → ℝ) (hT : ∀ r k, v690 (ix2 r k) = (T r k : EReal))
    (a : Vec Ideal S1x1024 .f32) (A : Fin 1024 → ℝ) (hA : ∀ o k, a (ix2 o k) = (A k : EReal)) (o : Fin 1) (k : Fin 1024) :
    k0_pay157 v690 a (ix2 o k) = ((A k + ∑ r, T r k : ℝ) : EReal) := by
  pointwise [k0_pay157]
  simp only [hT, hA, ← coe_sum, ← EReal.coe_add]

end Cert.Gate

end
-- ==== Proof.Gate.Tile.lean ====
module

public import proofs.«01_k».proof.Proof.Gate.Rows
public import proofs.«01_k».proof.Proof.Gen.KernelIdeal.Frame

@[expose] public section

noncomputable section

namespace Cert.Gate

open Idealize.ShloMosaic Cert.KernelIdeal Cert.KernelIdeal.Gen

/-- The seven staged blocks of a tile hold these real numbers. -/
structure Tile (X0 X1 Y : Fin 512 → Fin 1024 → ℝ) (g b : Fin 1024 → ℝ) (w : Fin 8 → Fin 128 → Fin 128 → ℝ)
    (bs : Fin 128 → Fin 8 → ℝ) (x0 x1 x2 : Vec Ideal S512x1024 .bf16) (x3 x4 : Vec Ideal S1x1024 .f32)
    (x5 : Vec Ideal S8x128x128 .f32) (x6 : Vec Ideal S128x8 .f32) : Prop where
  u : ∀ r k, x0 (ix2 r k) = (X0 r k : EReal)
  v : ∀ r k, x1 (ix2 r k) = (X1 r k : EReal)
  y : ∀ r k, x2 (ix2 r k) = (Y r k : EReal)
  g : ∀ o k, x3 (ix2 o k) = (g k : EReal)
  b : ∀ o k, x4 (ix2 o k) = (b k : EReal)
  w : ∀ h i j, x5 (ix3 h i j) = (w h i j : EReal)
  s : ∀ i h, x6 (ix2 i h) = (bs i h : EReal)

theorem hz2 : (![0, 0] : Fin 2 → Nat) = fun _ => 0 := funext fun a => by fin_cases a <;> rfl

/-- A whole read of a staged block is the block. -/
theorem read_whole {S : Shape} {e : EltTy} (a : Memref sig .tc .vmem S e) (h : a.IsWhole) (x : Vec Ideal S e)
    {off : Fin S.rank → Nat} (h0 : off = fun _ => 0) (inb : ∀ d, off d + S.size d ≤ S.size d) :
    View.readAt (Elt Ideal) a.view (Rect.unit off S.size inb).toLoadRect (h.unread x) = x := by
  rw [View.readAt_eq_ld, h.read_unread, View.ld_unit_zero (S := S) h0]

/-- A read of one slab of a stack of eight. -/
theorem read_slab (a : Memref sig .tc .vmem S8x128x128 .f32) (h : a.IsWhole) (x : Vec Ideal S8x128x128 .f32) (o : Fin 8)
    (inb : ∀ d, (![o.val, 0, 0] : Fin 3 → Nat) d + S1x128x128.size d ≤ S8x128x128.size d) (z : Fin 1) (i j : Fin 128) :
    View.readAt (Elt Ideal) a.view (Rect.unit (s := S8x128x128) ![o.val, 0, 0] S1x128x128.size inb).toLoadRect (h.unread x) (ix3 z i j)
      = x (ix3 o i j) := by
  rw [View.readAt_eq_ld, h.read_unread]
  refine congrArg x (funext fun d => Fin.ext ?_)
  fin_cases d
  · show o.val + 1 * z.val = o.val; omega
  · show 0 + 1 * i.val = i.val; omega
  · show 0 + 1 * j.val = j.val; omega

/-- A mask that compares a row's number with a column's keeps what is on and below the diagonal. -/
theorem sel_low (i j : Fin 128) (a b : EReal) :
    Scalar.select (IntOp.cmpi CmpIPredicate.sge (BitVec.ofNat 32 i.val) (BitVec.ofNat 32 j.val)) a b = if j ≤ i then a else b := by
  have h : IntOp.cmpi CmpIPredicate.sge (BitVec.ofNat 32 i.val) (BitVec.ofNat 32 j.val) = if j ≤ i then 1#1 else 0#1 := by
    revert i j; decide +kernel
  rw [h]
  split_ifs <;> rfl

/-- Four slices of 128 rows, side by side: lane `d` of part `c` is column `o + d` of row `i` of run `c`. -/
theorem cat_eq (v : FVec Ideal S512x1024 .f32) (V : Fin 512 → Fin 1024 → ℝ) (hv : ∀ r k, v (ix2 r k) = (V r k : EReal))
    (h : Fin 8) (h0 : S512x1024.Slices ![0, 128 * h.val] S128x128) (h1 : S512x1024.Slices ![128, 128 * h.val] S128x128)
    (h2 : S512x1024.Slices ![256, 128 * h.val] S128x128) (h3 : S512x1024.Slices ![384, 128 * h.val] S128x128)
    (hc) (i : Fin 128) (c : Fin 4) (d : Fin 128) :
    concatenate S128x512 1 [⟨S128x128, extractStridedSlice S128x128 ![0, 128 * h.val] v h0⟩,
      ⟨S128x128, extractStridedSlice S128x128 ![128, 128 * h.val] v h1⟩,
      ⟨S128x128, extractStridedSlice S128x128 ![256, 128 * h.val] v h2⟩,
      ⟨S128x128, extractStridedSlice S128x128 ![384, 128 * h.val] v h3⟩] hc (ix2 i (row4 c d))
      = (V (row4 c i) (col h d) : EReal) := by
  pointwise []
  fin_cases c <;> simp [row4, hv, col]
  · rw [dif_neg (by omega), dif_neg (by omega), dif_pos (by omega)]; congr 3; omega
  · rw [dif_neg (by omega), dif_neg (by omega), dif_neg (by omega)]; congr 3; omega

/-- A mask that compares a column's number with a constant. -/
theorem sel_is (h : Fin 8) (k : ℕ) (hk : k < 8) (a b : EReal) :
    Scalar.select (IntOp.cmpi CmpIPredicate.eq (BitVec.ofNat 32 h.val) (BitVec.ofNat 32 k)) a b = if h.val = k then a else b := by
  have e : ∀ h k : Fin 8, IntOp.cmpi CmpIPredicate.eq (BitVec.ofNat 32 h.val) (BitVec.ofNat 32 k.val)
      = if h.val = k.val then 1#1 else 0#1 := by decide +kernel
  have e' := e h ⟨k, hk⟩
  dsimp only at e'
  rw [e']
  split_ifs <;> rfl

theorem hz3 : (![0, 0, 0] : Fin 3 → Nat) = fun _ => 0 := funext fun a => by fin_cases a <;> rfl

section Slabs

abbrev SlabIn (o : ℕ) : Prop := ∀ d, (![o, 0, 0] : Fin 3 → Nat) d + S1x128x128.size d ≤ S8x128x128.size d

/-- The store of one slab of a stack of eight. -/
abbrev slab (o : ℕ) (inb : SlabIn o) (w : FVec Ideal S1x128x128 .f32) : View.Piece (Elt Ideal) S8x128x128 .f32 :=
  ⟨Rect.unit (s := S8x128x128) ![o, 0, 0] S1x128x128.size inb, w⟩

theorem canon_slab_ne (o : ℕ) (inb : SlabIn o) (w : FVec Ideal S1x128x128 .f32) (L) (h : Fin 8) (hne : h.val ≠ o) (i j : Fin 128) :
    View.canon (slab o inb w :: L) (ix3 h i j) = View.canon L (ix3 h i j) := by
  refine View.canon_cons_of_not_mem _ _ fun hm => hne ?_
  obtain ⟨x, hx⟩ := (slab o inb w).1.exists_idx_of_mem hm
  have e := congrArg (fun y : S8x128x128.Idx => (y 0).val) hx
  have h1 : (x 0).val < 1 := (x 0).isLt
  have e' : o + 1 * (x 0).val = h.val := e
  omega

theorem canon_slab_eq (h : Fin 8) (inb : SlabIn h.val) (w : FVec Ideal S1x128x128 .f32) (L) (i j : Fin 128) :
    View.canon (slab h.val inb w :: L) (ix3 h i j) = w (ix3 0 i j) := by
  refine Eq.trans (congrArg (View.canon (slab h.val inb w :: L)) ?_)
    (View.canon_cons_emb (Rect.unit (s := S8x128x128) ![h.val, 0, 0] S1x128x128.size inb) w L (ix3 (0 : Fin 1) i j))
  funext d
  refine Fin.ext ?_
  fin_cases d
  · show h.val = h.val + 1 * 0; omega
  · show i.val = 0 + 1 * i.val; omega
  · show j.val = 0 + 1 * j.val; omega

/-- Eight stores, one per slab. -/
theorem canon_slabs (w0 w1 w2 w3 w4 w5 w6 w7 : FVec Ideal S1x128x128 .f32) (L) (i0 : SlabIn 0) (i1 : SlabIn 1) (i2 : SlabIn 2)
    (i3 : SlabIn 3) (i4 : SlabIn 4) (i5 : SlabIn 5) (i6 : SlabIn 6) (i7 : SlabIn 7) (V : Fin 8 → Fin 128 → Fin 128 → EReal)
    (h0 : ∀ i j, w0 (ix3 0 i j) = V 0 i j) (h1 : ∀ i j, w1 (ix3 0 i j) = V 1 i j) (h2 : ∀ i j, w2 (ix3 0 i j) = V 2 i j)
    (h3 : ∀ i j, w3 (ix3 0 i j) = V 3 i j) (h4 : ∀ i j, w4 (ix3 0 i j) = V 4 i j) (h5 : ∀ i j, w5 (ix3 0 i j) = V 5 i j)
    (h6 : ∀ i j, w6 (ix3 0 i j) = V 6 i j) (h7 : ∀ i j, w7 (ix3 0 i j) = V 7 i j) (h : Fin 8) (i j : Fin 128) :
    View.canon (slab 7 i7 w7 :: slab 6 i6 w6 :: slab 5 i5 w5 :: slab 4 i4 w4 :: slab 3 i3 w3 :: slab 2 i2 w2 :: slab 1 i1 w1
      :: slab 0 i0 w0 :: L) (ix3 h i j) = V h i j := by
  by_cases e7 : h.val = 7
  · obtain rfl : h = 7 := Fin.ext e7
    exact (canon_slab_eq 7 i7 w7 _ i j).trans (h7 i j)
  refine (canon_slab_ne 7 i7 w7 _ h e7 i j).trans ?_
  by_cases e6 : h.val = 6
  · obtain rfl : h = 6 := Fin.ext e6
    exact (canon_slab_eq 6 i6 w6 _ i j).trans (h6 i j)
  refine (canon_slab_ne 6 i6 w6 _ h e6 i j).trans ?_
  by_cases e5 : h.val = 5
  · obtain rfl : h = 5 := Fin.ext e5
    exact (canon_slab_eq 5 i5 w5 _ i j).trans (h5 i j)
  refine (canon_slab_ne 5 i5 w5 _ h e5 i j).trans ?_
  by_cases e4 : h.val = 4
  · obtain rfl : h = 4 := Fin.ext e4
    exact (canon_slab_eq 4 i4 w4 _ i j).trans (h4 i j)
  refine (canon_slab_ne 4 i4 w4 _ h e4 i j).trans ?_
  by_cases e3 : h.val = 3
  · obtain rfl : h = 3 := Fin.ext e3
    exact (canon_slab_eq 3 i3 w3 _ i j).trans (h3 i j)
  refine (canon_slab_ne 3 i3 w3 _ h e3 i j).trans ?_
  by_cases e2 : h.val = 2
  · obtain rfl : h = 2 := Fin.ext e2
    exact (canon_slab_eq 2 i2 w2 _ i j).trans (h2 i j)
  refine (canon_slab_ne 2 i2 w2 _ h e2 i j).trans ?_
  by_cases e1 : h.val = 1
  · obtain rfl : h = 1 := Fin.ext e1
    exact (canon_slab_eq 1 i1 w1 _ i j).trans (h1 i j)
  refine (canon_slab_ne 1 i1 w1 _ h e1 i j).trans ?_
  obtain rfl : h = 0 := Fin.ext (by have := h.isLt; show h.val = 0; omega)
  exact (canon_slab_eq 0 i0 w0 _ i j).trans (h0 i j)

theorem readCov_slab (a : Memref sig .tc .vmem S8x128x128 .f32) (L) (o : Fin 8) (inb : SlabIn o.val) (z : Fin 1) (i j : Fin 128) :
    a.view.readCov (Val := Elt Ideal) L (Rect.unit (s := S8x128x128) ![o.val, 0, 0] S1x128x128.size inb).toLoadRect (ix3 z i j)
      = View.canon L (ix3 o i j) := by
  rw [View.readCov_eq_canon']
  refine congrArg (View.canon L) (funext fun d => Fin.ext ?_)
  fin_cases d
  · show o.val + 1 * z.val = o.val; omega
  · show 0 + 1 * i.val = i.val; omega
  · show 0 + 1 * j.val = j.val; omega

end Slabs

section Halves

variable (w0 w1 : FVec Ideal S512x1024 .bf16) (i1 : ∀ d, (![0, 1024] : Fin 2 → Nat) d + S512x1024.size d ≤ S512x2048.size d)
  (i0 : ∀ d, (![0, 0] : Fin 2 → Nat) d + S512x1024.size d ≤ S512x2048.size d) (r : Fin 512) (k : Fin 1024)

abbrev halves : List (View.Piece (Elt Ideal) S512x2048 .bf16) :=
  [⟨Rect.unit (s := S512x2048) ![0, 1024] S512x1024.size i1, w1⟩, ⟨Rect.unit (s := S512x2048) ![0, 0] S512x1024.size i0, w0⟩]

theorem emb_right : (ix2 r ⟨1024 + k.val, by omega⟩ : S512x2048.Idx)
    = (Rect.unit (s := S512x2048) ![0, 1024] S512x1024.size i1).emb (ix2 r k : S512x1024.Idx) := by
  funext d
  refine Fin.ext ?_
  fin_cases d
  · show r.val = 0 + 1 * r.val; omega
  · show 1024 + k.val = 1024 + 1 * k.val; omega

theorem emb_left : (ix2 r ⟨k.val, by omega⟩ : S512x2048.Idx)
    = (Rect.unit (s := S512x2048) ![0, 0] S512x1024.size i0).emb (ix2 r k : S512x1024.Idx) := by
  funext d
  refine Fin.ext ?_
  fin_cases d
  · show r.val = 0 + 1 * r.val; omega
  · show k.val = 0 + 1 * k.val; omega

theorem canon_right : View.canon (halves w0 w1 i1 i0) (ix2 r ⟨1024 + k.val, by omega⟩) = w1 (ix2 r k) := by
  rw [emb_right i1]
  exact View.canon_cons_emb (Val := Elt Ideal) (e := .bf16) (Rect.unit (s := S512x2048) ![0, 1024] S512x1024.size i1) w1 _ _

theorem canon_left : View.canon (halves w0 w1 i1 i0) (ix2 r ⟨k.val, by omega⟩) = w0 (ix2 r k) := by
  refine (View.canon_cons_of_not_mem _ _ fun hm => ?_).trans ?_
  · obtain ⟨x, hx⟩ := (Rect.unit (s := S512x2048) ![0, 1024] S512x1024.size i1).exists_idx_of_mem hm
    have e := congrArg (fun y : S512x2048.Idx => (y 1).val) hx
    have e' : 1024 + 1 * (x 1).val = k.val := e
    omega
  rw [emb_left i0]
  exact View.canon_cons_emb (Val := Elt Ideal) (e := .bf16) (Rect.unit (s := S512x2048) ![0, 0] S512x1024.size i0) w0 _ _

end Halves

/-- A table over runs of 128 rows, as one over 512 rows. -/
def rows {M : Type} (f : Fin 4 → Fin 128 → Fin 1024 → M) (r : Fin 512) (k : Fin 1024) : M :=
  f ⟨r.val / 128, by omega⟩ ⟨r.val % 128, by omega⟩ k

theorem rows_row4 {M : Type} (f : Fin 4 → Fin 128 → Fin 1024 → M) (c : Fin 4) (i : Fin 128) (k : Fin 1024) :
    rows f (row4 c i) k = f c i k := by
  have h1 : (⟨(row4 c i).val / 128, by have := (row4 c i).isLt; omega⟩ : Fin 4) = c := Fin.ext (by simp only [row4]; omega)
  have h2 : (⟨(row4 c i).val % 128, by omega⟩ : Fin 128) = i := Fin.ext (by simp only [row4]; omega)
  unfold rows
  rw [h1, h2]

/-- One of the boxes of 128 rows and 128 columns, at the run and the head it belongs to, agrees with a table. -/
theorem box_agrees (f : Fin 4 → Fin 128 → Fin 1024 → EReal) (c : Fin 4) (h : Fin 8)
    (inb : ∀ d, (![128 * c.val, 128 * h.val] : Fin 2 → Nat) d + S128x128.size d ≤ S512x1024.size d) (w : FVec Ideal S128x128 .f32)
    (hw : ∀ i d, w (ix2 i d) = f c i (col h d)) (x : S128x128.Idx) :
    w x = (fun y : S512x1024.Idx => rows f (y 0) (y 1))
      ((Rect.unit (s := S512x1024) ![128 * c.val, 128 * h.val] S128x128.size inb).emb x) := by
  have e : x = ix2 (x 0) (x 1) := funext fun d => by fin_cases d <;> rfl
  rw [e]
  refine (hw (x 0) (x 1)).trans ?_
  rw [← rows_row4 f c (x 0)]
  show rows f _ _ = rows f _ _
  have h1 : row4 c (x 0) = (Rect.unit (s := S512x1024) ![128 * c.val, 128 * h.val] S128x128.size inb).emb (ix2 (x 0) (x 1)) 0 :=
    Fin.ext (by show 128 * c.val + (x 0).val = 128 * c.val + 1 * (x 0).val; omega)
  have h2 : col h (x 1) = (Rect.unit (s := S512x1024) ![128 * c.val, 128 * h.val] S128x128.size inb).emb (ix2 (x 0) (x 1)) 1 :=
    Fin.ext (by show 128 * h.val + (x 1).val = 128 * h.val + 1 * (x 1).val; omega)
  rw [h1, h2]
  rfl

end Cert.Gate

end
-- ==== Proof.Gate.CommonA.lean ====
module

public import proofs.«01_k».proof.Proof.Gate.Tile

@[expose] public section

noncomputable section

namespace Cert.Gate.A

open Idealize.ShloMosaic Cert.KernelIdeal Cert.KernelIdeal.Gen Cert.KernelIdeal.Gen.kernelRun0_A Cert.KernelIdeal.Gen.kernelRun0_A.sl

variable {c : Dev nD}
variable {a1 : Memref sig .tc .vmem S512x1024 .bf16} {p1 : a1.IsWhole}
  {a2 : Memref sig .tc .vmem S512x1024 .bf16} {p2 : a2.IsWhole}
  {a3 : Memref sig .tc .vmem S512x1024 .bf16} {p3 : a3.IsWhole}
  {a4 : Memref sig .tc .vmem S1x1024 .f32} {p4 : a4.IsWhole}
  {a5 : Memref sig .tc .vmem S1x1024 .f32} {p5 : a5.IsWhole}
  {a6 : Memref sig .tc .vmem S8x128x128 .f32} {p6 : a6.IsWhole}
  {a7 : Memref sig .tc .vmem S128x8 .f32} {p7 : a7.IsWhole}
  {a9 : Memref sig .tc .vmem S512x2048 .bf16} {p9 : a9.IsWhole}
  {a10 : Memref sig .tc .vmem S8x128x128 .f32} {p10 : a10.IsWhole}
  {a11 : Memref sig .tc .vmem S128x8 .f32} {p11 : a11.IsWhole}
  {a12 : Memref sig .tc .vmem S1x1024 .f32} {p12 : a12.IsWhole}
  {a13 : Memref sig .tc .vmem S1x1024 .f32} {p13 : a13.IsWhole}
  {a14 : Memref sig .tc .vmem S512x1024 .f32} {p14 : a14.IsWhole}
  {a15 : Memref sig .tc .vmem S512x1024 .f32} {p15 : a15.IsWhole}
variable {x0 x1 x2 : Vec Ideal S512x1024 .bf16} {x3 x4 : Vec Ideal S1x1024 .f32} {x5 : Vec Ideal S8x128x128 .f32}
  {x6 : Vec Ideal S128x8 .f32} {X0 X1 Y : Fin 512 → Fin 1024 → ℝ} {g b : Fin 1024 → ℝ}
  {w : Fin 8 → Fin 128 → Fin 128 → ℝ} {bs : Fin 128 → Fin 8 → ℝ} (T : Tile X0 X1 Y g b w bs x0 x1 x2 x3 x4 x5 x6)
include T

theorem w41 (r : Fin 512) (k : Fin 1024) : v41 c a2 p2 a4 p4 a5 p5 x1 x3 x4 (ix2 r k) = (vn g b (X1 r) k : EReal) := by
  have h := pay11_eq X1 x1 T.v g b x3 x4 T.g T.b r k
  rw [← read_whole a5 p5 x4 hz2 inb_S1x1024_S1x1024_0_0, ← read_whole a4 p4 x3 hz2 inb_S1x1024_S1x1024_0_0,
    ← read_whole a2 p2 x1 hz2 inb_S512x1024_S512x1024_0_0] at h
  exact h

theorem w43 (r : Fin 512) (k : Fin 1024) : v43 c a3 p3 x2 (ix2 r k) = (Y r k : EReal) := by
  pointwise [v43]
  rw [read_whole a3 p3 x2 hz2]
  exact T.y r k

theorem w69 (r : Fin 512) (k : Fin 1024) : v69 c a1 p1 a3 p3 x0 x2 (ix2 r k) = ((Y r k * gelu (X0 r k) : ℝ) : EReal) := by
  have h := pay6_eq X0 x0 T.u r k
  rw [← read_whole a1 p1 x0 hz2 inb_S512x1024_S512x1024_0_0] at h
  pointwise [v69]
  rw [w43 T, EReal.coe_mul, ← h]
  rfl

theorem w48 (i : Fin 128) (h : Fin 8) : v48 c a7 p7 x6 (ix2 i h) = (bs i h : EReal) := by
  pointwise [v48]
  rw [read_whole a7 p7 x6 hz2]
  exact T.s i h

end Cert.Gate.A

end
-- ==== Proof.Gate.GroupsA.lean ====
module

public import proofs.«01_k».proof.Proof.Gate.CommonA

@[expose] public section

noncomputable section

namespace Cert.Gate.A

open Idealize.ShloMosaic Cert.KernelIdeal Cert.KernelIdeal.Gen Cert.KernelIdeal.Gen.kernelRun0_A Cert.KernelIdeal.Gen.kernelRun0_A.sl

variable {c : Dev nD}
variable {a1 : Memref sig .tc .vmem S512x1024 .bf16} {p1 : a1.IsWhole}
  {a2 : Memref sig .tc .vmem S512x1024 .bf16} {p2 : a2.IsWhole}
  {a3 : Memref sig .tc .vmem S512x1024 .bf16} {p3 : a3.IsWhole}
  {a4 : Memref sig .tc .vmem S1x1024 .f32} {p4 : a4.IsWhole}
  {a5 : Memref sig .tc .vmem S1x1024 .f32} {p5 : a5.IsWhole}
  {a6 : Memref sig .tc .vmem S8x128x128 .f32} {p6 : a6.IsWhole}
  {a7 : Memref sig .tc .vmem S128x8 .f32} {p7 : a7.IsWhole}
  {a9 : Memref sig .tc .vmem S512x2048 .bf16} {p9 : a9.IsWhole}
  {a10 : Memref sig .tc .vmem S8x128x128 .f32} {p10 : a10.IsWhole}
  {a11 : Memref sig .tc .vmem S128x8 .f32} {p11 : a11.IsWhole}
  {a12 : Memref sig .tc .vmem S1x1024 .f32} {p12 : a12.IsWhole}
  {a13 : Memref sig .tc .vmem S1x1024 .f32} {p13 : a13.IsWhole}
  {a14 : Memref sig .tc .vmem S512x1024 .f32} {p14 : a14.IsWhole}
  {a15 : Memref sig .tc .vmem S512x1024 .f32} {p15 : a15.IsWhole}
variable {x0 x1 x2 : Vec Ideal S512x1024 .bf16} {x3 x4 : Vec Ideal S1x1024 .f32} {x5 : Vec Ideal S8x128x128 .f32}
  {x6 : Vec Ideal S128x8 .f32} {X0 X1 Y : Fin 512 → Fin 1024 → ℝ} {g b : Fin 1024 → ℝ}
  {w : Fin 8 → Fin 128 → Fin 128 → ℝ} {bs : Fin 128 → Fin 8 → ℝ} (T : Tile X0 X1 Y g b w bs x0 x1 x2 x3 x4 x5 x6)
include T

theorem g0_w (i j : Fin 128) : v58 c a6 p6 x5 (ix2 i j) = (wm w 0 i j : EReal) := by
  pointwise [v58, v57, v55, v44, v45, v56, cst_287]
  simp only [word_zero, sel_low, wm]
  split_ifs
  · exact (read_slab a6 p6 x5 0 _ 0 i j).trans (T.w 0 i j)
  · rfl

theorem g0_v (j : Fin 128) (c' : Fin 4) (d : Fin 128) :
    v64 c a2 p2 a4 p4 a5 p5 x1 x3 x4 (ix2 j (row4 c' d)) = (vn g b (X1 (row4 c' j)) (col 0 d) : EReal) := by
  pointwise [v64]
  exact cat_eq (v41 c a2 p2 a4 p4 a5 p5 x1 x3 x4) (fun r => vn g b (X1 r)) (w41 T) 0 _ _ _ _ _ j c' d

theorem g0_y (i : Fin 128) (c' : Fin 4) (d : Fin 128) :
    v74 c a1 p1 a3 p3 x0 x2 (ix2 i (row4 c' d)) = (ds (X0 ∘ row4 c') (Y ∘ row4 c') i (col 0 d) : EReal) :=
  cat_eq (v69 c a1 p1 a3 p3 x0 x2) (fun r k => Y r k * gelu (X0 r k)) (w69 T) 0 _ _ _ _ _ i c' d

theorem g0_s (i : Fin 128) (c' : Fin 4) (d : Fin 128) :
    v68 c a2 p2 a4 p4 a5 p5 a6 p6 a7 p7 x1 x3 x4 x5 x6 (ix2 i (row4 c' d)) = (sp g b w bs (X1 ∘ row4 c') i (col 0 d) : EReal) := by
  pointwise [v68, v67, v66, v65, cst_27]
  simp only [g0_w T, g0_v T, w48 T, ← EReal.coe_mul, ← coe_sum, ← EReal.coe_add, word_zero, sp, Function.comp_apply, head_col]

theorem g0_d (j : Fin 128) (c' : Fin 4) (d : Fin 128) :
    v92 c a1 p1 a3 p3 a6 p6 x0 x2 x5 (ix2 j (row4 c' d)) = (dvn w (X0 ∘ row4 c') (Y ∘ row4 c') j (col 0 d) : EReal) := by
  pointwise [v92, v82, cst_27]
  simp only [g0_w T, g0_y T, ← EReal.coe_mul, ← coe_sum, dvn, head_col]

theorem g0_gw (i j : Fin 128) :
    v87 c a1 p1 a2 p2 a3 p3 a4 p4 a5 p5 x0 x1 x2 x3 x4 (ix2 i j) = ((∑ c', partW g b (X0 ∘ row4 c') (X1 ∘ row4 c') (Y ∘ row4 c') 0 i j : ℝ) : EReal) := by
  pointwise [v87, v85, v82, v44, v45, v56, cst_33, cst_287]
  simp only [sum_row4, g0_v T, g0_y T, ← EReal.coe_mul, ← coe_sum, partW, sel_low, word_zero]
  split_ifs
  · rfl
  · simp

theorem g0_gb (i : Fin 128) (h : Fin 8) :
    v80 c a1 p1 a3 p3 x0 x2 (ix2 i h) = ((∑ c', partB (X0 ∘ row4 c') (Y ∘ row4 c') i 0 : ℝ) : EReal) := by
  pointwise [v80, v79, v78, v77]
  simp only [sum_row4, g0_y T, ← EReal.coe_mul, ← coe_sum, partB]

theorem g1_w (i j : Fin 128) : v137 c a6 p6 x5 (ix2 i j) = (wm w 1 i j : EReal) := by
  pointwise [v137, v136, v134, v44, v45, v56, cst_287]
  simp only [word_zero, sel_low, wm]
  split_ifs
  · exact (read_slab a6 p6 x5 1 _ 0 i j).trans (T.w 1 i j)
  · rfl

theorem g1_v (j : Fin 128) (c' : Fin 4) (d : Fin 128) :
    v143 c a2 p2 a4 p4 a5 p5 x1 x3 x4 (ix2 j (row4 c' d)) = (vn g b (X1 (row4 c' j)) (col 1 d) : EReal) := by
  pointwise [v143]
  exact cat_eq (v41 c a2 p2 a4 p4 a5 p5 x1 x3 x4) (fun r => vn g b (X1 r)) (w41 T) 1 _ _ _ _ _ j c' d

theorem g1_y (i : Fin 128) (c' : Fin 4) (d : Fin 128) :
    v153 c a1 p1 a3 p3 x0 x2 (ix2 i (row4 c' d)) = (ds (X0 ∘ row4 c') (Y ∘ row4 c') i (col 1 d) : EReal) :=
  cat_eq (v69 c a1 p1 a3 p3 x0 x2) (fun r k => Y r k * gelu (X0 r k)) (w69 T) 1 _ _ _ _ _ i c' d

theorem g1_s (i : Fin 128) (c' : Fin 4) (d : Fin 128) :
    v147 c a2 p2 a4 p4 a5 p5 a6 p6 a7 p7 x1 x3 x4 x5 x6 (ix2 i (row4 c' d)) = (sp g b w bs (X1 ∘ row4 c') i (col 1 d) : EReal) := by
  pointwise [v147, v146, v145, v144, cst_27]
  simp only [g1_w T, g1_v T, w48 T, ← EReal.coe_mul, ← coe_sum, ← EReal.coe_add, word_zero, sp, Function.comp_apply, head_col]

theorem g1_d (j : Fin 128) (c' : Fin 4) (d : Fin 128) :
    v171 c a1 p1 a3 p3 a6 p6 x0 x2 x5 (ix2 j (row4 c' d)) = (dvn w (X0 ∘ row4 c') (Y ∘ row4 c') j (col 1 d) : EReal) := by
  pointwise [v171, v161, cst_27]
  simp only [g1_w T, g1_y T, ← EReal.coe_mul, ← coe_sum, dvn, head_col]

theorem g1_gw (i j : Fin 128) :
    v166 c a1 p1 a2 p2 a3 p3 a4 p4 a5 p5 x0 x1 x2 x3 x4 (ix2 i j) = ((∑ c', partW g b (X0 ∘ row4 c') (X1 ∘ row4 c') (Y ∘ row4 c') 1 i j : ℝ) : EReal) := by
  pointwise [v166, v164, v161, v44, v45, v56, cst_33, cst_287]
  simp only [sum_row4, g1_v T, g1_y T, ← EReal.coe_mul, ← coe_sum, partW, sel_low, word_zero]
  split_ifs
  · rfl
  · simp

theorem g1_gb (i : Fin 128) (h : Fin 8) :
    v159 c a1 p1 a3 p3 x0 x2 (ix2 i h) = ((∑ c', partB (X0 ∘ row4 c') (Y ∘ row4 c') i 1 : ℝ) : EReal) := by
  pointwise [v159, v158, v157, v156]
  simp only [sum_row4, g1_y T, ← EReal.coe_mul, ← coe_sum, partB]

theorem g2_w (i j : Fin 128) : v216 c a6 p6 x5 (ix2 i j) = (wm w 2 i j : EReal) := by
  pointwise [v216, v215, v213, v44, v45, v56, cst_287]
  simp only [word_zero, sel_low, wm]
  split_ifs
  · exact (read_slab a6 p6 x5 2 _ 0 i j).trans (T.w 2 i j)
  · rfl

theorem g2_v (j : Fin 128) (c' : Fin 4) (d : Fin 128) :
    v222 c a2 p2 a4 p4 a5 p5 x1 x3 x4 (ix2 j (row4 c' d)) = (vn g b (X1 (row4 c' j)) (col 2 d) : EReal) := by
  pointwise [v222]
  exact cat_eq (v41 c a2 p2 a4 p4 a5 p5 x1 x3 x4) (fun r => vn g b (X1 r)) (w41 T) 2 _ _ _ _ _ j c' d

theorem g2_y (i : Fin 128) (c' : Fin 4) (d : Fin 128) :
    v232 c a1 p1 a3 p3 x0 x2 (ix2 i (row4 c' d)) = (ds (X0 ∘ row4 c') (Y ∘ row4 c') i (col 2 d) : EReal) :=
  cat_eq (v69 c a1 p1 a3 p3 x0 x2) (fun r k => Y r k * gelu (X0 r k)) (w69 T) 2 _ _ _ _ _ i c' d

theorem g2_s (i : Fin 128) (c' : Fin 4) (d : Fin 128) :
    v226 c a2 p2 a4 p4 a5 p5 a6 p6 a7 p7 x1 x3 x4 x5 x6 (ix2 i (row4 c' d)) = (sp g b w bs (X1 ∘ row4 c') i (col 2 d) : EReal) := by
  pointwise [v226, v225, v224, v223, cst_27]
  simp only [g2_w T, g2_v T, w48 T, ← EReal.coe_mul, ← coe_sum, ← EReal.coe_add, word_zero, sp, Function.comp_apply, head_col]

theorem g2_d (j : Fin 128) (c' : Fin 4) (d : Fin 128) :
    v250 c a1 p1 a3 p3 a6 p6 x0 x2 x5 (ix2 j (row4 c' d)) = (dvn w (X0 ∘ row4 c') (Y ∘ row4 c') j (col 2 d) : EReal) := by
  pointwise [v250, v240, cst_27]
  simp only [g2_w T, g2_y T, ← EReal.coe_mul, ← coe_sum, dvn, head_col]

theorem g2_gw (i j : Fin 128) :
    v245 c a1 p1 a2 p2 a3 p3 a4 p4 a5 p5 x0 x1 x2 x3 x4 (ix2 i j) = ((∑ c', partW g b (X0 ∘ row4 c') (X1 ∘ row4 c') (Y ∘ row4 c') 2 i j : ℝ) : EReal) := by
  pointwise [v245, v243, v240, v44, v45, v56, cst_33, cst_287]
  simp only [sum_row4, g2_v T, g2_y T, ← EReal.coe_mul, ← coe_sum, partW, sel_low, word_zero]
  split_ifs
  · rfl
  · simp

theorem g2_gb (i : Fin 128) (h : Fin 8) :
    v238 c a1 p1 a3 p3 x0 x2 (ix2 i h) = ((∑ c', partB (X0 ∘ row4 c') (Y ∘ row4 c') i 2 : ℝ) : EReal) := by
  pointwise [v238, v237, v236, v235]
  simp only [sum_row4, g2_y T, ← EReal.coe_mul, ← coe_sum, partB]

theorem g3_w (i j : Fin 128) : v295 c a6 p6 x5 (ix2 i j) = (wm w 3 i j : EReal) := by
  pointwise [v295, v294, v292, v44, v45, v56, cst_287]
  simp only [word_zero, sel_low, wm]
  split_ifs
  · exact (read_slab a6 p6 x5 3 _ 0 i j).trans (T.w 3 i j)
  · rfl

theorem g3_v (j : Fin 128) (c' : Fin 4) (d : Fin 128) :
    v301 c a2 p2 a4 p4 a5 p5 x1 x3 x4 (ix2 j (row4 c' d)) = (vn g b (X1 (row4 c' j)) (col 3 d) : EReal) := by
  pointwise [v301]
  exact cat_eq (v41 c a2 p2 a4 p4 a5 p5 x1 x3 x4) (fun r => vn g b (X1 r)) (w41 T) 3 _ _ _ _ _ j c' d

theorem g3_y (i : Fin 128) (c' : Fin 4) (d : Fin 128) :
    v311 c a1 p1 a3 p3 x0 x2 (ix2 i (row4 c' d)) = (ds (X0 ∘ row4 c') (Y ∘ row4 c') i (col 3 d) : EReal) :=
  cat_eq (v69 c a1 p1 a3 p3 x0 x2) (fun r k => Y r k * gelu (X0 r k)) (w69 T) 3 _ _ _ _ _ i c' d

theorem g3_s (i : Fin 128) (c' : Fin 4) (d : Fin 128) :
    v305 c a2 p2 a4 p4 a5 p5 a6 p6 a7 p7 x1 x3 x4 x5 x6 (ix2 i (row4 c' d)) = (sp g b w bs (X1 ∘ row4 c') i (col 3 d) : EReal) := by
  pointwise [v305, v304, v303, v302, cst_27]
  simp only [g3_w T, g3_v T, w48 T, ← EReal.coe_mul, ← coe_sum, ← EReal.coe_add, word_zero, sp, Function.comp_apply, head_col]

theorem g3_d (j : Fin 128) (c' : Fin 4) (d : Fin 128) :
    v329 c a1 p1 a3 p3 a6 p6 x0 x2 x5 (ix2 j (row4 c' d)) = (dvn w (X0 ∘ row4 c') (Y ∘ row4 c') j (col 3 d) : EReal) := by
  pointwise [v329, v319, cst_27]
  simp only [g3_w T, g3_y T, ← EReal.coe_mul, ← coe_sum, dvn, head_col]

theorem g3_gw (i j : Fin 128) :
    v324 c a1 p1 a2 p2 a3 p3 a4 p4 a5 p5 x0 x1 x2 x3 x4 (ix2 i j) = ((∑ c', partW g b (X0 ∘ row4 c') (X1 ∘ row4 c') (Y ∘ row4 c') 3 i j : ℝ) : EReal) := by
  pointwise [v324, v322, v319, v44, v45, v56, cst_33, cst_287]
  simp only [sum_row4, g3_v T, g3_y T, ← EReal.coe_mul, ← coe_sum, partW, sel_low, word_zero]
  split_ifs
  · rfl
  · simp

theorem g3_gb (i : Fin 128) (h : Fin 8) :
    v317 c a1 p1 a3 p3 x0 x2 (ix2 i h) = ((∑ c', partB (X0 ∘ row4 c') (Y ∘ row4 c') i 3 : ℝ) : EReal) := by
  pointwise [v317, v316, v315, v314]
  simp only [sum_row4, g3_y T, ← EReal.coe_mul, ← coe_sum, partB]

theorem g4_w (i j : Fin 128) : v374 c a6 p6 x5 (ix2 i j) = (wm w 4 i j : EReal) := by
  pointwise [v374, v373, v371, v44, v45, v56, cst_287]
  simp only [word_zero, sel_low, wm]
  split_ifs
  · exact (read_slab a6 p6 x5 4 _ 0 i j).trans (T.w 4 i j)
  · rfl

theorem g4_v (j : Fin 128) (c' : Fin 4) (d : Fin 128) :
    v380 c a2 p2 a4 p4 a5 p5 x1 x3 x4 (ix2 j (row4 c' d)) = (vn g b (X1 (row4 c' j)) (col 4 d) : EReal) := by
  pointwise [v380]
  exact cat_eq (v41 c a2 p2 a4 p4 a5 p5 x1 x3 x4) (fun r => vn g b (X1 r)) (w41 T) 4 _ _ _ _ _ j c' d

theorem g4_y (i : Fin 128) (c' : Fin 4) (d : Fin 128) :
    v390 c a1 p1 a3 p3 x0 x2 (ix2 i (row4 c' d)) = (ds (X0 ∘ row4 c') (Y ∘ row4 c') i (col 4 d) : EReal) :=
  cat_eq (v69 c a1 p1 a3 p3 x0 x2) (fun r k => Y r k * gelu (X0 r k)) (w69 T) 4 _ _ _ _ _ i c' d

theorem g4_s (i : Fin 128) (c' : Fin 4) (d : Fin 128) :
    v384 c a2 p2 a4 p4 a5 p5 a6 p6 a7 p7 x1 x3 x4 x5 x6 (ix2 i (row4 c' d)) = (sp g b w bs (X1 ∘ row4 c') i (col 4 d) : EReal) := by
  pointwise [v384, v383, v382, v381, cst_27]
  simp only [g4_w T, g4_v T, w48 T, ← EReal.coe_mul, ← coe_sum, ← EReal.coe_add, word_zero, sp, Function.comp_apply, head_col]

theorem g4_d (j : Fin 128) (c' : Fin 4) (d : Fin 128) :
    v408 c a1 p1 a3 p3 a6 p6 x0 x2 x5 (ix2 j (row4 c' d)) = (dvn w (X0 ∘ row4 c') (Y ∘ row4 c') j (col 4 d) : EReal) := by
  pointwise [v408, v398, cst_27]
  simp only [g4_w T, g4_y T, ← EReal.coe_mul, ← coe_sum, dvn, head_col]

theorem g4_gw (i j : Fin 128) :
    v403 c a1 p1 a2 p2 a3 p3 a4 p4 a5 p5 x0 x1 x2 x3 x4 (ix2 i j) = ((∑ c', partW g b (X0 ∘ row4 c') (X1 ∘ row4 c') (Y ∘ row4 c') 4 i j : ℝ) : EReal) := by
  pointwise [v403, v401, v398, v44, v45, v56, cst_33, cst_287]
  simp only [sum_row4, g4_v T, g4_y T, ← EReal.coe_mul, ← coe_sum, partW, sel_low, word_zero]
  split_ifs
  · rfl
  · simp

theorem g4_gb (i : Fin 128) (h : Fin 8) :
    v396 c a1 p1 a3 p3 x0 x2 (ix2 i h) = ((∑ c', partB (X0 ∘ row4 c') (Y ∘ row4 c') i 4 : ℝ) : EReal) := by
  pointwise [v396, v395, v394, v393]
  simp only [sum_row4, g4_y T, ← EReal.coe_mul, ← coe_sum, partB]

theorem g5_w (i j : Fin 128) : v453 c a6 p6 x5 (ix2 i j) = (wm w 5 i j : EReal) := by
  pointwise [v453, v452, v450, v44, v45, v56, cst_287]
  simp only [word_zero, sel_low, wm]
  split_ifs
  · exact (read_slab a6 p6 x5 5 _ 0 i j).trans (T.w 5 i j)
  · rfl

theorem g5_v (j : Fin 128) (c' : Fin 4) (d : Fin 128) :
    v459 c a2 p2 a4 p4 a5 p5 x1 x3 x4 (ix2 j (row4 c' d)) = (vn g b (X1 (row4 c' j)) (col 5 d) : EReal) := by
  pointwise [v459]
  exact cat_eq (v41 c a2 p2 a4 p4 a5 p5 x1 x3 x4) (fun r => vn g b (X1 r)) (w41 T) 5 _ _ _ _ _ j c' d

theorem g5_y (i : Fin 128) (c' : Fin 4) (d : Fin 128) :
    v469 c a1 p1 a3 p3 x0 x2 (ix2 i (row4 c' d)) = (ds (X0 ∘ row4 c') (Y ∘ row4 c') i (col 5 d) : EReal) :=
  cat_eq (v69 c a1 p1 a3 p3 x0 x2) (fun r k => Y r k * gelu (X0 r k)) (w69 T) 5 _ _ _ _ _ i c' d

theorem g5_s (i : Fin 128) (c' : Fin 4) (d : Fin 128) :
    v463 c a2 p2 a4 p4 a5 p5 a6 p6 a7 p7 x1 x3 x4 x5 x6 (ix2 i (row4 c' d)) = (sp g b w bs (X1 ∘ row4 c') i (col 5 d) : EReal) := by
  pointwise [v463, v462, v461, v460, cst_27]
  simp only [g5_w T, g5_v T, w48 T, ← EReal.coe_mul, ← coe_sum, ← EReal.coe_add, word_zero, sp, Function.comp_apply, head_col]

theorem g5_d (j : Fin 128) (c' : Fin 4) (d : Fin 128) :
    v487 c a1 p1 a3 p3 a6 p6 x0 x2 x5 (ix2 j (row4 c' d)) = (dvn w (X0 ∘ row4 c') (Y ∘ row4 c') j (col 5 d) : EReal) := by
  pointwise [v487, v477, cst_27]
  simp only [g5_w T, g5_y T, ← EReal.coe_mul, ← coe_sum, dvn, head_col]

theorem g5_gw (i j : Fin 128) :
    v482 c a1 p1 a2 p2 a3 p3 a4 p4 a5 p5 x0 x1 x2 x3 x4 (ix2 i j) = ((∑ c', partW g b (X0 ∘ row4 c') (X1 ∘ row4 c') (Y ∘ row4 c') 5 i j : ℝ) : EReal) := by
  pointwise [v482, v480, v477, v44, v45, v56, cst_33, cst_287]
  simp only [sum_row4, g5_v T, g5_y T, ← EReal.coe_mul, ← coe_sum, partW, sel_low, word_zero]
  split_ifs
  · rfl
  · simp

theorem g5_gb (i : Fin 128) (h : Fin 8) :
    v475 c a1 p1 a3 p3 x0 x2 (ix2 i h) = ((∑ c', partB (X0 ∘ row4 c') (Y ∘ row4 c') i 5 : ℝ) : EReal) := by
  pointwise [v475, v474, v473, v472]
  simp only [sum_row4, g5_y T, ← EReal.coe_mul, ← coe_sum, partB]

theorem g6_w (i j : Fin 128) : v532 c a6 p6 x5 (ix2 i j) = (wm w 6 i j : EReal) := by
  pointwise [v532, v531, v529, v44, v45, v56, cst_287]
  simp only [word_zero, sel_low, wm]
  split_ifs
  · exact (read_slab a6 p6 x5 6 _ 0 i j).trans (T.w 6 i j)
  · rfl

theorem g6_v (j : Fin 128) (c' : Fin 4) (d : Fin 128) :
    v538 c a2 p2 a4 p4 a5 p5 x1 x3 x4 (ix2 j (row4 c' d)) = (vn g b (X1 (row4 c' j)) (col 6 d) : EReal) := by
  pointwise [v538]
  exact cat_eq (v41 c a2 p2 a4 p4 a5 p5 x1 x3 x4) (fun r => vn g b (X1 r)) (w41 T) 6 _ _ _ _ _ j c' d

theorem g6_y (i : Fin 128) (c' : Fin 4) (d : Fin 128) :
    v548 c a1 p1 a3 p3 x0 x2 (ix2 i (row4 c' d)) = (ds (X0 ∘ row4 c') (Y ∘ row4 c') i (col 6 d) : EReal) :=
  cat_eq (v69 c a1 p1 a3 p3 x0 x2) (fun r k => Y r k * gelu (X0 r k)) (w69 T) 6 _ _ _ _ _ i c' d

theorem g6_s (i : Fin 128) (c' : Fin 4) (d : Fin 128) :
    v542 c a2 p2 a4 p4 a5 p5 a6 p6 a7 p7 x1 x3 x4 x5 x6 (ix2 i (row4 c' d)) = (sp g b w bs (X1 ∘ row4 c') i (col 6 d) : EReal) := by
  pointwise [v542, v541, v540, v539, cst_27]
  simp only [g6_w T, g6_v T, w48 T, ← EReal.coe_mul, ← coe_sum, ← EReal.coe_add, word_zero, sp, Function.comp_apply, head_col]

theorem g6_d (j : Fin 128) (c' : Fin 4) (d : Fin 128) :
    v566 c a1 p1 a3 p3 a6 p6 x0 x2 x5 (ix2 j (row4 c' d)) = (dvn w (X0 ∘ row4 c') (Y ∘ row4 c') j (col 6 d) : EReal) := by
  pointwise [v566, v556, cst_27]
  simp only [g6_w T, g6_y T, ← EReal.coe_mul, ← coe_sum, dvn, head_col]

theorem g6_gw (i j : Fin 128) :
    v561 c a1 p1 a2 p2 a3 p3 a4 p4 a5 p5 x0 x1 x2 x3 x4 (ix2 i j) = ((∑ c', partW g b (X0 ∘ row4 c') (X1 ∘ row4 c') (Y ∘ row4 c') 6 i j : ℝ) : EReal) := by
  pointwise [v561, v559, v556, v44, v45, v56, cst_33, cst_287]
  simp only [sum_row4, g6_v T, g6_y T, ← EReal.coe_mul, ← coe_sum, partW, sel_low, word_zero]
  split_ifs
  · rfl
  · simp

theorem g6_gb (i : Fin 128) (h : Fin 8) :
    v554 c a1 p1 a3 p3 x0 x2 (ix2 i h) = ((∑ c', partB (X0 ∘ row4 c') (Y ∘ row4 c') i 6 : ℝ) : EReal) := by
  pointwise [v554, v553, v552, v551]
  simp only [sum_row4, g6_y T, ← EReal.coe_mul, ← coe_sum, partB]

theorem g7_w (i j : Fin 128) : v611 c a6 p6 x5 (ix2 i j) = (wm w 7 i j : EReal) := by
  pointwise [v611, v610, v608, v44, v45, v56, cst_287]
  simp only [word_zero, sel_low, wm]
  split_ifs
  · exact (read_slab a6 p6 x5 7 _ 0 i j).trans (T.w 7 i j)
  · rfl

theorem g7_v (j : Fin 128) (c' : Fin 4) (d : Fin 128) :
    v617 c a2 p2 a4 p4 a5 p5 x1 x3 x4 (ix2 j (row4 c' d)) = (vn g b (X1 (row4 c' j)) (col 7 d) : EReal) := by
  pointwise [v617]
  exact cat_eq (v41 c a2 p2 a4 p4 a5 p5 x1 x3 x4) (fun r => vn g b (X1 r)) (w41 T) 7 _ _ _ _ _ j c' d

theorem g7_y (i : Fin 128) (c' : Fin 4) (d : Fin 128) :
    v627 c a1 p1 a3 p3 x0 x2 (ix2 i (row4 c' d)) = (ds (X0 ∘ row4 c') (Y ∘ row4 c') i (col 7 d) : EReal) :=
  cat_eq (v69 c a1 p1 a3 p3 x0 x2) (fun r k => Y r k * gelu (X0 r k)) (w69 T) 7 _ _ _ _ _ i c' d

theorem g7_s (i : Fin 128) (c' : Fin 4) (d : Fin 128) :
    v621 c a2 p2 a4 p4 a5 p5 a6 p6 a7 p7 x1 x3 x4 x5 x6 (ix2 i (row4 c' d)) = (sp g b w bs (X1 ∘ row4 c') i (col 7 d) : EReal) := by
  pointwise [v621, v620, v619, v618, cst_27]
  simp only [g7_w T, g7_v T, w48 T, ← EReal.coe_mul, ← coe_sum, ← EReal.coe_add, word_zero, sp, Function.comp_apply, head_col]

theorem g7_d (j : Fin 128) (c' : Fin 4) (d : Fin 128) :
    v645 c a1 p1 a3 p3 a6 p6 x0 x2 x5 (ix2 j (row4 c' d)) = (dvn w (X0 ∘ row4 c') (Y ∘ row4 c') j (col 7 d) : EReal) := by
  pointwise [v645, v635, cst_27]
  simp only [g7_w T, g7_y T, ← EReal.coe_mul, ← coe_sum, dvn, head_col]

theorem g7_gw (i j : Fin 128) :
    v640 c a1 p1 a2 p2 a3 p3 a4 p4 a5 p5 x0 x1 x2 x3 x4 (ix2 i j) = ((∑ c', partW g b (X0 ∘ row4 c') (X1 ∘ row4 c') (Y ∘ row4 c') 7 i j : ℝ) : EReal) := by
  pointwise [v640, v638, v635, v44, v45, v56, cst_33, cst_287]
  simp only [sum_row4, g7_v T, g7_y T, ← EReal.coe_mul, ← coe_sum, partW, sel_low, word_zero]
  split_ifs
  · rfl
  · simp

theorem g7_gb (i : Fin 128) (h : Fin 8) :
    v633 c a1 p1 a3 p3 x0 x2 (ix2 i h) = ((∑ c', partB (X0 ∘ row4 c') (Y ∘ row4 c') i 7 : ℝ) : EReal) := by
  pointwise [v633, v632, v631, v630]
  simp only [sum_row4, g7_y T, ← EReal.coe_mul, ← coe_sum, partB]

end Cert.Gate.A

end
-- ==== Proof.Gate.StoresA.lean ====
module

public import proofs.«01_k».proof.Proof.Gate.GroupsA

@[expose] public section

noncomputable section

namespace Cert.Gate.A

open Idealize.ShloMosaic Cert.KernelIdeal Cert.KernelIdeal.Gen Cert.KernelIdeal.Gen.kernelRun0_A Cert.KernelIdeal.Gen.kernelRun0_A.sl

variable {c : Dev nD}
variable {a1 : Memref sig .tc .vmem S512x1024 .bf16} {p1 : a1.IsWhole}
  {a2 : Memref sig .tc .vmem S512x1024 .bf16} {p2 : a2.IsWhole}
  {a3 : Memref sig .tc .vmem S512x1024 .bf16} {p3 : a3.IsWhole}
  {a4 : Memref sig .tc .vmem S1x1024 .f32} {p4 : a4.IsWhole}
  {a5 : Memref sig .tc .vmem S1x1024 .f32} {p5 : a5.IsWhole}
  {a6 : Memref sig .tc .vmem S8x128x128 .f32} {p6 : a6.IsWhole}
  {a7 : Memref sig .tc .vmem S128x8 .f32} {p7 : a7.IsWhole}
  {a9 : Memref sig .tc .vmem S512x2048 .bf16} {p9 : a9.IsWhole}
  {a10 : Memref sig .tc .vmem S8x128x128 .f32} {p10 : a10.IsWhole}
  {a11 : Memref sig .tc .vmem S128x8 .f32} {p11 : a11.IsWhole}
  {a12 : Memref sig .tc .vmem S1x1024 .f32} {p12 : a12.IsWhole}
  {a13 : Memref sig .tc .vmem S1x1024 .f32} {p13 : a13.IsWhole}
  {a14 : Memref sig .tc .vmem S512x1024 .f32} {p14 : a14.IsWhole}
  {a15 : Memref sig .tc .vmem S512x1024 .f32} {p15 : a15.IsWhole}
variable {x0 x1 x2 : Vec Ideal S512x1024 .bf16} {x3 x4 : Vec Ideal S1x1024 .f32} {x5 : Vec Ideal S8x128x128 .f32}
  {x6 : Vec Ideal S128x8 .f32} {X0 X1 Y : Fin 512 → Fin 1024 → ℝ} {g b : Fin 1024 → ℝ}
  {w : Fin 8 → Fin 128 → Fin 128 → ℝ} {bs : Fin 128 → Fin 8 → ℝ} (T : Tile X0 X1 Y g b w bs x0 x1 x2 x3 x4 x5 x6)
include T

theorem g0_z (i j : Fin 128) : v83 (F := Ideal) c a10 (ix3 0 i j) = 0 := by
  refine (readCov_slab _ _ 0 _ 0 i j).trans ?_
  refine (congrFun (View.canon_unit_zero hz3 _ _) _).trans ?_
  pointwise [v745, cst_287]

theorem g0_o8 (i j : Fin 128) :
    v91 c a1 p1 a2 p2 a3 p3 a4 p4 a5 p5 a10 x0 x1 x2 x3 x4 (ix3 0 i j)
      = ((∑ c', partW g b (X0 ∘ row4 c') (X1 ∘ row4 c') (Y ∘ row4 c') 0 i j : ℝ) : EReal) := by
  pointwise [v91, v88, v84]
  rw [g0_z T, g0_gw T, zero_add]

theorem g0_sel (i : Fin 128) (h : Fin 8) :
    v81 c a1 p1 a3 p3 x0 x2 (ix2 i h) = if h.val ≤ 0 then ((∑ c', partB (X0 ∘ row4 c') (Y ∘ row4 c') i h : ℝ) : EReal) else 0 := by
  pointwise [v81, v52, v75, v747, cst_287]
  rw [sel_is _ 0 (by decide), g0_gb T]
  split_ifs with h1 h2 h2
  all_goals first
    | rfl
    | (exfalso; omega)
    | (obtain rfl : h = 0 := Fin.ext h1; rfl)

theorem g0_p14_0 (i d : Fin 128) : v96 c a1 p1 a3 p3 a6 p6 x0 x2 x5 (ix2 i d) = (dvn w (X0 ∘ row4 0) (Y ∘ row4 0) i (col 0 d) : EReal) := by
  pointwise [v96, v93]
  exact (congrArg _ (congrArg (ix2 i) (Fin.ext (by simp [row4])))).trans (g0_d T i 0 d)

theorem g0_p14_1 (i d : Fin 128) : v106 c a1 p1 a3 p3 a6 p6 x0 x2 x5 (ix2 i d) = (dvn w (X0 ∘ row4 1) (Y ∘ row4 1) i (col 0 d) : EReal) := by
  pointwise [v106, v103]
  exact (congrArg _ (congrArg (ix2 i) (Fin.ext (by simp [row4])))).trans (g0_d T i 1 d)

theorem g0_p14_2 (i d : Fin 128) : v116 c a1 p1 a3 p3 a6 p6 x0 x2 x5 (ix2 i d) = (dvn w (X0 ∘ row4 2) (Y ∘ row4 2) i (col 0 d) : EReal) := by
  pointwise [v116, v113]
  exact (congrArg _ (congrArg (ix2 i) (Fin.ext (by simp [row4])))).trans (g0_d T i 2 d)

theorem g0_p14_3 (i d : Fin 128) : v126 c a1 p1 a3 p3 a6 p6 x0 x2 x5 (ix2 i d) = (dvn w (X0 ∘ row4 3) (Y ∘ row4 3) i (col 0 d) : EReal) := by
  pointwise [v126, v123]
  exact (congrArg _ (congrArg (ix2 i) (Fin.ext (by simp [row4])))).trans (g0_d T i 3 d)

theorem g0_p15_0 (i d : Fin 128) : v102 c a2 p2 a3 p3 a4 p4 a5 p5 a6 p6 a7 p7 x1 x2 x3 x4 x5 x6 (ix2 i d)
    = ((Y (row4 0 i) (col 0 d) * sp g b w bs (X1 ∘ row4 0) i (col 0 d) : ℝ) : EReal) := by
  pointwise [v102, v99, v97, v98]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g0_s T i 0 d))

theorem g0_p15_1 (i d : Fin 128) : v112 c a2 p2 a3 p3 a4 p4 a5 p5 a6 p6 a7 p7 x1 x2 x3 x4 x5 x6 (ix2 i d)
    = ((Y (row4 1 i) (col 0 d) * sp g b w bs (X1 ∘ row4 1) i (col 0 d) : ℝ) : EReal) := by
  pointwise [v112, v109, v107, v108]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g0_s T i 1 d))

theorem g0_p15_2 (i d : Fin 128) : v122 c a2 p2 a3 p3 a4 p4 a5 p5 a6 p6 a7 p7 x1 x2 x3 x4 x5 x6 (ix2 i d)
    = ((Y (row4 2 i) (col 0 d) * sp g b w bs (X1 ∘ row4 2) i (col 0 d) : ℝ) : EReal) := by
  pointwise [v122, v119, v117, v118]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g0_s T i 2 d))

theorem g0_p15_3 (i d : Fin 128) : v132 c a2 p2 a3 p3 a4 p4 a5 p5 a6 p6 a7 p7 x1 x2 x3 x4 x5 x6 (ix2 i d)
    = ((Y (row4 3 i) (col 0 d) * sp g b w bs (X1 ∘ row4 3) i (col 0 d) : ℝ) : EReal) := by
  pointwise [v132, v129, v127, v128]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g0_s T i 3 d))

theorem g1_z (i j : Fin 128) : v162 c a1 p1 a2 p2 a3 p3 a4 p4 a5 p5 a10 x0 x1 x2 x3 x4 (ix3 0 i j) = 0 := by
  refine (readCov_slab _ _ 1 _ 0 i j).trans ?_
  refine (canon_slab_ne 0 _ _ _ 1 (by decide) i j).trans ?_
  refine (congrFun (View.canon_unit_zero hz3 _ _) _).trans ?_
  pointwise [v745, cst_287]

theorem g1_o8 (i j : Fin 128) :
    v170 c a1 p1 a2 p2 a3 p3 a4 p4 a5 p5 a10 x0 x1 x2 x3 x4 (ix3 0 i j)
      = ((∑ c', partW g b (X0 ∘ row4 c') (X1 ∘ row4 c') (Y ∘ row4 c') 1 i j : ℝ) : EReal) := by
  pointwise [v170, v167, v163]
  rw [g1_z T, g1_gw T, zero_add]

theorem g1_sel (i : Fin 128) (h : Fin 8) :
    v160 c a1 p1 a3 p3 x0 x2 (ix2 i h) = if h.val ≤ 1 then ((∑ c', partB (X0 ∘ row4 c') (Y ∘ row4 c') i h : ℝ) : EReal) else 0 := by
  pointwise [v160, v52, v154]
  rw [sel_is _ 1 (by decide), g1_gb T, g0_sel T]
  split_ifs with h1 h2 h2
  all_goals first
    | rfl
    | (exfalso; omega)
    | (obtain rfl : h = 1 := Fin.ext h1; rfl)

theorem g1_p14_0 (i d : Fin 128) : v175 c a1 p1 a3 p3 a6 p6 x0 x2 x5 (ix2 i d) = (dvn w (X0 ∘ row4 0) (Y ∘ row4 0) i (col 1 d) : EReal) := by
  pointwise [v175, v172]
  exact (congrArg _ (congrArg (ix2 i) (Fin.ext (by simp [row4])))).trans (g1_d T i 0 d)

theorem g1_p14_1 (i d : Fin 128) : v185 c a1 p1 a3 p3 a6 p6 x0 x2 x5 (ix2 i d) = (dvn w (X0 ∘ row4 1) (Y ∘ row4 1) i (col 1 d) : EReal) := by
  pointwise [v185, v182]
  exact (congrArg _ (congrArg (ix2 i) (Fin.ext (by simp [row4])))).trans (g1_d T i 1 d)

theorem g1_p14_2 (i d : Fin 128) : v195 c a1 p1 a3 p3 a6 p6 x0 x2 x5 (ix2 i d) = (dvn w (X0 ∘ row4 2) (Y ∘ row4 2) i (col 1 d) : EReal) := by
  pointwise [v195, v192]
  exact (congrArg _ (congrArg (ix2 i) (Fin.ext (by simp [row4])))).trans (g1_d T i 2 d)

theorem g1_p14_3 (i d : Fin 128) : v205 c a1 p1 a3 p3 a6 p6 x0 x2 x5 (ix2 i d) = (dvn w (X0 ∘ row4 3) (Y ∘ row4 3) i (col 1 d) : EReal) := by
  pointwise [v205, v202]
  exact (congrArg _ (congrArg (ix2 i) (Fin.ext (by simp [row4])))).trans (g1_d T i 3 d)

theorem g1_p15_0 (i d : Fin 128) : v181 c a2 p2 a3 p3 a4 p4 a5 p5 a6 p6 a7 p7 x1 x2 x3 x4 x5 x6 (ix2 i d)
    = ((Y (row4 0 i) (col 1 d) * sp g b w bs (X1 ∘ row4 0) i (col 1 d) : ℝ) : EReal) := by
  pointwise [v181, v178, v176, v177]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g1_s T i 0 d))

theorem g1_p15_1 (i d : Fin 128) : v191 c a2 p2 a3 p3 a4 p4 a5 p5 a6 p6 a7 p7 x1 x2 x3 x4 x5 x6 (ix2 i d)
    = ((Y (row4 1 i) (col 1 d) * sp g b w bs (X1 ∘ row4 1) i (col 1 d) : ℝ) : EReal) := by
  pointwise [v191, v188, v186, v187]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g1_s T i 1 d))

theorem g1_p15_2 (i d : Fin 128) : v201 c a2 p2 a3 p3 a4 p4 a5 p5 a6 p6 a7 p7 x1 x2 x3 x4 x5 x6 (ix2 i d)
    = ((Y (row4 2 i) (col 1 d) * sp g b w bs (X1 ∘ row4 2) i (col 1 d) : ℝ) : EReal) := by
  pointwise [v201, v198, v196, v197]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g1_s T i 2 d))

theorem g1_p15_3 (i d : Fin 128) : v211 c a2 p2 a3 p3 a4 p4 a5 p5 a6 p6 a7 p7 x1 x2 x3 x4 x5 x6 (ix2 i d)
    = ((Y (row4 3 i) (col 1 d) * sp g b w bs (X1 ∘ row4 3) i (col 1 d) : ℝ) : EReal) := by
  pointwise [v211, v208, v206, v207]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g1_s T i 3 d))

theorem g2_z (i j : Fin 128) : v241 c a1 p1 a2 p2 a3 p3 a4 p4 a5 p5 a10 x0 x1 x2 x3 x4 (ix3 0 i j) = 0 := by
  refine (readCov_slab _ _ 2 _ 0 i j).trans ?_
  refine (canon_slab_ne 1 _ _ _ 2 (by decide) i j).trans ?_
  refine (canon_slab_ne 0 _ _ _ 2 (by decide) i j).trans ?_
  refine (congrFun (View.canon_unit_zero hz3 _ _) _).trans ?_
  pointwise [v745, cst_287]

theorem g2_o8 (i j : Fin 128) :
    v249 c a1 p1 a2 p2 a3 p3 a4 p4 a5 p5 a10 x0 x1 x2 x3 x4 (ix3 0 i j)
      = ((∑ c', partW g b (X0 ∘ row4 c') (X1 ∘ row4 c') (Y ∘ row4 c') 2 i j : ℝ) : EReal) := by
  pointwise [v249, v246, v242]
  rw [g2_z T, g2_gw T, zero_add]

theorem g2_sel (i : Fin 128) (h : Fin 8) :
    v239 c a1 p1 a3 p3 x0 x2 (ix2 i h) = if h.val ≤ 2 then ((∑ c', partB (X0 ∘ row4 c') (Y ∘ row4 c') i h : ℝ) : EReal) else 0 := by
  pointwise [v239, v52, v233]
  rw [sel_is _ 2 (by decide), g2_gb T, g1_sel T]
  split_ifs with h1 h2 h2
  all_goals first
    | rfl
    | (exfalso; omega)
    | (obtain rfl : h = 2 := Fin.ext h1; rfl)

theorem g2_p14_0 (i d : Fin 128) : v254 c a1 p1 a3 p3 a6 p6 x0 x2 x5 (ix2 i d) = (dvn w (X0 ∘ row4 0) (Y ∘ row4 0) i (col 2 d) : EReal) := by
  pointwise [v254, v251]
  exact (congrArg _ (congrArg (ix2 i) (Fin.ext (by simp [row4])))).trans (g2_d T i 0 d)

theorem g2_p14_1 (i d : Fin 128) : v264 c a1 p1 a3 p3 a6 p6 x0 x2 x5 (ix2 i d) = (dvn w (X0 ∘ row4 1) (Y ∘ row4 1) i (col 2 d) : EReal) := by
  pointwise [v264, v261]
  exact (congrArg _ (congrArg (ix2 i) (Fin.ext (by simp [row4])))).trans (g2_d T i 1 d)

theorem g2_p14_2 (i d : Fin 128) : v274 c a1 p1 a3 p3 a6 p6 x0 x2 x5 (ix2 i d) = (dvn w (X0 ∘ row4 2) (Y ∘ row4 2) i (col 2 d) : EReal) := by
  pointwise [v274, v271]
  exact (congrArg _ (congrArg (ix2 i) (Fin.ext (by simp [row4])))).trans (g2_d T i 2 d)

theorem g2_p14_3 (i d : Fin 128) : v284 c a1 p1 a3 p3 a6 p6 x0 x2 x5 (ix2 i d) = (dvn w (X0 ∘ row4 3) (Y ∘ row4 3) i (col 2 d) : EReal) := by
  pointwise [v284, v281]
  exact (congrArg _ (congrArg (ix2 i) (Fin.ext (by simp [row4])))).trans (g2_d T i 3 d)

theorem g2_p15_0 (i d : Fin 128) : v260 c a2 p2 a3 p3 a4 p4 a5 p5 a6 p6 a7 p7 x1 x2 x3 x4 x5 x6 (ix2 i d)
    = ((Y (row4 0 i) (col 2 d) * sp g b w bs (X1 ∘ row4 0) i (col 2 d) : ℝ) : EReal) := by
  pointwise [v260, v257, v255, v256]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g2_s T i 0 d))

theorem g2_p15_1 (i d : Fin 128) : v270 c a2 p2 a3 p3 a4 p4 a5 p5 a6 p6 a7 p7 x1 x2 x3 x4 x5 x6 (ix2 i d)
    = ((Y (row4 1 i) (col 2 d) * sp g b w bs (X1 ∘ row4 1) i (col 2 d) : ℝ) : EReal) := by
  pointwise [v270, v267, v265, v266]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g2_s T i 1 d))

theorem g2_p15_2 (i d : Fin 128) : v280 c a2 p2 a3 p3 a4 p4 a5 p5 a6 p6 a7 p7 x1 x2 x3 x4 x5 x6 (ix2 i d)
    = ((Y (row4 2 i) (col 2 d) * sp g b w bs (X1 ∘ row4 2) i (col 2 d) : ℝ) : EReal) := by
  pointwise [v280, v277, v275, v276]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g2_s T i 2 d))

theorem g2_p15_3 (i d : Fin 128) : v290 c a2 p2 a3 p3 a4 p4 a5 p5 a6 p6 a7 p7 x1 x2 x3 x4 x5 x6 (ix2 i d)
    = ((Y (row4 3 i) (col 2 d) * sp g b w bs (X1 ∘ row4 3) i (col 2 d) : ℝ) : EReal) := by
  pointwise [v290, v287, v285, v286]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g2_s T i 3 d))

theorem g3_z (i j : Fin 128) : v320 c a1 p1 a2 p2 a3 p3 a4 p4 a5 p5 a10 x0 x1 x2 x3 x4 (ix3 0 i j) = 0 := by
  refine (readCov_slab _ _ 3 _ 0 i j).trans ?_
  refine (canon_slab_ne 2 _ _ _ 3 (by decide) i j).trans ?_
  refine (canon_slab_ne 1 _ _ _ 3 (by decide) i j).trans ?_
  refine (canon_slab_ne 0 _ _ _ 3 (by decide) i j).trans ?_
  refine (congrFun (View.canon_unit_zero hz3 _ _) _).trans ?_
  pointwise [v745, cst_287]

theorem g3_o8 (i j : Fin 128) :
    v328 c a1 p1 a2 p2 a3 p3 a4 p4 a5 p5 a10 x0 x1 x2 x3 x4 (ix3 0 i j)
      = ((∑ c', partW g b (X0 ∘ row4 c') (X1 ∘ row4 c') (Y ∘ row4 c') 3 i j : ℝ) : EReal) := by
  pointwise [v328, v325, v321]
  rw [g3_z T, g3_gw T, zero_add]

theorem g3_sel (i : Fin 128) (h : Fin 8) :
    v318 c a1 p1 a3 p3 x0 x2 (ix2 i h) = if h.val ≤ 3 then ((∑ c', partB (X0 ∘ row4 c') (Y ∘ row4 c') i h : ℝ) : EReal) else 0 := by
  pointwise [v318, v52, v312]
  rw [sel_is _ 3 (by decide), g3_gb T, g2_sel T]
  split_ifs with h1 h2 h2
  all_goals first
    | rfl
    | (exfalso; omega)
    | (obtain rfl : h = 3 := Fin.ext h1; rfl)

theorem g3_p14_0 (i d : Fin 128) : v333 c a1 p1 a3 p3 a6 p6 x0 x2 x5 (ix2 i d) = (dvn w (X0 ∘ row4 0) (Y ∘ row4 0) i (col 3 d) : EReal) := by
  pointwise [v333, v330]
  exact (congrArg _ (congrArg (ix2 i) (Fin.ext (by simp [row4])))).trans (g3_d T i 0 d)

theorem g3_p14_1 (i d : Fin 128) : v343 c a1 p1 a3 p3 a6 p6 x0 x2 x5 (ix2 i d) = (dvn w (X0 ∘ row4 1) (Y ∘ row4 1) i (col 3 d) : EReal) := by
  pointwise [v343, v340]
  exact (congrArg _ (congrArg (ix2 i) (Fin.ext (by simp [row4])))).trans (g3_d T i 1 d)

theorem g3_p14_2 (i d : Fin 128) : v353 c a1 p1 a3 p3 a6 p6 x0 x2 x5 (ix2 i d) = (dvn w (X0 ∘ row4 2) (Y ∘ row4 2) i (col 3 d) : EReal) := by
  pointwise [v353, v350]
  exact (congrArg _ (congrArg (ix2 i) (Fin.ext (by simp [row4])))).trans (g3_d T i 2 d)

theorem g3_p14_3 (i d : Fin 128) : v363 c a1 p1 a3 p3 a6 p6 x0 x2 x5 (ix2 i d) = (dvn w (X0 ∘ row4 3) (Y ∘ row4 3) i (col 3 d) : EReal) := by
  pointwise [v363, v360]
  exact (congrArg _ (congrArg (ix2 i) (Fin.ext (by simp [row4])))).trans (g3_d T i 3 d)

theorem g3_p15_0 (i d : Fin 128) : v339 c a2 p2 a3 p3 a4 p4 a5 p5 a6 p6 a7 p7 x1 x2 x3 x4 x5 x6 (ix2 i d)
    = ((Y (row4 0 i) (col 3 d) * sp g b w bs (X1 ∘ row4 0) i (col 3 d) : ℝ) : EReal) := by
  pointwise [v339, v336, v334, v335]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g3_s T i 0 d))

theorem g3_p15_1 (i d : Fin 128) : v349 c a2 p2 a3 p3 a4 p4 a5 p5 a6 p6 a7 p7 x1 x2 x3 x4 x5 x6 (ix2 i d)
    = ((Y (row4 1 i) (col 3 d) * sp g b w bs (X1 ∘ row4 1) i (col 3 d) : ℝ) : EReal) := by
  pointwise [v349, v346, v344, v345]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g3_s T i 1 d))

theorem g3_p15_2 (i d : Fin 128) : v359 c a2 p2 a3 p3 a4 p4 a5 p5 a6 p6 a7 p7 x1 x2 x3 x4 x5 x6 (ix2 i d)
    = ((Y (row4 2 i) (col 3 d) * sp g b w bs (X1 ∘ row4 2) i (col 3 d) : ℝ) : EReal) := by
  pointwise [v359, v356, v354, v355]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g3_s T i 2 d))

theorem g3_p15_3 (i d : Fin 128) : v369 c a2 p2 a3 p3 a4 p4 a5 p5 a6 p6 a7 p7 x1 x2 x3 x4 x5 x6 (ix2 i d)
    = ((Y (row4 3 i) (col 3 d) * sp g b w bs (X1 ∘ row4 3) i (col 3 d) : ℝ) : EReal) := by
  pointwise [v369, v366, v364, v365]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g3_s T i 3 d))

theorem g4_z (i j : Fin 128) : v399 c a1 p1 a2 p2 a3 p3 a4 p4 a5 p5 a10 x0 x1 x2 x3 x4 (ix3 0 i j) = 0 := by
  refine (readCov_slab _ _ 4 _ 0 i j).trans ?_
  refine (canon_slab_ne 3 _ _ _ 4 (by decide) i j).trans ?_
  refine (canon_slab_ne 2 _ _ _ 4 (by decide) i j).trans ?_
  refine (canon_slab_ne 1 _ _ _ 4 (by decide) i j).trans ?_
  refine (canon_slab_ne 0 _ _ _ 4 (by decide) i j).trans ?_
  refine (congrFun (View.canon_unit_zero hz3 _ _) _).trans ?_
  pointwise [v745, cst_287]

theorem g4_o8 (i j : Fin 128) :
    v407 c a1 p1 a2 p2 a3 p3 a4 p4 a5 p5 a10 x0 x1 x2 x3 x4 (ix3 0 i j)
      = ((∑ c', partW g b (X0 ∘ row4 c') (X1 ∘ row4 c') (Y ∘ row4 c') 4 i j : ℝ) : EReal) := by
  pointwise [v407, v404, v400]
  rw [g4_z T, g4_gw T, zero_add]

theorem g4_sel (i : Fin 128) (h : Fin 8) :
    v397 c a1 p1 a3 p3 x0 x2 (ix2 i h) = if h.val ≤ 4 then ((∑ c', partB (X0 ∘ row4 c') (Y ∘ row4 c') i h : ℝ) : EReal) else 0 := by
  pointwise [v397, v52, v391]
  rw [sel_is _ 4 (by decide), g4_gb T, g3_sel T]
  split_ifs with h1 h2 h2
  all_goals first
    | rfl
    | (exfalso; omega)
    | (obtain rfl : h = 4 := Fin.ext h1; rfl)

theorem g4_p14_0 (i d : Fin 128) : v412 c a1 p1 a3 p3 a6 p6 x0 x2 x5 (ix2 i d) = (dvn w (X0 ∘ row4 0) (Y ∘ row4 0) i (col 4 d) : EReal) := by
  pointwise [v412, v409]
  exact (congrArg _ (congrArg (ix2 i) (Fin.ext (by simp [row4])))).trans (g4_d T i 0 d)

theorem g4_p14_1 (i d : Fin 128) : v422 c a1 p1 a3 p3 a6 p6 x0 x2 x5 (ix2 i d) = (dvn w (X0 ∘ row4 1) (Y ∘ row4 1) i (col 4 d) : EReal) := by
  pointwise [v422, v419]
  exact (congrArg _ (congrArg (ix2 i) (Fin.ext (by simp [row4])))).trans (g4_d T i 1 d)

theorem g4_p14_2 (i d : Fin 128) : v432 c a1 p1 a3 p3 a6 p6 x0 x2 x5 (ix2 i d) = (dvn w (X0 ∘ row4 2) (Y ∘ row4 2) i (col 4 d) : EReal) := by
  pointwise [v432, v429]
  exact (congrArg _ (congrArg (ix2 i) (Fin.ext (by simp [row4])))).trans (g4_d T i 2 d)

theorem g4_p14_3 (i d : Fin 128) : v442 c a1 p1 a3 p3 a6 p6 x0 x2 x5 (ix2 i d) = (dvn w (X0 ∘ row4 3) (Y ∘ row4 3) i (col 4 d) : EReal) := by
  pointwise [v442, v439]
  exact (congrArg _ (congrArg (ix2 i) (Fin.ext (by simp [row4])))).trans (g4_d T i 3 d)

theorem g4_p15_0 (i d : Fin 128) : v418 c a2 p2 a3 p3 a4 p4 a5 p5 a6 p6 a7 p7 x1 x2 x3 x4 x5 x6 (ix2 i d)
    = ((Y (row4 0 i) (col 4 d) * sp g b w bs (X1 ∘ row4 0) i (col 4 d) : ℝ) : EReal) := by
  pointwise [v418, v415, v413, v414]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g4_s T i 0 d))

theorem g4_p15_1 (i d : Fin 128) : v428 c a2 p2 a3 p3 a4 p4 a5 p5 a6 p6 a7 p7 x1 x2 x3 x4 x5 x6 (ix2 i d)
    = ((Y (row4 1 i) (col 4 d) * sp g b w bs (X1 ∘ row4 1) i (col 4 d) : ℝ) : EReal) := by
  pointwise [v428, v425, v423, v424]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g4_s T i 1 d))

theorem g4_p15_2 (i d : Fin 128) : v438 c a2 p2 a3 p3 a4 p4 a5 p5 a6 p6 a7 p7 x1 x2 x3 x4 x5 x6 (ix2 i d)
    = ((Y (row4 2 i) (col 4 d) * sp g b w bs (X1 ∘ row4 2) i (col 4 d) : ℝ) : EReal) := by
  pointwise [v438, v435, v433, v434]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g4_s T i 2 d))

theorem g4_p15_3 (i d : Fin 128) : v448 c a2 p2 a3 p3 a4 p4 a5 p5 a6 p6 a7 p7 x1 x2 x3 x4 x5 x6 (ix2 i d)
    = ((Y (row4 3 i) (col 4 d) * sp g b w bs (X1 ∘ row4 3) i (col 4 d) : ℝ) : EReal) := by
  pointwise [v448, v445, v443, v444]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g4_s T i 3 d))

theorem g5_z (i j : Fin 128) : v478 c a1 p1 a2 p2 a3 p3 a4 p4 a5 p5 a10 x0 x1 x2 x3 x4 (ix3 0 i j) = 0 := by
  refine (readCov_slab _ _ 5 _ 0 i j).trans ?_
  refine (canon_slab_ne 4 _ _ _ 5 (by decide) i j).trans ?_
  refine (canon_slab_ne 3 _ _ _ 5 (by decide) i j).trans ?_
  refine (canon_slab_ne 2 _ _ _ 5 (by decide) i j).trans ?_
  refine (canon_slab_ne 1 _ _ _ 5 (by decide) i j).trans ?_
  refine (canon_slab_ne 0 _ _ _ 5 (by decide) i j).trans ?_
  refine (congrFun (View.canon_unit_zero hz3 _ _) _).trans ?_
  pointwise [v745, cst_287]

theorem g5_o8 (i j : Fin 128) :
    v486 c a1 p1 a2 p2 a3 p3 a4 p4 a5 p5 a10 x0 x1 x2 x3 x4 (ix3 0 i j)
      = ((∑ c', partW g b (X0 ∘ row4 c') (X1 ∘ row4 c') (Y ∘ row4 c') 5 i j : ℝ) : EReal) := by
  pointwise [v486, v483, v479]
  rw [g5_z T, g5_gw T, zero_add]

theorem g5_sel (i : Fin 128) (h : Fin 8) :
    v476 c a1 p1 a3 p3 x0 x2 (ix2 i h) = if h.val ≤ 5 then ((∑ c', partB (X0 ∘ row4 c') (Y ∘ row4 c') i h : ℝ) : EReal) else 0 := by
  pointwise [v476, v52, v470]
  rw [sel_is _ 5 (by decide), g5_gb T, g4_sel T]
  split_ifs with h1 h2 h2
  all_goals first
    | rfl
    | (exfalso; omega)
    | (obtain rfl : h = 5 := Fin.ext h1; rfl)

theorem g5_p14_0 (i d : Fin 128) : v491 c a1 p1 a3 p3 a6 p6 x0 x2 x5 (ix2 i d) = (dvn w (X0 ∘ row4 0) (Y ∘ row4 0) i (col 5 d) : EReal) := by
  pointwise [v491, v488]
  exact (congrArg _ (congrArg (ix2 i) (Fin.ext (by simp [row4])))).trans (g5_d T i 0 d)

theorem g5_p14_1 (i d : Fin 128) : v501 c a1 p1 a3 p3 a6 p6 x0 x2 x5 (ix2 i d) = (dvn w (X0 ∘ row4 1) (Y ∘ row4 1) i (col 5 d) : EReal) := by
  pointwise [v501, v498]
  exact (congrArg _ (congrArg (ix2 i) (Fin.ext (by simp [row4])))).trans (g5_d T i 1 d)

theorem g5_p14_2 (i d : Fin 128) : v511 c a1 p1 a3 p3 a6 p6 x0 x2 x5 (ix2 i d) = (dvn w (X0 ∘ row4 2) (Y ∘ row4 2) i (col 5 d) : EReal) := by
  pointwise [v511, v508]
  exact (congrArg _ (congrArg (ix2 i) (Fin.ext (by simp [row4])))).trans (g5_d T i 2 d)

theorem g5_p14_3 (i d : Fin 128) : v521 c a1 p1 a3 p3 a6 p6 x0 x2 x5 (ix2 i d) = (dvn w (X0 ∘ row4 3) (Y ∘ row4 3) i (col 5 d) : EReal) := by
  pointwise [v521, v518]
  exact (congrArg _ (congrArg (ix2 i) (Fin.ext (by simp [row4])))).trans (g5_d T i 3 d)

theorem g5_p15_0 (i d : Fin 128) : v497 c a2 p2 a3 p3 a4 p4 a5 p5 a6 p6 a7 p7 x1 x2 x3 x4 x5 x6 (ix2 i d)
    = ((Y (row4 0 i) (col 5 d) * sp g b w bs (X1 ∘ row4 0) i (col 5 d) : ℝ) : EReal) := by
  pointwise [v497, v494, v492, v493]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g5_s T i 0 d))

theorem g5_p15_1 (i d : Fin 128) : v507 c a2 p2 a3 p3 a4 p4 a5 p5 a6 p6 a7 p7 x1 x2 x3 x4 x5 x6 (ix2 i d)
    = ((Y (row4 1 i) (col 5 d) * sp g b w bs (X1 ∘ row4 1) i (col 5 d) : ℝ) : EReal) := by
  pointwise [v507, v504, v502, v503]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g5_s T i 1 d))

theorem g5_p15_2 (i d : Fin 128) : v517 c a2 p2 a3 p3 a4 p4 a5 p5 a6 p6 a7 p7 x1 x2 x3 x4 x5 x6 (ix2 i d)
    = ((Y (row4 2 i) (col 5 d) * sp g b w bs (X1 ∘ row4 2) i (col 5 d) : ℝ) : EReal) := by
  pointwise [v517, v514, v512, v513]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g5_s T i 2 d))

theorem g5_p15_3 (i d : Fin 128) : v527 c a2 p2 a3 p3 a4 p4 a5 p5 a6 p6 a7 p7 x1 x2 x3 x4 x5 x6 (ix2 i d)
    = ((Y (row4 3 i) (col 5 d) * sp g b w bs (X1 ∘ row4 3) i (col 5 d) : ℝ) : EReal) := by
  pointwise [v527, v524, v522, v523]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g5_s T i 3 d))

theorem g6_z (i j : Fin 128) : v557 c a1 p1 a2 p2 a3 p3 a4 p4 a5 p5 a10 x0 x1 x2 x3 x4 (ix3 0 i j) = 0 := by
  refine (readCov_slab _ _ 6 _ 0 i j).trans ?_
  refine (canon_slab_ne 5 _ _ _ 6 (by decide) i j).trans ?_
  refine (canon_slab_ne 4 _ _ _ 6 (by decide) i j).trans ?_
  refine (canon_slab_ne 3 _ _ _ 6 (by decide) i j).trans ?_
  refine (canon_slab_ne 2 _ _ _ 6 (by decide) i j).trans ?_
  refine (canon_slab_ne 1 _ _ _ 6 (by decide) i j).trans ?_
  refine (canon_slab_ne 0 _ _ _ 6 (by decide) i j).trans ?_
  refine (congrFun (View.canon_unit_zero hz3 _ _) _).trans ?_
  pointwise [v745, cst_287]

theorem g6_o8 (i j : Fin 128) :
    v565 c a1 p1 a2 p2 a3 p3 a4 p4 a5 p5 a10 x0 x1 x2 x3 x4 (ix3 0 i j)
      = ((∑ c', partW g b (X0 ∘ row4 c') (X1 ∘ row4 c') (Y ∘ row4 c') 6 i j : ℝ) : EReal) := by
  pointwise [v565, v562, v558]
  rw [g6_z T, g6_gw T, zero_add]

theorem g6_sel (i : Fin 128) (h : Fin 8) :
    v555 c a1 p1 a3 p3 x0 x2 (ix2 i h) = if h.val ≤ 6 then ((∑ c', partB (X0 ∘ row4 c') (Y ∘ row4 c') i h : ℝ) : EReal) else 0 := by
  pointwise [v555, v52, v549]
  rw [sel_is _ 6 (by decide), g6_gb T, g5_sel T]
  split_ifs with h1 h2 h2
  all_goals first
    | rfl
    | (exfalso; omega)
    | (obtain rfl : h = 6 := Fin.ext h1; rfl)

theorem g6_p14_0 (i d : Fin 128) : v570 c a1 p1 a3 p3 a6 p6 x0 x2 x5 (ix2 i d) = (dvn w (X0 ∘ row4 0) (Y ∘ row4 0) i (col 6 d) : EReal) := by
  pointwise [v570, v567]
  exact (congrArg _ (congrArg (ix2 i) (Fin.ext (by simp [row4])))).trans (g6_d T i 0 d)

theorem g6_p14_1 (i d : Fin 128) : v580 c a1 p1 a3 p3 a6 p6 x0 x2 x5 (ix2 i d) = (dvn w (X0 ∘ row4 1) (Y ∘ row4 1) i (col 6 d) : EReal) := by
  pointwise [v580, v577]
  exact (congrArg _ (congrArg (ix2 i) (Fin.ext (by simp [row4])))).trans (g6_d T i 1 d)

theorem g6_p14_2 (i d : Fin 128) : v590 c a1 p1 a3 p3 a6 p6 x0 x2 x5 (ix2 i d) = (dvn w (X0 ∘ row4 2) (Y ∘ row4 2) i (col 6 d) : EReal) := by
  pointwise [v590, v587]
  exact (congrArg _ (congrArg (ix2 i) (Fin.ext (by simp [row4])))).trans (g6_d T i 2 d)

theorem g6_p14_3 (i d : Fin 128) : v600 c a1 p1 a3 p3 a6 p6 x0 x2 x5 (ix2 i d) = (dvn w (X0 ∘ row4 3) (Y ∘ row4 3) i (col 6 d) : EReal) := by
  pointwise [v600, v597]
  exact (congrArg _ (congrArg (ix2 i) (Fin.ext (by simp [row4])))).trans (g6_d T i 3 d)

theorem g6_p15_0 (i d : Fin 128) : v576 c a2 p2 a3 p3 a4 p4 a5 p5 a6 p6 a7 p7 x1 x2 x3 x4 x5 x6 (ix2 i d)
    = ((Y (row4 0 i) (col 6 d) * sp g b w bs (X1 ∘ row4 0) i (col 6 d) : ℝ) : EReal) := by
  pointwise [v576, v573, v571, v572]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g6_s T i 0 d))

theorem g6_p15_1 (i d : Fin 128) : v586 c a2 p2 a3 p3 a4 p4 a5 p5 a6 p6 a7 p7 x1 x2 x3 x4 x5 x6 (ix2 i d)
    = ((Y (row4 1 i) (col 6 d) * sp g b w bs (X1 ∘ row4 1) i (col 6 d) : ℝ) : EReal) := by
  pointwise [v586, v583, v581, v582]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g6_s T i 1 d))

theorem g6_p15_2 (i d : Fin 128) : v596 c a2 p2 a3 p3 a4 p4 a5 p5 a6 p6 a7 p7 x1 x2 x3 x4 x5 x6 (ix2 i d)
    = ((Y (row4 2 i) (col 6 d) * sp g b w bs (X1 ∘ row4 2) i (col 6 d) : ℝ) : EReal) := by
  pointwise [v596, v593, v591, v592]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g6_s T i 2 d))

theorem g6_p15_3 (i d : Fin 128) : v606 c a2 p2 a3 p3 a4 p4 a5 p5 a6 p6 a7 p7 x1 x2 x3 x4 x5 x6 (ix2 i d)
    = ((Y (row4 3 i) (col 6 d) * sp g b w bs (X1 ∘ row4 3) i (col 6 d) : ℝ) : EReal) := by
  pointwise [v606, v603, v601, v602]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g6_s T i 3 d))

theorem g7_z (i j : Fin 128) : v636 c a1 p1 a2 p2 a3 p3 a4 p4 a5 p5 a10 x0 x1 x2 x3 x4 (ix3 0 i j) = 0 := by
  refine (readCov_slab _ _ 7 _ 0 i j).trans ?_
  refine (canon_slab_ne 6 _ _ _ 7 (by decide) i j).trans ?_
  refine (canon_slab_ne 5 _ _ _ 7 (by decide) i j).trans ?_
  refine (canon_slab_ne 4 _ _ _ 7 (by decide) i j).trans ?_
  refine (canon_slab_ne 3 _ _ _ 7 (by decide) i j).trans ?_
  refine (canon_slab_ne 2 _ _ _ 7 (by decide) i j).trans ?_
  refine (canon_slab_ne 1 _ _ _ 7 (by decide) i j).trans ?_
  refine (canon_slab_ne 0 _ _ _ 7 (by decide) i j).trans ?_
  refine (congrFun (View.canon_unit_zero hz3 _ _) _).trans ?_
  pointwise [v745, cst_287]

theorem g7_o8 (i j : Fin 128) :
    v644 c a1 p1 a2 p2 a3 p3 a4 p4 a5 p5 a10 x0 x1 x2 x3 x4 (ix3 0 i j)
      = ((∑ c', partW g b (X0 ∘ row4 c') (X1 ∘ row4 c') (Y ∘ row4 c') 7 i j : ℝ) : EReal) := by
  pointwise [v644, v641, v637]
  rw [g7_z T, g7_gw T, zero_add]

theorem g7_sel (i : Fin 128) (h : Fin 8) :
    v634 c a1 p1 a3 p3 x0 x2 (ix2 i h) = if h.val ≤ 7 then ((∑ c', partB (X0 ∘ row4 c') (Y ∘ row4 c') i h : ℝ) : EReal) else 0 := by
  pointwise [v634, v52, v628]
  rw [sel_is _ 7 (by decide), g7_gb T, g6_sel T]
  split_ifs with h1 h2 h2
  all_goals first
    | rfl
    | (exfalso; omega)
    | (obtain rfl : h = 7 := Fin.ext h1; rfl)

theorem g7_p14_0 (i d : Fin 128) : v649 c a1 p1 a3 p3 a6 p6 x0 x2 x5 (ix2 i d) = (dvn w (X0 ∘ row4 0) (Y ∘ row4 0) i (col 7 d) : EReal) := by
  pointwise [v649, v646]
  exact (congrArg _ (congrArg (ix2 i) (Fin.ext (by simp [row4])))).trans (g7_d T i 0 d)

theorem g7_p14_1 (i d : Fin 128) : v659 c a1 p1 a3 p3 a6 p6 x0 x2 x5 (ix2 i d) = (dvn w (X0 ∘ row4 1) (Y ∘ row4 1) i (col 7 d) : EReal) := by
  pointwise [v659, v656]
  exact (congrArg _ (congrArg (ix2 i) (Fin.ext (by simp [row4])))).trans (g7_d T i 1 d)

theorem g7_p14_2 (i d : Fin 128) : v669 c a1 p1 a3 p3 a6 p6 x0 x2 x5 (ix2 i d) = (dvn w (X0 ∘ row4 2) (Y ∘ row4 2) i (col 7 d) : EReal) := by
  pointwise [v669, v666]
  exact (congrArg _ (congrArg (ix2 i) (Fin.ext (by simp [row4])))).trans (g7_d T i 2 d)

theorem g7_p14_3 (i d : Fin 128) : v679 c a1 p1 a3 p3 a6 p6 x0 x2 x5 (ix2 i d) = (dvn w (X0 ∘ row4 3) (Y ∘ row4 3) i (col 7 d) : EReal) := by
  pointwise [v679, v676]
  exact (congrArg _ (congrArg (ix2 i) (Fin.ext (by simp [row4])))).trans (g7_d T i 3 d)

theorem g7_p15_0 (i d : Fin 128) : v655 c a2 p2 a3 p3 a4 p4 a5 p5 a6 p6 a7 p7 x1 x2 x3 x4 x5 x6 (ix2 i d)
    = ((Y (row4 0 i) (col 7 d) * sp g b w bs (X1 ∘ row4 0) i (col 7 d) : ℝ) : EReal) := by
  pointwise [v655, v652, v650, v651]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g7_s T i 0 d))

theorem g7_p15_1 (i d : Fin 128) : v665 c a2 p2 a3 p3 a4 p4 a5 p5 a6 p6 a7 p7 x1 x2 x3 x4 x5 x6 (ix2 i d)
    = ((Y (row4 1 i) (col 7 d) * sp g b w bs (X1 ∘ row4 1) i (col 7 d) : ℝ) : EReal) := by
  pointwise [v665, v662, v660, v661]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g7_s T i 1 d))

theorem g7_p15_2 (i d : Fin 128) : v675 c a2 p2 a3 p3 a4 p4 a5 p5 a6 p6 a7 p7 x1 x2 x3 x4 x5 x6 (ix2 i d)
    = ((Y (row4 2 i) (col 7 d) * sp g b w bs (X1 ∘ row4 2) i (col 7 d) : ℝ) : EReal) := by
  pointwise [v675, v672, v670, v671]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g7_s T i 2 d))

theorem g7_p15_3 (i d : Fin 128) : v685 c a2 p2 a3 p3 a4 p4 a5 p5 a6 p6 a7 p7 x1 x2 x3 x4 x5 x6 (ix2 i d)
    = ((Y (row4 3 i) (col 7 d) * sp g b w bs (X1 ∘ row4 3) i (col 7 d) : ℝ) : EReal) := by
  pointwise [v685, v682, v680, v681]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g7_s T i 3 d))

end Cert.Gate.A

end
-- ==== Proof.Gate.OutsA.lean ====
module

public import proofs.«01_k».proof.Proof.Gate.StoresA

@[expose] public section

set_option maxRecDepth 16384

noncomputable section

namespace Cert.Gate.A

open Idealize.ShloMosaic Cert.KernelIdeal Cert.KernelIdeal.Gen Cert.KernelIdeal.Gen.kernelRun0_A Cert.KernelIdeal.Gen.kernelRun0_A.sl

variable {c : Dev nD}
variable {a1 : Memref sig .tc .vmem S512x1024 .bf16} {p1 : a1.IsWhole}
  {a2 : Memref sig .tc .vmem S512x1024 .bf16} {p2 : a2.IsWhole}
  {a3 : Memref sig .tc .vmem S512x1024 .bf16} {p3 : a3.IsWhole}
  {a4 : Memref sig .tc .vmem S1x1024 .f32} {p4 : a4.IsWhole}
  {a5 : Memref sig .tc .vmem S1x1024 .f32} {p5 : a5.IsWhole}
  {a6 : Memref sig .tc .vmem S8x128x128 .f32} {p6 : a6.IsWhole}
  {a7 : Memref sig .tc .vmem S128x8 .f32} {p7 : a7.IsWhole}
  {a9 : Memref sig .tc .vmem S512x2048 .bf16} {p9 : a9.IsWhole}
  {a10 : Memref sig .tc .vmem S8x128x128 .f32} {p10 : a10.IsWhole}
  {a11 : Memref sig .tc .vmem S128x8 .f32} {p11 : a11.IsWhole}
  {a12 : Memref sig .tc .vmem S1x1024 .f32} {p12 : a12.IsWhole}
  {a13 : Memref sig .tc .vmem S1x1024 .f32} {p13 : a13.IsWhole}
  {a14 : Memref sig .tc .vmem S512x1024 .f32} {p14 : a14.IsWhole}
  {a15 : Memref sig .tc .vmem S512x1024 .f32} {p15 : a15.IsWhole}
variable {x0 x1 x2 : Vec Ideal S512x1024 .bf16} {x3 x4 : Vec Ideal S1x1024 .f32} {x5 : Vec Ideal S8x128x128 .f32}
  {x6 : Vec Ideal S128x8 .f32} {X0 X1 Y : Fin 512 → Fin 1024 → ℝ} {g b : Fin 1024 → ℝ}
  {w : Fin 8 → Fin 128 → Fin 128 → ℝ} {bs : Fin 128 → Fin 8 → ℝ} (T : Tile X0 X1 Y g b w bs x0 x1 x2 x3 x4 x5 x6)
include T

theorem cov0 (y : S512x1024.Idx) : ∃ p ∈ sl.HS0_32 c a1 p1 a3 p3 a6 p6 x0 x2 x5, y ∈ p.1.set :=
  View.cover_of_tiledL (sl.HS0_32 c a1 p1 a3 p3 a6 p6 x0 x2 x5) S128x128.size (by sl_kernel_rfl) y

theorem w690 (r : Fin 512) (k : Fin 1024) :
    v690 c a1 p1 a3 p3 a6 p6 a14 x0 x2 x5 (ix2 r k) = ((rows (fun c' i k => dvn w (X0 ∘ row4 c') (Y ∘ row4 c') i k) r k : ℝ) : EReal) := by
  unfold v690
  rw [View.readCov_eq_canon_ld _ _ _ (cov0 (T := T)), View.ld_unit_zero (S := S512x1024) hz2]
  refine (View.canon_apply_of_pieces (fun y : S512x1024.Idx => rows (fun c' i k => (((fun c' i k => dvn w (X0 ∘ row4 c') (Y ∘ row4 c') i k) c' i k : ℝ) : EReal)) (y 0) (y 1)) _
    ?_ (ix2 r k) (cov0 (T := T) _)).trans rfl
  unfold sl.HS0_32
  have B := box_agrees (fun c' i k => (((fun c' i k => dvn w (X0 ∘ row4 c') (Y ∘ row4 c') i k) c' i k : ℝ) : EReal))
  refine List.forall_mem_cons.mpr ⟨B 3 7 (by decide) _ (g7_p14_3 T), ?_⟩
  refine List.forall_mem_cons.mpr ⟨B 2 7 (by decide) _ (g7_p14_2 T), ?_⟩
  refine List.forall_mem_cons.mpr ⟨B 1 7 (by decide) _ (g7_p14_1 T), ?_⟩
  refine List.forall_mem_cons.mpr ⟨B 0 7 (by decide) _ (g7_p14_0 T), ?_⟩
  refine List.forall_mem_cons.mpr ⟨B 3 6 (by decide) _ (g6_p14_3 T), ?_⟩
  refine List.forall_mem_cons.mpr ⟨B 2 6 (by decide) _ (g6_p14_2 T), ?_⟩
  refine List.forall_mem_cons.mpr ⟨B 1 6 (by decide) _ (g6_p14_1 T), ?_⟩
  refine List.forall_mem_cons.mpr ⟨B 0 6 (by decide) _ (g6_p14_0 T), ?_⟩
  refine List.forall_mem_cons.mpr ⟨B 3 5 (by decide) _ (g5_p14_3 T), ?_⟩
  refine List.forall_mem_cons.mpr ⟨B 2 5 (by decide) _ (g5_p14_2 T), ?_⟩
  refine List.forall_mem_cons.mpr ⟨B 1 5 (by decide) _ (g5_p14_1 T), ?_⟩
  refine List.forall_mem_cons.mpr ⟨B 0 5 (by decide) _ (g5_p14_0 T), ?_⟩
  refine List.forall_mem_cons.mpr ⟨B 3 4 (by decide) _ (g4_p14_3 T), ?_⟩
  refine List.forall_mem_cons.mpr ⟨B 2 4 (by decide) _ (g4_p14_2 T), ?_⟩
  refine List.forall_mem_cons.mpr ⟨B 1 4 (by decide) _ (g4_p14_1 T), ?_⟩
  refine List.forall_mem_cons.mpr ⟨B 0 4 (by decide) _ (g4_p14_0 T), ?_⟩
  refine List.forall_mem_cons.mpr ⟨B 3 3 (by decide) _ (g3_p14_3 T), ?_⟩
  refine List.forall_mem_cons.mpr ⟨B 2 3 (by decide) _ (g3_p14_2 T), ?_⟩
  refine List.forall_mem_cons.mpr ⟨B 1 3 (by decide) _ (g3_p14_1 T), ?_⟩
  refine List.forall_mem_cons.mpr ⟨B 0 3 (by decide) _ (g3_p14_0 T), ?_⟩
  refine List.forall_mem_cons.mpr ⟨B 3 2 (by decide) _ (g2_p14_3 T), ?_⟩
  refine List.forall_mem_cons.mpr ⟨B 2 2 (by decide) _ (g2_p14_2 T), ?_⟩
  refine List.forall_mem_cons.mpr ⟨B 1 2 (by decide) _ (g2_p14_1 T), ?_⟩
  refine List.forall_mem_cons.mpr ⟨B 0 2 (by decide) _ (g2_p14_0 T), ?_⟩
  refine List.forall_mem_cons.mpr ⟨B 3 1 (by decide) _ (g1_p14_3 T), ?_⟩
  refine List.forall_mem_cons.mpr ⟨B 2 1 (by decide) _ (g1_p14_2 T), ?_⟩
  refine List.forall_mem_cons.mpr ⟨B 1 1 (by decide) _ (g1_p14_1 T), ?_⟩
  refine List.forall_mem_cons.mpr ⟨B 0 1 (by decide) _ (g1_p14_0 T), ?_⟩
  refine List.forall_mem_cons.mpr ⟨B 3 0 (by decide) _ (g0_p14_3 T), ?_⟩
  refine List.forall_mem_cons.mpr ⟨B 2 0 (by decide) _ (g0_p14_2 T), ?_⟩
  refine List.forall_mem_cons.mpr ⟨B 1 0 (by decide) _ (g0_p14_1 T), ?_⟩
  refine List.forall_mem_cons.mpr ⟨B 0 0 (by decide) _ (g0_p14_0 T), ?_⟩
  exact List.forall_mem_nil _

theorem cov1 (y : S512x1024.Idx) : ∃ p ∈ sl.HS1_32 c a2 p2 a3 p3 a4 p4 a5 p5 a6 p6 a7 p7 x1 x2 x3 x4 x5 x6, y ∈ p.1.set :=
  View.cover_of_tiledL (sl.HS1_32 c a2 p2 a3 p3 a4 p4 a5 p5 a6 p6 a7 p7 x1 x2 x3 x4 x5 x6) S128x128.size (by sl_kernel_rfl) y

theorem w722 (r : Fin 512) (k : Fin 1024) :
    v722 c a2 p2 a3 p3 a4 p4 a5 p5 a6 p6 a7 p7 a15 x1 x2 x3 x4 x5 x6 (ix2 r k) = ((rows (fun c' i k => Y (row4 c' i) k * sp g b w bs (X1 ∘ row4 c') i k) r k : ℝ) : EReal) := by
  unfold v722
  rw [View.readCov_eq_canon_ld _ _ _ (cov1 (T := T)), View.ld_unit_zero (S := S512x1024) hz2]
  refine (View.canon_apply_of_pieces (fun y : S512x1024.Idx => rows (fun c' i k => (((fun c' i k => Y (row4 c' i) k * sp g b w bs (X1 ∘ row4 c') i k) c' i k : ℝ) : EReal)) (y 0) (y 1)) _
    ?_ (ix2 r k) (cov1 (T := T) _)).trans rfl
  unfold sl.HS1_32
  have B := box_agrees (fun c' i k => (((fun c' i k => Y (row4 c' i) k * sp g b w bs (X1 ∘ row4 c') i k) c' i k : ℝ) : EReal))
  refine List.forall_mem_cons.mpr ⟨B 3 7 (by decide) _ (g7_p15_3 T), ?_⟩
  refine List.forall_mem_cons.mpr ⟨B 2 7 (by decide) _ (g7_p15_2 T), ?_⟩
  refine List.forall_mem_cons.mpr ⟨B 1 7 (by decide) _ (g7_p15_1 T), ?_⟩
  refine List.forall_mem_cons.mpr ⟨B 0 7 (by decide) _ (g7_p15_0 T), ?_⟩
  refine List.forall_mem_cons.mpr ⟨B 3 6 (by decide) _ (g6_p15_3 T), ?_⟩
  refine List.forall_mem_cons.mpr ⟨B 2 6 (by decide) _ (g6_p15_2 T), ?_⟩
  refine List.forall_mem_cons.mpr ⟨B 1 6 (by decide) _ (g6_p15_1 T), ?_⟩
  refine List.forall_mem_cons.mpr ⟨B 0 6 (by decide) _ (g6_p15_0 T), ?_⟩
  refine List.forall_mem_cons.mpr ⟨B 3 5 (by decide) _ (g5_p15_3 T), ?_⟩
  refine List.forall_mem_cons.mpr ⟨B 2 5 (by decide) _ (g5_p15_2 T), ?_⟩
  refine List.forall_mem_cons.mpr ⟨B 1 5 (by decide) _ (g5_p15_1 T), ?_⟩
  refine List.forall_mem_cons.mpr ⟨B 0 5 (by decide) _ (g5_p15_0 T), ?_⟩
  refine List.forall_mem_cons.mpr ⟨B 3 4 (by decide) _ (g4_p15_3 T), ?_⟩
  refine List.forall_mem_cons.mpr ⟨B 2 4 (by decide) _ (g4_p15_2 T), ?_⟩
  refine List.forall_mem_cons.mpr ⟨B 1 4 (by decide) _ (g4_p15_1 T), ?_⟩
  refine List.forall_mem_cons.mpr ⟨B 0 4 (by decide) _ (g4_p15_0 T), ?_⟩
  refine List.forall_mem_cons.mpr ⟨B 3 3 (by decide) _ (g3_p15_3 T), ?_⟩
  refine List.forall_mem_cons.mpr ⟨B 2 3 (by decide) _ (g3_p15_2 T), ?_⟩
  refine List.forall_mem_cons.mpr ⟨B 1 3 (by decide) _ (g3_p15_1 T), ?_⟩
  refine List.forall_mem_cons.mpr ⟨B 0 3 (by decide) _ (g3_p15_0 T), ?_⟩
  refine List.forall_mem_cons.mpr ⟨B 3 2 (by decide) _ (g2_p15_3 T), ?_⟩
  refine List.forall_mem_cons.mpr ⟨B 2 2 (by decide) _ (g2_p15_2 T), ?_⟩
  refine List.forall_mem_cons.mpr ⟨B 1 2 (by decide) _ (g2_p15_1 T), ?_⟩
  refine List.forall_mem_cons.mpr ⟨B 0 2 (by decide) _ (g2_p15_0 T), ?_⟩
  refine List.forall_mem_cons.mpr ⟨B 3 1 (by decide) _ (g1_p15_3 T), ?_⟩
  refine List.forall_mem_cons.mpr ⟨B 2 1 (by decide) _ (g1_p15_2 T), ?_⟩
  refine List.forall_mem_cons.mpr ⟨B 1 1 (by decide) _ (g1_p15_1 T), ?_⟩
  refine List.forall_mem_cons.mpr ⟨B 0 1 (by decide) _ (g1_p15_0 T), ?_⟩
  refine List.forall_mem_cons.mpr ⟨B 3 0 (by decide) _ (g0_p15_3 T), ?_⟩
  refine List.forall_mem_cons.mpr ⟨B 2 0 (by decide) _ (g0_p15_2 T), ?_⟩
  refine List.forall_mem_cons.mpr ⟨B 1 0 (by decide) _ (g0_p15_1 T), ?_⟩
  refine List.forall_mem_cons.mpr ⟨B 0 0 (by decide) _ (g0_p15_0 T), ?_⟩
  exact List.forall_mem_nil _

theorem out8 {pt : grid0.Coords} {hc0 : cond0_0 pt} (h : Fin 8) (i j : Fin 128) :
    out0_A_8 c pt a1 p1 a2 p2 a3 p3 a4 p4 a5 p5 a6 p6 a7 p7 a9 p9 a10 p10 a11 p11 a12 p12 a13 p13 a14 p14 a15 p15 hc0 x0 x1 x2 x3 x4 x5 x6 (ix3 h i j)
      = ((∑ c', partW g b (X0 ∘ row4 c') (X1 ∘ row4 c') (Y ∘ row4 c') h i j : ℝ) : EReal) := by
  unfold out0_A_8
  rw [View.read_writes_eq_canon _ _ _ (cover0_A_8 c pt a1 p1 a2 p2 a3 p3 a4 p4 a5 p5 a6 p6 a7 p7 a9 p9 a10 p10 a11 p11 a12 p12 a13 p13 a14 p14 a15 p15 hc0 x0 x1 x2 x3 x4 x5 x6)]
  unfold kernelRun0_A
  dsimp only
  exact canon_slabs _ _ _ _ _ _ _ _ _ _ _ _ _ _ _ _ _ (fun h i j => ((∑ c', partW g b (X0 ∘ row4 c') (X1 ∘ row4 c') (Y ∘ row4 c') h i j : ℝ) : EReal))
    (g0_o8 T) (g1_o8 T) (g2_o8 T) (g3_o8 T) (g4_o8 T) (g5_o8 T) (g6_o8 T) (g7_o8 T) h i j

theorem out9 {pt : grid0.Coords} {hc0 : cond0_0 pt} (i : Fin 128) (h : Fin 8) :
    out0_A_9 c pt a1 p1 a2 p2 a3 p3 a4 p4 a5 p5 a6 p6 a7 p7 a9 p9 a10 p10 a11 p11 a12 p12 a13 p13 a14 p14 a15 p15 hc0 x0 x1 x2 x3 x4 x5 x6 (ix2 i h) = ((∑ c', partB (X0 ∘ row4 c') (Y ∘ row4 c') i h : ℝ) : EReal) := by
  unfold out0_A_9
  rw [View.read_writes_eq_canon _ _ _ (cover0_A_9 c pt a1 p1 a2 p2 a3 p3 a4 p4 a5 p5 a6 p6 a7 p7 a9 p9 a10 p10 a11 p11 a12 p12 a13 p13 a14 p14 a15 p15 hc0 x0 x1 x2 x3 x4 x5 x6)]
  unfold kernelRun0_A
  dsimp only
  rw [View.canon_cons_unit_zero (S := S128x8) hz2]
  pointwise [v688, v687]
  rw [g7_sel T, if_pos (by omega)]
  have e : v686 (F := Ideal) c a11 = v747 (F := Ideal) := View.readCov_unit_zero (Val := Elt Ideal) (e := .f32) (S := S128x8) _ hz2 _ _
  rw [e]
  pointwise [v747, cst_287]

theorem out10 {pt : grid0.Coords} {hc0 : cond0_0 pt} (o : Fin 1) (k : Fin 1024) :
    out0_A_10 c pt a1 p1 a2 p2 a3 p3 a4 p4 a5 p5 a6 p6 a7 p7 a9 p9 a10 p10 a11 p11 a12 p12 a13 p13 a14 p14 a15 p15 hc0 x0 x1 x2 x3 x4 x5 x6 (ix2 o k) = ((∑ c', partG w (X0 ∘ row4 c') (X1 ∘ row4 c') (Y ∘ row4 c') k : ℝ) : EReal) := by
  unfold out0_A_10
  rw [View.read_writes_eq_canon _ _ _ (cover0_A_10 c pt a1 p1 a2 p2 a3 p3 a4 p4 a5 p5 a6 p6 a7 p7 a9 p9 a10 p10 a11 p11 a12 p12 a13 p13 a14 p14 a15 p15 hc0 x0 x1 x2 x3 x4 x5 x6)]
  unfold kernelRun0_A
  dsimp only
  rw [View.canon_cons_unit_zero (S := S1x1024) hz2]
  have e : v691 (F := Ideal) c a12 = v749 (F := Ideal) := View.readCov_unit_zero (Val := Elt Ideal) (e := .f32) (S := S1x1024) _ hz2 _ _
  have hz : ∀ o k, v691 (F := Ideal) c a12 (ix2 o k) = ((0 : ℝ) : EReal) := by
    intro o k
    rw [e]
    pointwise [v749, cst_287]
    rfl
  have h := pay156_eq X1 x1 T.v g x3 T.g (v690 c a1 p1 a3 p3 a6 p6 a14 x0 x2 x5) (rows (fun c' i k => dvn w (X0 ∘ row4 c') (Y ∘ row4 c') i k)) (w690 T) (v691 (F := Ideal) c a12) (fun _ => 0) hz o k
  simp only [sum_row4, rows_row4, zero_add] at h
  rw [← read_whole a2 p2 x1 hz2 inb_S512x1024_S512x1024_0_0] at h
  exact h

theorem out11 {pt : grid0.Coords} {hc0 : cond0_0 pt} (o : Fin 1) (k : Fin 1024) :
    out0_A_11 c pt a1 p1 a2 p2 a3 p3 a4 p4 a5 p5 a6 p6 a7 p7 a9 p9 a10 p10 a11 p11 a12 p12 a13 p13 a14 p14 a15 p15 hc0 x0 x1 x2 x3 x4 x5 x6 (ix2 o k) = ((∑ c', partS w (X0 ∘ row4 c') (Y ∘ row4 c') k : ℝ) : EReal) := by
  unfold out0_A_11
  rw [View.read_writes_eq_canon _ _ _ (cover0_A_11 c pt a1 p1 a2 p2 a3 p3 a4 p4 a5 p5 a6 p6 a7 p7 a9 p9 a10 p10 a11 p11 a12 p12 a13 p13 a14 p14 a15 p15 hc0 x0 x1 x2 x3 x4 x5 x6)]
  unfold kernelRun0_A
  dsimp only
  rw [View.canon_cons_unit_zero (S := S1x1024) hz2]
  have e : v698 (F := Ideal) c a13 = v749 (F := Ideal) := View.readCov_unit_zero (Val := Elt Ideal) (e := .f32) (S := S1x1024) _ hz2 _ _
  have hz : ∀ o k, v698 (F := Ideal) c a13 (ix2 o k) = ((0 : ℝ) : EReal) := by
    intro o k
    rw [e]
    pointwise [v749, cst_287]
    rfl
  have h := pay157_eq (v690 c a1 p1 a3 p3 a6 p6 a14 x0 x2 x5) (rows (fun c' i k => dvn w (X0 ∘ row4 c') (Y ∘ row4 c') i k)) (w690 T) (v698 (F := Ideal) c a13) (fun _ => 0) hz o k
  simp only [sum_row4, rows_row4, zero_add] at h
  exact h

theorem out7_right {pt : grid0.Coords} {hc0 : cond0_0 pt} (c' : Fin 4) (i : Fin 128) (k : Fin 1024) :
    out0_A_7 c pt a1 p1 a2 p2 a3 p3 a4 p4 a5 p5 a6 p6 a7 p7 a9 p9 a10 p10 a11 p11 a12 p12 a13 p13 a14 p14 a15 p15 hc0 x0 x1 x2 x3 x4 x5 x6 (ix2 (row4 c' i) ⟨1024 + k.val, by omega⟩)
      = (gradV g w (X0 ∘ row4 c') (X1 ∘ row4 c') (Y ∘ row4 c') i k : EReal) := by
  unfold out0_A_7
  rw [View.read_writes_eq_canon _ _ _ (cover0_A_7 c pt a1 p1 a2 p2 a3 p3 a4 p4 a5 p5 a6 p6 a7 p7 a9 p9 a10 p10 a11 p11 a12 p12 a13 p13 a14 p14 a15 p15 hc0 x0 x1 x2 x3 x4 x5 x6)]
  unfold kernelRun0_A
  dsimp only
  refine (canon_right _ _ _ _ (row4 c' i) k).trans ?_
  have h1 := pay159_eq X1 x1 T.v g x3 T.g (v690 c a1 p1 a3 p3 a6 p6 a14 x0 x2 x5) (rows (fun c' i k => dvn w (X0 ∘ row4 c') (Y ∘ row4 c') i k)) (w690 T)
  have h := pay1_eq X1 x1 T.v _ _ h1 (row4 c' i) k
  simp only [rows_row4] at h
  rw [← read_whole a2 p2 x1 hz2 inb_S512x1024_S512x1024_0_0, ← read_whole a4 p4 x3 hz2 inb_S1x1024_S1x1024_0_0] at h
  exact h

theorem out7_left {pt : grid0.Coords} {hc0 : cond0_0 pt} (c' : Fin 4) (i : Fin 128) (k : Fin 1024) :
    out0_A_7 c pt a1 p1 a2 p2 a3 p3 a4 p4 a5 p5 a6 p6 a7 p7 a9 p9 a10 p10 a11 p11 a12 p12 a13 p13 a14 p14 a15 p15 hc0 x0 x1 x2 x3 x4 x5 x6 (ix2 (row4 c' i) ⟨k.val, by omega⟩)
      = (gradU g b w bs (X0 ∘ row4 c') (X1 ∘ row4 c') (Y ∘ row4 c') i k : EReal) := by
  unfold out0_A_7
  rw [View.read_writes_eq_canon _ _ _ (cover0_A_7 c pt a1 p1 a2 p2 a3 p3 a4 p4 a5 p5 a6 p6 a7 p7 a9 p9 a10 p10 a11 p11 a12 p12 a13 p13 a14 p14 a15 p15 hc0 x0 x1 x2 x3 x4 x5 x6)]
  unfold kernelRun0_A
  dsimp only
  refine (canon_left _ _ _ _ (row4 c' i) k).trans ?_
  have h := pay160_eq X0 x0 T.u (v722 c a2 p2 a3 p3 a4 p4 a5 p5 a6 p6 a7 p7 a15 x1 x2 x3 x4 x5 x6) (rows (fun c' i k => Y (row4 c' i) k * sp g b w bs (X1 ∘ row4 c') i k)) (w722 T) (row4 c' i) k
  simp only [rows_row4] at h
  rw [← read_whole a1 p1 x0 hz2 inb_S512x1024_S512x1024_0_0] at h
  exact h

end Cert.Gate.A

end
-- ==== Proof.Gate.CommonB.lean ====
module

public import proofs.«01_k».proof.Proof.Gate.Tile

@[expose] public section

noncomputable section

namespace Cert.Gate.B

open Idealize.ShloMosaic Cert.KernelIdeal Cert.KernelIdeal.Gen Cert.KernelIdeal.Gen.kernelRun0_B Cert.KernelIdeal.Gen.kernelRun0_B.sl

variable {c : Dev nD}
variable {a1 : Memref sig .tc .vmem S512x1024 .bf16} {p1 : a1.IsWhole}
  {a2 : Memref sig .tc .vmem S512x1024 .bf16} {p2 : a2.IsWhole}
  {a3 : Memref sig .tc .vmem S512x1024 .bf16} {p3 : a3.IsWhole}
  {a4 : Memref sig .tc .vmem S1x1024 .f32} {p4 : a4.IsWhole}
  {a5 : Memref sig .tc .vmem S1x1024 .f32} {p5 : a5.IsWhole}
  {a6 : Memref sig .tc .vmem S8x128x128 .f32} {p6 : a6.IsWhole}
  {a7 : Memref sig .tc .vmem S128x8 .f32} {p7 : a7.IsWhole}
  {a9 : Memref sig .tc .vmem S512x2048 .bf16} {p9 : a9.IsWhole}
  {a10 : Memref sig .tc .vmem S8x128x128 .f32} {p10 : a10.IsWhole}
  {a11 : Memref sig .tc .vmem S128x8 .f32} {p11 : a11.IsWhole}
  {a12 : Memref sig .tc .vmem S1x1024 .f32} {p12 : a12.IsWhole}
  {a13 : Memref sig .tc .vmem S1x1024 .f32} {p13 : a13.IsWhole}
  {a14 : Memref sig .tc .vmem S512x1024 .f32} {p14 : a14.IsWhole}
  {a15 : Memref sig .tc .vmem S512x1024 .f32} {p15 : a15.IsWhole}
variable {x0 x1 x2 : Vec Ideal S512x1024 .bf16} {x3 x4 : Vec Ideal S1x1024 .f32} {x5 : Vec Ideal S8x128x128 .f32}
  {x6 : Vec Ideal S128x8 .f32} {X0 X1 Y : Fin 512 → Fin 1024 → ℝ} {g b : Fin 1024 → ℝ}
  {w : Fin 8 → Fin 128 → Fin 128 → ℝ} {bs : Fin 128 → Fin 8 → ℝ} (T : Tile X0 X1 Y g b w bs x0 x1 x2 x3 x4 x5 x6)
include T

theorem w41 (r : Fin 512) (k : Fin 1024) : v41 c a2 p2 a4 p4 a5 p5 x1 x3 x4 (ix2 r k) = (vn g b (X1 r) k : EReal) := by
  have h := pay11_eq X1 x1 T.v g b x3 x4 T.g T.b r k
  rw [← read_whole a5 p5 x4 hz2 inb_S1x1024_S1x1024_0_0, ← read_whole a4 p4 x3 hz2 inb_S1x1024_S1x1024_0_0,
    ← read_whole a2 p2 x1 hz2 inb_S512x1024_S512x1024_0_0] at h
  exact h

theorem w43 (r : Fin 512) (k : Fin 1024) : v43 c a3 p3 x2 (ix2 r k) = (Y r k : EReal) := by
  pointwise [v43]
  rw [read_whole a3 p3 x2 hz2]
  exact T.y r k

theorem w69 (r : Fin 512) (k : Fin 1024) : v69 c a1 p1 a3 p3 x0 x2 (ix2 r k) = ((Y r k * gelu (X0 r k) : ℝ) : EReal) := by
  have h := pay6_eq X0 x0 T.u r k
  rw [← read_whole a1 p1 x0 hz2 inb_S512x1024_S512x1024_0_0] at h
  pointwise [v69]
  rw [w43 T, EReal.coe_mul, ← h]
  rfl

theorem w48 (i : Fin 128) (h : Fin 8) : v48 c a7 p7 x6 (ix2 i h) = (bs i h : EReal) := by
  pointwise [v48]
  rw [read_whole a7 p7 x6 hz2]
  exact T.s i h

end Cert.Gate.B

end
-- ==== Proof.Gate.GroupsB.lean ====
module

public import proofs.«01_k».proof.Proof.Gate.CommonB

@[expose] public section

noncomputable section

namespace Cert.Gate.B

open Idealize.ShloMosaic Cert.KernelIdeal Cert.KernelIdeal.Gen Cert.KernelIdeal.Gen.kernelRun0_B Cert.KernelIdeal.Gen.kernelRun0_B.sl

variable {c : Dev nD}
variable {a1 : Memref sig .tc .vmem S512x1024 .bf16} {p1 : a1.IsWhole}
  {a2 : Memref sig .tc .vmem S512x1024 .bf16} {p2 : a2.IsWhole}
  {a3 : Memref sig .tc .vmem S512x1024 .bf16} {p3 : a3.IsWhole}
  {a4 : Memref sig .tc .vmem S1x1024 .f32} {p4 : a4.IsWhole}
  {a5 : Memref sig .tc .vmem S1x1024 .f32} {p5 : a5.IsWhole}
  {a6 : Memref sig .tc .vmem S8x128x128 .f32} {p6 : a6.IsWhole}
  {a7 : Memref sig .tc .vmem S128x8 .f32} {p7 : a7.IsWhole}
  {a9 : Memref sig .tc .vmem S512x2048 .bf16} {p9 : a9.IsWhole}
  {a10 : Memref sig .tc .vmem S8x128x128 .f32} {p10 : a10.IsWhole}
  {a11 : Memref sig .tc .vmem S128x8 .f32} {p11 : a11.IsWhole}
  {a12 : Memref sig .tc .vmem S1x1024 .f32} {p12 : a12.IsWhole}
  {a13 : Memref sig .tc .vmem S1x1024 .f32} {p13 : a13.IsWhole}
  {a14 : Memref sig .tc .vmem S512x1024 .f32} {p14 : a14.IsWhole}
  {a15 : Memref sig .tc .vmem S512x1024 .f32} {p15 : a15.IsWhole}
variable {x0 x1 x2 : Vec Ideal S512x1024 .bf16} {x3 x4 : Vec Ideal S1x1024 .f32} {x5 : Vec Ideal S8x128x128 .f32}
  {x6 : Vec Ideal S128x8 .f32} {X0 X1 Y : Fin 512 → Fin 1024 → ℝ} {g b : Fin 1024 → ℝ}
  {w : Fin 8 → Fin 128 → Fin 128 → ℝ} {bs : Fin 128 → Fin 8 → ℝ} (T : Tile X0 X1 Y g b w bs x0 x1 x2 x3 x4 x5 x6)
include T

theorem g0_w (i j : Fin 128) : v58 c a6 p6 x5 (ix2 i j) = (wm w 0 i j : EReal) := by
  pointwise [v58, v57, v55, v44, v45, v56, cst_22]
  simp only [word_zero, sel_low, wm]
  split_ifs
  · exact (read_slab a6 p6 x5 0 _ 0 i j).trans (T.w 0 i j)
  · rfl

theorem g0_v (j : Fin 128) (c' : Fin 4) (d : Fin 128) :
    v64 c a2 p2 a4 p4 a5 p5 x1 x3 x4 (ix2 j (row4 c' d)) = (vn g b (X1 (row4 c' j)) (col 0 d) : EReal) := by
  pointwise [v64]
  exact cat_eq (v41 c a2 p2 a4 p4 a5 p5 x1 x3 x4) (fun r => vn g b (X1 r)) (w41 T) 0 _ _ _ _ _ j c' d

theorem g0_y (i : Fin 128) (c' : Fin 4) (d : Fin 128) :
    v74 c a1 p1 a3 p3 x0 x2 (ix2 i (row4 c' d)) = (ds (X0 ∘ row4 c') (Y ∘ row4 c') i (col 0 d) : EReal) :=
  cat_eq (v69 c a1 p1 a3 p3 x0 x2) (fun r k => Y r k * gelu (X0 r k)) (w69 T) 0 _ _ _ _ _ i c' d

theorem g0_s (i : Fin 128) (c' : Fin 4) (d : Fin 128) :
    v68 c a2 p2 a4 p4 a5 p5 a6 p6 a7 p7 x1 x3 x4 x5 x6 (ix2 i (row4 c' d)) = (sp g b w bs (X1 ∘ row4 c') i (col 0 d) : EReal) := by
  pointwise [v68, v67, v66, v65, cst_27]
  simp only [g0_w T, g0_v T, w48 T, ← EReal.coe_mul, ← coe_sum, ← EReal.coe_add, word_zero, sp, Function.comp_apply, head_col]

theorem g0_d (j : Fin 128) (c' : Fin 4) (d : Fin 128) :
    v92 c a1 p1 a3 p3 a6 p6 x0 x2 x5 (ix2 j (row4 c' d)) = (dvn w (X0 ∘ row4 c') (Y ∘ row4 c') j (col 0 d) : EReal) := by
  pointwise [v92, v82, cst_27]
  simp only [g0_w T, g0_y T, ← EReal.coe_mul, ← coe_sum, dvn, head_col]

theorem g0_gw (i j : Fin 128) :
    v87 c a1 p1 a2 p2 a3 p3 a4 p4 a5 p5 x0 x1 x2 x3 x4 (ix2 i j) = ((∑ c', partW g b (X0 ∘ row4 c') (X1 ∘ row4 c') (Y ∘ row4 c') 0 i j : ℝ) : EReal) := by
  pointwise [v87, v85, v82, v44, v45, v56, cst_33, cst_22]
  simp only [sum_row4, g0_v T, g0_y T, ← EReal.coe_mul, ← coe_sum, partW, sel_low, word_zero]
  split_ifs
  · rfl
  · simp

theorem g0_gb (i : Fin 128) (h : Fin 8) :
    v80 c a1 p1 a3 p3 x0 x2 (ix2 i h) = ((∑ c', partB (X0 ∘ row4 c') (Y ∘ row4 c') i 0 : ℝ) : EReal) := by
  pointwise [v80, v79, v78, v77]
  simp only [sum_row4, g0_y T, ← EReal.coe_mul, ← coe_sum, partB]

theorem g1_w (i j : Fin 128) : v137 c a6 p6 x5 (ix2 i j) = (wm w 1 i j : EReal) := by
  pointwise [v137, v136, v134, v44, v45, v56, cst_22]
  simp only [word_zero, sel_low, wm]
  split_ifs
  · exact (read_slab a6 p6 x5 1 _ 0 i j).trans (T.w 1 i j)
  · rfl

theorem g1_v (j : Fin 128) (c' : Fin 4) (d : Fin 128) :
    v143 c a2 p2 a4 p4 a5 p5 x1 x3 x4 (ix2 j (row4 c' d)) = (vn g b (X1 (row4 c' j)) (col 1 d) : EReal) := by
  pointwise [v143]
  exact cat_eq (v41 c a2 p2 a4 p4 a5 p5 x1 x3 x4) (fun r => vn g b (X1 r)) (w41 T) 1 _ _ _ _ _ j c' d

theorem g1_y (i : Fin 128) (c' : Fin 4) (d : Fin 128) :
    v153 c a1 p1 a3 p3 x0 x2 (ix2 i (row4 c' d)) = (ds (X0 ∘ row4 c') (Y ∘ row4 c') i (col 1 d) : EReal) :=
  cat_eq (v69 c a1 p1 a3 p3 x0 x2) (fun r k => Y r k * gelu (X0 r k)) (w69 T) 1 _ _ _ _ _ i c' d

theorem g1_s (i : Fin 128) (c' : Fin 4) (d : Fin 128) :
    v147 c a2 p2 a4 p4 a5 p5 a6 p6 a7 p7 x1 x3 x4 x5 x6 (ix2 i (row4 c' d)) = (sp g b w bs (X1 ∘ row4 c') i (col 1 d) : EReal) := by
  pointwise [v147, v146, v145, v144, cst_27]
  simp only [g1_w T, g1_v T, w48 T, ← EReal.coe_mul, ← coe_sum, ← EReal.coe_add, word_zero, sp, Function.comp_apply, head_col]

theorem g1_d (j : Fin 128) (c' : Fin 4) (d : Fin 128) :
    v171 c a1 p1 a3 p3 a6 p6 x0 x2 x5 (ix2 j (row4 c' d)) = (dvn w (X0 ∘ row4 c') (Y ∘ row4 c') j (col 1 d) : EReal) := by
  pointwise [v171, v161, cst_27]
  simp only [g1_w T, g1_y T, ← EReal.coe_mul, ← coe_sum, dvn, head_col]

theorem g1_gw (i j : Fin 128) :
    v166 c a1 p1 a2 p2 a3 p3 a4 p4 a5 p5 x0 x1 x2 x3 x4 (ix2 i j) = ((∑ c', partW g b (X0 ∘ row4 c') (X1 ∘ row4 c') (Y ∘ row4 c') 1 i j : ℝ) : EReal) := by
  pointwise [v166, v164, v161, v44, v45, v56, cst_33, cst_22]
  simp only [sum_row4, g1_v T, g1_y T, ← EReal.coe_mul, ← coe_sum, partW, sel_low, word_zero]
  split_ifs
  · rfl
  · simp

theorem g1_gb (i : Fin 128) (h : Fin 8) :
    v159 c a1 p1 a3 p3 x0 x2 (ix2 i h) = ((∑ c', partB (X0 ∘ row4 c') (Y ∘ row4 c') i 1 : ℝ) : EReal) := by
  pointwise [v159, v158, v157, v156]
  simp only [sum_row4, g1_y T, ← EReal.coe_mul, ← coe_sum, partB]

theorem g2_w (i j : Fin 128) : v216 c a6 p6 x5 (ix2 i j) = (wm w 2 i j : EReal) := by
  pointwise [v216, v215, v213, v44, v45, v56, cst_22]
  simp only [word_zero, sel_low, wm]
  split_ifs
  · exact (read_slab a6 p6 x5 2 _ 0 i j).trans (T.w 2 i j)
  · rfl

theorem g2_v (j : Fin 128) (c' : Fin 4) (d : Fin 128) :
    v222 c a2 p2 a4 p4 a5 p5 x1 x3 x4 (ix2 j (row4 c' d)) = (vn g b (X1 (row4 c' j)) (col 2 d) : EReal) := by
  pointwise [v222]
  exact cat_eq (v41 c a2 p2 a4 p4 a5 p5 x1 x3 x4) (fun r => vn g b (X1 r)) (w41 T) 2 _ _ _ _ _ j c' d

theorem g2_y (i : Fin 128) (c' : Fin 4) (d : Fin 128) :
    v232 c a1 p1 a3 p3 x0 x2 (ix2 i (row4 c' d)) = (ds (X0 ∘ row4 c') (Y ∘ row4 c') i (col 2 d) : EReal) :=
  cat_eq (v69 c a1 p1 a3 p3 x0 x2) (fun r k => Y r k * gelu (X0 r k)) (w69 T) 2 _ _ _ _ _ i c' d

theorem g2_s (i : Fin 128) (c' : Fin 4) (d : Fin 128) :
    v226 c a2 p2 a4 p4 a5 p5 a6 p6 a7 p7 x1 x3 x4 x5 x6 (ix2 i (row4 c' d)) = (sp g b w bs (X1 ∘ row4 c') i (col 2 d) : EReal) := by
  pointwise [v226, v225, v224, v223, cst_27]
  simp only [g2_w T, g2_v T, w48 T, ← EReal.coe_mul, ← coe_sum, ← EReal.coe_add, word_zero, sp, Function.comp_apply, head_col]

theorem g2_d (j : Fin 128) (c' : Fin 4) (d : Fin 128) :
    v250 c a1 p1 a3 p3 a6 p6 x0 x2 x5 (ix2 j (row4 c' d)) = (dvn w (X0 ∘ row4 c') (Y ∘ row4 c') j (col 2 d) : EReal) := by
  pointwise [v250, v240, cst_27]
  simp only [g2_w T, g2_y T, ← EReal.coe_mul, ← coe_sum, dvn, head_col]

theorem g2_gw (i j : Fin 128) :
    v245 c a1 p1 a2 p2 a3 p3 a4 p4 a5 p5 x0 x1 x2 x3 x4 (ix2 i j) = ((∑ c', partW g b (X0 ∘ row4 c') (X1 ∘ row4 c') (Y ∘ row4 c') 2 i j : ℝ) : EReal) := by
  pointwise [v245, v243, v240, v44, v45, v56, cst_33, cst_22]
  simp only [sum_row4, g2_v T, g2_y T, ← EReal.coe_mul, ← coe_sum, partW, sel_low, word_zero]
  split_ifs
  · rfl
  · simp

theorem g2_gb (i : Fin 128) (h : Fin 8) :
    v238 c a1 p1 a3 p3 x0 x2 (ix2 i h) = ((∑ c', partB (X0 ∘ row4 c') (Y ∘ row4 c') i 2 : ℝ) : EReal) := by
  pointwise [v238, v237, v236, v235]
  simp only [sum_row4, g2_y T, ← EReal.coe_mul, ← coe_sum, partB]

theorem g3_w (i j : Fin 128) : v295 c a6 p6 x5 (ix2 i j) = (wm w 3 i j : EReal) := by
  pointwise [v295, v294, v292, v44, v45, v56, cst_22]
  simp only [word_zero, sel_low, wm]
  split_ifs
  · exact (read_slab a6 p6 x5 3 _ 0 i j).trans (T.w 3 i j)
  · rfl

theorem g3_v (j : Fin 128) (c' : Fin 4) (d : Fin 128) :
    v301 c a2 p2 a4 p4 a5 p5 x1 x3 x4 (ix2 j (row4 c' d)) = (vn g b (X1 (row4 c' j)) (col 3 d) : EReal) := by
  pointwise [v301]
  exact cat_eq (v41 c a2 p2 a4 p4 a5 p5 x1 x3 x4) (fun r => vn g b (X1 r)) (w41 T) 3 _ _ _ _ _ j c' d

theorem g3_y (i : Fin 128) (c' : Fin 4) (d : Fin 128) :
    v311 c a1 p1 a3 p3 x0 x2 (ix2 i (row4 c' d)) = (ds (X0 ∘ row4 c') (Y ∘ row4 c') i (col 3 d) : EReal) :=
  cat_eq (v69 c a1 p1 a3 p3 x0 x2) (fun r k => Y r k * gelu (X0 r k)) (w69 T) 3 _ _ _ _ _ i c' d

theorem g3_s (i : Fin 128) (c' : Fin 4) (d : Fin 128) :
    v305 c a2 p2 a4 p4 a5 p5 a6 p6 a7 p7 x1 x3 x4 x5 x6 (ix2 i (row4 c' d)) = (sp g b w bs (X1 ∘ row4 c') i (col 3 d) : EReal) := by
  pointwise [v305, v304, v303, v302, cst_27]
  simp only [g3_w T, g3_v T, w48 T, ← EReal.coe_mul, ← coe_sum, ← EReal.coe_add, word_zero, sp, Function.comp_apply, head_col]

theorem g3_d (j : Fin 128) (c' : Fin 4) (d : Fin 128) :
    v329 c a1 p1 a3 p3 a6 p6 x0 x2 x5 (ix2 j (row4 c' d)) = (dvn w (X0 ∘ row4 c') (Y ∘ row4 c') j (col 3 d) : EReal) := by
  pointwise [v329, v319, cst_27]
  simp only [g3_w T, g3_y T, ← EReal.coe_mul, ← coe_sum, dvn, head_col]

theorem g3_gw (i j : Fin 128) :
    v324 c a1 p1 a2 p2 a3 p3 a4 p4 a5 p5 x0 x1 x2 x3 x4 (ix2 i j) = ((∑ c', partW g b (X0 ∘ row4 c') (X1 ∘ row4 c') (Y ∘ row4 c') 3 i j : ℝ) : EReal) := by
  pointwise [v324, v322, v319, v44, v45, v56, cst_33, cst_22]
  simp only [sum_row4, g3_v T, g3_y T, ← EReal.coe_mul, ← coe_sum, partW, sel_low, word_zero]
  split_ifs
  · rfl
  · simp

theorem g3_gb (i : Fin 128) (h : Fin 8) :
    v317 c a1 p1 a3 p3 x0 x2 (ix2 i h) = ((∑ c', partB (X0 ∘ row4 c') (Y ∘ row4 c') i 3 : ℝ) : EReal) := by
  pointwise [v317, v316, v315, v314]
  simp only [sum_row4, g3_y T, ← EReal.coe_mul, ← coe_sum, partB]

theorem g4_w (i j : Fin 128) : v374 c a6 p6 x5 (ix2 i j) = (wm w 4 i j : EReal) := by
  pointwise [v374, v373, v371, v44, v45, v56, cst_22]
  simp only [word_zero, sel_low, wm]
  split_ifs
  · exact (read_slab a6 p6 x5 4 _ 0 i j).trans (T.w 4 i j)
  · rfl

theorem g4_v (j : Fin 128) (c' : Fin 4) (d : Fin 128) :
    v380 c a2 p2 a4 p4 a5 p5 x1 x3 x4 (ix2 j (row4 c' d)) = (vn g b (X1 (row4 c' j)) (col 4 d) : EReal) := by
  pointwise [v380]
  exact cat_eq (v41 c a2 p2 a4 p4 a5 p5 x1 x3 x4) (fun r => vn g b (X1 r)) (w41 T) 4 _ _ _ _ _ j c' d

theorem g4_y (i : Fin 128) (c' : Fin 4) (d : Fin 128) :
    v390 c a1 p1 a3 p3 x0 x2 (ix2 i (row4 c' d)) = (ds (X0 ∘ row4 c') (Y ∘ row4 c') i (col 4 d) : EReal) :=
  cat_eq (v69 c a1 p1 a3 p3 x0 x2) (fun r k => Y r k * gelu (X0 r k)) (w69 T) 4 _ _ _ _ _ i c' d

theorem g4_s (i : Fin 128) (c' : Fin 4) (d : Fin 128) :
    v384 c a2 p2 a4 p4 a5 p5 a6 p6 a7 p7 x1 x3 x4 x5 x6 (ix2 i (row4 c' d)) = (sp g b w bs (X1 ∘ row4 c') i (col 4 d) : EReal) := by
  pointwise [v384, v383, v382, v381, cst_27]
  simp only [g4_w T, g4_v T, w48 T, ← EReal.coe_mul, ← coe_sum, ← EReal.coe_add, word_zero, sp, Function.comp_apply, head_col]

theorem g4_d (j : Fin 128) (c' : Fin 4) (d : Fin 128) :
    v408 c a1 p1 a3 p3 a6 p6 x0 x2 x5 (ix2 j (row4 c' d)) = (dvn w (X0 ∘ row4 c') (Y ∘ row4 c') j (col 4 d) : EReal) := by
  pointwise [v408, v398, cst_27]
  simp only [g4_w T, g4_y T, ← EReal.coe_mul, ← coe_sum, dvn, head_col]

theorem g4_gw (i j : Fin 128) :
    v403 c a1 p1 a2 p2 a3 p3 a4 p4 a5 p5 x0 x1 x2 x3 x4 (ix2 i j) = ((∑ c', partW g b (X0 ∘ row4 c') (X1 ∘ row4 c') (Y ∘ row4 c') 4 i j : ℝ) : EReal) := by
  pointwise [v403, v401, v398, v44, v45, v56, cst_33, cst_22]
  simp only [sum_row4, g4_v T, g4_y T, ← EReal.coe_mul, ← coe_sum, partW, sel_low, word_zero]
  split_ifs
  · rfl
  · simp

theorem g4_gb (i : Fin 128) (h : Fin 8) :
    v396 c a1 p1 a3 p3 x0 x2 (ix2 i h) = ((∑ c', partB (X0 ∘ row4 c') (Y ∘ row4 c') i 4 : ℝ) : EReal) := by
  pointwise [v396, v395, v394, v393]
  simp only [sum_row4, g4_y T, ← EReal.coe_mul, ← coe_sum, partB]

theorem g5_w (i j : Fin 128) : v453 c a6 p6 x5 (ix2 i j) = (wm w 5 i j : EReal) := by
  pointwise [v453, v452, v450, v44, v45, v56, cst_22]
  simp only [word_zero, sel_low, wm]
  split_ifs
  · exact (read_slab a6 p6 x5 5 _ 0 i j).trans (T.w 5 i j)
  · rfl

theorem g5_v (j : Fin 128) (c' : Fin 4) (d : Fin 128) :
    v459 c a2 p2 a4 p4 a5 p5 x1 x3 x4 (ix2 j (row4 c' d)) = (vn g b (X1 (row4 c' j)) (col 5 d) : EReal) := by
  pointwise [v459]
  exact cat_eq (v41 c a2 p2 a4 p4 a5 p5 x1 x3 x4) (fun r => vn g b (X1 r)) (w41 T) 5 _ _ _ _ _ j c' d

theorem g5_y (i : Fin 128) (c' : Fin 4) (d : Fin 128) :
    v469 c a1 p1 a3 p3 x0 x2 (ix2 i (row4 c' d)) = (ds (X0 ∘ row4 c') (Y ∘ row4 c') i (col 5 d) : EReal) :=
  cat_eq (v69 c a1 p1 a3 p3 x0 x2) (fun r k => Y r k * gelu (X0 r k)) (w69 T) 5 _ _ _ _ _ i c' d

theorem g5_s (i : Fin 128) (c' : Fin 4) (d : Fin 128) :
    v463 c a2 p2 a4 p4 a5 p5 a6 p6 a7 p7 x1 x3 x4 x5 x6 (ix2 i (row4 c' d)) = (sp g b w bs (X1 ∘ row4 c') i (col 5 d) : EReal) := by
  pointwise [v463, v462, v461, v460, cst_27]
  simp only [g5_w T, g5_v T, w48 T, ← EReal.coe_mul, ← coe_sum, ← EReal.coe_add, word_zero, sp, Function.comp_apply, head_col]

theorem g5_d (j : Fin 128) (c' : Fin 4) (d : Fin 128) :
    v487 c a1 p1 a3 p3 a6 p6 x0 x2 x5 (ix2 j (row4 c' d)) = (dvn w (X0 ∘ row4 c') (Y ∘ row4 c') j (col 5 d) : EReal) := by
  pointwise [v487, v477, cst_27]
  simp only [g5_w T, g5_y T, ← EReal.coe_mul, ← coe_sum, dvn, head_col]

theorem g5_gw (i j : Fin 128) :
    v482 c a1 p1 a2 p2 a3 p3 a4 p4 a5 p5 x0 x1 x2 x3 x4 (ix2 i j) = ((∑ c', partW g b (X0 ∘ row4 c') (X1 ∘ row4 c') (Y ∘ row4 c') 5 i j : ℝ) : EReal) := by
  pointwise [v482, v480, v477, v44, v45, v56, cst_33, cst_22]
  simp only [sum_row4, g5_v T, g5_y T, ← EReal.coe_mul, ← coe_sum, partW, sel_low, word_zero]
  split_ifs
  · rfl
  · simp

theorem g5_gb (i : Fin 128) (h : Fin 8) :
    v475 c a1 p1 a3 p3 x0 x2 (ix2 i h) = ((∑ c', partB (X0 ∘ row4 c') (Y ∘ row4 c') i 5 : ℝ) : EReal) := by
  pointwise [v475, v474, v473, v472]
  simp only [sum_row4, g5_y T, ← EReal.coe_mul, ← coe_sum, partB]

theorem g6_w (i j : Fin 128) : v532 c a6 p6 x5 (ix2 i j) = (wm w 6 i j : EReal) := by
  pointwise [v532, v531, v529, v44, v45, v56, cst_22]
  simp only [word_zero, sel_low, wm]
  split_ifs
  · exact (read_slab a6 p6 x5 6 _ 0 i j).trans (T.w 6 i j)
  · rfl

theorem g6_v (j : Fin 128) (c' : Fin 4) (d : Fin 128) :
    v538 c a2 p2 a4 p4 a5 p5 x1 x3 x4 (ix2 j (row4 c' d)) = (vn g b (X1 (row4 c' j)) (col 6 d) : EReal) := by
  pointwise [v538]
  exact cat_eq (v41 c a2 p2 a4 p4 a5 p5 x1 x3 x4) (fun r => vn g b (X1 r)) (w41 T) 6 _ _ _ _ _ j c' d

theorem g6_y (i : Fin 128) (c' : Fin 4) (d : Fin 128) :
    v548 c a1 p1 a3 p3 x0 x2 (ix2 i (row4 c' d)) = (ds (X0 ∘ row4 c') (Y ∘ row4 c') i (col 6 d) : EReal) :=
  cat_eq (v69 c a1 p1 a3 p3 x0 x2) (fun r k => Y r k * gelu (X0 r k)) (w69 T) 6 _ _ _ _ _ i c' d

theorem g6_s (i : Fin 128) (c' : Fin 4) (d : Fin 128) :
    v542 c a2 p2 a4 p4 a5 p5 a6 p6 a7 p7 x1 x3 x4 x5 x6 (ix2 i (row4 c' d)) = (sp g b w bs (X1 ∘ row4 c') i (col 6 d) : EReal) := by
  pointwise [v542, v541, v540, v539, cst_27]
  simp only [g6_w T, g6_v T, w48 T, ← EReal.coe_mul, ← coe_sum, ← EReal.coe_add, word_zero, sp, Function.comp_apply, head_col]

theorem g6_d (j : Fin 128) (c' : Fin 4) (d : Fin 128) :
    v566 c a1 p1 a3 p3 a6 p6 x0 x2 x5 (ix2 j (row4 c' d)) = (dvn w (X0 ∘ row4 c') (Y ∘ row4 c') j (col 6 d) : EReal) := by
  pointwise [v566, v556, cst_27]
  simp only [g6_w T, g6_y T, ← EReal.coe_mul, ← coe_sum, dvn, head_col]

theorem g6_gw (i j : Fin 128) :
    v561 c a1 p1 a2 p2 a3 p3 a4 p4 a5 p5 x0 x1 x2 x3 x4 (ix2 i j) = ((∑ c', partW g b (X0 ∘ row4 c') (X1 ∘ row4 c') (Y ∘ row4 c') 6 i j : ℝ) : EReal) := by
  pointwise [v561, v559, v556, v44, v45, v56, cst_33, cst_22]
  simp only [sum_row4, g6_v T, g6_y T, ← EReal.coe_mul, ← coe_sum, partW, sel_low, word_zero]
  split_ifs
  · rfl
  · simp

theorem g6_gb (i : Fin 128) (h : Fin 8) :
    v554 c a1 p1 a3 p3 x0 x2 (ix2 i h) = ((∑ c', partB (X0 ∘ row4 c') (Y ∘ row4 c') i 6 : ℝ) : EReal) := by
  pointwise [v554, v553, v552, v551]
  simp only [sum_row4, g6_y T, ← EReal.coe_mul, ← coe_sum, partB]

theorem g7_w (i j : Fin 128) : v611 c a6 p6 x5 (ix2 i j) = (wm w 7 i j : EReal) := by
  pointwise [v611, v610, v608, v44, v45, v56, cst_22]
  simp only [word_zero, sel_low, wm]
  split_ifs
  · exact (read_slab a6 p6 x5 7 _ 0 i j).trans (T.w 7 i j)
  · rfl

theorem g7_v (j : Fin 128) (c' : Fin 4) (d : Fin 128) :
    v617 c a2 p2 a4 p4 a5 p5 x1 x3 x4 (ix2 j (row4 c' d)) = (vn g b (X1 (row4 c' j)) (col 7 d) : EReal) := by
  pointwise [v617]
  exact cat_eq (v41 c a2 p2 a4 p4 a5 p5 x1 x3 x4) (fun r => vn g b (X1 r)) (w41 T) 7 _ _ _ _ _ j c' d

theorem g7_y (i : Fin 128) (c' : Fin 4) (d : Fin 128) :
    v627 c a1 p1 a3 p3 x0 x2 (ix2 i (row4 c' d)) = (ds (X0 ∘ row4 c') (Y ∘ row4 c') i (col 7 d) : EReal) :=
  cat_eq (v69 c a1 p1 a3 p3 x0 x2) (fun r k => Y r k * gelu (X0 r k)) (w69 T) 7 _ _ _ _ _ i c' d

theorem g7_s (i : Fin 128) (c' : Fin 4) (d : Fin 128) :
    v621 c a2 p2 a4 p4 a5 p5 a6 p6 a7 p7 x1 x3 x4 x5 x6 (ix2 i (row4 c' d)) = (sp g b w bs (X1 ∘ row4 c') i (col 7 d) : EReal) := by
  pointwise [v621, v620, v619, v618, cst_27]
  simp only [g7_w T, g7_v T, w48 T, ← EReal.coe_mul, ← coe_sum, ← EReal.coe_add, word_zero, sp, Function.comp_apply, head_col]

theorem g7_d (j : Fin 128) (c' : Fin 4) (d : Fin 128) :
    v645 c a1 p1 a3 p3 a6 p6 x0 x2 x5 (ix2 j (row4 c' d)) = (dvn w (X0 ∘ row4 c') (Y ∘ row4 c') j (col 7 d) : EReal) := by
  pointwise [v645, v635, cst_27]
  simp only [g7_w T, g7_y T, ← EReal.coe_mul, ← coe_sum, dvn, head_col]

theorem g7_gw (i j : Fin 128) :
    v640 c a1 p1 a2 p2 a3 p3 a4 p4 a5 p5 x0 x1 x2 x3 x4 (ix2 i j) = ((∑ c', partW g b (X0 ∘ row4 c') (X1 ∘ row4 c') (Y ∘ row4 c') 7 i j : ℝ) : EReal) := by
  pointwise [v640, v638, v635, v44, v45, v56, cst_33, cst_22]
  simp only [sum_row4, g7_v T, g7_y T, ← EReal.coe_mul, ← coe_sum, partW, sel_low, word_zero]
  split_ifs
  · rfl
  · simp

theorem g7_gb (i : Fin 128) (h : Fin 8) :
    v633 c a1 p1 a3 p3 x0 x2 (ix2 i h) = ((∑ c', partB (X0 ∘ row4 c') (Y ∘ row4 c') i 7 : ℝ) : EReal) := by
  pointwise [v633, v632, v631, v630]
  simp only [sum_row4, g7_y T, ← EReal.coe_mul, ← coe_sum, partB]

end Cert.Gate.B

end
-- ==== Proof.Gate.StoresB.lean ====
module

public import proofs.«01_k».proof.Proof.Gate.GroupsB

@[expose] public section

noncomputable section

namespace Cert.Gate.B

open Idealize.ShloMosaic Cert.KernelIdeal Cert.KernelIdeal.Gen Cert.KernelIdeal.Gen.kernelRun0_B Cert.KernelIdeal.Gen.kernelRun0_B.sl

variable {c : Dev nD}
variable {a1 : Memref sig .tc .vmem S512x1024 .bf16} {p1 : a1.IsWhole}
  {a2 : Memref sig .tc .vmem S512x1024 .bf16} {p2 : a2.IsWhole}
  {a3 : Memref sig .tc .vmem S512x1024 .bf16} {p3 : a3.IsWhole}
  {a4 : Memref sig .tc .vmem S1x1024 .f32} {p4 : a4.IsWhole}
  {a5 : Memref sig .tc .vmem S1x1024 .f32} {p5 : a5.IsWhole}
  {a6 : Memref sig .tc .vmem S8x128x128 .f32} {p6 : a6.IsWhole}
  {a7 : Memref sig .tc .vmem S128x8 .f32} {p7 : a7.IsWhole}
  {a9 : Memref sig .tc .vmem S512x2048 .bf16} {p9 : a9.IsWhole}
  {a10 : Memref sig .tc .vmem S8x128x128 .f32} {p10 : a10.IsWhole}
  {a11 : Memref sig .tc .vmem S128x8 .f32} {p11 : a11.IsWhole}
  {a12 : Memref sig .tc .vmem S1x1024 .f32} {p12 : a12.IsWhole}
  {a13 : Memref sig .tc .vmem S1x1024 .f32} {p13 : a13.IsWhole}
  {a14 : Memref sig .tc .vmem S512x1024 .f32} {p14 : a14.IsWhole}
  {a15 : Memref sig .tc .vmem S512x1024 .f32} {p15 : a15.IsWhole}
variable {x0 x1 x2 : Vec Ideal S512x1024 .bf16} {x3 x4 : Vec Ideal S1x1024 .f32} {x5 : Vec Ideal S8x128x128 .f32}
  {x6 : Vec Ideal S128x8 .f32} {X0 X1 Y : Fin 512 → Fin 1024 → ℝ} {g b : Fin 1024 → ℝ}
  {w : Fin 8 → Fin 128 → Fin 128 → ℝ} {bs : Fin 128 → Fin 8 → ℝ} (T : Tile X0 X1 Y g b w bs x0 x1 x2 x3 x4 x5 x6)
include T

theorem g0_o8 {xo8 : Vec Ideal S8x128x128 .f32} (A8 : Fin 8 → Fin 128 → Fin 128 → ℝ)
    (h8 : ∀ h i j, xo8 (ix3 h i j) = (A8 h i j : EReal)) (i j : Fin 128) :
    v91 c a1 p1 a2 p2 a3 p3 a4 p4 a5 p5 a10 p10 x0 x1 x2 x3 x4 xo8 (ix3 0 i j)
      = ((A8 0 i j + ∑ c', partW g b (X0 ∘ row4 c') (X1 ∘ row4 c') (Y ∘ row4 c') 0 i j : ℝ) : EReal) := by
  pointwise [v91, v88, v84]
  rw [g0_gw T, EReal.coe_add, ← h8]
  exact congrArg (· + _) (read_slab a10 p10 xo8 0 _ 0 i j)

theorem g0_sel (i : Fin 128) (h : Fin 8) :
    v81 c a1 p1 a3 p3 x0 x2 (ix2 i h) = if h.val ≤ 0 then ((∑ c', partB (X0 ∘ row4 c') (Y ∘ row4 c') i h : ℝ) : EReal) else 0 := by
  pointwise [v81, v52, v75, v53, cst_22]
  rw [sel_is _ 0 (by decide), g0_gb T]
  split_ifs with h1 h2 h2
  all_goals first
    | rfl
    | (exfalso; omega)
    | (obtain rfl : h = 0 := Fin.ext h1; rfl)

theorem g0_p14_0 (i d : Fin 128) : v96 c a1 p1 a3 p3 a6 p6 x0 x2 x5 (ix2 i d) = (dvn w (X0 ∘ row4 0) (Y ∘ row4 0) i (col 0 d) : EReal) := by
  pointwise [v96, v93]
  exact (congrArg _ (congrArg (ix2 i) (Fin.ext (by simp [row4])))).trans (g0_d T i 0 d)

theorem g0_p14_1 (i d : Fin 128) : v106 c a1 p1 a3 p3 a6 p6 x0 x2 x5 (ix2 i d) = (dvn w (X0 ∘ row4 1) (Y ∘ row4 1) i (col 0 d) : EReal) := by
  pointwise [v106, v103]
  exact (congrArg _ (congrArg (ix2 i) (Fin.ext (by simp [row4])))).trans (g0_d T i 1 d)

theorem g0_p14_2 (i d : Fin 128) : v116 c a1 p1 a3 p3 a6 p6 x0 x2 x5 (ix2 i d) = (dvn w (X0 ∘ row4 2) (Y ∘ row4 2) i (col 0 d) : EReal) := by
  pointwise [v116, v113]
  exact (congrArg _ (congrArg (ix2 i) (Fin.ext (by simp [row4])))).trans (g0_d T i 2 d)

theorem g0_p14_3 (i d : Fin 128) : v126 c a1 p1 a3 p3 a6 p6 x0 x2 x5 (ix2 i d) = (dvn w (X0 ∘ row4 3) (Y ∘ row4 3) i (col 0 d) : EReal) := by
  pointwise [v126, v123]
  exact (congrArg _ (congrArg (ix2 i) (Fin.ext (by simp [row4])))).trans (g0_d T i 3 d)

theorem g0_p15_0 (i d : Fin 128) : v102 c a2 p2 a3 p3 a4 p4 a5 p5 a6 p6 a7 p7 x1 x2 x3 x4 x5 x6 (ix2 i d)
    = ((Y (row4 0 i) (col 0 d) * sp g b w bs (X1 ∘ row4 0) i (col 0 d) : ℝ) : EReal) := by
  pointwise [v102, v99, v97, v98]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g0_s T i 0 d))

theorem g0_p15_1 (i d : Fin 128) : v112 c a2 p2 a3 p3 a4 p4 a5 p5 a6 p6 a7 p7 x1 x2 x3 x4 x5 x6 (ix2 i d)
    = ((Y (row4 1 i) (col 0 d) * sp g b w bs (X1 ∘ row4 1) i (col 0 d) : ℝ) : EReal) := by
  pointwise [v112, v109, v107, v108]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g0_s T i 1 d))

theorem g0_p15_2 (i d : Fin 128) : v122 c a2 p2 a3 p3 a4 p4 a5 p5 a6 p6 a7 p7 x1 x2 x3 x4 x5 x6 (ix2 i d)
    = ((Y (row4 2 i) (col 0 d) * sp g b w bs (X1 ∘ row4 2) i (col 0 d) : ℝ) : EReal) := by
  pointwise [v122, v119, v117, v118]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g0_s T i 2 d))

theorem g0_p15_3 (i d : Fin 128) : v132 c a2 p2 a3 p3 a4 p4 a5 p5 a6 p6 a7 p7 x1 x2 x3 x4 x5 x6 (ix2 i d)
    = ((Y (row4 3 i) (col 0 d) * sp g b w bs (X1 ∘ row4 3) i (col 0 d) : ℝ) : EReal) := by
  pointwise [v132, v129, v127, v128]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g0_s T i 3 d))

theorem g1_o8 {xo8 : Vec Ideal S8x128x128 .f32} (A8 : Fin 8 → Fin 128 → Fin 128 → ℝ)
    (h8 : ∀ h i j, xo8 (ix3 h i j) = (A8 h i j : EReal)) (i j : Fin 128) :
    v170 c a1 p1 a2 p2 a3 p3 a4 p4 a5 p5 a10 p10 x0 x1 x2 x3 x4 xo8 (ix3 0 i j)
      = ((A8 1 i j + ∑ c', partW g b (X0 ∘ row4 c') (X1 ∘ row4 c') (Y ∘ row4 c') 1 i j : ℝ) : EReal) := by
  pointwise [v170, v167, v163, v162]
  rw [g1_gw T, EReal.coe_add, ← h8]
  exact congrArg (· + _) (read_slab a10 p10 xo8 1 _ 0 i j)

theorem g1_sel (i : Fin 128) (h : Fin 8) :
    v160 c a1 p1 a3 p3 x0 x2 (ix2 i h) = if h.val ≤ 1 then ((∑ c', partB (X0 ∘ row4 c') (Y ∘ row4 c') i h : ℝ) : EReal) else 0 := by
  pointwise [v160, v52, v154]
  rw [sel_is _ 1 (by decide), g1_gb T, g0_sel T]
  split_ifs with h1 h2 h2
  all_goals first
    | rfl
    | (exfalso; omega)
    | (obtain rfl : h = 1 := Fin.ext h1; rfl)

theorem g1_p14_0 (i d : Fin 128) : v175 c a1 p1 a3 p3 a6 p6 x0 x2 x5 (ix2 i d) = (dvn w (X0 ∘ row4 0) (Y ∘ row4 0) i (col 1 d) : EReal) := by
  pointwise [v175, v172]
  exact (congrArg _ (congrArg (ix2 i) (Fin.ext (by simp [row4])))).trans (g1_d T i 0 d)

theorem g1_p14_1 (i d : Fin 128) : v185 c a1 p1 a3 p3 a6 p6 x0 x2 x5 (ix2 i d) = (dvn w (X0 ∘ row4 1) (Y ∘ row4 1) i (col 1 d) : EReal) := by
  pointwise [v185, v182]
  exact (congrArg _ (congrArg (ix2 i) (Fin.ext (by simp [row4])))).trans (g1_d T i 1 d)

theorem g1_p14_2 (i d : Fin 128) : v195 c a1 p1 a3 p3 a6 p6 x0 x2 x5 (ix2 i d) = (dvn w (X0 ∘ row4 2) (Y ∘ row4 2) i (col 1 d) : EReal) := by
  pointwise [v195, v192]
  exact (congrArg _ (congrArg (ix2 i) (Fin.ext (by simp [row4])))).trans (g1_d T i 2 d)

theorem g1_p14_3 (i d : Fin 128) : v205 c a1 p1 a3 p3 a6 p6 x0 x2 x5 (ix2 i d) = (dvn w (X0 ∘ row4 3) (Y ∘ row4 3) i (col 1 d) : EReal) := by
  pointwise [v205, v202]
  exact (congrArg _ (congrArg (ix2 i) (Fin.ext (by simp [row4])))).trans (g1_d T i 3 d)

theorem g1_p15_0 (i d : Fin 128) : v181 c a2 p2 a3 p3 a4 p4 a5 p5 a6 p6 a7 p7 x1 x2 x3 x4 x5 x6 (ix2 i d)
    = ((Y (row4 0 i) (col 1 d) * sp g b w bs (X1 ∘ row4 0) i (col 1 d) : ℝ) : EReal) := by
  pointwise [v181, v178, v176, v177]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g1_s T i 0 d))

theorem g1_p15_1 (i d : Fin 128) : v191 c a2 p2 a3 p3 a4 p4 a5 p5 a6 p6 a7 p7 x1 x2 x3 x4 x5 x6 (ix2 i d)
    = ((Y (row4 1 i) (col 1 d) * sp g b w bs (X1 ∘ row4 1) i (col 1 d) : ℝ) : EReal) := by
  pointwise [v191, v188, v186, v187]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g1_s T i 1 d))

theorem g1_p15_2 (i d : Fin 128) : v201 c a2 p2 a3 p3 a4 p4 a5 p5 a6 p6 a7 p7 x1 x2 x3 x4 x5 x6 (ix2 i d)
    = ((Y (row4 2 i) (col 1 d) * sp g b w bs (X1 ∘ row4 2) i (col 1 d) : ℝ) : EReal) := by
  pointwise [v201, v198, v196, v197]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g1_s T i 2 d))

theorem g1_p15_3 (i d : Fin 128) : v211 c a2 p2 a3 p3 a4 p4 a5 p5 a6 p6 a7 p7 x1 x2 x3 x4 x5 x6 (ix2 i d)
    = ((Y (row4 3 i) (col 1 d) * sp g b w bs (X1 ∘ row4 3) i (col 1 d) : ℝ) : EReal) := by
  pointwise [v211, v208, v206, v207]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g1_s T i 3 d))

theorem g2_o8 {xo8 : Vec Ideal S8x128x128 .f32} (A8 : Fin 8 → Fin 128 → Fin 128 → ℝ)
    (h8 : ∀ h i j, xo8 (ix3 h i j) = (A8 h i j : EReal)) (i j : Fin 128) :
    v249 c a1 p1 a2 p2 a3 p3 a4 p4 a5 p5 a10 p10 x0 x1 x2 x3 x4 xo8 (ix3 0 i j)
      = ((A8 2 i j + ∑ c', partW g b (X0 ∘ row4 c') (X1 ∘ row4 c') (Y ∘ row4 c') 2 i j : ℝ) : EReal) := by
  pointwise [v249, v246, v242, v241]
  rw [g2_gw T, EReal.coe_add, ← h8]
  exact congrArg (· + _) (read_slab a10 p10 xo8 2 _ 0 i j)

theorem g2_sel (i : Fin 128) (h : Fin 8) :
    v239 c a1 p1 a3 p3 x0 x2 (ix2 i h) = if h.val ≤ 2 then ((∑ c', partB (X0 ∘ row4 c') (Y ∘ row4 c') i h : ℝ) : EReal) else 0 := by
  pointwise [v239, v52, v233]
  rw [sel_is _ 2 (by decide), g2_gb T, g1_sel T]
  split_ifs with h1 h2 h2
  all_goals first
    | rfl
    | (exfalso; omega)
    | (obtain rfl : h = 2 := Fin.ext h1; rfl)

theorem g2_p14_0 (i d : Fin 128) : v254 c a1 p1 a3 p3 a6 p6 x0 x2 x5 (ix2 i d) = (dvn w (X0 ∘ row4 0) (Y ∘ row4 0) i (col 2 d) : EReal) := by
  pointwise [v254, v251]
  exact (congrArg _ (congrArg (ix2 i) (Fin.ext (by simp [row4])))).trans (g2_d T i 0 d)

theorem g2_p14_1 (i d : Fin 128) : v264 c a1 p1 a3 p3 a6 p6 x0 x2 x5 (ix2 i d) = (dvn w (X0 ∘ row4 1) (Y ∘ row4 1) i (col 2 d) : EReal) := by
  pointwise [v264, v261]
  exact (congrArg _ (congrArg (ix2 i) (Fin.ext (by simp [row4])))).trans (g2_d T i 1 d)

theorem g2_p14_2 (i d : Fin 128) : v274 c a1 p1 a3 p3 a6 p6 x0 x2 x5 (ix2 i d) = (dvn w (X0 ∘ row4 2) (Y ∘ row4 2) i (col 2 d) : EReal) := by
  pointwise [v274, v271]
  exact (congrArg _ (congrArg (ix2 i) (Fin.ext (by simp [row4])))).trans (g2_d T i 2 d)

theorem g2_p14_3 (i d : Fin 128) : v284 c a1 p1 a3 p3 a6 p6 x0 x2 x5 (ix2 i d) = (dvn w (X0 ∘ row4 3) (Y ∘ row4 3) i (col 2 d) : EReal) := by
  pointwise [v284, v281]
  exact (congrArg _ (congrArg (ix2 i) (Fin.ext (by simp [row4])))).trans (g2_d T i 3 d)

theorem g2_p15_0 (i d : Fin 128) : v260 c a2 p2 a3 p3 a4 p4 a5 p5 a6 p6 a7 p7 x1 x2 x3 x4 x5 x6 (ix2 i d)
    = ((Y (row4 0 i) (col 2 d) * sp g b w bs (X1 ∘ row4 0) i (col 2 d) : ℝ) : EReal) := by
  pointwise [v260, v257, v255, v256]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g2_s T i 0 d))

theorem g2_p15_1 (i d : Fin 128) : v270 c a2 p2 a3 p3 a4 p4 a5 p5 a6 p6 a7 p7 x1 x2 x3 x4 x5 x6 (ix2 i d)
    = ((Y (row4 1 i) (col 2 d) * sp g b w bs (X1 ∘ row4 1) i (col 2 d) : ℝ) : EReal) := by
  pointwise [v270, v267, v265, v266]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g2_s T i 1 d))

theorem g2_p15_2 (i d : Fin 128) : v280 c a2 p2 a3 p3 a4 p4 a5 p5 a6 p6 a7 p7 x1 x2 x3 x4 x5 x6 (ix2 i d)
    = ((Y (row4 2 i) (col 2 d) * sp g b w bs (X1 ∘ row4 2) i (col 2 d) : ℝ) : EReal) := by
  pointwise [v280, v277, v275, v276]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g2_s T i 2 d))

theorem g2_p15_3 (i d : Fin 128) : v290 c a2 p2 a3 p3 a4 p4 a5 p5 a6 p6 a7 p7 x1 x2 x3 x4 x5 x6 (ix2 i d)
    = ((Y (row4 3 i) (col 2 d) * sp g b w bs (X1 ∘ row4 3) i (col 2 d) : ℝ) : EReal) := by
  pointwise [v290, v287, v285, v286]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g2_s T i 3 d))

theorem g3_o8 {xo8 : Vec Ideal S8x128x128 .f32} (A8 : Fin 8 → Fin 128 → Fin 128 → ℝ)
    (h8 : ∀ h i j, xo8 (ix3 h i j) = (A8 h i j : EReal)) (i j : Fin 128) :
    v328 c a1 p1 a2 p2 a3 p3 a4 p4 a5 p5 a10 p10 x0 x1 x2 x3 x4 xo8 (ix3 0 i j)
      = ((A8 3 i j + ∑ c', partW g b (X0 ∘ row4 c') (X1 ∘ row4 c') (Y ∘ row4 c') 3 i j : ℝ) : EReal) := by
  pointwise [v328, v325, v321, v320]
  rw [g3_gw T, EReal.coe_add, ← h8]
  exact congrArg (· + _) (read_slab a10 p10 xo8 3 _ 0 i j)

theorem g3_sel (i : Fin 128) (h : Fin 8) :
    v318 c a1 p1 a3 p3 x0 x2 (ix2 i h) = if h.val ≤ 3 then ((∑ c', partB (X0 ∘ row4 c') (Y ∘ row4 c') i h : ℝ) : EReal) else 0 := by
  pointwise [v318, v52, v312]
  rw [sel_is _ 3 (by decide), g3_gb T, g2_sel T]
  split_ifs with h1 h2 h2
  all_goals first
    | rfl
    | (exfalso; omega)
    | (obtain rfl : h = 3 := Fin.ext h1; rfl)

theorem g3_p14_0 (i d : Fin 128) : v333 c a1 p1 a3 p3 a6 p6 x0 x2 x5 (ix2 i d) = (dvn w (X0 ∘ row4 0) (Y ∘ row4 0) i (col 3 d) : EReal) := by
  pointwise [v333, v330]
  exact (congrArg _ (congrArg (ix2 i) (Fin.ext (by simp [row4])))).trans (g3_d T i 0 d)

theorem g3_p14_1 (i d : Fin 128) : v343 c a1 p1 a3 p3 a6 p6 x0 x2 x5 (ix2 i d) = (dvn w (X0 ∘ row4 1) (Y ∘ row4 1) i (col 3 d) : EReal) := by
  pointwise [v343, v340]
  exact (congrArg _ (congrArg (ix2 i) (Fin.ext (by simp [row4])))).trans (g3_d T i 1 d)

theorem g3_p14_2 (i d : Fin 128) : v353 c a1 p1 a3 p3 a6 p6 x0 x2 x5 (ix2 i d) = (dvn w (X0 ∘ row4 2) (Y ∘ row4 2) i (col 3 d) : EReal) := by
  pointwise [v353, v350]
  exact (congrArg _ (congrArg (ix2 i) (Fin.ext (by simp [row4])))).trans (g3_d T i 2 d)

theorem g3_p14_3 (i d : Fin 128) : v363 c a1 p1 a3 p3 a6 p6 x0 x2 x5 (ix2 i d) = (dvn w (X0 ∘ row4 3) (Y ∘ row4 3) i (col 3 d) : EReal) := by
  pointwise [v363, v360]
  exact (congrArg _ (congrArg (ix2 i) (Fin.ext (by simp [row4])))).trans (g3_d T i 3 d)

theorem g3_p15_0 (i d : Fin 128) : v339 c a2 p2 a3 p3 a4 p4 a5 p5 a6 p6 a7 p7 x1 x2 x3 x4 x5 x6 (ix2 i d)
    = ((Y (row4 0 i) (col 3 d) * sp g b w bs (X1 ∘ row4 0) i (col 3 d) : ℝ) : EReal) := by
  pointwise [v339, v336, v334, v335]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g3_s T i 0 d))

theorem g3_p15_1 (i d : Fin 128) : v349 c a2 p2 a3 p3 a4 p4 a5 p5 a6 p6 a7 p7 x1 x2 x3 x4 x5 x6 (ix2 i d)
    = ((Y (row4 1 i) (col 3 d) * sp g b w bs (X1 ∘ row4 1) i (col 3 d) : ℝ) : EReal) := by
  pointwise [v349, v346, v344, v345]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g3_s T i 1 d))

theorem g3_p15_2 (i d : Fin 128) : v359 c a2 p2 a3 p3 a4 p4 a5 p5 a6 p6 a7 p7 x1 x2 x3 x4 x5 x6 (ix2 i d)
    = ((Y (row4 2 i) (col 3 d) * sp g b w bs (X1 ∘ row4 2) i (col 3 d) : ℝ) : EReal) := by
  pointwise [v359, v356, v354, v355]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g3_s T i 2 d))

theorem g3_p15_3 (i d : Fin 128) : v369 c a2 p2 a3 p3 a4 p4 a5 p5 a6 p6 a7 p7 x1 x2 x3 x4 x5 x6 (ix2 i d)
    = ((Y (row4 3 i) (col 3 d) * sp g b w bs (X1 ∘ row4 3) i (col 3 d) : ℝ) : EReal) := by
  pointwise [v369, v366, v364, v365]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g3_s T i 3 d))

theorem g4_o8 {xo8 : Vec Ideal S8x128x128 .f32} (A8 : Fin 8 → Fin 128 → Fin 128 → ℝ)
    (h8 : ∀ h i j, xo8 (ix3 h i j) = (A8 h i j : EReal)) (i j : Fin 128) :
    v407 c a1 p1 a2 p2 a3 p3 a4 p4 a5 p5 a10 p10 x0 x1 x2 x3 x4 xo8 (ix3 0 i j)
      = ((A8 4 i j + ∑ c', partW g b (X0 ∘ row4 c') (X1 ∘ row4 c') (Y ∘ row4 c') 4 i j : ℝ) : EReal) := by
  pointwise [v407, v404, v400, v399]
  rw [g4_gw T, EReal.coe_add, ← h8]
  exact congrArg (· + _) (read_slab a10 p10 xo8 4 _ 0 i j)

theorem g4_sel (i : Fin 128) (h : Fin 8) :
    v397 c a1 p1 a3 p3 x0 x2 (ix2 i h) = if h.val ≤ 4 then ((∑ c', partB (X0 ∘ row4 c') (Y ∘ row4 c') i h : ℝ) : EReal) else 0 := by
  pointwise [v397, v52, v391]
  rw [sel_is _ 4 (by decide), g4_gb T, g3_sel T]
  split_ifs with h1 h2 h2
  all_goals first
    | rfl
    | (exfalso; omega)
    | (obtain rfl : h = 4 := Fin.ext h1; rfl)

theorem g4_p14_0 (i d : Fin 128) : v412 c a1 p1 a3 p3 a6 p6 x0 x2 x5 (ix2 i d) = (dvn w (X0 ∘ row4 0) (Y ∘ row4 0) i (col 4 d) : EReal) := by
  pointwise [v412, v409]
  exact (congrArg _ (congrArg (ix2 i) (Fin.ext (by simp [row4])))).trans (g4_d T i 0 d)

theorem g4_p14_1 (i d : Fin 128) : v422 c a1 p1 a3 p3 a6 p6 x0 x2 x5 (ix2 i d) = (dvn w (X0 ∘ row4 1) (Y ∘ row4 1) i (col 4 d) : EReal) := by
  pointwise [v422, v419]
  exact (congrArg _ (congrArg (ix2 i) (Fin.ext (by simp [row4])))).trans (g4_d T i 1 d)

theorem g4_p14_2 (i d : Fin 128) : v432 c a1 p1 a3 p3 a6 p6 x0 x2 x5 (ix2 i d) = (dvn w (X0 ∘ row4 2) (Y ∘ row4 2) i (col 4 d) : EReal) := by
  pointwise [v432, v429]
  exact (congrArg _ (congrArg (ix2 i) (Fin.ext (by simp [row4])))).trans (g4_d T i 2 d)

theorem g4_p14_3 (i d : Fin 128) : v442 c a1 p1 a3 p3 a6 p6 x0 x2 x5 (ix2 i d) = (dvn w (X0 ∘ row4 3) (Y ∘ row4 3) i (col 4 d) : EReal) := by
  pointwise [v442, v439]
  exact (congrArg _ (congrArg (ix2 i) (Fin.ext (by simp [row4])))).trans (g4_d T i 3 d)

theorem g4_p15_0 (i d : Fin 128) : v418 c a2 p2 a3 p3 a4 p4 a5 p5 a6 p6 a7 p7 x1 x2 x3 x4 x5 x6 (ix2 i d)
    = ((Y (row4 0 i) (col 4 d) * sp g b w bs (X1 ∘ row4 0) i (col 4 d) : ℝ) : EReal) := by
  pointwise [v418, v415, v413, v414]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g4_s T i 0 d))

theorem g4_p15_1 (i d : Fin 128) : v428 c a2 p2 a3 p3 a4 p4 a5 p5 a6 p6 a7 p7 x1 x2 x3 x4 x5 x6 (ix2 i d)
    = ((Y (row4 1 i) (col 4 d) * sp g b w bs (X1 ∘ row4 1) i (col 4 d) : ℝ) : EReal) := by
  pointwise [v428, v425, v423, v424]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g4_s T i 1 d))

theorem g4_p15_2 (i d : Fin 128) : v438 c a2 p2 a3 p3 a4 p4 a5 p5 a6 p6 a7 p7 x1 x2 x3 x4 x5 x6 (ix2 i d)
    = ((Y (row4 2 i) (col 4 d) * sp g b w bs (X1 ∘ row4 2) i (col 4 d) : ℝ) : EReal) := by
  pointwise [v438, v435, v433, v434]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g4_s T i 2 d))

theorem g4_p15_3 (i d : Fin 128) : v448 c a2 p2 a3 p3 a4 p4 a5 p5 a6 p6 a7 p7 x1 x2 x3 x4 x5 x6 (ix2 i d)
    = ((Y (row4 3 i) (col 4 d) * sp g b w bs (X1 ∘ row4 3) i (col 4 d) : ℝ) : EReal) := by
  pointwise [v448, v445, v443, v444]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g4_s T i 3 d))

theorem g5_o8 {xo8 : Vec Ideal S8x128x128 .f32} (A8 : Fin 8 → Fin 128 → Fin 128 → ℝ)
    (h8 : ∀ h i j, xo8 (ix3 h i j) = (A8 h i j : EReal)) (i j : Fin 128) :
    v486 c a1 p1 a2 p2 a3 p3 a4 p4 a5 p5 a10 p10 x0 x1 x2 x3 x4 xo8 (ix3 0 i j)
      = ((A8 5 i j + ∑ c', partW g b (X0 ∘ row4 c') (X1 ∘ row4 c') (Y ∘ row4 c') 5 i j : ℝ) : EReal) := by
  pointwise [v486, v483, v479, v478]
  rw [g5_gw T, EReal.coe_add, ← h8]
  exact congrArg (· + _) (read_slab a10 p10 xo8 5 _ 0 i j)

theorem g5_sel (i : Fin 128) (h : Fin 8) :
    v476 c a1 p1 a3 p3 x0 x2 (ix2 i h) = if h.val ≤ 5 then ((∑ c', partB (X0 ∘ row4 c') (Y ∘ row4 c') i h : ℝ) : EReal) else 0 := by
  pointwise [v476, v52, v470]
  rw [sel_is _ 5 (by decide), g5_gb T, g4_sel T]
  split_ifs with h1 h2 h2
  all_goals first
    | rfl
    | (exfalso; omega)
    | (obtain rfl : h = 5 := Fin.ext h1; rfl)

theorem g5_p14_0 (i d : Fin 128) : v491 c a1 p1 a3 p3 a6 p6 x0 x2 x5 (ix2 i d) = (dvn w (X0 ∘ row4 0) (Y ∘ row4 0) i (col 5 d) : EReal) := by
  pointwise [v491, v488]
  exact (congrArg _ (congrArg (ix2 i) (Fin.ext (by simp [row4])))).trans (g5_d T i 0 d)

theorem g5_p14_1 (i d : Fin 128) : v501 c a1 p1 a3 p3 a6 p6 x0 x2 x5 (ix2 i d) = (dvn w (X0 ∘ row4 1) (Y ∘ row4 1) i (col 5 d) : EReal) := by
  pointwise [v501, v498]
  exact (congrArg _ (congrArg (ix2 i) (Fin.ext (by simp [row4])))).trans (g5_d T i 1 d)

theorem g5_p14_2 (i d : Fin 128) : v511 c a1 p1 a3 p3 a6 p6 x0 x2 x5 (ix2 i d) = (dvn w (X0 ∘ row4 2) (Y ∘ row4 2) i (col 5 d) : EReal) := by
  pointwise [v511, v508]
  exact (congrArg _ (congrArg (ix2 i) (Fin.ext (by simp [row4])))).trans (g5_d T i 2 d)

theorem g5_p14_3 (i d : Fin 128) : v521 c a1 p1 a3 p3 a6 p6 x0 x2 x5 (ix2 i d) = (dvn w (X0 ∘ row4 3) (Y ∘ row4 3) i (col 5 d) : EReal) := by
  pointwise [v521, v518]
  exact (congrArg _ (congrArg (ix2 i) (Fin.ext (by simp [row4])))).trans (g5_d T i 3 d)

theorem g5_p15_0 (i d : Fin 128) : v497 c a2 p2 a3 p3 a4 p4 a5 p5 a6 p6 a7 p7 x1 x2 x3 x4 x5 x6 (ix2 i d)
    = ((Y (row4 0 i) (col 5 d) * sp g b w bs (X1 ∘ row4 0) i (col 5 d) : ℝ) : EReal) := by
  pointwise [v497, v494, v492, v493]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g5_s T i 0 d))

theorem g5_p15_1 (i d : Fin 128) : v507 c a2 p2 a3 p3 a4 p4 a5 p5 a6 p6 a7 p7 x1 x2 x3 x4 x5 x6 (ix2 i d)
    = ((Y (row4 1 i) (col 5 d) * sp g b w bs (X1 ∘ row4 1) i (col 5 d) : ℝ) : EReal) := by
  pointwise [v507, v504, v502, v503]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g5_s T i 1 d))

theorem g5_p15_2 (i d : Fin 128) : v517 c a2 p2 a3 p3 a4 p4 a5 p5 a6 p6 a7 p7 x1 x2 x3 x4 x5 x6 (ix2 i d)
    = ((Y (row4 2 i) (col 5 d) * sp g b w bs (X1 ∘ row4 2) i (col 5 d) : ℝ) : EReal) := by
  pointwise [v517, v514, v512, v513]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g5_s T i 2 d))

theorem g5_p15_3 (i d : Fin 128) : v527 c a2 p2 a3 p3 a4 p4 a5 p5 a6 p6 a7 p7 x1 x2 x3 x4 x5 x6 (ix2 i d)
    = ((Y (row4 3 i) (col 5 d) * sp g b w bs (X1 ∘ row4 3) i (col 5 d) : ℝ) : EReal) := by
  pointwise [v527, v524, v522, v523]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g5_s T i 3 d))

theorem g6_o8 {xo8 : Vec Ideal S8x128x128 .f32} (A8 : Fin 8 → Fin 128 → Fin 128 → ℝ)
    (h8 : ∀ h i j, xo8 (ix3 h i j) = (A8 h i j : EReal)) (i j : Fin 128) :
    v565 c a1 p1 a2 p2 a3 p3 a4 p4 a5 p5 a10 p10 x0 x1 x2 x3 x4 xo8 (ix3 0 i j)
      = ((A8 6 i j + ∑ c', partW g b (X0 ∘ row4 c') (X1 ∘ row4 c') (Y ∘ row4 c') 6 i j : ℝ) : EReal) := by
  pointwise [v565, v562, v558, v557]
  rw [g6_gw T, EReal.coe_add, ← h8]
  exact congrArg (· + _) (read_slab a10 p10 xo8 6 _ 0 i j)

theorem g6_sel (i : Fin 128) (h : Fin 8) :
    v555 c a1 p1 a3 p3 x0 x2 (ix2 i h) = if h.val ≤ 6 then ((∑ c', partB (X0 ∘ row4 c') (Y ∘ row4 c') i h : ℝ) : EReal) else 0 := by
  pointwise [v555, v52, v549]
  rw [sel_is _ 6 (by decide), g6_gb T, g5_sel T]
  split_ifs with h1 h2 h2
  all_goals first
    | rfl
    | (exfalso; omega)
    | (obtain rfl : h = 6 := Fin.ext h1; rfl)

theorem g6_p14_0 (i d : Fin 128) : v570 c a1 p1 a3 p3 a6 p6 x0 x2 x5 (ix2 i d) = (dvn w (X0 ∘ row4 0) (Y ∘ row4 0) i (col 6 d) : EReal) := by
  pointwise [v570, v567]
  exact (congrArg _ (congrArg (ix2 i) (Fin.ext (by simp [row4])))).trans (g6_d T i 0 d)

theorem g6_p14_1 (i d : Fin 128) : v580 c a1 p1 a3 p3 a6 p6 x0 x2 x5 (ix2 i d) = (dvn w (X0 ∘ row4 1) (Y ∘ row4 1) i (col 6 d) : EReal) := by
  pointwise [v580, v577]
  exact (congrArg _ (congrArg (ix2 i) (Fin.ext (by simp [row4])))).trans (g6_d T i 1 d)

theorem g6_p14_2 (i d : Fin 128) : v590 c a1 p1 a3 p3 a6 p6 x0 x2 x5 (ix2 i d) = (dvn w (X0 ∘ row4 2) (Y ∘ row4 2) i (col 6 d) : EReal) := by
  pointwise [v590, v587]
  exact (congrArg _ (congrArg (ix2 i) (Fin.ext (by simp [row4])))).trans (g6_d T i 2 d)

theorem g6_p14_3 (i d : Fin 128) : v600 c a1 p1 a3 p3 a6 p6 x0 x2 x5 (ix2 i d) = (dvn w (X0 ∘ row4 3) (Y ∘ row4 3) i (col 6 d) : EReal) := by
  pointwise [v600, v597]
  exact (congrArg _ (congrArg (ix2 i) (Fin.ext (by simp [row4])))).trans (g6_d T i 3 d)

theorem g6_p15_0 (i d : Fin 128) : v576 c a2 p2 a3 p3 a4 p4 a5 p5 a6 p6 a7 p7 x1 x2 x3 x4 x5 x6 (ix2 i d)
    = ((Y (row4 0 i) (col 6 d) * sp g b w bs (X1 ∘ row4 0) i (col 6 d) : ℝ) : EReal) := by
  pointwise [v576, v573, v571, v572]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g6_s T i 0 d))

theorem g6_p15_1 (i d : Fin 128) : v586 c a2 p2 a3 p3 a4 p4 a5 p5 a6 p6 a7 p7 x1 x2 x3 x4 x5 x6 (ix2 i d)
    = ((Y (row4 1 i) (col 6 d) * sp g b w bs (X1 ∘ row4 1) i (col 6 d) : ℝ) : EReal) := by
  pointwise [v586, v583, v581, v582]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g6_s T i 1 d))

theorem g6_p15_2 (i d : Fin 128) : v596 c a2 p2 a3 p3 a4 p4 a5 p5 a6 p6 a7 p7 x1 x2 x3 x4 x5 x6 (ix2 i d)
    = ((Y (row4 2 i) (col 6 d) * sp g b w bs (X1 ∘ row4 2) i (col 6 d) : ℝ) : EReal) := by
  pointwise [v596, v593, v591, v592]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g6_s T i 2 d))

theorem g6_p15_3 (i d : Fin 128) : v606 c a2 p2 a3 p3 a4 p4 a5 p5 a6 p6 a7 p7 x1 x2 x3 x4 x5 x6 (ix2 i d)
    = ((Y (row4 3 i) (col 6 d) * sp g b w bs (X1 ∘ row4 3) i (col 6 d) : ℝ) : EReal) := by
  pointwise [v606, v603, v601, v602]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g6_s T i 3 d))

theorem g7_o8 {xo8 : Vec Ideal S8x128x128 .f32} (A8 : Fin 8 → Fin 128 → Fin 128 → ℝ)
    (h8 : ∀ h i j, xo8 (ix3 h i j) = (A8 h i j : EReal)) (i j : Fin 128) :
    v644 c a1 p1 a2 p2 a3 p3 a4 p4 a5 p5 a10 p10 x0 x1 x2 x3 x4 xo8 (ix3 0 i j)
      = ((A8 7 i j + ∑ c', partW g b (X0 ∘ row4 c') (X1 ∘ row4 c') (Y ∘ row4 c') 7 i j : ℝ) : EReal) := by
  pointwise [v644, v641, v637, v636]
  rw [g7_gw T, EReal.coe_add, ← h8]
  exact congrArg (· + _) (read_slab a10 p10 xo8 7 _ 0 i j)

theorem g7_sel (i : Fin 128) (h : Fin 8) :
    v634 c a1 p1 a3 p3 x0 x2 (ix2 i h) = if h.val ≤ 7 then ((∑ c', partB (X0 ∘ row4 c') (Y ∘ row4 c') i h : ℝ) : EReal) else 0 := by
  pointwise [v634, v52, v628]
  rw [sel_is _ 7 (by decide), g7_gb T, g6_sel T]
  split_ifs with h1 h2 h2
  all_goals first
    | rfl
    | (exfalso; omega)
    | (obtain rfl : h = 7 := Fin.ext h1; rfl)

theorem g7_p14_0 (i d : Fin 128) : v649 c a1 p1 a3 p3 a6 p6 x0 x2 x5 (ix2 i d) = (dvn w (X0 ∘ row4 0) (Y ∘ row4 0) i (col 7 d) : EReal) := by
  pointwise [v649, v646]
  exact (congrArg _ (congrArg (ix2 i) (Fin.ext (by simp [row4])))).trans (g7_d T i 0 d)

theorem g7_p14_1 (i d : Fin 128) : v659 c a1 p1 a3 p3 a6 p6 x0 x2 x5 (ix2 i d) = (dvn w (X0 ∘ row4 1) (Y ∘ row4 1) i (col 7 d) : EReal) := by
  pointwise [v659, v656]
  exact (congrArg _ (congrArg (ix2 i) (Fin.ext (by simp [row4])))).trans (g7_d T i 1 d)

theorem g7_p14_2 (i d : Fin 128) : v669 c a1 p1 a3 p3 a6 p6 x0 x2 x5 (ix2 i d) = (dvn w (X0 ∘ row4 2) (Y ∘ row4 2) i (col 7 d) : EReal) := by
  pointwise [v669, v666]
  exact (congrArg _ (congrArg (ix2 i) (Fin.ext (by simp [row4])))).trans (g7_d T i 2 d)

theorem g7_p14_3 (i d : Fin 128) : v679 c a1 p1 a3 p3 a6 p6 x0 x2 x5 (ix2 i d) = (dvn w (X0 ∘ row4 3) (Y ∘ row4 3) i (col 7 d) : EReal) := by
  pointwise [v679, v676]
  exact (congrArg _ (congrArg (ix2 i) (Fin.ext (by simp [row4])))).trans (g7_d T i 3 d)

theorem g7_p15_0 (i d : Fin 128) : v655 c a2 p2 a3 p3 a4 p4 a5 p5 a6 p6 a7 p7 x1 x2 x3 x4 x5 x6 (ix2 i d)
    = ((Y (row4 0 i) (col 7 d) * sp g b w bs (X1 ∘ row4 0) i (col 7 d) : ℝ) : EReal) := by
  pointwise [v655, v652, v650, v651]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g7_s T i 0 d))

theorem g7_p15_1 (i d : Fin 128) : v665 c a2 p2 a3 p3 a4 p4 a5 p5 a6 p6 a7 p7 x1 x2 x3 x4 x5 x6 (ix2 i d)
    = ((Y (row4 1 i) (col 7 d) * sp g b w bs (X1 ∘ row4 1) i (col 7 d) : ℝ) : EReal) := by
  pointwise [v665, v662, v660, v661]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g7_s T i 1 d))

theorem g7_p15_2 (i d : Fin 128) : v675 c a2 p2 a3 p3 a4 p4 a5 p5 a6 p6 a7 p7 x1 x2 x3 x4 x5 x6 (ix2 i d)
    = ((Y (row4 2 i) (col 7 d) * sp g b w bs (X1 ∘ row4 2) i (col 7 d) : ℝ) : EReal) := by
  pointwise [v675, v672, v670, v671]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g7_s T i 2 d))

theorem g7_p15_3 (i d : Fin 128) : v685 c a2 p2 a3 p3 a4 p4 a5 p5 a6 p6 a7 p7 x1 x2 x3 x4 x5 x6 (ix2 i d)
    = ((Y (row4 3 i) (col 7 d) * sp g b w bs (X1 ∘ row4 3) i (col 7 d) : ℝ) : EReal) := by
  pointwise [v685, v682, v680, v681]
  rw [w43 T, EReal.coe_mul]
  exact congrArg₂ (fun a b => a * b) (congrArg _ (congrArg₂ Y (Fin.ext (by simp [row4])) (Fin.ext (by simp [col]))))
    ((congrArg _ (congrArg (ix2 i) (Fin.ext (by simp [row4])))).trans (g7_s T i 3 d))

end Cert.Gate.B

end
-- ==== Proof.Gate.OutsB.lean ====
module

public import proofs.«01_k».proof.Proof.Gate.StoresB

@[expose] public section

set_option maxRecDepth 16384

noncomputable section

namespace Cert.Gate.B

open Idealize.ShloMosaic Cert.KernelIdeal Cert.KernelIdeal.Gen Cert.KernelIdeal.Gen.kernelRun0_B Cert.KernelIdeal.Gen.kernelRun0_B.sl

variable {c : Dev nD}
variable {a1 : Memref sig .tc .vmem S512x1024 .bf16} {p1 : a1.IsWhole}
  {a2 : Memref sig .tc .vmem S512x1024 .bf16} {p2 : a2.IsWhole}
  {a3 : Memref sig .tc .vmem S512x1024 .bf16} {p3 : a3.IsWhole}
  {a4 : Memref sig .tc .vmem S1x1024 .f32} {p4 : a4.IsWhole}
  {a5 : Memref sig .tc .vmem S1x1024 .f32} {p5 : a5.IsWhole}
  {a6 : Memref sig .tc .vmem S8x128x128 .f32} {p6 : a6.IsWhole}
  {a7 : Memref sig .tc .vmem S128x8 .f32} {p7 : a7.IsWhole}
  {a9 : Memref sig .tc .vmem S512x2048 .bf16} {p9 : a9.IsWhole}
  {a10 : Memref sig .tc .vmem S8x128x128 .f32} {p10 : a10.IsWhole}
  {a11 : Memref sig .tc .vmem S128x8 .f32} {p11 : a11.IsWhole}
  {a12 : Memref sig .tc .vmem S1x1024 .f32} {p12 : a12.IsWhole}
  {a13 : Memref sig .tc .vmem S1x1024 .f32} {p13 : a13.IsWhole}
  {a14 : Memref sig .tc .vmem S512x1024 .f32} {p14 : a14.IsWhole}
  {a15 : Memref sig .tc .vmem S512x1024 .f32} {p15 : a15.IsWhole}
variable {x0 x1 x2 : Vec Ideal S512x1024 .bf16} {x3 x4 : Vec Ideal S1x1024 .f32} {x5 : Vec Ideal S8x128x128 .f32}
  {x6 : Vec Ideal S128x8 .f32} {X0 X1 Y : Fin 512 → Fin 1024 → ℝ} {g b : Fin 1024 → ℝ}
  {w : Fin 8 → Fin 128 → Fin 128 → ℝ} {bs : Fin 128 → Fin 8 → ℝ} (T : Tile X0 X1 Y g b w bs x0 x1 x2 x3 x4 x5 x6)
include T

theorem cov0 (y : S512x1024.Idx) : ∃ p ∈ sl.HS0_32 c a1 p1 a3 p3 a6 p6 x0 x2 x5, y ∈ p.1.set :=
  View.cover_of_tiledL (sl.HS0_32 c a1 p1 a3 p3 a6 p6 x0 x2 x5) S128x128.size (by sl_kernel_rfl) y

theorem w690 (r : Fin 512) (k : Fin 1024) :
    v690 c a1 p1 a3 p3 a6 p6 a14 x0 x2 x5 (ix2 r k) = ((rows (fun c' i k => dvn w (X0 ∘ row4 c') (Y ∘ row4 c') i k) r k : ℝ) : EReal) := by
  unfold v690
  rw [View.readCov_eq_canon_ld _ _ _ (cov0 (T := T)), View.ld_unit_zero (S := S512x1024) hz2]
  refine (View.canon_apply_of_pieces (fun y : S512x1024.Idx => rows (fun c' i k => (((fun c' i k => dvn w (X0 ∘ row4 c') (Y ∘ row4 c') i k) c' i k : ℝ) : EReal)) (y 0) (y 1)) _
    ?_ (ix2 r k) (cov0 (T := T) _)).trans rfl
  unfold sl.HS0_32
  have B := box_agrees (fun c' i k => (((fun c' i k => dvn w (X0 ∘ row4 c') (Y ∘ row4 c') i k) c' i k : ℝ) : EReal))
  refine List.forall_mem_cons.mpr ⟨B 3 7 (by decide) _ (g7_p14_3 T), ?_⟩
  refine List.forall_mem_cons.mpr ⟨B 2 7 (by decide) _ (g7_p14_2 T), ?_⟩
  refine List.forall_mem_cons.mpr ⟨B 1 7 (by decide) _ (g7_p14_1 T), ?_⟩
  refine List.forall_mem_cons.mpr ⟨B 0 7 (by decide) _ (g7_p14_0 T), ?_⟩
  refine List.forall_mem_cons.mpr ⟨B 3 6 (by decide) _ (g6_p14_3 T), ?_⟩
  refine List.forall_mem_cons.mpr ⟨B 2 6 (by decide) _ (g6_p14_2 T), ?_⟩
  refine List.forall_mem_cons.mpr ⟨B 1 6 (by decide) _ (g6_p14_1 T), ?_⟩
  refine List.forall_mem_cons.mpr ⟨B 0 6 (by decide) _ (g6_p14_0 T), ?_⟩
  refine List.forall_mem_cons.mpr ⟨B 3 5 (by decide) _ (g5_p14_3 T), ?_⟩
  refine List.forall_mem_cons.mpr ⟨B 2 5 (by decide) _ (g5_p14_2 T), ?_⟩
  refine List.forall_mem_cons.mpr ⟨B 1 5 (by decide) _ (g5_p14_1 T), ?_⟩
  refine List.forall_mem_cons.mpr ⟨B 0 5 (by decide) _ (g5_p14_0 T), ?_⟩
  refine List.forall_mem_cons.mpr ⟨B 3 4 (by decide) _ (g4_p14_3 T), ?_⟩
  refine List.forall_mem_cons.mpr ⟨B 2 4 (by decide) _ (g4_p14_2 T), ?_⟩
  refine List.forall_mem_cons.mpr ⟨B 1 4 (by decide) _ (g4_p14_1 T), ?_⟩
  refine List.forall_mem_cons.mpr ⟨B 0 4 (by decide) _ (g4_p14_0 T), ?_⟩
  refine List.forall_mem_cons.mpr ⟨B 3 3 (by decide) _ (g3_p14_3 T), ?_⟩
  refine List.forall_mem_cons.mpr ⟨B 2 3 (by decide) _ (g3_p14_2 T), ?_⟩
  refine List.forall_mem_cons.mpr ⟨B 1 3 (by decide) _ (g3_p14_1 T), ?_⟩
  refine List.forall_mem_cons.mpr ⟨B 0 3 (by decide) _ (g3_p14_0 T), ?_⟩
  refine List.forall_mem_cons.mpr ⟨B 3 2 (by decide) _ (g2_p14_3 T), ?_⟩
  refine List.forall_mem_cons.mpr ⟨B 2 2 (by decide) _ (g2_p14_2 T), ?_⟩
  refine List.forall_mem_cons.mpr ⟨B 1 2 (by decide) _ (g2_p14_1 T), ?_⟩
  refine List.forall_mem_cons.mpr ⟨B 0 2 (by decide) _ (g2_p14_0 T), ?_⟩
  refine List.forall_mem_cons.mpr ⟨B 3 1 (by decide) _ (g1_p14_3 T), ?_⟩
  refine List.forall_mem_cons.mpr ⟨B 2 1 (by decide) _ (g1_p14_2 T), ?_⟩
  refine List.forall_mem_cons.mpr ⟨B 1 1 (by decide) _ (g1_p14_1 T), ?_⟩
  refine List.forall_mem_cons.mpr ⟨B 0 1 (by decide) _ (g1_p14_0 T), ?_⟩
  refine List.forall_mem_cons.mpr ⟨B 3 0 (by decide) _ (g0_p14_3 T), ?_⟩
  refine List.forall_mem_cons.mpr ⟨B 2 0 (by decide) _ (g0_p14_2 T), ?_⟩
  refine List.forall_mem_cons.mpr ⟨B 1 0 (by decide) _ (g0_p14_1 T), ?_⟩
  refine List.forall_mem_cons.mpr ⟨B 0 0 (by decide) _ (g0_p14_0 T), ?_⟩
  exact List.forall_mem_nil _

theorem cov1 (y : S512x1024.Idx) : ∃ p ∈ sl.HS1_32 c a2 p2 a3 p3 a4 p4 a5 p5 a6 p6 a7 p7 x1 x2 x3 x4 x5 x6, y ∈ p.1.set :=
  View.cover_of_tiledL (sl.HS1_32 c a2 p2 a3 p3 a4 p4 a5 p5 a6 p6 a7 p7 x1 x2 x3 x4 x5 x6) S128x128.size (by sl_kernel_rfl) y

theorem w722 (r : Fin 512) (k : Fin 1024) :
    v722 c a2 p2 a3 p3 a4 p4 a5 p5 a6 p6 a7 p7 a15 x1 x2 x3 x4 x5 x6 (ix2 r k) = ((rows (fun c' i k => Y (row4 c' i) k * sp g b w bs (X1 ∘ row4 c') i k) r k : ℝ) : EReal) := by
  unfold v722
  rw [View.readCov_eq_canon_ld _ _ _ (cov1 (T := T)), View.ld_unit_zero (S := S512x1024) hz2]
  refine (View.canon_apply_of_pieces (fun y : S512x1024.Idx => rows (fun c' i k => (((fun c' i k => Y (row4 c' i) k * sp g b w bs (X1 ∘ row4 c') i k) c' i k : ℝ) : EReal)) (y 0) (y 1)) _
    ?_ (ix2 r k) (cov1 (T := T) _)).trans rfl
  unfold sl.HS1_32
  have B := box_agrees (fun c' i k => (((fun c' i k => Y (row4 c' i) k * sp g b w bs (X1 ∘ row4 c') i k) c' i k : ℝ) : EReal))
  refine List.forall_mem_cons.mpr ⟨B 3 7 (by decide) _ (g7_p15_3 T), ?_⟩
  refine List.forall_mem_cons.mpr ⟨B 2 7 (by decide) _ (g7_p15_2 T), ?_⟩
  refine List.forall_mem_cons.mpr ⟨B 1 7 (by decide) _ (g7_p15_1 T), ?_⟩
  refine List.forall_mem_cons.mpr ⟨B 0 7 (by decide) _ (g7_p15_0 T), ?_⟩
  refine List.forall_mem_cons.mpr ⟨B 3 6 (by decide) _ (g6_p15_3 T), ?_⟩
  refine List.forall_mem_cons.mpr ⟨B 2 6 (by decide) _ (g6_p15_2 T), ?_⟩
  refine List.forall_mem_cons.mpr ⟨B 1 6 (by decide) _ (g6_p15_1 T), ?_⟩
  refine List.forall_mem_cons.mpr ⟨B 0 6 (by decide) _ (g6_p15_0 T), ?_⟩
  refine List.forall_mem_cons.mpr ⟨B 3 5 (by decide) _ (g5_p15_3 T), ?_⟩
  refine List.forall_mem_cons.mpr ⟨B 2 5 (by decide) _ (g5_p15_2 T), ?_⟩
  refine List.forall_mem_cons.mpr ⟨B 1 5 (by decide) _ (g5_p15_1 T), ?_⟩
  refine List.forall_mem_cons.mpr ⟨B 0 5 (by decide) _ (g5_p15_0 T), ?_⟩
  refine List.forall_mem_cons.mpr ⟨B 3 4 (by decide) _ (g4_p15_3 T), ?_⟩
  refine List.forall_mem_cons.mpr ⟨B 2 4 (by decide) _ (g4_p15_2 T), ?_⟩
  refine List.forall_mem_cons.mpr ⟨B 1 4 (by decide) _ (g4_p15_1 T), ?_⟩
  refine List.forall_mem_cons.mpr ⟨B 0 4 (by decide) _ (g4_p15_0 T), ?_⟩
  refine List.forall_mem_cons.mpr ⟨B 3 3 (by decide) _ (g3_p15_3 T), ?_⟩
  refine List.forall_mem_cons.mpr ⟨B 2 3 (by decide) _ (g3_p15_2 T), ?_⟩
  refine List.forall_mem_cons.mpr ⟨B 1 3 (by decide) _ (g3_p15_1 T), ?_⟩
  refine List.forall_mem_cons.mpr ⟨B 0 3 (by decide) _ (g3_p15_0 T), ?_⟩
  refine List.forall_mem_cons.mpr ⟨B 3 2 (by decide) _ (g2_p15_3 T), ?_⟩
  refine List.forall_mem_cons.mpr ⟨B 2 2 (by decide) _ (g2_p15_2 T), ?_⟩
  refine List.forall_mem_cons.mpr ⟨B 1 2 (by decide) _ (g2_p15_1 T), ?_⟩
  refine List.forall_mem_cons.mpr ⟨B 0 2 (by decide) _ (g2_p15_0 T), ?_⟩
  refine List.forall_mem_cons.mpr ⟨B 3 1 (by decide) _ (g1_p15_3 T), ?_⟩
  refine List.forall_mem_cons.mpr ⟨B 2 1 (by decide) _ (g1_p15_2 T), ?_⟩
  refine List.forall_mem_cons.mpr ⟨B 1 1 (by decide) _ (g1_p15_1 T), ?_⟩
  refine List.forall_mem_cons.mpr ⟨B 0 1 (by decide) _ (g1_p15_0 T), ?_⟩
  refine List.forall_mem_cons.mpr ⟨B 3 0 (by decide) _ (g0_p15_3 T), ?_⟩
  refine List.forall_mem_cons.mpr ⟨B 2 0 (by decide) _ (g0_p15_2 T), ?_⟩
  refine List.forall_mem_cons.mpr ⟨B 1 0 (by decide) _ (g0_p15_1 T), ?_⟩
  refine List.forall_mem_cons.mpr ⟨B 0 0 (by decide) _ (g0_p15_0 T), ?_⟩
  exact List.forall_mem_nil _

theorem out8 {pt : grid0.Coords} {hc0 : ¬cond0_0 pt}
    {xo8 : Vec Ideal S8x128x128 .f32} {xo9 : Vec Ideal S128x8 .f32} {xo10 xo11 : Vec Ideal S1x1024 .f32}
    (A8 : Fin 8 → Fin 128 → Fin 128 → ℝ) (h8 : ∀ h i j, xo8 (ix3 h i j) = (A8 h i j : EReal)) (h : Fin 8) (i j : Fin 128) :
    out0_B_8 c pt a1 p1 a2 p2 a3 p3 a4 p4 a5 p5 a6 p6 a7 p7 a9 p9 a10 p10 a11 p11 a12 p12 a13 p13 a14 p14 a15 p15 hc0 x0 x1 x2 x3 x4 x5 x6 xo8 xo9 xo10 xo11 (ix3 h i j)
      = ((A8 h i j + ∑ c', partW g b (X0 ∘ row4 c') (X1 ∘ row4 c') (Y ∘ row4 c') h i j : ℝ) : EReal) := by
  unfold out0_B_8
  rw [View.read_writes_eq_canon _ _ _ (cover0_B_8 c pt a1 p1 a2 p2 a3 p3 a4 p4 a5 p5 a6 p6 a7 p7 a9 p9 a10 p10 a11 p11 a12 p12 a13 p13 a14 p14 a15 p15 hc0 x0 x1 x2 x3 x4 x5 x6 xo8 xo9 xo10 xo11)]
  unfold kernelRun0_B
  dsimp only
  exact canon_slabs _ _ _ _ _ _ _ _ _ _ _ _ _ _ _ _ _ (fun h i j => ((A8 h i j + ∑ c', partW g b (X0 ∘ row4 c') (X1 ∘ row4 c') (Y ∘ row4 c') h i j : ℝ) : EReal))
    (g0_o8 T A8 h8) (g1_o8 T A8 h8) (g2_o8 T A8 h8) (g3_o8 T A8 h8) (g4_o8 T A8 h8) (g5_o8 T A8 h8) (g6_o8 T A8 h8) (g7_o8 T A8 h8) h i j

theorem out9 {pt : grid0.Coords} {hc0 : ¬cond0_0 pt}
    {xo8 : Vec Ideal S8x128x128 .f32} {xo9 : Vec Ideal S128x8 .f32} {xo10 xo11 : Vec Ideal S1x1024 .f32}
    (A9 : Fin 128 → Fin 8 → ℝ) (h9 : ∀ i h, xo9 (ix2 i h) = (A9 i h : EReal)) (i : Fin 128) (h : Fin 8) :
    out0_B_9 c pt a1 p1 a2 p2 a3 p3 a4 p4 a5 p5 a6 p6 a7 p7 a9 p9 a10 p10 a11 p11 a12 p12 a13 p13 a14 p14 a15 p15 hc0 x0 x1 x2 x3 x4 x5 x6 xo8 xo9 xo10 xo11 (ix2 i h) = ((A9 i h + ∑ c', partB (X0 ∘ row4 c') (Y ∘ row4 c') i h : ℝ) : EReal) := by
  unfold out0_B_9
  rw [View.read_writes_eq_canon _ _ _ (cover0_B_9 c pt a1 p1 a2 p2 a3 p3 a4 p4 a5 p5 a6 p6 a7 p7 a9 p9 a10 p10 a11 p11 a12 p12 a13 p13 a14 p14 a15 p15 hc0 x0 x1 x2 x3 x4 x5 x6 xo8 xo9 xo10 xo11)]
  unfold kernelRun0_B
  dsimp only
  rw [View.canon_unit_zero (S := S128x8) hz2]
  pointwise [v688, v687]
  rw [read_whole a11 p11 xo9 hz2, h9, g7_sel T, if_pos (by omega), EReal.coe_add]

theorem out10 {pt : grid0.Coords} {hc0 : ¬cond0_0 pt}
    {xo8 : Vec Ideal S8x128x128 .f32} {xo9 : Vec Ideal S128x8 .f32} {xo10 xo11 : Vec Ideal S1x1024 .f32}
    (A10 : Fin 1024 → ℝ) (h10 : ∀ o k, xo10 (ix2 o k) = (A10 k : EReal)) (o : Fin 1) (k : Fin 1024) :
    out0_B_10 c pt a1 p1 a2 p2 a3 p3 a4 p4 a5 p5 a6 p6 a7 p7 a9 p9 a10 p10 a11 p11 a12 p12 a13 p13 a14 p14 a15 p15 hc0 x0 x1 x2 x3 x4 x5 x6 xo8 xo9 xo10 xo11 (ix2 o k) = ((A10 k + ∑ c', partG w (X0 ∘ row4 c') (X1 ∘ row4 c') (Y ∘ row4 c') k : ℝ) : EReal) := by
  unfold out0_B_10
  rw [View.read_writes_eq_canon _ _ _ (cover0_B_10 c pt a1 p1 a2 p2 a3 p3 a4 p4 a5 p5 a6 p6 a7 p7 a9 p9 a10 p10 a11 p11 a12 p12 a13 p13 a14 p14 a15 p15 hc0 x0 x1 x2 x3 x4 x5 x6 xo8 xo9 xo10 xo11)]
  unfold kernelRun0_B
  dsimp only
  rw [View.canon_unit_zero (S := S1x1024) hz2]
  have h := pay156_eq X1 x1 T.v g x3 T.g (v690 c a1 p1 a3 p3 a6 p6 a14 x0 x2 x5) (rows (fun c' i k => dvn w (X0 ∘ row4 c') (Y ∘ row4 c') i k)) (w690 T) xo10 A10 h10 o k
  simp only [sum_row4, rows_row4] at h
  rw [← read_whole a2 p2 x1 hz2 inb_S512x1024_S512x1024_0_0, ← read_whole a12 p12 xo10 hz2 inb_S1x1024_S1x1024_0_0] at h
  exact h

theorem out11 {pt : grid0.Coords} {hc0 : ¬cond0_0 pt}
    {xo8 : Vec Ideal S8x128x128 .f32} {xo9 : Vec Ideal S128x8 .f32} {xo10 xo11 : Vec Ideal S1x1024 .f32}
    (A11 : Fin 1024 → ℝ) (h11 : ∀ o k, xo11 (ix2 o k) = (A11 k : EReal)) (o : Fin 1) (k : Fin 1024) :
    out0_B_11 c pt a1 p1 a2 p2 a3 p3 a4 p4 a5 p5 a6 p6 a7 p7 a9 p9 a10 p10 a11 p11 a12 p12 a13 p13 a14 p14 a15 p15 hc0 x0 x1 x2 x3 x4 x5 x6 xo8 xo9 xo10 xo11 (ix2 o k) = ((A11 k + ∑ c', partS w (X0 ∘ row4 c') (Y ∘ row4 c') k : ℝ) : EReal) := by
  unfold out0_B_11
  rw [View.read_writes_eq_canon _ _ _ (cover0_B_11 c pt a1 p1 a2 p2 a3 p3 a4 p4 a5 p5 a6 p6 a7 p7 a9 p9 a10 p10 a11 p11 a12 p12 a13 p13 a14 p14 a15 p15 hc0 x0 x1 x2 x3 x4 x5 x6 xo8 xo9 xo10 xo11)]
  unfold kernelRun0_B
  dsimp only
  rw [View.canon_unit_zero (S := S1x1024) hz2]
  have h := pay157_eq (v690 c a1 p1 a3 p3 a6 p6 a14 x0 x2 x5) (rows (fun c' i k => dvn w (X0 ∘ row4 c') (Y ∘ row4 c') i k)) (w690 T) xo11 A11 h11 o k
  simp only [sum_row4, rows_row4] at h
  rw [← read_whole a13 p13 xo11 hz2 inb_S1x1024_S1x1024_0_0] at h
  exact h

theorem out7_right {pt : grid0.Coords} {hc0 : ¬cond0_0 pt}
    {xo8 : Vec Ideal S8x128x128 .f32} {xo9 : Vec Ideal S128x8 .f32} {xo10 xo11 : Vec Ideal S1x1024 .f32} (c' : Fin 4) (i : Fin 128) (k : Fin 1024) :
    out0_B_7 c pt a1 p1 a2 p2 a3 p3 a4 p4 a5 p5 a6 p6 a7 p7 a9 p9 a10 p10 a11 p11 a12 p12 a13 p13 a14 p14 a15 p15 hc0 x0 x1 x2 x3 x4 x5 x6 xo8 xo9 xo10 xo11 (ix2 (row4 c' i) ⟨1024 + k.val, by omega⟩)
      = (gradV g w (X0 ∘ row4 c') (X1 ∘ row4 c') (Y ∘ row4 c') i k : EReal) := by
  unfold out0_B_7
  rw [View.read_writes_eq_canon _ _ _ (cover0_B_7 c pt a1 p1 a2 p2 a3 p3 a4 p4 a5 p5 a6 p6 a7 p7 a9 p9 a10 p10 a11 p11 a12 p12 a13 p13 a14 p14 a15 p15 hc0 x0 x1 x2 x3 x4 x5 x6 xo8 xo9 xo10 xo11)]
  unfold kernelRun0_B
  dsimp only
  refine (canon_right _ _ _ _ (row4 c' i) k).trans ?_
  have h1 := pay159_eq X1 x1 T.v g x3 T.g (v690 c a1 p1 a3 p3 a6 p6 a14 x0 x2 x5) (rows (fun c' i k => dvn w (X0 ∘ row4 c') (Y ∘ row4 c') i k)) (w690 T)
  have h := pay1_eq X1 x1 T.v _ _ h1 (row4 c' i) k
  simp only [rows_row4] at h
  rw [← read_whole a2 p2 x1 hz2 inb_S512x1024_S512x1024_0_0, ← read_whole a4 p4 x3 hz2 inb_S1x1024_S1x1024_0_0] at h
  exact h

theorem out7_left {pt : grid0.Coords} {hc0 : ¬cond0_0 pt}
    {xo8 : Vec Ideal S8x128x128 .f32} {xo9 : Vec Ideal S128x8 .f32} {xo10 xo11 : Vec Ideal S1x1024 .f32} (c' : Fin 4) (i : Fin 128) (k : Fin 1024) :
    out0_B_7 c pt a1 p1 a2 p2 a3 p3 a4 p4 a5 p5 a6 p6 a7 p7 a9 p9 a10 p10 a11 p11 a12 p12 a13 p13 a14 p14 a15 p15 hc0 x0 x1 x2 x3 x4 x5 x6 xo8 xo9 xo10 xo11 (ix2 (row4 c' i) ⟨k.val, by omega⟩)
      = (gradU g b w bs (X0 ∘ row4 c') (X1 ∘ row4 c') (Y ∘ row4 c') i k : EReal) := by
  unfold out0_B_7
  rw [View.read_writes_eq_canon _ _ _ (cover0_B_7 c pt a1 p1 a2 p2 a3 p3 a4 p4 a5 p5 a6 p6 a7 p7 a9 p9 a10 p10 a11 p11 a12 p12 a13 p13 a14 p14 a15 p15 hc0 x0 x1 x2 x3 x4 x5 x6 xo8 xo9 xo10 xo11)]
  unfold kernelRun0_B
  dsimp only
  refine (canon_left _ _ _ _ (row4 c' i) k).trans ?_
  have h := pay160_eq X0 x0 T.u (v722 c a2 p2 a3 p3 a4 p4 a5 p5 a6 p6 a7 p7 a15 x1 x2 x3 x4 x5 x6) (rows (fun c' i k => Y (row4 c' i) k * sp g b w bs (X1 ∘ row4 c') i k)) (w722 T) (row4 c' i) k
  simp only [rows_row4] at h
  rw [← read_whole a1 p1 x0 hz2 inb_S512x1024_S512x1024_0_0] at h
  exact h

end Cert.Gate.B

end
-- ==== Proof.Gate.Chunks.lean ====
module

public import proofs.«01_k».proof.Proof.Gate.Model

@[expose] public section

noncomputable section

namespace Cert.Gate

/-- Row `i` of the `q`-th run of 128 rows of the long axis. -/
def rowOf (q : ℕ) (i : Fin 128) : Fin 8192 := ⟨(128 * q + i.val) % 8192, Nat.mod_lt _ (by norm_num)⟩

/-- A column of the first half of the gated input. -/
def colU (k : Fin 1024) : Fin 10240 := ⟨k.val, by omega⟩

/-- A column of the second half of the gated input. -/
def colV (k : Fin 1024) : Fin 10240 := ⟨1024 + k.val, by omega⟩

/-- Row `r` of the `t`-th tile of 512 rows. -/
def rowT (t : ℕ) (r : Fin 512) : Fin 8192 := ⟨(512 * t + r.val) % 8192, Nat.mod_lt _ (by norm_num)⟩

theorem rowT_row4 (t : ℕ) (c : Fin 4) (i : Fin 128) : rowT t (row4 c i) = rowOf (4 * t + c.val) i :=
  Fin.ext (by simp only [rowT, row4, rowOf]; congr 1; ring)

/-- The first half, the second half and the cotangent on the `q`-th run. -/
def uC (P : Fin 8192 → Fin 10240 → ℝ) (q : ℕ) (i : Fin 128) (k : Fin 1024) : ℝ := P (rowOf q i) (colU k)
def vC (P : Fin 8192 → Fin 10240 → ℝ) (q : ℕ) (i : Fin 128) (k : Fin 1024) : ℝ := P (rowOf q i) (colV k)
def yC (Y : Fin 8192 → Fin 1024 → ℝ) (q : ℕ) (i : Fin 128) (k : Fin 1024) : ℝ := Y (rowOf q i) k

theorem sum_tile (f : ℕ → ℝ) (n : ℕ) : ∑ q ∈ Finset.range (4 * (n + 1)), f q = ∑ q ∈ Finset.range (4 * n), f q + ∑ c : Fin 4, f (4 * n + c.val) := by
  rw [show 4 * (n + 1) = 4 * n + 4 by ring, Finset.sum_range_add, Finset.sum_range (n := 4)]

theorem sum_first (f : ℕ → ℝ) : ∑ q ∈ Finset.range (4 * (0 + 1)), f q = ∑ c : Fin 4, f (4 * 0 + c.val) := by
  rw [sum_tile]; simp

end Cert.Gate

end
-- ==== Proof.Gate.Points.lean ====
module

public import proofs.«01_k».proof.Proof.Gate.OutsA
public import proofs.«01_k».proof.Proof.Gate.OutsB
public import proofs.«01_k».proof.Proof.Gate.Chunks
public import proofs.«01_k».proof.Proof.Gen.KernelIdeal.Value

@[expose] public section

set_option maxRecDepth 16384

noncomputable section

namespace Cert.Gate

open Idealize.ShloMosaic Idealize.ShloMosaic.TcCoe Cert.KernelIdeal Cert.KernelIdeal.Gen
open Idealize.ShloMosaic.Pipeline (Dat)

variable (m : (ℓ : Loc nD τ sig) → Buf (Elt Ideal) ℓ) (c : Dev nD)

/-- The kernel's arguments hold these real numbers. -/
structure Holds (P : Fin 8192 → Fin 10240 → ℝ) (Y : Fin 8192 → Fin 1024 → ℝ) (g b : Fin 1024 → ℝ)
    (w : Fin 8 → Fin 128 → Fin 128 → ℝ) (bs : Fin 8 → Fin 128 → ℝ) : Prop where
  p : ∀ r k, m ((c : Thread nD τ).loc main_arg0) (ix2 r k) = (P r k : EReal)
  y : ∀ r k, m ((c : Thread nD τ).loc main_arg1) (ix2 r k) = (Y r k : EReal)
  g : ∀ o k, m ((c : Thread nD τ).loc main_arg2) (ix2 o k) = (g k : EReal)
  b : ∀ o k, m ((c : Thread nD τ).loc main_arg3) (ix2 o k) = (b k : EReal)
  w : ∀ h i j, m ((c : Thread nD τ).loc main_arg4) (ix3 h i j) = (w h i j : EReal)
  s : ∀ h i, m ((c : Thread nD τ).loc main_arg5) (ix2 h i) = (bs h i : EReal)

/-! ## Which block of its array each window stages -/

theorem lt16 (t : Fin cfg0.N) : t.val < 16 := t.isLt

theorem at0 : ∀ t : Fin grid0.N, win0_0.index t 0 = t.val ∧ win0_0.index t 1 = 0 := by decide +kernel
theorem at1 : ∀ t : Fin grid0.N, win0_1.index t 0 = t.val ∧ win0_1.index t 1 = 1 := by decide +kernel
theorem at2 : ∀ t : Fin grid0.N, win0_2.index t 0 = t.val ∧ win0_2.index t 1 = 0 := by decide +kernel
theorem at3 : ∀ t : Fin grid0.N, win0_3.index t 0 = 0 ∧ win0_3.index t 1 = 0 := by decide +kernel
theorem at4 : ∀ t : Fin grid0.N, win0_4.index t 0 = 0 ∧ win0_4.index t 1 = 0 := by decide +kernel
theorem at5 : ∀ t : Fin grid0.N, win0_5.index t 0 = 0 ∧ win0_5.index t 1 = 0 ∧ win0_5.index t 2 = 0 := by decide +kernel
theorem at6 : ∀ t : Fin grid0.N, win0_6.index t 0 = 0 ∧ win0_6.index t 1 = 0 := by decide +kernel
theorem at7 : ∀ t : Fin grid0.N, win0_7.index t 0 = t.val ∧ win0_7.index t 1 = 0 := by decide +kernel

/-- The bias as the kernel stages it: transposed. -/
theorem V_bias (i : Fin 128) (h : Fin 8) :
    V m c main_v0 (ix2 i h) = m ((c : Thread nD τ).loc main_arg5) (ix2 h i) := by
  have e : V m c main_v0 = transpose S128x8 [1, 0] (m ((c : Thread nD τ).loc main_arg5)) transposes_S8x128_S128x8_1_0 := by
    show StableHlo.after hostOps0 _ _ = _
    simp only [hostOps0, List.flatten_cons, List.flatten_nil, List.append_nil, List.cons_append, List.nil_append,
      StableHlo.after_cons, StableHlo.after_nil]
    rfl
  rw [e]
  pointwise

/-- The array the kernel's first result starts from: the last argument's. -/
theorem V_result : V m c main_v1_0 = m ((c : Thread nD τ).loc main_arg6) := by
  show StableHlo.after hostOps0 _ _ = _
  simp only [hostOps0, List.flatten_cons, List.flatten_nil, List.append_nil, List.cons_append, List.nil_append,
    StableHlo.after_cons, StableHlo.after_nil]
  rfl

variable {m c} {P : Fin 8192 → Fin 10240 → ℝ} {Y : Fin 8192 → Fin 1024 → ℝ} {g b : Fin 1024 → ℝ}
  {w : Fin 8 → Fin 128 → Fin 128 → ℝ} {bs : Fin 8 → Fin 128 → ℝ} (H : Holds m c P Y g b w bs)
include H

/-- What a tile stages is the tile's rows of the arguments. -/
theorem tile (t : Fin cfg0.N) : Tile (fun r k => P (rowT t.val r) (colU k)) (fun r k => P (rowT t.val r) (colV k))
    (fun r k => Y (rowT t.val r) k) g b w (fun i h => bs h i)
    (iblk m c 0 t) (iblk m c 1 t) (iblk m c 2 t) (iblk m c 3 t) (iblk m c 4 t) (iblk m c 5 t) (iblk m c 6 t) := by
  have ht := lt16 t
  constructor
  · intro r k
    refine .trans ?_ (H.p (rowT t.val r) (colU k))
    show V m c main_arg0 (((cfg0.win 0).blk t).view.emb (ix2 r k)) = _
    rw [V_main_arg0]
    refine congrArg (m ((c : Thread nD τ).loc main_arg0)) (funext fun d => Fin.ext ?_)
    fin_cases d
    · refine (win0_0.rect_emb_val t _ 0).trans ?_
      rw [(at0 t).1]; show t.val * 512 + r.val = (512 * t.val + r.val) % 8192; omega
    · refine (win0_0.rect_emb_val t _ 1).trans ?_
      rw [(at0 t).2]; show 0 * 1024 + k.val = k.val; omega
  · intro r k
    refine .trans ?_ (H.p (rowT t.val r) (colV k))
    show V m c main_arg0 (((cfg0.win 1).blk t).view.emb (ix2 r k)) = _
    rw [V_main_arg0]
    refine congrArg (m ((c : Thread nD τ).loc main_arg0)) (funext fun d => Fin.ext ?_)
    fin_cases d
    · refine (win0_1.rect_emb_val t _ 0).trans ?_
      rw [(at1 t).1]; show t.val * 512 + r.val = (512 * t.val + r.val) % 8192; omega
    · refine (win0_1.rect_emb_val t _ 1).trans ?_
      rw [(at1 t).2]; show 1 * 1024 + k.val = 1024 + k.val; omega
  · intro r k
    refine .trans ?_ (H.y (rowT t.val r) k)
    show V m c main_arg1 (((cfg0.win 2).blk t).view.emb (ix2 r k)) = _
    rw [V_main_arg1]
    refine congrArg (m ((c : Thread nD τ).loc main_arg1)) (funext fun d => Fin.ext ?_)
    fin_cases d
    · refine (win0_2.rect_emb_val t _ 0).trans ?_
      rw [(at2 t).1]; show t.val * 512 + r.val = (512 * t.val + r.val) % 8192; omega
    · refine (win0_2.rect_emb_val t _ 1).trans ?_
      rw [(at2 t).2]; show 0 * 1024 + k.val = k.val; omega
  · intro o k
    refine .trans ?_ (H.g o k)
    show V m c main_arg2 (((cfg0.win 3).blk t).view.emb (ix2 o k)) = _
    rw [V_main_arg2]
    refine congrArg (m ((c : Thread nD τ).loc main_arg2)) (funext fun d => Fin.ext ?_)
    fin_cases d
    · exact win0_3.rect_emb_val_of_index_zero t 0 (at3 t).1 _
    · exact win0_3.rect_emb_val_of_index_zero t 1 (at3 t).2 _
  · intro o k
    refine .trans ?_ (H.b o k)
    show V m c main_arg3 (((cfg0.win 4).blk t).view.emb (ix2 o k)) = _
    rw [V_main_arg3]
    refine congrArg (m ((c : Thread nD τ).loc main_arg3)) (funext fun d => Fin.ext ?_)
    fin_cases d
    · exact win0_4.rect_emb_val_of_index_zero t 0 (at4 t).1 _
    · exact win0_4.rect_emb_val_of_index_zero t 1 (at4 t).2 _
  · intro h i j
    refine .trans ?_ (H.w h i j)
    show V m c main_arg4 (((cfg0.win 5).blk t).view.emb (ix3 h i j)) = _
    rw [V_main_arg4]
    refine congrArg (m ((c : Thread nD τ).loc main_arg4)) (funext fun d => Fin.ext ?_)
    fin_cases d
    · exact win0_5.rect_emb_val_of_index_zero t 0 (at5 t).1 _
    · exact win0_5.rect_emb_val_of_index_zero t 1 (at5 t).2.1 _
    · exact win0_5.rect_emb_val_of_index_zero t 2 (at5 t).2.2 _
  · intro i h
    refine .trans ?_ ((V_bias m c i h).trans (H.s h i))
    show V m c main_v0 (((cfg0.win 6).blk t).view.emb (ix2 i h)) = _
    refine congrArg (V m c main_v0) (funext fun d => Fin.ext ?_)
    fin_cases d
    · exact win0_6.rect_emb_val_of_index_zero t 0 (at6 t).1 _
    · exact win0_6.rect_emb_val_of_index_zero t 1 (at6 t).2 _

end Cert.Gate

end
-- ==== Proof.Gate.Arrays.lean ====
module

public import proofs.«01_k».proof.Proof.Gate.Points

@[expose] public section

set_option maxRecDepth 16384

noncomputable section

namespace Cert.Gate

open Idealize.ShloMosaic Idealize.ShloMosaic.TcCoe Cert.KernelIdeal Cert.KernelIdeal.Gen
open Idealize.ShloMosaic.Pipeline (Dat)

variable {m : (ℓ : Loc nD τ sig) → Buf (Elt Ideal) ℓ} {c : Dev nD}
variable {P : Fin 8192 → Fin 10240 → ℝ} {Y : Fin 8192 → Fin 1024 → ℝ} {g b : Fin 1024 → ℝ}
  {w : Fin 8 → Fin 128 → Fin 128 → ℝ} {bs : Fin 8 → Fin 128 → ℝ}

/-- The rows of a tile, run by run. -/
theorem tile_u (t : ℕ) (c' : Fin 4) : (fun i => (fun r k => P (rowT t r) (colU k)) (row4 c' i)) = uC P (4 * t + c'.val) := by
  funext i k; simp only [rowT_row4]; rfl
theorem tile_v (t : ℕ) (c' : Fin 4) : (fun i => (fun r k => P (rowT t r) (colV k)) (row4 c' i)) = vC P (4 * t + c'.val) := by
  funext i k; simp only [rowT_row4]; rfl
theorem tile_y (t : ℕ) (c' : Fin 4) : (fun i => (fun r k => Y (rowT t r) k) (row4 c' i)) = yC Y (4 * t + c'.val) := by
  funext i k; simp only [rowT_row4]; rfl

variable (H : Holds m c P Y g b w bs)
include H

/-! ## The four running sums -/

theorem first8 (t : Fin cfg0.N) (h0 : t.val % 16 = 0) (h : Fin 8) (i j : Fin 128) :
    (outsAt0 m c t.val t.isLt).2.1 (ix3 h i j) = ((∑ c' : Fin 4, partW g b (uC P (4 * t.val + c'.val)) (vC P (4 * t.val + c'.val)) (yC Y (4 * t.val + c'.val)) h i j : ℝ) : EReal) := by
  rw [outsAt0_A m c t h0]
  dsimp only
  refine (A.out8 (tile H t) h i j).trans (congrArg _ ?_)
  exact Finset.sum_congr rfl fun c' _ => by simp only [Function.comp_def, rowT_row4]; rfl

theorem step8 (t : Fin cfg0.N) (h0 : ¬t.val % 16 = 0) (A : Fin 8 → Fin 128 → Fin 128 → ℝ)
    (hA : ∀ (h : Fin 8) (i j : Fin 128), (outsAt0 m c (t.val - 1) (lt_of_le_of_lt (Nat.sub_le _ _) t.isLt)).2.1 (ix3 h i j) = (A h i j : EReal)) (h : Fin 8) (i j : Fin 128) :
    (outsAt0 m c t.val t.isLt).2.1 (ix3 h i j) = ((A h i j + ∑ c' : Fin 4, partW g b (uC P (4 * t.val + c'.val)) (vC P (4 * t.val + c'.val)) (yC Y (4 * t.val + c'.val)) h i j : ℝ) : EReal) := by
  rw [outsAt0_B m c t h0]
  dsimp only
  refine (B.out8 (tile H t) A hA h i j).trans (congrArg _ (congrArg _ ?_))
  exact Finset.sum_congr rfl fun c' _ => by simp only [Function.comp_def, rowT_row4]; rfl

/-- After point `n` the accumulator of the mixing matrices holds the sum over the rows so far. -/
theorem acc8 : ∀ (n : ℕ) (hn : n < cfg0.N) (h : Fin 8) (i j : Fin 128),
    (outsAt0 m c n hn).2.1 (ix3 h i j) = ((∑ q ∈ Finset.range (4 * (n + 1)), partW g b (uC P q) (vC P q) (yC Y q) h i j : ℝ) : EReal)
  | 0, hn, h, i, j => by
    rw [sum_first fun q => partW g b (uC P q) (vC P q) (yC Y q) h i j]
    exact first8 H ⟨0, hn⟩ rfl h i j
  | n + 1, hn, h, i, j => by
    have h16 := lt16 ⟨n + 1, hn⟩
    have h0 : ¬(n + 1) % 16 = 0 := by simp only at h16; omega
    rw [sum_tile _ (n + 1)]
    exact step8 H ⟨n + 1, hn⟩ h0 (fun h i j => ∑ q ∈ Finset.range (4 * (n + 1)), partW g b (uC P q) (vC P q) (yC Y q) h i j)
      (fun h i j => acc8 n (Nat.lt_of_succ_lt hn) h i j) h i j

theorem first9 (t : Fin cfg0.N) (h0 : t.val % 16 = 0) (i : Fin 128) (h : Fin 8) :
    (outsAt0 m c t.val t.isLt).2.2.1 (ix2 i h) = ((∑ c' : Fin 4, partB (uC P (4 * t.val + c'.val)) (yC Y (4 * t.val + c'.val)) i h : ℝ) : EReal) := by
  rw [outsAt0_A m c t h0]
  dsimp only
  refine (A.out9 (tile H t) i h).trans (congrArg _ ?_)
  exact Finset.sum_congr rfl fun c' _ => by simp only [Function.comp_def, rowT_row4]; rfl

theorem step9 (t : Fin cfg0.N) (h0 : ¬t.val % 16 = 0) (A : Fin 128 → Fin 8 → ℝ)
    (hA : ∀ (i : Fin 128) (h : Fin 8), (outsAt0 m c (t.val - 1) (lt_of_le_of_lt (Nat.sub_le _ _) t.isLt)).2.2.1 (ix2 i h) = (A i h : EReal)) (i : Fin 128) (h : Fin 8) :
    (outsAt0 m c t.val t.isLt).2.2.1 (ix2 i h) = ((A i h + ∑ c' : Fin 4, partB (uC P (4 * t.val + c'.val)) (yC Y (4 * t.val + c'.val)) i h : ℝ) : EReal) := by
  rw [outsAt0_B m c t h0]
  dsimp only
  refine (B.out9 (tile H t) A hA i h).trans (congrArg _ (congrArg _ ?_))
  exact Finset.sum_congr rfl fun c' _ => by simp only [Function.comp_def, rowT_row4]; rfl

/-- After point `n` the accumulator of the bias holds the sum over the rows so far. -/
theorem acc9 : ∀ (n : ℕ) (hn : n < cfg0.N) (i : Fin 128) (h : Fin 8),
    (outsAt0 m c n hn).2.2.1 (ix2 i h) = ((∑ q ∈ Finset.range (4 * (n + 1)), partB (uC P q) (yC Y q) i h : ℝ) : EReal)
  | 0, hn, i, h => by
    rw [sum_first fun q => partB (uC P q) (yC Y q) i h]
    exact first9 H ⟨0, hn⟩ rfl i h
  | n + 1, hn, i, h => by
    have h16 := lt16 ⟨n + 1, hn⟩
    have h0 : ¬(n + 1) % 16 = 0 := by simp only at h16; omega
    rw [sum_tile _ (n + 1)]
    exact step9 H ⟨n + 1, hn⟩ h0 (fun i h => ∑ q ∈ Finset.range (4 * (n + 1)), partB (uC P q) (yC Y q) i h)
      (fun i h => acc9 n (Nat.lt_of_succ_lt hn) i h) i h

theorem first10 (t : Fin cfg0.N) (h0 : t.val % 16 = 0) (o : Fin 1) (k : Fin 1024) :
    (outsAt0 m c t.val t.isLt).2.2.2.1 (ix2 o k) = ((∑ c' : Fin 4, partG w (uC P (4 * t.val + c'.val)) (vC P (4 * t.val + c'.val)) (yC Y (4 * t.val + c'.val)) k : ℝ) : EReal) := by
  rw [outsAt0_A m c t h0]
  dsimp only
  refine (A.out10 (tile H t) o k).trans (congrArg _ ?_)
  exact Finset.sum_congr rfl fun c' _ => by simp only [Function.comp_def, rowT_row4]; rfl

theorem step10 (t : Fin cfg0.N) (h0 : ¬t.val % 16 = 0) (A : Fin 1024 → ℝ)
    (hA : ∀ (o : Fin 1) (k : Fin 1024), (outsAt0 m c (t.val - 1) (lt_of_le_of_lt (Nat.sub_le _ _) t.isLt)).2.2.2.1 (ix2 o k) = (A k : EReal)) (o : Fin 1) (k : Fin 1024) :
    (outsAt0 m c t.val t.isLt).2.2.2.1 (ix2 o k) = ((A k + ∑ c' : Fin 4, partG w (uC P (4 * t.val + c'.val)) (vC P (4 * t.val + c'.val)) (yC Y (4 * t.val + c'.val)) k : ℝ) : EReal) := by
  rw [outsAt0_B m c t h0]
  dsimp only
  refine (B.out10 (tile H t) A hA o k).trans (congrArg _ (congrArg _ ?_))
  exact Finset.sum_congr rfl fun c' _ => by simp only [Function.comp_def, rowT_row4]; rfl

/-- After point `n` the accumulator of the norm's scale holds the sum over the rows so far. -/
theorem acc10 : ∀ (n : ℕ) (hn : n < cfg0.N) (o : Fin 1) (k : Fin 1024),
    (outsAt0 m c n hn).2.2.2.1 (ix2 o k) = ((∑ q ∈ Finset.range (4 * (n + 1)), partG w (uC P q) (vC P q) (yC Y q) k : ℝ) : EReal)
  | 0, hn, o, k => by
    rw [sum_first fun q => partG w (uC P q) (vC P q) (yC Y q) k]
    exact first10 H ⟨0, hn⟩ rfl o k
  | n + 1, hn, o, k => by
    have h16 := lt16 ⟨n + 1, hn⟩
    have h0 : ¬(n + 1) % 16 = 0 := by simp only at h16; omega
    rw [sum_tile _ (n + 1)]
    exact step10 H ⟨n + 1, hn⟩ h0 (fun k => ∑ q ∈ Finset.range (4 * (n + 1)), partG w (uC P q) (vC P q) (yC Y q) k)
      (fun o k => acc10 n (Nat.lt_of_succ_lt hn) o k) o k

theorem first11 (t : Fin cfg0.N) (h0 : t.val % 16 = 0) (o : Fin 1) (k : Fin 1024) :
    (outsAt0 m c t.val t.isLt).2.2.2.2 (ix2 o k) = ((∑ c' : Fin 4, partS w (uC P (4 * t.val + c'.val)) (yC Y (4 * t.val + c'.val)) k : ℝ) : EReal) := by
  rw [outsAt0_A m c t h0]
  dsimp only
  refine (A.out11 (tile H t) o k).trans (congrArg _ ?_)
  exact Finset.sum_congr rfl fun c' _ => by simp only [Function.comp_def, rowT_row4]; rfl

theorem step11 (t : Fin cfg0.N) (h0 : ¬t.val % 16 = 0) (A : Fin 1024 → ℝ)
    (hA : ∀ (o : Fin 1) (k : Fin 1024), (outsAt0 m c (t.val - 1) (lt_of_le_of_lt (Nat.sub_le _ _) t.isLt)).2.2.2.2 (ix2 o k) = (A k : EReal)) (o : Fin 1) (k : Fin 1024) :
    (outsAt0 m c t.val t.isLt).2.2.2.2 (ix2 o k) = ((A k + ∑ c' : Fin 4, partS w (uC P (4 * t.val + c'.val)) (yC Y (4 * t.val + c'.val)) k : ℝ) : EReal) := by
  rw [outsAt0_B m c t h0]
  dsimp only
  refine (B.out11 (tile H t) A hA o k).trans (congrArg _ (congrArg _ ?_))
  exact Finset.sum_congr rfl fun c' _ => by simp only [Function.comp_def, rowT_row4]; rfl

/-- After point `n` the accumulator of the norm's shift holds the sum over the rows so far. -/
theorem acc11 : ∀ (n : ℕ) (hn : n < cfg0.N) (o : Fin 1) (k : Fin 1024),
    (outsAt0 m c n hn).2.2.2.2 (ix2 o k) = ((∑ q ∈ Finset.range (4 * (n + 1)), partS w (uC P q) (yC Y q) k : ℝ) : EReal)
  | 0, hn, o, k => by
    rw [sum_first fun q => partS w (uC P q) (yC Y q) k]
    exact first11 H ⟨0, hn⟩ rfl o k
  | n + 1, hn, o, k => by
    have h16 := lt16 ⟨n + 1, hn⟩
    have h0 : ¬(n + 1) % 16 = 0 := by simp only at h16; omega
    rw [sum_tile _ (n + 1)]
    exact step11 H ⟨n + 1, hn⟩ h0 (fun k => ∑ q ∈ Finset.range (4 * (n + 1)), partS w (uC P q) (yC Y q) k)
      (fun o k => acc11 n (Nat.lt_of_succ_lt hn) o k) o k

/-! ## The arrays after the run -/

omit H in
theorem last_point (t : Fin cfg0.N) (h : t.val % 16 = 15) : t = ⟨15, by decide⟩ :=
  Fin.ext (by have := lt16 t; show t.val = 15; omega)

omit H in
theorem at8 : ∀ t : Fin grid0.N, win0_8.index t 0 = 0 ∧ win0_8.index t 1 = 0 ∧ win0_8.index t 2 = 0 := by decide +kernel

omit H in
theorem emb8 (t : Fin cfg0.N) (y : S8x128x128.Idx) : ((cfg0.win 8).blk t).view.emb y = y := by
  refine funext fun d => Fin.ext ?_
  fin_cases d
  · exact win0_8.rect_emb_val_of_index_zero t 0 (at8 t).1 _
  · exact win0_8.rect_emb_val_of_index_zero t 1 (at8 t).2.1 _
  · exact win0_8.rect_emb_val_of_index_zero t 2 (at8 t).2.2 _

omit H in
theorem cut8 (t : Fin cfg0.N) (X : Vec Ideal S8x128x128 .f32) :
    (cfg0.win 8).cut (grid0.coords t) X = ((cfg0.win 8).blk t).view.read (Elt Ideal) X := by
  funext y
  exact congrArg X (show _ = ((cfg0.win 8).blk t).view.emb y from (emb8 t y).symm)

theorem result8 (h : Fin 8) (i j : Fin 128) : (dats m 0 c).arrAt 8 cfg0.N (ix3 h i j)
    = ((∑ q ∈ Finset.range 64, partW g b (uC P q) (vC P q) (yC Y q) h i j : ℝ) : EReal) := by
  refine (congrFun ((dats m 0 c).arrAt_eq_of_cover 8 ((outsAt0 m c 15 (by decide)).2.1) ?_ ?_) _).trans
    (acc8 H 15 (by decide) h i j)
  · intro t hf
    obtain rfl := last_point t ((flush0_8 t).mp hf)
    exact (Value.flushed8 m c _).trans (cut8 _ _)
  · intro y
    refine ⟨⟨15, by decide⟩, (flush0_8 _).mpr rfl, ?_⟩
    have e := ((cfg0.win 8).blk ⟨15, by decide⟩).view.emb_mem_set y
    rw [emb8] at e
    exact e

omit H in
theorem at9 : ∀ t : Fin grid0.N, win0_9.index t 0 = 0 ∧ win0_9.index t 1 = 0 := by decide +kernel

omit H in
theorem emb9 (t : Fin cfg0.N) (y : S128x8.Idx) : ((cfg0.win 9).blk t).view.emb y = y := by
  refine funext fun d => Fin.ext ?_
  fin_cases d
  · exact win0_9.rect_emb_val_of_index_zero t 0 (at9 t).1 _
  · exact win0_9.rect_emb_val_of_index_zero t 1 (at9 t).2 _

omit H in
theorem cut9 (t : Fin cfg0.N) (X : Vec Ideal S128x8 .f32) :
    (cfg0.win 9).cut (grid0.coords t) X = ((cfg0.win 9).blk t).view.read (Elt Ideal) X := by
  funext y
  exact congrArg X (show _ = ((cfg0.win 9).blk t).view.emb y from (emb9 t y).symm)

theorem result9 (i : Fin 128) (h : Fin 8) : (dats m 0 c).arrAt 9 cfg0.N (ix2 i h)
    = ((∑ q ∈ Finset.range 64, partB (uC P q) (yC Y q) i h : ℝ) : EReal) := by
  refine (congrFun ((dats m 0 c).arrAt_eq_of_cover 9 ((outsAt0 m c 15 (by decide)).2.2.1) ?_ ?_) _).trans
    (acc9 H 15 (by decide) i h)
  · intro t hf
    obtain rfl := last_point t ((flush0_9 t).mp hf)
    exact (Value.flushed9 m c _).trans (cut9 _ _)
  · intro y
    refine ⟨⟨15, by decide⟩, (flush0_9 _).mpr rfl, ?_⟩
    have e := ((cfg0.win 9).blk ⟨15, by decide⟩).view.emb_mem_set y
    rw [emb9] at e
    exact e

omit H in
theorem at10 : ∀ t : Fin grid0.N, win0_10.index t 0 = 0 ∧ win0_10.index t 1 = 0 := by decide +kernel

omit H in
theorem emb10 (t : Fin cfg0.N) (y : S1x1024.Idx) : ((cfg0.win 10).blk t).view.emb y = y := by
  refine funext fun d => Fin.ext ?_
  fin_cases d
  · exact win0_10.rect_emb_val_of_index_zero t 0 (at10 t).1 _
  · exact win0_10.rect_emb_val_of_index_zero t 1 (at10 t).2 _

omit H in
theorem cut10 (t : Fin cfg0.N) (X : Vec Ideal S1x1024 .f32) :
    (cfg0.win 10).cut (grid0.coords t) X = ((cfg0.win 10).blk t).view.read (Elt Ideal) X := by
  funext y
  exact congrArg X (show _ = ((cfg0.win 10).blk t).view.emb y from (emb10 t y).symm)

theorem result10 (o : Fin 1) (k : Fin 1024) : (dats m 0 c).arrAt 10 cfg0.N (ix2 o k)
    = ((∑ q ∈ Finset.range 64, partG w (uC P q) (vC P q) (yC Y q) k : ℝ) : EReal) := by
  refine (congrFun ((dats m 0 c).arrAt_eq_of_cover 10 ((outsAt0 m c 15 (by decide)).2.2.2.1) ?_ ?_) _).trans
    (acc10 H 15 (by decide) o k)
  · intro t hf
    obtain rfl := last_point t ((flush0_10 t).mp hf)
    exact (Value.flushed10 m c _).trans (cut10 _ _)
  · intro y
    refine ⟨⟨15, by decide⟩, (flush0_10 _).mpr rfl, ?_⟩
    have e := ((cfg0.win 10).blk ⟨15, by decide⟩).view.emb_mem_set y
    rw [emb10] at e
    exact e

omit H in
theorem at11 : ∀ t : Fin grid0.N, win0_11.index t 0 = 0 ∧ win0_11.index t 1 = 0 := by decide +kernel

omit H in
theorem emb11 (t : Fin cfg0.N) (y : S1x1024.Idx) : ((cfg0.win 11).blk t).view.emb y = y := by
  refine funext fun d => Fin.ext ?_
  fin_cases d
  · exact win0_11.rect_emb_val_of_index_zero t 0 (at11 t).1 _
  · exact win0_11.rect_emb_val_of_index_zero t 1 (at11 t).2 _

omit H in
theorem cut11 (t : Fin cfg0.N) (X : Vec Ideal S1x1024 .f32) :
    (cfg0.win 11).cut (grid0.coords t) X = ((cfg0.win 11).blk t).view.read (Elt Ideal) X := by
  funext y
  exact congrArg X (show _ = ((cfg0.win 11).blk t).view.emb y from (emb11 t y).symm)

theorem result11 (o : Fin 1) (k : Fin 1024) : (dats m 0 c).arrAt 11 cfg0.N (ix2 o k)
    = ((∑ q ∈ Finset.range 64, partS w (uC P q) (yC Y q) k : ℝ) : EReal) := by
  refine (congrFun ((dats m 0 c).arrAt_eq_of_cover 11 ((outsAt0 m c 15 (by decide)).2.2.2.2) ?_ ?_) _).trans
    (acc11 H 15 (by decide) o k)
  · intro t hf
    obtain rfl := last_point t ((flush0_11 t).mp hf)
    exact (Value.flushed11 m c _).trans (cut11 _ _)
  · intro y
    refine ⟨⟨15, by decide⟩, (flush0_11 _).mpr rfl, ?_⟩
    have e := ((cfg0.win 11).blk ⟨15, by decide⟩).view.emb_mem_set y
    rw [emb11] at e
    exact e

theorem left_left (t : Fin cfg0.N) (c' : Fin 4) (i : Fin 128) (k : Fin 1024) :
    (outsAt0 m c t.val t.isLt).1 (ix2 (row4 c' i) ⟨k.val, by omega⟩)
      = ((gradU g b w (fun i h => bs h i) (uC P (4 * t.val + c'.val)) (vC P (4 * t.val + c'.val)) (yC Y (4 * t.val + c'.val)) i k : ℝ) : EReal) := by
  by_cases h0 : t.val % 16 = 0
  · rw [outsAt0_A m c t h0]
    dsimp only
    refine (A.out7_left (tile H t) c' i k).trans (congrArg _ ?_)
    simp only [Function.comp_def, rowT_row4]; rfl
  · rw [outsAt0_B m c t h0]
    dsimp only
    refine (B.out7_left (tile H t) c' i k).trans (congrArg _ ?_)
    simp only [Function.comp_def, rowT_row4]; rfl

theorem result7_left (q : Fin 64) (i : Fin 128) (k : Fin 1024) :
    (dats m 0 c).arrAt 7 cfg0.N (ix2 (rowOf q.val i) (colU k)) = ((gradU g b w (fun i h => bs h i) (uC P q.val) (vC P q.val) (yC Y q.val) i k : ℝ) : EReal) := by
  have hq := q.isLt
  obtain ⟨t, c', hqt⟩ : ∃ (t : Fin cfg0.N) (c' : Fin 4), q.val = 4 * t.val + c'.val :=
    ⟨⟨q.val / 4, by show q.val / 4 < 16; omega⟩, ⟨q.val % 4, by omega⟩, by simp only; omega⟩
  have e := congrFun (Value.blocks7 m c t (flush0_7 t)) (ix2 (row4 c' i) ⟨k.val, by omega⟩)
  rw [Value.flushed7] at e
  have ht := lt16 t
  refine .trans (congrArg ((dats m 0 c).arrAt 7 cfg0.N) (funext fun d => Fin.ext ?_)) (e.trans ?_)
  · refine .trans ?_ (win0_7.rect_emb_val t _ d).symm
    fin_cases d
    · show (128 * q.val + i.val) % 8192 = win0_7.index t 0 * 512 + (128 * c'.val + i.val)
      rw [(at7 t).1]; omega
    · show k.val = win0_7.index t 1 * 2048 + (k.val)
      rw [(at7 t).2]; omega
  · rw [hqt]
    exact left_left H t c' i k

theorem left_right (t : Fin cfg0.N) (c' : Fin 4) (i : Fin 128) (k : Fin 1024) :
    (outsAt0 m c t.val t.isLt).1 (ix2 (row4 c' i) ⟨1024 + k.val, by omega⟩)
      = ((gradV g w (uC P (4 * t.val + c'.val)) (vC P (4 * t.val + c'.val)) (yC Y (4 * t.val + c'.val)) i k : ℝ) : EReal) := by
  by_cases h0 : t.val % 16 = 0
  · rw [outsAt0_A m c t h0]
    dsimp only
    refine (A.out7_right (tile H t) c' i k).trans (congrArg _ ?_)
    simp only [Function.comp_def, rowT_row4]; rfl
  · rw [outsAt0_B m c t h0]
    dsimp only
    refine (B.out7_right (tile H t) c' i k).trans (congrArg _ ?_)
    simp only [Function.comp_def, rowT_row4]; rfl

theorem result7_right (q : Fin 64) (i : Fin 128) (k : Fin 1024) :
    (dats m 0 c).arrAt 7 cfg0.N (ix2 (rowOf q.val i) (colV k)) = ((gradV g w (uC P q.val) (vC P q.val) (yC Y q.val) i k : ℝ) : EReal) := by
  have hq := q.isLt
  obtain ⟨t, c', hqt⟩ : ∃ (t : Fin cfg0.N) (c' : Fin 4), q.val = 4 * t.val + c'.val :=
    ⟨⟨q.val / 4, by show q.val / 4 < 16; omega⟩, ⟨q.val % 4, by omega⟩, by simp only; omega⟩
  have e := congrFun (Value.blocks7 m c t (flush0_7 t)) (ix2 (row4 c' i) ⟨1024 + k.val, by omega⟩)
  rw [Value.flushed7] at e
  have ht := lt16 t
  refine .trans (congrArg ((dats m 0 c).arrAt 7 cfg0.N) (funext fun d => Fin.ext ?_)) (e.trans ?_)
  · refine .trans ?_ (win0_7.rect_emb_val t _ d).symm
    fin_cases d
    · show (128 * q.val + i.val) % 8192 = win0_7.index t 0 * 512 + (128 * c'.val + i.val)
      rw [(at7 t).1]; omega
    · show 1024 + k.val = win0_7.index t 1 * 2048 + (1024 + k.val)
      rw [(at7 t).2]; omega
  · rw [hqt]
    exact left_right H t c' i k

omit H in
/-- The columns the kernel does not write are those of the array it was given. -/
theorem result7_rest (r : Fin 8192) (k : Fin 10240) (hk : 2048 ≤ k.val) :
    (dats m 0 c).arrAt 7 cfg0.N (ix2 r k) = m ((c : Thread nD τ).loc main_arg6) (ix2 r k) := by
  refine (Value.entry7 m c (ix2 r k) fun t _ hmem => ?_).trans (congrFun (V_result m c) _)
  obtain ⟨y, hy⟩ := Idealize.ShloMosaic.View.exists_emb_of_mem_set _ hmem
  have e := (congrArg (fun z : S8192x10240.Idx => (z 1).val) hy).symm.trans (win0_7.rect_emb_val t y 1)
  rw [(at7 t).2] at e
  have h2 : (y 1).val < 2048 := (y 1).isLt
  have e' : k.val = 0 * 2048 + (y 1).val := e
  omega

end Cert.Gate

end
-- ==== Proof.Gate.RefForward.lean ====
module

public import proofs.«01_k».proof.Proof.Gate.Chunks
public import proofs.«01_k».proof.Proof.Gen.ReferenceIdeal.Read

@[expose] public section

set_option maxRecDepth 16384

noncomputable section

namespace Cert.Gate.Ref

open Idealize.ShloMosaic Idealize.ShloMosaic.TcCoe Cert.ReferenceIdeal Cert.ReferenceIdeal.Gen Cert.ReferenceIdeal.Read Cert.Gate

/-- The reference's arguments hold these real numbers. -/
structure Args (x0 : (⟨S8192x10240, .bf16⟩ : BufTy).Contents (Elt Ideal)) (x1 : (⟨S8192x1024, .bf16⟩ : BufTy).Contents (Elt Ideal))
    (x2 x3 : (⟨S1x1024, .f32⟩ : BufTy).Contents (Elt Ideal)) (x4 : (⟨S8x128x128, .f32⟩ : BufTy).Contents (Elt Ideal))
    (x5 : (⟨S8x128, .f32⟩ : BufTy).Contents (Elt Ideal))
    (P : Fin 8192 → Fin 10240 → ℝ) (Y : Fin 8192 → Fin 1024 → ℝ) (g b : Fin 1024 → ℝ)
    (w : Fin 8 → Fin 128 → Fin 128 → ℝ) (bs : Fin 8 → Fin 128 → ℝ) : Prop where
  p : ∀ i, x0 i = (P (i 0) (i 1) : EReal)
  y : ∀ i, x1 i = (Y (i 0) (i 1) : EReal)
  g : ∀ i, x2 i = (g (i 1) : EReal)
  b : ∀ i, x3 i = (b (i 1) : EReal)
  w : ∀ i, x4 i = (w (i 0) (i 1) (i 2) : EReal)
  s : ∀ i, x5 i = (bs (i 0) (i 1) : EReal)

/-- A column of the gated input among all columns. -/
def wide (k : Fin 2048) : Fin 10240 := ⟨k.val, by omega⟩

/-- A row of the second half after the nonlinearity. -/
def Z (P : Fin 8192 → Fin 10240 → ℝ) (r : Fin 8192) : Fin 1024 → ℝ := act fun k => P r (colV k)

variable {x0 : (⟨S8192x10240, .bf16⟩ : BufTy).Contents (Elt Ideal)} {x1 : (⟨S8192x1024, .bf16⟩ : BufTy).Contents (Elt Ideal)}
  {x2 x3 : (⟨S1x1024, .f32⟩ : BufTy).Contents (Elt Ideal)} {x4 : (⟨S8x128x128, .f32⟩ : BufTy).Contents (Elt Ideal)}
  {x5 : (⟨S8x128, .f32⟩ : BufTy).Contents (Elt Ideal)}
  {P : Fin 8192 → Fin 10240 → ℝ} {Y : Fin 8192 → Fin 1024 → ℝ} {g b : Fin 1024 → ℝ}
  {w : Fin 8 → Fin 128 → Fin 128 → ℝ} {bs : Fin 8 → Fin 128 → ℝ}

/-! ## The constants of GELU and of its derivative -/

theorem v5 (i) : val_main_v5 (F := Ideal) i = (((Real.sqrt 2)⁻¹ : ℝ) : EReal) := by
  show Ideal.rsqrt (Ideal.ofBits .f32 0x40000000#32) = _
  rw [word_two, Ideal.rsqrt_coe, if_neg (by norm_num), if_neg (by norm_num)]

theorem word_four : Ideal.ofBits .f32 0x40800000#32 = ((4 : ℝ) : EReal) := by
  simp [Ideal.ofBits, Ideal.ieee, -EReal.coe_mul]; try norm_num

theorem word_neg_two : Ideal.ofBits .f32 0xC0000000#32 = ((-2 : ℝ) : EReal) := by
  simp [Ideal.ofBits, Ideal.ieee, -EReal.coe_mul]; try norm_num

theorem v12 (i) : val_main_v12 (F := Ideal) i = ((-(2 * (Real.sqrt Real.pi)⁻¹) : ℝ) : EReal) := by
  show Ideal.ofBits .f32 0xC0000000#32 * Ideal.rsqrt (Ideal.ofBits .f32 0x40800000#32 * Ideal.atan (Ideal.ofBits .f32 0x3F800000#32)) = _
  have e : Ideal.atan ((1 : ℝ) : EReal) = ((Real.pi / 4 : ℝ) : EReal) := by
    show ((Real.arctan 1 : ℝ) : EReal) = _
    rw [Real.arctan_one]
  rw [word_neg_two, word_four, word_one, e, ← EReal.coe_mul, show 4 * (Real.pi / 4) = Real.pi by ring, Ideal.rsqrt_coe,
    if_neg (not_lt.mpr Real.pi_pos.le), if_neg Real.pi_pos.ne', ← EReal.coe_mul]
  congr 1; ring

theorem div_1024 (t : EReal) : Ideal.div t (Ideal.ofBits .f32 0x44800000#32) = t * ((1 / 1024 : ℝ) : EReal) := by
  rw [word_1024]; exact Ideal.div_coe (by norm_num) t

section
variable (H : Args x0 x1 x2 x3 x4 x5 P Y g b w bs)
include H

/-! ## GELU -/

theorem v1 (i) : val_main_v1 (F := Ideal) x0 i = (P (i 0) (wide (i 1)) : EReal) := by
  refine (val_main_v0_apply x0 i).trans ?_
  rw [H.p]; rfl

theorem v3 (i) : val_main_v3 (F := Ideal) x0 i = ((1 / 2 * P (i 0) (wide (i 1)) : ℝ) : EReal) := by
  show Ideal.ofBits .f32 0x3F000000#32 * val_main_v1 (F := Ideal) x0 i = _
  rw [v1 H, word_half, ← EReal.coe_mul]

theorem v7 (i) : val_main_v7 (F := Ideal) x0 i = ((-P (i 0) (wide (i 1)) * (Real.sqrt 2)⁻¹ : ℝ) : EReal) := by
  show -val_main_v1 (F := Ideal) x0 i * val_main_v6 (F := Ideal) i = _
  rw [v1 H, val_main_v6_apply, v5, ← EReal.coe_neg, ← EReal.coe_mul]

theorem v8 (i) : val_main_v8 (F := Ideal) x0 i = ((1 - erfR (-P (i 0) (wide (i 1)) * (Real.sqrt 2)⁻¹) : ℝ) : EReal) := by
  show 1 - Ideal.erf (val_main_v7 (F := Ideal) x0 i) = _
  rw [v7 H, erf_coe, ← EReal.coe_one, ← EReal.coe_sub]

theorem v15 (i) : val_main_v15 (F := Ideal) x0 i
    = ((Real.exp (-(-P (i 0) (wide (i 1)) * (Real.sqrt 2)⁻¹ * (-P (i 0) (wide (i 1)) * (Real.sqrt 2)⁻¹))) : ℝ) : EReal) := by
  show Ideal.exp (-(val_main_v7 (F := Ideal) x0 i * val_main_v7 (F := Ideal) x0 i)) = _
  rw [v7 H, ← EReal.coe_mul, ← EReal.coe_neg, Ideal.exp_coe]

theorem v16 (i) : val_main_v16 (F := Ideal) x0 i = (gelu (P (i 0) (wide (i 1))) : EReal) := by
  show val_main_v3 (F := Ideal) x0 i * val_main_v8 (F := Ideal) x0 i = _
  rw [v3 H, v8 H, ← EReal.coe_mul, gelu_erfc]

theorem v17 (i) : val_main_v17 (F := Ideal) x0 i = (gelu (P (i 0) (colU (i 1))) : EReal) := by
  rw [val_main_v17_apply, v16 H]; rfl

theorem v18 (i) : val_main_v18 (F := Ideal) x0 i = (Z P (i 0) (i 1) : EReal) := by
  rw [val_main_v18_apply, v16 H]
  show ((gelu (P (i 0) (wide (idx_main_v18 i 1))) : ℝ) : EReal) = ((gelu (P (i 0) (colV (i 1))) : ℝ) : EReal)
  congr 3

/-! ## The norm -/

theorem v22 (i) : val_main_v22 (F := Ideal) x0 i = (mean (Z P (i 0)) : EReal) := by
  show Ideal.div (val_main_v20 (F := Ideal) x0 i) (Ideal.ofBits .f32 0x44800000#32) = _
  rw [div_1024, val_main_v20_apply, val_main_v19_apply]
  have e : ∀ k, val_main_v18 (F := Ideal) x0 (idx_main_v19 (idx_main_v20 i) k) = (Z P (i 0) k : EReal) := fun k => v18 H _
  have z : val_main_cst_4 (F := Ideal) (Shape.Idx.first h_S_) = ((0 : ℝ) : EReal) := word_zero
  simp only [e, z, ← coe_sum, ← EReal.coe_add, ← EReal.coe_mul, zero_add, mean]

theorem v24 (i) : val_main_v24 (F := Ideal) x0 i = (cen (Z P (i 0)) (i 1) : EReal) := by
  show val_main_v18 (F := Ideal) x0 i - val_main_v23 (F := Ideal) x0 i = _
  rw [v18 H, val_main_v23_apply, v22 H, ← EReal.coe_sub]; rfl

theorem v33 (i) : val_main_v33 (F := Ideal) x0 i = (cen (Z P (i 0)) (i 1) : EReal) := by
  show val_main_v18 (F := Ideal) x0 i - val_main_v32 (F := Ideal) x0 i = _
  rw [v18 H, val_main_v32_apply, v22 H, ← EReal.coe_sub]; rfl

theorem v27 (i) : val_main_v27 (F := Ideal) x0 i = ((2 * cen (Z P (i 0)) (i 1) : ℝ) : EReal) := by
  show Ideal.ofBits .f32 0x40000000#32 * val_main_v24 (F := Ideal) x0 i = _
  rw [v24 H, word_two, ← EReal.coe_mul]

theorem v25 (i) : val_main_v25 (F := Ideal) x0 i = ((cen (Z P (i 0)) (i 1) * cen (Z P (i 0)) (i 1) : ℝ) : EReal) := by
  show val_main_v24 (F := Ideal) x0 i * val_main_v24 (F := Ideal) x0 i = _
  rw [v24 H, ← EReal.coe_mul]

theorem v35 (i) : val_main_v35 (F := Ideal) x0 i = (varE (Z P (i 0)) : EReal) := by
  show Ideal.div (val_main_v29 (F := Ideal) x0 i) (Ideal.ofBits .f32 0x44800000#32) + Ideal.ofBits .f32 0x358637BD#32 = _
  rw [div_1024, val_main_v29_apply, val_main_v28_apply]
  have e : ∀ k, val_main_v25 (F := Ideal) x0 (idx_main_v28 (idx_main_v29 i) k)
      = ((cen (Z P (i 0)) k * cen (Z P (i 0)) k : ℝ) : EReal) := fun k => v25 H _
  have z : val_main_cst_7 (F := Ideal) (Shape.Idx.first h_S_) = ((0 : ℝ) : EReal) := word_zero
  simp only [e, z, word_eps, ← coe_sum, ← EReal.coe_add, ← EReal.coe_mul, zero_add, varE, mean]

theorem v36 (i) : val_main_v36 (F := Ideal) x0 i = (rstd (Z P (i 0)) : EReal) := by
  show Ideal.rsqrt (val_main_v35 (F := Ideal) x0 i) = _
  have h := varE_pos (Z P (i 0))
  rw [v35 H, Ideal.rsqrt_coe, if_neg (not_lt.mpr h.le), if_neg h.ne']; rfl

theorem v39 (i) : val_main_v39 (F := Ideal) x0 i
    = ((-(1 / 2) * (rstd (Z P (i 0)) * (1 / varE (Z P (i 0)))) : ℝ) : EReal) := by
  show Ideal.ofBits .f32 0xBF000000#32 * Ideal.div (val_main_v36 (F := Ideal) x0 i) (val_main_v35 (F := Ideal) x0 i) = _
  rw [v36 H, v35 H, Ideal.div_coe (varE_pos _).ne', word_neg_half, ← EReal.coe_mul, ← EReal.coe_mul]

theorem v41 (i) : val_main_v41 (F := Ideal) x0 i = (hat (Z P (i 0)) (i 1) : EReal) := by
  show val_main_v33 (F := Ideal) x0 i * val_main_v40 (F := Ideal) x0 i = _
  rw [v33 H, val_main_v40_apply, v36 H, ← EReal.coe_mul]; rfl

theorem v45 (i) : val_main_v45 (F := Ideal) x0 x2 x3 i = (vn g b (fun k => P (i 0) (colV k)) (i 1) : EReal) := by
  show val_main_v41 (F := Ideal) x0 i * val_main_v42 (F := Ideal) x2 i + val_main_v44 (F := Ideal) x3 i = _
  rw [v41 H, val_main_v42_apply, val_main_v44_apply, H.g, H.b, ← EReal.coe_mul, ← EReal.coe_add]; rfl

/-! ## The mixing -/

omit H in
/-- Where the element `(q, j, h, d)` of the four-axis arrangement stands. -/
theorem split_row (q : Fin 64) (j : Fin 128) (h : Fin 8) (d : Fin 128) :
    (((q.val * 128 + j.val) * 8 + h.val) * 128 + d.val) / 1024 = (rowOf q.val j).val ∧
    (((q.val * 128 + j.val) * 8 + h.val) * 128 + d.val) % 1024 = (col h d).val := by
  simp only [rowOf, col]; omega

theorem v46 (i) : val_main_v46 (F := Ideal) x0 x2 x3 i = (vn g b (vC P (i 0).val (i 1)) (col (i 2) (i 3)) : EReal) := by
  rw [val_main_v46_apply, v45 H]
  have a : idx_main_v46 i 0 = rowOf (i 0).val (i 1) := Fin.ext (split_row (i 0) (i 1) (i 2) (i 3)).1
  have e : idx_main_v46 i 1 = col (i 2) (i 3) := Fin.ext (split_row (i 0) (i 1) (i 2) (i 3)).2
  rw [a, e]; rfl

omit H in
theorem v51_1 (i) : val_main_v51_1 (F := Ideal) i = if (i 2).val ≤ (i 1).val then 1#1 else 0#1 := by
  rw [val_main_v51_1_apply, val_main_v49_apply]
  show Scalar.select (IntOp.cmpi .sge (BitVec.ofNat 32 (i 1).val + 0#32) (BitVec.ofNat 32 (i 2).val)) (1#1 : BitVec 1) (0#1 : BitVec 1) = _
  have key : ∀ a b : Fin 128, Scalar.select (IntOp.cmpi .sge (BitVec.ofNat 32 a.val + 0#32) (BitVec.ofNat 32 b.val)) (1#1 : BitVec 1) (0#1 : BitVec 1)
      = if b.val ≤ a.val then 1#1 else 0#1 := by decide +kernel
  exact key (i 1) (i 2)

theorem v51_0 (i) : val_main_v51_0 (F := Ideal) x4 i = (wm w (i 0) (i 1) (i 2) : EReal) := by
  show Scalar.select (val_main_v51_1 (F := Ideal) i) (x4 i) (Ideal.ofBits .f32 0x00000000#32) = _
  rw [v51_1, H.w, word_zero]
  show _ = ((if (i 2 : Fin 128) ≤ (i 1 : Fin 128) then w (i 0) (i 1) (i 2) else 0 : ℝ) : EReal)
  by_cases h : (i 2).val ≤ (i 1).val
  · rw [if_pos h, if_pos (show (i 2 : Fin 128) ≤ (i 1 : Fin 128) from h)]; rfl
  · rw [if_neg h, if_neg (show ¬(i 2 : Fin 128) ≤ (i 1 : Fin 128) from h)]; rfl

theorem v52 (i) : val_main_v52 (F := Ideal) x0 x2 x3 x4 i
    = ((∑ j, wm w (i 0) (i 3) j * vn g b (vC P (i 1).val j) (col (i 0) (i 2)) : ℝ) : EReal) := by
  rw [val_main_v52_apply]
  have e : ∀ k : Fin 128, val_main_v46 (F := Ideal) x0 x2 x3 (lidx_main_v52 i k) = (vn g b (vC P (i 1).val k) (col (i 0) (i 2)) : EReal) :=
    fun k => v46 H _
  have f : ∀ k : Fin 128, val_main_v51_0 (F := Ideal) x4 (ridx_main_v52 i k) = (wm w (i 0) (i 3) k : EReal) := fun k => v51_0 H _
  simp only [e, f, ← EReal.coe_mul, ← coe_sum]
  exact congrArg _ (Finset.sum_congr rfl fun j _ => mul_comm _ _)

omit H in
theorem sp_col (v : Fin 128 → Fin 1024 → ℝ) (i : Fin 128) (h : Fin 8) (d : Fin 128) :
    sp g b w (fun i h => bs h i) v i (col h d) = ∑ j, wm w h i j * vn g b (v j) (col h d) + bs h i := by
  rw [sp, head_col]

theorem v57 (i) : val_main_v57 (F := Ideal) x0 x2 x3 x4 x5 i
    = (sp g b w (fun i h => bs h i) (vC P (i 0).val) (i 1) (col (i 2) (i 3)) : EReal) := by
  show val_main_v53 (F := Ideal) x0 x2 x3 x4 i + val_main_v56 (F := Ideal) x5 i = _
  rw [val_main_v53_apply, v52 H, val_main_v56_apply, val_main_v55_apply, val_main_v54_apply, H.s, ← EReal.coe_add]
  exact (congrArg _ (sp_col (vC P (i 0).val) (i 1) (i 2) (i 3))).symm

/-- The run of 128 rows a row belongs to, and its place there. -/
def run (r : Fin 8192) : Fin 64 := ⟨r.val / 128, by omega⟩
def place (r : Fin 8192) : Fin 128 := ⟨r.val % 128, by omega⟩

omit H in
theorem rowOf_run (r : Fin 8192) : rowOf (run r).val (place r) = r := Fin.ext (by simp only [rowOf, run, place]; omega)

omit H in
theorem run_rowOf (q : Fin 64) (i : Fin 128) : run (rowOf q.val i) = q := Fin.ext (by simp only [rowOf, run]; omega)

omit H in
theorem place_rowOf (q : Fin 64) (i : Fin 128) : place (rowOf q.val i) = i := Fin.ext (by simp only [rowOf, place]; omega)

omit H in
theorem split_idx (r : Fin 8192) (k : Fin 1024) :
    (r.val * 1024 + k.val) / 131072 = (run r).val ∧ (r.val * 1024 + k.val) / 1024 % 128 = (place r).val ∧
    128 * ((r.val * 1024 + k.val) / 128 % 8) + (r.val * 1024 + k.val) % 128 = k.val := by
  simp only [run, place]; omega

theorem v58 (i) : val_main_v58 (F := Ideal) x0 x2 x3 x4 x5 i
    = (sp g b w (fun i h => bs h i) (vC P (run (i 0)).val) (place (i 0)) (i 1) : EReal) := by
  rw [val_main_v58_apply, v57 H]
  have h := split_idx (i 0) (i 1)
  have a : idx_main_v58 i 0 = run (i 0) := Fin.ext h.1
  have d : idx_main_v58 i 1 = place (i 0) := Fin.ext h.2.1
  have e : col (idx_main_v58 i 2) (idx_main_v58 i 3) = i 1 := Fin.ext h.2.2
  rw [a, d, e]

end

end Cert.Gate.Ref

end
-- ==== Proof.Gate.RefBackward.lean ====
module

public import proofs.«01_k».proof.Proof.Gate.RefForward
public import Idealize.ShloMosaic.Lib.TwoAxisContraction

@[expose] public section

set_option maxRecDepth 16384

noncomputable section

namespace Cert.Gate.Ref

open Idealize.ShloMosaic Idealize.ShloMosaic.TcCoe Cert.ReferenceIdeal Cert.ReferenceIdeal.Gen Cert.ReferenceIdeal.Read Cert.Gate
open Idealize.ShloMosaic.ValueIdx (contrEquiv2 contrEquiv2_symm_val0 contrEquiv2_symm_val1 sum_contr2)

variable {x0 : (⟨S8192x10240, .bf16⟩ : BufTy).Contents (Elt Ideal)} {x1 : (⟨S8192x1024, .bf16⟩ : BufTy).Contents (Elt Ideal)}
  {x2 x3 : (⟨S1x1024, .f32⟩ : BufTy).Contents (Elt Ideal)} {x4 : (⟨S8x128x128, .f32⟩ : BufTy).Contents (Elt Ideal)}
  {x5 : (⟨S8x128, .f32⟩ : BufTy).Contents (Elt Ideal)}
  {P : Fin 8192 → Fin 10240 → ℝ} {Y : Fin 8192 → Fin 1024 → ℝ} {g b : Fin 1024 → ℝ}
  {w : Fin 8 → Fin 128 → Fin 128 → ℝ} {bs : Fin 8 → Fin 128 → ℝ}

/-- A sum over the rows is a sum over the runs of 128. -/
theorem sum_rows (f : Fin 8192 → ℝ) : ∑ r, f r = ∑ q ∈ Finset.range 64, ∑ i, f (rowOf q i) := by
  rw [Finset.sum_range, sum_runs (n := 64) (m := 128) (by norm_num) f (fun q i => rowOf q.val i)
    (fun c i => by simp only [rowOf]; omega)]

/-- The host's sum over the first and the last of four axes, the two in the middle kept. -/
theorem sum_outer {n0 n1 n2 n3 : ℕ} (h : (⟨4, ![n0, n1, n2, n3]⟩ : Shape).ReducesTo [0, 3] ⟨2, ![n1, n2]⟩)
    (x : (⟨4, ![n0, n1, n2, n3]⟩ : Shape).Idx → EReal) (init : EReal) (j : Fin n1) (k : Fin n2) :
    Ideal.hostReduceAdd h x init (ix2 j k) = init + ∑ a : Fin n0, ∑ d : Fin n3, x (ix4 a j k d) := by
  unfold Ideal.hostReduceAdd
  rw [← Finset.sum_product']
  congr 1
  refine Finset.sum_bij' (fun i _ => (i 0, i 3)) (fun p _ => ix4 p.1 j k p.2) ?_ ?_ ?_ ?_ ?_
  · intro i _; simp
  · intro p _
    simp only [Finset.mem_filter, Finset.mem_univ, true_and]
    funext b
    match b with
    | ⟨0, _⟩ => rfl
    | ⟨1, _⟩ => rfl
  · intro i hi
    have e := (Finset.mem_filter.mp hi).2
    have e0 : i 1 = j := Fin.ext (congrArg (fun f => (f 0).val) e)
    have e1 : i 2 = k := Fin.ext (congrArg (fun f => (f 1).val) e)
    funext b
    match b with
    | ⟨0, _⟩ => rfl
    | ⟨1, _⟩ => exact e0.symm
    | ⟨2, _⟩ => exact e1.symm
    | ⟨3, _⟩ => rfl
  · intro p _; rfl
  · intro i hi
    have e := (Finset.mem_filter.mp hi).2
    have e0 : i 1 = j := Fin.ext (congrArg (fun f => (f 0).val) e)
    have e1 : i 2 = k := Fin.ext (congrArg (fun f => (f 1).val) e)
    refine congrArg x (funext fun b => ?_)
    match b with
    | ⟨0, _⟩ => rfl
    | ⟨1, _⟩ => exact e0
    | ⟨2, _⟩ => exact e1
    | ⟨3, _⟩ => rfl

section
variable (H : Args x0 x1 x2 x3 x4 x5 P Y g b w bs)
include H

/-! ## The bias and the mixing matrix -/

theorem v61 (i) : val_main_v61 (F := Ideal) x0 x1 i = ((Y (i 0) (i 1) * gelu (P (i 0) (colU (i 1))) : ℝ) : EReal) := by
  show val_main_v17 (F := Ideal) x0 i * x1 i = _
  rw [v17 H, H.y, ← EReal.coe_mul, mul_comm]

theorem v62 (i) : val_main_v62 (F := Ideal) x0 x1 x2 x3 x4 x5 i
    = ((Y (i 0) (i 1) * sp g b w (fun i h => bs h i) (vC P (run (i 0)).val) (place (i 0)) (i 1) : ℝ) : EReal) := by
  show x1 i * val_main_v58 (F := Ideal) x0 x2 x3 x4 x5 i = _
  rw [v58 H, H.y, ← EReal.coe_mul]

theorem v63 (i) : val_main_v63 (F := Ideal) x0 x1 i
    = (ds (uC P (i 0).val) (yC Y (i 0).val) (i 1) (col (i 2) (i 3)) : EReal) := by
  rw [val_main_v63_apply, v61 H]
  have a : idx_main_v63 i 0 = rowOf (i 0).val (i 1) := Fin.ext (split_row (i 0) (i 1) (i 2) (i 3)).1
  have e : idx_main_v63 i 1 = col (i 2) (i 3) := Fin.ext (split_row (i 0) (i 1) (i 2) (i 3)).2
  rw [a, e]; rfl

theorem v64 (j : Fin 128) (h : Fin 8) : val_main_v64 (F := Ideal) x0 x1 (ix2 j h)
    = ((∑ q ∈ Finset.range 64, partB (uC P q) (yC Y q) j h : ℝ) : EReal) := by
  refine (sum_outer reducesTo_S64x128x8x128_S128x8_d0_3 _ (Ideal.ofBits .f32 0x00000000#32) j h).trans ?_
  have e : ∀ (a : Fin 64) (d : Fin 128), val_main_v63 (F := Ideal) x0 x1 (ix4 a j h d)
      = (ds (uC P a.val) (yC Y a.val) j (col h d) : EReal) := fun a d => v63 H _
  simp only [e, word_zero, ← coe_sum, ← EReal.coe_add, zero_add, Finset.sum_range, partB]

theorem v66 (j : Fin 128) (h : Fin 8) : val_main_v66 (F := Ideal) x0 x1 (ix2 j h)
    = ((∑ q ∈ Finset.range 64, partB (uC P q) (yC Y q) j h : ℝ) : EReal) := by
  refine (sum_outer reducesTo_S1x128x8x1_S128x8_d0_3 _ (Ideal.ofBits .f32 0x00000000#32) j h).trans ?_
  have e : ∀ (a : Fin 1) (d : Fin 1), val_main_v65 (F := Ideal) x0 x1 (ix4 a j h d)
      = ((∑ q ∈ Finset.range 64, partB (uC P q) (yC Y q) j h : ℝ) : EReal) := fun a d => by
    rw [val_main_v65_apply, ← v64 H]
    refine congrArg _ (funext fun b => ?_)
    match b with
    | ⟨0, _⟩ => exact Fin.ext (show (((a.val * 128 + j.val) * 8 + h.val) * 1 + d.val) / 8 = j.val by omega)
    | ⟨1, _⟩ => exact Fin.ext (show (((a.val * 128 + j.val) * 8 + h.val) * 1 + d.val) % 8 = h.val by omega)
  simp only [e, word_zero, Finset.univ_unique, Finset.sum_singleton, ← EReal.coe_add, zero_add]

theorem v120 (j : Fin 128) (h : Fin 8) : val_main_v120 (F := Ideal) x0 x1 (ix2 j h)
    = ((∑ q ∈ Finset.range 64, partB (uC P q) (yC Y q) j h : ℝ) : EReal) := by
  rw [val_main_v120_apply, val_main_v67_apply, ← v66 H]
  refine congrArg _ (funext fun b => ?_)
  match b with
  | ⟨0, _⟩ => rfl
  | ⟨1, _⟩ => rfl

theorem v68 (i) : val_main_v68 (F := Ideal) x0 x1 i
    = (ds (uC P (i 1).val) (yC Y (i 1).val) (i 3) (col (i 0) (i 2)) : EReal) := by
  rw [val_main_v68_apply, v63 H]; rfl

omit H in
theorem dot2_left (h : Fin 8) (i j : Fin 128) (q : Fin 64) (d : Fin 128) (k)
    (h0 : (k ⟨0, by decide⟩ : ℕ) = q.val) (h1 : (k ⟨1, by decide⟩ : ℕ) = d.val) :
    dot_S8x64x128x128_S64x128x8x128_S8x128x128_12_03_3_1_0_2.lhsIdx (ix3 h i j) k = ix4 h q d i := by
  funext b
  match b with
  | ⟨0, _⟩ => rfl
  | ⟨1, _⟩ => exact Fin.ext h0
  | ⟨2, _⟩ => exact Fin.ext h1
  | ⟨3, _⟩ => rfl

omit H in
theorem dot2_right (h : Fin 8) (i j : Fin 128) (q : Fin 64) (d : Fin 128) (k)
    (h0 : (k ⟨0, by decide⟩ : ℕ) = q.val) (h1 : (k ⟨1, by decide⟩ : ℕ) = d.val) :
    dot_S8x64x128x128_S64x128x8x128_S8x128x128_12_03_3_1_0_2.rhsIdx (ix3 h i j) k = ix4 q j h d := by
  funext b
  match b with
  | ⟨0, _⟩ => exact Fin.ext h0
  | ⟨1, _⟩ => rfl
  | ⟨2, _⟩ => rfl
  | ⟨3, _⟩ => exact Fin.ext h1

theorem v69 (h : Fin 8) (i j : Fin 128) : val_main_v69 (F := Ideal) x0 x1 x2 x3 (ix3 h i j)
    = ((∑ q ∈ Finset.range 64, ∑ d, ds (uC P q) (yC Y q) i (col h d) * vn g b (vC P q j) (col h d) : ℝ) : EReal) := by
  unfold val_main_v69
  simp only [Host.dotGeneral]
  rw [Ideal.dotGeneral_apply, sum_contr2 dot_S8x64x128x128_S64x128x8x128_S8x128x128_12_03_3_1_0_2 64 128 rfl rfl rfl]
  have e : ∀ (q : Fin 64) (d : Fin 128),
      val_main_v68 (F := Ideal) x0 x1 (dot_S8x64x128x128_S64x128x8x128_S8x128x128_12_03_3_1_0_2.lhsIdx (ix3 h i j)
        ((contrEquiv2 dot_S8x64x128x128_S64x128x8x128_S8x128x128_12_03_3_1_0_2 64 128 rfl rfl rfl).symm (q, d)))
      * val_main_v46 (F := Ideal) x0 x2 x3 (dot_S8x64x128x128_S64x128x8x128_S8x128x128_12_03_3_1_0_2.rhsIdx (ix3 h i j)
        ((contrEquiv2 dot_S8x64x128x128_S64x128x8x128_S8x128x128_12_03_3_1_0_2 64 128 rfl rfl rfl).symm (q, d)))
      = ((ds (uC P q.val) (yC Y q.val) i (col h d) * vn g b (vC P q.val j) (col h d) : ℝ) : EReal) := fun q d => by
    rw [dot2_left h i j q d _ (contrEquiv2_symm_val0 _ _ _ _ _ _ _) (contrEquiv2_symm_val1 _ _ _ _ _ _ _),
      dot2_right h i j q d _ (contrEquiv2_symm_val0 _ _ _ _ _ _ _) (contrEquiv2_symm_val1 _ _ _ _ _ _ _), v68 H, v46 H, ← EReal.coe_mul]
    rfl
  simp only [e, ← coe_sum, Finset.sum_range]

theorem v72 (h : Fin 8) (i j : Fin 128) : val_main_v72 (F := Ideal) x0 x1 x2 x3 (ix3 h i j)
    = ((∑ q ∈ Finset.range 64, partW g b (uC P q) (vC P q) (yC Y q) h i j : ℝ) : EReal) := by
  show Scalar.select (val_main_v51_1 (F := Ideal) (ix3 h i j)) (val_main_v69 (F := Ideal) x0 x1 x2 x3 (ix3 h i j))
    (Ideal.ofBits .f32 0x00000000#32) = _
  rw [v51_1, v69 H, word_zero]
  show Scalar.select (if j.val ≤ i.val then 1#1 else 0#1) _ _ = _
  by_cases l : j ≤ i
  · rw [if_pos (show j.val ≤ i.val from l)]
    simp only [partW, if_pos l]; rfl
  · rw [if_neg (show ¬j.val ≤ i.val from l)]
    simp only [partW, if_neg l, Finset.sum_const_zero]; rfl

/-! ## Back through the mixing -/

omit H in
theorem dvn_col (u y : Fin 128 → Fin 1024 → ℝ) (j : Fin 128) (h : Fin 8) (d : Fin 128) :
    dvn w u y j (col h d) = ∑ i, wm w h i j * ds u y i (col h d) := by
  rw [dvn, head_col]

theorem v70 (i) : val_main_v70 (F := Ideal) x0 x1 x4 i
    = (dvn w (uC P (i 1).val) (yC Y (i 1).val) (i 3) (col (i 0) (i 2)) : EReal) := by
  rw [val_main_v70_apply]
  have e : ∀ k : Fin 128, val_main_v68 (F := Ideal) x0 x1 (lidx_main_v70 i k)
      = (ds (uC P (i 1).val) (yC Y (i 1).val) k (col (i 0) (i 2)) : EReal) := fun k => v68 H _
  have f : ∀ k : Fin 128, val_main_v51_0 (F := Ideal) x4 (ridx_main_v70 i k) = (wm w (i 0) k (i 3) : EReal) := fun k => v51_0 H _
  simp only [e, f, ← EReal.coe_mul, ← coe_sum]
  refine congrArg _ (Eq.trans (Finset.sum_congr rfl fun j _ => mul_comm _ _) (dvn_col _ _ (i 3) (i 0) (i 2)).symm)

theorem v73 (i) : val_main_v73 (F := Ideal) x0 x1 x4 i
    = (dvn w (uC P (run (i 0)).val) (yC Y (run (i 0)).val) (place (i 0)) (i 1) : EReal) := by
  rw [val_main_v73_apply, val_main_v71_apply, v70 H]
  have h := split_idx (i 0) (i 1)
  have a : idx_main_v73 i 0 = run (i 0) := Fin.ext h.1
  have d : idx_main_v73 i 1 = place (i 0) := Fin.ext h.2.1
  have e : col (idx_main_v73 i 2) (idx_main_v73 i 3) = i 1 := Fin.ext h.2.2
  show ((dvn w (uC P (idx_main_v73 i 0).val) (yC Y (idx_main_v73 i 0).val) (idx_main_v73 i 1)
    (col (idx_main_v73 i 2) (idx_main_v73 i 3)) : ℝ) : EReal) = _
  rw [a, d, e]

/-! ## The norm's scale and shift -/

theorem v75 (o : Fin 1) (k : Fin 1024) : val_main_v75 (F := Ideal) x0 x1 x4 (ix2 o k)
    = ((∑ q ∈ Finset.range 64, partS w (uC P q) (yC Y q) k : ℝ) : EReal) := by
  rw [val_main_v75_apply, val_main_v74_apply]
  have e : ∀ r : Fin 8192, val_main_v73 (F := Ideal) x0 x1 x4 (idx_main_v74 (idx_main_v75 (ix2 o k)) r)
      = (dvn w (uC P (run r).val) (yC Y (run r).val) (place r) k : EReal) := fun r => (v73 H _).trans (by
    refine congrArg (fun k => ((dvn w (uC P (run r).val) (yC Y (run r).val) (place r) k : ℝ) : EReal)) (Fin.ext ?_)
    show o.val * 1024 + k.val = k.val
    omega)
  have z : val_main_cst_14 (F := Ideal) (Shape.Idx.first h_S_) = ((0 : ℝ) : EReal) := word_zero
  simp only [e, z, ← coe_sum, ← EReal.coe_add, zero_add]
  rw [sum_rows]
  refine congrArg _ (Finset.sum_congr rfl fun q hq => Finset.sum_congr rfl fun i _ => ?_)
  have a := run_rowOf ⟨q, Finset.mem_range.mp hq⟩ i
  have d := place_rowOf ⟨q, Finset.mem_range.mp hq⟩ i
  rw [a, d]

theorem v78 (o : Fin 1) (k : Fin 1024) : val_main_v78 (F := Ideal) x0 x1 x4 (ix2 o k)
    = ((∑ q ∈ Finset.range 64, partG w (uC P q) (vC P q) (yC Y q) k : ℝ) : EReal) := by
  rw [val_main_v78_apply, val_main_v77_apply]
  have e : ∀ r : Fin 8192, val_main_v76 (F := Ideal) x0 x1 x4 (idx_main_v77 (idx_main_v78 (ix2 o k)) r)
      = ((dvn w (uC P (run r).val) (yC Y (run r).val) (place r) k * hat (Z P r) k : ℝ) : EReal) := fun r => by
    show val_main_v41 (F := Ideal) x0 _ * val_main_v73 (F := Ideal) x0 x1 x4 _ = _
    rw [v41 H, v73 H, ← EReal.coe_mul, mul_comm]
    refine congrArg (fun k => ((dvn w (uC P (run r).val) (yC Y (run r).val) (place r) k * hat (Z P r) k : ℝ) : EReal)) (Fin.ext ?_)
    show o.val * 1024 + k.val = k.val
    omega
  have z : val_main_cst_15 (F := Ideal) (Shape.Idx.first h_S_) = ((0 : ℝ) : EReal) := word_zero
  simp only [e, z, ← coe_sum, ← EReal.coe_add, zero_add]
  rw [sum_rows]
  refine congrArg _ (Finset.sum_congr rfl fun q hq => Finset.sum_congr rfl fun i _ => ?_)
  have a := run_rowOf ⟨q, Finset.mem_range.mp hq⟩ i
  have d := place_rowOf ⟨q, Finset.mem_range.mp hq⟩ i
  rw [a, d]; rfl

/-! ## Back through the norm -/

omit H in
theorem unit_sum (f : Fin 1 → EReal) : ∑ k, f k = f 0 := by simp

/-- The cotangent of the normalised row. -/
theorem v80 (i) : val_main_v80 (F := Ideal) x0 x1 x2 x4 i
    = ((dvn w (uC P (run (i 0)).val) (yC Y (run (i 0)).val) (place (i 0)) (i 1) * g (i 1) : ℝ) : EReal) := by
  show val_main_v73 (F := Ideal) x0 x1 x4 i * val_main_v79 (F := Ideal) x2 i = _
  rw [v73 H, val_main_v79_apply, H.g, ← EReal.coe_mul]; rfl

/-- The same as a row. -/
def T (P : Fin 8192 → Fin 10240 → ℝ) (Y : Fin 8192 → Fin 1024 → ℝ) (g : Fin 1024 → ℝ) (w : Fin 8 → Fin 128 → Fin 128 → ℝ)
    (r : Fin 8192) (k : Fin 1024) : ℝ := dvn w (uC P (run r).val) (yC Y (run r).val) (place r) k * g k

/-- The variance's share of the cotangent. -/
def E (P : Fin 8192 → Fin 10240 → ℝ) (Y : Fin 8192 → Fin 1024 → ℝ) (g : Fin 1024 → ℝ) (w : Fin 8 → Fin 128 → Fin 128 → ℝ)
    (r : Fin 8192) : ℝ :=
  (∑ j, cen (Z P r) j * T P Y g w r j) * (-(1 / 2) * (rstd (Z P r) * (1 / varE (Z P r)))) * (1 / 1024)

theorem v85 (i) : val_main_v85 (F := Ideal) x0 x1 x2 x4 i = ((T P Y g w (i 0) (i 1) * rstd (Z P (i 0)) : ℝ) : EReal) := by
  show val_main_v80 (F := Ideal) x0 x1 x2 x4 i * val_main_v84 (F := Ideal) x0 i = _
  rw [v80 H, val_main_v84_apply, v36 H, ← EReal.coe_mul]; rfl

theorem v91 (i) : val_main_v91 (F := Ideal) x0 x1 x2 x4 i = (E P Y g w (i 0) : EReal) := by
  show Ideal.div (val_main_v83 (F := Ideal) x0 x1 x2 x4 i * val_main_v39 (F := Ideal) x0 i) (Ideal.ofBits .f32 0x44800000#32) = _
  rw [div_1024, val_main_v83_apply, val_main_v82_apply, v39 H]
  have e : ∀ k, val_main_v81 (F := Ideal) x0 x1 x2 x4 (idx_main_v82 (idx_main_v83 i) k)
      = ((cen (Z P (i 0)) k * T P Y g w (i 0) k : ℝ) : EReal) := fun k => by
    show val_main_v33 (F := Ideal) x0 _ * val_main_v80 (F := Ideal) x0 x1 x2 x4 _ = _
    rw [v33 H, v80 H, ← EReal.coe_mul]
    refine congrArg (fun r => ((cen (Z P r) k * T P Y g w r k : ℝ) : EReal)) (Fin.ext ?_)
    have h1 : (i 1).val < 1 := (i 1).isLt
    show (i 0).val * 1 + (i 1).val = (i 0).val
    omega
  have z : val_main_cst_16 (F := Ideal) (Shape.Idx.first h_S_) = ((0 : ℝ) : EReal) := word_zero
  simp only [e, z, ← coe_sum, ← EReal.coe_add, ← EReal.coe_mul, zero_add]
  rfl

theorem v94 (i) : val_main_v94 (F := Ideal) x0 x1 x2 x4 i
    = ((E P Y g w (i 0) * (2 * cen (Z P (i 0)) (i 1)) : ℝ) : EReal) := by
  show val_main_v93 (F := Ideal) x0 x1 x2 x4 i * val_main_v27 (F := Ideal) x0 i = _
  rw [val_main_v93_apply, val_main_v92_apply, v27 H, unit_sum, v91 H]
  have z : val_main_cst_19 (F := Ideal) (Shape.Idx.first h_S_) = ((0 : ℝ) : EReal) := word_zero
  rw [z, ← EReal.coe_add, zero_add, ← EReal.coe_mul]; rfl

theorem v101 (i) : val_main_v101 (F := Ideal) x0 x1 x2 x4 i
    = (((∑ j, -(T P Y g w (i 0) j * rstd (Z P (i 0))) + ∑ j, -(E P Y g w (i 0) * (2 * cen (Z P (i 0)) j))) * (1 / 1024) : ℝ) : EReal) := by
  show Ideal.div (val_main_v89 (F := Ideal) x0 x1 x2 x4 i + val_main_v97 (F := Ideal) x0 x1 x2 x4 i) (Ideal.ofBits .f32 0x44800000#32) = _
  have h1 : (i 1).val < 1 := (i 1).isLt
  rw [div_1024, val_main_v89_apply, val_main_v88_apply, val_main_v97_apply, val_main_v96_apply]
  have e : ∀ k, val_main_v87 (F := Ideal) x0 x1 x2 x4 (idx_main_v88 (idx_main_v89 i) k)
      = ((-(T P Y g w (i 0) k * rstd (Z P (i 0))) : ℝ) : EReal) := fun k => by
    show -val_main_v85 (F := Ideal) x0 x1 x2 x4 _ = _
    rw [v85 H, ← EReal.coe_neg]
    refine congrArg (fun r => ((-(T P Y g w r k * rstd (Z P r)) : ℝ) : EReal)) (Fin.ext ?_)
    show (i 0).val * 1 + (i 1).val = (i 0).val
    omega
  have f : ∀ k, val_main_v95 (F := Ideal) x0 x1 x2 x4 (idx_main_v96 (idx_main_v97 i) k)
      = ((-(E P Y g w (i 0) * (2 * cen (Z P (i 0)) k)) : ℝ) : EReal) := fun k => by
    show -val_main_v94 (F := Ideal) x0 x1 x2 x4 _ = _
    rw [v94 H, ← EReal.coe_neg]
    refine congrArg (fun r => ((-(E P Y g w r * (2 * cen (Z P r) k)) : ℝ) : EReal)) (Fin.ext ?_)
    show (i 0).val * 1 + (i 1).val = (i 0).val
    omega
  have z : val_main_cst_17 (F := Ideal) (Shape.Idx.first h_S_) = ((0 : ℝ) : EReal) := word_zero
  have z' : val_main_cst_20 (F := Ideal) (Shape.Idx.first h_S_) = ((0 : ℝ) : EReal) := word_zero
  simp only [e, f, z, z', ← coe_sum, ← EReal.coe_add, ← EReal.coe_mul, zero_add]

theorem v104 (i) : val_main_v104 (F := Ideal) x0 x1 x2 x4 i = (lnBack (Z P (i 0)) (T P Y g w (i 0)) (i 1) : EReal) := by
  show val_main_v85 (F := Ideal) x0 x1 x2 x4 i + val_main_v94 (F := Ideal) x0 x1 x2 x4 i + val_main_v103 (F := Ideal) x0 x1 x2 x4 i = _
  rw [v85 H, v94 H, val_main_v103_apply, val_main_v102_apply, unit_sum, v101 H]
  have z : val_main_cst_22 (F := Ideal) (Shape.Idx.first h_S_) = ((0 : ℝ) : EReal) := word_zero
  rw [z, ← EReal.coe_add, ← EReal.coe_add, zero_add, ← EReal.coe_add]
  exact congrArg _ (lnBack_ref (Z P (i 0)) (T P Y g w (i 0)) (i 1))

/-! ## Back through GELU -/

theorem v116 (i) (t : ℝ) (h : val_main_v105 (F := Ideal) x0 x1 x2 x3 x4 x5 i = (t : EReal)) :
    val_main_v116 (F := Ideal) x0 x1 x2 x3 x4 x5 i = ((t * dgelu (P (i 0) (wide (i 1))) : ℝ) : EReal) := by
  show -(val_main_v109 (F := Ideal) i * (val_main_v3 (F := Ideal) x0 i * val_main_v105 (F := Ideal) x0 x1 x2 x3 x4 x5 i
        * val_main_v15 (F := Ideal) x0 i) * val_main_v111 (F := Ideal) i)
      + Ideal.ofBits .f32 0x3F000000#32 * (val_main_v105 (F := Ideal) x0 x1 x2 x3 x4 x5 i * val_main_v8 (F := Ideal) x0 i) = _
  rw [h, val_main_v109_apply, val_main_v111_apply, v12, v5, v3 H, v15 H, v8 H, word_half]
  simp only [← EReal.coe_mul, ← EReal.coe_neg, ← EReal.coe_add]
  rw [← dgelu_erfc (P (i 0) (wide (i 1))) t]
  congr 1; ring

theorem v105_left (r : Fin 8192) (k : Fin 1024) :
    val_main_v105 (F := Ideal) x0 x1 x2 x3 x4 x5 (ix2 r (⟨k.val, by omega⟩ : Fin 2048))
      = ((Y r k * sp g b w (fun i h => bs h i) (vC P (run r).val) (place r) k : ℝ) : EReal) := by
  unfold val_main_v105
  refine (concatenate_pair_apply_left (t := S8192x2048) (s₁ := S8192x1024) (s₂ := S8192x1024) 1 _ _ _ _ rfl (ix2 r k) (fun b => match b with
    | ⟨0, _⟩ => rfl
    | ⟨1, _⟩ => rfl)).trans ?_
  rw [v62 H]
  rfl

theorem v105_right (r : Fin 8192) (k : Fin 1024) :
    val_main_v105 (F := Ideal) x0 x1 x2 x3 x4 x5 (ix2 r (⟨1024 + k.val, by omega⟩ : Fin 2048))
      = (lnBack (Z P r) (T P Y g w r) k : EReal) := by
  unfold val_main_v105
  refine (concatenate_pair_apply_right (t := S8192x2048) (s₁ := S8192x1024) (s₂ := S8192x1024) 1 _ _ _ _ rfl rfl (ix2 r k) (fun b hb => match b with
    | ⟨0, _⟩ => rfl
    | ⟨1, _⟩ => absurd rfl hb) (Nat.add_comm _ _)).trans ?_
  rw [v104 H]
  rfl

theorem v119_left (q : Fin 64) (i : Fin 128) (k : Fin 1024) (x6) :
    val_main_v119 (F := Ideal) x0 x1 x2 x3 x4 x5 x6 (ix2 (rowOf q.val i) (colU k))
      = (gradU g b w (fun i h => bs h i) (uC P q.val) (vC P q.val) (yC Y q.val) i k : EReal) := by
  unfold val_main_v119
  refine (concatenate_pair_apply_left (t := S8192x10240) (s₁ := S8192x2048) (s₂ := S8192x8192) 1 _ _ _ _ rfl (ix2 (rowOf q.val i) (⟨k.val, by omega⟩ : Fin 2048)) (fun b => match b with
    | ⟨0, _⟩ => rfl
    | ⟨1, _⟩ => rfl)).trans ?_
  show val_main_v116 (F := Ideal) x0 x1 x2 x3 x4 x5 _ = _
  rw [v116 H _ _ (v105_left H _ k), run_rowOf, place_rowOf]
  rfl

theorem v119_right (q : Fin 64) (i : Fin 128) (k : Fin 1024) (x6) :
    val_main_v119 (F := Ideal) x0 x1 x2 x3 x4 x5 x6 (ix2 (rowOf q.val i) (colV k))
      = (gradV g w (uC P q.val) (vC P q.val) (yC Y q.val) i k : EReal) := by
  unfold val_main_v119
  refine (concatenate_pair_apply_left (t := S8192x10240) (s₁ := S8192x2048) (s₂ := S8192x8192) 1 _ _ _ _ rfl (ix2 (rowOf q.val i) (⟨1024 + k.val, by omega⟩ : Fin 2048)) (fun b => match b with
    | ⟨0, _⟩ => rfl
    | ⟨1, _⟩ => rfl)).trans ?_
  show val_main_v116 (F := Ideal) x0 x1 x2 x3 x4 x5 _ = _
  rw [v116 H _ _ (v105_right H _ k)]
  have e : T P Y g w (rowOf q.val i) = fun j => dvn w (uC P q.val) (yC Y q.val) i j * g j := by
    funext j; rw [T, run_rowOf, place_rowOf]
  rw [e]
  rfl

omit H in
theorem v119_rest (r : Fin 8192) (k : Fin 10240) (hk : 2048 ≤ k.val) (x6) :
    val_main_v119 (F := Ideal) x0 x1 x2 x3 x4 x5 x6 (ix2 r k) = x6 (ix2 r k) := by
  unfold val_main_v119
  refine (concatenate_pair_apply_right (t := S8192x10240) (s₁ := S8192x2048) (s₂ := S8192x8192) 1 _ _ _ (ix2 r k) rfl rfl (ix2 r (⟨k.val - 2048, by omega⟩ : Fin 8192)) (fun b hb => match b with
    | ⟨0, _⟩ => rfl
    | ⟨1, _⟩ => absurd rfl hb) (show k.val - 2048 + 2048 = k.val from Nat.sub_add_cancel hk)).trans ?_
  rw [val_main_v118_apply]
  refine congrArg _ (funext fun b => ?_)
  match b with
  | ⟨0, _⟩ => rfl
  | ⟨1, _⟩ => exact Fin.ext (show 2048 + (k.val - 2048) = k.val by omega)

end

end Cert.Gate.Ref

end
-- ==== Proof.Gate.Join.lean ====
module

public import proofs.«01_k».proof.Defs
public import proofs.«01_k».proof.Proof.Gate.Arrays
public import proofs.«01_k».proof.Proof.Gate.RefBackward

@[expose] public section

set_option maxRecDepth 16384

noncomputable section

namespace Cert.Gate

open Idealize.ShloMosaic Idealize.ShloMosaic.TcCoe
open Idealize.ShloMosaic.Pipeline (Dat)

/-- The shapes the precondition's constants are spread over. -/
theorem pre_facts : Cert.Pre_finite.Facts :=
  ⟨by decide, by decide, by decide, by decide, by decide⟩

theorem word_inf : Ideal.ofBits .f32 0x7F800000#32 = ⊤ := by simp [Ideal.ofBits, Ideal.ieee]
theorem word_inf16 : Ideal.ofBits .bf16 0x7F80#16 = ⊤ := by simp [Ideal.ofBits, Ideal.ieee]

/-- A value whose magnitude is below infinity is a real number. -/
theorem real_of (x : EReal) (h : Ideal.cmp .olt (max x (-x)) ⊤ = 1#1) : x = (x.toReal : EReal) := by
  have l : max x (-x) < ⊤ := by
    by_contra n
    simp [Ideal.cmp, n] at h
  refine (EReal.coe_toReal ?_ ?_).symm
  · rintro rfl; simp at l
  · rintro rfl; simp at l

/-- Two arrays that agree at every pair of coordinates are one. -/
theorem ext2 {a b : ℕ} {x y : (⟨2, ![a, b]⟩ : Shape).Idx → EReal} (h : ∀ i j, x (ix2 i j) = y (ix2 i j)) : x = y := by
  funext i
  have e : i = ix2 (i 0) (i 1) := by
    funext k
    match k with
    | ⟨0, _⟩ => rfl
    | ⟨1, _⟩ => rfl
  rw [e]; exact h _ _

theorem ext3 {a b d : ℕ} {x y : (⟨3, ![a, b, d]⟩ : Shape).Idx → EReal} (h : ∀ i j k, x (ix3 i j k) = y (ix3 i j k)) : x = y := by
  funext i
  have e : i = ix3 (i 0) (i 1) (i 2) := by
    funext k
    match k with
    | ⟨0, _⟩ => rfl
    | ⟨1, _⟩ => rfl
    | ⟨2, _⟩ => rfl
  rw [e]; exact h _ _ _

section

open Cert.KernelIdeal

variable (m : (ℓ : Loc nD τ sig) → Buf (Elt Ideal) ℓ)

/-- Under the precondition every array the gate reads holds real numbers. -/
theorem reals [Cert.Pre_finite.Facts] (h : Cert.Pre_KernelIdeal_finite m) (c : Dev nD) :
    ∃ P Y g b w bs, Holds m c P Y g b w bs ∧ Ref.Args (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) P Y g b w bs := by
  obtain ⟨h0, h1, h2, h3, h4, h5⟩ := h c
  have p : ∀ i, m ((c : Thread nD τ).loc main_arg0) i = _ := fun i => real_of _ (word_inf16 ▸ congrFun h0 i)
  have y : ∀ i, m ((c : Thread nD τ).loc main_arg1) i = _ := fun i => real_of _ (word_inf16 ▸ congrFun h1 i)
  have g : ∀ i, m ((c : Thread nD τ).loc main_arg2) i = _ := fun i => real_of _ (word_inf ▸ congrFun h2 i)
  have b : ∀ i, m ((c : Thread nD τ).loc main_arg3) i = _ := fun i => real_of _ (word_inf ▸ congrFun h3 i)
  have w : ∀ i, m ((c : Thread nD τ).loc main_arg4) i = _ := fun i => real_of _ (word_inf ▸ congrFun h4 i)
  have s : ∀ i, m ((c : Thread nD τ).loc main_arg5) i = _ := fun i => real_of _ (word_inf ▸ congrFun h5 i)
  have e2 : ∀ {a b : ℕ} (i : (⟨2, ![a, b]⟩ : Shape).Idx), i = ix2 (i 0) (i 1) := fun i => by
    funext k
    match k with
    | ⟨0, _⟩ => rfl
    | ⟨1, _⟩ => rfl
  have e1 : ∀ {a : ℕ} (i : (⟨2, ![1, a]⟩ : Shape).Idx), i = ix2 0 (i 1) := fun i => by
    funext k
    match k with
    | ⟨0, _⟩ => exact Subsingleton.elim (α := Fin 1) _ _
    | ⟨1, _⟩ => rfl
  have e3 : ∀ {a b d : ℕ} (i : (⟨3, ![a, b, d]⟩ : Shape).Idx), i = ix3 (i 0) (i 1) (i 2) := fun i => by
    funext k
    match k with
    | ⟨0, _⟩ => rfl
    | ⟨1, _⟩ => rfl
    | ⟨2, _⟩ => rfl
  let P : Fin 8192 → Fin 10240 → ℝ := fun r k => EReal.toReal (m ((c : Thread nD τ).loc main_arg0) (ix2 r k))
  let Y : Fin 8192 → Fin 1024 → ℝ := fun r k => EReal.toReal (m ((c : Thread nD τ).loc main_arg1) (ix2 r k))
  let G : Fin 1024 → ℝ := fun k => EReal.toReal (m ((c : Thread nD τ).loc main_arg2) (ix2 0 k))
  let B : Fin 1024 → ℝ := fun k => EReal.toReal (m ((c : Thread nD τ).loc main_arg3) (ix2 0 k))
  let W : Fin 8 → Fin 128 → Fin 128 → ℝ := fun h i j => EReal.toReal (m ((c : Thread nD τ).loc main_arg4) (ix3 h i j))
  let S : Fin 8 → Fin 128 → ℝ := fun h i => EReal.toReal (m ((c : Thread nD τ).loc main_arg5) (ix2 h i))
  refine ⟨P, Y, G, B, W, S, ⟨fun r k => p _, fun r k => y _, fun o k => ?_, fun o k => ?_, fun h i j => w _, fun h i => s _⟩,
    ⟨fun i => ?_, fun i => ?_, fun i => ?_, fun i => ?_, fun i => ?_, fun i => ?_⟩⟩
  · rw [Subsingleton.elim o 0]; exact g _
  · rw [Subsingleton.elim o 0]; exact b _
  · exact (p i).trans (congrArg (fun j => ((EReal.toReal (m ((c : Thread nD τ).loc main_arg0) j) : ℝ) : EReal)) (e2 i))
  · exact (y i).trans (congrArg (fun j => ((EReal.toReal (m ((c : Thread nD τ).loc main_arg1) j) : ℝ) : EReal)) (e2 i))
  · exact (g i).trans (congrArg (fun j => ((EReal.toReal (m ((c : Thread nD τ).loc main_arg2) j) : ℝ) : EReal)) (e1 i))
  · exact (b i).trans (congrArg (fun j => ((EReal.toReal (m ((c : Thread nD τ).loc main_arg3) j) : ℝ) : EReal)) (e1 i))
  · exact (w i).trans (congrArg (fun j => ((EReal.toReal (m ((c : Thread nD τ).loc main_arg4) j) : ℝ) : EReal)) (e3 i))
  · exact (s i).trans (congrArg (fun j => ((EReal.toReal (m ((c : Thread nD τ).loc main_arg5) j) : ℝ) : EReal)) (e2 i))

variable [Cert.Pre_finite.Facts] (h : Cert.Pre_KernelIdeal_finite m) (c : Dev nD)
include h

open Cert.KernelIdeal.Gen Cert.ReferenceIdeal.Read

/-- The cotangent of the projection. -/
theorem same7 : (dats m 0 c).arrAt 7 cfg0.N = val_main_v119 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) := by
  obtain ⟨P, Y, g, b, w, bs, H, R⟩ := reals m h c
  refine ext2 (a := 8192) (b := 10240) fun r k => ?_
  by_cases hk : 2048 ≤ k.val
  · exact (result7_rest (m := m) (c := c) r k hk).trans (Ref.v119_rest r k hk _).symm
  · rw [← Ref.rowOf_run r]
    by_cases hu : k.val < 1024
    · rw [show k = colU ⟨k.val, hu⟩ from rfl]
      exact (result7_left H _ _ _).trans (Ref.v119_left R _ _ _ _).symm
    · rw [show k = colV ⟨k.val - 1024, by omega⟩ from Fin.ext (by simp only [colV]; omega)]
      exact (result7_right H _ _ _).trans (Ref.v119_right R _ _ _ _).symm

/-- The gradient of the mixing matrices. -/
theorem same8 : (dats m 0 c).arrAt 8 cfg0.N = val_main_v72 (F := Ideal) (m ((c : Thread nD τ).loc main_arg0)) (m ((c : Thread nD τ).loc main_arg1))
    (m ((c : Thread nD τ).loc main_arg2)) (m ((c : Thread nD τ).loc main_arg3)) := by
  obtain ⟨P, Y, g, b, w, bs, H, R⟩ := reals m h c
  exact ext3 (a := 8) (b := 128) (d := 128) fun a i j => (result8 H a i j).trans (Ref.v72 R a i j).symm

/-- The gradient of the biases. -/
theorem same9 : (dats m 0 c).arrAt 9 cfg0.N = val_main_v120 (F := Ideal) (m ((c : Thread nD τ).loc main_arg0)) (m ((c : Thread nD τ).loc main_arg1)) := by
  obtain ⟨P, Y, g, b, w, bs, H, R⟩ := reals m h c
  exact ext2 (a := 128) (b := 8) fun i a => (result9 H i a).trans (Ref.v120 R i a).symm

/-- The gradient of the norm's scale. -/
theorem same10 : (dats m 0 c).arrAt 10 cfg0.N = val_main_v78 (F := Ideal) (m ((c : Thread nD τ).loc main_arg0)) (m ((c : Thread nD τ).loc main_arg1))
    (m ((c : Thread nD τ).loc main_arg4)) := by
  obtain ⟨P, Y, g, b, w, bs, H, R⟩ := reals m h c
  exact ext2 (a := 1) (b := 1024) fun o k => (result10 H o k).trans (Ref.v78 R o k).symm

/-- The gradient of the norm's shift. -/
theorem same11 : (dats m 0 c).arrAt 11 cfg0.N = val_main_v75 (F := Ideal) (m ((c : Thread nD τ).loc main_arg0)) (m ((c : Thread nD τ).loc main_arg1))
    (m ((c : Thread nD τ).loc main_arg4)) := by
  obtain ⟨P, Y, g, b, w, bs, H, R⟩ := reals m h c
  exact ext2 (a := 1) (b := 1024) fun o k => (result11 H o k).trans (Ref.v75 R o k).symm

end

end Cert.Gate

end
-- ==== Proof.Mat.Basic.lean ====
module

public import proofs.«01_k».proof.Proof.Gate.Basic
public import Idealize.ShloMosaic.Lib.Pipeline

@[expose] public section

noncomputable section

namespace Cert.Mat

open Idealize.ShloMosaic

theorem hz2 : (![0, 0] : Fin 2 → Nat) = fun _ => 0 := funext fun a => by fin_cases a <;> rfl

/-- A whole read of a staged block is the block. -/
theorem read_whole {sig : RefSig} {S : Shape} {e : EltTy} (a : Memref sig .tc .vmem S e) (h : a.IsWhole) (x : Vec Ideal S e)
    {off : Fin S.rank → Nat} (h0 : off = fun _ => 0) (inb : ∀ d, off d + S.size d ≤ S.size d) :
    View.readAt (Elt Ideal) a.view (Rect.unit off S.size inb).toLoadRect (h.unread x) = x := by
  rw [View.readAt_eq_ld, h.read_unread, View.ld_unit_zero (S := S) h0]

/-- A sum over 8192 rows is the sum over its two halves. -/
theorem sum_halves (f : Fin 8192 → EReal) :
    ∑ k, f k = (∑ k : Fin 4096, f ⟨k.val, by omega⟩) + ∑ k : Fin 4096, f ⟨4096 + k.val, by omega⟩ :=
  Fin.sum_univ_add (a := 4096) (b := 4096) f

/-- Two arrays that agree at every pair of coordinates are one. -/
theorem ext2 {a b : ℕ} {x y : (⟨2, ![a, b]⟩ : Shape).Idx → EReal} (h : ∀ i j, x (ix2 i j) = y (ix2 i j)) : x = y := by
  funext i
  have e : i = ix2 (i 0) (i 1) := by
    funext k
    match k with
    | ⟨0, _⟩ => rfl
    | ⟨1, _⟩ => rfl
  rw [e]; exact h _ _

/-- A sum over all rows, block by block. -/
theorem sum_blocks {A B N : ℕ} (hN : A * B = N) {M : Type} [AddCommMonoid M] (f : Fin N → M) (row : ℕ → Fin B → Fin N)
    (hrow : ∀ q, q < A → ∀ r, (row q r).val = B * q + r.val) :
    ∑ q ∈ Finset.range A, ∑ r, f (row q r) = ∑ i, f i := by
  subst hN
  rw [Finset.sum_range, ← finProdFinEquiv.sum_comp, Fintype.sum_prod_type]
  refine Finset.sum_congr rfl fun q _ => Finset.sum_congr rfl fun r _ => congrArg f (Fin.ext ?_)
  rw [hrow q.val q.isLt r]
  exact Nat.add_comm _ _

/-- An entry of an array of two axes, by row and column. -/
theorem entry2 {a b : ℕ} (x : (⟨2, ![a, b]⟩ : Shape).Idx → EReal) (i : (⟨2, ![a, b]⟩ : Shape).Idx) :
    x i = x (ix2 (i 0) (i 1)) := by
  refine congrArg x (funext fun k => ?_)
  match k with
  | ⟨0, _⟩ => rfl
  | ⟨1, _⟩ => rfl

/-- The same of an array with one row. -/
theorem entry1 {b : ℕ} (x : (⟨2, ![1, b]⟩ : Shape).Idx → EReal) (i : (⟨2, ![1, b]⟩ : Shape).Idx) : x i = x (ix2 0 (i 1)) := by
  refine (entry2 x i).trans (congrArg (fun r => x (ix2 r (i 1))) (Subsingleton.elim (α := Fin 1) _ _))

end Cert.Mat

end
-- ==== Proof.Mat.Gin.lean ====
/- The gradient of the input projection: the product of the transposed cotangent with the normed input, over two halves of the rows. -/
module

public import proofs.«01_k».proof.Defs
public import proofs.«01_k».proof.Proof.Mat.Basic
public import proofs.«01_k».proof.Proof.Gen.GinIdeal
public import proofs.«01_k».proof.Proof.Gen.GinIdeal.Value
public import proofs.«01_k».proof.Proof.Gen.GinRefIdeal.Run
public import proofs.«01_k».proof.Proof.Gen.GinRefIdeal.Read

@[expose] public section

set_option maxRecDepth 16384

noncomputable section

namespace Cert.Mat.Gin

open Idealize.ShloMosaic Idealize.ShloMosaic.TcCoe Cert.GinIdeal Cert.GinIdeal.Gen
open Idealize.ShloMosaic.Pipeline (Dat)
open Cert.Gate (word_zero)

section
variable {c : Dev nD} {i : grid0.Coords} {arg3 : Memref sig .tc .vmem S4096x1024 .bf16} {harg3 : arg3.IsWhole}
  {arg4 : Memref sig .tc .vmem S4096x1024 .bf16} {harg4 : arg4.IsWhole} {arg5 : Memref sig .tc .vmem S1024x1024 .bf16}
  {harg5 : arg5.IsWhole} {arg6 : Memref sig .tc .vmem S1024x1024 .f32} {harg6 : arg6.IsWhole}
  {x0 x1 : Vec Ideal S4096x1024 .bf16} {xs : Vec Ideal S1024x1024 .f32}

/-- The entries of the product of the left factor, read by columns, with the right. -/
def prod (x0 : Vec Ideal S8192x10240 .bf16) (x1 : Vec Ideal S8192x1024 .bf16) (A : Fin 10240) (B : Fin 1024) : EReal :=
  ∑ k : Fin 8192, x0 (ix2 k A) * x1 (ix2 k B)

/-- The product of two staged blocks. -/
theorem prod_eq (x0 x1 : Vec Ideal S4096x1024 .bf16) (a b : Fin 1024) :
    k0_pay1 x0 x1 (ix2 a b) = ∑ k : Fin 4096, x0 (ix2 k a) * x1 (ix2 k b) := by
  unfold k0_pay1
  pointwise [word_zero]
  exact zero_add _

/-- The first of two points leaves its product in the running sum. -/
theorem sout_A {h0 : cond0_0 i} {h1 : ¬cond0_1 i} {h2 : ¬cond0_2 i} (a b : Fin 1024) :
    sout0_A_0 c i arg3 harg3 arg4 harg4 arg5 harg5 arg6 harg6 h0 h1 h2 x0 x1 (ix2 a b)
      = ∑ k : Fin 4096, x0 (ix2 k a) * x1 (ix2 k b) := by
  unfold sout0_A_0
  rw [View.read_writes_eq_canon _ _ _ (scover0_A_0 c i arg3 harg3 arg4 harg4 arg5 harg5 arg6 harg6 h0 h1 h2 x0 x1)]
  unfold kernelRun0_A
  dsimp only
  rw [View.canon_cons_unit_zero (S := S1024x1024) hz2, read_whole arg3 harg3 x0 hz2, read_whole arg4 harg4 x1 hz2]
  unfold k0_pay2
  pointwise [prod_eq]

/-- The second of two points writes the running sum with its own product added. -/
theorem out_B {h0 : ¬cond0_0 i} {h1 : cond0_1 i} {h2 : cond0_2 i} (a b : Fin 1024) :
    out0_B_2 c i arg3 harg3 arg4 harg4 arg5 harg5 arg6 harg6 h0 h1 h2 x0 x1 xs (ix2 a b)
      = xs (ix2 a b) + ∑ k : Fin 4096, x0 (ix2 k a) * x1 (ix2 k b) := by
  unfold out0_B_2
  rw [View.read_writes_eq_canon _ _ _ (cover0_B_2 c i arg3 harg3 arg4 harg4 arg5 harg5 arg6 harg6 h0 h1 h2 x0 x1 xs)]
  unfold kernelRun0_B
  dsimp only
  rw [View.canon_cons_unit_zero (S := S1024x1024) hz2]
  unfold kernelRun0_B.sl.v12 k0_pay4 kernelRun0_B.sl.HS0_1
  rw [View.readCov_unit_zero (Val := Elt Ideal) (e := .f32) (S := S1024x1024) _ hz2 _ _]
  rw [read_whole arg3 harg3 x0 hz2, read_whole arg4 harg4 x1 hz2, read_whole arg6 harg6 xs hz2]
  unfold k0_pay3
  pointwise [prod_eq]

end

variable (m : (ℓ : Loc nD τ sig) → Buf (Elt Ideal) ℓ) (c : Dev nD)

theorem at0 : ∀ t : Fin grid0.N, win0_0.index t 0 = t.val % 2 ∧ win0_0.index t 1 = t.val / 2 := by decide +kernel
theorem at1 : ∀ t : Fin grid0.N, win0_1.index t 0 = t.val % 2 ∧ win0_1.index t 1 = 0 := by decide +kernel

/-- The left factor's block at a point. -/
theorem block0 (t : Fin cfg0.N) (k : Fin 4096) (a : Fin 1024) (K : Fin 8192) (A : Fin 10240)
    (hK : K.val = 4096 * (t.val % 2) + k.val) (hA : A.val = 1024 * (t.val / 2) + a.val) :
    iblk m c 0 t (ix2 k a) = m ((c : Thread nD τ).loc main_arg0) (ix2 K A) := by
  show V m c main_arg0 (((cfg0.win 0).blk t).view.emb (ix2 k a)) = _
  rw [V_main_arg0]
  refine congrArg (m ((c : Thread nD τ).loc main_arg0)) (funext fun d => Fin.ext ?_)
  fin_cases d
  · refine (win0_0.rect_emb_val t _ 0).trans ?_
    rw [(at0 t).1]; show t.val % 2 * 4096 + k.val = K.val; omega
  · refine (win0_0.rect_emb_val t _ 1).trans ?_
    rw [(at0 t).2]; show t.val / 2 * 1024 + a.val = A.val; omega

/-- The right factor's block at a point. -/
theorem block1 (t : Fin cfg0.N) (k : Fin 4096) (b : Fin 1024) (K : Fin 8192)
    (hK : K.val = 4096 * (t.val % 2) + k.val) :
    iblk m c 1 t (ix2 k b) = m ((c : Thread nD τ).loc main_arg1) (ix2 K b) := by
  show V m c main_arg1 (((cfg0.win 1).blk t).view.emb (ix2 k b)) = _
  rw [V_main_arg1]
  refine congrArg (m ((c : Thread nD τ).loc main_arg1)) (funext fun d => Fin.ext ?_)
  fin_cases d
  · refine (win0_1.rect_emb_val t _ 0).trans ?_
    rw [(at1 t).1]; show t.val % 2 * 4096 + k.val = K.val; omega
  · refine (win0_1.rect_emb_val t _ 1).trans ?_
    rw [(at1 t).2]; show 0 * 1024 + b.val = b.val; omega

/-- What the second of two points writes is the whole sum over the rows. -/
theorem written (t : Fin cfg0.N) (ht : t.val % 2 = 1) (a b : Fin 1024) (A : Fin 10240)
    (hA : A.val = 1024 * (t.val / 2) + a.val) :
    (outsAt0 m c t.val t.isLt).1 (ix2 a b)
      = prod (m ((c : Thread nD τ).loc main_arg0)) (m ((c : Thread nD τ).loc main_arg1)) A b := by
  rw [outsAt0_B m c t (by omega) ht ht]
  dsimp only
  refine (out_B a b).trans ?_
  have hp : t.val - 1 < cfg0.N := by have := t.isLt; omega
  rw [outsAt0_A m c ⟨t.val - 1, hp⟩ (by dsimp only; omega) (by dsimp only; omega) (by dsimp only; omega)]
  dsimp only
  unfold prod
  rw [sum_halves]
  refine congrArg₂ (· + ·) ((sout_A a b).trans ?_) ?_
  · refine Finset.sum_congr rfl fun k _ => ?_
    rw [block0 m c ⟨t.val - 1, hp⟩ k a ⟨k.val, by omega⟩ A (by dsimp only; omega) (by dsimp only; omega),
      block1 m c ⟨t.val - 1, hp⟩ k b ⟨k.val, by omega⟩ (by dsimp only; omega)]
  · refine Finset.sum_congr rfl fun k _ => ?_
    rw [block0 m c t k a ⟨4096 + k.val, by omega⟩ A (by dsimp only; omega) hA,
      block1 m c t k b ⟨4096 + k.val, by omega⟩ (by dsimp only; omega)]

/-- The array after the run. -/
theorem result (A : Fin 10240) (B : Fin 1024) :
    Value.G2 m c (ix2 A B)
      = prod (m ((c : Thread nD τ).loc main_arg0)) (m ((c : Thread nD τ).loc main_arg1)) A B := by
  have hN : cfg0.N = 20 := N_0
  have hp : Value.pt2Of (ix2 A B) = 2 * (A.val / 1024) + 1 := by
    show 2 * (1 * (A.val / 1024 - 0) + 1 * (B.val / 1024 - 0)) + 1 = _; omega
  have hl : Value.loc2Of (ix2 A B) = ix2 ⟨A.val % 1024, by omega⟩ B := by
    funext d; apply Fin.ext
    match d with
    | ⟨0, _⟩ => rfl
    | ⟨1, _⟩ => show B.val % 1024 = B.val; omega
  have hb : Value.pt2Of (ix2 A B) < cfg0.N := by rw [hp]; omega
  unfold Value.G2
  rw [dif_pos hb, ← Value.outsAt0_sweep m c _ hb, hl]
  exact written m c ⟨_, hb⟩ (by dsimp only; omega) _ _ A (by dsimp only; omega)

open Cert.GinRefIdeal.Read in
/-- The reference's result. -/
theorem reference (x0 : Vec Ideal S8192x10240 .bf16) (x1 : Vec Ideal S8192x1024 .bf16) (A : Fin 10240) (B : Fin 1024) :
    val_main_v8 (F := Ideal) x0 x1 (ix2 A B) = prod x0 x1 A B := by
  show val_main_v7 (F := Ideal) x0 x1 (ix2 A B) = _
  rw [val_main_v7_apply, val_main_v6_apply, val_main_v5_apply]
  refine Finset.sum_congr rfl fun k _ => congrArg₂ (· * ·) (congrArg x0 ?_) (congrArg x1 ?_)
  all_goals
    funext d
    match d with
    | ⟨0, _⟩ => rfl
    | ⟨1, _⟩ => rfl

/-- The kernel computes the gradient of the weight. -/
theorem algebraic : Cert.algebraic_GinIdeal_GinRefIdeal := fun m g m' g' _ agree => by
  refine ⟨fun c => Value.G2 m c, Value.run m g, ?_⟩
  refine (θ_run Cert.GinRefIdeal.defs _ _).mono (fun r h c => ?_) (Cert.GinRefIdeal.Value.run (F := Ideal) m' g')
  obtain ⟨h0, kept⟩ := h c
  obtain ⟨a0, a1⟩ := agree c
  refine ⟨h0.trans ?_, kept⟩
  rw [Cert.GinRefIdeal.Read.val_main_v8_eq, a0, a1]
  exact ext2 (a := 10240) (b := 1024) fun A B => (reference _ _ A B).trans (result m c A B).symm

end Cert.Mat.Gin
-- ==== Proof.Mat.Gdown.lean ====
/- The gradient of the second feed-forward weight: the product of the transposed activations with the cotangent, over two halves of the rows. -/
module

public import proofs.«01_k».proof.Defs
public import proofs.«01_k».proof.Proof.Mat.Basic
public import proofs.«01_k».proof.Proof.Gen.GdownIdeal
public import proofs.«01_k».proof.Proof.Gen.GdownIdeal.Value
public import proofs.«01_k».proof.Proof.Gen.GdownRefIdeal.Run
public import proofs.«01_k».proof.Proof.Gen.GdownRefIdeal.Read

@[expose] public section

set_option maxRecDepth 16384

noncomputable section

namespace Cert.Mat.Gdown

open Idealize.ShloMosaic Idealize.ShloMosaic.TcCoe Cert.GdownIdeal Cert.GdownIdeal.Gen
open Idealize.ShloMosaic.Pipeline (Dat)
open Cert.Gate (word_zero)

section
variable {c : Dev nD} {i : grid0.Coords} {arg3 : Memref sig .tc .vmem S4096x1024 .bf16} {harg3 : arg3.IsWhole}
  {arg4 : Memref sig .tc .vmem S4096x1024 .bf16} {harg4 : arg4.IsWhole} {arg5 : Memref sig .tc .vmem S1024x1024 .bf16}
  {harg5 : arg5.IsWhole} {arg6 : Memref sig .tc .vmem S1024x1024 .f32} {harg6 : arg6.IsWhole}
  {x0 x1 : Vec Ideal S4096x1024 .bf16} {xs : Vec Ideal S1024x1024 .f32}

/-- The entries of the product of the left factor, read by columns, with the right. -/
def prod (x0 : Vec Ideal S8192x4096 .bf16) (x1 : Vec Ideal S8192x1024 .bf16) (A : Fin 4096) (B : Fin 1024) : EReal :=
  ∑ k : Fin 8192, x0 (ix2 k A) * x1 (ix2 k B)

/-- The product of two staged blocks. -/
theorem prod_eq (x0 x1 : Vec Ideal S4096x1024 .bf16) (a b : Fin 1024) :
    k0_pay1 x0 x1 (ix2 a b) = ∑ k : Fin 4096, x0 (ix2 k a) * x1 (ix2 k b) := by
  unfold k0_pay1
  pointwise [word_zero]
  exact zero_add _

/-- The first of two points leaves its product in the running sum. -/
theorem sout_A {h0 : cond0_0 i} {h1 : ¬cond0_1 i} {h2 : ¬cond0_2 i} (a b : Fin 1024) :
    sout0_A_0 c i arg3 harg3 arg4 harg4 arg5 harg5 arg6 harg6 h0 h1 h2 x0 x1 (ix2 a b)
      = ∑ k : Fin 4096, x0 (ix2 k a) * x1 (ix2 k b) := by
  unfold sout0_A_0
  rw [View.read_writes_eq_canon _ _ _ (scover0_A_0 c i arg3 harg3 arg4 harg4 arg5 harg5 arg6 harg6 h0 h1 h2 x0 x1)]
  unfold kernelRun0_A
  dsimp only
  rw [View.canon_cons_unit_zero (S := S1024x1024) hz2, read_whole arg3 harg3 x0 hz2, read_whole arg4 harg4 x1 hz2]
  unfold k0_pay2
  pointwise [prod_eq]

/-- The second of two points writes the running sum with its own product added. -/
theorem out_B {h0 : ¬cond0_0 i} {h1 : cond0_1 i} {h2 : cond0_2 i} (a b : Fin 1024) :
    out0_B_2 c i arg3 harg3 arg4 harg4 arg5 harg5 arg6 harg6 h0 h1 h2 x0 x1 xs (ix2 a b)
      = xs (ix2 a b) + ∑ k : Fin 4096, x0 (ix2 k a) * x1 (ix2 k b) := by
  unfold out0_B_2
  rw [View.read_writes_eq_canon _ _ _ (cover0_B_2 c i arg3 harg3 arg4 harg4 arg5 harg5 arg6 harg6 h0 h1 h2 x0 x1 xs)]
  unfold kernelRun0_B
  dsimp only
  rw [View.canon_cons_unit_zero (S := S1024x1024) hz2]
  unfold kernelRun0_B.sl.v12 k0_pay4 kernelRun0_B.sl.HS0_1
  rw [View.readCov_unit_zero (Val := Elt Ideal) (e := .f32) (S := S1024x1024) _ hz2 _ _]
  rw [read_whole arg3 harg3 x0 hz2, read_whole arg4 harg4 x1 hz2, read_whole arg6 harg6 xs hz2]
  unfold k0_pay3
  pointwise [prod_eq]

end

variable (m : (ℓ : Loc nD τ sig) → Buf (Elt Ideal) ℓ) (c : Dev nD)

theorem at0 : ∀ t : Fin grid0.N, win0_0.index t 0 = t.val % 2 ∧ win0_0.index t 1 = t.val / 2 := by decide +kernel
theorem at1 : ∀ t : Fin grid0.N, win0_1.index t 0 = t.val % 2 ∧ win0_1.index t 1 = 0 := by decide +kernel

/-- The left factor's block at a point. -/
theorem block0 (t : Fin cfg0.N) (k : Fin 4096) (a : Fin 1024) (K : Fin 8192) (A : Fin 4096)
    (hK : K.val = 4096 * (t.val % 2) + k.val) (hA : A.val = 1024 * (t.val / 2) + a.val) :
    iblk m c 0 t (ix2 k a) = m ((c : Thread nD τ).loc main_arg0) (ix2 K A) := by
  show V m c main_arg0 (((cfg0.win 0).blk t).view.emb (ix2 k a)) = _
  rw [V_main_arg0]
  refine congrArg (m ((c : Thread nD τ).loc main_arg0)) (funext fun d => Fin.ext ?_)
  fin_cases d
  · refine (win0_0.rect_emb_val t _ 0).trans ?_
    rw [(at0 t).1]; show t.val % 2 * 4096 + k.val = K.val; omega
  · refine (win0_0.rect_emb_val t _ 1).trans ?_
    rw [(at0 t).2]; show t.val / 2 * 1024 + a.val = A.val; omega

/-- The right factor's block at a point. -/
theorem block1 (t : Fin cfg0.N) (k : Fin 4096) (b : Fin 1024) (K : Fin 8192)
    (hK : K.val = 4096 * (t.val % 2) + k.val) :
    iblk m c 1 t (ix2 k b) = m ((c : Thread nD τ).loc main_arg1) (ix2 K b) := by
  show V m c main_arg1 (((cfg0.win 1).blk t).view.emb (ix2 k b)) = _
  rw [V_main_arg1]
  refine congrArg (m ((c : Thread nD τ).loc main_arg1)) (funext fun d => Fin.ext ?_)
  fin_cases d
  · refine (win0_1.rect_emb_val t _ 0).trans ?_
    rw [(at1 t).1]; show t.val % 2 * 4096 + k.val = K.val; omega
  · refine (win0_1.rect_emb_val t _ 1).trans ?_
    rw [(at1 t).2]; show 0 * 1024 + b.val = b.val; omega

/-- What the second of two points writes is the whole sum over the rows. -/
theorem written (t : Fin cfg0.N) (ht : t.val % 2 = 1) (a b : Fin 1024) (A : Fin 4096)
    (hA : A.val = 1024 * (t.val / 2) + a.val) :
    (outsAt0 m c t.val t.isLt).1 (ix2 a b)
      = prod (m ((c : Thread nD τ).loc main_arg0)) (m ((c : Thread nD τ).loc main_arg1)) A b := by
  rw [outsAt0_B m c t (by omega) ht ht]
  dsimp only
  refine (out_B a b).trans ?_
  have hp : t.val - 1 < cfg0.N := by have := t.isLt; omega
  rw [outsAt0_A m c ⟨t.val - 1, hp⟩ (by dsimp only; omega) (by dsimp only; omega) (by dsimp only; omega)]
  dsimp only
  unfold prod
  rw [sum_halves]
  refine congrArg₂ (· + ·) ((sout_A a b).trans ?_) ?_
  · refine Finset.sum_congr rfl fun k _ => ?_
    rw [block0 m c ⟨t.val - 1, hp⟩ k a ⟨k.val, by omega⟩ A (by dsimp only; omega) (by dsimp only; omega),
      block1 m c ⟨t.val - 1, hp⟩ k b ⟨k.val, by omega⟩ (by dsimp only; omega)]
  · refine Finset.sum_congr rfl fun k _ => ?_
    rw [block0 m c t k a ⟨4096 + k.val, by omega⟩ A (by dsimp only; omega) hA,
      block1 m c t k b ⟨4096 + k.val, by omega⟩ (by dsimp only; omega)]

/-- The array after the run. -/
theorem result (A : Fin 4096) (B : Fin 1024) :
    Value.G2 m c (ix2 A B)
      = prod (m ((c : Thread nD τ).loc main_arg0)) (m ((c : Thread nD τ).loc main_arg1)) A B := by
  have hN : cfg0.N = 8 := N_0
  have hp : Value.pt2Of (ix2 A B) = 2 * (A.val / 1024) + 1 := by
    show 2 * (1 * (A.val / 1024 - 0) + 1 * (B.val / 1024 - 0)) + 1 = _; omega
  have hl : Value.loc2Of (ix2 A B) = ix2 ⟨A.val % 1024, by omega⟩ B := by
    funext d; apply Fin.ext
    match d with
    | ⟨0, _⟩ => rfl
    | ⟨1, _⟩ => show B.val % 1024 = B.val; omega
  have hb : Value.pt2Of (ix2 A B) < cfg0.N := by rw [hp]; omega
  unfold Value.G2
  rw [dif_pos hb, ← Value.outsAt0_sweep m c _ hb, hl]
  exact written m c ⟨_, hb⟩ (by dsimp only; omega) _ _ A (by dsimp only; omega)

open Cert.GdownRefIdeal.Read in
/-- The reference's result. -/
theorem reference (x0 : Vec Ideal S8192x4096 .bf16) (x1 : Vec Ideal S8192x1024 .bf16) (A : Fin 4096) (B : Fin 1024) :
    val_main_v6 (F := Ideal) x0 x1 (ix2 A B) = prod x0 x1 A B := by
  show val_main_v5 (F := Ideal) x0 x1 (ix2 A B) = _
  rw [val_main_v5_apply, val_main_v4_apply]
  refine Finset.sum_congr rfl fun k _ => (mul_comm _ _).trans (congrArg₂ (· * ·) (congrArg x0 ?_) (congrArg x1 ?_))
  all_goals
    funext d
    match d with
    | ⟨0, _⟩ => rfl
    | ⟨1, _⟩ => rfl

/-- The kernel computes the gradient of the weight. -/
theorem algebraic : Cert.algebraic_GdownIdeal_GdownRefIdeal := fun m g m' g' _ agree => by
  refine ⟨fun c => Value.G2 m c, Value.run m g, ?_⟩
  refine (θ_run Cert.GdownRefIdeal.defs _ _).mono (fun r h c => ?_) (Cert.GdownRefIdeal.Value.run (F := Ideal) m' g')
  obtain ⟨h0, kept⟩ := h c
  obtain ⟨a0, a1⟩ := agree c
  refine ⟨h0.trans ?_, kept⟩
  rw [Cert.GdownRefIdeal.Read.val_main_v6_eq, a0, a1]
  exact ext2 (a := 4096) (b := 1024) fun A B => (reference _ _ A B).trans (result m c A B).symm

end Cert.Mat.Gdown
-- ==== Proof.Mat.Gup.lean ====
/- The gradient of the first feed-forward weight: the product of the transposed normed input with the cotangent, over two halves of the rows. -/
module

public import proofs.«01_k».proof.Defs
public import proofs.«01_k».proof.Proof.Mat.Basic
public import proofs.«01_k».proof.Proof.Gen.GupIdeal
public import proofs.«01_k».proof.Proof.Gen.GupIdeal.Value
public import proofs.«01_k».proof.Proof.Gen.GupRefIdeal.Run
public import proofs.«01_k».proof.Proof.Gen.GupRefIdeal.Read

@[expose] public section

set_option maxRecDepth 16384

noncomputable section

namespace Cert.Mat.Gup

open Idealize.ShloMosaic Idealize.ShloMosaic.TcCoe Cert.GupIdeal Cert.GupIdeal.Gen
open Idealize.ShloMosaic.Pipeline (Dat)
open Cert.Gate (word_zero)

section
variable {c : Dev nD} {i : grid0.Coords} {arg3 : Memref sig .tc .vmem S4096x1024 .bf16} {harg3 : arg3.IsWhole}
  {arg4 : Memref sig .tc .vmem S4096x1024 .bf16} {harg4 : arg4.IsWhole} {arg5 : Memref sig .tc .vmem S1024x1024 .bf16}
  {harg5 : arg5.IsWhole} {arg6 : Memref sig .tc .vmem S1024x1024 .f32} {harg6 : arg6.IsWhole}
  {x0 x1 : Vec Ideal S4096x1024 .bf16} {xs : Vec Ideal S1024x1024 .f32}

/-- The entries of the product of the left factor, read by columns, with the right. -/
def prod (x0 : Vec Ideal S8192x1024 .bf16) (x1 : Vec Ideal S8192x4096 .bf16) (A : Fin 1024) (B : Fin 4096) : EReal :=
  ∑ k : Fin 8192, x0 (ix2 k A) * x1 (ix2 k B)

/-- The product of two staged blocks. -/
theorem prod_eq (x0 x1 : Vec Ideal S4096x1024 .bf16) (a b : Fin 1024) :
    k0_pay1 x0 x1 (ix2 a b) = ∑ k : Fin 4096, x0 (ix2 k a) * x1 (ix2 k b) := by
  unfold k0_pay1
  pointwise [word_zero]
  exact zero_add _

/-- The first of two points leaves its product in the running sum. -/
theorem sout_A {h0 : cond0_0 i} {h1 : ¬cond0_1 i} {h2 : ¬cond0_2 i} (a b : Fin 1024) :
    sout0_A_0 c i arg3 harg3 arg4 harg4 arg5 harg5 arg6 harg6 h0 h1 h2 x0 x1 (ix2 a b)
      = ∑ k : Fin 4096, x0 (ix2 k a) * x1 (ix2 k b) := by
  unfold sout0_A_0
  rw [View.read_writes_eq_canon _ _ _ (scover0_A_0 c i arg3 harg3 arg4 harg4 arg5 harg5 arg6 harg6 h0 h1 h2 x0 x1)]
  unfold kernelRun0_A
  dsimp only
  rw [View.canon_cons_unit_zero (S := S1024x1024) hz2, read_whole arg3 harg3 x0 hz2, read_whole arg4 harg4 x1 hz2]
  unfold k0_pay2
  pointwise [prod_eq]

/-- The second of two points writes the running sum with its own product added. -/
theorem out_B {h0 : ¬cond0_0 i} {h1 : cond0_1 i} {h2 : cond0_2 i} (a b : Fin 1024) :
    out0_B_2 c i arg3 harg3 arg4 harg4 arg5 harg5 arg6 harg6 h0 h1 h2 x0 x1 xs (ix2 a b)
      = xs (ix2 a b) + ∑ k : Fin 4096, x0 (ix2 k a) * x1 (ix2 k b) := by
  unfold out0_B_2
  rw [View.read_writes_eq_canon _ _ _ (cover0_B_2 c i arg3 harg3 arg4 harg4 arg5 harg5 arg6 harg6 h0 h1 h2 x0 x1 xs)]
  unfold kernelRun0_B
  dsimp only
  rw [View.canon_cons_unit_zero (S := S1024x1024) hz2]
  unfold kernelRun0_B.sl.v12 k0_pay4 kernelRun0_B.sl.HS0_1
  rw [View.readCov_unit_zero (Val := Elt Ideal) (e := .f32) (S := S1024x1024) _ hz2 _ _]
  rw [read_whole arg3 harg3 x0 hz2, read_whole arg4 harg4 x1 hz2, read_whole arg6 harg6 xs hz2]
  unfold k0_pay3
  pointwise [prod_eq]

end

variable (m : (ℓ : Loc nD τ sig) → Buf (Elt Ideal) ℓ) (c : Dev nD)

theorem at0 : ∀ t : Fin grid0.N, win0_0.index t 0 = t.val % 2 ∧ win0_0.index t 1 = 0 := by decide +kernel
theorem at1 : ∀ t : Fin grid0.N, win0_1.index t 0 = t.val % 2 ∧ win0_1.index t 1 = t.val / 2 := by decide +kernel

/-- The left factor's block at a point. -/
theorem block0 (t : Fin cfg0.N) (k : Fin 4096) (a : Fin 1024) (K : Fin 8192)
    (hK : K.val = 4096 * (t.val % 2) + k.val) :
    iblk m c 0 t (ix2 k a) = m ((c : Thread nD τ).loc main_arg0) (ix2 K a) := by
  show V m c main_arg0 (((cfg0.win 0).blk t).view.emb (ix2 k a)) = _
  rw [V_main_arg0]
  refine congrArg (m ((c : Thread nD τ).loc main_arg0)) (funext fun d => Fin.ext ?_)
  fin_cases d
  · refine (win0_0.rect_emb_val t _ 0).trans ?_
    rw [(at0 t).1]; show t.val % 2 * 4096 + k.val = K.val; omega
  · refine (win0_0.rect_emb_val t _ 1).trans ?_
    rw [(at0 t).2]; show 0 * 1024 + a.val = a.val; omega

/-- The right factor's block at a point. -/
theorem block1 (t : Fin cfg0.N) (k : Fin 4096) (b : Fin 1024) (K : Fin 8192) (B : Fin 4096)
    (hK : K.val = 4096 * (t.val % 2) + k.val) (hB : B.val = 1024 * (t.val / 2) + b.val) :
    iblk m c 1 t (ix2 k b) = m ((c : Thread nD τ).loc main_arg1) (ix2 K B) := by
  show V m c main_arg1 (((cfg0.win 1).blk t).view.emb (ix2 k b)) = _
  rw [V_main_arg1]
  refine congrArg (m ((c : Thread nD τ).loc main_arg1)) (funext fun d => Fin.ext ?_)
  fin_cases d
  · refine (win0_1.rect_emb_val t _ 0).trans ?_
    rw [(at1 t).1]; show t.val % 2 * 4096 + k.val = K.val; omega
  · refine (win0_1.rect_emb_val t _ 1).trans ?_
    rw [(at1 t).2]; show t.val / 2 * 1024 + b.val = B.val; omega

/-- What the second of two points writes is the whole sum over the rows. -/
theorem written (t : Fin cfg0.N) (ht : t.val % 2 = 1) (a b : Fin 1024) (B : Fin 4096)
    (hB : B.val = 1024 * (t.val / 2) + b.val) :
    (outsAt0 m c t.val t.isLt).1 (ix2 a b)
      = prod (m ((c : Thread nD τ).loc main_arg0)) (m ((c : Thread nD τ).loc main_arg1)) a B := by
  rw [outsAt0_B m c t (by omega) ht ht]
  dsimp only
  refine (out_B a b).trans ?_
  have hp : t.val - 1 < cfg0.N := by have := t.isLt; omega
  rw [outsAt0_A m c ⟨t.val - 1, hp⟩ (by dsimp only; omega) (by dsimp only; omega) (by dsimp only; omega)]
  dsimp only
  unfold prod
  rw [sum_halves]
  refine congrArg₂ (· + ·) ((sout_A a b).trans ?_) ?_
  · refine Finset.sum_congr rfl fun k _ => ?_
    rw [block0 m c ⟨t.val - 1, hp⟩ k a ⟨k.val, by omega⟩ (by dsimp only; omega),
      block1 m c ⟨t.val - 1, hp⟩ k b ⟨k.val, by omega⟩ B (by dsimp only; omega) (by dsimp only; omega)]
  · refine Finset.sum_congr rfl fun k _ => ?_
    rw [block0 m c t k a ⟨4096 + k.val, by omega⟩ (by dsimp only; omega),
      block1 m c t k b ⟨4096 + k.val, by omega⟩ B (by dsimp only; omega) hB]

/-- The array after the run. -/
theorem result (A : Fin 1024) (B : Fin 4096) :
    Value.G2 m c (ix2 A B)
      = prod (m ((c : Thread nD τ).loc main_arg0)) (m ((c : Thread nD τ).loc main_arg1)) A B := by
  have hN : cfg0.N = 8 := N_0
  have hp : Value.pt2Of (ix2 A B) = 2 * (B.val / 1024) + 1 := by
    show 2 * (4 * (A.val / 1024 - 0) + 1 * (B.val / 1024 - 0)) + 1 = _; omega
  have hl : Value.loc2Of (ix2 A B) = ix2 A ⟨B.val % 1024, by omega⟩ := by
    funext d; apply Fin.ext
    match d with
    | ⟨0, _⟩ => show A.val % 1024 = A.val; omega
    | ⟨1, _⟩ => rfl
  have hb : Value.pt2Of (ix2 A B) < cfg0.N := by rw [hp]; omega
  unfold Value.G2
  rw [dif_pos hb, ← Value.outsAt0_sweep m c _ hb, hl]
  exact written m c ⟨_, hb⟩ (by dsimp only; omega) _ _ B (by dsimp only; omega)

open Cert.GupRefIdeal.Read in
/-- The reference's result. -/
theorem reference (x0 : Vec Ideal S8192x1024 .bf16) (x1 : Vec Ideal S8192x4096 .bf16) (A : Fin 1024) (B : Fin 4096) :
    val_main_v6 (F := Ideal) x0 x1 (ix2 A B) = prod x0 x1 A B := by
  show val_main_v5 (F := Ideal) x0 x1 (ix2 A B) = _
  rw [val_main_v5_apply, val_main_v4_apply]
  refine Finset.sum_congr rfl fun k _ => (mul_comm _ _).trans (congrArg₂ (· * ·) (congrArg x0 ?_) (congrArg x1 ?_))
  all_goals
    funext d
    match d with
    | ⟨0, _⟩ => rfl
    | ⟨1, _⟩ => rfl

/-- The kernel computes the gradient of the weight. -/
theorem algebraic : Cert.algebraic_GupIdeal_GupRefIdeal := fun m g m' g' _ agree => by
  refine ⟨fun c => Value.G2 m c, Value.run m g, ?_⟩
  refine (θ_run Cert.GupRefIdeal.defs _ _).mono (fun r h c => ?_) (Cert.GupRefIdeal.Value.run (F := Ideal) m' g')
  obtain ⟨h0, kept⟩ := h c
  obtain ⟨a0, a1⟩ := agree c
  refine ⟨h0.trans ?_, kept⟩
  rw [Cert.GupRefIdeal.Read.val_main_v6_eq, a0, a1]
  exact ext2 (a := 1024) (b := 4096) fun A B => (reference _ _ A B).trans (result m c A B).symm

end Cert.Mat.Gup
-- ==== Proof.Mat.Norm.lean ====
/- The norm by the root mean square over the extended real numbers, and the pullback through it in the two forms it is
written in. -/
module

public import proofs.«01_k».proof.Proof.Mat.Basic

@[expose] public section

noncomputable section

namespace Cert.Mat

open Idealize.ShloMosaic
open Cert.Gate (eps eps_pos word_1024 word_neg_half word_eps word_zero coe_sum)

/-- The mean of a row of 1024 entries. -/
def avg (f : Fin 1024 → EReal) : EReal := (∑ k, f k) * ((1 / 1024 : ℝ) : EReal)

/-- The mean square of a row, plus the small number of the norm. -/
def ms (z : Fin 1024 → EReal) : EReal := avg (fun k => z k * z k) + (eps : EReal)

/-- One over its root. -/
def rs (z : Fin 1024 → EReal) : EReal := Ideal.rsqrt (ms z)

/-- The cotangent of a row from the cotangent `d` of its normed and scaled row. -/
def rmsBack (z g d : Fin 1024 → EReal) (k : Fin 1024) : EReal :=
  rs z * (d k * g k - z k * rs z * avg (fun j => d j * g j * (z j * rs z)))

/-- The derivative of the norm's root, times a sum over the row. -/
def slope (z : Fin 1024 → EReal) (s : EReal) : EReal :=
  s * (((-(1 / 2) : ℝ) : EReal) * Ideal.div (rs z) (ms z)) * ((1 / 1024 : ℝ) : EReal)

/-- A row of real numbers has a positive real root, and the quotient is its cube. -/
theorem rs_real (z : Fin 1024 → EReal) (h : ∀ k, ∃ x : ℝ, z k = x) :
    ∃ r : ℝ, 0 ≤ r ∧ rs z = r ∧ Ideal.div (rs z) (ms z) = ((r * r * r : ℝ) : EReal) := by
  choose x hx using h
  have hm : 0 < (∑ k, x k * x k) * (1 / 1024) + eps := by
    have := eps_pos
    have : 0 ≤ ∑ k, x k * x k := Finset.sum_nonneg fun k _ => mul_self_nonneg _
    positivity
  obtain ⟨M, hM⟩ : ∃ M, M = (∑ k, x k * x k) * (1 / 1024) + eps := ⟨_, rfl⟩
  rw [← hM] at hm
  have e : ms z = (M : EReal) := by
    simp only [ms, avg, hx, ← EReal.coe_mul, ← coe_sum, ← EReal.coe_add, hM]
  have f : rs z = ((Real.sqrt M)⁻¹ : ℝ) := by
    rw [rs, e, Ideal.rsqrt_coe, if_neg (not_lt.mpr hm.le), if_neg hm.ne']
  have q : (Real.sqrt M)⁻¹ * (Real.sqrt M)⁻¹ = 1 / M := by
    rw [← mul_inv, Real.mul_self_sqrt hm.le, one_div]
  refine ⟨(Real.sqrt M)⁻¹, inv_nonneg.mpr (Real.sqrt_nonneg _), f, ?_⟩
  rw [e, f, Ideal.div_coe hm.ne', ← EReal.coe_mul, ← q]
  exact congrArg _ (mul_assoc _ _ _).symm

/-- A row with an infinite entry has an infinite mean square and the root zero. -/
theorem rs_top (z : Fin 1024 → EReal) (k : Fin 1024) (h : z k = ⊤ ∨ z k = ⊥) :
    rs z = 0 ∧ Ideal.div (rs z) (ms z) = 0 := by
  have hk : z k * z k = ⊤ := by rcases h with h | h <;> rw [h] <;> decide
  have hs : ∑ j, z j * z j = ⊤ := by
    refine top_unique ?_
    rw [← hk]
    refine Finset.single_le_sum (f := fun j => z j * z j) (fun j _ => ?_) (Finset.mem_univ k)
    induction z j with
    | bot => decide
    | top => decide
    | coe x => rw [← EReal.coe_mul]; exact_mod_cast mul_self_nonneg x
  have hm : ms z = ⊤ := by
    rw [ms, avg, hs, EReal.top_mul_coe_of_pos (by norm_num), EReal.top_add_coe]
  have hr : rs z = 0 := by rw [rs, hm]; rfl
  refine ⟨hr, ?_⟩
  rw [hr, hm]
  simp [Ideal.div]

/-- A factor that is a nonnegative real number goes into a sum. -/
theorem sum_mul_real {ι : Type} (s : Finset ι) (f : ι → EReal) {r : ℝ} (h : 0 ≤ r) : ∑ j ∈ s, f j * r = (∑ j ∈ s, f j) * r := by
  classical
  induction s using Finset.induction_on with
  | empty => simp
  | insert a s ha ih =>
    rw [Finset.sum_insert ha, Finset.sum_insert ha, ih,
      EReal.right_distrib_of_nonneg_of_ne_top (by exact_mod_cast h) (EReal.coe_ne_top r)]

theorem twice (x : EReal) : x + x = x * ((2 : ℝ) : EReal) := by
  induction x with
  | bot => rw [EReal.bot_mul_coe_of_pos (by norm_num)]; rfl
  | top => rw [EReal.top_mul_coe_of_pos (by norm_num)]; rfl
  | coe x => rw [← EReal.coe_add, ← EReal.coe_mul, mul_two]

/-- The pullback as the derivative of the square, of the mean and of the root give it. -/
theorem rmsBack_ref (z g d : Fin 1024 → EReal) (k : Fin 1024) (e : EReal) :
    e + d k * g k * rs z + z k * slope z (∑ j, z j * (d j * g j)) + slope z (∑ j, z j * (d j * g j)) * z k
      = rmsBack z g d k + e := by
  by_cases hz : ∀ k, ∃ x : ℝ, z k = x
  · obtain ⟨r, hr, h1, h2⟩ := rs_real z hz
    obtain ⟨x, hx⟩ := hz k
    have ha : avg (fun j => d j * g j * (z j * rs z)) = (∑ j, z j * (d j * g j)) * r * ((1 / 1024 : ℝ) : EReal) := by
      rw [avg, h1, ← sum_mul_real _ _ hr]
      exact congrArg (· * _) (Finset.sum_congr rfl fun j _ => by ac_rfl)
    rw [slope, rmsBack, ha, h2, h1, hx]
    generalize ∑ j, z j * (d j * g j) = s
    generalize d k * g k = a
    have hl : (x : EReal) * (s * (((-(1 / 2) : ℝ) : EReal) * ((r * r * r : ℝ) : EReal)) * ((1 / 1024 : ℝ) : EReal))
        = s * ((x * (-(1 / 2) * (r * r * r)) * (1 / 1024) : ℝ) : EReal) := by
      push_cast; ac_rfl
    have hR : (r : EReal) * -((x : EReal) * r * (s * r * ((1 / 1024 : ℝ) : EReal)))
        = s * ((x * (-(1 / 2) * (r * r * r)) * (1 / 1024) : ℝ) : EReal) * ((2 : ℝ) : EReal) := by
      have : x * (-(1 / 2) * (r * r * r)) * (1 / 1024) * 2 = -(x * (r * r * r) * (1 / 1024)) := by ring
      have h3 : ((x * (-(1 / 2) * (r * r * r)) * (1 / 1024) : ℝ) : EReal) * ((2 : ℝ) : EReal)
          = -((x * (r * r * r) * (1 / 1024) : ℝ) : EReal) := by
        rw [← EReal.coe_mul, this, EReal.coe_neg]
      rw [mul_assoc s _ ((2 : ℝ) : EReal), h3, mul_neg, mul_neg]
      push_cast
      exact congrArg _ (by ac_rfl)
    rw [mul_comm _ (x : EReal), hl, add_assoc, twice, sub_eq_add_neg,
      EReal.left_distrib_of_nonneg_of_ne_top (by exact_mod_cast hr) (EReal.coe_ne_top r), hR, mul_comm (r : EReal) a]
    ac_rfl
  · obtain ⟨j, hj⟩ := not_forall.mp hz
    have hj : z j = ⊤ ∨ z j = ⊥ := by
      revert hj
      induction z j with
      | bot => exact fun _ => .inr rfl
      | top => exact fun _ => .inl rfl
      | coe x => exact fun h => absurd ⟨x, rfl⟩ h
    obtain ⟨h1, h2⟩ := rs_top z j hj
    rw [slope, rmsBack, h2, h1]
    simp

theorem zero_word : Ideal.ofBits .f32 0x00000000#32 = 0 := word_zero

theorem div_1024 (t : EReal) : Ideal.div t (Ideal.ofBits .f32 0x44800000#32) = t * ((1 / 1024 : ℝ) : EReal) := by
  rw [word_1024]; exact Ideal.div_coe (by norm_num) t

end Cert.Mat

end
-- ==== Proof.Mat.DmlpTile.lean ====
/- What one point of the feed-forward's input gradient computes from its staged blocks. -/
module

public import proofs.«01_k».proof.Proof.Mat.Norm
public import proofs.«01_k».proof.Proof.Gen.DmlpIdeal.Frame

@[expose] public section

set_option maxRecDepth 16384

noncomputable section

namespace Cert.Mat.Dmlp

open Idealize.ShloMosaic Idealize.ShloMosaic.TcCoe Cert.DmlpIdeal Cert.DmlpIdeal.Gen
open Cert.Gate (eps word_1024 word_eps)

/-- The first four staged blocks of a point hold these numbers. -/
structure Tile (U : Fin 512 → Fin 4096 → EReal) (W : Fin 1024 → Fin 4096 → EReal) (X : Fin 512 → Fin 1024 → EReal) (g : Fin 1024 → EReal)
    (x0 : Vec Ideal S512x4096 .bf16) (x1 : Vec Ideal S1024x4096 .bf16)
    (x2 : Vec Ideal S512x1024 .f32) (x3 : Vec Ideal S1x1024 .f32) : Prop where
  u : ∀ r k, x0 (ix2 r k) = (U r k : EReal)
  w : ∀ d k, x1 (ix2 d k) = (W d k : EReal)
  x : ∀ r k, x2 (ix2 r k) = (X r k : EReal)
  g : ∀ o k, x3 (ix2 o k) = (g k : EReal)

variable {U : Fin 512 → Fin 4096 → EReal} {W : Fin 1024 → Fin 4096 → EReal} {X : Fin 512 → Fin 1024 → EReal} {g : Fin 1024 → EReal}
    {x0 : Vec Ideal S512x4096 .bf16} {x1 : Vec Ideal S1024x4096 .bf16}
    {x2 : Vec Ideal S512x1024 .f32} {x3 : Vec Ideal S1x1024 .f32} {x4 : Vec Ideal S512x1024 .f32}
    (T : Tile U W X g x0 x1 x2 x3)

/-- A row of the cotangent behind the projection. -/
def back {n : ℕ} (U : Fin n → Fin 4096 → EReal) (W : Fin 1024 → Fin 4096 → EReal) (r : Fin n) (d : Fin 1024) : EReal := ∑ k, U r k * W d k

section
include T

theorem pay3_eq (r : Fin 512) (d : Fin 1024) : k0_pay3 x0 x1 (ix2 r d) = (back U W r d : EReal) := by
  unfold k0_pay3
  pointwise [zero_word]
  simp only [T.u, T.w, zero_add]
  rfl

theorem pay4_eq (r : Fin 512) (o : Fin 1) : k0_pay4 x2 (ix2 r o) = (rs (X r) : EReal) := by
  unfold k0_pay4
  pointwise [zero_word, word_eps]
  simp only [T.x, zero_add, div_1024]
  rfl

theorem pay5_eq (r : Fin 512) (k : Fin 1024) : k0_pay5 x2 (ix2 r k) = (X r k * rs (X r)) := by
  unfold k0_pay5
  pointwise
  rw [pay4_eq T, T.x]

theorem pay6_eq (o : Fin 1) (k : Fin 1024) :
    k0_pay6 x0 x1 x2 (ix2 o k) = (∑ r, back U W r k * (X r k * rs (X r))) := by
  unfold k0_pay6
  pointwise [zero_word]
  simp only [pay3_eq T, pay5_eq T, zero_add]

theorem pay7_eq (r : Fin 512) (k : Fin 1024) :
    k0_pay7 x0 x1 x2 x3 x4 (ix2 r k) = (rmsBack (X r) g (back U W r) k) + x4 (ix2 r k) := by
  unfold k0_pay7
  pointwise [zero_word]
  simp only [pay3_eq T, pay4_eq T, pay5_eq T, T.g, zero_add, div_1024]
  rfl

end

end Cert.Mat.Dmlp

end
-- ==== Proof.Mat.DmlpOuts.lean ====
/- What one point of the feed-forward's input gradient leaves in its result blocks. -/
module

public import proofs.«01_k».proof.Proof.Mat.DmlpTile

@[expose] public section

set_option maxRecDepth 16384

noncomputable section

namespace Cert.Mat.Dmlp

open Idealize.ShloMosaic Idealize.ShloMosaic.TcCoe Cert.DmlpIdeal Cert.DmlpIdeal.Gen

variable {c : Dev nD} {i : grid0.Coords}
  {a3 : Memref sig .tc .vmem S512x4096 .bf16} {p3 : a3.IsWhole} {a4 : Memref sig .tc .vmem S1024x4096 .bf16} {p4 : a4.IsWhole}
  {a5 : Memref sig .tc .vmem S512x1024 .f32} {p5 : a5.IsWhole} {a6 : Memref sig .tc .vmem S1x1024 .f32} {p6 : a6.IsWhole}
  {a7 : Memref sig .tc .vmem S512x1024 .f32} {p7 : a7.IsWhole} {a8 : Memref sig .tc .vmem S512x1024 .f32} {p8 : a8.IsWhole}
  {a9 : Memref sig .tc .vmem S512x1024 .bf16} {p9 : a9.IsWhole} {a10 : Memref sig .tc .vmem S1x1024 .f32} {p10 : a10.IsWhole}
variable {U : Fin 512 → Fin 4096 → EReal} {W : Fin 1024 → Fin 4096 → EReal} {X : Fin 512 → Fin 1024 → EReal} {g : Fin 1024 → EReal}
    {x0 : Vec Ideal S512x4096 .bf16} {x1 : Vec Ideal S1024x4096 .bf16}
    {x2 : Vec Ideal S512x1024 .f32} {x3 : Vec Ideal S1x1024 .f32} {x4 : Vec Ideal S512x1024 .f32} {xo : Vec Ideal S1x1024 .f32}
    (T : Tile U W X g x0 x1 x2 x3)
include T

theorem out_A_5 {hc : cond0_0 i} (r : Fin 512) (k : Fin 1024) :
    out0_A_5 c i a3 p3 a4 p4 a5 p5 a6 p6 a7 p7 a8 p8 a9 p9 a10 p10 hc x0 x1 x2 x3 x4 (ix2 r k)
      = (rmsBack (X r) g (back U W r) k) + x4 (ix2 r k) := by
  unfold out0_A_5
  rw [View.read_writes_eq_canon _ _ _ (cover0_A_5 c i a3 p3 a4 p4 a5 p5 a6 p6 a7 p7 a8 p8 a9 p9 a10 p10 hc x0 x1 x2 x3 x4)]
  unfold kernelRun0_A
  dsimp only
  rw [View.canon_unit_zero (S := S512x1024) hz2]
  rw [read_whole a3 p3 x0 hz2, read_whole a4 p4 x1 hz2, read_whole a5 p5 x2 hz2, read_whole a6 p6 x3 hz2, read_whole a7 p7 x4 hz2]
  exact pay7_eq T r k

theorem out_A_6 {hc : cond0_0 i} (r : Fin 512) (k : Fin 1024) :
    out0_A_6 c i a3 p3 a4 p4 a5 p5 a6 p6 a7 p7 a8 p8 a9 p9 a10 p10 hc x0 x1 x2 x3 x4 (ix2 r k)
      = (rmsBack (X r) g (back U W r) k) + x4 (ix2 r k) := by
  unfold out0_A_6
  rw [View.read_writes_eq_canon _ _ _ (cover0_A_6 c i a3 p3 a4 p4 a5 p5 a6 p6 a7 p7 a8 p8 a9 p9 a10 p10 hc x0 x1 x2 x3 x4)]
  unfold kernelRun0_A
  dsimp only
  rw [View.canon_unit_zero (S := S512x1024) hz2]
  unfold kernelRun0_A.sl.r_1
  rw [read_whole a3 p3 x0 hz2, read_whole a4 p4 x1 hz2, read_whole a5 p5 x2 hz2, read_whole a6 p6 x3 hz2, read_whole a7 p7 x4 hz2]
  exact pay7_eq T r k

theorem out_B_5 {hc : ¬cond0_0 i} (r : Fin 512) (k : Fin 1024) :
    out0_B_5 c i a3 p3 a4 p4 a5 p5 a6 p6 a7 p7 a8 p8 a9 p9 a10 p10 hc x0 x1 x2 x3 x4 xo (ix2 r k)
      = (rmsBack (X r) g (back U W r) k) + x4 (ix2 r k) := by
  unfold out0_B_5
  rw [View.read_writes_eq_canon _ _ _ (cover0_B_5 c i a3 p3 a4 p4 a5 p5 a6 p6 a7 p7 a8 p8 a9 p9 a10 p10 hc x0 x1 x2 x3 x4 xo)]
  unfold kernelRun0_B
  dsimp only
  rw [View.canon_unit_zero (S := S512x1024) hz2]
  rw [read_whole a3 p3 x0 hz2, read_whole a4 p4 x1 hz2, read_whole a5 p5 x2 hz2, read_whole a6 p6 x3 hz2, read_whole a7 p7 x4 hz2]
  exact pay7_eq T r k

theorem out_B_6 {hc : ¬cond0_0 i} (r : Fin 512) (k : Fin 1024) :
    out0_B_6 c i a3 p3 a4 p4 a5 p5 a6 p6 a7 p7 a8 p8 a9 p9 a10 p10 hc x0 x1 x2 x3 x4 xo (ix2 r k)
      = (rmsBack (X r) g (back U W r) k) + x4 (ix2 r k) := by
  unfold out0_B_6
  rw [View.read_writes_eq_canon _ _ _ (cover0_B_6 c i a3 p3 a4 p4 a5 p5 a6 p6 a7 p7 a8 p8 a9 p9 a10 p10 hc x0 x1 x2 x3 x4 xo)]
  unfold kernelRun0_B
  dsimp only
  rw [View.canon_unit_zero (S := S512x1024) hz2]
  unfold kernelRun0_B.sl.r_1
  rw [read_whole a3 p3 x0 hz2, read_whole a4 p4 x1 hz2, read_whole a5 p5 x2 hz2, read_whole a6 p6 x3 hz2, read_whole a7 p7 x4 hz2]
  exact pay7_eq T r k

theorem out_A_7 {hc : cond0_0 i} (o : Fin 1) (k : Fin 1024) :
    out0_A_7 c i a3 p3 a4 p4 a5 p5 a6 p6 a7 p7 a8 p8 a9 p9 a10 p10 hc x0 x1 x2 x3 x4 (ix2 o k)
      = (∑ r, back U W r k * (X r k * rs (X r))) := by
  unfold out0_A_7
  rw [View.read_writes_eq_canon _ _ _ (cover0_A_7 c i a3 p3 a4 p4 a5 p5 a6 p6 a7 p7 a8 p8 a9 p9 a10 p10 hc x0 x1 x2 x3 x4)]
  unfold kernelRun0_A
  dsimp only
  rw [View.canon_cons_unit_zero (S := S1x1024) hz2]
  unfold kernelRun0_A.sl.r kernelRun0_A.sl.v38 kernelRun0_A.sl.H7_1
  rw [read_whole a3 p3 x0 hz2, read_whole a4 p4 x1 hz2, read_whole a5 p5 x2 hz2]
  rw [View.readCov_unit_zero (Val := Elt Ideal) (e := .f32) (S := S1x1024) _ hz2 _ _]
  unfold k0_pay2 k0_pay1
  pointwise [zero_word]
  rw [pay6_eq T]

theorem out_B_7 {hc : ¬cond0_0 i} (A : Fin 1024 → EReal) (hA : ∀ o k, xo (ix2 o k) = (A k : EReal)) (o : Fin 1) (k : Fin 1024) :
    out0_B_7 c i a3 p3 a4 p4 a5 p5 a6 p6 a7 p7 a8 p8 a9 p9 a10 p10 hc x0 x1 x2 x3 x4 xo (ix2 o k)
      = (A k + ∑ r, back U W r k * (X r k * rs (X r))) := by
  unfold out0_B_7
  rw [View.read_writes_eq_canon _ _ _ (cover0_B_7 c i a3 p3 a4 p4 a5 p5 a6 p6 a7 p7 a8 p8 a9 p9 a10 p10 hc x0 x1 x2 x3 x4 xo)]
  unfold kernelRun0_B
  dsimp only
  rw [View.canon_unit_zero (S := S1x1024) hz2]
  unfold kernelRun0_B.sl.r
  rw [read_whole a3 p3 x0 hz2, read_whole a4 p4 x1 hz2, read_whole a5 p5 x2 hz2, read_whole a10 p10 xo hz2]
  unfold k0_pay2
  pointwise
  rw [pay6_eq T, hA]

end Cert.Mat.Dmlp

end
-- ==== Proof.Mat.DmlpRef.lean ====
/- What the plain reference of the feed-forward's input gradient computes, stage by stage. -/
module

public import proofs.«01_k».proof.Proof.Mat.DmlpTile
public import proofs.«01_k».proof.Proof.Gen.DmlpRefIdeal.Read

@[expose] public section

set_option maxRecDepth 16384

noncomputable section

namespace Cert.Mat.Dmlp.Ref

open Idealize.ShloMosaic Idealize.ShloMosaic.TcCoe Cert.DmlpRefIdeal Cert.DmlpRefIdeal.Gen Cert.DmlpRefIdeal.Read
open Cert.Gate (eps word_1024 word_neg_half word_eps)

/-- The first four arguments hold these numbers. -/
structure Args (x0 : Vec Ideal S8192x4096 .bf16) (x1 : Vec Ideal S1024x4096 .bf16) (x2 : Vec Ideal S8192x1024 .f32)
    (x3 : Vec Ideal S1x1024 .f32) (U : Fin 8192 → Fin 4096 → EReal) (W : Fin 1024 → Fin 4096 → EReal) (X : Fin 8192 → Fin 1024 → EReal)
    (g : Fin 1024 → EReal) : Prop where
  u : ∀ i, x0 i = (U (i 0) (i 1) : EReal)
  w : ∀ i, x1 i = (W (i 0) (i 1) : EReal)
  x : ∀ i, x2 i = (X (i 0) (i 1) : EReal)
  g : ∀ i, x3 i = (g (i 1) : EReal)

variable {x0 : Vec Ideal S8192x4096 .bf16} {x1 : Vec Ideal S1024x4096 .bf16} {x2 : Vec Ideal S8192x1024 .f32}
    {x3 : Vec Ideal S1x1024 .f32} {x4 : Vec Ideal S8192x1024 .f32} {U : Fin 8192 → Fin 4096 → EReal} {W : Fin 1024 → Fin 4096 → EReal}
    {X : Fin 8192 → Fin 1024 → EReal} {g : Fin 1024 → EReal} (H : Args x0 x1 x2 x3 U W X g)
include H

theorem v1 (i) : val_main_v1 (F := Ideal) x2 i = (∑ k, X (i 0) k * X (i 0) k) := by
  have e : ∀ k, val_main_v0 (F := Ideal) x2 (idx_main_v1 i k) = (X (i 0) k * X (i 0) k) := fun k => by
    show x2 _ * x2 _ = _
    rw [H.x]; rfl
  have z : val_main_cst (F := Ideal) (Shape.Idx.first h_S_) = (0 : EReal) := zero_word
  rw [val_main_v1_apply]
  simp only [e, z, zero_add]

theorem v6 (i) : val_main_v6 (F := Ideal) x2 i = (ms (X (i 0)) : EReal) := by
  show Ideal.div (val_main_v2 (F := Ideal) x2 i) (Ideal.ofBits .f32 0x44800000#32) + Ideal.ofBits .f32 0x358637BD#32 = _
  rw [div_1024, word_eps, val_main_v2_apply, v1 H]; rfl

theorem v7 (i) : val_main_v7 (F := Ideal) x2 i = (rs (X (i 0)) : EReal) := by
  show Ideal.rsqrt (val_main_v6 (F := Ideal) x2 i) = _
  rw [v6 H] <;> rfl

theorem v10 (i) : val_main_v10 (F := Ideal) x2 i = ((-(1 / 2) : ℝ) : EReal) * Ideal.div (rs (X (i 0))) (ms (X (i 0))) := by
  show Ideal.ofBits .f32 0xBF000000#32 * Ideal.div (val_main_v7 (F := Ideal) x2 i) (val_main_v6 (F := Ideal) x2 i) = _
  rw [word_neg_half, v7 H, v6 H]

theorem v12 (i) : val_main_v12 (F := Ideal) x2 i = (X (i 0) (i 1) * rs (X (i 0))) := by
  show x2 i * val_main_v11 (F := Ideal) x2 i = _
  rw [val_main_v11_apply, v7 H, H.x]; rfl

theorem v18 (i) : val_main_v18 (F := Ideal) x0 x1 i = (back U W (i 0) (i 1) : EReal) := by
  have e : ∀ k, val_main_v17 (F := Ideal) x0 (lidx_main_v18 i k) = (U (i 0) k : EReal) := fun k => H.u _
  have f : ∀ k, val_main_v15 (F := Ideal) x1 (ridx_main_v18 i k) = (W (i 1) k : EReal) := fun k => H.w _
  rw [val_main_v18_apply]
  simp only [e, f]; rfl

theorem v19 (i) : val_main_v19 (F := Ideal) x0 x1 x2 i = (X (i 0) (i 1) * rs (X (i 0)) * back U W (i 0) (i 1)) := by
  show val_main_v12 (F := Ideal) x2 i * val_main_v18 (F := Ideal) x0 x1 i = _
  rw [v12 H, v18 H]

/-- The gradient of the norm's scale. -/
theorem v21 (o : Fin 1) (k : Fin 1024) : val_main_v21 (F := Ideal) x0 x1 x2 (ix2 o k)
    = (∑ r, back U W r k * (X r k * rs (X r))) := by
  have e : ∀ r, val_main_v19 (F := Ideal) x0 x1 x2 (idx_main_v20 (idx_main_v21 (ix2 o k)) r)
      = (back U W r k * (X r k * rs (X r))) := fun r => by
    have h : idx_main_v20 (idx_main_v21 (ix2 o k)) r 1 = k := Fin.ext (by
      have := o.isLt; show o.val * 1024 + k.val = k.val; omega)
    rw [v19 H, mul_comm, h]; rfl
  have z : val_main_cst_3 (F := Ideal) (Shape.Idx.first h_S_) = (0 : EReal) := zero_word
  rw [val_main_v21_apply, val_main_v20_apply]
  simp only [e, z, zero_add]

theorem v23 (i) : val_main_v23 (F := Ideal) x0 x1 x3 i = (back U W (i 0) (i 1) * g (i 1)) := by
  show val_main_v18 (F := Ideal) x0 x1 i * val_main_v22 (F := Ideal) x3 i = _
  rw [v18 H, val_main_v22_apply, H.g]; rfl

theorem v25 (i) : val_main_v25 (F := Ideal) x0 x1 x2 x3 i = (∑ k, X (i 0) k * (back U W (i 0) k * g k)) := by
  have e : ∀ k, val_main_v24 (F := Ideal) x0 x1 x2 x3 (idx_main_v25 i k) = (X (i 0) k * (back U W (i 0) k * g k)) :=
    fun k => by
      show x2 _ * val_main_v23 (F := Ideal) x0 x1 x3 _ = _
      rw [H.x, v23 H]; rfl
  have z : val_main_cst_4 (F := Ideal) (Shape.Idx.first h_S_) = (0 : EReal) := zero_word
  rw [val_main_v25_apply]
  simp only [e, z, zero_add]

/-- A row's share of the derivative of the norm's root. -/
def share (X : Fin 8192 → Fin 1024 → EReal) (B : Fin 8192 → Fin 1024 → EReal) (g : Fin 1024 → EReal) (r : Fin 8192) : EReal :=
  slope (X r) (∑ k, X r k * (B r k * g k))

theorem v32 (i) : val_main_v32 (F := Ideal) x0 x1 x2 x3 i = (share X (back U W) g (i 0) : EReal) := by
  show Ideal.div (val_main_v26 (F := Ideal) x0 x1 x2 x3 i * val_main_v10 (F := Ideal) x2 i) (Ideal.ofBits .f32 0x44800000#32) = _
  have h : idx_main_v26 i 0 = i 0 := Fin.ext (by
    have : (i 1).val < 1 := (i 1).isLt
    show (i 0).val * 1 + (i 1).val = (i 0).val; omega)
  rw [div_1024, val_main_v26_apply, v25 H, v10 H, h]; rfl

theorem v34 (i) : val_main_v34 (F := Ideal) x0 x1 x2 x3 i = (share X (back U W) g (i 0) : EReal) := by
  have e : ∀ k, val_main_v32 (F := Ideal) x0 x1 x2 x3 (idx_main_v33 (idx_main_v34 i) k) = (share X (back U W) g (i 0) : EReal) :=
    fun k => v32 H _
  have z : val_main_cst_6 (F := Ideal) (Shape.Idx.first h_S_) = (0 : EReal) := zero_word
  rw [val_main_v34_apply, val_main_v33_apply]
  simp only [e, z, zero_add, Fin.sum_univ_one]

theorem v28 (i) : val_main_v28 (F := Ideal) x0 x1 x2 x3 i = (back U W (i 0) (i 1) * g (i 1) * rs (X (i 0))) := by
  show val_main_v23 (F := Ideal) x0 x1 x3 i * val_main_v27 (F := Ideal) x2 i = _
  rw [v23 H, val_main_v27_apply, v7 H]; rfl

/-- The gradient of the rows. -/
theorem v38 (i) : val_main_v38 (F := Ideal) x0 x1 x2 x3 x4 i
    = (rmsBack (X (i 0)) g (back U W (i 0)) (i 1) : EReal) + x4 i := by
  show x4 i + val_main_v28 (F := Ideal) x0 x1 x2 x3 i + x2 i * val_main_v34 (F := Ideal) x0 x1 x2 x3 i
    + val_main_v34 (F := Ideal) x0 x1 x2 x3 i * x2 i = _
  rw [v28 H, v34 H, H.x]
  exact rmsBack_ref (X (i 0)) g (back U W (i 0)) (i 1) (x4 i)

end Cert.Mat.Dmlp.Ref

end
-- ==== Proof.Mat.Dmlp.lean ====
/- The feed-forward's input gradient, over all points: the arrays the kernel leaves are the reference's. -/
module

public import proofs.«01_k».proof.Defs
public import proofs.«01_k».proof.Proof.Mat.DmlpOuts
public import proofs.«01_k».proof.Proof.Mat.DmlpRef
public import proofs.«01_k».proof.Proof.Gen.DmlpIdeal
public import proofs.«01_k».proof.Proof.Gen.DmlpIdeal.Value
public import proofs.«01_k».proof.Proof.Gen.DmlpRefIdeal.Run
public import proofs.«01_k».proof.Proof.Gate.Join

@[expose] public section

set_option maxRecDepth 16384

noncomputable section

namespace Cert.Mat.Dmlp

open Idealize.ShloMosaic Idealize.ShloMosaic.TcCoe Cert.DmlpIdeal Cert.DmlpIdeal.Gen
open Idealize.ShloMosaic.Pipeline (Dat)

variable (m : (ℓ : Loc nD τ sig) → Buf (Elt Ideal) ℓ) (c : Dev nD)

/-- The arrays the kernel reads hold these numbers. -/
abbrev Holds (U : Fin 8192 → Fin 4096 → EReal) (W : Fin 1024 → Fin 4096 → EReal) (X : Fin 8192 → Fin 1024 → EReal) (g : Fin 1024 → EReal) : Prop :=
  Ref.Args (m ((c : Thread nD τ).loc main_arg0)) (m ((c : Thread nD τ).loc main_arg1)) (m ((c : Thread nD τ).loc main_arg2))
    (m ((c : Thread nD τ).loc main_arg3)) U W X g

/-- A row of a block of 512 rows. -/
def row (n : ℕ) (r : Fin 512) : Fin 8192 := ⟨(512 * n + r.val) % 8192, by omega⟩

theorem at0 : ∀ t : Fin grid0.N, win0_0.index t 0 = t.val ∧ win0_0.index t 1 = 0 := by decide +kernel
theorem at1 : ∀ t : Fin grid0.N, win0_1.index t 0 = 0 ∧ win0_1.index t 1 = 0 := by decide +kernel
theorem at2 : ∀ t : Fin grid0.N, win0_2.index t 0 = t.val ∧ win0_2.index t 1 = 0 := by decide +kernel
theorem at3 : ∀ t : Fin grid0.N, win0_3.index t 0 = 0 ∧ win0_3.index t 1 = 0 := by decide +kernel
theorem at4 : ∀ t : Fin grid0.N, win0_4.index t 0 = t.val ∧ win0_4.index t 1 = 0 := by decide +kernel
theorem at5 : ∀ t : Fin grid0.N, win0_5.index t 0 = t.val ∧ win0_5.index t 1 = 0 := by decide +kernel
theorem at6 : ∀ t : Fin grid0.N, win0_6.index t 0 = t.val ∧ win0_6.index t 1 = 0 := by decide +kernel
theorem at7 : ∀ t : Fin grid0.N, win0_7.index t 0 = 0 ∧ win0_7.index t 1 = 0 := by decide +kernel

theorem block0 (t : Fin cfg0.N) (r : Fin 512) (k : Fin 4096) :
    iblk m c 0 t (ix2 r k) = m ((c : Thread nD τ).loc main_arg0) (ix2 (row t.val r) k) := by
  show V m c main_arg0 (((cfg0.win 0).blk t).view.emb (ix2 r k)) = _
  rw [V_main_arg0]
  refine congrArg (m ((c : Thread nD τ).loc main_arg0)) (funext fun d => Fin.ext ?_)
  fin_cases d
  · refine (win0_0.rect_emb_val t _ 0).trans ?_
    have := t.isLt; have hN : cfg0.N = 16 := N_0
    rw [(at0 t).1]; show t.val * 512 + r.val = (512 * t.val + r.val) % 8192; omega
  · refine (win0_0.rect_emb_val t _ 1).trans ?_
    rw [(at0 t).2]; show 0 * 4096 + k.val = k.val; omega

theorem block1 (t : Fin cfg0.N) (r : Fin 1024) (k : Fin 4096) :
    iblk m c 1 t (ix2 r k) = m ((c : Thread nD τ).loc main_arg1) (ix2 r k) := by
  show V m c main_arg1 (((cfg0.win 1).blk t).view.emb (ix2 r k)) = _
  rw [V_main_arg1]
  refine congrArg (m ((c : Thread nD τ).loc main_arg1)) (funext fun d => Fin.ext ?_)
  fin_cases d
  · refine (win0_1.rect_emb_val t _ 0).trans ?_
    rw [(at1 t).1]; show 0 * 1024 + r.val = r.val; omega
  · refine (win0_1.rect_emb_val t _ 1).trans ?_
    rw [(at1 t).2]; show 0 * 4096 + k.val = k.val; omega

theorem block2 (t : Fin cfg0.N) (r : Fin 512) (k : Fin 1024) :
    iblk m c 2 t (ix2 r k) = m ((c : Thread nD τ).loc main_arg2) (ix2 (row t.val r) k) := by
  show V m c main_arg2 (((cfg0.win 2).blk t).view.emb (ix2 r k)) = _
  rw [V_main_arg2]
  refine congrArg (m ((c : Thread nD τ).loc main_arg2)) (funext fun d => Fin.ext ?_)
  fin_cases d
  · refine (win0_2.rect_emb_val t _ 0).trans ?_
    have := t.isLt; have hN : cfg0.N = 16 := N_0
    rw [(at2 t).1]; show t.val * 512 + r.val = (512 * t.val + r.val) % 8192; omega
  · refine (win0_2.rect_emb_val t _ 1).trans ?_
    rw [(at2 t).2]; show 0 * 1024 + k.val = k.val; omega

theorem block3 (t : Fin cfg0.N) (r : Fin 1) (k : Fin 1024) :
    iblk m c 3 t (ix2 r k) = m ((c : Thread nD τ).loc main_arg3) (ix2 r k) := by
  show V m c main_arg3 (((cfg0.win 3).blk t).view.emb (ix2 r k)) = _
  rw [V_main_arg3]
  refine congrArg (m ((c : Thread nD τ).loc main_arg3)) (funext fun d => Fin.ext ?_)
  fin_cases d
  · refine (win0_3.rect_emb_val t _ 0).trans ?_
    rw [(at3 t).1]; show 0 * 1 + r.val = r.val; omega
  · refine (win0_3.rect_emb_val t _ 1).trans ?_
    rw [(at3 t).2]; show 0 * 1024 + k.val = k.val; omega

theorem block4 (t : Fin cfg0.N) (r : Fin 512) (k : Fin 1024) :
    iblk m c 4 t (ix2 r k) = m ((c : Thread nD τ).loc main_arg4) (ix2 (row t.val r) k) := by
  show V m c main_arg4 (((cfg0.win 4).blk t).view.emb (ix2 r k)) = _
  rw [V_main_arg4]
  refine congrArg (m ((c : Thread nD τ).loc main_arg4)) (funext fun d => Fin.ext ?_)
  fin_cases d
  · refine (win0_4.rect_emb_val t _ 0).trans ?_
    have := t.isLt; have hN : cfg0.N = 16 := N_0
    rw [(at4 t).1]; show t.val * 512 + r.val = (512 * t.val + r.val) % 8192; omega
  · refine (win0_4.rect_emb_val t _ 1).trans ?_
    rw [(at4 t).2]; show 0 * 1024 + k.val = k.val; omega

variable {m c}
variable {U : Fin 8192 → Fin 4096 → EReal} {W : Fin 1024 → Fin 4096 → EReal} {X : Fin 8192 → Fin 1024 → EReal} {g : Fin 1024 → EReal}
    (H : Holds m c U W X g)

section
include H

/-- The blocks a point stages. -/
theorem tile (t : Fin cfg0.N) : Tile (fun r => U (row t.val r)) W (fun r => X (row t.val r)) g
    (iblk m c 0 t) (iblk m c 1 t) (iblk m c 2 t) (iblk m c 3 t) where
  u r k := (block0 m c t r k).trans (H.u _)
  w d k := (block1 m c t d k).trans (H.w _)
  x r k := (block2 m c t r k).trans (H.x _)
  g o k := (block3 m c t o k).trans (H.g _)

theorem left5 (t : Fin cfg0.N) (r : Fin 512) (k : Fin 1024) : (outsAt0 m c t.val t.isLt).1 (ix2 r k)
    = (rmsBack (X (row t.val r)) g (back U W (row t.val r)) k : EReal) + m ((c : Thread nD τ).loc main_arg4) (ix2 (row t.val r) k) := by
  by_cases h0 : t.val % 16 = 0
  · rw [outsAt0_A m c t h0]
    dsimp only
    refine (out_A_5 (tile H t) r k).trans ?_
    rw [block4]; rfl
  · rw [outsAt0_B m c t h0]
    dsimp only
    refine (out_B_5 (tile H t) r k).trans ?_
    rw [block4]; rfl

theorem result5 (r : Fin 8192) (k : Fin 1024) : (dats m 0 c).arrAt 5 cfg0.N (ix2 r k)
    = (rmsBack (X r) g (back U W r) k : EReal) + m ((c : Thread nD τ).loc main_arg4) (ix2 r k) := by
  have hN : cfg0.N = 16 := N_0
  obtain ⟨t, q, rfl⟩ : ∃ (t : Fin cfg0.N) (q : Fin 512), r = row t.val q :=
    ⟨⟨r.val / 512, by omega⟩, ⟨r.val % 512, by omega⟩, Fin.ext (by simp only [row]; omega)⟩
  have e := congrFun (Value.blocks5 m c t (flush0_5 t)) (ix2 q k)
  rw [Value.flushed5] at e
  have ht := t.isLt
  refine .trans (congrArg ((dats m 0 c).arrAt 5 cfg0.N) (funext fun d => Fin.ext ?_)) (e.trans (left5 H t q k))
  refine .trans ?_ (win0_5.rect_emb_val t _ d).symm
  fin_cases d
  · show (512 * t.val + q.val) % 8192 = win0_5.index t 0 * 512 + q.val
    rw [(at5 t).1]; omega
  · show k.val = win0_5.index t 1 * 1024 + k.val
    rw [(at5 t).2]; omega

theorem left6 (t : Fin cfg0.N) (r : Fin 512) (k : Fin 1024) : (outsAt0 m c t.val t.isLt).2.1 (ix2 r k)
    = (rmsBack (X (row t.val r)) g (back U W (row t.val r)) k : EReal) + m ((c : Thread nD τ).loc main_arg4) (ix2 (row t.val r) k) := by
  by_cases h0 : t.val % 16 = 0
  · rw [outsAt0_A m c t h0]
    dsimp only
    refine (out_A_6 (tile H t) r k).trans ?_
    rw [block4]; rfl
  · rw [outsAt0_B m c t h0]
    dsimp only
    refine (out_B_6 (tile H t) r k).trans ?_
    rw [block4]; rfl

theorem result6 (r : Fin 8192) (k : Fin 1024) : (dats m 0 c).arrAt 6 cfg0.N (ix2 r k)
    = (rmsBack (X r) g (back U W r) k : EReal) + m ((c : Thread nD τ).loc main_arg4) (ix2 r k) := by
  have hN : cfg0.N = 16 := N_0
  obtain ⟨t, q, rfl⟩ : ∃ (t : Fin cfg0.N) (q : Fin 512), r = row t.val q :=
    ⟨⟨r.val / 512, by omega⟩, ⟨r.val % 512, by omega⟩, Fin.ext (by simp only [row]; omega)⟩
  have e := congrFun (Value.blocks6 m c t (flush0_6 t)) (ix2 q k)
  rw [Value.flushed6] at e
  have ht := t.isLt
  refine .trans (congrArg ((dats m 0 c).arrAt 6 cfg0.N) (funext fun d => Fin.ext ?_)) (e.trans (left6 H t q k))
  refine .trans ?_ (win0_6.rect_emb_val t _ d).symm
  fin_cases d
  · show (512 * t.val + q.val) % 8192 = win0_6.index t 0 * 512 + q.val
    rw [(at6 t).1]; omega
  · show k.val = win0_6.index t 1 * 1024 + k.val
    rw [(at6 t).2]; omega

/-- The share of one block of rows in the gradient of the norm's scale. -/
theorem acc7 : ∀ (n : ℕ) (hn : n < cfg0.N) (o : Fin 1) (k : Fin 1024), (outsAt0 m c n hn).2.2 (ix2 o k)
    = (∑ q ∈ Finset.range (n + 1), ∑ r : Fin 512, back U W (row q r) k * (X (row q r) k * rs (X (row q r))))
  | 0, hn, o, k => by
    rw [Finset.sum_range_one]
    refine (congrFun (congrArg (fun y => y.2.2) (outsAt0_A m c ⟨0, hn⟩ rfl)) (ix2 o k)).trans ?_
    dsimp only
    exact out_A_7 (tile H ⟨0, hn⟩) o k
  | n + 1, hn, o, k => by
    have hN : cfg0.N = 16 := N_0
    have h0 : ¬(n + 1) % 16 = 0 := by omega
    rw [Finset.sum_range_succ]
    refine (congrFun (congrArg (fun y => y.2.2) (outsAt0_B m c ⟨n + 1, hn⟩ h0)) (ix2 o k)).trans ?_
    dsimp only
    exact out_B_7 (tile H ⟨n + 1, hn⟩) _ (fun o k => acc7 n (Nat.lt_of_succ_lt hn) o k) o k

omit H in
theorem emb7 (t : Fin cfg0.N) (y : S1x1024.Idx) : ((cfg0.win 7).blk t).view.emb y = y := by
  refine funext fun d => Fin.ext ?_
  fin_cases d
  · exact win0_7.rect_emb_val_of_index_zero t 0 (at7 t).1 _
  · exact win0_7.rect_emb_val_of_index_zero t 1 (at7 t).2 _

omit H in
theorem cut7 (t : Fin cfg0.N) (A : Vec Ideal S1x1024 .f32) :
    (cfg0.win 7).cut (grid0.coords t) A = ((cfg0.win 7).blk t).view.read (Elt Ideal) A := by
  funext y
  exact congrArg A (show _ = ((cfg0.win 7).blk t).view.emb y from (emb7 t y).symm)

theorem result7 (o : Fin 1) (k : Fin 1024) : (dats m 0 c).arrAt 7 cfg0.N (ix2 o k)
    = (∑ r, back U W r k * (X r k * rs (X r))) := by
  have hN : cfg0.N = 16 := N_0
  refine (congrFun ((dats m 0 c).arrAt_eq_of_cover 7 ((outsAt0 m c 15 (by decide)).2.2) ?_ ?_) _).trans
    ((acc7 H 15 (by decide) o k).trans (sum_blocks (A := 16) (B := 512) (N := 8192) (by norm_num) (fun r => back U W r k * (X r k * rs (X r))) row ?_))
  · intro t hf
    obtain rfl : t = ⟨15, by decide⟩ := Fin.ext (by have := (flush0_7 t).mp hf; have := t.isLt; show t.val = 15; omega)
    exact (Value.flushed7 m c _).trans (cut7 _ _)
  · intro y
    refine ⟨⟨15, by decide⟩, (flush0_7 _).mpr rfl, ?_⟩
    have e := ((cfg0.win 7).blk ⟨15, by decide⟩).view.emb_mem_set y
    rw [emb7] at e
    exact e
  · intro q hq r
    simp only [row]; omega

end

/-- The arrays of a device. -/
theorem holds (c : Dev nD) : Holds m c (fun r k => m ((c : Thread nD τ).loc main_arg0) (ix2 r k))
    (fun r k => m ((c : Thread nD τ).loc main_arg1) (ix2 r k)) (fun r k => m ((c : Thread nD τ).loc main_arg2) (ix2 r k))
    (fun k => m ((c : Thread nD τ).loc main_arg3) (ix2 0 k)) :=
  ⟨entry2 _, entry2 _, entry2 _, entry1 _⟩

/-- The kernel computes the gradients of the rows and of the norm's scale. -/
theorem algebraic : Cert.algebraic_DmlpIdeal_DmlpRefIdeal := fun m g m' g' _ agree => by
  refine ⟨fun c => (dats m 0 c).arrAt 5 cfg0.N, fun c => (dats m 0 c).arrAt 6 cfg0.N, fun c => (dats m 0 c).arrAt 7 cfg0.N,
    Value.run_blocks m g, ?_⟩
  refine (θ_run Cert.DmlpRefIdeal.defs _ _).mono (fun r h c => ?_) (Cert.DmlpRefIdeal.Value.run (F := Ideal) m' g')
  obtain ⟨e0, e1, e2, kept⟩ := h c
  obtain ⟨a0, a1, a2, a3, a4⟩ := agree c
  have H := holds (m := m) c
  refine ⟨e0.trans ?_, e1.trans ?_, e2.trans ?_, kept⟩
  · rw [Cert.DmlpRefIdeal.Read.val_main_v38_eq, a0, a1, a2, a3, a4]
    exact ext2 (a := 8192) (b := 1024) fun i k => (Ref.v38 H _).trans (result5 H i k).symm
  · rw [Cert.DmlpRefIdeal.Read.val_main_v39_eq, a0, a1, a2, a3, a4]
    exact ext2 (a := 8192) (b := 1024) fun i k => (Ref.v38 H _).trans (result6 H i k).symm
  · rw [Cert.DmlpRefIdeal.Read.val_main_v21_eq, a0, a1, a2]
    exact ext2 (a := 1) (b := 1024) fun o k => (Ref.v21 H o k).trans (result7 H o k).symm

end Cert.Mat.Dmlp

end
-- ==== Proof.Mat.Dact.lean ====
/- The cotangent of the squared rectifier's input: the product with the transposed weight, times twice the root of the saved square. -/
module

public import proofs.«01_k».proof.Defs
public import proofs.«01_k».proof.Proof.Mat.Basic
public import proofs.«01_k».proof.Proof.Gen.DactIdeal
public import proofs.«01_k».proof.Proof.Gen.DactIdeal.Value
public import proofs.«01_k».proof.Proof.Gen.DactRefIdeal.Run
public import proofs.«01_k».proof.Proof.Gen.DactRefIdeal.Read

@[expose] public section

set_option maxRecDepth 16384

noncomputable section

namespace Cert.Mat.Dact

open Idealize.ShloMosaic Idealize.ShloMosaic.TcCoe Cert.DactIdeal Cert.DactIdeal.Gen
open Idealize.ShloMosaic.Pipeline (Dat)
open Cert.Gate (word_zero word_two)

/-- The derivative of the square of the positive part, from the root of that square. -/
theorem sqrt_sq (u : EReal) : Ideal.sqrt (max u 0 * max u 0) = max u 0 := by
  induction u with
  | bot =>
    rw [max_eq_right bot_le, mul_zero, ← EReal.coe_zero]
    show (if (0 : ℝ) < 0 then (⊥ : EReal) else ((Real.sqrt 0 : ℝ) : EReal)) = _
    rw [if_neg (lt_irrefl _), Real.sqrt_zero]
  | top =>
    rw [max_eq_left le_top, EReal.top_mul_top]; rfl
  | coe r =>
    rw [← EReal.coe_zero, ← EReal.coe_strictMono.monotone.map_max, ← EReal.coe_mul]
    have : ¬ max r 0 * max r 0 < 0 := not_lt.mpr (mul_self_nonneg _)
    show (if max r 0 * max r 0 < 0 then (⊥ : EReal) else ((Real.sqrt (max r 0 * max r 0) : ℝ) : EReal)) = _
    rw [if_neg this, Real.sqrt_mul_self (le_max_right _ _)]

/-- The positive part of an entry. -/
def pos (u : Vec Ideal S8192x4096 .f32) (i : S8192x4096.Idx) : EReal := max (u i) 0

/-- An entry of the cotangent behind the weight, through the squared rectifier. -/
def entry (d : Vec Ideal S8192x1024 .f32) (w : Vec Ideal S4096x1024 .bf16) (u : Vec Ideal S8192x4096 .f32) (r : Fin 8192) (k : Fin 4096) : EReal :=
  (∑ j : Fin 1024, d (ix2 r j) * w (ix2 k j)) * (((2 : ℝ) : EReal) * pos u (ix2 r k))

/-- What a point writes, from its staged blocks. -/
theorem pay_eq (x0 : Vec Ideal S2048x1024 .bf16) (x1 : Vec Ideal S1024x1024 .bf16) (x2 : Vec Ideal S2048x1024 .bf16)
    (r : Fin 2048) (k : Fin 1024) : k0_pay1 x0 x1 x2 (ix2 r k)
      = (∑ j : Fin 1024, x0 (ix2 r j) * x1 (ix2 k j)) * ((2 : ℝ) : EReal) * Ideal.sqrt (x2 (ix2 r k)) := by
  unfold k0_pay1
  pointwise [word_zero, word_two]
  rw [EReal.coe_zero, zero_add]

theorem out_eq (x0 : Vec Ideal S2048x1024 .bf16) (x1 : Vec Ideal S1024x1024 .bf16) (x2 : Vec Ideal S2048x1024 .bf16)
    (r : Fin 2048) (k : Fin 1024) : out0_3 x0 x1 x2 (ix2 r k)
      = (∑ j : Fin 1024, x0 (ix2 r j) * x1 (ix2 k j)) * ((2 : ℝ) : EReal) * Ideal.sqrt (x2 (ix2 r k)) := by
  unfold out0_3
  rw [View.canon_unit_zero (S := S2048x1024) hz2, View.ld_unit_zero (S := S2048x1024) hz2, View.ld_unit_zero (S := S1024x1024) hz2,
    View.ld_unit_zero (S := S2048x1024) hz2]
  exact pay_eq x0 x1 x2 r k

variable (m : (ℓ : Loc nD τ sig) → Buf (Elt Ideal) ℓ) (c : Dev nD)

theorem at0 : ∀ t : Fin grid0.N, win0_0.index t 0 = t.val / 4 ∧ win0_0.index t 1 = 0 := by decide +kernel
theorem at1 : ∀ t : Fin grid0.N, win0_1.index t 0 = t.val % 4 ∧ win0_1.index t 1 = 0 := by decide +kernel
theorem at2 : ∀ t : Fin grid0.N, win0_2.index t 0 = t.val / 4 ∧ win0_2.index t 1 = t.val % 4 := by decide +kernel
theorem at3 : ∀ t : Fin grid0.N, win0_3.index t 0 = t.val / 4 ∧ win0_3.index t 1 = t.val % 4 := by decide +kernel

/-- The cotangent in the narrow format. -/
def narrow (x : Vec Ideal S8192x1024 .f32) : Vec Ideal S8192x1024 .bf16 := fun i => x i

/-- The saved square. -/
def saved (u : Vec Ideal S8192x4096 .f32) : Vec Ideal S8192x4096 .bf16 := fun i =>
  max (u i) (Ideal.ofBits .f32 0x00000000#32) * max (u i) (Ideal.ofBits .f32 0x00000000#32)

/-- The cotangent the host hands over is the argument. -/
theorem V_cot (i : S8192x1024.Idx) : V m c main_v3 i = m ((c : Thread nD τ).loc main_arg0) i := by
  have e : V m c main_v3 = narrow (m ((c : Thread nD τ).loc main_arg0)) := by
    show StableHlo.after (List.flatten [hostOps0, hostOps0_1]) _ _ = _
    simp only [hostOps0, hostOps0_1, List.flatten_cons, List.flatten_nil, List.append_nil, List.cons_append, List.nil_append,
      StableHlo.after_cons, StableHlo.after_nil]
    rfl
  rw [e]; rfl

/-- The saved square is computed from the argument. -/
theorem V_act (i : S8192x4096.Idx) : V m c main_v2 i
    = pos (m ((c : Thread nD τ).loc main_arg2)) i * pos (m ((c : Thread nD τ).loc main_arg2)) i := by
  have e : V m c main_v2 = saved (m ((c : Thread nD τ).loc main_arg2)) := by
    show StableHlo.after (List.flatten [hostOps0, hostOps0_1]) _ _ = _
    simp only [hostOps0, hostOps0_1, List.flatten_cons, List.flatten_nil, List.append_nil, List.cons_append, List.nil_append,
      StableHlo.after_cons, StableHlo.after_nil]
    rfl
  rw [e]
  unfold saved pos
  rw [word_zero, EReal.coe_zero]

theorem block0 (t : Fin cfg0.N) (r : Fin 2048) (j : Fin 1024) (R : Fin 8192) (hR : R.val = 2048 * (t.val / 4) + r.val) :
    iblk m c 0 t (ix2 r j) = m ((c : Thread nD τ).loc main_arg0) (ix2 R j) := by
  show V m c main_v3 (((cfg0.win 0).blk t).view.emb (ix2 r j)) = _
  rw [V_cot]
  refine congrArg (m ((c : Thread nD τ).loc main_arg0)) (funext fun d => Fin.ext ?_)
  fin_cases d
  · refine (win0_0.rect_emb_val t _ 0).trans ?_
    rw [(at0 t).1]; show t.val / 4 * 2048 + r.val = R.val; omega
  · refine (win0_0.rect_emb_val t _ 1).trans ?_
    rw [(at0 t).2]; show 0 * 1024 + j.val = j.val; omega

theorem block1 (t : Fin cfg0.N) (k : Fin 1024) (j : Fin 1024) (K : Fin 4096) (hK : K.val = 1024 * (t.val % 4) + k.val) :
    iblk m c 1 t (ix2 k j) = m ((c : Thread nD τ).loc main_arg1) (ix2 K j) := by
  show V m c main_arg1 (((cfg0.win 1).blk t).view.emb (ix2 k j)) = _
  rw [V_main_arg1]
  refine congrArg (m ((c : Thread nD τ).loc main_arg1)) (funext fun d => Fin.ext ?_)
  fin_cases d
  · refine (win0_1.rect_emb_val t _ 0).trans ?_
    rw [(at1 t).1]; show t.val % 4 * 1024 + k.val = K.val; omega
  · refine (win0_1.rect_emb_val t _ 1).trans ?_
    rw [(at1 t).2]; show 0 * 1024 + j.val = j.val; omega

theorem block2 (t : Fin cfg0.N) (r : Fin 2048) (k : Fin 1024) (R : Fin 8192) (K : Fin 4096)
    (hR : R.val = 2048 * (t.val / 4) + r.val) (hK : K.val = 1024 * (t.val % 4) + k.val) :
    Ideal.sqrt (iblk m c 2 t (ix2 r k)) = pos (m ((c : Thread nD τ).loc main_arg2)) (ix2 R K) := by
  have e : ((cfg0.win 2).blk t).view.emb (ix2 r k) = ix2 R K := by
    funext d; apply Fin.ext
    fin_cases d
    · refine (win0_2.rect_emb_val t _ 0).trans ?_
      rw [(at2 t).1]; show t.val / 4 * 2048 + r.val = R.val; omega
    · refine (win0_2.rect_emb_val t _ 1).trans ?_
      rw [(at2 t).2]; show t.val % 4 * 1024 + k.val = K.val; omega
  show Ideal.sqrt (V m c main_v2 (((cfg0.win 2).blk t).view.emb (ix2 r k))) = _
  rw [e, V_act]
  exact sqrt_sq _

/-- The array after the run. -/
theorem result (R : Fin 8192) (K : Fin 4096) : (dats m 0 c).arrAt 3 cfg0.N (ix2 R K)
    = entry (m ((c : Thread nD τ).loc main_arg0)) (m ((c : Thread nD τ).loc main_arg1)) (m ((c : Thread nD τ).loc main_arg2)) R K := by
  have hN : cfg0.N = 16 := N_0
  let t : Fin cfg0.N := ⟨4 * (R.val / 2048) + K.val / 1024, by omega⟩
  let r : Fin 2048 := ⟨R.val % 2048, by omega⟩
  let k : Fin 1024 := ⟨K.val % 1024, by omega⟩
  have hR : R.val = 2048 * (t.val / 4) + r.val := by show R.val = 2048 * ((4 * (R.val / 2048) + K.val / 1024) / 4) + R.val % 2048; omega
  have hK : K.val = 1024 * (t.val % 4) + k.val := by show K.val = 1024 * ((4 * (R.val / 2048) + K.val / 1024) % 4) + K.val % 1024; omega
  have e := congrFun (Value.blocks3 m c t (flush0_3 t)) (ix2 r k)
  rw [Value.flushed3] at e
  refine .trans (congrArg ((dats m 0 c).arrAt 3 cfg0.N) (funext fun d => Fin.ext ?_)) (e.trans ?_)
  · refine .trans ?_ (win0_3.rect_emb_val t _ d).symm
    fin_cases d
    · show R.val = win0_3.index t 0 * 2048 + r.val
      rw [(at3 t).1]; omega
    · show K.val = win0_3.index t 1 * 1024 + k.val
      rw [(at3 t).2]; omega
  · refine (out_eq _ _ _ r k).trans ?_
    rw [block2 m c t r k R K hR hK, mul_assoc]
    unfold entry
    refine congrArg (fun z : EReal => z * _) (Finset.sum_congr rfl fun j _ => ?_)
    rw [block0 m c t r j R hR, block1 m c t k j K hK]

open Cert.DactRefIdeal.Read in
/-- The reference's result. -/
theorem reference (x0 : Vec Ideal S8192x1024 .f32) (x1 : Vec Ideal S4096x1024 .bf16) (x2 : Vec Ideal S8192x4096 .f32) (R : Fin 8192) (K : Fin 4096) :
    val_main_v13 (F := Ideal) x0 x1 x2 (ix2 R K) = entry x0 x1 x2 R K := by
  have p : val_main_v9 (F := Ideal) x0 x1 (ix2 R K) = ∑ j : Fin 1024, x0 (ix2 R j) * x1 (ix2 K j) := by
    rw [val_main_v9_apply]
    refine Finset.sum_congr rfl fun j _ => congrArg₂ (· * ·) (congrArg x0 ?_) (congrArg x1 ?_)
    all_goals
      funext d
      match d with
      | ⟨0, _⟩ => rfl
      | ⟨1, _⟩ => rfl
  show (if Ideal.cmp .ogt (x2 (ix2 R K)) (Ideal.ofBits .f32 0x00000000#32) = 1#1
    then val_main_v9 (F := Ideal) x0 x1 (ix2 R K) * (Ideal.ofBits .f32 0x40000000#32 * max (x2 (ix2 R K)) (Ideal.ofBits .f32 0x00000000#32))
    else Ideal.ofBits .f32 0x00000000#32) = _
  rw [word_zero, word_two, EReal.coe_zero, p]
  unfold entry pos
  by_cases h : 0 < x2 (ix2 R K)
  · rw [if_pos (by simp [Ideal.cmp, h])]
  · rw [if_neg (by simp [Ideal.cmp, h]), max_eq_right (not_lt.mp h), mul_zero, mul_zero]

/-- The kernel computes the cotangent. -/
theorem algebraic : Cert.algebraic_DactIdeal_DactRefIdeal := fun m g m' g' _ agree => by
  refine ⟨fun c => (dats m 0 c).arrAt 3 cfg0.N, Value.run_blocks m g, ?_⟩
  refine (θ_run Cert.DactRefIdeal.defs _ _).mono (fun r h c => ?_) (Cert.DactRefIdeal.Value.run (F := Ideal) m' g')
  obtain ⟨h0, kept⟩ := h c
  obtain ⟨a0, a1, a2⟩ := agree c
  refine ⟨h0.trans ?_, kept⟩
  rw [Cert.DactRefIdeal.Read.val_main_v13_eq, a0, a1, a2]
  exact ext2 (a := 8192) (b := 4096) fun R K => (reference _ _ _ R K).trans (result m c R K).symm

end Cert.Mat.Dact

end
-- ==== Proof.Mat.DxTile.lean ====
/- What one block of 256 rows of the input gradient is computed from. -/
module

public import proofs.«01_k».proof.Proof.Mat.Norm
public import proofs.«01_k».proof.Proof.Gen.DxIdeal.Frame

@[expose] public section

set_option maxRecDepth 16384

noncomputable section

namespace Cert.Mat.Dx

open Idealize.ShloMosaic Idealize.ShloMosaic.TcCoe Cert.DxIdeal Cert.DxIdeal.Gen
open Cert.Gate (eps word_1024 word_eps)

/-- The rows a piece of the epilogue reads hold these numbers. -/
structure Piece (A : Fin 256 → Fin 1024 → EReal) (D : Fin 256 → Fin 128 → EReal) (W : Fin 128 → Fin 1024 → EReal) (X : Fin 256 → Fin 1024 → EReal)
    (g : Fin 1024 → EReal) (v89 : FVec Ideal S256x1024 .f32) (v90 : Vec Ideal S256x128 .bf16) (v91 : Vec Ideal S128x1024 .bf16)
    (v95 : Vec Ideal S256x1024 .f32) (v96 : Vec Ideal S1x1024 .f32) : Prop where
  a : ∀ r k, v89 (ix2 r k) = (A r k : EReal)
  d : ∀ r j, v90 (ix2 r j) = (D r j : EReal)
  w : ∀ j k, v91 (ix2 j k) = (W j k : EReal)
  x : ∀ r k, v95 (ix2 r k) = (X r k : EReal)
  g : ∀ o k, v96 (ix2 o k) = (g k : EReal)

/-- A row of the cotangent: the main part and the part of the small projection. -/
def join {n : ℕ} (A : Fin n → Fin 1024 → EReal) (D : Fin n → Fin 128 → EReal) (W : Fin 128 → Fin 1024 → EReal) (r : Fin n) (k : Fin 1024) : EReal :=
  A r k + ∑ j, D r j * W j k

variable {A : Fin 256 → Fin 1024 → EReal} {D : Fin 256 → Fin 128 → EReal} {W : Fin 128 → Fin 1024 → EReal} {X : Fin 256 → Fin 1024 → EReal}
    {g : Fin 1024 → EReal} {v89 : FVec Ideal S256x1024 .f32} {v90 : Vec Ideal S256x128 .bf16} {v91 : Vec Ideal S128x1024 .bf16}
    {v95 : Vec Ideal S256x1024 .f32} {v96 : Vec Ideal S1x1024 .f32} {v122 : Vec Ideal S256x1024 .f32} {v88 : FVec Ideal S1x1024 .f32}
    (T : Piece A D W X g v89 v90 v91 v95 v96)

section
include T

theorem pay17_eq (r : Fin 256) (k : Fin 1024) : k0_pay17 v89 v90 v91 (ix2 r k) = (join A D W r k : EReal) := by
  unfold k0_pay17
  pointwise [zero_word]
  simp only [T.a, T.d, T.w, zero_add]
  rfl

theorem pay18_eq (r : Fin 256) (o : Fin 1) : k0_pay18 v95 (ix2 r o) = (rs (X r) : EReal) := by
  unfold k0_pay18
  pointwise [zero_word, word_eps]
  simp only [T.x, zero_add, div_1024]
  rfl

theorem pay19_eq (r : Fin 256) (k : Fin 1024) : k0_pay19 v95 (ix2 r k) = (X r k * rs (X r)) := by
  unfold k0_pay19
  pointwise
  rw [pay18_eq T, T.x]

theorem pay21_eq (o : Fin 1) (k : Fin 1024) :
    k0_pay21 v88 v89 v90 v91 v95 (ix2 o k) = v88 (ix2 o k) + (∑ r, join A D W r k * (X r k * rs (X r))) := by
  unfold k0_pay21
  pointwise [zero_word]
  simp only [pay17_eq T, pay19_eq T, zero_add]

theorem pay20_eq (r : Fin 256) (k : Fin 1024) :
    k0_pay20 v89 v90 v91 v95 v96 v122 (ix2 r k) = (rmsBack (X r) g (join A D W r) k) + v122 (ix2 r k) := by
  unfold k0_pay20
  pointwise [zero_word]
  simp only [pay17_eq T, pay18_eq T, pay19_eq T, T.g, zero_add, div_1024]
  rfl

end

variable (v13 : Vec Ideal S1024x1024 .f32) (v14 v47 : FVec Ideal S1x1024 .f32) (v91 : Vec Ideal S128x1024 .bf16) (v96 : Vec Ideal S1x1024 .f32)
    (v90 : Vec Ideal S256x128 .bf16) (v95 v122 : Vec Ideal S256x1024 .f32)

/-! The four pieces are computed by the same formulas. -/

/-- Rows of the accumulator from row `256 q` on. -/
def quarter (q : Fin 4) : FVec Ideal S256x1024 .f32 := fun i => v13 (ix2 (⟨256 * q.val + (i 0).val, by have : (i 0).val < 256 := (i 0).isLt; omega⟩ : Fin 1024) (i 1))

theorem quarter0 : extractStridedSlice S256x1024 ![0, 0] v13 slices_S1024x1024_o0_0_S256x1024 = quarter v13 0 := by
  funext i
  refine congrArg v13 (funext fun d => Fin.ext ?_)
  fin_cases d
  · show 0 + (i 0).val = 256 * 0 + (i 0).val; omega
  · show 0 + (i 1).val = (i 1).val; omega
theorem quarter1 : extractStridedSlice S256x1024 ![256, 0] v13 slices_S1024x1024_o256_0_S256x1024 = quarter v13 1 := by
  funext i
  refine congrArg v13 (funext fun d => Fin.ext ?_)
  fin_cases d
  · show 256 + (i 0).val = 256 * 1 + (i 0).val; omega
  · show 0 + (i 1).val = (i 1).val; omega
theorem quarter2 : k0_pay16 v13 = quarter v13 2 := by
  funext i
  refine congrArg v13 (funext fun d => Fin.ext ?_)
  fin_cases d
  · show 512 + (i 0).val = 256 * 2 + (i 0).val; omega
  · show 0 + (i 1).val = (i 1).val; omega
theorem quarter3 : k0_pay22 v13 = quarter v13 3 := by
  funext i
  refine congrArg v13 (funext fun d => Fin.ext ?_)
  fin_cases d
  · show 768 + (i 0).val = 256 * 3 + (i 0).val; omega
  · show 0 + (i 1).val = (i 1).val; omega

theorem pay10_as : k0_pay10 v13 v90 v91 v95 v96 v122 = k0_pay20 (quarter v13 0) v90 v91 v95 v96 v122 := by
  rw [← quarter0]; rfl
theorem pay14_as : k0_pay14 v13 v90 v91 v95 v96 v122 = k0_pay20 (quarter v13 1) v90 v91 v95 v96 v122 := by
  rw [← quarter1]; rfl
theorem pay26_as (v : FVec Ideal S256x1024 .f32) : k0_pay26 v v90 v91 v95 v96 v122 = k0_pay20 v v90 v91 v95 v96 v122 := rfl
theorem pay9_as : addf v14 (k0_pay9 v13 v90 v91 v95) = k0_pay21 v14 (quarter v13 0) v90 v91 v95 := by
  rw [← quarter0]; rfl
theorem pay15_as : k0_pay15 v13 v14 v47 v90 v91 v95 = k0_pay21 (addf v14 v47) (quarter v13 1) v90 v91 v95 := by
  rw [← quarter1]; rfl
theorem pay27_as (v88 : FVec Ideal S1x1024 .f32) (v : FVec Ideal S256x1024 .f32) : k0_pay27 v88 v v90 v91 v95 = k0_pay21 v88 v v90 v91 v95 := rfl

theorem pay5_eq (o : Fin 1) (k : Fin 1024) : k0_pay5 (F := Ideal) (ix2 o k) = (0 : EReal) := by
  unfold k0_pay5
  pointwise [zero_word]
theorem pay28_eq (o : Fin 1) (k : Fin 1024) : k0_pay28 (F := Ideal) (ix2 o k) = (0 : EReal) := by
  unfold k0_pay28
  pointwise [zero_word]
theorem pay4_eq (x y : Vec Ideal S1x1024 .f32) (o : Fin 1) (k : Fin 1024) : k0_pay4 x y (ix2 o k) = y (ix2 o k) + x (ix2 o k) := by
  unfold k0_pay4
  pointwise

/-! The accumulator. -/

variable {U : Fin 1024 → Fin 2048 → EReal} {M : Fin 2048 → Fin 1024 → EReal} {x0 : Vec Ideal S1024x2048 .bf16} {x1 : Vec Ideal S2048x1024 .bf16}
    (hu : ∀ r j, x0 (ix2 r j) = (U r j : EReal)) (hm : ∀ j k, x1 (ix2 j k) = (M j k : EReal))
include hu hm

theorem pay2_eq (r : Fin 1024) (k : Fin 1024) : k0_pay2 x0 x1 (ix2 r k) = (∑ j, U r j * M j k) := by
  unfold k0_pay2 k0_pay1
  pointwise [zero_word]
  simp only [hu, hm, zero_add]

theorem pay3_eq (P : Fin 1024 → Fin 1024 → EReal) (xs : Vec Ideal S1024x1024 .f32) (hp : ∀ r k, xs (ix2 r k) = (P r k : EReal))
    (r : Fin 1024) (k : Fin 1024) : k0_pay3 x0 x1 xs (ix2 r k) = (P r k + ∑ j, U r j * M j k) := by
  unfold k0_pay3 k0_pay1
  pointwise [zero_word]
  simp only [hu, hm, hp, zero_add]

end Cert.Mat.Dx

end
-- ==== Proof.Mat.DxOuts.lean ====
/- What one point of the input gradient's grid leaves in its blocks. -/
module

public import proofs.«01_k».proof.Proof.Mat.DxTile

@[expose] public section

set_option maxRecDepth 16384

noncomputable section

namespace Cert.Mat.Dx

open Idealize.ShloMosaic Idealize.ShloMosaic.TcCoe Cert.DxIdeal Cert.DxIdeal.Gen

/-- Row `i` of run `q` of 256 rows. -/
def row4 (q : Fin 4) (i : Fin 256) : Fin 1024 := ⟨256 * q.val + i.val, by omega⟩

/-- The rows of run `q` of an array of 1024 rows of 128 columns. -/
def runD (x : Vec Ideal S1024x128 .bf16) (q : Fin 4) : Vec Ideal S256x128 .bf16 := fun i => x (ix2 (row4 q (i 0)) (i 1))
/-- The rows of run `q` of an array of 1024 rows of 1024 columns. -/
def runX (x : Vec Ideal S1024x1024 .f32) (q : Fin 4) : Vec Ideal S256x1024 .f32 := fun i => x (ix2 (row4 q (i 0)) (i 1))

theorem read_runD (a : Memref sig .tc .vmem S1024x128 .bf16) (h : a.IsWhole) (x : Vec Ideal S1024x128 .bf16) (q : Fin 4)
    (inb : ∀ d, (![256 * q.val, 0] : Fin 2 → Nat) d + S256x128.size d ≤ S1024x128.size d) :
    View.readAt (Elt Ideal) a.view (Rect.unit (s := S1024x128) ![256 * q.val, 0] S256x128.size inb).toLoadRect (h.unread x) = runD x q := by
  rw [View.readAt_eq_ld, h.read_unread]
  funext i
  refine congrArg x (funext fun d => Fin.ext ?_)
  fin_cases d
  · show 256 * q.val + 1 * (i 0).val = 256 * q.val + (i 0).val; omega
  · show 0 + 1 * (i 1).val = (i 1).val; omega
theorem read_runX (a : Memref sig .tc .vmem S1024x1024 .f32) (h : a.IsWhole) (x : Vec Ideal S1024x1024 .f32) (q : Fin 4)
    (inb : ∀ d, (![256 * q.val, 0] : Fin 2 → Nat) d + S256x1024.size d ≤ S1024x1024.size d) :
    View.readAt (Elt Ideal) a.view (Rect.unit (s := S1024x1024) ![256 * q.val, 0] S256x1024.size inb).toLoadRect (h.unread x) = runX x q := by
  rw [View.readAt_eq_ld, h.read_unread]
  funext i
  refine congrArg x (funext fun d => Fin.ext ?_)
  fin_cases d
  · show 256 * q.val + 1 * (i 0).val = 256 * q.val + (i 0).val; omega
  · show 0 + 1 * (i 1).val = (i 1).val; omega

/-- A store of 256 rows agrees with a table if its entries do. -/
theorem box_agrees (f : Fin 1024 → Fin 1024 → EReal) (q : Fin 4)
    (inb : ∀ d, (![256 * q.val, 0] : Fin 2 → Nat) d + S256x1024.size d ≤ S1024x1024.size d) (w : FVec Ideal S256x1024 .f32)
    (hw : ∀ i d, w (ix2 i d) = f (row4 q i) d) (x : S256x1024.Idx) :
    w x = (fun y : S1024x1024.Idx => f (y 0) (y 1)) ((Rect.unit (s := S1024x1024) ![256 * q.val, 0] S256x1024.size inb).emb x) := by
  have e : x = ix2 (x 0) (x 1) := funext fun d => by fin_cases d <;> rfl
  rw [e]
  refine (hw (x 0) (x 1)).trans ?_
  show f _ _ = f _ _
  have h1 : row4 q (x 0) = (Rect.unit (s := S1024x1024) ![256 * q.val, 0] S256x1024.size inb).emb (ix2 (x 0) (x 1)) 0 :=
    Fin.ext (by show 256 * q.val + (x 0).val = 256 * q.val + 1 * (x 0).val; omega)
  have h2 : x 1 = (Rect.unit (s := S1024x1024) ![256 * q.val, 0] S256x1024.size inb).emb (ix2 (x 0) (x 1)) 1 :=
    Fin.ext (by show (x 1).val = 0 + 1 * (x 1).val; omega)
  exact congr (congrArg f h1) h2

/-- A sum over the four runs is the sum over the rows. -/
theorem sum_runs (f : Fin 1024 → EReal) : (∑ i, f (row4 0 i)) + (∑ i, f (row4 1 i)) + (∑ i, f (row4 2 i)) + ∑ i, f (row4 3 i) = ∑ r, f r := by
  rw [← sum_blocks (A := 4) (B := 256) (N := 1024) (by norm_num) f (fun q i => if h : q < 4 then row4 ⟨q, h⟩ i else 0)
    (fun q h r => by rw [dif_pos h]; rfl), Finset.sum_range, Fin.sum_univ_four]
  rfl

/-- The blocks the epilogue reads hold these numbers. -/
structure Block (A : Fin 1024 → Fin 1024 → EReal) (D : Fin 1024 → Fin 128 → EReal) (W : Fin 128 → Fin 1024 → EReal) (X : Fin 1024 → Fin 1024 → EReal)
    (g : Fin 1024 → EReal) (v13 x2 : Vec Ideal S1024x1024 .f32) (x3 : Vec Ideal S1x1024 .f32) (x5 : Vec Ideal S1024x128 .bf16)
    (x6 : Vec Ideal S128x1024 .bf16) : Prop where
  a : ∀ r k, v13 (ix2 r k) = (A r k : EReal)
  d : ∀ r j, x5 (ix2 r j) = (D r j : EReal)
  w : ∀ j k, x6 (ix2 j k) = (W j k : EReal)
  x : ∀ r k, x2 (ix2 r k) = (X r k : EReal)
  g : ∀ o k, x3 (ix2 o k) = (g k : EReal)

theorem Block.piece {A : Fin 1024 → Fin 1024 → EReal} {D : Fin 1024 → Fin 128 → EReal} {W : Fin 128 → Fin 1024 → EReal} {X : Fin 1024 → Fin 1024 → EReal}
    {g : Fin 1024 → EReal} {v13 x2 : Vec Ideal S1024x1024 .f32} {x3 : Vec Ideal S1x1024 .f32} {x5 : Vec Ideal S1024x128 .bf16}
    {x6 : Vec Ideal S128x1024 .bf16} (T : Block A D W X g v13 x2 x3 x5 x6) (q : Fin 4) :
    Piece (fun i => A (row4 q i)) (fun i => D (row4 q i)) W (fun i => X (row4 q i)) g (quarter v13 q) (runD x5 q) x6 (runX x2 q) x3 where
  a := fun r k => T.a (row4 q r) k
  d := fun r j => T.d (row4 q r) j
  w := T.w
  x := fun r k => T.x (row4 q r) k
  g := T.g

variable {c : Dev nD} {i : grid0.Coords}
  {a3 : Memref sig .tc .vmem S1024x2048 .bf16} {p3 : a3.IsWhole} {a4 : Memref sig .tc .vmem S2048x1024 .bf16} {p4 : a4.IsWhole}
  {a5 : Memref sig .tc .vmem S1024x1024 .f32} {p5 : a5.IsWhole} {a6 : Memref sig .tc .vmem S1x1024 .f32} {p6 : a6.IsWhole}
  {a7 : Memref sig .tc .vmem S1024x1024 .f32} {p7 : a7.IsWhole} {a8 : Memref sig .tc .vmem S1024x128 .bf16} {p8 : a8.IsWhole}
  {a9 : Memref sig .tc .vmem S128x1024 .bf16} {p9 : a9.IsWhole} {a10 : Memref sig .tc .vmem S1024x1024 .f32} {p10 : a10.IsWhole}
  {a11 : Memref sig .tc .vmem S1x1024 .f32} {p11 : a11.IsWhole} {a12 : Memref sig .tc .vmem S1024x1024 .f32} {p12 : a12.IsWhole}
variable {x0 : Vec Ideal S1024x2048 .bf16} {x1 : Vec Ideal S2048x1024 .bf16} {x2 : Vec Ideal S1024x1024 .f32} {x3 : Vec Ideal S1x1024 .f32}
    {x4 : Vec Ideal S1024x1024 .f32} {x5 : Vec Ideal S1024x128 .bf16} {x6 : Vec Ideal S128x1024 .bf16} {xo8 : Vec Ideal S1x1024 .f32}
    {xs0 : Vec Ideal S1024x1024 .f32}

theorem sout_A {hc0 : cond0_0 i} {hc1 : ¬cond0_1 i} {hc2 : ¬cond0_2 i} :
    sout0_A_0 c i a3 p3 a4 p4 a5 p5 a6 p6 a7 p7 a8 p8 a9 p9 a10 p10 a11 p11 a12 p12 hc0 hc1 hc2 x0 x1 x2 x3 x4 x5 x6 = k0_pay2 x0 x1 := by
  unfold sout0_A_0
  rw [View.read_writes_eq_canon _ _ _ (scover0_A_0 c i a3 p3 a4 p4 a5 p5 a6 p6 a7 p7 a8 p8 a9 p9 a10 p10 a11 p11 a12 p12 hc0 hc1 hc2 x0 x1 x2 x3 x4 x5 x6)]
  unfold kernelRun0_A
  dsimp only
  rw [View.canon_unit_zero (S := S1024x1024) hz2]
  rw [read_whole a3 p3 x0 hz2, read_whole a4 p4 x1 hz2]

theorem sout_B {hc0 : ¬cond0_0 i} {hc1 : cond0_1 i} {hc2 : ¬cond0_2 i} :
    sout0_B_0 c i a3 p3 a4 p4 a5 p5 a6 p6 a7 p7 a8 p8 a9 p9 a10 p10 a11 p11 a12 p12 hc0 hc1 hc2 x0 x1 x2 x3 x4 x5 x6 xs0 = k0_pay3 x0 x1 xs0 := by
  unfold sout0_B_0
  rw [View.read_writes_eq_canon _ _ _ (scover0_B_0 c i a3 p3 a4 p4 a5 p5 a6 p6 a7 p7 a8 p8 a9 p9 a10 p10 a11 p11 a12 p12 hc0 hc1 hc2 x0 x1 x2 x3 x4 x5 x6 xs0)]
  unfold kernelRun0_B
  dsimp only
  rw [View.canon_unit_zero (S := S1024x1024) hz2]
  rw [read_whole a3 p3 x0 hz2, read_whole a4 p4 x1 hz2, read_whole a12 p12 xs0 hz2]

theorem sout_C {hc0 : ¬cond0_0 i} {hc1 : cond0_1 i} {hc2 : cond0_2 i} {hc3 : cond0_3 i} :
    sout0_C_0 c i a3 p3 a4 p4 a5 p5 a6 p6 a7 p7 a8 p8 a9 p9 a10 p10 a11 p11 a12 p12 hc0 hc1 hc2 hc3 x0 x1 x2 x3 x4 x5 x6 xs0 = k0_pay3 x0 x1 xs0 := by
  unfold sout0_C_0
  rw [View.read_writes_eq_canon _ _ _ (scover0_C_0 c i a3 p3 a4 p4 a5 p5 a6 p6 a7 p7 a8 p8 a9 p9 a10 p10 a11 p11 a12 p12 hc0 hc1 hc2 hc3 x0 x1 x2 x3 x4 x5 x6 xs0)]
  unfold kernelRun0_C
  dsimp only
  unfold kernelRun0_C.sl.HS0_1
  rw [View.canon_unit_zero (S := S1024x1024) hz2]
  rw [read_whole a3 p3 x0 hz2, read_whole a4 p4 x1 hz2, read_whole a12 p12 xs0 hz2]

theorem sout_D {hc0 : ¬cond0_0 i} {hc1 : cond0_1 i} {hc2 : cond0_2 i} {hc3 : ¬cond0_3 i} :
    sout0_D_0 c i a3 p3 a4 p4 a5 p5 a6 p6 a7 p7 a8 p8 a9 p9 a10 p10 a11 p11 a12 p12 hc0 hc1 hc2 hc3 x0 x1 x2 x3 x4 x5 x6 xo8 xs0 = k0_pay3 x0 x1 xs0 := by
  unfold sout0_D_0
  rw [View.read_writes_eq_canon _ _ _ (scover0_D_0 c i a3 p3 a4 p4 a5 p5 a6 p6 a7 p7 a8 p8 a9 p9 a10 p10 a11 p11 a12 p12 hc0 hc1 hc2 hc3 x0 x1 x2 x3 x4 x5 x6 xo8 xs0)]
  unfold kernelRun0_D
  dsimp only
  unfold kernelRun0_D.sl.HS0_1
  rw [View.canon_unit_zero (S := S1024x1024) hz2]
  rw [read_whole a3 p3 x0 hz2, read_whole a4 p4 x1 hz2, read_whole a12 p12 xs0 hz2]

variable {A : Fin 1024 → Fin 1024 → EReal} {D : Fin 1024 → Fin 128 → EReal} {W : Fin 128 → Fin 1024 → EReal} {X : Fin 1024 → Fin 1024 → EReal} {g : Fin 1024 → EReal}
    (T : Block A D W X g (k0_pay3 x0 x1 xs0) x2 x3 x5 x6)

theorem v13_C : kernelRun0_C.sl.v13 c a3 p3 a4 p4 a12 p12 x0 x1 xs0 = k0_pay3 x0 x1 xs0 := by
  unfold kernelRun0_C.sl.v13 kernelRun0_C.sl.HS0_1
  refine (View.readCov_unit_zero (Val := Elt Ideal) (e := .f32) (S := S1024x1024) _ hz2 _ _).trans ?_
  rw [read_whole a3 p3 x0 hz2, read_whole a4 p4 x1 hz2, read_whole a12 p12 xs0 hz2]

theorem piece0_C : kernelRun0_C.sl.r_1 c a3 p3 a4 p4 a5 p5 a6 p6 a7 p7 a8 p8 a9 p9 a12 p12 x0 x1 x2 x3 x4 x5 x6 xs0
    = k0_pay20 (quarter (k0_pay3 x0 x1 xs0) 0) (runD x5 0) x6 (runX x2 0) x3 (runX x4 0) := by
  unfold kernelRun0_C.sl.r_1
  rw [v13_C, pay10_as]
  exact congr (congr (congr (congr (congrArg (k0_pay20 _) (read_runD a8 p8 x5 0 _)) (read_whole a9 p9 x6 hz2 _)) (read_runX a5 p5 x2 0 _)) (read_whole a6 p6 x3 hz2 _)) (read_runX a7 p7 x4 0 _)

theorem sum0_C : addf k0_pay5 (kernelRun0_C.sl.r c a3 p3 a4 p4 a5 p5 a8 p8 a9 p9 a12 p12 x0 x1 x2 x5 x6 xs0) = k0_pay21 k0_pay5 (quarter (k0_pay3 x0 x1 xs0) 0) (runD x5 0) x6 (runX x2 0) := by
  unfold kernelRun0_C.sl.r
  rw [v13_C, pay9_as]
  exact congr (congr (congrArg (k0_pay21 _ _) (read_runD a8 p8 x5 0 _)) (read_whole a9 p9 x6 hz2 _)) (read_runX a5 p5 x2 0 _)

theorem sum1_C : kernelRun0_C.sl.r_2 c a3 p3 a4 p4 a5 p5 a8 p8 a9 p9 a12 p12 x0 x1 x2 x5 x6 xs0 = k0_pay21 (k0_pay21 k0_pay5 (quarter (k0_pay3 x0 x1 xs0) 0) (runD x5 0) x6 (runX x2 0))
    (quarter (k0_pay3 x0 x1 xs0) 1) (runD x5 1) x6 (runX x2 1) := by
  unfold kernelRun0_C.sl.r_2
  rw [v13_C, pay15_as, sum0_C]
  exact congr (congr (congrArg (k0_pay21 _ _) (read_runD a8 p8 x5 1 _)) (read_whole a9 p9 x6 hz2 _)) (read_runX a5 p5 x2 1 _)

theorem sum2_C : kernelRun0_C.sl.r_4 c a3 p3 a4 p4 a5 p5 a8 p8 a9 p9 a12 p12 x0 x1 x2 x5 x6 xs0 = k0_pay21 (k0_pay21 (k0_pay21 k0_pay5 (quarter (k0_pay3 x0 x1 xs0) 0) (runD x5 0) x6 (runX x2 0))
    (quarter (k0_pay3 x0 x1 xs0) 1) (runD x5 1) x6 (runX x2 1)) (quarter (k0_pay3 x0 x1 xs0) 2) (runD x5 2) x6 (runX x2 2) := by
  unfold kernelRun0_C.sl.r_4 kernelRun0_C.sl.r_3
  rw [v13_C, quarter2, sum1_C]
  exact congr (congr (congrArg (k0_pay21 _ _) (read_runD a8 p8 x5 2 _)) (read_whole a9 p9 x6 hz2 _)) (read_runX a5 p5 x2 2 _)

include T in
theorem sum_C (o : Fin 1) (k : Fin 1024) : kernelRun0_C.sl.r_7 c a3 p3 a4 p4 a5 p5 a8 p8 a9 p9 a12 p12 x0 x1 x2 x5 x6 xs0 (ix2 o k) = (∑ r, join A D W r k * (X r k * rs (X r))) := by
  unfold kernelRun0_C.sl.r_7 kernelRun0_C.sl.r_5 kernelRun0_C.sl.r_6
  rw [v13_C, quarter3, sum2_C, pay27_as]
  refine (congrFun (congr (congr (congrArg (k0_pay21 _ _) (read_runD a8 p8 x5 3 _)) (read_whole a9 p9 x6 hz2 _)) (read_runX a5 p5 x2 3 _)) (ix2 o k)).trans ?_
  rw [pay21_eq (T.piece 3), pay21_eq (T.piece 2), pay21_eq (T.piece 1), pay21_eq (T.piece 0), pay5_eq,
    zero_add]
  exact sum_runs fun r => join A D W r k * (X r k * rs (X r))

include T in
theorem out_C_8 {hc0 : ¬cond0_0 i} {hc1 : cond0_1 i} {hc2 : cond0_2 i} {hc3 : cond0_3 i} (o : Fin 1) (k : Fin 1024) :
    out0_C_8 c i a3 p3 a4 p4 a5 p5 a6 p6 a7 p7 a8 p8 a9 p9 a10 p10 a11 p11 a12 p12 hc0 hc1 hc2 hc3 x0 x1 x2 x3 x4 x5 x6 xs0 (ix2 o k)
      = (0 : EReal) + (∑ r, join A D W r k * (X r k * rs (X r))) := by
  unfold out0_C_8
  rw [View.read_writes_eq_canon _ _ _ (cover0_C_8 c i a3 p3 a4 p4 a5 p5 a6 p6 a7 p7 a8 p8 a9 p9 a10 p10 a11 p11 a12 p12 hc0 hc1 hc2 hc3 x0 x1 x2 x3 x4 x5 x6 xs0)]
  unfold kernelRun0_C
  dsimp only
  rw [View.canon_cons_unit_zero (S := S1x1024) hz2, pay4_eq, sum_C T]
  refine congrArg (fun z : EReal => z + _) ?_
  unfold kernelRun0_C.sl.v165 kernelRun0_C.sl.H8_1
  exact (congrFun (View.readCov_unit_zero (Val := Elt Ideal) (e := .f32) (S := S1x1024) _ hz2 _ _) (ix2 o k)).trans (pay28_eq o k)

include T in
theorem out_C_7 {hc0 : ¬cond0_0 i} {hc1 : cond0_1 i} {hc2 : cond0_2 i} {hc3 : cond0_3 i} (r : Fin 1024) (k : Fin 1024) :
    out0_C_7 c i a3 p3 a4 p4 a5 p5 a6 p6 a7 p7 a8 p8 a9 p9 a10 p10 a11 p11 a12 p12 hc0 hc1 hc2 hc3 x0 x1 x2 x3 x4 x5 x6 xs0 (ix2 r k)
      = (rmsBack (X r) g (join A D W r) k) + x4 (ix2 r k) := by
  unfold out0_C_7
  rw [View.read_writes_eq_canon _ _ _ (cover0_C_7 c i a3 p3 a4 p4 a5 p5 a6 p6 a7 p7 a8 p8 a9 p9 a10 p10 a11 p11 a12 p12 hc0 hc1 hc2 hc3 x0 x1 x2 x3 x4 x5 x6 xs0)]
  refine (View.canon_apply_of_pieces (fun y : S1024x1024.Idx => (fun (r k : Fin 1024) => (rmsBack (X r) g (join A D W r) k) + x4 (ix2 r k)) (y 0) (y 1)) _
    ?_ (ix2 r k) (cover0_C_7 c i a3 p3 a4 p4 a5 p5 a6 p6 a7 p7 a8 p8 a9 p9 a10 p10 a11 p11 a12 p12 hc0 hc1 hc2 hc3 x0 x1 x2 x3 x4 x5 x6 xs0 _)).trans rfl
  unfold kernelRun0_C
  dsimp only
  refine List.forall_mem_cons.mpr ⟨box_agrees (fun r k => (rmsBack (X r) g (join A D W r) k) + x4 (ix2 r k)) 3 (by decide) _ fun i k => ?_, ?_⟩
  · unfold kernelRun0_C.sl.r_5 kernelRun0_C.sl.r_6
    rw [v13_C, quarter3, pay26_as]
    exact (congrFun (congr (congr (congr (congr (congrArg (k0_pay20 _) (read_runD a8 p8 x5 3 _)) (read_whole a9 p9 x6 hz2 _)) (read_runX a5 p5 x2 3 _)) (read_whole a6 p6 x3 hz2 _)) (read_runX a7 p7 x4 3 _)) (ix2 i k)).trans
      (pay20_eq (T.piece 3) i k)
  refine List.forall_mem_cons.mpr ⟨box_agrees (fun r k => (rmsBack (X r) g (join A D W r) k) + x4 (ix2 r k)) 2 (by decide) _ fun i k => ?_, ?_⟩
  · unfold kernelRun0_C.sl.r_3
    rw [v13_C, quarter2]
    exact (congrFun (congr (congr (congr (congr (congrArg (k0_pay20 _) (read_runD a8 p8 x5 2 _)) (read_whole a9 p9 x6 hz2 _)) (read_runX a5 p5 x2 2 _)) (read_whole a6 p6 x3 hz2 _)) (read_runX a7 p7 x4 2 _)) (ix2 i k)).trans
      (pay20_eq (T.piece 2) i k)
  refine List.forall_mem_cons.mpr ⟨box_agrees (fun r k => (rmsBack (X r) g (join A D W r) k) + x4 (ix2 r k)) 1 (by decide) _ fun i k => ?_, ?_⟩
  · rw [v13_C, pay14_as]
    exact (congrFun (congr (congr (congr (congr (congrArg (k0_pay20 _) (read_runD a8 p8 x5 1 _)) (read_whole a9 p9 x6 hz2 _)) (read_runX a5 p5 x2 1 _)) (read_whole a6 p6 x3 hz2 _)) (read_runX a7 p7 x4 1 _)) (ix2 i k)).trans
      (pay20_eq (T.piece 1) i k)
  refine List.forall_mem_cons.mpr ⟨box_agrees (fun r k => (rmsBack (X r) g (join A D W r) k) + x4 (ix2 r k)) 0 (by decide) _ fun i k => ?_, ?_⟩
  · rw [piece0_C]
    exact pay20_eq (T.piece 0) i k
  exact List.forall_mem_nil _

theorem v13_D : kernelRun0_D.sl.v13 c a3 p3 a4 p4 a12 p12 x0 x1 xs0 = k0_pay3 x0 x1 xs0 := by
  unfold kernelRun0_D.sl.v13 kernelRun0_D.sl.HS0_1
  refine (View.readCov_unit_zero (Val := Elt Ideal) (e := .f32) (S := S1024x1024) _ hz2 _ _).trans ?_
  rw [read_whole a3 p3 x0 hz2, read_whole a4 p4 x1 hz2, read_whole a12 p12 xs0 hz2]

theorem piece0_D : kernelRun0_D.sl.r_1 c a3 p3 a4 p4 a5 p5 a6 p6 a7 p7 a8 p8 a9 p9 a12 p12 x0 x1 x2 x3 x4 x5 x6 xs0
    = k0_pay20 (quarter (k0_pay3 x0 x1 xs0) 0) (runD x5 0) x6 (runX x2 0) x3 (runX x4 0) := by
  unfold kernelRun0_D.sl.r_1
  rw [v13_D, pay10_as]
  exact congr (congr (congr (congr (congrArg (k0_pay20 _) (read_runD a8 p8 x5 0 _)) (read_whole a9 p9 x6 hz2 _)) (read_runX a5 p5 x2 0 _)) (read_whole a6 p6 x3 hz2 _)) (read_runX a7 p7 x4 0 _)

theorem sum0_D : addf k0_pay5 (kernelRun0_D.sl.r c a3 p3 a4 p4 a5 p5 a8 p8 a9 p9 a12 p12 x0 x1 x2 x5 x6 xs0) = k0_pay21 k0_pay5 (quarter (k0_pay3 x0 x1 xs0) 0) (runD x5 0) x6 (runX x2 0) := by
  unfold kernelRun0_D.sl.r
  rw [v13_D, pay9_as]
  exact congr (congr (congrArg (k0_pay21 _ _) (read_runD a8 p8 x5 0 _)) (read_whole a9 p9 x6 hz2 _)) (read_runX a5 p5 x2 0 _)

theorem sum1_D : kernelRun0_D.sl.r_2 c a3 p3 a4 p4 a5 p5 a8 p8 a9 p9 a12 p12 x0 x1 x2 x5 x6 xs0 = k0_pay21 (k0_pay21 k0_pay5 (quarter (k0_pay3 x0 x1 xs0) 0) (runD x5 0) x6 (runX x2 0))
    (quarter (k0_pay3 x0 x1 xs0) 1) (runD x5 1) x6 (runX x2 1) := by
  unfold kernelRun0_D.sl.r_2
  rw [v13_D, pay15_as, sum0_D]
  exact congr (congr (congrArg (k0_pay21 _ _) (read_runD a8 p8 x5 1 _)) (read_whole a9 p9 x6 hz2 _)) (read_runX a5 p5 x2 1 _)

theorem sum2_D : kernelRun0_D.sl.r_4 c a3 p3 a4 p4 a5 p5 a8 p8 a9 p9 a12 p12 x0 x1 x2 x5 x6 xs0 = k0_pay21 (k0_pay21 (k0_pay21 k0_pay5 (quarter (k0_pay3 x0 x1 xs0) 0) (runD x5 0) x6 (runX x2 0))
    (quarter (k0_pay3 x0 x1 xs0) 1) (runD x5 1) x6 (runX x2 1)) (quarter (k0_pay3 x0 x1 xs0) 2) (runD x5 2) x6 (runX x2 2) := by
  unfold kernelRun0_D.sl.r_4 kernelRun0_D.sl.r_3
  rw [v13_D, quarter2, sum1_D]
  exact congr (congr (congrArg (k0_pay21 _ _) (read_runD a8 p8 x5 2 _)) (read_whole a9 p9 x6 hz2 _)) (read_runX a5 p5 x2 2 _)

include T in
theorem sum_D (o : Fin 1) (k : Fin 1024) : kernelRun0_D.sl.r_7 c a3 p3 a4 p4 a5 p5 a8 p8 a9 p9 a12 p12 x0 x1 x2 x5 x6 xs0 (ix2 o k) = (∑ r, join A D W r k * (X r k * rs (X r))) := by
  unfold kernelRun0_D.sl.r_7 kernelRun0_D.sl.r_5 kernelRun0_D.sl.r_6
  rw [v13_D, quarter3, sum2_D, pay27_as]
  refine (congrFun (congr (congr (congrArg (k0_pay21 _ _) (read_runD a8 p8 x5 3 _)) (read_whole a9 p9 x6 hz2 _)) (read_runX a5 p5 x2 3 _)) (ix2 o k)).trans ?_
  rw [pay21_eq (T.piece 3), pay21_eq (T.piece 2), pay21_eq (T.piece 1), pay21_eq (T.piece 0), pay5_eq,
    zero_add]
  exact sum_runs fun r => join A D W r k * (X r k * rs (X r))

include T in
theorem out_D_8 {hc0 : ¬cond0_0 i} {hc1 : cond0_1 i} {hc2 : cond0_2 i} {hc3 : ¬cond0_3 i} (o : Fin 1) (k : Fin 1024) :
    out0_D_8 c i a3 p3 a4 p4 a5 p5 a6 p6 a7 p7 a8 p8 a9 p9 a10 p10 a11 p11 a12 p12 hc0 hc1 hc2 hc3 x0 x1 x2 x3 x4 x5 x6 xo8 xs0 (ix2 o k)
      = xo8 (ix2 o k) + (∑ r, join A D W r k * (X r k * rs (X r))) := by
  unfold out0_D_8
  rw [View.read_writes_eq_canon _ _ _ (cover0_D_8 c i a3 p3 a4 p4 a5 p5 a6 p6 a7 p7 a8 p8 a9 p9 a10 p10 a11 p11 a12 p12 hc0 hc1 hc2 hc3 x0 x1 x2 x3 x4 x5 x6 xo8 xs0)]
  unfold kernelRun0_D
  dsimp only
  rw [View.canon_unit_zero (S := S1x1024) hz2, pay4_eq, sum_D T]
  refine congrArg (fun z : EReal => z + _) ?_
  unfold kernelRun0_D.sl.r_8
  rw [read_whole a11 p11 xo8 hz2]

include T in
theorem out_D_7 {hc0 : ¬cond0_0 i} {hc1 : cond0_1 i} {hc2 : cond0_2 i} {hc3 : ¬cond0_3 i} (r : Fin 1024) (k : Fin 1024) :
    out0_D_7 c i a3 p3 a4 p4 a5 p5 a6 p6 a7 p7 a8 p8 a9 p9 a10 p10 a11 p11 a12 p12 hc0 hc1 hc2 hc3 x0 x1 x2 x3 x4 x5 x6 xo8 xs0 (ix2 r k)
      = (rmsBack (X r) g (join A D W r) k) + x4 (ix2 r k) := by
  unfold out0_D_7
  rw [View.read_writes_eq_canon _ _ _ (cover0_D_7 c i a3 p3 a4 p4 a5 p5 a6 p6 a7 p7 a8 p8 a9 p9 a10 p10 a11 p11 a12 p12 hc0 hc1 hc2 hc3 x0 x1 x2 x3 x4 x5 x6 xo8 xs0)]
  refine (View.canon_apply_of_pieces (fun y : S1024x1024.Idx => (fun (r k : Fin 1024) => (rmsBack (X r) g (join A D W r) k) + x4 (ix2 r k)) (y 0) (y 1)) _
    ?_ (ix2 r k) (cover0_D_7 c i a3 p3 a4 p4 a5 p5 a6 p6 a7 p7 a8 p8 a9 p9 a10 p10 a11 p11 a12 p12 hc0 hc1 hc2 hc3 x0 x1 x2 x3 x4 x5 x6 xo8 xs0 _)).trans rfl
  unfold kernelRun0_D
  dsimp only
  refine List.forall_mem_cons.mpr ⟨box_agrees (fun r k => (rmsBack (X r) g (join A D W r) k) + x4 (ix2 r k)) 3 (by decide) _ fun i k => ?_, ?_⟩
  · unfold kernelRun0_D.sl.r_5 kernelRun0_D.sl.r_6
    rw [v13_D, quarter3, pay26_as]
    exact (congrFun (congr (congr (congr (congr (congrArg (k0_pay20 _) (read_runD a8 p8 x5 3 _)) (read_whole a9 p9 x6 hz2 _)) (read_runX a5 p5 x2 3 _)) (read_whole a6 p6 x3 hz2 _)) (read_runX a7 p7 x4 3 _)) (ix2 i k)).trans
      (pay20_eq (T.piece 3) i k)
  refine List.forall_mem_cons.mpr ⟨box_agrees (fun r k => (rmsBack (X r) g (join A D W r) k) + x4 (ix2 r k)) 2 (by decide) _ fun i k => ?_, ?_⟩
  · unfold kernelRun0_D.sl.r_3
    rw [v13_D, quarter2]
    exact (congrFun (congr (congr (congr (congr (congrArg (k0_pay20 _) (read_runD a8 p8 x5 2 _)) (read_whole a9 p9 x6 hz2 _)) (read_runX a5 p5 x2 2 _)) (read_whole a6 p6 x3 hz2 _)) (read_runX a7 p7 x4 2 _)) (ix2 i k)).trans
      (pay20_eq (T.piece 2) i k)
  refine List.forall_mem_cons.mpr ⟨box_agrees (fun r k => (rmsBack (X r) g (join A D W r) k) + x4 (ix2 r k)) 1 (by decide) _ fun i k => ?_, ?_⟩
  · rw [v13_D, pay14_as]
    exact (congrFun (congr (congr (congr (congr (congrArg (k0_pay20 _) (read_runD a8 p8 x5 1 _)) (read_whole a9 p9 x6 hz2 _)) (read_runX a5 p5 x2 1 _)) (read_whole a6 p6 x3 hz2 _)) (read_runX a7 p7 x4 1 _)) (ix2 i k)).trans
      (pay20_eq (T.piece 1) i k)
  refine List.forall_mem_cons.mpr ⟨box_agrees (fun r k => (rmsBack (X r) g (join A D W r) k) + x4 (ix2 r k)) 0 (by decide) _ fun i k => ?_, ?_⟩
  · rw [piece0_D]
    exact pay20_eq (T.piece 0) i k
  exact List.forall_mem_nil _

end Cert.Mat.Dx

end
-- ==== Proof.Mat.DxRef.lean ====
/- What the plain reference of the input gradient computes, stage by stage. -/
module

public import proofs.«01_k».proof.Proof.Mat.DxOuts
public import proofs.«01_k».proof.Proof.Gen.DxRefIdeal.Read

@[expose] public section

set_option maxRecDepth 16384

noncomputable section

namespace Cert.Mat.Dx.Ref

open Idealize.ShloMosaic Idealize.ShloMosaic.TcCoe Cert.DxRefIdeal Cert.DxRefIdeal.Gen Cert.DxRefIdeal.Read
open Cert.Gate (eps word_1024 word_neg_half word_eps)

/-- The cotangent of the normed rows: what comes back through the two projections. -/
def dh (U : Fin 8192 → Fin 10240 → EReal) (M : Fin 10240 → Fin 1024 → EReal) (D : Fin 8192 → Fin 128 → EReal) (V : Fin 32 → Fin 1024 → EReal)
    (r : Fin 8192) (k : Fin 1024) : EReal :=
  (∑ j, U r j * M j k) + ∑ j : Fin 32, D r ⟨j.val, by omega⟩ * V j k

/-- The arguments but the residual hold these numbers. -/
structure Args (x0 : Vec Ideal S8192x10240 .bf16) (x1 : Vec Ideal S10240x1024 .bf16) (x2 : Vec Ideal S8192x1024 .f32)
    (x3 : Vec Ideal S1x1024 .f32) (x5 : Vec Ideal S8192x128 .bf16) (x6 : Vec Ideal S32x1024 .bf16) (U : Fin 8192 → Fin 10240 → EReal)
    (M : Fin 10240 → Fin 1024 → EReal) (X : Fin 8192 → Fin 1024 → EReal) (g : Fin 1024 → EReal) (D : Fin 8192 → Fin 128 → EReal)
    (V : Fin 32 → Fin 1024 → EReal) : Prop where
  u : ∀ i, x0 i = (U (i 0) (i 1) : EReal)
  m : ∀ i, x1 i = (M (i 0) (i 1) : EReal)
  x : ∀ i, x2 i = (X (i 0) (i 1) : EReal)
  g : ∀ i, x3 i = (g (i 1) : EReal)
  d : ∀ i, x5 i = (D (i 0) (i 1) : EReal)
  v : ∀ i, x6 i = (V (i 0) (i 1) : EReal)

variable {x0 : Vec Ideal S8192x10240 .bf16} {x1 : Vec Ideal S10240x1024 .bf16} {x2 : Vec Ideal S8192x1024 .f32}
    {x3 : Vec Ideal S1x1024 .f32} {x4 : Vec Ideal S8192x1024 .f32} {x5 : Vec Ideal S8192x128 .bf16} {x6 : Vec Ideal S32x1024 .bf16}
    {U : Fin 8192 → Fin 10240 → EReal} {M : Fin 10240 → Fin 1024 → EReal}
    {X : Fin 8192 → Fin 1024 → EReal} {g : Fin 1024 → EReal} {D : Fin 8192 → Fin 128 → EReal}
    {V : Fin 32 → Fin 1024 → EReal} (H : Args x0 x1 x2 x3 x5 x6 U M X g D V)
include H

/-! The three parts of the joined weight and of the joined cotangent. -/

theorem v2_0 (j : Fin 8192) (k : Fin 1024) : val_main_v2 (F := Ideal) x1 x6 (ix2 (⟨j.val, by omega⟩ : Fin 10272) k) = (M ⟨j.val, by omega⟩ k : EReal) := by
  unfold val_main_v2
  refine (concatenate_apply_piece 0 [⟨S8192x1024, val_main_v0 (F := Ideal) x1⟩, ⟨S32x1024, x6⟩, ⟨S2048x1024, val_main_v1 (F := Ideal) x1⟩] concatenates_S8192x1024_S32x1024_S2048x1024_S10272x1024_d0 _ 0 (by show 0 < 3; norm_num)
    S8192x1024 (val_main_v0 (F := Ideal) x1) rfl rfl 0 (by rfl) (ix2 j k) (fun b hb => ?_) (by show 0 + j.val = _; exact Nat.zero_add _)).trans ?_
  · fin_cases b
    · exact absurd rfl hb
    · rfl
  · rw [val_main_v0_apply]; exact H.m _

theorem v2_1 (j : Fin 32) (k : Fin 1024) : val_main_v2 (F := Ideal) x1 x6 (ix2 (⟨8192 + j.val, by omega⟩ : Fin 10272) k) = (V j k : EReal) := by
  unfold val_main_v2
  refine (concatenate_apply_piece 0 [⟨S8192x1024, val_main_v0 (F := Ideal) x1⟩, ⟨S32x1024, x6⟩, ⟨S2048x1024, val_main_v1 (F := Ideal) x1⟩] concatenates_S8192x1024_S32x1024_S2048x1024_S10272x1024_d0 _ 1 (by show 1 < 3; norm_num)
    S32x1024 (x6) rfl rfl 8192 (by rfl) (ix2 j k) (fun b hb => ?_) (by show 8192 + j.val = _; rfl)).trans ?_
  · fin_cases b
    · exact absurd rfl hb
    · rfl
  · exact H.v _

theorem v2_2 (j : Fin 2048) (k : Fin 1024) : val_main_v2 (F := Ideal) x1 x6 (ix2 (⟨8224 + j.val, by omega⟩ : Fin 10272) k) = (M ⟨8192 + j.val, by omega⟩ k : EReal) := by
  unfold val_main_v2
  refine (concatenate_apply_piece 0 [⟨S8192x1024, val_main_v0 (F := Ideal) x1⟩, ⟨S32x1024, x6⟩, ⟨S2048x1024, val_main_v1 (F := Ideal) x1⟩] concatenates_S8192x1024_S32x1024_S2048x1024_S10272x1024_d0 _ 2 (by show 2 < 3; norm_num)
    S2048x1024 (val_main_v1 (F := Ideal) x1) rfl rfl 8224 (by rfl) (ix2 j k) (fun b hb => ?_) (by show 8224 + j.val = _; rfl)).trans ?_
  · fin_cases b
    · exact absurd rfl hb
    · rfl
  · rw [val_main_v1_apply]; exact H.m _

theorem v8_0 (j : Fin 8192) (r : Fin 8192) : val_main_v8 (F := Ideal) x0 x5 (ix2 r (⟨j.val, by omega⟩ : Fin 10272)) = (U r ⟨j.val, by omega⟩ : EReal) := by
  unfold val_main_v8
  refine (concatenate_apply_piece 1 [⟨S8192x8192, val_main_v5 (F := Ideal) x0⟩, ⟨S8192x32, val_main_v6 (F := Ideal) x5⟩, ⟨S8192x2048, val_main_v7 (F := Ideal) x0⟩] concatenates_S8192x8192_S8192x32_S8192x2048_S8192x10272_d1 _ 0 (by show 0 < 3; norm_num)
    S8192x8192 (val_main_v5 (F := Ideal) x0) rfl rfl 0 (by rfl) (ix2 r j) (fun b hb => ?_) (by show 0 + j.val = _; exact Nat.zero_add _)).trans ?_
  · fin_cases b
    · rfl
    · exact absurd rfl hb
  · rw [val_main_v5_apply]; exact H.u _

theorem v8_1 (j : Fin 32) (r : Fin 8192) : val_main_v8 (F := Ideal) x0 x5 (ix2 r (⟨8192 + j.val, by omega⟩ : Fin 10272)) = (D r ⟨j.val, by omega⟩ : EReal) := by
  unfold val_main_v8
  refine (concatenate_apply_piece 1 [⟨S8192x8192, val_main_v5 (F := Ideal) x0⟩, ⟨S8192x32, val_main_v6 (F := Ideal) x5⟩, ⟨S8192x2048, val_main_v7 (F := Ideal) x0⟩] concatenates_S8192x8192_S8192x32_S8192x2048_S8192x10272_d1 _ 1 (by show 1 < 3; norm_num)
    S8192x32 (val_main_v6 (F := Ideal) x5) rfl rfl 8192 (by rfl) (ix2 r j) (fun b hb => ?_) (by show 8192 + j.val = _; rfl)).trans ?_
  · fin_cases b
    · rfl
    · exact absurd rfl hb
  · rw [val_main_v6_apply]; exact H.d _

theorem v8_2 (j : Fin 2048) (r : Fin 8192) : val_main_v8 (F := Ideal) x0 x5 (ix2 r (⟨8224 + j.val, by omega⟩ : Fin 10272)) = (U r ⟨8192 + j.val, by omega⟩ : EReal) := by
  unfold val_main_v8
  refine (concatenate_apply_piece 1 [⟨S8192x8192, val_main_v5 (F := Ideal) x0⟩, ⟨S8192x32, val_main_v6 (F := Ideal) x5⟩, ⟨S8192x2048, val_main_v7 (F := Ideal) x0⟩] concatenates_S8192x8192_S8192x32_S8192x2048_S8192x10272_d1 _ 2 (by show 2 < 3; norm_num)
    S8192x2048 (val_main_v7 (F := Ideal) x0) rfl rfl 8224 (by rfl) (ix2 r j) (fun b hb => ?_) (by show 8224 + j.val = _; rfl)).trans ?_
  · fin_cases b
    · rfl
    · exact absurd rfl hb
  · rw [val_main_v7_apply]; exact H.u _

omit H in
/-- A sum over the joined axis, part by part. -/
theorem sum_joined (f : Fin 10272 → EReal) : ∑ j, f j
    = (∑ j : Fin 8192, f ⟨j.val, by omega⟩) + (∑ j : Fin 32, f ⟨8192 + j.val, by omega⟩) + ∑ j : Fin 2048, f ⟨8224 + j.val, by omega⟩ :=
  (Fin.sum_univ_add (a := 8224) (b := 2048) f).trans
    (congrArg (fun z : EReal => z + _) (Fin.sum_univ_add (a := 8192) (b := 32) fun j : Fin 8224 => f ⟨j.val, by omega⟩))

theorem v11 (i) : val_main_v11 (F := Ideal) x2 i = (∑ k, X (i 0) k * X (i 0) k) := by
  have e : ∀ k, val_main_v10 (F := Ideal) x2 (idx_main_v11 i k) = (X (i 0) k * X (i 0) k) := fun k => by
    show x2 _ * x2 _ = _
    rw [H.x]; rfl
  have z : val_main_cst (F := Ideal) (Shape.Idx.first h_S_) = (0 : EReal) := zero_word
  rw [val_main_v11_apply]
  simp only [e, z, zero_add]

theorem v16 (i) : val_main_v16 (F := Ideal) x2 i = (ms (X (i 0)) : EReal) := by
  show Ideal.div (val_main_v12 (F := Ideal) x2 i) (Ideal.ofBits .f32 0x44800000#32) + Ideal.ofBits .f32 0x358637BD#32 = _
  rw [div_1024, word_eps, val_main_v12_apply, v11 H]; rfl

theorem v17 (i) : val_main_v17 (F := Ideal) x2 i = (rs (X (i 0)) : EReal) := by
  show Ideal.rsqrt (val_main_v16 (F := Ideal) x2 i) = _
  rw [v16 H] <;> rfl

theorem v20 (i) : val_main_v20 (F := Ideal) x2 i = ((-(1 / 2) : ℝ) : EReal) * Ideal.div (rs (X (i 0))) (ms (X (i 0))) := by
  show Ideal.ofBits .f32 0xBF000000#32 * Ideal.div (val_main_v17 (F := Ideal) x2 i) (val_main_v16 (F := Ideal) x2 i) = _
  rw [word_neg_half, v17 H, v16 H]

theorem v22 (i) : val_main_v22 (F := Ideal) x2 i = (X (i 0) (i 1) * rs (X (i 0))) := by
  show x2 i * val_main_v21 (F := Ideal) x2 i = _
  rw [val_main_v21_apply, v17 H, H.x]; rfl

theorem v26 (i) : val_main_v26 (F := Ideal) x0 x1 x5 x6 i = (dh U M D V (i 0) (i 1) : EReal) := by
  let L : Fin 10272 → EReal := fun j => if h : j.val < 8192 then U (i 0) ⟨j.val, by omega⟩ else
    if h' : j.val < 8224 then D (i 0) ⟨j.val - 8192, by omega⟩ else U (i 0) ⟨j.val - 32, by omega⟩
  let R : Fin 10272 → EReal := fun j => if h : j.val < 8192 then M ⟨j.val, by omega⟩ (i 1) else
    if h' : j.val < 8224 then V ⟨j.val - 8192, by omega⟩ (i 1) else M ⟨j.val - 32, by omega⟩ (i 1)
  have e : ∀ k, val_main_v9 (F := Ideal) x0 x5 (lidx_main_v26 i k) = (L k : EReal) := fun k => by
    show val_main_v8 (F := Ideal) x0 x5 _ = _
    have hi : lidx_main_v26 i k = ix2 (i 0) k := funext fun d => by fin_cases d <;> rfl
    rw [hi]
    by_cases h : k.val < 8192
    · rw [show L k = U (i 0) ⟨k.val, by omega⟩ from dif_pos h]
      exact v8_0 H ⟨k.val, h⟩ (i 0)
    · by_cases h' : k.val < 8224
      · rw [show L k = D (i 0) ⟨k.val - 8192, by omega⟩ from (dif_neg h).trans (dif_pos h')]
        have hk : k = ⟨8192 + (k.val - 8192), by omega⟩ := Fin.ext (by show k.val = 8192 + (k.val - 8192); omega)
        exact (congrArg (fun z => val_main_v8 (F := Ideal) x0 x5 (ix2 (i 0) z)) hk).trans (v8_1 H ⟨k.val - 8192, by omega⟩ (i 0))
      · rw [show L k = U (i 0) ⟨k.val - 32, by omega⟩ from (dif_neg h).trans (dif_neg h')]
        have hk : k = ⟨8224 + (k.val - 8224), by omega⟩ := Fin.ext (by show k.val = 8224 + (k.val - 8224); omega)
        refine (congrArg (fun z => val_main_v8 (F := Ideal) x0 x5 (ix2 (i 0) z)) hk).trans ((v8_2 H ⟨k.val - 8224, by omega⟩ (i 0)).trans ?_)
        exact congrArg (fun z => (U (i 0) z)) (Fin.ext (by show 8192 + (k.val - 8224) = k.val - 32; omega))
  have f : ∀ k, val_main_v4 (F := Ideal) x1 x6 (ridx_main_v26 i k) = (R k : EReal) := fun k => by
    show val_main_v3 (F := Ideal) x1 x6 _ = _
    rw [val_main_v3_apply]
    have hi : idx_main_v3 (ridx_main_v26 i k) = ix2 k (i 1) := funext fun d => by fin_cases d <;> rfl
    rw [hi]
    by_cases h : k.val < 8192
    · rw [show R k = M ⟨k.val, by omega⟩ (i 1) from dif_pos h]
      exact v2_0 H ⟨k.val, h⟩ (i 1)
    · by_cases h' : k.val < 8224
      · rw [show R k = V ⟨k.val - 8192, by omega⟩ (i 1) from (dif_neg h).trans (dif_pos h')]
        have hk : k = ⟨8192 + (k.val - 8192), by omega⟩ := Fin.ext (by show k.val = 8192 + (k.val - 8192); omega)
        exact (congrArg (fun z => val_main_v2 (F := Ideal) x1 x6 (ix2 z (i 1))) hk).trans (v2_1 H ⟨k.val - 8192, by omega⟩ (i 1))
      · rw [show R k = M ⟨k.val - 32, by omega⟩ (i 1) from (dif_neg h).trans (dif_neg h')]
        have hk : k = ⟨8224 + (k.val - 8224), by omega⟩ := Fin.ext (by show k.val = 8224 + (k.val - 8224); omega)
        refine (congrArg (fun z => val_main_v2 (F := Ideal) x1 x6 (ix2 z (i 1))) hk).trans ((v2_2 H ⟨k.val - 8224, by omega⟩ (i 1)).trans ?_)
        exact congrArg (fun z => (M z (i 1))) (Fin.ext (by show 8192 + (k.val - 8224) = k.val - 32; omega))
  rw [val_main_v26_apply]
  simp only [e, f]
  rw [sum_joined]
  have s1 : ∀ j : Fin 8192, L ⟨j.val, by omega⟩ * R ⟨j.val, by omega⟩ = U (i 0) ⟨j.val, by omega⟩ * M ⟨j.val, by omega⟩ (i 1) := fun j =>
    congrArg₂ (fun a b : EReal => a * b) (dif_pos j.isLt) (dif_pos j.isLt)
  have s2 : ∀ j : Fin 32, L ⟨8192 + j.val, by omega⟩ * R ⟨8192 + j.val, by omega⟩ = D (i 0) ⟨j.val, by omega⟩ * V j (i 1) := fun j => by
    have n1 : ¬ 8192 + j.val < 8192 := by omega
    have n2 : 8192 + j.val < 8224 := by omega
    refine congrArg₂ (fun a b : EReal => a * b) (((dif_neg n1).trans (dif_pos n2)).trans ?_) (((dif_neg n1).trans (dif_pos n2)).trans ?_)
    · exact congrArg (D (i 0)) (Fin.ext (by show 8192 + j.val - 8192 = j.val; omega))
    · exact congrArg (fun z => V z (i 1)) (Fin.ext (by show 8192 + j.val - 8192 = j.val; omega))
  have s3 : ∀ j : Fin 2048, L ⟨8224 + j.val, by omega⟩ * R ⟨8224 + j.val, by omega⟩
      = U (i 0) ⟨8192 + j.val, by omega⟩ * M ⟨8192 + j.val, by omega⟩ (i 1) := fun j => by
    have n1 : ¬ 8224 + j.val < 8192 := by omega
    have n2 : ¬ 8224 + j.val < 8224 := by omega
    refine congrArg₂ (fun a b : EReal => a * b) (((dif_neg n1).trans (dif_neg n2)).trans ?_) (((dif_neg n1).trans (dif_neg n2)).trans ?_)
    · exact congrArg (U (i 0)) (Fin.ext (by show 8224 + j.val - 32 = 8192 + j.val; omega))
    · exact congrArg (fun z => M z (i 1)) (Fin.ext (by show 8224 + j.val - 32 = 8192 + j.val; omega))
  simp only [s1, s2, s3]
  have t : ∑ j, U (i 0) j * M j (i 1) = (∑ j : Fin 8192, U (i 0) ⟨j.val, by omega⟩ * M ⟨j.val, by omega⟩ (i 1))
      + ∑ j : Fin 2048, U (i 0) ⟨8192 + j.val, by omega⟩ * M ⟨8192 + j.val, by omega⟩ (i 1) :=
    Fin.sum_univ_add (a := 8192) (b := 2048) fun j : Fin 10240 => U (i 0) j * M j (i 1)
  unfold dh
  rw [t, add_right_comm]

theorem v27 (i) : val_main_v27 (F := Ideal) x0 x1 x2 x5 x6 i = (X (i 0) (i 1) * rs (X (i 0)) * dh U M D V (i 0) (i 1)) := by
  show val_main_v22 (F := Ideal) x2 i * val_main_v26 (F := Ideal) x0 x1 x5 x6 i = _
  rw [v22 H, v26 H]

/-- The gradient of the norm's scale. -/
theorem v29 (o : Fin 1) (k : Fin 1024) : val_main_v29 (F := Ideal) x0 x1 x2 x5 x6 (ix2 o k)
    = (∑ r, dh U M D V r k * (X r k * rs (X r))) := by
  have e : ∀ r, val_main_v27 (F := Ideal) x0 x1 x2 x5 x6 (idx_main_v28 (idx_main_v29 (ix2 o k)) r)
      = (dh U M D V r k * (X r k * rs (X r))) := fun r => by
    have h : idx_main_v28 (idx_main_v29 (ix2 o k)) r 1 = k := Fin.ext (by
      have := o.isLt; show o.val * 1024 + k.val = k.val; omega)
    rw [v27 H, mul_comm, h]; rfl
  have z : val_main_cst_3 (F := Ideal) (Shape.Idx.first h_S_) = (0 : EReal) := zero_word
  rw [val_main_v29_apply, val_main_v28_apply]
  simp only [e, z, zero_add]

theorem v31 (i) : val_main_v31 (F := Ideal) x0 x1 x3 x5 x6 i = (dh U M D V (i 0) (i 1) * g (i 1)) := by
  show val_main_v26 (F := Ideal) x0 x1 x5 x6 i * val_main_v30 (F := Ideal) x3 i = _
  rw [v26 H, val_main_v30_apply, H.g]; rfl

theorem v33 (i) : val_main_v33 (F := Ideal) x0 x1 x2 x3 x5 x6 i = (∑ k, X (i 0) k * (dh U M D V (i 0) k * g k)) := by
  have e : ∀ k, val_main_v32 (F := Ideal) x0 x1 x2 x3 x5 x6 (idx_main_v33 i k) = (X (i 0) k * (dh U M D V (i 0) k * g k)) :=
    fun k => by
      show x2 _ * val_main_v31 (F := Ideal) x0 x1 x3 x5 x6 _ = _
      rw [H.x, v31 H]; rfl
  have z : val_main_cst_4 (F := Ideal) (Shape.Idx.first h_S_) = (0 : EReal) := zero_word
  rw [val_main_v33_apply]
  simp only [e, z, zero_add]

/-- A row's share of the derivative of the norm's root. -/
def share (X : Fin 8192 → Fin 1024 → EReal) (B : Fin 8192 → Fin 1024 → EReal) (g : Fin 1024 → EReal) (r : Fin 8192) : EReal :=
  slope (X r) (∑ k, X r k * (B r k * g k))

theorem v40 (i) : val_main_v40 (F := Ideal) x0 x1 x2 x3 x5 x6 i = (share X (dh U M D V) g (i 0) : EReal) := by
  show Ideal.div (val_main_v34 (F := Ideal) x0 x1 x2 x3 x5 x6 i * val_main_v20 (F := Ideal) x2 i) (Ideal.ofBits .f32 0x44800000#32) = _
  have h : idx_main_v34 i 0 = i 0 := Fin.ext (by
    have : (i 1).val < 1 := (i 1).isLt
    show (i 0).val * 1 + (i 1).val = (i 0).val; omega)
  rw [div_1024, val_main_v34_apply, v33 H, v20 H, h]; rfl

theorem v42 (i) : val_main_v42 (F := Ideal) x0 x1 x2 x3 x5 x6 i = (share X (dh U M D V) g (i 0) : EReal) := by
  have e : ∀ k, val_main_v40 (F := Ideal) x0 x1 x2 x3 x5 x6 (idx_main_v41 (idx_main_v42 i) k) = (share X (dh U M D V) g (i 0) : EReal) :=
    fun k => v40 H _
  have z : val_main_cst_6 (F := Ideal) (Shape.Idx.first h_S_) = (0 : EReal) := zero_word
  rw [val_main_v42_apply, val_main_v41_apply]
  simp only [e, z, zero_add, Fin.sum_univ_one]

theorem v36 (i) : val_main_v36 (F := Ideal) x0 x1 x2 x3 x5 x6 i = (dh U M D V (i 0) (i 1) * g (i 1) * rs (X (i 0))) := by
  show val_main_v31 (F := Ideal) x0 x1 x3 x5 x6 i * val_main_v35 (F := Ideal) x2 i = _
  rw [v31 H, val_main_v35_apply, v17 H]; rfl

/-- The gradient of the rows. -/
theorem v46 (i) : val_main_v46 (F := Ideal) x0 x1 x2 x3 x4 x5 x6 i
    = (rmsBack (X (i 0)) g (dh U M D V (i 0)) (i 1) : EReal) + x4 i := by
  show x4 i + val_main_v36 (F := Ideal) x0 x1 x2 x3 x5 x6 i + x2 i * val_main_v42 (F := Ideal) x0 x1 x2 x3 x5 x6 i
    + val_main_v42 (F := Ideal) x0 x1 x2 x3 x5 x6 i * x2 i = _
  rw [v36 H, v42 H, H.x]
  exact rmsBack_ref (X (i 0)) g (dh U M D V (i 0)) (i 1) (x4 i)

end Cert.Mat.Dx.Ref

end
-- ==== Proof.Mat.Dx.lean ====
/- The input gradient, over all points: the arrays the kernel leaves are the reference's. -/
module

public import proofs.«01_k».proof.Defs
public import proofs.«01_k».proof.Proof.Mat.DxOuts
public import proofs.«01_k».proof.Proof.Mat.DxRef
public import proofs.«01_k».proof.Proof.Gen.DxIdeal
public import proofs.«01_k».proof.Proof.Gen.DxIdeal.Value
public import proofs.«01_k».proof.Proof.Gen.DxRefIdeal.Run
public import proofs.«01_k».proof.Proof.Gate.Join
public import Idealize.ShloMosaic.Lib.KernelVsHost

@[expose] public section

set_option maxRecDepth 16384

noncomputable section

namespace Cert.Mat.Dx

open Idealize.ShloMosaic Idealize.ShloMosaic.TcCoe Cert.DxIdeal Cert.DxIdeal.Gen
open Idealize.ShloMosaic.Pipeline (Dat)

variable (m : (ℓ : Loc nD τ sig) → Buf (Elt Ideal) ℓ) (c : Dev nD)

/-- The arrays the kernel reads hold these numbers. -/
abbrev Holds (U : Fin 8192 → Fin 10240 → EReal) (M : Fin 10240 → Fin 1024 → EReal) (X : Fin 8192 → Fin 1024 → EReal) (g : Fin 1024 → EReal)
    (D : Fin 8192 → Fin 128 → EReal) (V : Fin 32 → Fin 1024 → EReal) : Prop :=
  Ref.Args (m ((c : Thread nD τ).loc main_arg0)) (m ((c : Thread nD τ).loc main_arg1)) (m ((c : Thread nD τ).loc main_arg2))
    (m ((c : Thread nD τ).loc main_arg3)) (m ((c : Thread nD τ).loc main_arg5)) (m ((c : Thread nD τ).loc main_arg6)) U M X g D V

/-- A row of a block of 1024 rows. -/
def row (n : ℕ) (r : Fin 1024) : Fin 8192 := ⟨(1024 * n + r.val) % 8192, by omega⟩
/-- A place of a block of 2048 places of the contracted axis. -/
def place (q : ℕ) (j : Fin 2048) : Fin 10240 := ⟨(2048 * q + j.val) % 10240, by omega⟩

/-- The small projection's weight with rows of zeros below it. -/
def padded (x : Vec Ideal S32x1024 .bf16) : Vec Ideal S128x1024 .bf16 :=
  pad S128x1024 ![0, 0] ![96, 0] ![0, 0] x (sitofp (F := Ideal) .bf16 (constantI S_ 32 0#32)) pads_S32x1024_S128x1024_0960_000 h_S_

theorem V_pad : V m c main_v0 = padded (m ((c : Thread nD τ).loc main_arg6)) := by
  show StableHlo.after (List.flatten [hostOps0, hostOps0_1]) _ _ = _
  simp only [hostOps0, hostOps0_1, List.flatten_cons, List.flatten_nil, List.append_nil, List.cons_append, List.nil_append,
    StableHlo.after_cons, StableHlo.after_nil]
  rfl

theorem padded_in (x : Vec Ideal S32x1024 .bf16) (j : Fin 128) (k : Fin 1024) (h : j.val < 32) : padded x (ix2 j k) = x (ix2 (⟨j.val, h⟩ : Fin 32) k) := by
  unfold padded
  refine pad_apply_of_inside _ _ _ _ _ _ _ _ _ fun a => ?_
  fin_cases a
  · show j.val = 0 + j.val * (0 + 1); omega
  · show k.val = 0 + k.val * (0 + 1); omega

theorem padded_out (x : Vec Ideal S32x1024 .bf16) (j : Fin 128) (k : Fin 1024) (h : ¬j.val < 32) : padded x (ix2 j k) = ((0 : ℝ) : EReal) := by
  unfold padded
  refine (pad_apply_of_not_inside _ _ _ _ _ _ _ _ (0 : Fin 2) fun hh => h ?_).trans ?_
  · have := hh.2.2
    change (j.val - 0) / (0 + 1) < 32 at this
    rw [Nat.sub_zero, Nat.zero_add, Nat.div_one] at this
    exact this
  · show (((0#32 : BitVec 32).toInt : ℝ) : EReal) = _
    simp

theorem at0 : ∀ t : Fin grid0.N, win0_0.index t 0 = t.val / 5 ∧ win0_0.index t 1 = t.val % 5 := by decide +kernel
theorem at1 : ∀ t : Fin grid0.N, win0_1.index t 0 = t.val % 5 ∧ win0_1.index t 1 = 0 := by decide +kernel
theorem at2 : ∀ t : Fin grid0.N, win0_2.index t 0 = t.val / 5 ∧ win0_2.index t 1 = 0 := by decide +kernel
theorem at3 : ∀ t : Fin grid0.N, win0_3.index t 0 = 0 ∧ win0_3.index t 1 = 0 := by decide +kernel
theorem at4 : ∀ t : Fin grid0.N, win0_4.index t 0 = t.val / 5 ∧ win0_4.index t 1 = 0 := by decide +kernel
theorem at5 : ∀ t : Fin grid0.N, win0_5.index t 0 = t.val / 5 ∧ win0_5.index t 1 = 0 := by decide +kernel
theorem at6 : ∀ t : Fin grid0.N, win0_6.index t 0 = 0 ∧ win0_6.index t 1 = 0 := by decide +kernel
theorem at7 : ∀ t : Fin grid0.N, win0_7.index t 0 = t.val / 5 ∧ win0_7.index t 1 = 0 := by decide +kernel
theorem at8 : ∀ t : Fin grid0.N, win0_8.index t 0 = 0 ∧ win0_8.index t 1 = 0 := by decide +kernel

theorem block0 (t : Fin cfg0.N) (r : Fin 1024) (k : Fin 2048) :
    iblk m c 0 t (ix2 r k) = m ((c : Thread nD τ).loc main_arg0) (ix2 (row (t.val / 5) r) (place (t.val % 5) k)) := by
  show V m c main_arg0 (((cfg0.win 0).blk t).view.emb (ix2 r k)) = _
  rw [V_main_arg0]
  refine congrArg (m ((c : Thread nD τ).loc main_arg0)) (funext fun d => Fin.ext ?_)
  have := t.isLt; have hN : cfg0.N = 40 := N_0
  fin_cases d
  · refine (win0_0.rect_emb_val t _ 0).trans ?_
    rw [(at0 t).1]; show t.val / 5 * 1024 + r.val = (1024 * (t.val / 5) + r.val) % 8192; omega
  · refine (win0_0.rect_emb_val t _ 1).trans ?_
    rw [(at0 t).2]; show t.val % 5 * 2048 + k.val = (2048 * (t.val % 5) + k.val) % 10240; omega

theorem block1 (t : Fin cfg0.N) (r : Fin 2048) (k : Fin 1024) :
    iblk m c 1 t (ix2 r k) = m ((c : Thread nD τ).loc main_arg1) (ix2 (place (t.val % 5) r) k) := by
  show V m c main_arg1 (((cfg0.win 1).blk t).view.emb (ix2 r k)) = _
  rw [V_main_arg1]
  refine congrArg (m ((c : Thread nD τ).loc main_arg1)) (funext fun d => Fin.ext ?_)
  have := t.isLt; have hN : cfg0.N = 40 := N_0
  fin_cases d
  · refine (win0_1.rect_emb_val t _ 0).trans ?_
    rw [(at1 t).1]; show t.val % 5 * 2048 + r.val = (2048 * (t.val % 5) + r.val) % 10240; omega
  · refine (win0_1.rect_emb_val t _ 1).trans ?_
    rw [(at1 t).2]; show 0 * 1024 + k.val = k.val; omega

theorem block2 (t : Fin cfg0.N) (r : Fin 1024) (k : Fin 1024) :
    iblk m c 2 t (ix2 r k) = m ((c : Thread nD τ).loc main_arg2) (ix2 (row (t.val / 5) r) k) := by
  show V m c main_arg2 (((cfg0.win 2).blk t).view.emb (ix2 r k)) = _
  rw [V_main_arg2]
  refine congrArg (m ((c : Thread nD τ).loc main_arg2)) (funext fun d => Fin.ext ?_)
  have := t.isLt; have hN : cfg0.N = 40 := N_0
  fin_cases d
  · refine (win0_2.rect_emb_val t _ 0).trans ?_
    rw [(at2 t).1]; show t.val / 5 * 1024 + r.val = (1024 * (t.val / 5) + r.val) % 8192; omega
  · refine (win0_2.rect_emb_val t _ 1).trans ?_
    rw [(at2 t).2]; show 0 * 1024 + k.val = k.val; omega

theorem block3 (t : Fin cfg0.N) (r : Fin 1) (k : Fin 1024) :
    iblk m c 3 t (ix2 r k) = m ((c : Thread nD τ).loc main_arg3) (ix2 r k) := by
  show V m c main_arg3 (((cfg0.win 3).blk t).view.emb (ix2 r k)) = _
  rw [V_main_arg3]
  refine congrArg (m ((c : Thread nD τ).loc main_arg3)) (funext fun d => Fin.ext ?_)
  have := t.isLt; have hN : cfg0.N = 40 := N_0
  fin_cases d
  · refine (win0_3.rect_emb_val t _ 0).trans ?_
    rw [(at3 t).1]; show 0 * 1 + r.val = r.val; omega
  · refine (win0_3.rect_emb_val t _ 1).trans ?_
    rw [(at3 t).2]; show 0 * 1024 + k.val = k.val; omega

theorem block4 (t : Fin cfg0.N) (r : Fin 1024) (k : Fin 1024) :
    iblk m c 4 t (ix2 r k) = m ((c : Thread nD τ).loc main_arg4) (ix2 (row (t.val / 5) r) k) := by
  show V m c main_arg4 (((cfg0.win 4).blk t).view.emb (ix2 r k)) = _
  rw [V_main_arg4]
  refine congrArg (m ((c : Thread nD τ).loc main_arg4)) (funext fun d => Fin.ext ?_)
  have := t.isLt; have hN : cfg0.N = 40 := N_0
  fin_cases d
  · refine (win0_4.rect_emb_val t _ 0).trans ?_
    rw [(at4 t).1]; show t.val / 5 * 1024 + r.val = (1024 * (t.val / 5) + r.val) % 8192; omega
  · refine (win0_4.rect_emb_val t _ 1).trans ?_
    rw [(at4 t).2]; show 0 * 1024 + k.val = k.val; omega

theorem block5 (t : Fin cfg0.N) (r : Fin 1024) (k : Fin 128) :
    iblk m c 5 t (ix2 r k) = m ((c : Thread nD τ).loc main_arg5) (ix2 (row (t.val / 5) r) k) := by
  show V m c main_arg5 (((cfg0.win 5).blk t).view.emb (ix2 r k)) = _
  rw [V_main_arg5]
  refine congrArg (m ((c : Thread nD τ).loc main_arg5)) (funext fun d => Fin.ext ?_)
  have := t.isLt; have hN : cfg0.N = 40 := N_0
  fin_cases d
  · refine (win0_5.rect_emb_val t _ 0).trans ?_
    rw [(at5 t).1]; show t.val / 5 * 1024 + r.val = (1024 * (t.val / 5) + r.val) % 8192; omega
  · refine (win0_5.rect_emb_val t _ 1).trans ?_
    rw [(at5 t).2]; show 0 * 128 + k.val = k.val; omega

theorem block6 (t : Fin cfg0.N) (r : Fin 128) (k : Fin 1024) :
    iblk m c 6 t (ix2 r k) = padded (m ((c : Thread nD τ).loc main_arg6)) (ix2 r k) := by
  show V m c main_v0 (((cfg0.win 6).blk t).view.emb (ix2 r k)) = _
  rw [V_pad]
  refine congrArg (padded (m ((c : Thread nD τ).loc main_arg6))) (funext fun d => Fin.ext ?_)
  have := t.isLt; have hN : cfg0.N = 40 := N_0
  fin_cases d
  · refine (win0_6.rect_emb_val t _ 0).trans ?_
    rw [(at6 t).1]; show 0 * 128 + r.val = r.val; omega
  · refine (win0_6.rect_emb_val t _ 1).trans ?_
    rw [(at6 t).2]; show 0 * 1024 + k.val = k.val; omega

variable {m c}
variable {U : Fin 8192 → Fin 10240 → EReal} {M : Fin 10240 → Fin 1024 → EReal} {X : Fin 8192 → Fin 1024 → EReal} {g : Fin 1024 → EReal}
    {D : Fin 8192 → Fin 128 → EReal} {V : Fin 32 → Fin 1024 → EReal}

/-- The weight of the small projection with rows of zeros. -/
def low (V : Fin 32 → Fin 1024 → EReal) (j : Fin 128) (k : Fin 1024) : EReal := if h : j.val < 32 then V ⟨j.val, h⟩ k else 0

/-- The rows of zeros add nothing. -/
theorem sum_low (D : Fin 8192 → Fin 128 → EReal) (V : Fin 32 → Fin 1024 → EReal) (r : Fin 8192) (k : Fin 1024) :
    ∑ j, D r j * low V j k = ∑ j : Fin 32, D r ⟨j.val, by omega⟩ * V j k := by
  have t := Fin.sum_univ_add (a := 32) (b := 96) fun j : Fin 128 => D r j * low V j k
  refine t.trans ?_
  have z : ∀ j : Fin 96, D r (Fin.natAdd 32 j) * low V (Fin.natAdd 32 j) k = 0 := fun j => by
    have n : ¬(Fin.natAdd 32 j).val < 32 := by show ¬32 + j.val < 32; omega
    rw [show low V (Fin.natAdd 32 j) k = 0 from dif_neg n, mul_zero]
  rw [Finset.sum_eq_zero fun j _ => z j, add_zero]
  refine Finset.sum_congr rfl fun j _ => ?_
  exact congrArg (fun z : EReal => D r ⟨j.val, by omega⟩ * z) (dif_pos (show (Fin.castAdd 96 j).val < 32 from j.isLt))

/-- The products of the blocks of the contracted axis a point has met. -/
def part (U : Fin 8192 → Fin 10240 → EReal) (M : Fin 10240 → Fin 1024 → EReal) (n : ℕ) (r k : Fin 1024) : EReal :=
  ∑ q ∈ Finset.range (n % 5 + 1), ∑ j, U (row (n / 5) r) (place q j) * M (place q j) k

variable (H : Holds m c U M X g D V)

section
include H

theorem left (t : Fin cfg0.N) (r : Fin 1024) (j : Fin 2048) : iblk m c 0 t (ix2 r j) = (U (row (t.val / 5) r) (place (t.val % 5) j) : EReal) :=
  (block0 m c t r j).trans (H.u _)
theorem right (t : Fin cfg0.N) (j : Fin 2048) (k : Fin 1024) : iblk m c 1 t (ix2 j k) = (M (place (t.val % 5) j) k : EReal) :=
  (block1 m c t j k).trans (H.m _)

/-- One more block of the contracted axis. -/
theorem step (t : Fin cfg0.N) (h : ¬t.val % 5 = 0) (xs : Vec Ideal S1024x1024 .f32) (hx : ∀ r k, xs (ix2 r k) = (part U M (t.val - 1) r k : EReal))
    (r k : Fin 1024) : k0_pay3 (iblk m c 0 t) (iblk m c 1 t) xs (ix2 r k) = (part U M t.val r k : EReal) := by
  rw [pay3_eq (left H t) (right H t) _ xs hx]
  have h1 : (t.val - 1) / 5 = t.val / 5 := by omega
  have h2 : (t.val - 1) % 5 + 1 = t.val % 5 := by omega
  unfold part
  rw [h1, h2, Finset.sum_range_succ]

/-- The accumulator after a point. -/
theorem acc : ∀ (n : ℕ) (hn : n < cfg0.N) (r k : Fin 1024), (outsAt0 m c n hn).2.2 (ix2 r k) = (part U M n r k : EReal) := by
  intro n
  induction n with
  | zero =>
    intro hn r k
    refine (congrFun (congrArg (fun y => y.2.2) (outsAt0_A m c ⟨0, hn⟩ rfl (by show ¬1 ≤ 0; omega) (by show ¬0 = 4; omega))) (ix2 r k)).trans ?_
    dsimp only
    rw [sout_A, pay2_eq (left H ⟨0, hn⟩) (right H ⟨0, hn⟩)]
    unfold part
    rw [Finset.sum_range_one]
    rfl
  | succ p ih =>
    intro hn r k
    by_cases h0 : (p + 1) % 5 = 0
    · refine (congrFun (congrArg (fun y => y.2.2) (outsAt0_A m c ⟨p + 1, hn⟩ h0 (by show ¬1 ≤ (p + 1) % 5; omega) (by show ¬(p + 1) % 5 = 4; omega))) (ix2 r k)).trans ?_
      dsimp only
      rw [sout_A, pay2_eq (left H ⟨p + 1, hn⟩) (right H ⟨p + 1, hn⟩)]
      unfold part
      dsimp only
      rw [h0, Finset.sum_range_one]
    · have h1 : 1 ≤ (p + 1) % 5 := by omega
      have e := step H ⟨p + 1, hn⟩ h0 _ (fun r k => ih (Nat.lt_of_succ_lt hn) r k) r k
      by_cases h2 : (p + 1) % 5 = 4
      · by_cases h3 : p + 1 < 5
        · refine (congrFun (congrArg (fun y => y.2.2) (outsAt0_C m c ⟨p + 1, hn⟩ h0 h1 h2 h3)) (ix2 r k)).trans ?_
          dsimp only
          rw [sout_C]
          exact e
        · refine (congrFun (congrArg (fun y => y.2.2) (outsAt0_D m c ⟨p + 1, hn⟩ h0 h1 h2 h3)) (ix2 r k)).trans ?_
          dsimp only
          rw [sout_D]
          exact e
      · refine (congrFun (congrArg (fun y => y.2.2) (outsAt0_B m c ⟨p + 1, hn⟩ h0 h1 h2)) (ix2 r k)).trans ?_
        dsimp only
        rw [sout_B]
        exact e

omit H in
/-- After the last block of the contracted axis the sum is whole. -/
theorem part_whole (n : ℕ) (h : n % 5 = 4) (r k : Fin 1024) : part U M n r k = ∑ j, U (row (n / 5) r) j * M j k := by
  unfold part
  rw [h]
  exact sum_blocks (A := 5) (B := 2048) (N := 10240) (by norm_num) (fun j => U (row (n / 5) r) j * M j k) place
    fun q hq j => by simp only [place]; omega

/-- What the epilogue of a row of blocks reads. -/
theorem block (t : Fin cfg0.N) (h : t.val % 5 = 4) (hp : t.val - 1 < cfg0.N) :
    Block (fun r k => ∑ j, U (row (t.val / 5) r) j * M j k) (fun r => D (row (t.val / 5) r)) (low V) (fun r => X (row (t.val / 5) r)) g
      (k0_pay3 (iblk m c 0 t) (iblk m c 1 t) (outsAt0 m c (t.val - 1) hp).2.2) (iblk m c 2 t) (iblk m c 3 t) (iblk m c 5 t) (iblk m c 6 t) where
  a r k := by
    rw [← part_whole t.val h r k]
    exact step H t (by omega) _ (fun r k => acc H (t.val - 1) hp r k) r k
  d r k := (block5 m c t r k).trans (H.d _)
  w j k := by
    rw [block6]
    by_cases hj : j.val < 32
    · rw [padded_in _ j k hj, show low V j k = V ⟨j.val, hj⟩ k from dif_pos hj]
      exact H.v _
    · rw [padded_out _ j k hj, show low V j k = 0 from dif_neg hj]; exact EReal.coe_zero
  x r k := (block2 m c t r k).trans (H.x _)
  g o k := (block3 m c t o k).trans (H.g _)

omit H in
theorem join_eq (n : ℕ) (r : Fin 1024) :
    join (fun r k => ∑ j, U (row n r) j * M j k) (fun r => D (row n r)) (low V) r = Ref.dh U M D V (row n r) := by
  funext k
  unfold join Ref.dh
  rw [sum_low D V (row n r) k]

theorem left7 (t : Fin cfg0.N) (h : t.val % 5 = 4) (r k : Fin 1024) : (outsAt0 m c t.val t.isLt).1 (ix2 r k)
    = (rmsBack (X (row (t.val / 5) r)) g (Ref.dh U M D V (row (t.val / 5) r)) k : EReal)
      + m ((c : Thread nD τ).loc main_arg4) (ix2 (row (t.val / 5) r) k) := by
  have h0 : ¬t.val % 5 = 0 := by omega
  have h1 : 1 ≤ t.val % 5 := by omega
  have hp : t.val - 1 < cfg0.N := Nat.lt_of_le_of_lt (Nat.sub_le _ _) t.isLt
  by_cases h3 : t.val < 5
  · rw [outsAt0_C m c t h0 h1 h h3]
    dsimp only
    refine (out_C_7 (block H t h hp) r k).trans ?_
    rw [block4, join_eq]
  · rw [outsAt0_D m c t h0 h1 h h3]
    dsimp only
    refine (out_D_7 (block H t h hp) r k).trans ?_
    rw [block4, join_eq]

theorem result7 (r : Fin 8192) (k : Fin 1024) : (dats m 0 c).arrAt 7 cfg0.N (ix2 r k)
    = (rmsBack (X r) g (Ref.dh U M D V r) k : EReal) + m ((c : Thread nD τ).loc main_arg4) (ix2 r k) := by
  have hN : cfg0.N = 40 := N_0
  obtain ⟨t, q, ht4, rfl⟩ : ∃ (t : Fin cfg0.N) (q : Fin 1024), t.val % 5 = 4 ∧ r = row (t.val / 5) q :=
    ⟨⟨5 * (r.val / 1024) + 4, by omega⟩, ⟨r.val % 1024, by omega⟩, by show (5 * (r.val / 1024) + 4) % 5 = 4; omega,
      Fin.ext (by simp only [row]; omega)⟩
  have e := congrFun ((congrArg (fun A => ((cfg0.win 7).blk t).view.read (Elt Ideal) A) (Value.final7 m c)).trans
    (Value.flushed7_eq m c t ((flush0_7 t).mpr ht4)).symm) (ix2 q k)
  rw [Value.flushed7] at e
  have ht := t.isLt
  refine .trans (congrArg ((dats m 0 c).arrAt 7 cfg0.N) (funext fun d => Fin.ext ?_)) (e.trans (left7 H t ht4 q k))
  refine .trans ?_ (win0_7.rect_emb_val t _ d).symm
  fin_cases d
  · show (1024 * (t.val / 5) + q.val) % 8192 = win0_7.index t 0 * 1024 + q.val
    rw [(at7 t).1]; omega
  · show k.val = win0_7.index t 1 * 1024 + k.val
    rw [(at7 t).2]; omega

/-- The share of one block of rows in the gradient of the norm's scale. -/
def share8 (U : Fin 8192 → Fin 10240 → EReal) (M : Fin 10240 → Fin 1024 → EReal) (X : Fin 8192 → Fin 1024 → EReal) (D : Fin 8192 → Fin 128 → EReal)
    (V : Fin 32 → Fin 1024 → EReal) (q : ℕ) (k : Fin 1024) : EReal :=
  ∑ r : Fin 1024, Ref.dh U M D V (row q r) k * (X (row q r) k * rs (X (row q r)))

theorem acc8 : ∀ (n : ℕ) (hn : n < cfg0.N) (o : Fin 1) (k : Fin 1024), 4 ≤ n → (outsAt0 m c n hn).2.1 (ix2 o k)
    = (∑ q ∈ Finset.range ((n + 1) / 5), share8 U M X D V q k) := by
  intro n
  induction n with
  | zero => intro hn o k h; omega
  | succ p ih =>
    intro hn o k h4
    have hp : p < cfg0.N := Nat.lt_of_succ_lt hn
    by_cases h0 : (p + 1) % 5 = 0
    · refine (congrFun (congrArg (fun y => y.2.1) (outsAt0_A m c ⟨p + 1, hn⟩ h0 (by show ¬1 ≤ (p + 1) % 5; omega) (by show ¬(p + 1) % 5 = 4; omega))) (ix2 o k)).trans ?_
      have e : (p + 1 + 1) / 5 = (p + 1) / 5 := by omega
      rw [e]
      exact ih hp o k (by omega)
    · have h1 : 1 ≤ (p + 1) % 5 := by omega
      by_cases h2 : (p + 1) % 5 = 4
      · by_cases h3 : p + 1 < 5
        · refine (congrFun (congrArg (fun y => y.2.1) (outsAt0_C m c ⟨p + 1, hn⟩ h0 h1 h2 h3)) (ix2 o k)).trans ?_
          dsimp only
          refine (out_C_8 (block H ⟨p + 1, hn⟩ h2 hp) o k).trans ?_
          have e5 : (p + 1) / 5 = 0 := by omega
          rw [show (p + 1 + 1) / 5 = 1 by omega, Finset.sum_range_one, zero_add]
          unfold share8
          refine Finset.sum_congr rfl fun r _ => ?_
          rw [join_eq]
          show Ref.dh U M D V (row ((p + 1) / 5) r) k * (X (row ((p + 1) / 5) r) k * rs (X (row ((p + 1) / 5) r))) = _
          rw [e5]
        · refine (congrFun (congrArg (fun y => y.2.1) (outsAt0_D m c ⟨p + 1, hn⟩ h0 h1 h2 h3)) (ix2 o k)).trans ?_
          dsimp only
          refine (out_D_8 (block H ⟨p + 1, hn⟩ h2 hp) o k).trans ?_
          have e : (p + 1 + 1) / 5 = (p + 1) / 5 + 1 := by omega
          rw [e, Finset.sum_range_succ]
          refine congr (congrArg (fun a b : EReal => a + b) (ih hp o k (by omega))) ?_
          unfold share8
          refine Finset.sum_congr rfl fun r _ => ?_
          rw [join_eq]
      · refine (congrFun (congrArg (fun y => y.2.1) (outsAt0_B m c ⟨p + 1, hn⟩ h0 h1 h2)) (ix2 o k)).trans ?_
        have e : (p + 1 + 1) / 5 = (p + 1) / 5 := by omega
        rw [e]
        exact ih hp o k (by omega)

omit H in
theorem emb8 (t : Fin cfg0.N) (y : S1x1024.Idx) : ((cfg0.win 8).blk t).view.emb y = y := by
  refine funext fun d => Fin.ext ?_
  fin_cases d
  · exact win0_8.rect_emb_val_of_index_zero t 0 (at8 t).1 _
  · exact win0_8.rect_emb_val_of_index_zero t 1 (at8 t).2 _

omit H in
theorem cut8 (t : Fin cfg0.N) (A : Vec Ideal S1x1024 .f32) :
    (cfg0.win 8).cut (grid0.coords t) A = ((cfg0.win 8).blk t).view.read (Elt Ideal) A := by
  funext y
  exact congrArg A (show _ = ((cfg0.win 8).blk t).view.emb y from (emb8 t y).symm)

theorem result8 (o : Fin 1) (k : Fin 1024) : (dats m 0 c).arrAt 8 cfg0.N (ix2 o k)
    = (∑ r, Ref.dh U M D V r k * (X r k * rs (X r))) := by
  have hN : cfg0.N = 40 := N_0
  obtain ⟨t, ht⟩ : ∃ t : Fin cfg0.N, t.val = 39 := ⟨⟨39, by omega⟩, rfl⟩
  have e := congrFun ((congrArg (fun A => ((cfg0.win 8).blk t).view.read (Elt Ideal) A) (Value.final8 m c)).trans
    (Value.flushed8_eq m c t ((flush0_8 t).mpr (by omega))).symm) (ix2 o k)
  rw [Value.flushed8, cut8] at e
  have h : ∀ A : Vec Ideal S1x1024 .f32, ((cfg0.win 8).blk t).view.read (Elt Ideal) A (ix2 o k) = A (ix2 o k) := fun A =>
    congrArg A (emb8 t (ix2 o k))
  refine (h _).symm.trans (e.trans ((h _).trans ((acc8 H t.val t.isLt o k (by omega)).trans ?_)))
  rw [show (t.val + 1) / 5 = 8 by omega]
  exact sum_blocks (A := 8) (B := 1024) (N := 8192) (by norm_num)
    (fun r => Ref.dh U M D V r k * (X r k * rs (X r))) row fun q hq r => by simp only [row]; omega

end

/-- The arrays of a device. -/
theorem holds (c : Dev nD) : Holds m c (fun r k => m ((c : Thread nD τ).loc main_arg0) (ix2 r k)) (fun r k => m ((c : Thread nD τ).loc main_arg1) (ix2 r k))
    (fun r k => m ((c : Thread nD τ).loc main_arg2) (ix2 r k)) (fun k => m ((c : Thread nD τ).loc main_arg3) (ix2 0 k)) (fun r k => m ((c : Thread nD τ).loc main_arg5) (ix2 r k))
    (fun r k => m ((c : Thread nD τ).loc main_arg6) (ix2 r k)) :=
  ⟨entry2 _, entry2 _, entry2 _, entry1 _, entry2 _, entry2 _⟩

/-- The kernel computes the gradients of the rows and of the norm's scale. -/
theorem algebraic : Cert.algebraic_DxIdeal_DxRefIdeal := fun m g m' g' _ agree => by
  refine ⟨fun c => (dats m 0 c).arrAt 7 cfg0.N, fun c => (dats m 0 c).arrAt 8 cfg0.N, Value.run_blocks m g, ?_⟩
  refine (θ_run Cert.DxRefIdeal.defs _ _).mono (fun r h c => ?_) (Cert.DxRefIdeal.Value.run (F := Ideal) m' g')
  obtain ⟨e0, e1, kept⟩ := h c
  obtain ⟨a0, a1, a2, a3, a4, a5, a6⟩ := agree c
  have H := holds (m := m) c
  refine ⟨e0.trans ?_, e1.trans ?_, kept⟩
  · rw [Cert.DxRefIdeal.Read.val_main_v46_eq, a0, a1, a2, a3, a4, a5, a6]
    exact ext2 (a := 8192) (b := 1024) fun i k => (Ref.v46 H _).trans (result7 H i k).symm
  · rw [Cert.DxRefIdeal.Read.val_main_v29_eq, a0, a1, a2, a5, a6]
    exact ext2 (a := 1) (b := 1024) fun o k => (Ref.v29 H o k).trans (result8 H o k).symm

end Cert.Mat.Dx

end
-- ==== Proof.Mat.Proj.lean ====
/- The input projection without the columns of dt: the product of the normed input with the transposed weight. -/
module

public import proofs.«01_k».proof.Defs
public import proofs.«01_k».proof.Proof.Mat.Basic
public import proofs.«01_k».proof.Proof.Gen.ProjIdeal
public import proofs.«01_k».proof.Proof.Gen.ProjIdeal.Value
public import proofs.«01_k».proof.Proof.Gen.ProjRefIdeal.Run
public import proofs.«01_k».proof.Proof.Gen.ProjRefIdeal.Read

@[expose] public section

set_option maxRecDepth 16384

noncomputable section

namespace Cert.Mat.Proj

open Idealize.ShloMosaic Idealize.ShloMosaic.TcCoe Cert.ProjIdeal Cert.ProjIdeal.Gen
open Idealize.ShloMosaic.Pipeline (Dat)
open Cert.Gate (word_zero)

/-- An entry of the result. -/
def entry (h : Vec Ideal S8192x1024 .bf16) (w : Vec Ideal S10240x1024 .bf16) (r : Fin 8192) (k : Fin 10240) : EReal :=
  ∑ j : Fin 1024, h (ix2 r j) * w (ix2 k j)

/-- What a point writes, from its staged blocks. -/
theorem out_eq (x0 : Vec Ideal S2048x1024 .bf16) (x1 : Vec Ideal S1024x1024 .bf16) (r : Fin 2048) (k : Fin 1024) :
    out0_2 x0 x1 (ix2 r k) = ∑ j : Fin 1024, x0 (ix2 r j) * x1 (ix2 k j) := by
  unfold out0_2
  rw [View.canon_unit_zero (S := S2048x1024) hz2, View.ld_unit_zero (S := S2048x1024) hz2, View.ld_unit_zero (S := S1024x1024) hz2]
  unfold k0_pay1
  pointwise [word_zero]
  exact zero_add _

variable (m : (ℓ : Loc nD τ sig) → Buf (Elt Ideal) ℓ) (c : Dev nD)

theorem at0 : ∀ t : Fin grid0.N, win0_0.index t 0 = t.val / 10 ∧ win0_0.index t 1 = 0 := by decide +kernel
theorem at1 : ∀ t : Fin grid0.N, win0_1.index t 0 = t.val % 10 ∧ win0_1.index t 1 = 0 := by decide +kernel
theorem at2 : ∀ t : Fin grid0.N, win0_2.index t 0 = t.val / 10 ∧ win0_2.index t 1 = t.val % 10 := by decide +kernel

/-- The left factor's block at a point. -/
theorem block0 (t : Fin cfg0.N) (r : Fin 2048) (j : Fin 1024) (R : Fin 8192) (hR : R.val = 2048 * (t.val / 10) + r.val) :
    iblk m c 0 t (ix2 r j) = m ((c : Thread nD τ).loc main_arg0) (ix2 R j) := by
  show V m c main_arg0 (((cfg0.win 0).blk t).view.emb (ix2 r j)) = _
  rw [V_main_arg0]
  refine congrArg (m ((c : Thread nD τ).loc main_arg0)) (funext fun d => Fin.ext ?_)
  fin_cases d
  · refine (win0_0.rect_emb_val t _ 0).trans ?_
    rw [(at0 t).1]; show t.val / 10 * 2048 + r.val = R.val; omega
  · refine (win0_0.rect_emb_val t _ 1).trans ?_
    rw [(at0 t).2]; show 0 * 1024 + j.val = j.val; omega

/-- The right factor's block at a point. -/
theorem block1 (t : Fin cfg0.N) (k : Fin 1024) (j : Fin 1024) (K : Fin 10240) (hK : K.val = 1024 * (t.val % 10) + k.val) :
    iblk m c 1 t (ix2 k j) = m ((c : Thread nD τ).loc main_arg1) (ix2 K j) := by
  show V m c main_arg1 (((cfg0.win 1).blk t).view.emb (ix2 k j)) = _
  rw [V_main_arg1]
  refine congrArg (m ((c : Thread nD τ).loc main_arg1)) (funext fun d => Fin.ext ?_)
  fin_cases d
  · refine (win0_1.rect_emb_val t _ 0).trans ?_
    rw [(at1 t).1]; show t.val % 10 * 1024 + k.val = K.val; omega
  · refine (win0_1.rect_emb_val t _ 1).trans ?_
    rw [(at1 t).2]; show 0 * 1024 + j.val = j.val; omega

/-- The array after the run. -/
theorem result (R : Fin 8192) (K : Fin 10240) : (dats m 0 c).arrAt 2 cfg0.N (ix2 R K)
    = entry (m ((c : Thread nD τ).loc main_arg0)) (m ((c : Thread nD τ).loc main_arg1)) R K := by
  have hN : cfg0.N = 40 := N_0
  let t : Fin cfg0.N := ⟨10 * (R.val / 2048) + K.val / 1024, by omega⟩
  let r : Fin 2048 := ⟨R.val % 2048, by omega⟩
  let k : Fin 1024 := ⟨K.val % 1024, by omega⟩
  have hR : R.val = 2048 * (t.val / 10) + r.val := by show R.val = 2048 * ((10 * (R.val / 2048) + K.val / 1024) / 10) + R.val % 2048; omega
  have hK : K.val = 1024 * (t.val % 10) + k.val := by show K.val = 1024 * ((10 * (R.val / 2048) + K.val / 1024) % 10) + K.val % 1024; omega
  have e := congrFun (Value.blocks2 m c t (flush0_2 t)) (ix2 r k)
  rw [Value.flushed2] at e
  refine .trans (congrArg ((dats m 0 c).arrAt 2 cfg0.N) (funext fun d => Fin.ext ?_)) (e.trans ?_)
  · refine .trans ?_ (win0_2.rect_emb_val t _ d).symm
    fin_cases d
    · show R.val = win0_2.index t 0 * 2048 + r.val
      rw [(at2 t).1]; omega
    · show K.val = win0_2.index t 1 * 1024 + k.val
      rw [(at2 t).2]; omega
  · refine (out_eq _ _ r k).trans ?_
    unfold entry
    refine congrArg (fun z : EReal => z) (Finset.sum_congr rfl fun j _ => ?_)
    rw [block0 m c t r j R hR, block1 m c t k j K hK]

open Cert.ProjRefIdeal.Read in
/-- The reference's result. -/
theorem reference (x0 : Vec Ideal S8192x1024 .bf16) (x1 : Vec Ideal S10240x1024 .bf16) (R : Fin 8192) (K : Fin 10240) :
    val_main_v4 (F := Ideal) x0 x1 (ix2 R K) = entry x0 x1 R K := by
  have p : val_main_v3 (F := Ideal) x0 x1 (ix2 R K) = ∑ j : Fin 1024, x0 (ix2 R j) * x1 (ix2 K j) := by
    rw [val_main_v3_apply]
    refine Finset.sum_congr rfl fun j _ => congrArg₂ (· * ·) (congrArg x0 ?_) ((val_main_v1_apply x1 _).trans (congrArg x1 ?_))
    all_goals
      funext d
      match d with
      | ⟨0, _⟩ => rfl
      | ⟨1, _⟩ => rfl
  exact p

/-- The kernel computes the product. -/
theorem algebraic : Cert.algebraic_ProjIdeal_ProjRefIdeal := fun m g m' g' _ agree => by
  refine ⟨fun c => (dats m 0 c).arrAt 2 cfg0.N, Value.run_blocks m g, ?_⟩
  refine (θ_run Cert.ProjRefIdeal.defs _ _).mono (fun r h c => ?_) (Cert.ProjRefIdeal.Value.run (F := Ideal) m' g')
  obtain ⟨h0, kept⟩ := h c
  obtain ⟨a0, a1⟩ := agree c
  refine ⟨h0.trans ?_, kept⟩
  rw [Cert.ProjRefIdeal.Read.val_main_v4_eq, a0, a1]
  exact ext2 (a := 8192) (b := 10240) fun R K => (reference _ _ R K).trans (result m c R K).symm

end Cert.Mat.Proj

end
-- ==== Proof.Mat.Up.lean ====
/- The first half of the channel mixer: the product with the weight, and the square of its positive part. -/
module

public import proofs.«01_k».proof.Defs
public import proofs.«01_k».proof.Proof.Mat.Basic
public import proofs.«01_k».proof.Proof.Gen.UpIdeal
public import proofs.«01_k».proof.Proof.Gen.UpIdeal.Value
public import proofs.«01_k».proof.Proof.Gen.UpRefIdeal.Run
public import proofs.«01_k».proof.Proof.Gen.UpRefIdeal.Read

@[expose] public section

set_option maxRecDepth 16384

noncomputable section

namespace Cert.Mat.Up

open Idealize.ShloMosaic Idealize.ShloMosaic.TcCoe Cert.UpIdeal Cert.UpIdeal.Gen
open Idealize.ShloMosaic.Pipeline (Dat)
open Cert.Gate (word_zero)

/-- The positive part. -/
def pos (u : EReal) : EReal := max u 0

/-- An entry of the result. -/
def entry (h : Vec Ideal S8192x1024 .bf16) (w : Vec Ideal S1024x4096 .bf16) (r : Fin 8192) (k : Fin 4096) : EReal :=
  pos (∑ j : Fin 1024, h (ix2 r j) * w (ix2 j k)) * pos (∑ j : Fin 1024, h (ix2 r j) * w (ix2 j k))

/-- What a point writes, from its staged blocks. -/
theorem out_eq (x0 : Vec Ideal S2048x1024 .bf16) (x1 : Vec Ideal S1024x1024 .bf16) (r : Fin 2048) (k : Fin 1024) :
    out0_2 x0 x1 (ix2 r k) = pos (∑ j : Fin 1024, x0 (ix2 r j) * x1 (ix2 j k)) * pos (∑ j : Fin 1024, x0 (ix2 r j) * x1 (ix2 j k)) := by
  unfold out0_2
  rw [View.canon_unit_zero (S := S2048x1024) hz2, View.ld_unit_zero (S := S2048x1024) hz2, View.ld_unit_zero (S := S1024x1024) hz2]
  unfold k0_pay1
  pointwise [word_zero]
  rw [EReal.coe_zero, zero_add]
  rfl

variable (m : (ℓ : Loc nD τ sig) → Buf (Elt Ideal) ℓ) (c : Dev nD)

theorem at0 : ∀ t : Fin grid0.N, win0_0.index t 0 = t.val / 4 ∧ win0_0.index t 1 = 0 := by decide +kernel
theorem at1 : ∀ t : Fin grid0.N, win0_1.index t 1 = t.val % 4 ∧ win0_1.index t 0 = 0 := by decide +kernel
theorem at2 : ∀ t : Fin grid0.N, win0_2.index t 0 = t.val / 4 ∧ win0_2.index t 1 = t.val % 4 := by decide +kernel

/-- The left factor's block at a point. -/
theorem block0 (t : Fin cfg0.N) (r : Fin 2048) (j : Fin 1024) (R : Fin 8192) (hR : R.val = 2048 * (t.val / 4) + r.val) :
    iblk m c 0 t (ix2 r j) = m ((c : Thread nD τ).loc main_arg0) (ix2 R j) := by
  show V m c main_arg0 (((cfg0.win 0).blk t).view.emb (ix2 r j)) = _
  rw [V_main_arg0]
  refine congrArg (m ((c : Thread nD τ).loc main_arg0)) (funext fun d => Fin.ext ?_)
  fin_cases d
  · refine (win0_0.rect_emb_val t _ 0).trans ?_
    rw [(at0 t).1]; show t.val / 4 * 2048 + r.val = R.val; omega
  · refine (win0_0.rect_emb_val t _ 1).trans ?_
    rw [(at0 t).2]; show 0 * 1024 + j.val = j.val; omega

/-- The right factor's block at a point. -/
theorem block1 (t : Fin cfg0.N) (k : Fin 1024) (j : Fin 1024) (K : Fin 4096) (hK : K.val = 1024 * (t.val % 4) + k.val) :
    iblk m c 1 t (ix2 j k) = m ((c : Thread nD τ).loc main_arg1) (ix2 j K) := by
  show V m c main_arg1 (((cfg0.win 1).blk t).view.emb (ix2 j k)) = _
  rw [V_main_arg1]
  refine congrArg (m ((c : Thread nD τ).loc main_arg1)) (funext fun d => Fin.ext ?_)
  fin_cases d
  · refine (win0_1.rect_emb_val t _ 0).trans ?_
    rw [(at1 t).2]; show 0 * 1024 + j.val = j.val; omega
  · refine (win0_1.rect_emb_val t _ 1).trans ?_
    rw [(at1 t).1]; show t.val % 4 * 1024 + k.val = K.val; omega

/-- The array after the run. -/
theorem result (R : Fin 8192) (K : Fin 4096) : (dats m 0 c).arrAt 2 cfg0.N (ix2 R K)
    = entry (m ((c : Thread nD τ).loc main_arg0)) (m ((c : Thread nD τ).loc main_arg1)) R K := by
  have hN : cfg0.N = 16 := N_0
  let t : Fin cfg0.N := ⟨4 * (R.val / 2048) + K.val / 1024, by omega⟩
  let r : Fin 2048 := ⟨R.val % 2048, by omega⟩
  let k : Fin 1024 := ⟨K.val % 1024, by omega⟩
  have hR : R.val = 2048 * (t.val / 4) + r.val := by show R.val = 2048 * ((4 * (R.val / 2048) + K.val / 1024) / 4) + R.val % 2048; omega
  have hK : K.val = 1024 * (t.val % 4) + k.val := by show K.val = 1024 * ((4 * (R.val / 2048) + K.val / 1024) % 4) + K.val % 1024; omega
  have e := congrFun (Value.blocks2 m c t (flush0_2 t)) (ix2 r k)
  rw [Value.flushed2] at e
  refine .trans (congrArg ((dats m 0 c).arrAt 2 cfg0.N) (funext fun d => Fin.ext ?_)) (e.trans ?_)
  · refine .trans ?_ (win0_2.rect_emb_val t _ d).symm
    fin_cases d
    · show R.val = win0_2.index t 0 * 2048 + r.val
      rw [(at2 t).1]; omega
    · show K.val = win0_2.index t 1 * 1024 + k.val
      rw [(at2 t).2]; omega
  · refine (out_eq _ _ r k).trans ?_
    unfold entry
    refine congrArg (fun z : EReal => pos (z) * pos (z)) (Finset.sum_congr rfl fun j _ => ?_)
    rw [block0 m c t r j R hR, block1 m c t k j K hK]

open Cert.UpRefIdeal.Read in
/-- The reference's result. -/
theorem reference (x0 : Vec Ideal S8192x1024 .bf16) (x1 : Vec Ideal S1024x4096 .bf16) (R : Fin 8192) (K : Fin 4096) :
    val_main_v5 (F := Ideal) x0 x1 (ix2 R K) = entry x0 x1 R K := by
  have p : val_main_v2 (F := Ideal) x0 x1 (ix2 R K) = ∑ j : Fin 1024, x0 (ix2 R j) * x1 (ix2 j K) := by
    rw [val_main_v2_apply]
    refine Finset.sum_congr rfl fun j _ => congrArg₂ (· * ·) (congrArg x0 ?_) (congrArg x1 ?_)
    all_goals
      funext d
      match d with
      | ⟨0, _⟩ => rfl
      | ⟨1, _⟩ => rfl
  show max (val_main_v2 (F := Ideal) x0 x1 (ix2 R K)) (Ideal.ofBits .f32 0x00000000#32)
    * max (val_main_v2 (F := Ideal) x0 x1 (ix2 R K)) (Ideal.ofBits .f32 0x00000000#32) = _
  rw [word_zero, EReal.coe_zero, p]
  rfl

/-- The kernel computes the product. -/
theorem algebraic : Cert.algebraic_UpIdeal_UpRefIdeal := fun m g m' g' _ agree => by
  refine ⟨fun c => (dats m 0 c).arrAt 2 cfg0.N, Value.run_blocks m g, ?_⟩
  refine (θ_run Cert.UpRefIdeal.defs _ _).mono (fun r h c => ?_) (Cert.UpRefIdeal.Value.run (F := Ideal) m' g')
  obtain ⟨h0, kept⟩ := h c
  obtain ⟨a0, a1⟩ := agree c
  refine ⟨h0.trans ?_, kept⟩
  rw [Cert.UpRefIdeal.Read.val_main_v5_eq, a0, a1]
  exact ext2 (a := 8192) (b := 4096) fun R K => (reference _ _ R K).trans (result m c R K).symm

end Cert.Mat.Up

end
-- ==== Proof.Mat.Pa.lean ====
/- The projection of the first branch: the product with its weight. -/
module

public import proofs.«01_k».proof.Defs
public import proofs.«01_k».proof.Proof.Mat.Basic
public import proofs.«01_k».proof.Proof.Gen.PaIdeal
public import proofs.«01_k».proof.Proof.Gen.PaIdeal.Value
public import proofs.«01_k».proof.Proof.Gen.PaRefIdeal.Run
public import proofs.«01_k».proof.Proof.Gen.PaRefIdeal.Read

@[expose] public section

set_option maxRecDepth 16384

noncomputable section

namespace Cert.Mat.Pa

open Idealize.ShloMosaic Idealize.ShloMosaic.TcCoe Cert.PaIdeal Cert.PaIdeal.Gen
open Idealize.ShloMosaic.Pipeline (Dat)
open Cert.Gate (word_zero)

/-- An entry of the result. -/
def entry (h : Vec Ideal S8192x1024 .bf16) (w : Vec Ideal S1024x1024 .bf16) (r : Fin 8192) (k : Fin 1024) : EReal :=
  ∑ j : Fin 1024, h (ix2 r j) * w (ix2 j k)

/-- What a point writes, from its staged blocks. -/
theorem out_eq (x0 : Vec Ideal S2048x1024 .bf16) (x1 : Vec Ideal S1024x1024 .bf16) (r : Fin 2048) (k : Fin 1024) :
    out0_2 x0 x1 (ix2 r k) = ∑ j : Fin 1024, x0 (ix2 r j) * x1 (ix2 j k) := by
  unfold out0_2
  rw [View.canon_unit_zero (S := S2048x1024) hz2, View.ld_unit_zero (S := S2048x1024) hz2, View.ld_unit_zero (S := S1024x1024) hz2]
  unfold k0_pay1
  pointwise [word_zero]
  exact zero_add _

variable (m : (ℓ : Loc nD τ sig) → Buf (Elt Ideal) ℓ) (c : Dev nD)

theorem at0 : ∀ t : Fin grid0.N, win0_0.index t 0 = t.val / 1 ∧ win0_0.index t 1 = 0 := by decide +kernel
theorem at1 : ∀ t : Fin grid0.N, win0_1.index t 1 = t.val % 1 ∧ win0_1.index t 0 = 0 := by decide +kernel
theorem at2 : ∀ t : Fin grid0.N, win0_2.index t 0 = t.val / 1 ∧ win0_2.index t 1 = t.val % 1 := by decide +kernel

/-- The left factor's block at a point. -/
theorem block0 (t : Fin cfg0.N) (r : Fin 2048) (j : Fin 1024) (R : Fin 8192) (hR : R.val = 2048 * (t.val / 1) + r.val) :
    iblk m c 0 t (ix2 r j) = m ((c : Thread nD τ).loc main_arg0) (ix2 R j) := by
  show V m c main_arg0 (((cfg0.win 0).blk t).view.emb (ix2 r j)) = _
  rw [V_main_arg0]
  refine congrArg (m ((c : Thread nD τ).loc main_arg0)) (funext fun d => Fin.ext ?_)
  fin_cases d
  · refine (win0_0.rect_emb_val t _ 0).trans ?_
    rw [(at0 t).1]; show t.val / 1 * 2048 + r.val = R.val; omega
  · refine (win0_0.rect_emb_val t _ 1).trans ?_
    rw [(at0 t).2]; show 0 * 1024 + j.val = j.val; omega

/-- The right factor's block at a point. -/
theorem block1 (t : Fin cfg0.N) (k : Fin 1024) (j : Fin 1024) (K : Fin 1024) (hK : K.val = 1024 * (t.val % 1) + k.val) :
    iblk m c 1 t (ix2 j k) = m ((c : Thread nD τ).loc main_arg1) (ix2 j K) := by
  show V m c main_arg1 (((cfg0.win 1).blk t).view.emb (ix2 j k)) = _
  rw [V_main_arg1]
  refine congrArg (m ((c : Thread nD τ).loc main_arg1)) (funext fun d => Fin.ext ?_)
  fin_cases d
  · refine (win0_1.rect_emb_val t _ 0).trans ?_
    rw [(at1 t).2]; show 0 * 1024 + j.val = j.val; omega
  · refine (win0_1.rect_emb_val t _ 1).trans ?_
    rw [(at1 t).1]; show t.val % 1 * 1024 + k.val = K.val; omega

/-- The array after the run. -/
theorem result (R : Fin 8192) (K : Fin 1024) : (dats m 0 c).arrAt 2 cfg0.N (ix2 R K)
    = entry (m ((c : Thread nD τ).loc main_arg0)) (m ((c : Thread nD τ).loc main_arg1)) R K := by
  have hN : cfg0.N = 4 := N_0
  let t : Fin cfg0.N := ⟨1 * (R.val / 2048) + K.val / 1024, by omega⟩
  let r : Fin 2048 := ⟨R.val % 2048, by omega⟩
  let k : Fin 1024 := ⟨K.val % 1024, by omega⟩
  have hR : R.val = 2048 * (t.val / 1) + r.val := by show R.val = 2048 * ((1 * (R.val / 2048) + K.val / 1024) / 1) + R.val % 2048; omega
  have hK : K.val = 1024 * (t.val % 1) + k.val := by show K.val = 1024 * ((1 * (R.val / 2048) + K.val / 1024) % 1) + K.val % 1024; omega
  have e := congrFun (Value.blocks2 m c t (flush0_2 t)) (ix2 r k)
  rw [Value.flushed2] at e
  refine .trans (congrArg ((dats m 0 c).arrAt 2 cfg0.N) (funext fun d => Fin.ext ?_)) (e.trans ?_)
  · refine .trans ?_ (win0_2.rect_emb_val t _ d).symm
    fin_cases d
    · show R.val = win0_2.index t 0 * 2048 + r.val
      rw [(at2 t).1]; omega
    · show K.val = win0_2.index t 1 * 1024 + k.val
      rw [(at2 t).2]; omega
  · refine (out_eq _ _ r k).trans ?_
    unfold entry
    refine congrArg (fun z : EReal => z) (Finset.sum_congr rfl fun j _ => ?_)
    rw [block0 m c t r j R hR, block1 m c t k j K hK]

open Cert.PaRefIdeal.Read in
/-- The reference's result. -/
theorem reference (x0 : Vec Ideal S8192x1024 .bf16) (x1 : Vec Ideal S1024x1024 .bf16) (R : Fin 8192) (K : Fin 1024) :
    val_main_v3 (F := Ideal) x0 x1 (ix2 R K) = entry x0 x1 R K := by
  have p : val_main_v2 (F := Ideal) x0 x1 (ix2 R K) = ∑ j : Fin 1024, x0 (ix2 R j) * x1 (ix2 j K) := by
    rw [val_main_v2_apply]
    refine Finset.sum_congr rfl fun j _ => congrArg₂ (· * ·) (congrArg x0 ?_) (congrArg x1 ?_)
    all_goals
      funext d
      match d with
      | ⟨0, _⟩ => rfl
      | ⟨1, _⟩ => rfl
  exact p

/-- The kernel computes the product. -/
theorem algebraic : Cert.algebraic_PaIdeal_PaRefIdeal := fun m g m' g' _ agree => by
  refine ⟨fun c => (dats m 0 c).arrAt 2 cfg0.N, Value.run_blocks m g, ?_⟩
  refine (θ_run Cert.PaRefIdeal.defs _ _).mono (fun r h c => ?_) (Cert.PaRefIdeal.Value.run (F := Ideal) m' g')
  obtain ⟨h0, kept⟩ := h c
  obtain ⟨a0, a1⟩ := agree c
  refine ⟨h0.trans ?_, kept⟩
  rw [Cert.PaRefIdeal.Read.val_main_v3_eq, a0, a1]
  exact ext2 (a := 8192) (b := 1024) fun R K => (reference _ _ R K).trans (result m c R K).symm

end Cert.Mat.Pa

end
-- ==== Proof.Mat.Gout.lean ====
/- The gradient of the output projection's weight: the product of the transposed merged branches with the cotangent, over two halves of the rows. -/
module

public import proofs.«01_k».proof.Defs
public import proofs.«01_k».proof.Proof.Mat.Basic
public import proofs.«01_k».proof.Proof.Gen.GoutIdeal
public import proofs.«01_k».proof.Proof.Gen.GoutIdeal.Value
public import proofs.«01_k».proof.Proof.Gen.GoutRefIdeal.Run
public import proofs.«01_k».proof.Proof.Gen.GoutRefIdeal.Read

@[expose] public section

set_option maxRecDepth 16384

noncomputable section

namespace Cert.Mat.Gout

open Idealize.ShloMosaic Idealize.ShloMosaic.TcCoe Cert.GoutIdeal Cert.GoutIdeal.Gen
open Idealize.ShloMosaic.Pipeline (Dat)
open Cert.Gate (word_zero)

section
variable {c : Dev nD} {i : grid0.Coords} {arg3 : Memref sig .tc .vmem S4096x1024 .bf16} {harg3 : arg3.IsWhole}
  {arg4 : Memref sig .tc .vmem S4096x1024 .bf16} {harg4 : arg4.IsWhole} {arg5 : Memref sig .tc .vmem S1024x1024 .bf16}
  {harg5 : arg5.IsWhole} {arg6 : Memref sig .tc .vmem S1024x1024 .f32} {harg6 : arg6.IsWhole}
  {x0 x1 : Vec Ideal S4096x1024 .bf16} {xs : Vec Ideal S1024x1024 .f32}

/-- The entries of the product of the left factor, read by columns, with the right. -/
def prod (x0 : Vec Ideal S8192x1024 .bf16) (x1 : Vec Ideal S8192x1024 .bf16) (A : Fin 1024) (B : Fin 1024) : EReal :=
  ∑ k : Fin 8192, x0 (ix2 k A) * x1 (ix2 k B)

/-- The product of two staged blocks. -/
theorem prod_eq (x0 x1 : Vec Ideal S4096x1024 .bf16) (a b : Fin 1024) :
    k0_pay1 x0 x1 (ix2 a b) = ∑ k : Fin 4096, x0 (ix2 k a) * x1 (ix2 k b) := by
  unfold k0_pay1
  pointwise [word_zero]
  exact zero_add _

/-- The first of two points leaves its product in the running sum. -/
theorem sout_A {h0 : cond0_0 i} {h1 : ¬cond0_1 i} {h2 : ¬cond0_2 i} (a b : Fin 1024) :
    sout0_A_0 c i arg3 harg3 arg4 harg4 arg5 harg5 arg6 harg6 h0 h1 h2 x0 x1 (ix2 a b)
      = ∑ k : Fin 4096, x0 (ix2 k a) * x1 (ix2 k b) := by
  unfold sout0_A_0
  rw [View.read_writes_eq_canon _ _ _ (scover0_A_0 c i arg3 harg3 arg4 harg4 arg5 harg5 arg6 harg6 h0 h1 h2 x0 x1)]
  unfold kernelRun0_A
  dsimp only
  rw [View.canon_cons_unit_zero (S := S1024x1024) hz2, read_whole arg3 harg3 x0 hz2, read_whole arg4 harg4 x1 hz2]
  unfold k0_pay2
  pointwise [prod_eq]

/-- The second of two points writes the running sum with its own product added. -/
theorem out_B {h0 : ¬cond0_0 i} {h1 : cond0_1 i} {h2 : cond0_2 i} (a b : Fin 1024) :
    out0_B_2 c i arg3 harg3 arg4 harg4 arg5 harg5 arg6 harg6 h0 h1 h2 x0 x1 xs (ix2 a b)
      = xs (ix2 a b) + ∑ k : Fin 4096, x0 (ix2 k a) * x1 (ix2 k b) := by
  unfold out0_B_2
  rw [View.read_writes_eq_canon _ _ _ (cover0_B_2 c i arg3 harg3 arg4 harg4 arg5 harg5 arg6 harg6 h0 h1 h2 x0 x1 xs)]
  unfold kernelRun0_B
  dsimp only
  rw [View.canon_cons_unit_zero (S := S1024x1024) hz2]
  unfold kernelRun0_B.sl.v12 k0_pay4 kernelRun0_B.sl.HS0_1
  rw [View.readCov_unit_zero (Val := Elt Ideal) (e := .f32) (S := S1024x1024) _ hz2 _ _]
  rw [read_whole arg3 harg3 x0 hz2, read_whole arg4 harg4 x1 hz2, read_whole arg6 harg6 xs hz2]
  unfold k0_pay3
  pointwise [prod_eq]

end

variable (m : (ℓ : Loc nD τ sig) → Buf (Elt Ideal) ℓ) (c : Dev nD)

theorem at0 : ∀ t : Fin grid0.N, win0_0.index t 0 = t.val % 2 ∧ win0_0.index t 1 = t.val / 2 := by decide +kernel
theorem at1 : ∀ t : Fin grid0.N, win0_1.index t 0 = t.val % 2 ∧ win0_1.index t 1 = 0 := by decide +kernel

/-- The left factor's block at a point. -/
theorem block0 (t : Fin cfg0.N) (k : Fin 4096) (a : Fin 1024) (K : Fin 8192) (A : Fin 1024)
    (hK : K.val = 4096 * (t.val % 2) + k.val) (hA : A.val = 1024 * (t.val / 2) + a.val) :
    iblk m c 0 t (ix2 k a) = m ((c : Thread nD τ).loc main_arg0) (ix2 K A) := by
  show V m c main_arg0 (((cfg0.win 0).blk t).view.emb (ix2 k a)) = _
  rw [V_main_arg0]
  refine congrArg (m ((c : Thread nD τ).loc main_arg0)) (funext fun d => Fin.ext ?_)
  fin_cases d
  · refine (win0_0.rect_emb_val t _ 0).trans ?_
    rw [(at0 t).1]; show t.val % 2 * 4096 + k.val = K.val; omega
  · refine (win0_0.rect_emb_val t _ 1).trans ?_
    rw [(at0 t).2]; show t.val / 2 * 1024 + a.val = A.val; omega

/-- The right factor's block at a point. -/
theorem block1 (t : Fin cfg0.N) (k : Fin 4096) (b : Fin 1024) (K : Fin 8192)
    (hK : K.val = 4096 * (t.val % 2) + k.val) :
    iblk m c 1 t (ix2 k b) = m ((c : Thread nD τ).loc main_arg1) (ix2 K b) := by
  show V m c main_arg1 (((cfg0.win 1).blk t).view.emb (ix2 k b)) = _
  rw [V_main_arg1]
  refine congrArg (m ((c : Thread nD τ).loc main_arg1)) (funext fun d => Fin.ext ?_)
  fin_cases d
  · refine (win0_1.rect_emb_val t _ 0).trans ?_
    rw [(at1 t).1]; show t.val % 2 * 4096 + k.val = K.val; omega
  · refine (win0_1.rect_emb_val t _ 1).trans ?_
    rw [(at1 t).2]; show 0 * 1024 + b.val = b.val; omega

/-- What the second of two points writes is the whole sum over the rows. -/
theorem written (t : Fin cfg0.N) (ht : t.val % 2 = 1) (a b : Fin 1024) (A : Fin 1024)
    (hA : A.val = 1024 * (t.val / 2) + a.val) :
    (outsAt0 m c t.val t.isLt).1 (ix2 a b)
      = prod (m ((c : Thread nD τ).loc main_arg0)) (m ((c : Thread nD τ).loc main_arg1)) A b := by
  rw [outsAt0_B m c t (by omega) ht ht]
  dsimp only
  refine (out_B a b).trans ?_
  have hp : t.val - 1 < cfg0.N := by have := t.isLt; omega
  rw [outsAt0_A m c ⟨t.val - 1, hp⟩ (by dsimp only; omega) (by dsimp only; omega) (by dsimp only; omega)]
  dsimp only
  unfold prod
  rw [sum_halves]
  refine congrArg₂ (· + ·) ((sout_A a b).trans ?_) ?_
  · refine Finset.sum_congr rfl fun k _ => ?_
    rw [block0 m c ⟨t.val - 1, hp⟩ k a ⟨k.val, by omega⟩ A (by dsimp only; omega) (by dsimp only; omega),
      block1 m c ⟨t.val - 1, hp⟩ k b ⟨k.val, by omega⟩ (by dsimp only; omega)]
  · refine Finset.sum_congr rfl fun k _ => ?_
    rw [block0 m c t k a ⟨4096 + k.val, by omega⟩ A (by dsimp only; omega) hA,
      block1 m c t k b ⟨4096 + k.val, by omega⟩ (by dsimp only; omega)]

/-- The array after the run. -/
theorem result (A : Fin 1024) (B : Fin 1024) :
    Value.G2 m c (ix2 A B)
      = prod (m ((c : Thread nD τ).loc main_arg0)) (m ((c : Thread nD τ).loc main_arg1)) A B := by
  have hN : cfg0.N = 2 := N_0
  have hp : Value.pt2Of (ix2 A B) = 2 * (A.val / 1024) + 1 := by
    show 2 * (1 * (A.val / 1024 - 0) + 1 * (B.val / 1024 - 0)) + 1 = _; omega
  have hl : Value.loc2Of (ix2 A B) = ix2 ⟨A.val % 1024, by omega⟩ B := by
    funext d; apply Fin.ext
    match d with
    | ⟨0, _⟩ => rfl
    | ⟨1, _⟩ => show B.val % 1024 = B.val; omega
  have hb : Value.pt2Of (ix2 A B) < cfg0.N := by rw [hp]; omega
  unfold Value.G2
  rw [dif_pos hb, ← Value.outsAt0_sweep m c _ hb, hl]
  exact written m c ⟨_, hb⟩ (by dsimp only; omega) _ _ A (by dsimp only; omega)

open Cert.GoutRefIdeal.Read in
/-- The reference's result. -/
theorem reference (x0 : Vec Ideal S8192x1024 .bf16) (x1 : Vec Ideal S8192x1024 .bf16) (A : Fin 1024) (B : Fin 1024) :
    val_main_v6 (F := Ideal) x0 x1 (ix2 A B) = prod x0 x1 A B := by
  show val_main_v5 (F := Ideal) x0 x1 (ix2 A B) = _
  rw [val_main_v5_apply, val_main_v4_apply]
  refine Finset.sum_congr rfl fun k _ => (mul_comm _ _).trans (congrArg₂ (· * ·) (congrArg x0 ?_) (congrArg x1 ?_))
  all_goals
    funext d
    match d with
    | ⟨0, _⟩ => rfl
    | ⟨1, _⟩ => rfl

/-- The kernel computes the gradient of the weight. -/
theorem algebraic : Cert.algebraic_GoutIdeal_GoutRefIdeal := fun m g m' g' _ agree => by
  refine ⟨fun c => Value.G2 m c, Value.run m g, ?_⟩
  refine (θ_run Cert.GoutRefIdeal.defs _ _).mono (fun r h c => ?_) (Cert.GoutRefIdeal.Value.run (F := Ideal) m' g')
  obtain ⟨h0, kept⟩ := h c
  obtain ⟨a0, a1⟩ := agree c
  refine ⟨h0.trans ?_, kept⟩
  rw [Cert.GoutRefIdeal.Read.val_main_v6_eq, a0, a1]
  exact ext2 (a := 1024) (b := 1024) fun A B => (reference _ _ A B).trans (result m c A B).symm

end Cert.Mat.Gout
-- ==== Proof.Mat.Gpa.lean ====
/- The gradient of the first branch's projection. -/
module

public import proofs.«01_k».proof.Proof.Mat.Gout
public import proofs.«01_k».proof.Proof.Gen.Gpa.Frame
public import proofs.«01_k».proof.Proof.Gen.GpaIdeal.Frame
public import proofs.«01_k».proof.Proof.Gen.GpaRefIdeal.Run

@[expose] public section

set_option maxRecDepth 65536

namespace Cert.Mat.Gpa

open Idealize.ShloMosaic

theorem bodies_eq : @Cert.GpaIdeal.defs₀ Ideal _ Cert.GpaIdeal.Gen.facts = @Cert.GoutIdeal.defs₀ Ideal _ Cert.GoutIdeal.Gen.facts := by
  unfold Cert.GpaIdeal.defs₀ Cert.GoutIdeal.defs₀
  refine congrArg Defs.onTc (funext fun l => ?_)
  obtain rfl : l = (0 : Fin 1) := Subsingleton.elim (α := Fin 1) _ _
  rfl

theorem defs_eq : @Cert.GpaIdeal.defs Ideal _ Cert.GpaIdeal.Gen.facts = @Cert.GoutIdeal.defs Ideal _ Cert.GoutIdeal.Gen.facts :=
  congrArg (Pipeline.defs (@Cert.GoutIdeal.pcfgs Ideal _)) bodies_eq

/-- The call is that of the output projection, at the same shapes. -/
theorem algebraic : Cert.algebraic_GpaIdeal_GpaRefIdeal := by
  unfold Cert.algebraic_GpaIdeal_GpaRefIdeal
  rw [defs_eq]
  exact Cert.Mat.Gout.algebraic

end Cert.Mat.Gpa

end
-- ==== Proof.Mat.Gpb.lean ====
/- The gradient of the weight of the second branch's projection: the product of the transposed branch with the cotangent, over two halves of the rows. -/
module

public import proofs.«01_k».proof.Defs
public import proofs.«01_k».proof.Proof.Mat.Basic
public import proofs.«01_k».proof.Proof.Gen.GpbIdeal
public import proofs.«01_k».proof.Proof.Gen.GpbIdeal.Value
public import proofs.«01_k».proof.Proof.Gen.GpbRefIdeal.Run
public import proofs.«01_k».proof.Proof.Gen.GpbRefIdeal.Read

@[expose] public section

set_option maxRecDepth 16384

noncomputable section

namespace Cert.Mat.Gpb

open Idealize.ShloMosaic Idealize.ShloMosaic.TcCoe Cert.GpbIdeal Cert.GpbIdeal.Gen
open Idealize.ShloMosaic.Pipeline (Dat)
open Cert.Gate (word_zero)

section
variable {c : Dev nD} {i : grid0.Coords} {arg3 : Memref sig .tc .vmem S4096x1024 .bf16} {harg3 : arg3.IsWhole}
  {arg4 : Memref sig .tc .vmem S4096x1024 .bf16} {harg4 : arg4.IsWhole} {arg5 : Memref sig .tc .vmem S1024x1024 .bf16}
  {harg5 : arg5.IsWhole} {arg6 : Memref sig .tc .vmem S1024x1024 .f32} {harg6 : arg6.IsWhole}
  {x0 x1 : Vec Ideal S4096x1024 .bf16} {xs : Vec Ideal S1024x1024 .f32}

/-- The entries of the product of the left factor, read by columns, with the right. -/
def prod (x0 : Vec Ideal S8192x2048 .bf16) (x1 : Vec Ideal S8192x1024 .bf16) (A : Fin 2048) (B : Fin 1024) : EReal :=
  ∑ k : Fin 8192, x0 (ix2 k A) * x1 (ix2 k B)

/-- The product of two staged blocks. -/
theorem prod_eq (x0 x1 : Vec Ideal S4096x1024 .bf16) (a b : Fin 1024) :
    k0_pay1 x0 x1 (ix2 a b) = ∑ k : Fin 4096, x0 (ix2 k a) * x1 (ix2 k b) := by
  unfold k0_pay1
  pointwise [word_zero]
  exact zero_add _

/-- The first of two points leaves its product in the running sum. -/
theorem sout_A {h0 : cond0_0 i} {h1 : ¬cond0_1 i} {h2 : ¬cond0_2 i} (a b : Fin 1024) :
    sout0_A_0 c i arg3 harg3 arg4 harg4 arg5 harg5 arg6 harg6 h0 h1 h2 x0 x1 (ix2 a b)
      = ∑ k : Fin 4096, x0 (ix2 k a) * x1 (ix2 k b) := by
  unfold sout0_A_0
  rw [View.read_writes_eq_canon _ _ _ (scover0_A_0 c i arg3 harg3 arg4 harg4 arg5 harg5 arg6 harg6 h0 h1 h2 x0 x1)]
  unfold kernelRun0_A
  dsimp only
  rw [View.canon_cons_unit_zero (S := S1024x1024) hz2, read_whole arg3 harg3 x0 hz2, read_whole arg4 harg4 x1 hz2]
  unfold k0_pay2
  pointwise [prod_eq]

/-- The second of two points writes the running sum with its own product added. -/
theorem out_B {h0 : ¬cond0_0 i} {h1 : cond0_1 i} {h2 : cond0_2 i} (a b : Fin 1024) :
    out0_B_2 c i arg3 harg3 arg4 harg4 arg5 harg5 arg6 harg6 h0 h1 h2 x0 x1 xs (ix2 a b)
      = xs (ix2 a b) + ∑ k : Fin 4096, x0 (ix2 k a) * x1 (ix2 k b) := by
  unfold out0_B_2
  rw [View.read_writes_eq_canon _ _ _ (cover0_B_2 c i arg3 harg3 arg4 harg4 arg5 harg5 arg6 harg6 h0 h1 h2 x0 x1 xs)]
  unfold kernelRun0_B
  dsimp only
  rw [View.canon_cons_unit_zero (S := S1024x1024) hz2]
  unfold kernelRun0_B.sl.v12 k0_pay4 kernelRun0_B.sl.HS0_1
  rw [View.readCov_unit_zero (Val := Elt Ideal) (e := .f32) (S := S1024x1024) _ hz2 _ _]
  rw [read_whole arg3 harg3 x0 hz2, read_whole arg4 harg4 x1 hz2, read_whole arg6 harg6 xs hz2]
  unfold k0_pay3
  pointwise [prod_eq]

end

variable (m : (ℓ : Loc nD τ sig) → Buf (Elt Ideal) ℓ) (c : Dev nD)

theorem at0 : ∀ t : Fin grid0.N, win0_0.index t 0 = t.val % 2 ∧ win0_0.index t 1 = t.val / 2 := by decide +kernel
theorem at1 : ∀ t : Fin grid0.N, win0_1.index t 0 = t.val % 2 ∧ win0_1.index t 1 = 0 := by decide +kernel

/-- The left factor's block at a point. -/
theorem block0 (t : Fin cfg0.N) (k : Fin 4096) (a : Fin 1024) (K : Fin 8192) (A : Fin 2048)
    (hK : K.val = 4096 * (t.val % 2) + k.val) (hA : A.val = 1024 * (t.val / 2) + a.val) :
    iblk m c 0 t (ix2 k a) = m ((c : Thread nD τ).loc main_arg0) (ix2 K A) := by
  show V m c main_arg0 (((cfg0.win 0).blk t).view.emb (ix2 k a)) = _
  rw [V_main_arg0]
  refine congrArg (m ((c : Thread nD τ).loc main_arg0)) (funext fun d => Fin.ext ?_)
  fin_cases d
  · refine (win0_0.rect_emb_val t _ 0).trans ?_
    rw [(at0 t).1]; show t.val % 2 * 4096 + k.val = K.val; omega
  · refine (win0_0.rect_emb_val t _ 1).trans ?_
    rw [(at0 t).2]; show t.val / 2 * 1024 + a.val = A.val; omega

/-- The right factor's block at a point. -/
theorem block1 (t : Fin cfg0.N) (k : Fin 4096) (b : Fin 1024) (K : Fin 8192)
    (hK : K.val = 4096 * (t.val % 2) + k.val) :
    iblk m c 1 t (ix2 k b) = m ((c : Thread nD τ).loc main_arg1) (ix2 K b) := by
  show V m c main_arg1 (((cfg0.win 1).blk t).view.emb (ix2 k b)) = _
  rw [V_main_arg1]
  refine congrArg (m ((c : Thread nD τ).loc main_arg1)) (funext fun d => Fin.ext ?_)
  fin_cases d
  · refine (win0_1.rect_emb_val t _ 0).trans ?_
    rw [(at1 t).1]; show t.val % 2 * 4096 + k.val = K.val; omega
  · refine (win0_1.rect_emb_val t _ 1).trans ?_
    rw [(at1 t).2]; show 0 * 1024 + b.val = b.val; omega

/-- What the second of two points writes is the whole sum over the rows. -/
theorem written (t : Fin cfg0.N) (ht : t.val % 2 = 1) (a b : Fin 1024) (A : Fin 2048)
    (hA : A.val = 1024 * (t.val / 2) + a.val) :
    (outsAt0 m c t.val t.isLt).1 (ix2 a b)
      = prod (m ((c : Thread nD τ).loc main_arg0)) (m ((c : Thread nD τ).loc main_arg1)) A b := by
  rw [outsAt0_B m c t (by omega) ht ht]
  dsimp only
  refine (out_B a b).trans ?_
  have hp : t.val - 1 < cfg0.N := by have := t.isLt; omega
  rw [outsAt0_A m c ⟨t.val - 1, hp⟩ (by dsimp only; omega) (by dsimp only; omega) (by dsimp only; omega)]
  dsimp only
  unfold prod
  rw [sum_halves]
  refine congrArg₂ (· + ·) ((sout_A a b).trans ?_) ?_
  · refine Finset.sum_congr rfl fun k _ => ?_
    rw [block0 m c ⟨t.val - 1, hp⟩ k a ⟨k.val, by omega⟩ A (by dsimp only; omega) (by dsimp only; omega),
      block1 m c ⟨t.val - 1, hp⟩ k b ⟨k.val, by omega⟩ (by dsimp only; omega)]
  · refine Finset.sum_congr rfl fun k _ => ?_
    rw [block0 m c t k a ⟨4096 + k.val, by omega⟩ A (by dsimp only; omega) hA,
      block1 m c t k b ⟨4096 + k.val, by omega⟩ (by dsimp only; omega)]

/-- The array after the run. -/
theorem result (A : Fin 2048) (B : Fin 1024) :
    Value.G2 m c (ix2 A B)
      = prod (m ((c : Thread nD τ).loc main_arg0)) (m ((c : Thread nD τ).loc main_arg1)) A B := by
  have hN : cfg0.N = 4 := N_0
  have hp : Value.pt2Of (ix2 A B) = 2 * (A.val / 1024) + 1 := by
    show 2 * (1 * (A.val / 1024 - 0) + 1 * (B.val / 1024 - 0)) + 1 = _; omega
  have hl : Value.loc2Of (ix2 A B) = ix2 ⟨A.val % 1024, by omega⟩ B := by
    funext d; apply Fin.ext
    match d with
    | ⟨0, _⟩ => rfl
    | ⟨1, _⟩ => show B.val % 1024 = B.val; omega
  have hb : Value.pt2Of (ix2 A B) < cfg0.N := by rw [hp]; omega
  unfold Value.G2
  rw [dif_pos hb, ← Value.outsAt0_sweep m c _ hb, hl]
  exact written m c ⟨_, hb⟩ (by dsimp only; omega) _ _ A (by dsimp only; omega)

open Cert.GpbRefIdeal.Read in
/-- The reference's result. -/
theorem reference (x0 : Vec Ideal S8192x2048 .bf16) (x1 : Vec Ideal S8192x1024 .bf16) (A : Fin 2048) (B : Fin 1024) :
    val_main_v6 (F := Ideal) x0 x1 (ix2 A B) = prod x0 x1 A B := by
  show val_main_v5 (F := Ideal) x0 x1 (ix2 A B) = _
  rw [val_main_v5_apply, val_main_v4_apply]
  refine Finset.sum_congr rfl fun k _ => (mul_comm _ _).trans (congrArg₂ (· * ·) (congrArg x0 ?_) (congrArg x1 ?_))
  all_goals
    funext d
    match d with
    | ⟨0, _⟩ => rfl
    | ⟨1, _⟩ => rfl

/-- The kernel computes the gradient of the weight. -/
theorem algebraic : Cert.algebraic_GpbIdeal_GpbRefIdeal := fun m g m' g' _ agree => by
  refine ⟨fun c => Value.G2 m c, Value.run m g, ?_⟩
  refine (θ_run Cert.GpbRefIdeal.defs _ _).mono (fun r h c => ?_) (Cert.GpbRefIdeal.Value.run (F := Ideal) m' g')
  obtain ⟨h0, kept⟩ := h c
  obtain ⟨a0, a1⟩ := agree c
  refine ⟨h0.trans ?_, kept⟩
  rw [Cert.GpbRefIdeal.Read.val_main_v6_eq, a0, a1]
  exact ext2 (a := 2048) (b := 1024) fun A B => (reference _ _ A B).trans (result m c A B).symm

end Cert.Mat.Gpb
-- ==== Proof.Mat.Dya.lean ====
/- The cotangent of the first branch: the product with the transposed weight. -/
module

public import proofs.«01_k».proof.Defs
public import proofs.«01_k».proof.Proof.Mat.Basic
public import proofs.«01_k».proof.Proof.Gen.DyaIdeal
public import proofs.«01_k».proof.Proof.Gen.DyaIdeal.Value
public import proofs.«01_k».proof.Proof.Gen.DyaRefIdeal.Run
public import proofs.«01_k».proof.Proof.Gen.DyaRefIdeal.Read

@[expose] public section

set_option maxRecDepth 16384

noncomputable section

namespace Cert.Mat.Dya

open Idealize.ShloMosaic Idealize.ShloMosaic.TcCoe Cert.DyaIdeal Cert.DyaIdeal.Gen
open Idealize.ShloMosaic.Pipeline (Dat)
open Cert.Gate (word_zero)

/-- An entry of the result. -/
def entry (h : Vec Ideal S8192x1024 .bf16) (w : Vec Ideal S1024x1024 .bf16) (r : Fin 8192) (k : Fin 1024) : EReal :=
  ∑ j : Fin 1024, h (ix2 r j) * w (ix2 k j)

/-- What a point writes, from its staged blocks. -/
theorem out_eq (x0 : Vec Ideal S2048x1024 .bf16) (x1 : Vec Ideal S1024x1024 .bf16) (r : Fin 2048) (k : Fin 1024) :
    out0_2 x0 x1 (ix2 r k) = ∑ j : Fin 1024, x0 (ix2 r j) * x1 (ix2 k j) := by
  unfold out0_2
  rw [View.canon_unit_zero (S := S2048x1024) hz2, View.ld_unit_zero (S := S2048x1024) hz2, View.ld_unit_zero (S := S1024x1024) hz2]
  unfold k0_pay1
  pointwise [word_zero]
  exact zero_add _

variable (m : (ℓ : Loc nD τ sig) → Buf (Elt Ideal) ℓ) (c : Dev nD)

theorem at0 : ∀ t : Fin grid0.N, win0_0.index t 0 = t.val / 1 ∧ win0_0.index t 1 = 0 := by decide +kernel
theorem at1 : ∀ t : Fin grid0.N, win0_1.index t 0 = t.val % 1 ∧ win0_1.index t 1 = 0 := by decide +kernel
theorem at2 : ∀ t : Fin grid0.N, win0_2.index t 0 = t.val / 1 ∧ win0_2.index t 1 = t.val % 1 := by decide +kernel

/-- The left factor's block at a point. -/
theorem block0 (t : Fin cfg0.N) (r : Fin 2048) (j : Fin 1024) (R : Fin 8192) (hR : R.val = 2048 * (t.val / 1) + r.val) :
    iblk m c 0 t (ix2 r j) = m ((c : Thread nD τ).loc main_arg0) (ix2 R j) := by
  show V m c main_arg0 (((cfg0.win 0).blk t).view.emb (ix2 r j)) = _
  rw [V_main_arg0]
  refine congrArg (m ((c : Thread nD τ).loc main_arg0)) (funext fun d => Fin.ext ?_)
  fin_cases d
  · refine (win0_0.rect_emb_val t _ 0).trans ?_
    rw [(at0 t).1]; show t.val / 1 * 2048 + r.val = R.val; omega
  · refine (win0_0.rect_emb_val t _ 1).trans ?_
    rw [(at0 t).2]; show 0 * 1024 + j.val = j.val; omega

/-- The right factor's block at a point. -/
theorem block1 (t : Fin cfg0.N) (k : Fin 1024) (j : Fin 1024) (K : Fin 1024) (hK : K.val = 1024 * (t.val % 1) + k.val) :
    iblk m c 1 t (ix2 k j) = m ((c : Thread nD τ).loc main_arg1) (ix2 K j) := by
  show V m c main_arg1 (((cfg0.win 1).blk t).view.emb (ix2 k j)) = _
  rw [V_main_arg1]
  refine congrArg (m ((c : Thread nD τ).loc main_arg1)) (funext fun d => Fin.ext ?_)
  fin_cases d
  · refine (win0_1.rect_emb_val t _ 0).trans ?_
    rw [(at1 t).1]; show t.val % 1 * 1024 + k.val = K.val; omega
  · refine (win0_1.rect_emb_val t _ 1).trans ?_
    rw [(at1 t).2]; show 0 * 1024 + j.val = j.val; omega

/-- The array after the run. -/
theorem result (R : Fin 8192) (K : Fin 1024) : (dats m 0 c).arrAt 2 cfg0.N (ix2 R K)
    = entry (m ((c : Thread nD τ).loc main_arg0)) (m ((c : Thread nD τ).loc main_arg1)) R K := by
  have hN : cfg0.N = 4 := N_0
  let t : Fin cfg0.N := ⟨1 * (R.val / 2048) + K.val / 1024, by omega⟩
  let r : Fin 2048 := ⟨R.val % 2048, by omega⟩
  let k : Fin 1024 := ⟨K.val % 1024, by omega⟩
  have hR : R.val = 2048 * (t.val / 1) + r.val := by show R.val = 2048 * ((1 * (R.val / 2048) + K.val / 1024) / 1) + R.val % 2048; omega
  have hK : K.val = 1024 * (t.val % 1) + k.val := by show K.val = 1024 * ((1 * (R.val / 2048) + K.val / 1024) % 1) + K.val % 1024; omega
  have e := congrFun (Value.blocks2 m c t (flush0_2 t)) (ix2 r k)
  rw [Value.flushed2] at e
  refine .trans (congrArg ((dats m 0 c).arrAt 2 cfg0.N) (funext fun d => Fin.ext ?_)) (e.trans ?_)
  · refine .trans ?_ (win0_2.rect_emb_val t _ d).symm
    fin_cases d
    · show R.val = win0_2.index t 0 * 2048 + r.val
      rw [(at2 t).1]; omega
    · show K.val = win0_2.index t 1 * 1024 + k.val
      rw [(at2 t).2]; omega
  · refine (out_eq _ _ r k).trans ?_
    unfold entry
    refine congrArg (fun z : EReal => z) (Finset.sum_congr rfl fun j _ => ?_)
    rw [block0 m c t r j R hR, block1 m c t k j K hK]

open Cert.DyaRefIdeal.Read in
/-- The reference's result. -/
theorem reference (x0 : Vec Ideal S8192x1024 .bf16) (x1 : Vec Ideal S1024x1024 .bf16) (R : Fin 8192) (K : Fin 1024) :
    val_main_v5 (F := Ideal) x0 x1 (ix2 R K) = entry x0 x1 R K := by
  have p : val_main_v4 (F := Ideal) x0 x1 (ix2 R K) = ∑ j : Fin 1024, x0 (ix2 R j) * x1 (ix2 K j) := by
    rw [val_main_v4_apply]
    refine Finset.sum_congr rfl fun j _ => congrArg₂ (· * ·) (congrArg x0 ?_) (congrArg x1 ?_)
    all_goals
      funext d
      match d with
      | ⟨0, _⟩ => rfl
      | ⟨1, _⟩ => rfl
  exact p

/-- The kernel computes the product. -/
theorem algebraic : Cert.algebraic_DyaIdeal_DyaRefIdeal := fun m g m' g' _ agree => by
  refine ⟨fun c => (dats m 0 c).arrAt 2 cfg0.N, Value.run_blocks m g, ?_⟩
  refine (θ_run Cert.DyaRefIdeal.defs _ _).mono (fun r h c => ?_) (Cert.DyaRefIdeal.Value.run (F := Ideal) m' g')
  obtain ⟨h0, kept⟩ := h c
  obtain ⟨a0, a1⟩ := agree c
  refine ⟨h0.trans ?_, kept⟩
  rw [Cert.DyaRefIdeal.Read.val_main_v5_eq, a0, a1]
  exact ext2 (a := 8192) (b := 1024) fun R K => (reference _ _ R K).trans (result m c R K).symm

end Cert.Mat.Dya

end
-- ==== Proof.Mat.Dyb.lean ====
/- The cotangent of the second branch: the product with the transposed weight. -/
module

public import proofs.«01_k».proof.Defs
public import proofs.«01_k».proof.Proof.Mat.Basic
public import proofs.«01_k».proof.Proof.Gen.DybIdeal
public import proofs.«01_k».proof.Proof.Gen.DybIdeal.Value
public import proofs.«01_k».proof.Proof.Gen.DybRefIdeal.Run
public import proofs.«01_k».proof.Proof.Gen.DybRefIdeal.Read

@[expose] public section

set_option maxRecDepth 16384

noncomputable section

namespace Cert.Mat.Dyb

open Idealize.ShloMosaic Idealize.ShloMosaic.TcCoe Cert.DybIdeal Cert.DybIdeal.Gen
open Idealize.ShloMosaic.Pipeline (Dat)
open Cert.Gate (word_zero)

/-- An entry of the result. -/
def entry (h : Vec Ideal S8192x1024 .bf16) (w : Vec Ideal S2048x1024 .bf16) (r : Fin 8192) (k : Fin 2048) : EReal :=
  ∑ j : Fin 1024, h (ix2 r j) * w (ix2 k j)

/-- What a point writes, from its staged blocks. -/
theorem out_eq (x0 : Vec Ideal S2048x1024 .bf16) (x1 : Vec Ideal S1024x1024 .bf16) (r : Fin 2048) (k : Fin 1024) :
    out0_2 x0 x1 (ix2 r k) = ∑ j : Fin 1024, x0 (ix2 r j) * x1 (ix2 k j) := by
  unfold out0_2
  rw [View.canon_unit_zero (S := S2048x1024) hz2, View.ld_unit_zero (S := S2048x1024) hz2, View.ld_unit_zero (S := S1024x1024) hz2]
  unfold k0_pay1
  pointwise [word_zero]
  exact zero_add _

variable (m : (ℓ : Loc nD τ sig) → Buf (Elt Ideal) ℓ) (c : Dev nD)

theorem at0 : ∀ t : Fin grid0.N, win0_0.index t 0 = t.val / 2 ∧ win0_0.index t 1 = 0 := by decide +kernel
theorem at1 : ∀ t : Fin grid0.N, win0_1.index t 0 = t.val % 2 ∧ win0_1.index t 1 = 0 := by decide +kernel
theorem at2 : ∀ t : Fin grid0.N, win0_2.index t 0 = t.val / 2 ∧ win0_2.index t 1 = t.val % 2 := by decide +kernel

/-- The left factor's block at a point. -/
theorem block0 (t : Fin cfg0.N) (r : Fin 2048) (j : Fin 1024) (R : Fin 8192) (hR : R.val = 2048 * (t.val / 2) + r.val) :
    iblk m c 0 t (ix2 r j) = m ((c : Thread nD τ).loc main_arg0) (ix2 R j) := by
  show V m c main_arg0 (((cfg0.win 0).blk t).view.emb (ix2 r j)) = _
  rw [V_main_arg0]
  refine congrArg (m ((c : Thread nD τ).loc main_arg0)) (funext fun d => Fin.ext ?_)
  fin_cases d
  · refine (win0_0.rect_emb_val t _ 0).trans ?_
    rw [(at0 t).1]; show t.val / 2 * 2048 + r.val = R.val; omega
  · refine (win0_0.rect_emb_val t _ 1).trans ?_
    rw [(at0 t).2]; show 0 * 1024 + j.val = j.val; omega

/-- The right factor's block at a point. -/
theorem block1 (t : Fin cfg0.N) (k : Fin 1024) (j : Fin 1024) (K : Fin 2048) (hK : K.val = 1024 * (t.val % 2) + k.val) :
    iblk m c 1 t (ix2 k j) = m ((c : Thread nD τ).loc main_arg1) (ix2 K j) := by
  show V m c main_arg1 (((cfg0.win 1).blk t).view.emb (ix2 k j)) = _
  rw [V_main_arg1]
  refine congrArg (m ((c : Thread nD τ).loc main_arg1)) (funext fun d => Fin.ext ?_)
  fin_cases d
  · refine (win0_1.rect_emb_val t _ 0).trans ?_
    rw [(at1 t).1]; show t.val % 2 * 1024 + k.val = K.val; omega
  · refine (win0_1.rect_emb_val t _ 1).trans ?_
    rw [(at1 t).2]; show 0 * 1024 + j.val = j.val; omega

/-- The array after the run. -/
theorem result (R : Fin 8192) (K : Fin 2048) : (dats m 0 c).arrAt 2 cfg0.N (ix2 R K)
    = entry (m ((c : Thread nD τ).loc main_arg0)) (m ((c : Thread nD τ).loc main_arg1)) R K := by
  have hN : cfg0.N = 8 := N_0
  let t : Fin cfg0.N := ⟨2 * (R.val / 2048) + K.val / 1024, by omega⟩
  let r : Fin 2048 := ⟨R.val % 2048, by omega⟩
  let k : Fin 1024 := ⟨K.val % 1024, by omega⟩
  have hR : R.val = 2048 * (t.val / 2) + r.val := by show R.val = 2048 * ((2 * (R.val / 2048) + K.val / 1024) / 2) + R.val % 2048; omega
  have hK : K.val = 1024 * (t.val % 2) + k.val := by show K.val = 1024 * ((2 * (R.val / 2048) + K.val / 1024) % 2) + K.val % 1024; omega
  have e := congrFun (Value.blocks2 m c t (flush0_2 t)) (ix2 r k)
  rw [Value.flushed2] at e
  refine .trans (congrArg ((dats m 0 c).arrAt 2 cfg0.N) (funext fun d => Fin.ext ?_)) (e.trans ?_)
  · refine .trans ?_ (win0_2.rect_emb_val t _ d).symm
    fin_cases d
    · show R.val = win0_2.index t 0 * 2048 + r.val
      rw [(at2 t).1]; omega
    · show K.val = win0_2.index t 1 * 1024 + k.val
      rw [(at2 t).2]; omega
  · refine (out_eq _ _ r k).trans ?_
    unfold entry
    refine congrArg (fun z : EReal => z) (Finset.sum_congr rfl fun j _ => ?_)
    rw [block0 m c t r j R hR, block1 m c t k j K hK]

open Cert.DybRefIdeal.Read in
/-- The reference's result. -/
theorem reference (x0 : Vec Ideal S8192x1024 .bf16) (x1 : Vec Ideal S2048x1024 .bf16) (R : Fin 8192) (K : Fin 2048) :
    val_main_v5 (F := Ideal) x0 x1 (ix2 R K) = entry x0 x1 R K := by
  have p : val_main_v4 (F := Ideal) x0 x1 (ix2 R K) = ∑ j : Fin 1024, x0 (ix2 R j) * x1 (ix2 K j) := by
    rw [val_main_v4_apply]
    refine Finset.sum_congr rfl fun j _ => congrArg₂ (· * ·) (congrArg x0 ?_) (congrArg x1 ?_)
    all_goals
      funext d
      match d with
      | ⟨0, _⟩ => rfl
      | ⟨1, _⟩ => rfl
  exact p

/-- The kernel computes the product. -/
theorem algebraic : Cert.algebraic_DybIdeal_DybRefIdeal := fun m g m' g' _ agree => by
  refine ⟨fun c => (dats m 0 c).arrAt 2 cfg0.N, Value.run_blocks m g, ?_⟩
  refine (θ_run Cert.DybRefIdeal.defs _ _).mono (fun r h c => ?_) (Cert.DybRefIdeal.Value.run (F := Ideal) m' g')
  obtain ⟨h0, kept⟩ := h c
  obtain ⟨a0, a1⟩ := agree c
  refine ⟨h0.trans ?_, kept⟩
  rw [Cert.DybRefIdeal.Read.val_main_v5_eq, a0, a1]
  exact ext2 (a := 8192) (b := 2048) fun R K => (reference _ _ R K).trans (result m c R K).symm

end Cert.Mat.Dyb

end
-- ==== Proof.Mat.Pb.lean ====
/- The merge of the two branches: the second branch's projection, and the sum of both projections behind their gates. -/
module

public import proofs.«01_k».proof.Defs
public import proofs.«01_k».proof.Proof.Mat.Basic
public import proofs.«01_k».proof.Proof.Gen.PbIdeal
public import proofs.«01_k».proof.Proof.Gen.PbIdeal.Value
public import proofs.«01_k».proof.Proof.Gen.PbRefIdeal.Run
public import proofs.«01_k».proof.Proof.Gen.PbRefIdeal.Read

@[expose] public section

set_option maxRecDepth 16384

noncomputable section

namespace Cert.Mat.Pb

open Idealize.ShloMosaic Idealize.ShloMosaic.TcCoe Cert.PbIdeal Cert.PbIdeal.Gen
open Idealize.ShloMosaic.Pipeline (Dat)
open Cert.Gate (word_zero word_one)

/-- The logistic function of a logit and its bias. -/
def gate (p b : EReal) : EReal :=
  Ideal.div 1 (1 + Ideal.exp (-(p + b)))

/-- An entry of the projection. -/
def entry (h : Vec Ideal S8192x2048 .bf16) (w : Vec Ideal S2048x1024 .bf16) (r : Fin 8192) (k : Fin 1024) : EReal :=
  ∑ j : Fin 2048, h (ix2 r j) * w (ix2 j k)

/-- An entry of the merged branches. -/
def merged (h : Vec Ideal S8192x2048 .bf16) (w : Vec Ideal S2048x1024 .bf16) (a : Vec Ideal S8192x1024 .bf16)
    (p : Vec Ideal S8192x10240 .bf16) (b : Vec Ideal S1x2048 .f32) (r : Fin 8192) (k : Fin 1024) : EReal :=
  gate (p (ix2 r ⟨8192 + k.val, by omega⟩)) (b (ix2 0 ⟨k.val, by omega⟩)) * a (ix2 r k)
    + gate (p (ix2 r ⟨9216 + k.val, by omega⟩)) (b (ix2 0 ⟨1024 + k.val, by omega⟩)) * entry h w r k

/-- An entry of a block of the projection. -/
def entryOf (a : Vec Ideal S512x2048 .bf16) (b : Vec Ideal S2048x1024 .bf16) (r : Fin 512) (k : Fin 1024) : EReal :=
  ∑ j : Fin 2048, a (ix2 r j) * b (ix2 j k)

section
variable (x0 : Vec Ideal S512x2048 .bf16) (x1 : Vec Ideal S2048x1024 .bf16) (x2 x3 x4 : Vec Ideal S512x1024 .bf16)
  (x5 x6 : Vec Ideal S1x1024 .f32) (r : Fin 512) (k : Fin 1024)

theorem prod_eq : k0_pay2 x0 x1 (ix2 r k) = entryOf x0 x1 r k := by
  unfold k0_pay2
  pointwise [word_zero]
  exact zero_add _

/-- The projection a point writes. -/
theorem out7_eq : out0_7 x0 x1 x2 x3 x4 x5 x6 (ix2 r k) = entryOf x0 x1 r k := by
  unfold out0_7
  rw [View.canon_unit_zero (S := S512x1024) hz2, View.ld_unit_zero (S := S512x2048) hz2, View.ld_unit_zero (S := S2048x1024) hz2]
  exact prod_eq x0 x1 r k

/-- The merged branches a point writes. -/
theorem out8_eq : out0_8 x0 x1 x2 x3 x4 x5 x6 (ix2 r k)
    = gate (x3 (ix2 r k)) (x5 (ix2 0 k)) * x2 (ix2 r k)
      + gate (x4 (ix2 r k)) (x6 (ix2 0 k)) * entryOf x0 x1 r k := by
  unfold out0_8
  rw [View.canon_unit_zero (S := S512x1024) hz2, View.ld_unit_zero (S := S512x2048) hz2, View.ld_unit_zero (S := S2048x1024) hz2]
  simp only [View.ld_unit_zero (S := S512x1024) hz2, View.ld_unit_zero (S := S1x1024) hz2]
  unfold k0_pay1 k0_pay4 k0_pay5
  pointwise [word_zero, prod_eq]
  simp only [EReal.coe_zero, zero_sub, gate]

end

variable (m : (ℓ : Loc nD τ sig) → Buf (Elt Ideal) ℓ) (c : Dev nD)

theorem at0 : ∀ t : Fin grid0.N, win0_0.index t 0 = t.val ∧ win0_0.index t 1 = 0 := by decide +kernel
theorem at1 : ∀ t : Fin grid0.N, win0_1.index t 0 = 0 ∧ win0_1.index t 1 = 0 := by decide +kernel
theorem at2 : ∀ t : Fin grid0.N, win0_2.index t 0 = t.val ∧ win0_2.index t 1 = 0 := by decide +kernel
theorem at3 : ∀ t : Fin grid0.N, win0_3.index t 0 = t.val ∧ win0_3.index t 1 = 8 := by decide +kernel
theorem at4 : ∀ t : Fin grid0.N, win0_4.index t 0 = t.val ∧ win0_4.index t 1 = 9 := by decide +kernel
theorem at5 : ∀ t : Fin grid0.N, win0_5.index t 0 = 0 ∧ win0_5.index t 1 = 0 := by decide +kernel
theorem at6 : ∀ t : Fin grid0.N, win0_6.index t 0 = 0 ∧ win0_6.index t 1 = 1 := by decide +kernel
theorem at7 : ∀ t : Fin grid0.N, win0_7.index t 0 = t.val ∧ win0_7.index t 1 = 0 := by decide +kernel
theorem at8 : ∀ t : Fin grid0.N, win0_8.index t 0 = t.val ∧ win0_8.index t 1 = 0 := by decide +kernel

/-- The blocks of the inputs at a point. -/
theorem block0 (t : Fin cfg0.N) (r : Fin 512) (j : Fin 2048) (R : Fin 8192) (hR : R.val = 512 * t.val + r.val) :
    iblk m c 0 t (ix2 r j) = m ((c : Thread nD τ).loc main_arg0) (ix2 R j) := by
  show V m c main_arg0 (((cfg0.win 0).blk t).view.emb (ix2 r j)) = _
  rw [V_main_arg0]
  refine congrArg (m ((c : Thread nD τ).loc main_arg0)) (funext fun d => Fin.ext ?_)
  fin_cases d
  · refine (win0_0.rect_emb_val t _ 0).trans ?_
    rw [(at0 t).1]; show t.val * 512 + r.val = R.val; omega
  · refine (win0_0.rect_emb_val t _ 1).trans ?_
    rw [(at0 t).2]; show 0 * 2048 + j.val = j.val; omega

theorem block1 (t : Fin cfg0.N) (j : Fin 2048) (k : Fin 1024) :
    iblk m c 1 t (ix2 j k) = m ((c : Thread nD τ).loc main_arg1) (ix2 j k) := by
  show V m c main_arg1 (((cfg0.win 1).blk t).view.emb (ix2 j k)) = _
  rw [V_main_arg1]
  refine congrArg (m ((c : Thread nD τ).loc main_arg1)) (funext fun d => Fin.ext ?_)
  fin_cases d
  · refine (win0_1.rect_emb_val t _ 0).trans ?_
    rw [(at1 t).1]; show 0 * 2048 + j.val = j.val; omega
  · refine (win0_1.rect_emb_val t _ 1).trans ?_
    rw [(at1 t).2]; show 0 * 1024 + k.val = k.val; omega

theorem block2 (t : Fin cfg0.N) (r : Fin 512) (k : Fin 1024) (R : Fin 8192) (hR : R.val = 512 * t.val + r.val) :
    iblk m c 2 t (ix2 r k) = m ((c : Thread nD τ).loc main_arg2) (ix2 R k) := by
  show V m c main_arg2 (((cfg0.win 2).blk t).view.emb (ix2 r k)) = _
  rw [V_main_arg2]
  refine congrArg (m ((c : Thread nD τ).loc main_arg2)) (funext fun d => Fin.ext ?_)
  fin_cases d
  · refine (win0_2.rect_emb_val t _ 0).trans ?_
    rw [(at2 t).1]; show t.val * 512 + r.val = R.val; omega
  · refine (win0_2.rect_emb_val t _ 1).trans ?_
    rw [(at2 t).2]; show 0 * 1024 + k.val = k.val; omega

theorem block3 (t : Fin cfg0.N) (r : Fin 512) (k : Fin 1024) (R : Fin 8192) (hR : R.val = 512 * t.val + r.val) :
    iblk m c 3 t (ix2 r k) = m ((c : Thread nD τ).loc main_arg3) (ix2 R ⟨8192 + k.val, by omega⟩) := by
  show V m c main_arg3 (((cfg0.win 3).blk t).view.emb (ix2 r k)) = _
  rw [V_main_arg3]
  refine congrArg (m ((c : Thread nD τ).loc main_arg3)) (funext fun d => Fin.ext ?_)
  fin_cases d
  · refine (win0_3.rect_emb_val t _ 0).trans ?_
    rw [(at3 t).1]; show t.val * 512 + r.val = R.val; omega
  · refine (win0_3.rect_emb_val t _ 1).trans ?_
    rw [(at3 t).2]; show 8 * 1024 + k.val = 8192 + k.val; omega

theorem block4 (t : Fin cfg0.N) (r : Fin 512) (k : Fin 1024) (R : Fin 8192) (hR : R.val = 512 * t.val + r.val) :
    iblk m c 4 t (ix2 r k) = m ((c : Thread nD τ).loc main_arg3) (ix2 R ⟨9216 + k.val, by omega⟩) := by
  show V m c main_arg3 (((cfg0.win 4).blk t).view.emb (ix2 r k)) = _
  rw [V_main_arg3]
  refine congrArg (m ((c : Thread nD τ).loc main_arg3)) (funext fun d => Fin.ext ?_)
  fin_cases d
  · refine (win0_4.rect_emb_val t _ 0).trans ?_
    rw [(at4 t).1]; show t.val * 512 + r.val = R.val; omega
  · refine (win0_4.rect_emb_val t _ 1).trans ?_
    rw [(at4 t).2]; show 9 * 1024 + k.val = 9216 + k.val; omega

theorem block5 (t : Fin cfg0.N) (k : Fin 1024) :
    iblk m c 5 t (ix2 0 k) = m ((c : Thread nD τ).loc main_arg4) (ix2 0 ⟨k.val, by omega⟩) := by
  show V m c main_arg4 (((cfg0.win 5).blk t).view.emb (ix2 0 k)) = _
  rw [V_main_arg4]
  refine congrArg (m ((c : Thread nD τ).loc main_arg4)) (funext fun d => Fin.ext ?_)
  fin_cases d
  · refine (win0_5.rect_emb_val t _ 0).trans ?_
    rw [(at5 t).1]; rfl
  · refine (win0_5.rect_emb_val t _ 1).trans ?_
    rw [(at5 t).2]; show 0 * 1024 + k.val = k.val; omega

theorem block6 (t : Fin cfg0.N) (k : Fin 1024) :
    iblk m c 6 t (ix2 0 k) = m ((c : Thread nD τ).loc main_arg4) (ix2 0 ⟨1024 + k.val, by omega⟩) := by
  show V m c main_arg4 (((cfg0.win 6).blk t).view.emb (ix2 0 k)) = _
  rw [V_main_arg4]
  refine congrArg (m ((c : Thread nD τ).loc main_arg4)) (funext fun d => Fin.ext ?_)
  fin_cases d
  · refine (win0_6.rect_emb_val t _ 0).trans ?_
    rw [(at6 t).1]; rfl
  · refine (win0_6.rect_emb_val t _ 1).trans ?_
    rw [(at6 t).2]; show 1 * 1024 + k.val = 1024 + k.val; omega

theorem prod_block (t : Fin cfg0.N) (r : Fin 512) (k : Fin 1024) (R : Fin 8192) (hR : R.val = 512 * t.val + r.val) :
    entryOf (iblk m c 0 t) (iblk m c 1 t) r k
      = entry (m ((c : Thread nD τ).loc main_arg0)) (m ((c : Thread nD τ).loc main_arg1)) R k := by
  refine Finset.sum_congr rfl fun j _ => ?_
  rw [block0 m c t r j R hR, block1 m c t j k]

/-- The projection after the run. -/
theorem result7 (R : Fin 8192) (k : Fin 1024) : (dats m 0 c).arrAt 7 cfg0.N (ix2 R k)
    = entry (m ((c : Thread nD τ).loc main_arg0)) (m ((c : Thread nD τ).loc main_arg1)) R k := by
  have hN : cfg0.N = 16 := N_0
  let t : Fin cfg0.N := ⟨R.val / 512, by omega⟩
  let r : Fin 512 := ⟨R.val % 512, by omega⟩
  have hR : R.val = 512 * t.val + r.val := by show R.val = 512 * (R.val / 512) + R.val % 512; omega
  have e := congrFun (Value.blocks7 m c t (flush0_7 t)) (ix2 r k)
  rw [Value.flushed7] at e
  refine .trans (congrArg ((dats m 0 c).arrAt 7 cfg0.N) (funext fun d => Fin.ext ?_)) (e.trans ?_)
  · refine .trans ?_ (win0_7.rect_emb_val t _ d).symm
    fin_cases d
    · show R.val = win0_7.index t 0 * 512 + r.val
      rw [(at7 t).1]; omega
    · show k.val = win0_7.index t 1 * 1024 + k.val
      rw [(at7 t).2]; omega
  · exact (out7_eq _ _ _ _ _ _ _ r k).trans (prod_block m c t r k R hR)

/-- The merged branches after the run. -/
theorem result8 (R : Fin 8192) (k : Fin 1024) : (dats m 0 c).arrAt 8 cfg0.N (ix2 R k)
    = merged (m ((c : Thread nD τ).loc main_arg0)) (m ((c : Thread nD τ).loc main_arg1)) (m ((c : Thread nD τ).loc main_arg2))
      (m ((c : Thread nD τ).loc main_arg3)) (m ((c : Thread nD τ).loc main_arg4)) R k := by
  have hN : cfg0.N = 16 := N_0
  let t : Fin cfg0.N := ⟨R.val / 512, by omega⟩
  let r : Fin 512 := ⟨R.val % 512, by omega⟩
  have hR : R.val = 512 * t.val + r.val := by show R.val = 512 * (R.val / 512) + R.val % 512; omega
  have e := congrFun (Value.blocks8 m c t (flush0_8 t)) (ix2 r k)
  rw [Value.flushed8] at e
  refine .trans (congrArg ((dats m 0 c).arrAt 8 cfg0.N) (funext fun d => Fin.ext ?_)) (e.trans ?_)
  · refine .trans ?_ (win0_8.rect_emb_val t _ d).symm
    fin_cases d
    · show R.val = win0_8.index t 0 * 512 + r.val
      rw [(at8 t).1]; omega
    · show k.val = win0_8.index t 1 * 1024 + k.val
      rw [(at8 t).2]; omega
  · refine (out8_eq _ _ _ _ _ _ _ r k).trans ?_
    rw [prod_block m c t r k R hR, block2 m c t r k R hR, block3 m c t r k R hR, block4 m c t r k R hR, block5 m c t k, block6 m c t k]
    rfl

section
open Cert.PbRefIdeal.Read
variable (x0 : Vec Ideal S8192x2048 .bf16) (x1 : Vec Ideal S2048x1024 .bf16) (x2 : Vec Ideal S8192x1024 .bf16)
  (x3 : Vec Ideal S8192x10240 .bf16) (x4 : Vec Ideal S1x2048 .f32) (R : Fin 8192) (k : Fin 1024)

/-- The reference's projection. -/
theorem reference2 : val_main_v2 (F := Ideal) x0 x1 (ix2 R k) = entry x0 x1 R k := by
  rw [val_main_v2_apply]
  refine Finset.sum_congr rfl fun j _ => congrArg₂ (· * ·) (congrArg x0 ?_) (congrArg x1 ?_)
  all_goals
    funext d
    match d with
    | ⟨0, _⟩ => rfl
    | ⟨1, _⟩ => rfl

/-- The reference's gates. -/
theorem reference14 (K : Fin 2048) : val_main_v14 (F := Ideal) x3 x4 (ix2 R K)
    = gate (x3 (ix2 R ⟨8192 + K.val, by omega⟩)) (x4 (ix2 0 K)) := by
  have h5 : val_main_v5 (F := Ideal) x3 (ix2 R K) = x3 (ix2 R ⟨8192 + K.val, by omega⟩) := by
    rw [val_main_v5_apply]
    refine congrArg x3 (funext fun d => ?_)
    fin_cases d <;> rfl
  have h7 : val_main_v7 (F := Ideal) x4 (ix2 R K) = x4 (ix2 0 K) := by
    rw [val_main_v7_apply]
    refine congrArg x4 (funext fun d => ?_)
    fin_cases d <;> rfl
  have h11 : val_main_v11 (F := Ideal) (ix2 R K) = 1 := by rw [val_main_v11_apply]; exact word_one
  have h13 : val_main_v13 (F := Ideal) (ix2 R K) = 1 := by rw [val_main_v13_apply]; exact word_one
  show Ideal.div (val_main_v13 (F := Ideal) (ix2 R K)) (val_main_v11 (F := Ideal) (ix2 R K)
    + Ideal.exp (-(val_main_v5 (F := Ideal) x3 (ix2 R K) + val_main_v7 (F := Ideal) x4 (ix2 R K)))) = _
  rw [h5, h7, h11, h13]
  rfl

/-- The reference's merged branches. -/
theorem reference20 : val_main_v20 (F := Ideal) x0 x1 x2 x3 x4 (ix2 R k) = merged x0 x1 x2 x3 x4 R k := by
  have h15 : val_main_v15 (F := Ideal) x3 x4 (ix2 R k) = gate (x3 (ix2 R ⟨8192 + k.val, by omega⟩)) (x4 (ix2 0 ⟨k.val, by omega⟩)) := by
    rw [val_main_v15_apply]
    refine (congrArg (val_main_v14 (F := Ideal) x3 x4) (funext fun d => ?_)).trans (reference14 x3 x4 R ⟨k.val, by omega⟩)
    fin_cases d <;> rfl
  have h16 : val_main_v16 (F := Ideal) x3 x4 (ix2 R k) = gate (x3 (ix2 R ⟨9216 + k.val, by omega⟩)) (x4 (ix2 0 ⟨1024 + k.val, by omega⟩)) := by
    rw [val_main_v16_apply]
    refine (congrArg (val_main_v14 (F := Ideal) x3 x4) (funext fun d => ?_)).trans
      ((reference14 x3 x4 R ⟨1024 + k.val, by omega⟩).trans (congrArg (fun i => gate (x3 (ix2 R i)) _) (Fin.ext ?_)))
    · fin_cases d <;> rfl
    · show 8192 + (1024 + k.val) = 9216 + k.val; omega
  show val_main_v15 (F := Ideal) x3 x4 (ix2 R k) * x2 (ix2 R k) + val_main_v16 (F := Ideal) x3 x4 (ix2 R k) * val_main_v2 (F := Ideal) x0 x1 (ix2 R k) = _
  rw [h15, h16, reference2]
  rfl

end

/-- The kernel computes the projection and the merged branches. -/
theorem algebraic : Cert.algebraic_PbIdeal_PbRefIdeal := fun m g m' g' _ agree => by
  refine ⟨fun c => (dats m 0 c).arrAt 7 cfg0.N, fun c => (dats m 0 c).arrAt 8 cfg0.N, Value.run_blocks m g, ?_⟩
  refine (θ_run Cert.PbRefIdeal.defs _ _).mono (fun r h c => ?_) (Cert.PbRefIdeal.Value.run (F := Ideal) m' g')
  obtain ⟨h0, h1, kept⟩ := h c
  obtain ⟨a0, a1, a2, a3, a4⟩ := agree c
  refine ⟨h0.trans ?_, h1.trans ?_, kept⟩
  · rw [Cert.PbRefIdeal.Read.val_main_v3_eq, a0, a1]
    exact ext2 (a := 8192) (b := 1024) fun R k => (reference2 _ _ R k).trans (result7 m c R k).symm
  · rw [Cert.PbRefIdeal.Read.val_main_v20_eq, a0, a1, a2, a3, a4]
    exact ext2 (a := 8192) (b := 1024) fun R k => (reference20 _ _ _ _ _ R k).trans (result8 m c R k).symm

end Cert.Mat.Pb

end
-- ==== Proof.Mat.Outp.lean ====
/- The projection back to the residual stream: the merged branches through its weight, the residual added, and the norm
   of the sum with its gain. -/
module

public import proofs.«01_k».proof.Defs
public import proofs.«01_k».proof.Proof.Mat.Basic
public import proofs.«01_k».proof.Proof.Gen.OutpIdeal
public import proofs.«01_k».proof.Proof.Gen.OutpIdeal.Value
public import proofs.«01_k».proof.Proof.Gen.OutpRefIdeal.Run
public import proofs.«01_k».proof.Proof.Gen.OutpRefIdeal.Read

@[expose] public section

set_option maxRecDepth 16384

noncomputable section

namespace Cert.Mat.Outp

open Idealize.ShloMosaic Idealize.ShloMosaic.TcCoe Cert.OutpIdeal Cert.OutpIdeal.Gen
open Idealize.ShloMosaic.Pipeline (Dat)
open Cert.Gate (word_zero)

/-- An entry of the new residual stream. -/
def stream (h : Vec Ideal S8192x1024 .bf16) (w : Vec Ideal S1024x1024 .bf16) (x : Vec Ideal S8192x1024 .f32)
    (r : Fin 8192) (k : Fin 1024) : EReal :=
  x (ix2 r k) + ∑ j : Fin 1024, h (ix2 r j) * w (ix2 j k)

/-- The norm of a row `v` at one entry, with its gain `g` there. -/
def normed (v : Fin 1024 → EReal) (g : EReal) (k : Fin 1024) : EReal :=
  v k * Ideal.rsqrt (Ideal.div (∑ q : Fin 1024, v q * v q) (Ideal.ofBits .f32 0x44800000#32) + Ideal.ofBits .f32 0x358637BD#32) * g

/-- An entry of a block of the new residual stream. -/
def streamOf (a b : Vec Ideal S1024x1024 .bf16) (x : Vec Ideal S1024x1024 .f32) (r k : Fin 1024) : EReal :=
  x (ix2 r k) + ∑ j : Fin 1024, a (ix2 r j) * b (ix2 j k)

section
variable (x0 x1 : Vec Ideal S1024x1024 .bf16) (x2 : Vec Ideal S1024x1024 .f32) (x3 : Vec Ideal S1x1024 .f32) (r k : Fin 1024)

theorem sum_eq : k0_pay1 x0 x1 x2 (ix2 r k) = streamOf x0 x1 x2 r k := by
  unfold k0_pay1
  pointwise [word_zero]
  rw [add_comm, EReal.coe_zero, zero_add]
  rfl

theorem out4_eq : out0_4 x0 x1 x2 x3 (ix2 r k) = streamOf x0 x1 x2 r k := by
  unfold out0_4
  rw [View.canon_unit_zero (S := S1024x1024) hz2]
  simp only [View.ld_unit_zero (S := S1024x1024) hz2]
  exact sum_eq x0 x1 x2 r k

theorem out5_eq : out0_5 x0 x1 x2 x3 (ix2 r k)
    = normed (streamOf x0 x1 x2 r) (x3 (ix2 0 k)) k := by
  unfold out0_5
  rw [View.canon_unit_zero (S := S1024x1024) hz2]
  simp only [View.ld_unit_zero (S := S1024x1024) hz2, View.ld_unit_zero (S := S1x1024) hz2]
  unfold k0_pay2
  pointwise [word_zero, sum_eq]
  simp only [EReal.coe_zero, zero_add, normed]

end

variable (m : (ℓ : Loc nD τ sig) → Buf (Elt Ideal) ℓ) (c : Dev nD)

theorem at0 : ∀ t : Fin grid0.N, win0_0.index t 0 = t.val ∧ win0_0.index t 1 = 0 := by decide +kernel
theorem at1 : ∀ t : Fin grid0.N, win0_1.index t 0 = 0 ∧ win0_1.index t 1 = 0 := by decide +kernel
theorem at2 : ∀ t : Fin grid0.N, win0_2.index t 0 = t.val ∧ win0_2.index t 1 = 0 := by decide +kernel
theorem at3 : ∀ t : Fin grid0.N, win0_3.index t 0 = 0 ∧ win0_3.index t 1 = 0 := by decide +kernel
theorem at4 : ∀ t : Fin grid0.N, win0_4.index t 0 = t.val ∧ win0_4.index t 1 = 0 := by decide +kernel
theorem at5 : ∀ t : Fin grid0.N, win0_5.index t 0 = t.val ∧ win0_5.index t 1 = 0 := by decide +kernel

/-- The blocks of the inputs at a point. -/
theorem block0 (t : Fin cfg0.N) (r k : Fin 1024) (R : Fin 8192) (hR : R.val = 1024 * t.val + r.val) :
    iblk m c 0 t (ix2 r k) = m ((c : Thread nD τ).loc main_arg0) (ix2 R k) := by
  show V m c main_arg0 (((cfg0.win 0).blk t).view.emb (ix2 r k)) = _
  rw [V_main_arg0]
  refine congrArg (m ((c : Thread nD τ).loc main_arg0)) (funext fun d => Fin.ext ?_)
  fin_cases d
  · refine (win0_0.rect_emb_val t _ 0).trans ?_
    rw [(at0 t).1]; show t.val * 1024 + r.val = R.val; omega
  · refine (win0_0.rect_emb_val t _ 1).trans ?_
    rw [(at0 t).2]; show 0 * 1024 + k.val = k.val; omega

theorem block1 (t : Fin cfg0.N) (j k : Fin 1024) :
    iblk m c 1 t (ix2 j k) = m ((c : Thread nD τ).loc main_arg1) (ix2 j k) := by
  show V m c main_arg1 (((cfg0.win 1).blk t).view.emb (ix2 j k)) = _
  rw [V_main_arg1]
  refine congrArg (m ((c : Thread nD τ).loc main_arg1)) (funext fun d => Fin.ext ?_)
  fin_cases d
  · refine (win0_1.rect_emb_val t _ 0).trans ?_
    rw [(at1 t).1]; show 0 * 1024 + j.val = j.val; omega
  · refine (win0_1.rect_emb_val t _ 1).trans ?_
    rw [(at1 t).2]; show 0 * 1024 + k.val = k.val; omega

theorem block2 (t : Fin cfg0.N) (r k : Fin 1024) (R : Fin 8192) (hR : R.val = 1024 * t.val + r.val) :
    iblk m c 2 t (ix2 r k) = m ((c : Thread nD τ).loc main_arg2) (ix2 R k) := by
  show V m c main_arg2 (((cfg0.win 2).blk t).view.emb (ix2 r k)) = _
  rw [V_main_arg2]
  refine congrArg (m ((c : Thread nD τ).loc main_arg2)) (funext fun d => Fin.ext ?_)
  fin_cases d
  · refine (win0_2.rect_emb_val t _ 0).trans ?_
    rw [(at2 t).1]; show t.val * 1024 + r.val = R.val; omega
  · refine (win0_2.rect_emb_val t _ 1).trans ?_
    rw [(at2 t).2]; show 0 * 1024 + k.val = k.val; omega

theorem block3 (t : Fin cfg0.N) (k : Fin 1024) :
    iblk m c 3 t (ix2 0 k) = m ((c : Thread nD τ).loc main_arg3) (ix2 0 k) := by
  show V m c main_arg3 (((cfg0.win 3).blk t).view.emb (ix2 0 k)) = _
  rw [V_main_arg3]
  refine congrArg (m ((c : Thread nD τ).loc main_arg3)) (funext fun d => Fin.ext ?_)
  fin_cases d
  · refine (win0_3.rect_emb_val t _ 0).trans ?_
    rw [(at3 t).1]; rfl
  · refine (win0_3.rect_emb_val t _ 1).trans ?_
    rw [(at3 t).2]; show 0 * 1024 + k.val = k.val; omega

theorem stream_block (t : Fin cfg0.N) (r k : Fin 1024) (R : Fin 8192) (hR : R.val = 1024 * t.val + r.val) :
    streamOf (iblk m c 0 t) (iblk m c 1 t) (iblk m c 2 t) r k
      = stream (m ((c : Thread nD τ).loc main_arg0)) (m ((c : Thread nD τ).loc main_arg1)) (m ((c : Thread nD τ).loc main_arg2)) R k := by
  refine congrArg₂ (· + ·) (block2 m c t r k R hR) (Finset.sum_congr rfl fun j _ => ?_)
  rw [block0 m c t r j R hR, block1 m c t j k]

/-- The new residual stream after the run. -/
theorem result4 (R : Fin 8192) (k : Fin 1024) : (dats m 0 c).arrAt 4 cfg0.N (ix2 R k)
    = stream (m ((c : Thread nD τ).loc main_arg0)) (m ((c : Thread nD τ).loc main_arg1)) (m ((c : Thread nD τ).loc main_arg2)) R k := by
  have hN : cfg0.N = 8 := N_0
  let t : Fin cfg0.N := ⟨R.val / 1024, by omega⟩
  let r : Fin 1024 := ⟨R.val % 1024, by omega⟩
  have hR : R.val = 1024 * t.val + r.val := by show R.val = 1024 * (R.val / 1024) + R.val % 1024; omega
  have e := congrFun (Value.blocks4 m c t (flush0_4 t)) (ix2 r k)
  rw [Value.flushed4] at e
  refine .trans (congrArg ((dats m 0 c).arrAt 4 cfg0.N) (funext fun d => Fin.ext ?_)) (e.trans ?_)
  · refine .trans ?_ (win0_4.rect_emb_val t _ d).symm
    fin_cases d
    · show R.val = win0_4.index t 0 * 1024 + r.val
      rw [(at4 t).1]; omega
    · show k.val = win0_4.index t 1 * 1024 + k.val
      rw [(at4 t).2]; omega
  · exact (out4_eq _ _ _ _ r k).trans (stream_block m c t r k R hR)

/-- Its norm after the run. -/
theorem result5 (R : Fin 8192) (k : Fin 1024) : (dats m 0 c).arrAt 5 cfg0.N (ix2 R k)
    = normed (stream (m ((c : Thread nD τ).loc main_arg0)) (m ((c : Thread nD τ).loc main_arg1)) (m ((c : Thread nD τ).loc main_arg2)) R) (m ((c : Thread nD τ).loc main_arg3) (ix2 0 k)) k := by
  have hN : cfg0.N = 8 := N_0
  let t : Fin cfg0.N := ⟨R.val / 1024, by omega⟩
  let r : Fin 1024 := ⟨R.val % 1024, by omega⟩
  have hR : R.val = 1024 * t.val + r.val := by show R.val = 1024 * (R.val / 1024) + R.val % 1024; omega
  have e := congrFun (Value.blocks5 m c t (flush0_5 t)) (ix2 r k)
  rw [Value.flushed5] at e
  refine .trans (congrArg ((dats m 0 c).arrAt 5 cfg0.N) (funext fun d => Fin.ext ?_)) (e.trans ?_)
  · refine .trans ?_ (win0_5.rect_emb_val t _ d).symm
    fin_cases d
    · show R.val = win0_5.index t 0 * 1024 + r.val
      rw [(at5 t).1]; omega
    · show k.val = win0_5.index t 1 * 1024 + k.val
      rw [(at5 t).2]; omega
  · refine (out5_eq _ _ _ _ r k).trans ?_
    rw [block3 m c t k]
    exact congrArg (fun v => normed v _ k) (funext fun q => stream_block m c t r q R hR)

section
open Cert.OutpRefIdeal.Read
variable (x0 : Vec Ideal S8192x1024 .bf16) (x1 : Vec Ideal S1024x1024 .bf16) (x2 : Vec Ideal S8192x1024 .f32)
  (x3 : Vec Ideal S1x1024 .f32) (R : Fin 8192) (k : Fin 1024)

/-- The reference's residual stream. -/
theorem reference3 : val_main_v3 (F := Ideal) x0 x1 x2 (ix2 R k) = stream x0 x1 x2 R k := by
  show x2 (ix2 R k) + val_main_v2 (F := Ideal) x0 x1 (ix2 R k) = _
  rw [val_main_v2_apply]
  refine congrArg (x2 (ix2 R k) + ·) (Finset.sum_congr rfl fun j _ => congrArg₂ (· * ·) (congrArg x0 ?_) (congrArg x1 ?_))
  all_goals
    funext d
    match d with
    | ⟨0, _⟩ => rfl
    | ⟨1, _⟩ => rfl

/-- The reference's norm. -/
theorem reference16 : val_main_v16 (F := Ideal) x0 x1 x2 x3 (ix2 R k) = normed (stream x0 x1 x2 R) (x3 (ix2 0 k)) k := by
  have h5 : ∀ i : Cert.OutpRefIdeal.S8192.Idx, i 0 = R → val_main_v5 (F := Ideal) x0 x1 x2 i = ∑ q : Fin 1024, stream x0 x1 x2 R q * stream x0 x1 x2 R q := fun i hi => by
    have z : val_main_cst (F := Ideal) (Shape.Idx.first Cert.OutpRefIdeal.Gen.h_S_) = ((0 : ℝ) : EReal) := word_zero
    rw [val_main_v5_apply, z, EReal.coe_zero, zero_add]
    refine Finset.sum_congr rfl fun q _ => ?_
    have hq : idx_main_v5 i q = ix2 R q := funext fun d => by
      match d with
      | ⟨0, _⟩ => exact hi
      | ⟨1, _⟩ => rfl
    rw [hq]
    show val_main_v3 (F := Ideal) x0 x1 x2 (ix2 R q) * val_main_v3 (F := Ideal) x0 x1 x2 (ix2 R q) = _
    rw [reference3]
  have h12 : val_main_v12 (F := Ideal) x0 x1 x2 (ix2 R k)
      = Ideal.rsqrt (Ideal.div (∑ q : Fin 1024, stream x0 x1 x2 R q * stream x0 x1 x2 R q) (Ideal.ofBits .f32 0x44800000#32)
          + Ideal.ofBits .f32 0x358637BD#32) := by
    rw [val_main_v12_apply]
    show Ideal.rsqrt (Ideal.div (val_main_v6 (F := Ideal) x0 x1 x2 _) (val_main_v7 (F := Ideal) _) + val_main_v9 (F := Ideal) _) = _
    rw [val_main_v6_apply, val_main_v7_apply, val_main_v9_apply, h5 _ rfl]
    rfl
  have h14 : val_main_v14 (F := Ideal) x3 (ix2 R k) = x3 (ix2 0 k) := by
    rw [val_main_v14_apply]
    refine congrArg x3 (funext fun d => ?_)
    fin_cases d <;> rfl
  show val_main_v3 (F := Ideal) x0 x1 x2 (ix2 R k) * val_main_v12 (F := Ideal) x0 x1 x2 (ix2 R k) * val_main_v14 (F := Ideal) x3 (ix2 R k) = _
  rw [reference3, h12, h14]
  rfl

end

/-- The kernel computes the residual stream and its norm. -/
theorem algebraic : Cert.algebraic_OutpIdeal_OutpRefIdeal := fun m g m' g' _ agree => by
  refine ⟨fun c => (dats m 0 c).arrAt 4 cfg0.N, fun c => (dats m 0 c).arrAt 5 cfg0.N, Value.run_blocks m g, ?_⟩
  refine (θ_run Cert.OutpRefIdeal.defs _ _).mono (fun r h c => ?_) (Cert.OutpRefIdeal.Value.run (F := Ideal) m' g')
  obtain ⟨h0, h1, kept⟩ := h c
  obtain ⟨a0, a1, a2, a3⟩ := agree c
  refine ⟨h0.trans ?_, h1.trans ?_, kept⟩
  · rw [Cert.OutpRefIdeal.Read.val_main_v3_eq, a0, a1, a2]
    exact ext2 (a := 8192) (b := 1024) fun R k => (reference3 _ _ _ R k).trans (result4 m c R k).symm
  · rw [Cert.OutpRefIdeal.Read.val_main_v16_eq, a0, a1, a2, a3]
    exact ext2 (a := 8192) (b := 1024) fun R k => (reference16 _ _ _ _ R k).trans (result5 m c R k).symm

end Cert.Mat.Outp

end
-- ==== Proof.Mat.DownTile.lean ====
/- What one block of 512 rows of the projection down, the last norm, the loss and its gradient is computed from. -/
module

public import proofs.«01_k».proof.Proof.Mat.Norm
public import proofs.«01_k».proof.Proof.Gen.DownIdeal.Frame

@[expose] public section

set_option maxRecDepth 16384

noncomputable section

namespace Cert.Mat.Down

open Idealize.ShloMosaic Idealize.ShloMosaic.TcCoe Cert.DownIdeal Cert.DownIdeal.Gen
open Cert.Gate (eps word_1024 word_eps)

/-- The words of `1/1024` and of `1/2048`. -/
theorem word_inv_1024 : Ideal.ofBits .f32 0x3A800000#32 = ((1 / 1024 : ℝ) : EReal) := by
  simp [Ideal.ofBits, Ideal.ieee, -EReal.coe_mul]; try norm_num
theorem word_inv_2048 : Ideal.ofBits .f32 0x3A000000#32 = ((1 / 2048 : ℝ) : EReal) := by
  simp [Ideal.ofBits, Ideal.ieee, -EReal.coe_mul]; try norm_num

/-- The staged blocks of a point hold these numbers. -/
structure Tile (U : Fin 512 → Fin 4096 → EReal) (W : Fin 4096 → Fin 1024 → EReal) (X : Fin 512 → Fin 1024 → EReal) (g : Fin 1024 → EReal)
    (Y : Fin 512 → Fin 1024 → EReal) (x0 : Vec Ideal S512x4096 .bf16) (x1 : Vec Ideal S4096x1024 .bf16)
    (x2 : Vec Ideal S512x1024 .f32) (x3 : Vec Ideal S1x1024 .f32) (x4 : Vec Ideal S512x1024 .f32) : Prop where
  u : ∀ r j, x0 (ix2 r j) = (U r j : EReal)
  w : ∀ j k, x1 (ix2 j k) = (W j k : EReal)
  x : ∀ r k, x2 (ix2 r k) = (X r k : EReal)
  g : ∀ o k, x3 (ix2 o k) = (g k : EReal)
  y : ∀ r k, x4 (ix2 r k) = (Y r k : EReal)

/-- A row of the last residual stream. -/
def stream {n : ℕ} (U : Fin n → Fin 4096 → EReal) (W : Fin 4096 → Fin 1024 → EReal) (X : Fin n → Fin 1024 → EReal) (r : Fin n) (k : Fin 1024) : EReal :=
  ∑ j, U r j * W j k + X r k

/-- The error of a row: its norm with the gain, less the target. -/
def err (s g y : Fin 1024 → EReal) (k : Fin 1024) : EReal := s k * rs s * g k - y k

/-- The cotangent of a row's prediction. -/
def cot (s g y : Fin 1024 → EReal) (k : Fin 1024) : EReal := err s g y k * ((1 / 1024 : ℝ) : EReal)

variable {U : Fin 512 → Fin 4096 → EReal} {W : Fin 4096 → Fin 1024 → EReal} {X : Fin 512 → Fin 1024 → EReal} {g : Fin 1024 → EReal}
    {Y : Fin 512 → Fin 1024 → EReal} {x0 : Vec Ideal S512x4096 .bf16} {x1 : Vec Ideal S4096x1024 .bf16}
    {x2 : Vec Ideal S512x1024 .f32} {x3 : Vec Ideal S1x1024 .f32} {x4 : Vec Ideal S512x1024 .f32}
    (T : Tile U W X g Y x0 x1 x2 x3 x4)

section
include T

theorem pay7_eq (r : Fin 512) (k : Fin 1024) : k0_pay7 x0 x1 x2 (ix2 r k) = (stream U W X r k : EReal) := by
  unfold k0_pay7
  pointwise [zero_word]
  simp only [T.u, T.w, T.x, zero_add]
  rfl

theorem pay8_eq (r : Fin 512) (o : Fin 1) : k0_pay8 x0 x1 x2 (ix2 r o) = (rs (stream U W X r) : EReal) := by
  unfold k0_pay8
  pointwise [zero_word, word_eps]
  simp only [pay7_eq T, zero_add, div_1024]
  rfl

theorem pay9_eq (r : Fin 512) (k : Fin 1024) :
    k0_pay9 x0 x1 x2 (ix2 r k) = (stream U W X r k * rs (stream U W X r)) := by
  unfold k0_pay9
  pointwise
  rw [pay8_eq T, pay7_eq T]

theorem pay10_eq (r : Fin 512) (k : Fin 1024) :
    k0_pay10 x0 x1 x3 x2 x4 (ix2 r k) = (err (stream U W X r) g (Y r) k) := by
  unfold k0_pay10
  pointwise
  rw [pay9_eq T, T.g, T.y]; rfl

theorem pay11_eq (r : Fin 512) (k : Fin 1024) :
    k0_pay11 x0 x1 x3 x2 x4 (ix2 r k) = (cot (stream U W X r) g (Y r) k) := by
  unfold k0_pay11
  pointwise [word_inv_1024]
  rw [pay10_eq T]; rfl

theorem pay12_eq (r : Fin 512) (k : Fin 1024) : k0_pay12 x0 x1 x3 x2 x4 (ix2 r k)
    = (rmsBack (stream U W X r) g (cot (stream U W X r) g (Y r)) k) := by
  unfold k0_pay12
  pointwise [zero_word]
  simp only [pay8_eq T, pay9_eq T, pay11_eq T, T.g, zero_add, div_1024]
  rfl

theorem pay4_eq (v : Vec Ideal S1x1024 .f32) (o : Fin 1) (k : Fin 1024) :
    k0_pay4 (k0_pay9 x0 x1 x2) (k0_pay11 x0 x1 x3 x2 x4) v (ix2 o k)
      = v (ix2 o k) + (∑ r, cot (stream U W X r) g (Y r) k * (stream U W X r k * rs (stream U W X r))) := by
  unfold k0_pay4
  pointwise [zero_word]
  simp only [pay9_eq T, pay11_eq T, zero_add]

theorem pay5_eq (v : Vec Ideal S1x1024 .f32) (o : Fin 1) (k : Fin 1024) :
    k0_pay5 (k0_pay10 x0 x1 x3 x2 x4) v (ix2 o k)
      = v (ix2 o k) + (∑ r, err (stream U W X r) g (Y r) k * err (stream U W X r) g (Y r) k) := by
  unfold k0_pay5
  pointwise [zero_word]
  simp only [pay10_eq T, zero_add]

end

theorem pay2_eq (o : Fin 1) (k : Fin 1024) : k0_pay2 (F := Ideal) (ix2 o k) = (0 : EReal) := by
  unfold k0_pay2
  pointwise [zero_word]
theorem pay3_eq (o : Fin 1) (k : Fin 1024) : k0_pay3 (F := Ideal) (ix2 o k) = (0 : EReal) := by
  unfold k0_pay3
  pointwise [zero_word]

theorem pay6_eq (v : Vec Ideal S1x1024 .f32) (E : Fin 1024 → EReal) (hv : ∀ o k, v (ix2 o k) = (E k : EReal)) (o : Fin 1) (j : Fin 128) :
    k0_pay6 v (ix2 o j) = ((∑ k, E k) * ((1 / 2048 : ℝ) : EReal)) := by
  unfold k0_pay6
  pointwise [zero_word, word_inv_2048]
  simp only [hv, zero_add]

end Cert.Mat.Down

end
-- ==== Proof.Mat.DownOuts.lean ====
/- What one point of the projection down leaves in its blocks. -/
module

public import proofs.«01_k».proof.Proof.Mat.DownTile

@[expose] public section

set_option maxRecDepth 16384

noncomputable section

namespace Cert.Mat.Down

open Idealize.ShloMosaic Idealize.ShloMosaic.TcCoe Cert.DownIdeal Cert.DownIdeal.Gen

/-- A whole read of the last of several whole stores is what it stored. -/
theorem read_last (v : View sig .tc .vmem S1x1024 .f32) {off : Fin S1x1024.rank → Nat} (h0 : off = fun _ => 0)
    (inb inb' : ∀ d, off d + S1x1024.size d ≤ S1x1024.size d) (w : Vec Ideal S1x1024 .f32) (L : List (View.Piece (Elt Ideal) S1x1024 .f32)) :
    v.readCov (Val := Elt Ideal) ((⟨Rect.unit off S1x1024.size inb, w⟩ : View.Piece (Elt Ideal) S1x1024 .f32) :: L)
      (Rect.unit off S1x1024.size inb').toLoadRect = w := by
  subst h0
  rw [View.readCov_eq_canon_ld _ _ _ (fun y => ⟨_, List.mem_cons_self, by
    show y ∈ (Rect.whole S1x1024).set; rw [Rect.set_whole]; exact Finset.mem_univ y⟩),
    View.canon_cons_unit_zero rfl, View.ld_unit_zero rfl]

variable {c : Dev nD} {i : grid0.Coords}
  {a3 : Memref sig .tc .vmem S512x4096 .bf16} {p3 : a3.IsWhole}
  {a4 : Memref sig .tc .vmem S4096x1024 .bf16} {p4 : a4.IsWhole}
  {a5 : Memref sig .tc .vmem S512x1024 .f32} {p5 : a5.IsWhole}
  {a6 : Memref sig .tc .vmem S1x1024 .f32} {p6 : a6.IsWhole}
  {a7 : Memref sig .tc .vmem S512x1024 .f32} {p7 : a7.IsWhole}
  {a8 : Memref sig .tc .vmem S512x1024 .f32} {p8 : a8.IsWhole}
  {a9 : Memref sig .tc .vmem S512x1024 .bf16} {p9 : a9.IsWhole}
  {a10 : Memref sig .tc .vmem S1x1024 .f32} {p10 : a10.IsWhole}
  {a11 : Memref sig .tc .vmem S1x1024 .f32} {p11 : a11.IsWhole}
  {a12 : Memref sig .tc .vmem S1x128 .f32} {p12 : a12.IsWhole}
variable {x0 : Vec Ideal S512x4096 .bf16} {x1 : Vec Ideal S4096x1024 .bf16} {x2 : Vec Ideal S512x1024 .f32} {x3 : Vec Ideal S1x1024 .f32}
    {x4 : Vec Ideal S512x1024 .f32} {xo7 xo8 : Vec Ideal S1x1024 .f32}

theorem r_A : kernelRun0_A.sl.r c a3 p3 a4 p4 a5 p5 x0 x1 x2 = k0_pay9 x0 x1 x2 := by
  unfold kernelRun0_A.sl.r
  rw [read_whole a3 p3 x0 hz2, read_whole a4 p4 x1 hz2, read_whole a5 p5 x2 hz2]
theorem r_1_A : kernelRun0_A.sl.r_1 c a3 p3 a4 p4 a5 p5 a6 p6 a7 p7 x0 x1 x2 x3 x4 = k0_pay10 x0 x1 x3 x2 x4 := by
  unfold kernelRun0_A.sl.r_1
  rw [read_whole a3 p3 x0 hz2, read_whole a4 p4 x1 hz2, read_whole a5 p5 x2 hz2, read_whole a6 p6 x3 hz2, read_whole a7 p7 x4 hz2]
theorem r_2_A : kernelRun0_A.sl.r_2 c a3 p3 a4 p4 a5 p5 a6 p6 a7 p7 x0 x1 x2 x3 x4 = k0_pay11 x0 x1 x3 x2 x4 := by
  unfold kernelRun0_A.sl.r_2
  rw [read_whole a3 p3 x0 hz2, read_whole a4 p4 x1 hz2, read_whole a5 p5 x2 hz2, read_whole a6 p6 x3 hz2, read_whole a7 p7 x4 hz2]
theorem r_3_A : kernelRun0_A.sl.r_3 c a3 p3 a4 p4 a5 p5 a6 p6 a7 p7 x0 x1 x2 x3 x4 = k0_pay12 x0 x1 x3 x2 x4 := by
  unfold kernelRun0_A.sl.r_3
  rw [read_whole a3 p3 x0 hz2, read_whole a4 p4 x1 hz2, read_whole a5 p5 x2 hz2, read_whole a6 p6 x3 hz2, read_whole a7 p7 x4 hz2]
theorem v40_A : kernelRun0_A.sl.v40 (F := Ideal) c a10 = (k0_pay2 (F := Ideal)) := by
  unfold kernelRun0_A.sl.v40
  exact View.readCov_unit_zero (Val := Elt Ideal) (e := .f32) (S := S1x1024) _ hz2 _ _
theorem v47_A : kernelRun0_A.sl.v47 (F := Ideal) c a11 = (k0_pay3 (F := Ideal)) := by
  unfold kernelRun0_A.sl.v47
  exact View.readCov_unit_zero (Val := Elt Ideal) (e := .f32) (S := S1x1024) _ hz2 _ _
theorem v54_A : kernelRun0_A.sl.v54 c a3 p3 a4 p4 a5 p5 a6 p6 a7 p7 a11 x0 x1 x2 x3 x4 = k0_pay5 (k0_pay10 x0 x1 x3 x2 x4) (k0_pay3 (F := Ideal)) := by
  unfold kernelRun0_A.sl.v54 kernelRun0_A.sl.H8_2
  refine (read_last _ hz2 _ _ _ _).trans ?_
  rw [r_1_A, v47_A]
theorem r_B : kernelRun0_B.sl.r c a3 p3 a4 p4 a5 p5 x0 x1 x2 = k0_pay9 x0 x1 x2 := by
  unfold kernelRun0_B.sl.r
  rw [read_whole a3 p3 x0 hz2, read_whole a4 p4 x1 hz2, read_whole a5 p5 x2 hz2]
theorem r_1_B : kernelRun0_B.sl.r_1 c a3 p3 a4 p4 a5 p5 a6 p6 a7 p7 x0 x1 x2 x3 x4 = k0_pay10 x0 x1 x3 x2 x4 := by
  unfold kernelRun0_B.sl.r_1
  rw [read_whole a3 p3 x0 hz2, read_whole a4 p4 x1 hz2, read_whole a5 p5 x2 hz2, read_whole a6 p6 x3 hz2, read_whole a7 p7 x4 hz2]
theorem r_2_B : kernelRun0_B.sl.r_2 c a3 p3 a4 p4 a5 p5 a6 p6 a7 p7 x0 x1 x2 x3 x4 = k0_pay11 x0 x1 x3 x2 x4 := by
  unfold kernelRun0_B.sl.r_2
  rw [read_whole a3 p3 x0 hz2, read_whole a4 p4 x1 hz2, read_whole a5 p5 x2 hz2, read_whole a6 p6 x3 hz2, read_whole a7 p7 x4 hz2]
theorem r_3_B : kernelRun0_B.sl.r_3 c a3 p3 a4 p4 a5 p5 a6 p6 a7 p7 x0 x1 x2 x3 x4 = k0_pay12 x0 x1 x3 x2 x4 := by
  unfold kernelRun0_B.sl.r_3
  rw [read_whole a3 p3 x0 hz2, read_whole a4 p4 x1 hz2, read_whole a5 p5 x2 hz2, read_whole a6 p6 x3 hz2, read_whole a7 p7 x4 hz2]
theorem v54_B : kernelRun0_B.sl.v54 c a3 p3 a4 p4 a5 p5 a6 p6 a7 p7 a11 p11 x0 x1 x2 x3 x4 xo8 = k0_pay5 (k0_pay10 x0 x1 x3 x2 x4) xo8 := by
  unfold kernelRun0_B.sl.v54 kernelRun0_B.sl.H8_1
  refine (View.readCov_unit_zero (Val := Elt Ideal) (e := .f32) (S := S1x1024) _ hz2 _ _).trans ?_
  rw [r_1_B, read_whole a11 p11 xo8 hz2]

theorem out5_A {hc0 : cond0_0 i} :
    out0_A_5 c i a3 p3 a4 p4 a5 p5 a6 p6 a7 p7 a8 p8 a9 p9 a10 p10 a11 p11 a12 p12 hc0 x0 x1 x2 x3 x4 = k0_pay12 x0 x1 x3 x2 x4 := by
  unfold out0_A_5
  rw [View.read_writes_eq_canon _ _ _ (cover0_A_5 c i a3 p3 a4 p4 a5 p5 a6 p6 a7 p7 a8 p8 a9 p9 a10 p10 a11 p11 a12 p12 hc0 x0 x1 x2 x3 x4)]
  unfold kernelRun0_A
  dsimp only
  rw [View.canon_unit_zero (S := S512x1024) hz2, read_whole a3 p3 x0 hz2, read_whole a4 p4 x1 hz2, read_whole a5 p5 x2 hz2, read_whole a6 p6 x3 hz2, read_whole a7 p7 x4 hz2]
theorem out6_A {hc0 : cond0_0 i} :
    out0_A_6 c i a3 p3 a4 p4 a5 p5 a6 p6 a7 p7 a8 p8 a9 p9 a10 p10 a11 p11 a12 p12 hc0 x0 x1 x2 x3 x4 = k0_pay1 (k0_pay12 x0 x1 x3 x2 x4) := by
  unfold out0_A_6
  rw [View.read_writes_eq_canon _ _ _ (cover0_A_6 c i a3 p3 a4 p4 a5 p5 a6 p6 a7 p7 a8 p8 a9 p9 a10 p10 a11 p11 a12 p12 hc0 x0 x1 x2 x3 x4)]
  unfold kernelRun0_A
  dsimp only
  rw [View.canon_unit_zero (S := S512x1024) hz2, r_3_A]
theorem out7_A {hc0 : cond0_0 i} :
    out0_A_7 c i a3 p3 a4 p4 a5 p5 a6 p6 a7 p7 a8 p8 a9 p9 a10 p10 a11 p11 a12 p12 hc0 x0 x1 x2 x3 x4 = k0_pay4 (k0_pay9 x0 x1 x2) (k0_pay11 x0 x1 x3 x2 x4) (k0_pay2 (F := Ideal)) := by
  unfold out0_A_7
  rw [View.read_writes_eq_canon _ _ _ (cover0_A_7 c i a3 p3 a4 p4 a5 p5 a6 p6 a7 p7 a8 p8 a9 p9 a10 p10 a11 p11 a12 p12 hc0 x0 x1 x2 x3 x4)]
  unfold kernelRun0_A
  dsimp only
  rw [View.canon_cons_unit_zero (S := S1x1024) hz2, r_A, r_2_A, v40_A]
theorem out8_A {hc0 : cond0_0 i} :
    out0_A_8 c i a3 p3 a4 p4 a5 p5 a6 p6 a7 p7 a8 p8 a9 p9 a10 p10 a11 p11 a12 p12 hc0 x0 x1 x2 x3 x4 = k0_pay5 (k0_pay10 x0 x1 x3 x2 x4) (k0_pay3 (F := Ideal)) := by
  unfold out0_A_8
  rw [View.read_writes_eq_canon _ _ _ (cover0_A_8 c i a3 p3 a4 p4 a5 p5 a6 p6 a7 p7 a8 p8 a9 p9 a10 p10 a11 p11 a12 p12 hc0 x0 x1 x2 x3 x4)]
  unfold kernelRun0_A
  dsimp only
  unfold kernelRun0_A.sl.H8_2
  rw [View.canon_cons_unit_zero (S := S1x1024) hz2, r_1_A, v47_A]
theorem out9_A {hc0 : cond0_0 i} :
    out0_A_9 c i a3 p3 a4 p4 a5 p5 a6 p6 a7 p7 a8 p8 a9 p9 a10 p10 a11 p11 a12 p12 hc0 x0 x1 x2 x3 x4 = k0_pay6 (k0_pay5 (k0_pay10 x0 x1 x3 x2 x4) (k0_pay3 (F := Ideal))) := by
  unfold out0_A_9
  rw [View.read_writes_eq_canon _ _ _ (cover0_A_9 c i a3 p3 a4 p4 a5 p5 a6 p6 a7 p7 a8 p8 a9 p9 a10 p10 a11 p11 a12 p12 hc0 x0 x1 x2 x3 x4)]
  unfold kernelRun0_A
  dsimp only
  rw [View.canon_unit_zero (S := S1x128) hz2, v54_A]
theorem out5_B {hc0 : ¬cond0_0 i} :
    out0_B_5 c i a3 p3 a4 p4 a5 p5 a6 p6 a7 p7 a8 p8 a9 p9 a10 p10 a11 p11 a12 p12 hc0 x0 x1 x2 x3 x4 xo7 xo8 = k0_pay12 x0 x1 x3 x2 x4 := by
  unfold out0_B_5
  rw [View.read_writes_eq_canon _ _ _ (cover0_B_5 c i a3 p3 a4 p4 a5 p5 a6 p6 a7 p7 a8 p8 a9 p9 a10 p10 a11 p11 a12 p12 hc0 x0 x1 x2 x3 x4 xo7 xo8)]
  unfold kernelRun0_B
  dsimp only
  rw [View.canon_unit_zero (S := S512x1024) hz2, read_whole a3 p3 x0 hz2, read_whole a4 p4 x1 hz2, read_whole a5 p5 x2 hz2, read_whole a6 p6 x3 hz2, read_whole a7 p7 x4 hz2]
theorem out6_B {hc0 : ¬cond0_0 i} :
    out0_B_6 c i a3 p3 a4 p4 a5 p5 a6 p6 a7 p7 a8 p8 a9 p9 a10 p10 a11 p11 a12 p12 hc0 x0 x1 x2 x3 x4 xo7 xo8 = k0_pay1 (k0_pay12 x0 x1 x3 x2 x4) := by
  unfold out0_B_6
  rw [View.read_writes_eq_canon _ _ _ (cover0_B_6 c i a3 p3 a4 p4 a5 p5 a6 p6 a7 p7 a8 p8 a9 p9 a10 p10 a11 p11 a12 p12 hc0 x0 x1 x2 x3 x4 xo7 xo8)]
  unfold kernelRun0_B
  dsimp only
  rw [View.canon_unit_zero (S := S512x1024) hz2, r_3_B]
theorem out7_B {hc0 : ¬cond0_0 i} :
    out0_B_7 c i a3 p3 a4 p4 a5 p5 a6 p6 a7 p7 a8 p8 a9 p9 a10 p10 a11 p11 a12 p12 hc0 x0 x1 x2 x3 x4 xo7 xo8 = k0_pay4 (k0_pay9 x0 x1 x2) (k0_pay11 x0 x1 x3 x2 x4) xo7 := by
  unfold out0_B_7
  rw [View.read_writes_eq_canon _ _ _ (cover0_B_7 c i a3 p3 a4 p4 a5 p5 a6 p6 a7 p7 a8 p8 a9 p9 a10 p10 a11 p11 a12 p12 hc0 x0 x1 x2 x3 x4 xo7 xo8)]
  unfold kernelRun0_B
  dsimp only
  rw [View.canon_unit_zero (S := S1x1024) hz2, r_B, r_2_B, read_whole a10 p10 xo7 hz2]
theorem out8_B {hc0 : ¬cond0_0 i} :
    out0_B_8 c i a3 p3 a4 p4 a5 p5 a6 p6 a7 p7 a8 p8 a9 p9 a10 p10 a11 p11 a12 p12 hc0 x0 x1 x2 x3 x4 xo7 xo8 = k0_pay5 (k0_pay10 x0 x1 x3 x2 x4) xo8 := by
  unfold out0_B_8
  rw [View.read_writes_eq_canon _ _ _ (cover0_B_8 c i a3 p3 a4 p4 a5 p5 a6 p6 a7 p7 a8 p8 a9 p9 a10 p10 a11 p11 a12 p12 hc0 x0 x1 x2 x3 x4 xo7 xo8)]
  unfold kernelRun0_B
  dsimp only
  unfold kernelRun0_B.sl.H8_1
  rw [View.canon_unit_zero (S := S1x1024) hz2, r_1_B, read_whole a11 p11 xo8 hz2]
theorem out9_B {hc0 : ¬cond0_0 i} :
    out0_B_9 c i a3 p3 a4 p4 a5 p5 a6 p6 a7 p7 a8 p8 a9 p9 a10 p10 a11 p11 a12 p12 hc0 x0 x1 x2 x3 x4 xo7 xo8 = k0_pay6 (k0_pay5 (k0_pay10 x0 x1 x3 x2 x4) xo8) := by
  unfold out0_B_9
  rw [View.read_writes_eq_canon _ _ _ (cover0_B_9 c i a3 p3 a4 p4 a5 p5 a6 p6 a7 p7 a8 p8 a9 p9 a10 p10 a11 p11 a12 p12 hc0 x0 x1 x2 x3 x4 xo7 xo8)]
  unfold kernelRun0_B
  dsimp only
  rw [View.canon_unit_zero (S := S1x128) hz2, v54_B]

end Cert.Mat.Down

end
-- ==== Proof.Mat.DownRef.lean ====
/- What the plain reference of the projection down, the last norm, the loss and its gradient computes, stage by stage. -/
module

public import proofs.«01_k».proof.Proof.Mat.DownOuts
public import proofs.«01_k».proof.Proof.Gen.DownRefIdeal.Read

@[expose] public section

set_option maxRecDepth 16384

noncomputable section

namespace Cert.Mat.Down.Ref

open Idealize.ShloMosaic Idealize.ShloMosaic.TcCoe Cert.DownRefIdeal Cert.DownRefIdeal.Gen Cert.DownRefIdeal.Read
open Cert.Gate (eps word_1024 word_neg_half word_half word_one word_two word_eps)

/-- The arguments hold these numbers. -/
structure Args (x0 : Vec Ideal S8192x4096 .bf16) (x1 : Vec Ideal S4096x1024 .bf16) (x2 : Vec Ideal S8192x1024 .f32)
    (x3 : Vec Ideal S1x1024 .f32) (x4 : Vec Ideal S8192x1024 .f32) (U : Fin 8192 → Fin 4096 → EReal) (W : Fin 4096 → Fin 1024 → EReal)
    (X : Fin 8192 → Fin 1024 → EReal) (g : Fin 1024 → EReal) (Y : Fin 8192 → Fin 1024 → EReal) : Prop where
  u : ∀ i, x0 i = (U (i 0) (i 1) : EReal)
  w : ∀ i, x1 i = (W (i 0) (i 1) : EReal)
  x : ∀ i, x2 i = (X (i 0) (i 1) : EReal)
  g : ∀ i, x3 i = (g (i 1) : EReal)
  y : ∀ i, x4 i = (Y (i 0) (i 1) : EReal)

variable {x0 : Vec Ideal S8192x4096 .bf16} {x1 : Vec Ideal S4096x1024 .bf16} {x2 : Vec Ideal S8192x1024 .f32}
    {x3 : Vec Ideal S1x1024 .f32} {x4 : Vec Ideal S8192x1024 .f32} {U : Fin 8192 → Fin 4096 → EReal} {W : Fin 4096 → Fin 1024 → EReal}
    {X : Fin 8192 → Fin 1024 → EReal} {g : Fin 1024 → EReal} {Y : Fin 8192 → Fin 1024 → EReal} (H : Args x0 x1 x2 x3 x4 U W X g Y)

/-- Row `r` of the last residual stream, and its cotangent. -/
abbrev z (U : Fin 8192 → Fin 4096 → EReal) (W : Fin 4096 → Fin 1024 → EReal) (X : Fin 8192 → Fin 1024 → EReal) (r : Fin 8192) : Fin 1024 → EReal :=
  stream U W X r
abbrev dz (U : Fin 8192 → Fin 4096 → EReal) (W : Fin 4096 → Fin 1024 → EReal) (X : Fin 8192 → Fin 1024 → EReal) (g : Fin 1024 → EReal)
    (Y : Fin 8192 → Fin 1024 → EReal) (r : Fin 8192) : Fin 1024 → EReal := cot (z U W X r) g (Y r)

include H

theorem v3 (i) : val_main_v3 (F := Ideal) x0 x1 x2 i = (z U W X (i 0) (i 1) : EReal) := by
  have e : ∀ k, val_main_v0 (F := Ideal) x0 (lidx_main_v2 i k) = (U (i 0) k : EReal) := fun k => H.u _
  have f : ∀ k, val_main_v1 (F := Ideal) x1 (ridx_main_v2 i k) = (W k (i 1) : EReal) := fun k => H.w _
  show x2 i + val_main_v2 (F := Ideal) x0 x1 i = _
  rw [val_main_v2_apply, H.x]
  simp only [e, f]
  rw [add_comm]; rfl

theorem v5 (i) : val_main_v5 (F := Ideal) x0 x1 x2 i = (∑ k, z U W X (i 0) k * z U W X (i 0) k) := by
  have e : ∀ k, val_main_v4 (F := Ideal) x0 x1 x2 (idx_main_v5 i k) = (z U W X (i 0) k * z U W X (i 0) k) := fun k => by
    show val_main_v3 (F := Ideal) x0 x1 x2 _ * val_main_v3 (F := Ideal) x0 x1 x2 _ = _
    rw [v3 H]; rfl
  have o : val_main_cst (F := Ideal) (Shape.Idx.first h_S_) = (0 : EReal) := zero_word
  rw [val_main_v5_apply]
  simp only [e, o, zero_add]

theorem v10 (i) : val_main_v10 (F := Ideal) x0 x1 x2 i = (ms (z U W X (i 0)) : EReal) := by
  show Ideal.div (val_main_v6 (F := Ideal) x0 x1 x2 i) (Ideal.ofBits .f32 0x44800000#32) + Ideal.ofBits .f32 0x358637BD#32 = _
  rw [div_1024, word_eps, val_main_v6_apply, v5 H]; rfl

theorem v11 (i) : val_main_v11 (F := Ideal) x0 x1 x2 i = (rs (z U W X (i 0)) : EReal) := by
  show Ideal.rsqrt (val_main_v10 (F := Ideal) x0 x1 x2 i) = _
  rw [v10 H] <;> rfl

theorem v14 (i) : val_main_v14 (F := Ideal) x0 x1 x2 i = ((-(1 / 2) : ℝ) : EReal) * Ideal.div (rs (z U W X (i 0))) (ms (z U W X (i 0))) := by
  show Ideal.ofBits .f32 0xBF000000#32 * Ideal.div (val_main_v11 (F := Ideal) x0 x1 x2 i) (val_main_v10 (F := Ideal) x0 x1 x2 i) = _
  rw [word_neg_half, v11 H, v10 H]

theorem v16 (i) : val_main_v16 (F := Ideal) x0 x1 x2 i = (z U W X (i 0) (i 1) * rs (z U W X (i 0))) := by
  show val_main_v3 (F := Ideal) x0 x1 x2 i * val_main_v15 (F := Ideal) x0 x1 x2 i = _
  rw [val_main_v15_apply, v11 H, v3 H]; rfl

theorem v19 (i) : val_main_v19 (F := Ideal) x0 x1 x2 x3 x4 i = (err (z U W X (i 0)) g (Y (i 0)) (i 1) : EReal) := by
  show val_main_v16 (F := Ideal) x0 x1 x2 i * val_main_v17 (F := Ideal) x3 i - x4 i = _
  rw [v16 H, val_main_v17_apply, H.g, H.y]; rfl

theorem v25 (i) : val_main_v25 (F := Ideal) x0 x1 x2 x3 x4 i
    = ((∑ k, err (z U W X (i 0)) g (Y (i 0)) k * err (z U W X (i 0)) g (Y (i 0)) k) * ((1 / 1024 : ℝ) : EReal)) := by
  have e : ∀ k, val_main_v20 (F := Ideal) x0 x1 x2 x3 x4 (idx_main_v23 i k)
      = (err (z U W X (i 0)) g (Y (i 0)) k * err (z U W X (i 0)) g (Y (i 0)) k) := fun k => by
    show val_main_v19 (F := Ideal) x0 x1 x2 x3 x4 _ * val_main_v19 (F := Ideal) x0 x1 x2 x3 x4 _ = _
    rw [v19 H]; rfl
  have o : val_main_cst_4 (F := Ideal) (Shape.Idx.first h_S_) = (0 : EReal) := zero_word
  show Ideal.div (val_main_v23 (F := Ideal) x0 x1 x2 x3 x4 i) (Ideal.ofBits .f32 0x44800000#32) = _
  rw [div_1024, val_main_v23_apply]
  simp only [e, o, zero_add]

omit H in
/-- A row's sum of squared errors, over the row's length. -/
def rowLoss (U : Fin 8192 → Fin 4096 → EReal) (W : Fin 4096 → Fin 1024 → EReal) (X : Fin 8192 → Fin 1024 → EReal) (g : Fin 1024 → EReal)
    (Y : Fin 8192 → Fin 1024 → EReal) (r : Fin 8192) : EReal :=
  (∑ k, err (z U W X r) g (Y r) k * err (z U W X r) g (Y r) k) * ((1 / 1024 : ℝ) : EReal)

omit H in
/-- A sum over the indices of an array of one axis. -/
theorem sum_one_axis (f : Fin 8192 → EReal) (v : S8192.Idx → EReal) (h : ∀ j, v j = (f (j 0) : EReal)) : ∑ j, v j = (∑ r, f r) :=
  Fintype.sum_equiv (Equiv.piUnique fun d : Fin 1 => Fin (S8192.size d)) v f h

theorem v26 (i) : val_main_v26 (F := Ideal) x0 x1 x2 x3 x4 i = (∑ r, rowLoss U W X g Y r) := by
  have o : val_main_cst_6 (F := Ideal) (Shape.Idx.first h_S_) = (0 : EReal) := zero_word
  rw [val_main_v26_apply, o, zero_add]
  exact sum_one_axis _ _ fun j => v25 H j

/-- The loss. -/
theorem v54 (i) : val_main_v54 (F := Ideal) x0 x1 x2 x3 x4 i
    = ((∑ k, ∑ r, err (z U W X r) g (Y r) k * err (z U W X r) g (Y r) k) * ((1 / 2048 : ℝ) : EReal)) := by
  rw [val_main_v54_apply]
  show Ideal.ofBits .f32 0x3F000000#32 * val_main_v26 (F := Ideal) x0 x1 x2 x3 x4 _ = _
  rw [v26 H, word_half]
  unfold rowLoss
  rw [sum_mul_real _ _ (by norm_num), Finset.sum_comm (s := (Finset.univ : Finset (Fin 1024))), mul_comm, mul_assoc, ← EReal.coe_mul]
  norm_num

theorem v33 (i) : val_main_v33 (F := Ideal) x0 x1 x2 x3 x4 i = (dz U W X g Y (i 0) (i 1) : EReal) := by
  have d : val_main_v32 (F := Ideal) i = (((1 / 2 * 1 : ℝ) : EReal) * ((1 / 1024 : ℝ) : EReal)) := by
    rw [val_main_v32_apply]
    show Ideal.div (val_main_v29 (F := Ideal) _) (Ideal.ofBits .f32 0x44800000#32) = _
    rw [div_1024, val_main_v29_apply]
    show Ideal.ofBits .f32 0x3F000000#32 * Ideal.ofBits .f32 0x3F800000#32 * _ = _
    rw [word_half, word_one, ← EReal.coe_mul]
  show val_main_v32 (F := Ideal) i * (Ideal.ofBits .f32 0x40000000#32 * val_main_v19 (F := Ideal) x0 x1 x2 x3 x4 i) = _
  rw [d, word_two, v19 H]
  show _ = err _ _ _ _ * ((1 / 1024 : ℝ) : EReal)
  rw [← mul_assoc, ← EReal.coe_mul, ← EReal.coe_mul, mul_comm]
  norm_num

/-- The gradient of the norm's scale. -/
theorem v36 (o : Fin 1) (k : Fin 1024) : val_main_v36 (F := Ideal) x0 x1 x2 x3 x4 (ix2 o k)
    = (∑ r, dz U W X g Y r k * (z U W X r k * rs (z U W X r))) := by
  have e : ∀ r, val_main_v34 (F := Ideal) x0 x1 x2 x3 x4 (idx_main_v35 (idx_main_v36 (ix2 o k)) r)
      = (dz U W X g Y r k * (z U W X r k * rs (z U W X r))) := fun r => by
    have h : idx_main_v35 (idx_main_v36 (ix2 o k)) r 1 = k := Fin.ext (by
      have := o.isLt; show o.val * 1024 + k.val = k.val; omega)
    show val_main_v16 (F := Ideal) x0 x1 x2 _ * val_main_v33 (F := Ideal) x0 x1 x2 x3 x4 _ = _
    rw [v16 H, v33 H, mul_comm, h]; rfl
  have c : val_main_cst_11 (F := Ideal) (Shape.Idx.first h_S_) = (0 : EReal) := zero_word
  rw [val_main_v36_apply, val_main_v35_apply]
  simp only [e, c, zero_add]

theorem v38 (i) : val_main_v38 (F := Ideal) x0 x1 x2 x3 x4 i = (dz U W X g Y (i 0) (i 1) * g (i 1)) := by
  show val_main_v33 (F := Ideal) x0 x1 x2 x3 x4 i * val_main_v37 (F := Ideal) x3 i = _
  rw [v33 H, val_main_v37_apply, H.g]; rfl

theorem v40 (i) : val_main_v40 (F := Ideal) x0 x1 x2 x3 x4 i
    = (∑ k, z U W X (i 0) k * (dz U W X g Y (i 0) k * g k)) := by
  have e : ∀ k, val_main_v39 (F := Ideal) x0 x1 x2 x3 x4 (idx_main_v40 i k)
      = (z U W X (i 0) k * (dz U W X g Y (i 0) k * g k)) := fun k => by
    show val_main_v3 (F := Ideal) x0 x1 x2 _ * val_main_v38 (F := Ideal) x0 x1 x2 x3 x4 _ = _
    rw [v3 H, v38 H]; rfl
  have o : val_main_cst_12 (F := Ideal) (Shape.Idx.first h_S_) = (0 : EReal) := zero_word
  rw [val_main_v40_apply]
  simp only [e, o, zero_add]

omit H in
/-- A row's share of the derivative of the norm's root. -/
def share (Z B : Fin 8192 → Fin 1024 → EReal) (g : Fin 1024 → EReal) (r : Fin 8192) : EReal :=
  slope (Z r) (∑ k, Z r k * (B r k * g k))

theorem v46 (i) : val_main_v46 (F := Ideal) x0 x1 x2 x3 x4 i = (share (z U W X) (dz U W X g Y) g (i 0) : EReal) := by
  show Ideal.div (val_main_v41 (F := Ideal) x0 x1 x2 x3 x4 i * val_main_v14 (F := Ideal) x0 x1 x2 i) (Ideal.ofBits .f32 0x44800000#32) = _
  have h : idx_main_v41 i 0 = i 0 := Fin.ext (by
    have : (i 1).val < 1 := (i 1).isLt
    show (i 0).val * 1 + (i 1).val = (i 0).val; omega)
  rw [div_1024, val_main_v41_apply, v40 H, v14 H, h]; rfl

theorem v48 (i) : val_main_v48 (F := Ideal) x0 x1 x2 x3 x4 i = (share (z U W X) (dz U W X g Y) g (i 0) : EReal) := by
  have e : ∀ k, val_main_v46 (F := Ideal) x0 x1 x2 x3 x4 (idx_main_v47 (idx_main_v48 i) k)
      = (share (z U W X) (dz U W X g Y) g (i 0) : EReal) := fun k => v46 H _
  have o : val_main_cst_14 (F := Ideal) (Shape.Idx.first h_S_) = (0 : EReal) := zero_word
  rw [val_main_v48_apply, val_main_v47_apply]
  simp only [e, o, zero_add, Fin.sum_univ_one]

/-- The gradient of the rows. -/
theorem v52 (i) : val_main_v52 (F := Ideal) x0 x1 x2 x3 x4 i
    = (rmsBack (z U W X (i 0)) g (dz U W X g Y (i 0)) (i 1) : EReal) := by
  show val_main_v38 (F := Ideal) x0 x1 x2 x3 x4 i * val_main_v42 (F := Ideal) x0 x1 x2 i
    + val_main_v3 (F := Ideal) x0 x1 x2 i * val_main_v48 (F := Ideal) x0 x1 x2 x3 x4 i
    + val_main_v48 (F := Ideal) x0 x1 x2 x3 x4 i * val_main_v3 (F := Ideal) x0 x1 x2 i = _
  rw [v38 H, val_main_v42_apply, v11 H, v48 H, v3 H]
  have h := rmsBack_ref (z U W X (i 0)) g (dz U W X g Y (i 0)) (i 1) 0
  rw [zero_add, add_zero] at h
  exact h

end Cert.Mat.Down.Ref

end
-- ==== Proof.Mat.Down.lean ====
/- The projection down with the last norm, the loss and its gradient, over all points: the arrays the kernel leaves are the reference's. -/
module

public import proofs.«01_k».proof.Defs
public import proofs.«01_k».proof.Proof.Mat.DownOuts
public import proofs.«01_k».proof.Proof.Mat.DownRef
public import proofs.«01_k».proof.Proof.Gen.DownIdeal
public import proofs.«01_k».proof.Proof.Gen.DownIdeal.Value
public import proofs.«01_k».proof.Proof.Gen.DownRefIdeal.Run
public import proofs.«01_k».proof.Proof.Gate.Join

@[expose] public section

set_option maxRecDepth 16384

noncomputable section

namespace Cert.Mat.Down

open Idealize.ShloMosaic Idealize.ShloMosaic.TcCoe Cert.DownIdeal Cert.DownIdeal.Gen
open Idealize.ShloMosaic.Pipeline (Dat)

variable (m : (ℓ : Loc nD τ sig) → Buf (Elt Ideal) ℓ) (c : Dev nD)

/-- The arrays the kernel reads hold these numbers. -/
abbrev Holds (U : Fin 8192 → Fin 4096 → EReal) (W : Fin 4096 → Fin 1024 → EReal) (X : Fin 8192 → Fin 1024 → EReal) (g : Fin 1024 → EReal)
    (Y : Fin 8192 → Fin 1024 → EReal) : Prop :=
  Ref.Args (m ((c : Thread nD τ).loc main_arg0)) (m ((c : Thread nD τ).loc main_arg1)) (m ((c : Thread nD τ).loc main_arg2))
    (m ((c : Thread nD τ).loc main_arg3)) (m ((c : Thread nD τ).loc main_arg4)) U W X g Y

/-- A row of a block of 512 rows. -/
def row (n : ℕ) (r : Fin 512) : Fin 8192 := ⟨(512 * n + r.val) % 8192, by omega⟩

theorem at0 : ∀ t : Fin grid0.N, win0_0.index t 0 = t.val ∧ win0_0.index t 1 = 0 := by decide +kernel
theorem at1 : ∀ t : Fin grid0.N, win0_1.index t 0 = 0 ∧ win0_1.index t 1 = 0 := by decide +kernel
theorem at2 : ∀ t : Fin grid0.N, win0_2.index t 0 = t.val ∧ win0_2.index t 1 = 0 := by decide +kernel
theorem at3 : ∀ t : Fin grid0.N, win0_3.index t 0 = 0 ∧ win0_3.index t 1 = 0 := by decide +kernel
theorem at4 : ∀ t : Fin grid0.N, win0_4.index t 0 = t.val ∧ win0_4.index t 1 = 0 := by decide +kernel
theorem at5 : ∀ t : Fin grid0.N, win0_5.index t 0 = t.val ∧ win0_5.index t 1 = 0 := by decide +kernel
theorem at6 : ∀ t : Fin grid0.N, win0_6.index t 0 = t.val ∧ win0_6.index t 1 = 0 := by decide +kernel
theorem at7 : ∀ t : Fin grid0.N, win0_7.index t 0 = 0 ∧ win0_7.index t 1 = 0 := by decide +kernel
theorem at8 : ∀ t : Fin grid0.N, win0_8.index t 0 = 0 ∧ win0_8.index t 1 = 0 := by decide +kernel
theorem at9 : ∀ t : Fin grid0.N, win0_9.index t 0 = 0 ∧ win0_9.index t 1 = 0 := by decide +kernel

theorem block0 (t : Fin cfg0.N) (r : Fin 512) (k : Fin 4096) :
    iblk m c 0 t (ix2 r k) = m ((c : Thread nD τ).loc main_arg0) (ix2 (row t.val r) k) := by
  show V m c main_arg0 (((cfg0.win 0).blk t).view.emb (ix2 r k)) = _
  rw [V_main_arg0]
  refine congrArg (m ((c : Thread nD τ).loc main_arg0)) (funext fun d => Fin.ext ?_)
  fin_cases d
  · refine (win0_0.rect_emb_val t _ 0).trans ?_
    have := t.isLt; have hN : cfg0.N = 16 := N_0
    rw [(at0 t).1]; show t.val * 512 + r.val = (512 * t.val + r.val) % 8192; omega
  · refine (win0_0.rect_emb_val t _ 1).trans ?_
    rw [(at0 t).2]; show 0 * 4096 + k.val = k.val; omega

theorem block1 (t : Fin cfg0.N) (r : Fin 4096) (k : Fin 1024) :
    iblk m c 1 t (ix2 r k) = m ((c : Thread nD τ).loc main_arg1) (ix2 r k) := by
  show V m c main_arg1 (((cfg0.win 1).blk t).view.emb (ix2 r k)) = _
  rw [V_main_arg1]
  refine congrArg (m ((c : Thread nD τ).loc main_arg1)) (funext fun d => Fin.ext ?_)
  fin_cases d
  · refine (win0_1.rect_emb_val t _ 0).trans ?_
    rw [(at1 t).1]; show 0 * 4096 + r.val = r.val; omega
  · refine (win0_1.rect_emb_val t _ 1).trans ?_
    rw [(at1 t).2]; show 0 * 1024 + k.val = k.val; omega

theorem block2 (t : Fin cfg0.N) (r : Fin 512) (k : Fin 1024) :
    iblk m c 2 t (ix2 r k) = m ((c : Thread nD τ).loc main_arg2) (ix2 (row t.val r) k) := by
  show V m c main_arg2 (((cfg0.win 2).blk t).view.emb (ix2 r k)) = _
  rw [V_main_arg2]
  refine congrArg (m ((c : Thread nD τ).loc main_arg2)) (funext fun d => Fin.ext ?_)
  fin_cases d
  · refine (win0_2.rect_emb_val t _ 0).trans ?_
    have := t.isLt; have hN : cfg0.N = 16 := N_0
    rw [(at2 t).1]; show t.val * 512 + r.val = (512 * t.val + r.val) % 8192; omega
  · refine (win0_2.rect_emb_val t _ 1).trans ?_
    rw [(at2 t).2]; show 0 * 1024 + k.val = k.val; omega

theorem block3 (t : Fin cfg0.N) (r : Fin 1) (k : Fin 1024) :
    iblk m c 3 t (ix2 r k) = m ((c : Thread nD τ).loc main_arg3) (ix2 r k) := by
  show V m c main_arg3 (((cfg0.win 3).blk t).view.emb (ix2 r k)) = _
  rw [V_main_arg3]
  refine congrArg (m ((c : Thread nD τ).loc main_arg3)) (funext fun d => Fin.ext ?_)
  fin_cases d
  · refine (win0_3.rect_emb_val t _ 0).trans ?_
    rw [(at3 t).1]; show 0 * 1 + r.val = r.val; omega
  · refine (win0_3.rect_emb_val t _ 1).trans ?_
    rw [(at3 t).2]; show 0 * 1024 + k.val = k.val; omega

theorem block4 (t : Fin cfg0.N) (r : Fin 512) (k : Fin 1024) :
    iblk m c 4 t (ix2 r k) = m ((c : Thread nD τ).loc main_arg4) (ix2 (row t.val r) k) := by
  show V m c main_arg4 (((cfg0.win 4).blk t).view.emb (ix2 r k)) = _
  rw [V_main_arg4]
  refine congrArg (m ((c : Thread nD τ).loc main_arg4)) (funext fun d => Fin.ext ?_)
  fin_cases d
  · refine (win0_4.rect_emb_val t _ 0).trans ?_
    have := t.isLt; have hN : cfg0.N = 16 := N_0
    rw [(at4 t).1]; show t.val * 512 + r.val = (512 * t.val + r.val) % 8192; omega
  · refine (win0_4.rect_emb_val t _ 1).trans ?_
    rw [(at4 t).2]; show 0 * 1024 + k.val = k.val; omega

variable {m c}
variable {U : Fin 8192 → Fin 4096 → EReal} {W : Fin 4096 → Fin 1024 → EReal} {X : Fin 8192 → Fin 1024 → EReal} {g : Fin 1024 → EReal}
    {Y : Fin 8192 → Fin 1024 → EReal} (H : Holds m c U W X g Y)

section
include H

/-- The blocks a point stages. -/
theorem tile (t : Fin cfg0.N) : Tile (fun r => U (row t.val r)) W (fun r => X (row t.val r)) g (fun r => Y (row t.val r))
    (iblk m c 0 t) (iblk m c 1 t) (iblk m c 2 t) (iblk m c 3 t) (iblk m c 4 t) where
  u r k := (block0 m c t r k).trans (H.u _)
  w d k := (block1 m c t d k).trans (H.w _)
  x r k := (block2 m c t r k).trans (H.x _)
  g o k := (block3 m c t o k).trans (H.g _)
  y r k := (block4 m c t r k).trans (H.y _)

theorem left5 (t : Fin cfg0.N) (r : Fin 512) (k : Fin 1024) : (outsAt0 m c t.val t.isLt).1 (ix2 r k)
    = (rmsBack (Ref.z U W X (row t.val r)) g (Ref.dz U W X g Y (row t.val r)) k : EReal) := by
  by_cases h0 : t.val % 16 = 0
  · rw [outsAt0_A m c t h0]
    dsimp only
    rw [out5_A]
    exact pay12_eq (tile H t) r k
  · rw [outsAt0_B m c t h0]
    dsimp only
    rw [out5_B]
    exact pay12_eq (tile H t) r k

theorem result5 (r : Fin 8192) (k : Fin 1024) : (dats m 0 c).arrAt 5 cfg0.N (ix2 r k)
    = (rmsBack (Ref.z U W X r) g (Ref.dz U W X g Y r) k : EReal) := by
  have hN : cfg0.N = 16 := N_0
  obtain ⟨t, q, rfl⟩ : ∃ (t : Fin cfg0.N) (q : Fin 512), r = row t.val q :=
    ⟨⟨r.val / 512, by omega⟩, ⟨r.val % 512, by omega⟩, Fin.ext (by simp only [row]; omega)⟩
  have e := congrFun (Value.blocks5 m c t (flush0_5 t)) (ix2 q k)
  rw [Value.flushed5] at e
  have ht := t.isLt
  refine .trans (congrArg ((dats m 0 c).arrAt 5 cfg0.N) (funext fun d => Fin.ext ?_)) (e.trans (left5 H t q k))
  refine .trans ?_ (win0_5.rect_emb_val t _ d).symm
  fin_cases d
  · show (512 * t.val + q.val) % 8192 = win0_5.index t 0 * 512 + q.val
    rw [(at5 t).1]; omega
  · show k.val = win0_5.index t 1 * 1024 + k.val
    rw [(at5 t).2]; omega

theorem left6 (t : Fin cfg0.N) (r : Fin 512) (k : Fin 1024) : (outsAt0 m c t.val t.isLt).2.1 (ix2 r k)
    = (rmsBack (Ref.z U W X (row t.val r)) g (Ref.dz U W X g Y (row t.val r)) k : EReal) := by
  by_cases h0 : t.val % 16 = 0
  · rw [outsAt0_A m c t h0]
    dsimp only
    rw [out6_A]
    exact pay12_eq (tile H t) r k
  · rw [outsAt0_B m c t h0]
    dsimp only
    rw [out6_B]
    exact pay12_eq (tile H t) r k

theorem result6 (r : Fin 8192) (k : Fin 1024) : (dats m 0 c).arrAt 6 cfg0.N (ix2 r k)
    = (rmsBack (Ref.z U W X r) g (Ref.dz U W X g Y r) k : EReal) := by
  have hN : cfg0.N = 16 := N_0
  obtain ⟨t, q, rfl⟩ : ∃ (t : Fin cfg0.N) (q : Fin 512), r = row t.val q :=
    ⟨⟨r.val / 512, by omega⟩, ⟨r.val % 512, by omega⟩, Fin.ext (by simp only [row]; omega)⟩
  have e := congrFun (Value.blocks6 m c t (flush0_6 t)) (ix2 q k)
  rw [Value.flushed6] at e
  have ht := t.isLt
  refine .trans (congrArg ((dats m 0 c).arrAt 6 cfg0.N) (funext fun d => Fin.ext ?_)) (e.trans (left6 H t q k))
  refine .trans ?_ (win0_6.rect_emb_val t _ d).symm
  fin_cases d
  · show (512 * t.val + q.val) % 8192 = win0_6.index t 0 * 512 + q.val
    rw [(at6 t).1]; omega
  · show k.val = win0_6.index t 1 * 1024 + k.val
    rw [(at6 t).2]; omega

/-- The share of the first blocks of rows in the gradient of the norm's scale. -/
theorem acc7 : ∀ (n : ℕ) (hn : n < cfg0.N) (o : Fin 1) (k : Fin 1024), (outsAt0 m c n hn).2.2.1 (ix2 o k)
    = (∑ q ∈ Finset.range (n + 1), ∑ r : Fin 512, Ref.dz U W X g Y (row q r) k * (Ref.z U W X (row q r) k * rs (Ref.z U W X (row q r))))
  | 0, hn, o, k => by
    rw [Finset.sum_range_one]
    refine (congrFun (congrArg (fun y => y.2.2.1) (outsAt0_A m c ⟨0, hn⟩ rfl)) (ix2 o k)).trans ?_
    dsimp only
    rw [out7_A]
    refine (pay4_eq (tile H ⟨0, hn⟩) _ o k).trans ?_
    rw [pay2_eq, zero_add]
    rfl
  | n + 1, hn, o, k => by
    have hN : cfg0.N = 16 := N_0
    have h0 : ¬(n + 1) % 16 = 0 := by omega
    rw [Finset.sum_range_succ]
    refine (congrFun (congrArg (fun y => y.2.2.1) (outsAt0_B m c ⟨n + 1, hn⟩ h0)) (ix2 o k)).trans ?_
    dsimp only
    rw [out7_B]
    refine (pay4_eq (tile H ⟨n + 1, hn⟩) _ o k).trans ?_
    exact congrArg (· + _) (acc7 n (Nat.lt_of_succ_lt hn) o k)

/-- The squared errors of the first blocks of rows, by column. -/
theorem acc8 : ∀ (n : ℕ) (hn : n < cfg0.N) (o : Fin 1) (k : Fin 1024), (outsAt0 m c n hn).2.2.2.1 (ix2 o k)
    = (∑ q ∈ Finset.range (n + 1), ∑ r : Fin 512, err (Ref.z U W X (row q r)) g (Y (row q r)) k * err (Ref.z U W X (row q r)) g (Y (row q r)) k)
  | 0, hn, o, k => by
    rw [Finset.sum_range_one]
    refine (congrFun (congrArg (fun y => y.2.2.2.1) (outsAt0_A m c ⟨0, hn⟩ rfl)) (ix2 o k)).trans ?_
    dsimp only
    rw [out8_A]
    refine (pay5_eq (tile H ⟨0, hn⟩) _ o k).trans ?_
    rw [pay3_eq, zero_add]
    rfl
  | n + 1, hn, o, k => by
    have hN : cfg0.N = 16 := N_0
    have h0 : ¬(n + 1) % 16 = 0 := by omega
    rw [Finset.sum_range_succ]
    refine (congrFun (congrArg (fun y => y.2.2.2.1) (outsAt0_B m c ⟨n + 1, hn⟩ h0)) (ix2 o k)).trans ?_
    dsimp only
    rw [out8_B]
    refine (pay5_eq (tile H ⟨n + 1, hn⟩) _ o k).trans ?_
    exact congrArg (· + _) (acc8 n (Nat.lt_of_succ_lt hn) o k)

/-- What a point leaves in the loss's block. -/
theorem acc9 (n : ℕ) (hn : n < cfg0.N) (o : Fin 1) (j : Fin 128) : (outsAt0 m c n hn).2.2.2.2 (ix2 o j)
    = ((∑ k : Fin 1024, ∑ q ∈ Finset.range (n + 1), ∑ r : Fin 512, err (Ref.z U W X (row q r)) g (Y (row q r)) k * err (Ref.z U W X (row q r)) g (Y (row q r)) k) * ((1 / 2048 : ℝ) : EReal)) := by
  have a := fun o k => acc8 H n hn o k
  by_cases h0 : n % 16 = 0
  · have e := outsAt0_A m c ⟨n, hn⟩ h0
    rw [show outsAt0 m c n hn = _ from e] at a ⊢
    dsimp only at a ⊢
    rw [out9_A]
    rw [out8_A] at a
    exact pay6_eq _ _ a o j
  · have e := outsAt0_B m c ⟨n, hn⟩ h0
    rw [show outsAt0 m c n hn = _ from e] at a ⊢
    dsimp only at a ⊢
    rw [out9_B]
    rw [out8_B] at a
    exact pay6_eq _ _ a o j

omit H in
theorem emb7 (t : Fin cfg0.N) (y : S1x1024.Idx) : ((cfg0.win 7).blk t).view.emb y = y := by
  refine funext fun d => Fin.ext ?_
  fin_cases d
  · exact win0_7.rect_emb_val_of_index_zero t 0 (at7 t).1 _
  · exact win0_7.rect_emb_val_of_index_zero t 1 (at7 t).2 _

omit H in
theorem cut7 (t : Fin cfg0.N) (A : Vec Ideal S1x1024 .f32) :
    (cfg0.win 7).cut (grid0.coords t) A = ((cfg0.win 7).blk t).view.read (Elt Ideal) A := by
  funext y
  exact congrArg A (show _ = ((cfg0.win 7).blk t).view.emb y from (emb7 t y).symm)

theorem result7 (o : Fin 1) (k : Fin 1024) : (dats m 0 c).arrAt 7 cfg0.N (ix2 o k)
    = (∑ r, Ref.dz U W X g Y r k * (Ref.z U W X r k * rs (Ref.z U W X r))) := by
  have hN : cfg0.N = 16 := N_0
  refine (congrFun ((dats m 0 c).arrAt_eq_of_cover 7 ((outsAt0 m c 15 (by decide)).2.2.1) ?_ ?_) _).trans
    ((acc7 H 15 (by decide) o k).trans (sum_blocks (A := 16) (B := 512) (N := 8192) (by norm_num) (fun r => Ref.dz U W X g Y r k * (Ref.z U W X r k * rs (Ref.z U W X r))) row ?_))
  · intro t hf
    obtain rfl : t = ⟨15, by decide⟩ := Fin.ext (by have := (flush0_7 t).mp hf; have := t.isLt; show t.val = 15; omega)
    exact (Value.flushed7 m c _).trans (cut7 _ _)
  · intro y
    refine ⟨⟨15, by decide⟩, (flush0_7 _).mpr rfl, ?_⟩
    have e := ((cfg0.win 7).blk ⟨15, by decide⟩).view.emb_mem_set y
    rw [emb7] at e
    exact e
  · intro q hq r
    simp only [row]; omega

omit H in
theorem emb9 (t : Fin cfg0.N) (y : S1x128.Idx) : ((cfg0.win 9).blk t).view.emb y = y := by
  refine funext fun d => Fin.ext ?_
  fin_cases d
  · exact win0_9.rect_emb_val_of_index_zero t 0 (at9 t).1 _
  · exact win0_9.rect_emb_val_of_index_zero t 1 (at9 t).2 _

omit H in
theorem cut9 (t : Fin cfg0.N) (A : Vec Ideal S1x128 .f32) :
    (cfg0.win 9).cut (grid0.coords t) A = ((cfg0.win 9).blk t).view.read (Elt Ideal) A := by
  funext y
  exact congrArg A (show _ = ((cfg0.win 9).blk t).view.emb y from (emb9 t y).symm)

theorem result9 (o : Fin 1) (j : Fin 128) : (dats m 0 c).arrAt 9 cfg0.N (ix2 o j)
    = ((∑ k : Fin 1024, ∑ r, err (Ref.z U W X r) g (Y r) k * err (Ref.z U W X r) g (Y r) k) * ((1 / 2048 : ℝ) : EReal)) := by
  have hN : cfg0.N = 16 := N_0
  refine (congrFun ((dats m 0 c).arrAt_eq_of_cover 9 ((outsAt0 m c 15 (by decide)).2.2.2.2) ?_ ?_) _).trans
    ((acc9 H 15 (by decide) o j).trans (congrArg (fun s : EReal => (s * ((1 / 2048 : ℝ) : EReal))) (Finset.sum_congr rfl fun k _ =>
      sum_blocks (A := 16) (B := 512) (N := 8192) (by norm_num) (fun r => err (Ref.z U W X r) g (Y r) k * err (Ref.z U W X r) g (Y r) k) row ?_)))
  · intro t hf
    obtain rfl : t = ⟨15, by decide⟩ := Fin.ext (by have := (flush0_9 t).mp hf; have := t.isLt; show t.val = 15; omega)
    exact (Value.flushed9 m c _).trans (cut9 _ _)
  · intro y
    refine ⟨⟨15, by decide⟩, (flush0_9 _).mpr rfl, ?_⟩
    have e := ((cfg0.win 9).blk ⟨15, by decide⟩).view.emb_mem_set y
    rw [emb9] at e
    exact e
  · intro q hq r
    simp only [row]; omega

end

/-- The arrays of a device. -/
theorem holds (c : Dev nD) : Holds m c (fun r k => m ((c : Thread nD τ).loc main_arg0) (ix2 r k)) (fun r k => m ((c : Thread nD τ).loc main_arg1) (ix2 r k))
    (fun r k => m ((c : Thread nD τ).loc main_arg2) (ix2 r k)) (fun k => m ((c : Thread nD τ).loc main_arg3) (ix2 0 k)) (fun r k => m ((c : Thread nD τ).loc main_arg4) (ix2 r k)) :=
  ⟨entry2 _, entry2 _, entry2 _, entry1 _, entry2 _⟩

/-- The kernel computes the gradients of the rows and of the norm's scale, and the loss. -/
theorem algebraic : Cert.algebraic_DownIdeal_DownRefIdeal := fun m g m' g' _ agree => by
  refine ⟨fun c => (dats m 0 c).arrAt 5 cfg0.N, fun c => (dats m 0 c).arrAt 6 cfg0.N, fun c => (dats m 0 c).arrAt 7 cfg0.N,
    fun c => (dats m 0 c).arrAt 9 cfg0.N, (θ_run _ _ _).mono (fun r h c => ?_) (Value.run_blocks m g), ?_⟩
  · obtain ⟨e0, e1, e2, -, e4, kept⟩ := h c
    exact ⟨e0, e1, e2, e4, kept⟩
  refine (θ_run Cert.DownRefIdeal.defs _ _).mono (fun r h c => ?_) (Cert.DownRefIdeal.Value.run (F := Ideal) m' g')
  obtain ⟨e0, e1, e2, e3, kept⟩ := h c
  obtain ⟨a0, a1, a2, a3, a4⟩ := agree c
  have H := holds (m := m) c
  refine ⟨e0.trans ?_, e1.trans ?_, e2.trans ?_, e3.trans ?_, kept⟩
  · rw [Cert.DownRefIdeal.Read.val_main_v52_eq, a0, a1, a2, a3, a4]
    exact ext2 (a := 8192) (b := 1024) fun i k => (Ref.v52 H _).trans (result5 H i k).symm
  · rw [Cert.DownRefIdeal.Read.val_main_v53_eq, a0, a1, a2, a3, a4]
    exact ext2 (a := 8192) (b := 1024) fun i k => (Ref.v52 H _).trans (result6 H i k).symm
  · rw [Cert.DownRefIdeal.Read.val_main_v36_eq, a0, a1, a2, a3, a4]
    exact ext2 (a := 1) (b := 1024) fun o k => (Ref.v36 H o k).trans (result7 H o k).symm
  · rw [Cert.DownRefIdeal.Read.val_main_v54_eq, a0, a1, a2, a3, a4]
    exact ext2 (a := 1) (b := 128) fun o j => (Ref.v54 H _).trans (result9 H o j).symm

end Cert.Mat.Down

end
-- ==== Proof.Mat.Adam.lean ====
/- The optimiser's step of one entry of a parameter, as the kernels write it. -/
module

public import proofs.«01_k».proof.Proof.Mat.Basic

@[expose] public section

noncomputable section

namespace Cert.Mat.Adam

open Idealize.ShloMosaic

/-- The new first moment, from the gradient and the old one. -/
def first (g m : EReal) : EReal := Ideal.ofBits .f32 0x3F666666#32 * m + Ideal.ofBits .f32 0x3DCCCCCD#32 * g

/-- The new second moment. -/
def second (g v : EReal) : EReal := Ideal.ofBits .f32 0x3F7FBE77#32 * v + Ideal.ofBits .f32 0x3A83126F#32 * (g * g)

/-- The change of the parameter. -/
def delta (g w m v : EReal) : EReal :=
  Ideal.ofBits .f32 0xBA83126F#32 * (Ideal.div (first g m * ((8388608 / 5463681 : ℝ) : EReal))
    (Ideal.sqrt (second g v * ((268435456 / 2672307 : ℝ) : EReal)) + Ideal.ofBits .f32 0x322BCC77#32) + Ideal.ofBits .f32 0x3C23D70A#32 * w)

/-- Division by the first moment's correction is a product with the kernel's constant. -/
theorem div_first (t : EReal) : Ideal.div t (Ideal.ofBits .f32 0x3F26BD02#32) = t * ((8388608 / 5463681 : ℝ) : EReal) := by
  have e : Ideal.ofBits .f32 0x3F26BD02#32 = ((5463681 / 8388608 : ℝ) : EReal) := by
    simp [Ideal.ofBits, Ideal.ieee, -EReal.coe_mul]; try norm_num
  rw [e, Ideal.div_coe (by norm_num)]; norm_num

/-- The same of the second moment. -/
theorem div_second (t : EReal) : Ideal.div t (Ideal.ofBits .f32 0x3C231ACC#32) = t * ((268435456 / 2672307 : ℝ) : EReal) := by
  have e : Ideal.ofBits .f32 0x3C231ACC#32 = ((2672307 / 268435456 : ℝ) : EReal) := by
    simp [Ideal.ofBits, Ideal.ieee, -EReal.coe_mul]; try norm_num
  rw [e, Ideal.div_coe (by norm_num)]; norm_num

/-- One chip's part of a gradient: the own copy at the slot of the own chip, the received one elsewhere. -/
def part (q : BitVec 32) (s o : Fin 4 → EReal) (k : Fin 4) : EReal :=
  Scalar.select (IntOp.cmpi .eq q (BitVec.ofNat 32 k.val)) (o k) (s k)

/-- The gradient: the sum of the four chips' parts. -/
def gradient (q : BitVec 32) (s o : Fin 4 → EReal) : EReal := part q s o 0 + part q s o 1 + part q s o 2 + part q s o 3

theorem eq_swap (p q : BitVec 32) : IntOp.cmpi .eq p q = IntOp.cmpi .eq q p := by
  unfold IntOp.cmpi
  exact congrArg BitVec.ofBool (Bool.beq_comm ..)

/-- The gradient as a sum from zero over the chips, the slot's number compared with the chip's. -/
theorem gradient_sum (q : BitVec 32) (s o : Fin 4 → EReal) :
    (0 : EReal) + ∑ k : Fin 4, Scalar.select (IntOp.cmpi .eq (BitVec.ofNat 32 k.val) q) (o k) (s k) = gradient q s o := by
  rw [zero_add, Fin.sum_univ_four]
  simp only [eq_swap _ q]
  rfl

/-- A read of one slot of a staged stack of four. -/
theorem read_slot {sig : RefSig} {a b : Nat} {e : EltTy} (v : Memref sig .tc .vmem ⟨3, ![4, a, b]⟩ e) (h : v.IsWhole)
    (x : Vec Ideal ⟨3, ![4, a, b]⟩ e) (k : Fin 4) (inb : ∀ d, (![k.val, 0, 0] : Fin 3 → Nat) d + (![1, a, b] : Fin 3 → Nat) d ≤ (![4, a, b] : Fin 3 → Nat) d)
    (i : Fin 1) (r : Fin a) (j : Fin b) :
    View.readAt (Elt Ideal) v.view (Rect.unit (s := ⟨3, ![4, a, b]⟩) ![k.val, 0, 0] ![1, a, b] inb).toLoadRect (h.unread x) (ix3 i r j)
      = x (ix3 k r j) := by
  rw [View.readAt_eq_ld, h.read_unread]
  refine congrArg x (funext fun d => Fin.ext ?_)
  fin_cases d
  · show k.val + 1 * i.val = k.val; omega
  · show 0 + 1 * r.val = r.val; omega
  · show 0 + 1 * j.val = j.val; omega

end Cert.Mat.Adam

end
-- ==== Proof.Mat.Ac.lean ====
/- The optimiser's step of the convolution's weight: the arrays the kernel leaves are the reference's. -/
module

public import proofs.«01_k».proof.Defs
public import proofs.«01_k».proof.Proof.Mat.Adam
public import proofs.«01_k».proof.Proof.Gen.AcIdeal
public import proofs.«01_k».proof.Proof.Gen.AcIdeal.Value
public import proofs.«01_k».proof.Proof.Gen.AcRefIdeal.Run
public import proofs.«01_k».proof.Proof.Gen.AcRefIdeal.Read

@[expose] public section

set_option maxRecDepth 16384

noncomputable section

namespace Cert.Mat.Ac

open Idealize.ShloMosaic Idealize.ShloMosaic.TcCoe Cert.AcIdeal Cert.AcIdeal.Gen
open Idealize.ShloMosaic.Pipeline (Dat)

theorem hz3 : (![0, 0, 0] : Fin 3 → Nat) = fun _ => 0 := funext fun a => by fin_cases a <;> rfl

theorem named_first : Named.named (F := Ideal) κ "m_hat" (φ := .f32) 0x3FC48605#32 = ((8388608 / 5463681 : ℝ) : EReal) :=
  IdealRules.named_const.ideal_named_scalar _ _ _ _ rfl

theorem named_second : Named.named (F := Ideal) κ "v_hat" (φ := .f32) 0x42C8E6D3#32 = ((268435456 / 2672307 : ℝ) : EReal) :=
  IdealRules.named_const.ideal_named_scalar _ _ _ _ rfl

variable (x0 : Vec Ideal S1x4x512 .f32) (x1 x2 x3 : Vec Ideal S4x512 .f32) (r : Fin 4) (k : Fin 512)

/-- The gradient's entry of the stack of one. -/
theorem pay1_eq : k0_pay1 x0 (ix2 r k) = x0 (ix3 (0 : Fin 1) r k) := by
  unfold k0_pay1
  pointwise

theorem pay2_eq : k0_pay2 x0 x2 (ix2 r k) = Adam.first (x0 (ix3 (0 : Fin 1) r k)) (x2 (ix2 r k)) := by
  rw [← pay1_eq x0]; rfl

theorem pay3_eq : k0_pay3 x0 x3 (ix2 r k) = Adam.second (x0 (ix3 (0 : Fin 1) r k)) (x3 (ix2 r k)) := by
  rw [← pay1_eq x0]; rfl

theorem pay4_eq : k0_pay4 x0 x1 x2 x3 (ix2 r k)
    = Adam.delta (x0 (ix3 (0 : Fin 1) r k)) (x1 (ix2 r k)) (x2 (ix2 r k)) (x3 (ix2 r k)) := by
  unfold Adam.delta
  rw [← pay2_eq x0, ← pay3_eq x0, ← named_first, ← named_second]; rfl

theorem out4_eq : out0_4 x0 x1 x2 x3 (ix2 r k) = x0 (ix3 (0 : Fin 1) r k) := by
  unfold out0_4
  rw [View.canon_unit_zero (S := S4x512) hz2, View.ld_unit_zero (S := S1x4x512) hz3]
  exact pay1_eq ..

theorem out5_eq : out0_5 x0 x1 x2 x3 (ix2 r k)
    = Adam.delta (x0 (ix3 (0 : Fin 1) r k)) (x1 (ix2 r k)) (x2 (ix2 r k)) (x3 (ix2 r k)) := by
  unfold out0_5
  rw [View.canon_unit_zero (S := S4x512) hz2, View.ld_unit_zero (S := S1x4x512) hz3]
  simp only [View.ld_unit_zero (S := S4x512) hz2]
  exact pay4_eq ..

theorem out6_eq : out0_6 x0 x1 x2 x3 (ix2 r k) = Adam.first (x0 (ix3 (0 : Fin 1) r k)) (x2 (ix2 r k)) := by
  unfold out0_6
  rw [View.canon_unit_zero (S := S4x512) hz2, View.ld_unit_zero (S := S1x4x512) hz3, View.ld_unit_zero (S := S4x512) hz2]
  exact pay2_eq ..

theorem out7_eq : out0_7 x0 x1 x2 x3 (ix2 r k) = Adam.second (x0 (ix3 (0 : Fin 1) r k)) (x3 (ix2 r k)) := by
  unfold out0_7
  rw [View.canon_unit_zero (S := S4x512) hz2, View.ld_unit_zero (S := S1x4x512) hz3, View.ld_unit_zero (S := S4x512) hz2]
  exact pay3_eq ..

variable (m : (ℓ : Loc nD τ sig) → Buf (Elt Ideal) ℓ) (c : Dev nD)

/-- The stack the host makes of the gradient. -/
theorem V_stack (i : S1x4x512.Idx) : V m c main_v0 i = m ((c : Thread nD τ).loc main_arg0) (ix2 (i 1) (i 2)) := by
  have e : V m c main_v0 = broadcastInDim S1x4x512 ![1, 2] bcast_S4x512_S1x4x512_1_2 (m ((c : Thread nD τ).loc main_arg0)) := by
    show StableHlo.after (List.flatten [hostOps0]) _ _ = _
    simp only [hostOps0, List.flatten_cons, List.flatten_nil, List.append_nil, List.cons_append, List.nil_append,
      StableHlo.after_cons, StableHlo.after_nil]
    rfl
  rw [e]
  exact broadcastInDim_apply _ _ _ i (ix2 (i 1) (i 2)) fun a => by fin_cases a <;> rfl

theorem at0 : ∀ t : Fin grid0.N, win0_0.index t 0 = 0 ∧ win0_0.index t 1 = 0 ∧ win0_0.index t 2 = 0 := by decide +kernel
theorem at1 : ∀ t : Fin grid0.N, win0_1.index t 0 = 0 ∧ win0_1.index t 1 = 0 := by decide +kernel
theorem at2 : ∀ t : Fin grid0.N, win0_2.index t 0 = 0 ∧ win0_2.index t 1 = 0 := by decide +kernel
theorem at3 : ∀ t : Fin grid0.N, win0_3.index t 0 = 0 ∧ win0_3.index t 1 = 0 := by decide +kernel
theorem at4 : ∀ t : Fin grid0.N, win0_4.index t 0 = 0 ∧ win0_4.index t 1 = 0 := by decide +kernel
theorem at5 : ∀ t : Fin grid0.N, win0_5.index t 0 = 0 ∧ win0_5.index t 1 = 0 := by decide +kernel
theorem at6 : ∀ t : Fin grid0.N, win0_6.index t 0 = 0 ∧ win0_6.index t 1 = 0 := by decide +kernel
theorem at7 : ∀ t : Fin grid0.N, win0_7.index t 0 = 0 ∧ win0_7.index t 1 = 0 := by decide +kernel

theorem block0 (t : Fin cfg0.N) : iblk m c 0 t (ix3 (0 : Fin 1) r k) = m ((c : Thread nD τ).loc main_arg0) (ix2 r k) := by
  show V m c main_v0 (((cfg0.win 0).blk t).view.emb (ix3 (0 : Fin 1) r k)) = _
  rw [V_stack]
  refine congrArg (m ((c : Thread nD τ).loc main_arg0)) (funext fun d => Fin.ext ?_)
  fin_cases d
  · exact win0_0.rect_emb_val_of_index_zero t 1 (at0 t).2.1 _
  · exact win0_0.rect_emb_val_of_index_zero t 2 (at0 t).2.2 _

theorem block1 (t : Fin cfg0.N) : iblk m c 1 t (ix2 r k) = m ((c : Thread nD τ).loc main_arg1) (ix2 r k) := by
  show V m c main_arg1 (((cfg0.win 1).blk t).view.emb (ix2 r k)) = _
  rw [V_main_arg1]
  refine congrArg (m ((c : Thread nD τ).loc main_arg1)) (funext fun d => Fin.ext ?_)
  fin_cases d
  · exact win0_1.rect_emb_val_of_index_zero t 0 (at1 t).1 _
  · exact win0_1.rect_emb_val_of_index_zero t 1 (at1 t).2 _

theorem block2 (t : Fin cfg0.N) : iblk m c 2 t (ix2 r k) = m ((c : Thread nD τ).loc main_arg2) (ix2 r k) := by
  show V m c main_arg2 (((cfg0.win 2).blk t).view.emb (ix2 r k)) = _
  rw [V_main_arg2]
  refine congrArg (m ((c : Thread nD τ).loc main_arg2)) (funext fun d => Fin.ext ?_)
  fin_cases d
  · exact win0_2.rect_emb_val_of_index_zero t 0 (at2 t).1 _
  · exact win0_2.rect_emb_val_of_index_zero t 1 (at2 t).2 _

theorem block3 (t : Fin cfg0.N) : iblk m c 3 t (ix2 r k) = m ((c : Thread nD τ).loc main_arg3) (ix2 r k) := by
  show V m c main_arg3 (((cfg0.win 3).blk t).view.emb (ix2 r k)) = _
  rw [V_main_arg3]
  refine congrArg (m ((c : Thread nD τ).loc main_arg3)) (funext fun d => Fin.ext ?_)
  fin_cases d
  · exact win0_3.rect_emb_val_of_index_zero t 0 (at3 t).1 _
  · exact win0_3.rect_emb_val_of_index_zero t 1 (at3 t).2 _

theorem result4 : (dats m 0 c).arrAt 4 cfg0.N (ix2 r k) = m ((c : Thread nD τ).loc main_arg0) (ix2 r k) := by
  let t : Fin cfg0.N := ⟨0, by decide⟩
  have e := congrFun (Value.blocks4 m c t (flush0_4 t)) (ix2 r k)
  rw [Value.flushed4] at e
  refine .trans (congrArg ((dats m 0 c).arrAt 4 cfg0.N) (funext fun d => Fin.ext ?_)) (e.trans ?_)
  · fin_cases d
    · exact (win0_4.rect_emb_val_of_index_zero t 0 (at4 t).1 _).symm
    · exact (win0_4.rect_emb_val_of_index_zero t 1 (at4 t).2 _).symm
  · refine (out4_eq _ _ _ _ r k).trans ?_
    rw [block0]

theorem result5 : (dats m 0 c).arrAt 5 cfg0.N (ix2 r k) = Adam.delta (m ((c : Thread nD τ).loc main_arg0) (ix2 r k)) (m ((c : Thread nD τ).loc main_arg1) (ix2 r k)) (m ((c : Thread nD τ).loc main_arg2) (ix2 r k)) (m ((c : Thread nD τ).loc main_arg3) (ix2 r k)) := by
  let t : Fin cfg0.N := ⟨0, by decide⟩
  have e := congrFun (Value.blocks5 m c t (flush0_5 t)) (ix2 r k)
  rw [Value.flushed5] at e
  refine .trans (congrArg ((dats m 0 c).arrAt 5 cfg0.N) (funext fun d => Fin.ext ?_)) (e.trans ?_)
  · fin_cases d
    · exact (win0_5.rect_emb_val_of_index_zero t 0 (at5 t).1 _).symm
    · exact (win0_5.rect_emb_val_of_index_zero t 1 (at5 t).2 _).symm
  · refine (out5_eq _ _ _ _ r k).trans ?_
    rw [block0, block1, block2, block3]

theorem result6 : (dats m 0 c).arrAt 6 cfg0.N (ix2 r k) = Adam.first (m ((c : Thread nD τ).loc main_arg0) (ix2 r k)) (m ((c : Thread nD τ).loc main_arg2) (ix2 r k)) := by
  let t : Fin cfg0.N := ⟨0, by decide⟩
  have e := congrFun (Value.blocks6 m c t (flush0_6 t)) (ix2 r k)
  rw [Value.flushed6] at e
  refine .trans (congrArg ((dats m 0 c).arrAt 6 cfg0.N) (funext fun d => Fin.ext ?_)) (e.trans ?_)
  · fin_cases d
    · exact (win0_6.rect_emb_val_of_index_zero t 0 (at6 t).1 _).symm
    · exact (win0_6.rect_emb_val_of_index_zero t 1 (at6 t).2 _).symm
  · refine (out6_eq _ _ _ _ r k).trans ?_
    rw [block0, block2]

theorem result7 : (dats m 0 c).arrAt 7 cfg0.N (ix2 r k) = Adam.second (m ((c : Thread nD τ).loc main_arg0) (ix2 r k)) (m ((c : Thread nD τ).loc main_arg3) (ix2 r k)) := by
  let t : Fin cfg0.N := ⟨0, by decide⟩
  have e := congrFun (Value.blocks7 m c t (flush0_7 t)) (ix2 r k)
  rw [Value.flushed7] at e
  refine .trans (congrArg ((dats m 0 c).arrAt 7 cfg0.N) (funext fun d => Fin.ext ?_)) (e.trans ?_)
  · fin_cases d
    · exact (win0_7.rect_emb_val_of_index_zero t 0 (at7 t).1 _).symm
    · exact (win0_7.rect_emb_val_of_index_zero t 1 (at7 t).2 _).symm
  · refine (out7_eq _ _ _ _ r k).trans ?_
    rw [block0, block3]

open Cert.AcRefIdeal.Read in
theorem reference (g w m v : Vec Ideal S4x512 .f32) (i : S4x512.Idx) :
    val_main_v23 (F := Ideal) g w m v i = Adam.delta (g i) (w i) (m i) (v i) := by
  unfold Adam.delta
  rw [← Adam.div_first, ← Adam.div_second]; rfl

/-- The kernel does the optimiser's step. -/
theorem algebraic : Cert.algebraic_AcIdeal_AcRefIdeal := fun m g m' g' _ agree => by
  refine ⟨fun c => (dats m 0 c).arrAt 4 cfg0.N, fun c => (dats m 0 c).arrAt 5 cfg0.N, fun c => (dats m 0 c).arrAt 6 cfg0.N,
    fun c => (dats m 0 c).arrAt 7 cfg0.N, Value.run_blocks m g, ?_⟩
  refine (θ_run Cert.AcRefIdeal.defs _ _).mono (fun r h c => ?_) (Cert.AcRefIdeal.Value.run (F := Ideal) m' g')
  obtain ⟨e, e0, e1, e2, kept⟩ := h c
  obtain ⟨a0, a1, a2, a3⟩ := agree c
  refine ⟨(e.trans a0).trans ?_, e0.trans ?_, e1.trans ?_, e2.trans ?_, kept⟩
  · exact ext2 (a := 4) (b := 512) fun r k => (result4 r k m c).symm
  · rw [Cert.AcRefIdeal.Read.val_main_v23_eq, a0, a1, a2, a3]
    exact ext2 (a := 4) (b := 512) fun r k => (reference _ _ _ _ _).trans (result5 r k m c).symm
  · rw [Cert.AcRefIdeal.Read.val_main_v4_eq, a0, a2]
    exact ext2 (a := 4) (b := 512) fun r k => (result6 r k m c).symm
  · rw [Cert.AcRefIdeal.Read.val_main_v10_eq, a0, a3]
    exact ext2 (a := 4) (b := 512) fun r k => (result7 r k m c).symm

end Cert.Mat.Ac

end
-- ==== Proof.Mat.Ain.lean ====
/- The optimiser's step of the input projection: the arrays the kernel leaves are the reference's. -/
module

public import proofs.«01_k».proof.Defs
public import proofs.«01_k».proof.Proof.Mat.Adam
public import proofs.«01_k».proof.Proof.Gen.Ain.Frame
public import proofs.«01_k».proof.Proof.Gen.AinIdeal.Frame
public import proofs.«01_k».proof.Proof.Gen.AinRefIdeal.Run
public import proofs.«01_k».proof.Proof.Gen.AinRefIdeal.Read
public import Idealize.ShloMosaic.Lib.Pipeline.Value

@[expose] public section

set_option maxRecDepth 16384

noncomputable section

namespace Cert.Mat.Ain

open Idealize.ShloMosaic Idealize.ShloMosaic.TcCoe Cert.AinIdeal Cert.AinIdeal.Gen Cert.AinRefIdeal.Read

theorem named_first : Named.named (F := Ideal) κ "m_hat" (φ := .f32) 0x3FC48605#32 = ((8388608 / 5463681 : ℝ) : EReal) :=
  IdealRules.named_const.ideal_named_scalar _ _ _ _ rfl

theorem named_second : Named.named (F := Ideal) κ "v_hat" (φ := .f32) 0x42C8E6D3#32 = ((268435456 / 2672307 : ℝ) : EReal) :=
  IdealRules.named_const.ideal_named_scalar _ _ _ _ rfl

variable {c : Dev nD} {i : grid0.Coords} {a3 a4 : Memref sig .tc .vmem S4x1284x128 .bf16}
  {a5 a6 a7 a8 a9 a10 a11 : Memref sig .tc .vmem S1284x128 .f32} {h3 : a3.IsWhole} {h4 : a4.IsWhole} {h5 : a5.IsWhole}
  {h6 : a6.IsWhole} {h7 : a7.IsWhole} {h8 : a8.IsWhole} {h9 : a9.IsWhole} {h10 : a10.IsWhole} {h11 : a11.IsWhole}
variable (x0 x1 : Vec Ideal S4x1284x128 .bf16) (x2 x3 x4 : Vec Ideal S1284x128 .f32) (q : TbBuf0 (F := Ideal) c tbM0_0)
  (r : Fin 1284) (k : Fin 128)

/-- The number of the own chip. -/
def chip : BitVec 32 := q (ix1 (0 : Fin 1))

/-- The gradient's entry of a block. -/
abbrev grad : EReal := Adam.gradient (chip q) (fun s => x0 (ix3 s r k)) (fun s => x1 (ix3 s r k))

theorem word_eq : kernelRun0_A.sl.r c q = chip q := by
  unfold kernelRun0_A.sl.r chip
  exact congrArg q (funext fun d => by fin_cases d; exact Subsingleton.elim (α := Fin 1) _ _)

theorem pay2_eq : k0_pay2 (kernelRun0_A.sl.r_1 c a3 h3 a4 h4 x0 x1 q) (kernelRun0_A.sl.v30 c q)
      (View.readAt (Elt Ideal) a4.view (Rect.unit (s := S4x1284x128) ![3, 0, 0] S1x1284x128.size inb_S4x1284x128_S1x1284x128_3_0_0).toLoadRect (h4.unread x1))
      (View.readAt (Elt Ideal) a3.view (Rect.unit (s := S4x1284x128) ![3, 0, 0] S1x1284x128.size inb_S4x1284x128_S1x1284x128_3_0_0).toLoadRect (h3.unread x0)) (ix2 r k)
    = grad x0 x1 q r k := by
  unfold kernelRun0_A.sl.r_1 kernelRun0_A.sl.v30 k0_pay2 k0_pay1
  pointwise
  rw [word_eq]
  have e (s : Fin 4) (inb) (b : BitVec 1) := congrArg₂ (Scalar.select b) (Adam.read_slot a4 h4 x1 s inb 0 r k)
    (Adam.read_slot a3 h3 x0 s inb 0 r k)
  exact congrArg₂ (· + ·) (congrArg₂ (· + ·) (congrArg₂ (· + ·) (e 0 _ _) (e 1 _ _)) (e 2 _ _)) (e 3 _ _)

theorem out5_eq : out0_A_5 c i a3 h3 a4 h4 a5 h5 a6 h6 a7 h7 a8 h8 a9 h9 a10 h10 a11 h11 x0 x1 x2 x3 x4 q (ix2 r k)
    = grad x0 x1 q r k := by
  unfold out0_A_5
  rw [View.read_writes_eq_canon _ _ _ (cover0_A_5 c i a3 h3 a4 h4 a5 h5 a6 h6 a7 h7 a8 h8 a9 h9 a10 h10 a11 h11 x0 x1 x2 x3 x4 q)]
  unfold kernelRun0_A
  dsimp only
  rw [View.canon_unit_zero (S := S1284x128) hz2]
  exact pay2_eq ..

theorem out6_eq : out0_A_6 c i a3 h3 a4 h4 a5 h5 a6 h6 a7 h7 a8 h8 a9 h9 a10 h10 a11 h11 x0 x1 x2 x3 x4 q (ix2 r k)
    = Adam.delta (grad x0 x1 q r k) (x2 (ix2 r k)) (x3 (ix2 r k)) (x4 (ix2 r k)) := by
  unfold out0_A_6
  rw [View.read_writes_eq_canon _ _ _ (cover0_A_6 c i a3 h3 a4 h4 a5 h5 a6 h6 a7 h7 a8 h8 a9 h9 a10 h10 a11 h11 x0 x1 x2 x3 x4 q)]
  unfold kernelRun0_A
  dsimp only
  rw [View.canon_unit_zero (S := S1284x128) hz2]
  unfold kernelRun0_A.sl.r_4
  rw [read_whole a5 h5 x2 hz2, read_whole a6 h6 x3 hz2, read_whole a7 h7 x4 hz2]
  unfold Adam.delta Adam.first Adam.second
  rw [← pay2_eq (a3 := a3) (h3 := h3) (a4 := a4) (h4 := h4), ← named_first, ← named_second]
  rfl

theorem out7_eq : out0_A_7 c i a3 h3 a4 h4 a5 h5 a6 h6 a7 h7 a8 h8 a9 h9 a10 h10 a11 h11 x0 x1 x2 x3 x4 q (ix2 r k)
    = Adam.first (grad x0 x1 q r k) (x3 (ix2 r k)) := by
  unfold out0_A_7
  rw [View.read_writes_eq_canon _ _ _ (cover0_A_7 c i a3 h3 a4 h4 a5 h5 a6 h6 a7 h7 a8 h8 a9 h9 a10 h10 a11 h11 x0 x1 x2 x3 x4 q)]
  unfold kernelRun0_A
  dsimp only
  rw [View.canon_unit_zero (S := S1284x128) hz2]
  unfold kernelRun0_A.sl.r_2
  rw [read_whole a6 h6 x3 hz2, ← pay2_eq (a3 := a3) (h3 := h3) (a4 := a4) (h4 := h4)]
  rfl

theorem out8_eq : out0_A_8 c i a3 h3 a4 h4 a5 h5 a6 h6 a7 h7 a8 h8 a9 h9 a10 h10 a11 h11 x0 x1 x2 x3 x4 q (ix2 r k)
    = Adam.second (grad x0 x1 q r k) (x4 (ix2 r k)) := by
  unfold out0_A_8
  rw [View.read_writes_eq_canon _ _ _ (cover0_A_8 c i a3 h3 a4 h4 a5 h5 a6 h6 a7 h7 a8 h8 a9 h9 a10 h10 a11 h11 x0 x1 x2 x3 x4 q)]
  unfold kernelRun0_A
  dsimp only
  rw [View.canon_unit_zero (S := S1284x128) hz2]
  unfold kernelRun0_A.sl.r_3
  rw [read_whole a7 h7 x4 hz2, ← pay2_eq (a3 := a3) (h3 := h3) (a4 := a4) (h4 := h4)]
  rfl

variable (m : (ℓ : Loc nD τ sig) → Buf (Elt Ideal) ℓ) (hO : Ok m) (c : Dev nD) (t : Fin (cfgM m hO).N)

/-- A block's column in the whole array. -/
def at_ (t : Fin grid0.N) (d : Fin 128) : Fin 1024 := ⟨t.val * 128 + d.val, by have : t.val < 8 := t.isLt; omega⟩

theorem place_stack : ∀ t : Fin grid0.N, cc0_transform_0 (grid0.coords t) = ![0, 0, t.val] := by decide +kernel
theorem place_array : ∀ t : Fin grid0.N, cc0_transform_2 (grid0.coords t) = ![0, t.val] := by decide +kernel

/-- Where a block's entry sits in a stack. -/
theorem place3 (t : Fin grid0.N) (s : Fin 4) (d : Fin 3) :
    cc0_transform_0 (grid0.coords t) d * S4x1284x128.size d + (ix3 s r k : S4x1284x128.Idx) d = (ix3 s r (at_ t k) : S4x1284x1024.Idx) d := by
  rw [place_stack]
  fin_cases d
  · show 0 * 4 + s.val = s.val; omega
  · show 0 * 1284 + r.val = r.val; omega
  · rfl

/-- Where a block's entry sits in an array. -/
theorem place2 (t : Fin grid0.N) (d : Fin 2) :
    cc0_transform_2 (grid0.coords t) d * S1284x128.size d + (ix2 r k : S1284x128.Idx) d = (ix2 r (at_ t k) : S1284x1024.Idx) d := by
  rw [place_array]
  fin_cases d
  · show 0 * 1284 + r.val = r.val; omega
  · rfl

theorem block0 (s : Fin 4) : iblk m hO c 0 t (ix3 s r k) = m ((c : Thread nD τ).loc main_arg0) (ix3 s r (at_ t k)) :=
  congrArg (m ((c : Thread nD τ).loc main_arg0)) (funext fun d => Fin.ext ((((cfgM m hO).win 0).rect_emb_val t _ d).trans (place3 r k t s d)))

theorem block1 (s : Fin 4) : iblk m hO c 1 t (ix3 s r k) = m ((c : Thread nD τ).loc main_arg1) (ix3 s r (at_ t k)) :=
  congrArg (m ((c : Thread nD τ).loc main_arg1)) (funext fun d => Fin.ext ((((cfgM m hO).win 1).rect_emb_val t _ d).trans (place3 r k t s d)))

theorem block2 : iblk m hO c 2 t (ix2 r k) = m ((c : Thread nD τ).loc main_arg3) (ix2 r (at_ t k)) :=
  congrArg (m ((c : Thread nD τ).loc main_arg3)) (funext fun d => Fin.ext ((((cfgM m hO).win 2).rect_emb_val t _ d).trans (place2 r k t d)))

theorem block3 : iblk m hO c 3 t (ix2 r k) = m ((c : Thread nD τ).loc main_arg4) (ix2 r (at_ t k)) :=
  congrArg (m ((c : Thread nD τ).loc main_arg4)) (funext fun d => Fin.ext ((((cfgM m hO).win 3).rect_emb_val t _ d).trans (place2 r k t d)))

theorem block4 : iblk m hO c 4 t (ix2 r k) = m ((c : Thread nD τ).loc main_arg5) (ix2 r (at_ t k)) :=
  congrArg (m ((c : Thread nD τ).loc main_arg5)) (funext fun d => Fin.ext ((((cfgM m hO).win 4).rect_emb_val t _ d).trans (place2 r k t d)))

/-- The gradient's entry of the whole array. -/
abbrev whole (r : Fin 1284) (j : Fin 1024) : EReal :=
  Adam.gradient (m ((c : Thread nD τ).loc main_arg2) (ix1 (0 : Fin 1))) (fun s => m ((c : Thread nD τ).loc main_arg0) (ix3 s r j)) (fun s => m ((c : Thread nD τ).loc main_arg1) (ix3 s r j))

theorem grad_eq : grad (c := c) (iblk m hO c 0 t) (iblk m hO c 1 t) (tbl m 0) r k = whole m c r (at_ t k) := by
  obtain rfl : c = 0 := Subsingleton.elim _ _
  unfold grad whole
  simp only [block0, block1]
  rfl

theorem apart {t t' : Fin grid0.N} (hne : t ≠ t') : cc0_transform_2 (grid0.coords t) ≠ cc0_transform_2 (grid0.coords t') :=
  fun e => hne (Fin.ext ((congrFun (place_array t) 1).symm.trans ((congrFun e 1).trans (congrFun (place_array t') 1))))

theorem entry : (ix2 r (at_ t k) : S1284x1024.Idx) = (((cfgM m hO).win 5).blk t).view.emb (ix2 r k) :=
  funext fun d => Fin.ext ((((cfgM m hO).win 5).rect_emb_val t _ d).trans (place2 r k t d)).symm

theorem result5 : (dats m hO 0 c).arrAt 5 (cfgM m hO).N (ix2 r (at_ t k))
    = whole m c r (at_ t k) := by
  refine (congrArg ((dats m hO 0 c).arrAt 5 (cfgM m hO).N) (entry r k m hO t)).trans
    (((dats m hO 0 c).arrAt_emb_eq_flushed 5 (fun _ _ _ _ hne => ((cfgM m hO).win 5).disjoint_blk (apart hne)) t (flush0_5 (adm m hO) t) (ix2 r k)).trans
    ((congrFun (after0_5 m hO c t) (ix2 r k)).trans ?_))
  unfold outsAt0
  dsimp only
  refine (out5_eq (iblk m hO c 0 t) (iblk m hO c 1 t) (iblk m hO c 2 t) (iblk m hO c 3 t) (iblk m hO c 4 t) (tbl m 0) r k).trans ?_
  rw [grad_eq]

theorem result6 : (dats m hO 0 c).arrAt 6 (cfgM m hO).N (ix2 r (at_ t k))
    = Adam.delta (whole m c r (at_ t k)) (m ((c : Thread nD τ).loc main_arg3) (ix2 r (at_ t k))) (m ((c : Thread nD τ).loc main_arg4) (ix2 r (at_ t k))) (m ((c : Thread nD τ).loc main_arg5) (ix2 r (at_ t k))) := by
  refine (congrArg ((dats m hO 0 c).arrAt 6 (cfgM m hO).N) (entry r k m hO t)).trans
    (((dats m hO 0 c).arrAt_emb_eq_flushed 6 (fun _ _ _ _ hne => ((cfgM m hO).win 6).disjoint_blk (apart hne)) t (flush0_6 (adm m hO) t) (ix2 r k)).trans
    ((congrFun (after0_6 m hO c t) (ix2 r k)).trans ?_))
  unfold outsAt0
  dsimp only
  refine (out6_eq (iblk m hO c 0 t) (iblk m hO c 1 t) (iblk m hO c 2 t) (iblk m hO c 3 t) (iblk m hO c 4 t) (tbl m 0) r k).trans ?_
  rw [grad_eq, block2, block3, block4]

theorem result7 : (dats m hO 0 c).arrAt 7 (cfgM m hO).N (ix2 r (at_ t k))
    = Adam.first (whole m c r (at_ t k)) (m ((c : Thread nD τ).loc main_arg4) (ix2 r (at_ t k))) := by
  refine (congrArg ((dats m hO 0 c).arrAt 7 (cfgM m hO).N) (entry r k m hO t)).trans
    (((dats m hO 0 c).arrAt_emb_eq_flushed 7 (fun _ _ _ _ hne => ((cfgM m hO).win 7).disjoint_blk (apart hne)) t (flush0_7 (adm m hO) t) (ix2 r k)).trans
    ((congrFun (after0_7 m hO c t) (ix2 r k)).trans ?_))
  unfold outsAt0
  dsimp only
  refine (out7_eq (iblk m hO c 0 t) (iblk m hO c 1 t) (iblk m hO c 2 t) (iblk m hO c 3 t) (iblk m hO c 4 t) (tbl m 0) r k).trans ?_
  rw [grad_eq, block3]

theorem result8 : (dats m hO 0 c).arrAt 8 (cfgM m hO).N (ix2 r (at_ t k))
    = Adam.second (whole m c r (at_ t k)) (m ((c : Thread nD τ).loc main_arg5) (ix2 r (at_ t k))) := by
  refine (congrArg ((dats m hO 0 c).arrAt 8 (cfgM m hO).N) (entry r k m hO t)).trans
    (((dats m hO 0 c).arrAt_emb_eq_flushed 8 (fun _ _ _ _ hne => ((cfgM m hO).win 8).disjoint_blk (apart hne)) t (flush0_8 (adm m hO) t) (ix2 r k)).trans
    ((congrFun (after0_8 m hO c t) (ix2 r k)).trans ?_))
  unfold outsAt0
  dsimp only
  refine (out8_eq (iblk m hO c 0 t) (iblk m hO c 1 t) (iblk m hO c 2 t) (iblk m hO c 3 t) (iblk m hO c 4 t) (tbl m 0) r k).trans ?_
  rw [grad_eq, block4]

section
variable (s o : Vec Ideal S4x1284x1024 .bf16) (n : Vec Ideal S1 .i32) (w a v : Vec Ideal S1284x1024 .f32) (i : S1284x1024.Idx)

/-- The reference's gradient. -/
abbrev summed : EReal := Adam.gradient (n (ix1 (0 : Fin 1))) (fun k => s (ix3 k (i 0) (i 1))) (fun k => o (ix3 k (i 0) (i 1)))

theorem ref_summed : val_main_v7 (F := Ideal) s o n i = summed s o n i := by
  rw [val_main_v7_apply, val_main_cst_apply]
  refine Eq.trans (congrArg₂ (· + ·) ?_ (Finset.sum_congr rfl fun k _ => ?_)) (Adam.gradient_sum _ _ _)
  · simp [Ideal.ofBits, Ideal.ieee]
  · have e : idx_main_v7 i k = ix3 k (i 0) (i 1) := funext fun d => by fin_cases d <;> rfl
    have one (j : S1.Idx) : j = ix1 (0 : Fin 1) := funext fun d => by fin_cases d; exact Subsingleton.elim (α := Fin 1) _ _
    rw [val_main_v6_apply, val_main_v5_apply, val_main_call0_v0_apply, val_main_v4_apply, val_main_v1_apply, val_main_v3_apply,
      val_main_v2_apply, val_main_v0_apply, one (idx_main_v2 _), e]
    rfl

theorem ref_first : val_main_v12 (F := Ideal) s o n a i = Adam.first (summed s o n i) (a i) := by
  rw [← ref_summed]; rfl

theorem ref_second : val_main_v18 (F := Ideal) s o n v i = Adam.second (summed s o n i) (v i) := by
  rw [← ref_summed]; rfl

theorem ref_delta : val_main_v31 (F := Ideal) s o n w a v i = Adam.delta (summed s o n i) (w i) (a i) (v i) := by
  unfold Adam.delta
  rw [← ref_summed, ← Adam.div_first, ← Adam.div_second]; rfl

end

/-- Every column is a block's. -/
theorem ext_at {f g : Vec Ideal S1284x1024 .f32} (h : ∀ (r : Fin 1284) (t : Fin grid0.N) (k : Fin 128), f (ix2 r (at_ t k)) = g (ix2 r (at_ t k))) : f = g :=
  ext2 (a := 1284) (b := 1024) fun r j => by
    have e : j = at_ (⟨j.val / 128, by show j.val / 128 < 8; omega⟩ : Fin grid0.N) ⟨j.val % 128, by omega⟩ := Fin.ext (by show j.val = j.val / 128 * 128 + j.val % 128; omega)
    rw [e]
    exact h ..

/-- The kernel does the optimiser's step. -/
theorem algebraic : Cert.algebraic_AinIdeal_AinRefIdeal := fun m g m' g' _ agree => by
  have hO : Ok m := trivial
  refine ⟨fun c => (dats m hO 0 c).arrAt 5 (cfgM m hO).N, fun c => (dats m hO 0 c).arrAt 6 (cfgM m hO).N,
    fun c => (dats m hO 0 c).arrAt 7 (cfgM m hO).N, fun c => (dats m hO 0 c).arrAt 8 (cfgM m hO).N,
    (θ_run defs _ _).mono (fun r h c => ⟨(h.2 c).1 5, (h.2 c).1 6, (h.2 c).1 7, (h.2 c).1 8, h.1 c⟩)
      (θ_run_and (unchanged m g hO) (run_main m g hO)), ?_⟩
  refine (θ_run Cert.AinRefIdeal.defs _ _).mono (fun r h c => ?_) (Cert.AinRefIdeal.Value.run (F := Ideal) m' g')
  obtain ⟨e, e0, e1, e2, kept⟩ := h c
  obtain ⟨a0, a1, a2, a3, a4, a5⟩ := agree c
  refine ⟨e.trans ?_, e0.trans ?_, e1.trans ?_, e2.trans ?_, kept⟩
  · rw [val_main_v7_eq, a0, a1, a2]
    exact ext_at fun r t k => (ref_summed ..).trans (result5 r k m hO c t).symm
  · rw [val_main_v31_eq, a0, a1, a2, a3, a4, a5]
    exact ext_at fun r t k => (ref_delta ..).trans (result6 r k m hO c t).symm
  · rw [val_main_v12_eq, a0, a1, a2, a4]
    exact ext_at fun r t k => (ref_first ..).trans (result7 r k m hO c t).symm
  · rw [val_main_v18_eq, a0, a1, a2, a5]
    exact ext_at fun r t k => (ref_second ..).trans (result8 r k m hO c t).symm

end Cert.Mat.Ain

end
-- ==== Proof.Mat.Apa.lean ====
/- The optimiser's step of the first branch's projection: the arrays the kernel leaves are the reference's. -/
module

public import proofs.«01_k».proof.Defs
public import proofs.«01_k».proof.Proof.Mat.Adam
public import proofs.«01_k».proof.Proof.Gen.Apa.Frame
public import proofs.«01_k».proof.Proof.Gen.ApaIdeal.Frame
public import proofs.«01_k».proof.Proof.Gen.ApaRefIdeal.Run
public import proofs.«01_k».proof.Proof.Gen.ApaRefIdeal.Read
public import Idealize.ShloMosaic.Lib.Pipeline.Value

@[expose] public section

set_option maxRecDepth 16384

noncomputable section

namespace Cert.Mat.Apa

open Idealize.ShloMosaic Idealize.ShloMosaic.TcCoe Cert.ApaIdeal Cert.ApaIdeal.Gen Cert.ApaRefIdeal.Read

theorem named_first : Named.named (F := Ideal) κ "m_hat" (φ := .f32) 0x3FC48605#32 = ((8388608 / 5463681 : ℝ) : EReal) :=
  IdealRules.named_const.ideal_named_scalar _ _ _ _ rfl

theorem named_second : Named.named (F := Ideal) κ "v_hat" (φ := .f32) 0x42C8E6D3#32 = ((268435456 / 2672307 : ℝ) : EReal) :=
  IdealRules.named_const.ideal_named_scalar _ _ _ _ rfl

variable {c : Dev nD} {i : grid0.Coords} {a3 a4 : Memref sig .tc .vmem S4x128x1024 .bf16}
  {a5 a6 a7 a8 a9 a10 a11 : Memref sig .tc .vmem S128x1024 .f32} {h3 : a3.IsWhole} {h4 : a4.IsWhole} {h5 : a5.IsWhole}
  {h6 : a6.IsWhole} {h7 : a7.IsWhole} {h8 : a8.IsWhole} {h9 : a9.IsWhole} {h10 : a10.IsWhole} {h11 : a11.IsWhole}
variable (x0 x1 : Vec Ideal S4x128x1024 .bf16) (x2 x3 x4 : Vec Ideal S128x1024 .f32) (q : TbBuf0 (F := Ideal) c tbM0_0)
  (r : Fin 128) (k : Fin 1024)

/-- The number of the own chip. -/
def chip : BitVec 32 := q (ix1 (0 : Fin 1))

/-- The gradient's entry of a block. -/
abbrev grad : EReal := Adam.gradient (chip q) (fun s => x0 (ix3 s r k)) (fun s => x1 (ix3 s r k))

theorem word_eq : kernelRun0_A.sl.r c q = chip q := by
  unfold kernelRun0_A.sl.r chip
  exact congrArg q (funext fun d => by fin_cases d; exact Subsingleton.elim (α := Fin 1) _ _)

theorem pay2_eq : k0_pay2 (kernelRun0_A.sl.r_1 c a3 h3 a4 h4 x0 x1 q) (kernelRun0_A.sl.v30 c q)
      (View.readAt (Elt Ideal) a4.view (Rect.unit (s := S4x128x1024) ![3, 0, 0] S1x128x1024.size inb_S4x128x1024_S1x128x1024_3_0_0).toLoadRect (h4.unread x1))
      (View.readAt (Elt Ideal) a3.view (Rect.unit (s := S4x128x1024) ![3, 0, 0] S1x128x1024.size inb_S4x128x1024_S1x128x1024_3_0_0).toLoadRect (h3.unread x0)) (ix2 r k)
    = grad x0 x1 q r k := by
  unfold kernelRun0_A.sl.r_1 kernelRun0_A.sl.v30 k0_pay2 k0_pay1
  pointwise
  rw [word_eq]
  have e (s : Fin 4) (inb) (b : BitVec 1) := congrArg₂ (Scalar.select b) (Adam.read_slot a4 h4 x1 s inb 0 r k)
    (Adam.read_slot a3 h3 x0 s inb 0 r k)
  exact congrArg₂ (· + ·) (congrArg₂ (· + ·) (congrArg₂ (· + ·) (e 0 _ _) (e 1 _ _)) (e 2 _ _)) (e 3 _ _)

theorem out5_eq : out0_A_5 c i a3 h3 a4 h4 a5 h5 a6 h6 a7 h7 a8 h8 a9 h9 a10 h10 a11 h11 x0 x1 x2 x3 x4 q (ix2 r k)
    = grad x0 x1 q r k := by
  unfold out0_A_5
  rw [View.read_writes_eq_canon _ _ _ (cover0_A_5 c i a3 h3 a4 h4 a5 h5 a6 h6 a7 h7 a8 h8 a9 h9 a10 h10 a11 h11 x0 x1 x2 x3 x4 q)]
  unfold kernelRun0_A
  dsimp only
  rw [View.canon_unit_zero (S := S128x1024) hz2]
  exact pay2_eq ..

theorem out6_eq : out0_A_6 c i a3 h3 a4 h4 a5 h5 a6 h6 a7 h7 a8 h8 a9 h9 a10 h10 a11 h11 x0 x1 x2 x3 x4 q (ix2 r k)
    = Adam.delta (grad x0 x1 q r k) (x2 (ix2 r k)) (x3 (ix2 r k)) (x4 (ix2 r k)) := by
  unfold out0_A_6
  rw [View.read_writes_eq_canon _ _ _ (cover0_A_6 c i a3 h3 a4 h4 a5 h5 a6 h6 a7 h7 a8 h8 a9 h9 a10 h10 a11 h11 x0 x1 x2 x3 x4 q)]
  unfold kernelRun0_A
  dsimp only
  rw [View.canon_unit_zero (S := S128x1024) hz2]
  unfold kernelRun0_A.sl.r_4
  rw [read_whole a5 h5 x2 hz2, read_whole a6 h6 x3 hz2, read_whole a7 h7 x4 hz2]
  unfold Adam.delta Adam.first Adam.second
  rw [← pay2_eq (a3 := a3) (h3 := h3) (a4 := a4) (h4 := h4), ← named_first, ← named_second]
  rfl

theorem out7_eq : out0_A_7 c i a3 h3 a4 h4 a5 h5 a6 h6 a7 h7 a8 h8 a9 h9 a10 h10 a11 h11 x0 x1 x2 x3 x4 q (ix2 r k)
    = Adam.first (grad x0 x1 q r k) (x3 (ix2 r k)) := by
  unfold out0_A_7
  rw [View.read_writes_eq_canon _ _ _ (cover0_A_7 c i a3 h3 a4 h4 a5 h5 a6 h6 a7 h7 a8 h8 a9 h9 a10 h10 a11 h11 x0 x1 x2 x3 x4 q)]
  unfold kernelRun0_A
  dsimp only
  rw [View.canon_unit_zero (S := S128x1024) hz2]
  unfold kernelRun0_A.sl.r_2
  rw [read_whole a6 h6 x3 hz2, ← pay2_eq (a3 := a3) (h3 := h3) (a4 := a4) (h4 := h4)]
  rfl

theorem out8_eq : out0_A_8 c i a3 h3 a4 h4 a5 h5 a6 h6 a7 h7 a8 h8 a9 h9 a10 h10 a11 h11 x0 x1 x2 x3 x4 q (ix2 r k)
    = Adam.second (grad x0 x1 q r k) (x4 (ix2 r k)) := by
  unfold out0_A_8
  rw [View.read_writes_eq_canon _ _ _ (cover0_A_8 c i a3 h3 a4 h4 a5 h5 a6 h6 a7 h7 a8 h8 a9 h9 a10 h10 a11 h11 x0 x1 x2 x3 x4 q)]
  unfold kernelRun0_A
  dsimp only
  rw [View.canon_unit_zero (S := S128x1024) hz2]
  unfold kernelRun0_A.sl.r_3
  rw [read_whole a7 h7 x4 hz2, ← pay2_eq (a3 := a3) (h3 := h3) (a4 := a4) (h4 := h4)]
  rfl

variable (m : (ℓ : Loc nD τ sig) → Buf (Elt Ideal) ℓ) (hO : Ok m) (c : Dev nD) (t : Fin (cfgM m hO).N)

/-- A block's row in the whole array. -/
def at_ (t : Fin grid0.N) (d : Fin 128) : Fin 128 := ⟨t.val * 128 + d.val, by have : t.val < 1 := t.isLt; omega⟩

theorem place_stack : ∀ t : Fin grid0.N, cc0_transform_0 (grid0.coords t) = ![0, t.val, 0] := by decide +kernel
theorem place_array : ∀ t : Fin grid0.N, cc0_transform_2 (grid0.coords t) = ![t.val, 0] := by decide +kernel

/-- Where a block's entry sits in a stack. -/
theorem place3 (t : Fin grid0.N) (s : Fin 4) (d : Fin 3) :
    cc0_transform_0 (grid0.coords t) d * S4x128x1024.size d + (ix3 s r k : S4x128x1024.Idx) d = (ix3 s (at_ t r) k : S4x128x1024.Idx) d := by
  rw [place_stack]
  fin_cases d
  · show 0 * 4 + s.val = s.val; omega
  · rfl
  · show 0 * 1024 + k.val = k.val; omega

/-- Where a block's entry sits in an array. -/
theorem place2 (t : Fin grid0.N) (d : Fin 2) :
    cc0_transform_2 (grid0.coords t) d * S128x1024.size d + (ix2 r k : S128x1024.Idx) d = (ix2 (at_ t r) k : S128x1024.Idx) d := by
  rw [place_array]
  fin_cases d
  · rfl
  · show 0 * 1024 + k.val = k.val; omega

theorem block0 (s : Fin 4) : iblk m hO c 0 t (ix3 s r k) = m ((c : Thread nD τ).loc main_arg0) (ix3 s (at_ t r) k) :=
  congrArg (m ((c : Thread nD τ).loc main_arg0)) (funext fun d => Fin.ext ((((cfgM m hO).win 0).rect_emb_val t _ d).trans (place3 r k t s d)))

theorem block1 (s : Fin 4) : iblk m hO c 1 t (ix3 s r k) = m ((c : Thread nD τ).loc main_arg1) (ix3 s (at_ t r) k) :=
  congrArg (m ((c : Thread nD τ).loc main_arg1)) (funext fun d => Fin.ext ((((cfgM m hO).win 1).rect_emb_val t _ d).trans (place3 r k t s d)))

theorem block2 : iblk m hO c 2 t (ix2 r k) = m ((c : Thread nD τ).loc main_arg3) (ix2 (at_ t r) k) :=
  congrArg (m ((c : Thread nD τ).loc main_arg3)) (funext fun d => Fin.ext ((((cfgM m hO).win 2).rect_emb_val t _ d).trans (place2 r k t d)))

theorem block3 : iblk m hO c 3 t (ix2 r k) = m ((c : Thread nD τ).loc main_arg4) (ix2 (at_ t r) k) :=
  congrArg (m ((c : Thread nD τ).loc main_arg4)) (funext fun d => Fin.ext ((((cfgM m hO).win 3).rect_emb_val t _ d).trans (place2 r k t d)))

theorem block4 : iblk m hO c 4 t (ix2 r k) = m ((c : Thread nD τ).loc main_arg5) (ix2 (at_ t r) k) :=
  congrArg (m ((c : Thread nD τ).loc main_arg5)) (funext fun d => Fin.ext ((((cfgM m hO).win 4).rect_emb_val t _ d).trans (place2 r k t d)))

/-- The gradient's entry of the whole array. -/
abbrev whole (r : Fin 128) (j : Fin 1024) : EReal :=
  Adam.gradient (m ((c : Thread nD τ).loc main_arg2) (ix1 (0 : Fin 1))) (fun s => m ((c : Thread nD τ).loc main_arg0) (ix3 s r j)) (fun s => m ((c : Thread nD τ).loc main_arg1) (ix3 s r j))

theorem grad_eq : grad (c := c) (iblk m hO c 0 t) (iblk m hO c 1 t) (tbl m 0) r k = whole m c (at_ t r) k := by
  obtain rfl : c = 0 := Subsingleton.elim _ _
  unfold grad whole
  simp only [block0, block1]
  rfl

theorem apart {t t' : Fin grid0.N} (hne : t ≠ t') : cc0_transform_2 (grid0.coords t) ≠ cc0_transform_2 (grid0.coords t') :=
  fun e => hne (Fin.ext ((congrFun (place_array t) 0).symm.trans ((congrFun e 0).trans (congrFun (place_array t') 0))))

theorem entry : (ix2 (at_ t r) k : S128x1024.Idx) = (((cfgM m hO).win 5).blk t).view.emb (ix2 r k) :=
  funext fun d => Fin.ext ((((cfgM m hO).win 5).rect_emb_val t _ d).trans (place2 r k t d)).symm

theorem result5 : (dats m hO 0 c).arrAt 5 (cfgM m hO).N (ix2 (at_ t r) k)
    = whole m c (at_ t r) k := by
  refine (congrArg ((dats m hO 0 c).arrAt 5 (cfgM m hO).N) (entry r k m hO t)).trans
    (((dats m hO 0 c).arrAt_emb_eq_flushed 5 (fun _ _ _ _ hne => ((cfgM m hO).win 5).disjoint_blk (apart hne)) t (flush0_5 (adm m hO) t) (ix2 r k)).trans
    ((congrFun (after0_5 m hO c t) (ix2 r k)).trans ?_))
  unfold outsAt0
  dsimp only
  refine (out5_eq (iblk m hO c 0 t) (iblk m hO c 1 t) (iblk m hO c 2 t) (iblk m hO c 3 t) (iblk m hO c 4 t) (tbl m 0) r k).trans ?_
  rw [grad_eq]

theorem result6 : (dats m hO 0 c).arrAt 6 (cfgM m hO).N (ix2 (at_ t r) k)
    = Adam.delta (whole m c (at_ t r) k) (m ((c : Thread nD τ).loc main_arg3) (ix2 (at_ t r) k)) (m ((c : Thread nD τ).loc main_arg4) (ix2 (at_ t r) k)) (m ((c : Thread nD τ).loc main_arg5) (ix2 (at_ t r) k)) := by
  refine (congrArg ((dats m hO 0 c).arrAt 6 (cfgM m hO).N) (entry r k m hO t)).trans
    (((dats m hO 0 c).arrAt_emb_eq_flushed 6 (fun _ _ _ _ hne => ((cfgM m hO).win 6).disjoint_blk (apart hne)) t (flush0_6 (adm m hO) t) (ix2 r k)).trans
    ((congrFun (after0_6 m hO c t) (ix2 r k)).trans ?_))
  unfold outsAt0
  dsimp only
  refine (out6_eq (iblk m hO c 0 t) (iblk m hO c 1 t) (iblk m hO c 2 t) (iblk m hO c 3 t) (iblk m hO c 4 t) (tbl m 0) r k).trans ?_
  rw [grad_eq, block2, block3, block4]

theorem result7 : (dats m hO 0 c).arrAt 7 (cfgM m hO).N (ix2 (at_ t r) k)
    = Adam.first (whole m c (at_ t r) k) (m ((c : Thread nD τ).loc main_arg4) (ix2 (at_ t r) k)) := by
  refine (congrArg ((dats m hO 0 c).arrAt 7 (cfgM m hO).N) (entry r k m hO t)).trans
    (((dats m hO 0 c).arrAt_emb_eq_flushed 7 (fun _ _ _ _ hne => ((cfgM m hO).win 7).disjoint_blk (apart hne)) t (flush0_7 (adm m hO) t) (ix2 r k)).trans
    ((congrFun (after0_7 m hO c t) (ix2 r k)).trans ?_))
  unfold outsAt0
  dsimp only
  refine (out7_eq (iblk m hO c 0 t) (iblk m hO c 1 t) (iblk m hO c 2 t) (iblk m hO c 3 t) (iblk m hO c 4 t) (tbl m 0) r k).trans ?_
  rw [grad_eq, block3]

theorem result8 : (dats m hO 0 c).arrAt 8 (cfgM m hO).N (ix2 (at_ t r) k)
    = Adam.second (whole m c (at_ t r) k) (m ((c : Thread nD τ).loc main_arg5) (ix2 (at_ t r) k)) := by
  refine (congrArg ((dats m hO 0 c).arrAt 8 (cfgM m hO).N) (entry r k m hO t)).trans
    (((dats m hO 0 c).arrAt_emb_eq_flushed 8 (fun _ _ _ _ hne => ((cfgM m hO).win 8).disjoint_blk (apart hne)) t (flush0_8 (adm m hO) t) (ix2 r k)).trans
    ((congrFun (after0_8 m hO c t) (ix2 r k)).trans ?_))
  unfold outsAt0
  dsimp only
  refine (out8_eq (iblk m hO c 0 t) (iblk m hO c 1 t) (iblk m hO c 2 t) (iblk m hO c 3 t) (iblk m hO c 4 t) (tbl m 0) r k).trans ?_
  rw [grad_eq, block4]

section
variable (s o : Vec Ideal S4x128x1024 .bf16) (n : Vec Ideal S1 .i32) (w a v : Vec Ideal S128x1024 .f32) (i : S128x1024.Idx)

/-- The reference's gradient. -/
abbrev summed : EReal := Adam.gradient (n (ix1 (0 : Fin 1))) (fun k => s (ix3 k (i 0) (i 1))) (fun k => o (ix3 k (i 0) (i 1)))

theorem ref_summed : val_main_v7 (F := Ideal) s o n i = summed s o n i := by
  rw [val_main_v7_apply, val_main_cst_apply]
  refine Eq.trans (congrArg₂ (· + ·) ?_ (Finset.sum_congr rfl fun k _ => ?_)) (Adam.gradient_sum _ _ _)
  · simp [Ideal.ofBits, Ideal.ieee]
  · have e : idx_main_v7 i k = ix3 k (i 0) (i 1) := funext fun d => by fin_cases d <;> rfl
    have one (j : S1.Idx) : j = ix1 (0 : Fin 1) := funext fun d => by fin_cases d; exact Subsingleton.elim (α := Fin 1) _ _
    rw [val_main_v6_apply, val_main_v5_apply, val_main_call0_v0_apply, val_main_v4_apply, val_main_v1_apply, val_main_v3_apply,
      val_main_v2_apply, val_main_v0_apply, one (idx_main_v2 _), e]
    rfl

theorem ref_first : val_main_v12 (F := Ideal) s o n a i = Adam.first (summed s o n i) (a i) := by
  rw [← ref_summed]; rfl

theorem ref_second : val_main_v18 (F := Ideal) s o n v i = Adam.second (summed s o n i) (v i) := by
  rw [← ref_summed]; rfl

theorem ref_delta : val_main_v31 (F := Ideal) s o n w a v i = Adam.delta (summed s o n i) (w i) (a i) (v i) := by
  unfold Adam.delta
  rw [← ref_summed, ← Adam.div_first, ← Adam.div_second]; rfl

end

/-- Every row is a block's. -/
theorem ext_at {f g : Vec Ideal S128x1024 .f32} (h : ∀ (r : Fin 128) (t : Fin grid0.N) (k : Fin 1024), f (ix2 (at_ t r) k) = g (ix2 (at_ t r) k)) : f = g :=
  ext2 (a := 128) (b := 1024) fun r j => by
    have e : r = at_ (⟨r.val / 128, by show r.val / 128 < 1; omega⟩ : Fin grid0.N) ⟨r.val % 128, by omega⟩ := Fin.ext (by show r.val = r.val / 128 * 128 + r.val % 128; omega)
    rw [e]
    exact h ..

/-- The kernel does the optimiser's step. -/
theorem algebraic : Cert.algebraic_ApaIdeal_ApaRefIdeal := fun m g m' g' _ agree => by
  have hO : Ok m := trivial
  refine ⟨fun c => (dats m hO 0 c).arrAt 5 (cfgM m hO).N, fun c => (dats m hO 0 c).arrAt 6 (cfgM m hO).N,
    fun c => (dats m hO 0 c).arrAt 7 (cfgM m hO).N, fun c => (dats m hO 0 c).arrAt 8 (cfgM m hO).N,
    (θ_run defs _ _).mono (fun r h c => ⟨(h.2 c).1 5, (h.2 c).1 6, (h.2 c).1 7, (h.2 c).1 8, h.1 c⟩)
      (θ_run_and (unchanged m g hO) (run_main m g hO)), ?_⟩
  refine (θ_run Cert.ApaRefIdeal.defs _ _).mono (fun r h c => ?_) (Cert.ApaRefIdeal.Value.run (F := Ideal) m' g')
  obtain ⟨e, e0, e1, e2, kept⟩ := h c
  obtain ⟨a0, a1, a2, a3, a4, a5⟩ := agree c
  refine ⟨e.trans ?_, e0.trans ?_, e1.trans ?_, e2.trans ?_, kept⟩
  · rw [val_main_v7_eq, a0, a1, a2]
    exact ext_at fun r t k => (ref_summed ..).trans (result5 r k m hO c t).symm
  · rw [val_main_v31_eq, a0, a1, a2, a3, a4, a5]
    exact ext_at fun r t k => (ref_delta ..).trans (result6 r k m hO c t).symm
  · rw [val_main_v12_eq, a0, a1, a2, a4]
    exact ext_at fun r t k => (ref_first ..).trans (result7 r k m hO c t).symm
  · rw [val_main_v18_eq, a0, a1, a2, a5]
    exact ext_at fun r t k => (ref_second ..).trans (result8 r k m hO c t).symm

end Cert.Mat.Apa

end
-- ==== Proof.Mat.Aout.lean ====
/- The optimiser's step of the output projection. -/
module

public import proofs.«01_k».proof.Proof.Mat.Apa
public import proofs.«01_k».proof.Proof.Gen.Aout.Frame
public import proofs.«01_k».proof.Proof.Gen.AoutIdeal.Frame
public import proofs.«01_k».proof.Proof.Gen.AoutRefIdeal.Run

@[expose] public section

set_option maxRecDepth 65536

namespace Cert.Mat.Aout

open Idealize.ShloMosaic

theorem bodies_eq : @Cert.AoutIdeal.defs₀ Ideal _ _ Cert.AoutIdeal.Gen.facts = @Cert.ApaIdeal.defs₀ Ideal _ _ Cert.ApaIdeal.Gen.facts := by
  unfold Cert.AoutIdeal.defs₀ Cert.ApaIdeal.defs₀
  refine congrArg Defs.onTc (funext fun l => ?_)
  obtain rfl : l = (0 : Fin 1) := Subsingleton.elim (α := Fin 1) _ _
  rfl

theorem defs_eq : @Cert.AoutIdeal.defs Ideal _ _ Cert.AoutIdeal.Gen.facts = @Cert.ApaIdeal.defs Ideal _ _ Cert.ApaIdeal.Gen.facts :=
  congrArg (Pipeline.defs (@Cert.ApaIdeal.pcfgs Ideal _ _ Cert.ApaIdeal.Gen.facts)) bodies_eq

/-- The call is that of the first branch's projection, at the same shapes. -/
theorem algebraic : Cert.algebraic_AoutIdeal_AoutRefIdeal := by
  unfold Cert.algebraic_AoutIdeal_AoutRefIdeal
  rw [defs_eq]
  exact Cert.Mat.Apa.algebraic

end Cert.Mat.Aout

end
-- ==== Proof.Mat.Apb.lean ====
/- The optimiser's step of the second branch's projection: the arrays the kernel leaves are the reference's. -/
module

public import proofs.«01_k».proof.Defs
public import proofs.«01_k».proof.Proof.Mat.Adam
public import proofs.«01_k».proof.Proof.Gen.Apb.Frame
public import proofs.«01_k».proof.Proof.Gen.ApbIdeal.Frame
public import proofs.«01_k».proof.Proof.Gen.ApbRefIdeal.Run
public import proofs.«01_k».proof.Proof.Gen.ApbRefIdeal.Read
public import Idealize.ShloMosaic.Lib.Pipeline.Value

@[expose] public section

set_option maxRecDepth 16384

noncomputable section

namespace Cert.Mat.Apb

open Idealize.ShloMosaic Idealize.ShloMosaic.TcCoe Cert.ApbIdeal Cert.ApbIdeal.Gen Cert.ApbRefIdeal.Read

theorem named_first : Named.named (F := Ideal) κ "m_hat" (φ := .f32) 0x3FC48605#32 = ((8388608 / 5463681 : ℝ) : EReal) :=
  IdealRules.named_const.ideal_named_scalar _ _ _ _ rfl

theorem named_second : Named.named (F := Ideal) κ "v_hat" (φ := .f32) 0x42C8E6D3#32 = ((268435456 / 2672307 : ℝ) : EReal) :=
  IdealRules.named_const.ideal_named_scalar _ _ _ _ rfl

variable {c : Dev nD} {i : grid0.Coords} {a3 a4 : Memref sig .tc .vmem S4x128x1024 .bf16}
  {a5 a6 a7 a8 a9 a10 a11 : Memref sig .tc .vmem S128x1024 .f32} {h3 : a3.IsWhole} {h4 : a4.IsWhole} {h5 : a5.IsWhole}
  {h6 : a6.IsWhole} {h7 : a7.IsWhole} {h8 : a8.IsWhole} {h9 : a9.IsWhole} {h10 : a10.IsWhole} {h11 : a11.IsWhole}
variable (x0 x1 : Vec Ideal S4x128x1024 .bf16) (x2 x3 x4 : Vec Ideal S128x1024 .f32) (q : TbBuf0 (F := Ideal) c tbM0_0)
  (r : Fin 128) (k : Fin 1024)

/-- The number of the own chip. -/
def chip : BitVec 32 := q (ix1 (0 : Fin 1))

/-- The gradient's entry of a block. -/
abbrev grad : EReal := Adam.gradient (chip q) (fun s => x0 (ix3 s r k)) (fun s => x1 (ix3 s r k))

theorem word_eq : kernelRun0_A.sl.r c q = chip q := by
  unfold kernelRun0_A.sl.r chip
  exact congrArg q (funext fun d => by fin_cases d; exact Subsingleton.elim (α := Fin 1) _ _)

theorem pay2_eq : k0_pay2 (kernelRun0_A.sl.r_1 c a3 h3 a4 h4 x0 x1 q) (kernelRun0_A.sl.v30 c q)
      (View.readAt (Elt Ideal) a4.view (Rect.unit (s := S4x128x1024) ![3, 0, 0] S1x128x1024.size inb_S4x128x1024_S1x128x1024_3_0_0).toLoadRect (h4.unread x1))
      (View.readAt (Elt Ideal) a3.view (Rect.unit (s := S4x128x1024) ![3, 0, 0] S1x128x1024.size inb_S4x128x1024_S1x128x1024_3_0_0).toLoadRect (h3.unread x0)) (ix2 r k)
    = grad x0 x1 q r k := by
  unfold kernelRun0_A.sl.r_1 kernelRun0_A.sl.v30 k0_pay2 k0_pay1
  pointwise
  rw [word_eq]
  have e (s : Fin 4) (inb) (b : BitVec 1) := congrArg₂ (Scalar.select b) (Adam.read_slot a4 h4 x1 s inb 0 r k)
    (Adam.read_slot a3 h3 x0 s inb 0 r k)
  exact congrArg₂ (· + ·) (congrArg₂ (· + ·) (congrArg₂ (· + ·) (e 0 _ _) (e 1 _ _)) (e 2 _ _)) (e 3 _ _)

theorem out5_eq : out0_A_5 c i a3 h3 a4 h4 a5 h5 a6 h6 a7 h7 a8 h8 a9 h9 a10 h10 a11 h11 x0 x1 x2 x3 x4 q (ix2 r k)
    = grad x0 x1 q r k := by
  unfold out0_A_5
  rw [View.read_writes_eq_canon _ _ _ (cover0_A_5 c i a3 h3 a4 h4 a5 h5 a6 h6 a7 h7 a8 h8 a9 h9 a10 h10 a11 h11 x0 x1 x2 x3 x4 q)]
  unfold kernelRun0_A
  dsimp only
  rw [View.canon_unit_zero (S := S128x1024) hz2]
  exact pay2_eq ..

theorem out6_eq : out0_A_6 c i a3 h3 a4 h4 a5 h5 a6 h6 a7 h7 a8 h8 a9 h9 a10 h10 a11 h11 x0 x1 x2 x3 x4 q (ix2 r k)
    = Adam.delta (grad x0 x1 q r k) (x2 (ix2 r k)) (x3 (ix2 r k)) (x4 (ix2 r k)) := by
  unfold out0_A_6
  rw [View.read_writes_eq_canon _ _ _ (cover0_A_6 c i a3 h3 a4 h4 a5 h5 a6 h6 a7 h7 a8 h8 a9 h9 a10 h10 a11 h11 x0 x1 x2 x3 x4 q)]
  unfold kernelRun0_A
  dsimp only
  rw [View.canon_unit_zero (S := S128x1024) hz2]
  unfold kernelRun0_A.sl.r_4
  rw [read_whole a5 h5 x2 hz2, read_whole a6 h6 x3 hz2, read_whole a7 h7 x4 hz2]
  unfold Adam.delta Adam.first Adam.second
  rw [← pay2_eq (a3 := a3) (h3 := h3) (a4 := a4) (h4 := h4), ← named_first, ← named_second]
  rfl

theorem out7_eq : out0_A_7 c i a3 h3 a4 h4 a5 h5 a6 h6 a7 h7 a8 h8 a9 h9 a10 h10 a11 h11 x0 x1 x2 x3 x4 q (ix2 r k)
    = Adam.first (grad x0 x1 q r k) (x3 (ix2 r k)) := by
  unfold out0_A_7
  rw [View.read_writes_eq_canon _ _ _ (cover0_A_7 c i a3 h3 a4 h4 a5 h5 a6 h6 a7 h7 a8 h8 a9 h9 a10 h10 a11 h11 x0 x1 x2 x3 x4 q)]
  unfold kernelRun0_A
  dsimp only
  rw [View.canon_unit_zero (S := S128x1024) hz2]
  unfold kernelRun0_A.sl.r_2
  rw [read_whole a6 h6 x3 hz2, ← pay2_eq (a3 := a3) (h3 := h3) (a4 := a4) (h4 := h4)]
  rfl

theorem out8_eq : out0_A_8 c i a3 h3 a4 h4 a5 h5 a6 h6 a7 h7 a8 h8 a9 h9 a10 h10 a11 h11 x0 x1 x2 x3 x4 q (ix2 r k)
    = Adam.second (grad x0 x1 q r k) (x4 (ix2 r k)) := by
  unfold out0_A_8
  rw [View.read_writes_eq_canon _ _ _ (cover0_A_8 c i a3 h3 a4 h4 a5 h5 a6 h6 a7 h7 a8 h8 a9 h9 a10 h10 a11 h11 x0 x1 x2 x3 x4 q)]
  unfold kernelRun0_A
  dsimp only
  rw [View.canon_unit_zero (S := S128x1024) hz2]
  unfold kernelRun0_A.sl.r_3
  rw [read_whole a7 h7 x4 hz2, ← pay2_eq (a3 := a3) (h3 := h3) (a4 := a4) (h4 := h4)]
  rfl

variable (m : (ℓ : Loc nD τ sig) → Buf (Elt Ideal) ℓ) (hO : Ok m) (c : Dev nD) (t : Fin (cfgM m hO).N)

/-- A block's row in the whole array. -/
def at_ (t : Fin grid0.N) (d : Fin 128) : Fin 256 := ⟨t.val * 128 + d.val, by have : t.val < 2 := t.isLt; omega⟩

theorem place_stack : ∀ t : Fin grid0.N, cc0_transform_0 (grid0.coords t) = ![0, t.val, 0] := by decide +kernel
theorem place_array : ∀ t : Fin grid0.N, cc0_transform_2 (grid0.coords t) = ![t.val, 0] := by decide +kernel

/-- Where a block's entry sits in a stack. -/
theorem place3 (t : Fin grid0.N) (s : Fin 4) (d : Fin 3) :
    cc0_transform_0 (grid0.coords t) d * S4x128x1024.size d + (ix3 s r k : S4x128x1024.Idx) d = (ix3 s (at_ t r) k : S4x256x1024.Idx) d := by
  rw [place_stack]
  fin_cases d
  · show 0 * 4 + s.val = s.val; omega
  · rfl
  · show 0 * 1024 + k.val = k.val; omega

/-- Where a block's entry sits in an array. -/
theorem place2 (t : Fin grid0.N) (d : Fin 2) :
    cc0_transform_2 (grid0.coords t) d * S128x1024.size d + (ix2 r k : S128x1024.Idx) d = (ix2 (at_ t r) k : S256x1024.Idx) d := by
  rw [place_array]
  fin_cases d
  · rfl
  · show 0 * 1024 + k.val = k.val; omega

theorem block0 (s : Fin 4) : iblk m hO c 0 t (ix3 s r k) = m ((c : Thread nD τ).loc main_arg0) (ix3 s (at_ t r) k) :=
  congrArg (m ((c : Thread nD τ).loc main_arg0)) (funext fun d => Fin.ext ((((cfgM m hO).win 0).rect_emb_val t _ d).trans (place3 r k t s d)))

theorem block1 (s : Fin 4) : iblk m hO c 1 t (ix3 s r k) = m ((c : Thread nD τ).loc main_arg1) (ix3 s (at_ t r) k) :=
  congrArg (m ((c : Thread nD τ).loc main_arg1)) (funext fun d => Fin.ext ((((cfgM m hO).win 1).rect_emb_val t _ d).trans (place3 r k t s d)))

theorem block2 : iblk m hO c 2 t (ix2 r k) = m ((c : Thread nD τ).loc main_arg3) (ix2 (at_ t r) k) :=
  congrArg (m ((c : Thread nD τ).loc main_arg3)) (funext fun d => Fin.ext ((((cfgM m hO).win 2).rect_emb_val t _ d).trans (place2 r k t d)))

theorem block3 : iblk m hO c 3 t (ix2 r k) = m ((c : Thread nD τ).loc main_arg4) (ix2 (at_ t r) k) :=
  congrArg (m ((c : Thread nD τ).loc main_arg4)) (funext fun d => Fin.ext ((((cfgM m hO).win 3).rect_emb_val t _ d).trans (place2 r k t d)))

theorem block4 : iblk m hO c 4 t (ix2 r k) = m ((c : Thread nD τ).loc main_arg5) (ix2 (at_ t r) k) :=
  congrArg (m ((c : Thread nD τ).loc main_arg5)) (funext fun d => Fin.ext ((((cfgM m hO).win 4).rect_emb_val t _ d).trans (place2 r k t d)))

/-- The gradient's entry of the whole array. -/
abbrev whole (r : Fin 256) (j : Fin 1024) : EReal :=
  Adam.gradient (m ((c : Thread nD τ).loc main_arg2) (ix1 (0 : Fin 1))) (fun s => m ((c : Thread nD τ).loc main_arg0) (ix3 s r j)) (fun s => m ((c : Thread nD τ).loc main_arg1) (ix3 s r j))

theorem grad_eq : grad (c := c) (iblk m hO c 0 t) (iblk m hO c 1 t) (tbl m 0) r k = whole m c (at_ t r) k := by
  obtain rfl : c = 0 := Subsingleton.elim _ _
  unfold grad whole
  simp only [block0, block1]
  rfl

theorem apart {t t' : Fin grid0.N} (hne : t ≠ t') : cc0_transform_2 (grid0.coords t) ≠ cc0_transform_2 (grid0.coords t') :=
  fun e => hne (Fin.ext ((congrFun (place_array t) 0).symm.trans ((congrFun e 0).trans (congrFun (place_array t') 0))))

theorem entry : (ix2 (at_ t r) k : S256x1024.Idx) = (((cfgM m hO).win 5).blk t).view.emb (ix2 r k) :=
  funext fun d => Fin.ext ((((cfgM m hO).win 5).rect_emb_val t _ d).trans (place2 r k t d)).symm

theorem result5 : (dats m hO 0 c).arrAt 5 (cfgM m hO).N (ix2 (at_ t r) k)
    = whole m c (at_ t r) k := by
  refine (congrArg ((dats m hO 0 c).arrAt 5 (cfgM m hO).N) (entry r k m hO t)).trans
    (((dats m hO 0 c).arrAt_emb_eq_flushed 5 (fun _ _ _ _ hne => ((cfgM m hO).win 5).disjoint_blk (apart hne)) t (flush0_5 (adm m hO) t) (ix2 r k)).trans
    ((congrFun (after0_5 m hO c t) (ix2 r k)).trans ?_))
  unfold outsAt0
  dsimp only
  refine (out5_eq (iblk m hO c 0 t) (iblk m hO c 1 t) (iblk m hO c 2 t) (iblk m hO c 3 t) (iblk m hO c 4 t) (tbl m 0) r k).trans ?_
  rw [grad_eq]

theorem result6 : (dats m hO 0 c).arrAt 6 (cfgM m hO).N (ix2 (at_ t r) k)
    = Adam.delta (whole m c (at_ t r) k) (m ((c : Thread nD τ).loc main_arg3) (ix2 (at_ t r) k)) (m ((c : Thread nD τ).loc main_arg4) (ix2 (at_ t r) k)) (m ((c : Thread nD τ).loc main_arg5) (ix2 (at_ t r) k)) := by
  refine (congrArg ((dats m hO 0 c).arrAt 6 (cfgM m hO).N) (entry r k m hO t)).trans
    (((dats m hO 0 c).arrAt_emb_eq_flushed 6 (fun _ _ _ _ hne => ((cfgM m hO).win 6).disjoint_blk (apart hne)) t (flush0_6 (adm m hO) t) (ix2 r k)).trans
    ((congrFun (after0_6 m hO c t) (ix2 r k)).trans ?_))
  unfold outsAt0
  dsimp only
  refine (out6_eq (iblk m hO c 0 t) (iblk m hO c 1 t) (iblk m hO c 2 t) (iblk m hO c 3 t) (iblk m hO c 4 t) (tbl m 0) r k).trans ?_
  rw [grad_eq, block2, block3, block4]

theorem result7 : (dats m hO 0 c).arrAt 7 (cfgM m hO).N (ix2 (at_ t r) k)
    = Adam.first (whole m c (at_ t r) k) (m ((c : Thread nD τ).loc main_arg4) (ix2 (at_ t r) k)) := by
  refine (congrArg ((dats m hO 0 c).arrAt 7 (cfgM m hO).N) (entry r k m hO t)).trans
    (((dats m hO 0 c).arrAt_emb_eq_flushed 7 (fun _ _ _ _ hne => ((cfgM m hO).win 7).disjoint_blk (apart hne)) t (flush0_7 (adm m hO) t) (ix2 r k)).trans
    ((congrFun (after0_7 m hO c t) (ix2 r k)).trans ?_))
  unfold outsAt0
  dsimp only
  refine (out7_eq (iblk m hO c 0 t) (iblk m hO c 1 t) (iblk m hO c 2 t) (iblk m hO c 3 t) (iblk m hO c 4 t) (tbl m 0) r k).trans ?_
  rw [grad_eq, block3]

theorem result8 : (dats m hO 0 c).arrAt 8 (cfgM m hO).N (ix2 (at_ t r) k)
    = Adam.second (whole m c (at_ t r) k) (m ((c : Thread nD τ).loc main_arg5) (ix2 (at_ t r) k)) := by
  refine (congrArg ((dats m hO 0 c).arrAt 8 (cfgM m hO).N) (entry r k m hO t)).trans
    (((dats m hO 0 c).arrAt_emb_eq_flushed 8 (fun _ _ _ _ hne => ((cfgM m hO).win 8).disjoint_blk (apart hne)) t (flush0_8 (adm m hO) t) (ix2 r k)).trans
    ((congrFun (after0_8 m hO c t) (ix2 r k)).trans ?_))
  unfold outsAt0
  dsimp only
  refine (out8_eq (iblk m hO c 0 t) (iblk m hO c 1 t) (iblk m hO c 2 t) (iblk m hO c 3 t) (iblk m hO c 4 t) (tbl m 0) r k).trans ?_
  rw [grad_eq, block4]

section
variable (s o : Vec Ideal S4x256x1024 .bf16) (n : Vec Ideal S1 .i32) (w a v : Vec Ideal S256x1024 .f32) (i : S256x1024.Idx)

/-- The reference's gradient. -/
abbrev summed : EReal := Adam.gradient (n (ix1 (0 : Fin 1))) (fun k => s (ix3 k (i 0) (i 1))) (fun k => o (ix3 k (i 0) (i 1)))

theorem ref_summed : val_main_v7 (F := Ideal) s o n i = summed s o n i := by
  rw [val_main_v7_apply, val_main_cst_apply]
  refine Eq.trans (congrArg₂ (· + ·) ?_ (Finset.sum_congr rfl fun k _ => ?_)) (Adam.gradient_sum _ _ _)
  · simp [Ideal.ofBits, Ideal.ieee]
  · have e : idx_main_v7 i k = ix3 k (i 0) (i 1) := funext fun d => by fin_cases d <;> rfl
    have one (j : S1.Idx) : j = ix1 (0 : Fin 1) := funext fun d => by fin_cases d; exact Subsingleton.elim (α := Fin 1) _ _
    rw [val_main_v6_apply, val_main_v5_apply, val_main_call0_v0_apply, val_main_v4_apply, val_main_v1_apply, val_main_v3_apply,
      val_main_v2_apply, val_main_v0_apply, one (idx_main_v2 _), e]
    rfl

theorem ref_first : val_main_v12 (F := Ideal) s o n a i = Adam.first (summed s o n i) (a i) := by
  rw [← ref_summed]; rfl

theorem ref_second : val_main_v18 (F := Ideal) s o n v i = Adam.second (summed s o n i) (v i) := by
  rw [← ref_summed]; rfl

theorem ref_delta : val_main_v31 (F := Ideal) s o n w a v i = Adam.delta (summed s o n i) (w i) (a i) (v i) := by
  unfold Adam.delta
  rw [← ref_summed, ← Adam.div_first, ← Adam.div_second]; rfl

end

/-- Every row is a block's. -/
theorem ext_at {f g : Vec Ideal S256x1024 .f32} (h : ∀ (r : Fin 128) (t : Fin grid0.N) (k : Fin 1024), f (ix2 (at_ t r) k) = g (ix2 (at_ t r) k)) : f = g :=
  ext2 (a := 256) (b := 1024) fun r j => by
    have e : r = at_ (⟨r.val / 128, by show r.val / 128 < 2; omega⟩ : Fin grid0.N) ⟨r.val % 128, by omega⟩ := Fin.ext (by show r.val = r.val / 128 * 128 + r.val % 128; omega)
    rw [e]
    exact h ..

/-- The kernel does the optimiser's step. -/
theorem algebraic : Cert.algebraic_ApbIdeal_ApbRefIdeal := fun m g m' g' _ agree => by
  have hO : Ok m := trivial
  refine ⟨fun c => (dats m hO 0 c).arrAt 5 (cfgM m hO).N, fun c => (dats m hO 0 c).arrAt 6 (cfgM m hO).N,
    fun c => (dats m hO 0 c).arrAt 7 (cfgM m hO).N, fun c => (dats m hO 0 c).arrAt 8 (cfgM m hO).N,
    (θ_run defs _ _).mono (fun r h c => ⟨(h.2 c).1 5, (h.2 c).1 6, (h.2 c).1 7, (h.2 c).1 8, h.1 c⟩)
      (θ_run_and (unchanged m g hO) (run_main m g hO)), ?_⟩
  refine (θ_run Cert.ApbRefIdeal.defs _ _).mono (fun r h c => ?_) (Cert.ApbRefIdeal.Value.run (F := Ideal) m' g')
  obtain ⟨e, e0, e1, e2, kept⟩ := h c
  obtain ⟨a0, a1, a2, a3, a4, a5⟩ := agree c
  refine ⟨e.trans ?_, e0.trans ?_, e1.trans ?_, e2.trans ?_, kept⟩
  · rw [val_main_v7_eq, a0, a1, a2]
    exact ext_at fun r t k => (ref_summed ..).trans (result5 r k m hO c t).symm
  · rw [val_main_v31_eq, a0, a1, a2, a3, a4, a5]
    exact ext_at fun r t k => (ref_delta ..).trans (result6 r k m hO c t).symm
  · rw [val_main_v12_eq, a0, a1, a2, a4]
    exact ext_at fun r t k => (ref_first ..).trans (result7 r k m hO c t).symm
  · rw [val_main_v18_eq, a0, a1, a2, a5]
    exact ext_at fun r t k => (ref_second ..).trans (result8 r k m hO c t).symm

end Cert.Mat.Apb

end
-- ==== Proof.Mat.Aup.lean ====
/- The optimiser's step of the projection up: the arrays the kernel leaves are the reference's. -/
module

public import proofs.«01_k».proof.Defs
public import proofs.«01_k».proof.Proof.Mat.Adam
public import proofs.«01_k».proof.Proof.Gen.Aup.Frame
public import proofs.«01_k».proof.Proof.Gen.AupIdeal.Frame
public import proofs.«01_k».proof.Proof.Gen.AupRefIdeal.Run
public import proofs.«01_k».proof.Proof.Gen.AupRefIdeal.Read
public import Idealize.ShloMosaic.Lib.Pipeline.Value

@[expose] public section

set_option maxRecDepth 16384

noncomputable section

namespace Cert.Mat.Aup

open Idealize.ShloMosaic Idealize.ShloMosaic.TcCoe Cert.AupIdeal Cert.AupIdeal.Gen Cert.AupRefIdeal.Read

theorem named_first : Named.named (F := Ideal) κ "m_hat" (φ := .f32) 0x3FC48605#32 = ((8388608 / 5463681 : ℝ) : EReal) :=
  IdealRules.named_const.ideal_named_scalar _ _ _ _ rfl

theorem named_second : Named.named (F := Ideal) κ "v_hat" (φ := .f32) 0x42C8E6D3#32 = ((268435456 / 2672307 : ℝ) : EReal) :=
  IdealRules.named_const.ideal_named_scalar _ _ _ _ rfl

variable {c : Dev nD} {i : grid0.Coords} {a3 a4 : Memref sig .tc .vmem S4x256x512 .bf16}
  {a5 a6 a7 a8 a9 a10 a11 : Memref sig .tc .vmem S256x512 .f32} {h3 : a3.IsWhole} {h4 : a4.IsWhole} {h5 : a5.IsWhole}
  {h6 : a6.IsWhole} {h7 : a7.IsWhole} {h8 : a8.IsWhole} {h9 : a9.IsWhole} {h10 : a10.IsWhole} {h11 : a11.IsWhole}
variable (x0 x1 : Vec Ideal S4x256x512 .bf16) (x2 x3 x4 : Vec Ideal S256x512 .f32) (q : TbBuf0 (F := Ideal) c tbM0_0)
  (r : Fin 256) (k : Fin 512)

/-- The number of the own chip. -/
def chip : BitVec 32 := q (ix1 (0 : Fin 1))

/-- The gradient's entry of a block. -/
abbrev grad : EReal := Adam.gradient (chip q) (fun s => x0 (ix3 s r k)) (fun s => x1 (ix3 s r k))

theorem word_eq : kernelRun0_A.sl.r c q = chip q := by
  unfold kernelRun0_A.sl.r chip
  exact congrArg q (funext fun d => by fin_cases d; exact Subsingleton.elim (α := Fin 1) _ _)

theorem pay2_eq : k0_pay2 (kernelRun0_A.sl.r_1 c a3 h3 a4 h4 x0 x1 q) (kernelRun0_A.sl.v30 c q)
      (View.readAt (Elt Ideal) a4.view (Rect.unit (s := S4x256x512) ![3, 0, 0] S1x256x512.size inb_S4x256x512_S1x256x512_3_0_0).toLoadRect (h4.unread x1))
      (View.readAt (Elt Ideal) a3.view (Rect.unit (s := S4x256x512) ![3, 0, 0] S1x256x512.size inb_S4x256x512_S1x256x512_3_0_0).toLoadRect (h3.unread x0)) (ix2 r k)
    = grad x0 x1 q r k := by
  unfold kernelRun0_A.sl.r_1 kernelRun0_A.sl.v30 k0_pay2 k0_pay1
  pointwise
  rw [word_eq]
  have e (s : Fin 4) (inb) (b : BitVec 1) := congrArg₂ (Scalar.select b) (Adam.read_slot a4 h4 x1 s inb 0 r k)
    (Adam.read_slot a3 h3 x0 s inb 0 r k)
  exact congrArg₂ (· + ·) (congrArg₂ (· + ·) (congrArg₂ (· + ·) (e 0 _ _) (e 1 _ _)) (e 2 _ _)) (e 3 _ _)

theorem out5_eq : out0_A_5 c i a3 h3 a4 h4 a5 h5 a6 h6 a7 h7 a8 h8 a9 h9 a10 h10 a11 h11 x0 x1 x2 x3 x4 q (ix2 r k)
    = grad x0 x1 q r k := by
  unfold out0_A_5
  rw [View.read_writes_eq_canon _ _ _ (cover0_A_5 c i a3 h3 a4 h4 a5 h5 a6 h6 a7 h7 a8 h8 a9 h9 a10 h10 a11 h11 x0 x1 x2 x3 x4 q)]
  unfold kernelRun0_A
  dsimp only
  rw [View.canon_unit_zero (S := S256x512) hz2]
  exact pay2_eq ..

theorem out6_eq : out0_A_6 c i a3 h3 a4 h4 a5 h5 a6 h6 a7 h7 a8 h8 a9 h9 a10 h10 a11 h11 x0 x1 x2 x3 x4 q (ix2 r k)
    = Adam.delta (grad x0 x1 q r k) (x2 (ix2 r k)) (x3 (ix2 r k)) (x4 (ix2 r k)) := by
  unfold out0_A_6
  rw [View.read_writes_eq_canon _ _ _ (cover0_A_6 c i a3 h3 a4 h4 a5 h5 a6 h6 a7 h7 a8 h8 a9 h9 a10 h10 a11 h11 x0 x1 x2 x3 x4 q)]
  unfold kernelRun0_A
  dsimp only
  rw [View.canon_unit_zero (S := S256x512) hz2]
  unfold kernelRun0_A.sl.r_4
  rw [read_whole a5 h5 x2 hz2, read_whole a6 h6 x3 hz2, read_whole a7 h7 x4 hz2]
  unfold Adam.delta Adam.first Adam.second
  rw [← pay2_eq (a3 := a3) (h3 := h3) (a4 := a4) (h4 := h4), ← named_first, ← named_second]
  rfl

theorem out7_eq : out0_A_7 c i a3 h3 a4 h4 a5 h5 a6 h6 a7 h7 a8 h8 a9 h9 a10 h10 a11 h11 x0 x1 x2 x3 x4 q (ix2 r k)
    = Adam.first (grad x0 x1 q r k) (x3 (ix2 r k)) := by
  unfold out0_A_7
  rw [View.read_writes_eq_canon _ _ _ (cover0_A_7 c i a3 h3 a4 h4 a5 h5 a6 h6 a7 h7 a8 h8 a9 h9 a10 h10 a11 h11 x0 x1 x2 x3 x4 q)]
  unfold kernelRun0_A
  dsimp only
  rw [View.canon_unit_zero (S := S256x512) hz2]
  unfold kernelRun0_A.sl.r_2
  rw [read_whole a6 h6 x3 hz2, ← pay2_eq (a3 := a3) (h3 := h3) (a4 := a4) (h4 := h4)]
  rfl

theorem out8_eq : out0_A_8 c i a3 h3 a4 h4 a5 h5 a6 h6 a7 h7 a8 h8 a9 h9 a10 h10 a11 h11 x0 x1 x2 x3 x4 q (ix2 r k)
    = Adam.second (grad x0 x1 q r k) (x4 (ix2 r k)) := by
  unfold out0_A_8
  rw [View.read_writes_eq_canon _ _ _ (cover0_A_8 c i a3 h3 a4 h4 a5 h5 a6 h6 a7 h7 a8 h8 a9 h9 a10 h10 a11 h11 x0 x1 x2 x3 x4 q)]
  unfold kernelRun0_A
  dsimp only
  rw [View.canon_unit_zero (S := S256x512) hz2]
  unfold kernelRun0_A.sl.r_3
  rw [read_whole a7 h7 x4 hz2, ← pay2_eq (a3 := a3) (h3 := h3) (a4 := a4) (h4 := h4)]
  rfl

variable (m : (ℓ : Loc nD τ sig) → Buf (Elt Ideal) ℓ) (hO : Ok m) (c : Dev nD) (t : Fin (cfgM m hO).N)

/-- A block's row in the whole array. -/
def at_ (t : Fin grid0.N) (d : Fin 256) : Fin 1024 := ⟨t.val * 256 + d.val, by have : t.val < 4 := t.isLt; omega⟩

theorem place_stack : ∀ t : Fin grid0.N, cc0_transform_0 (grid0.coords t) = ![0, t.val, 0] := by decide +kernel
theorem place_array : ∀ t : Fin grid0.N, cc0_transform_2 (grid0.coords t) = ![t.val, 0] := by decide +kernel

/-- Where a block's entry sits in a stack. -/
theorem place3 (t : Fin grid0.N) (s : Fin 4) (d : Fin 3) :
    cc0_transform_0 (grid0.coords t) d * S4x256x512.size d + (ix3 s r k : S4x256x512.Idx) d = (ix3 s (at_ t r) k : S4x1024x512.Idx) d := by
  rw [place_stack]
  fin_cases d
  · show 0 * 4 + s.val = s.val; omega
  · rfl
  · show 0 * 512 + k.val = k.val; omega

/-- Where a block's entry sits in an array. -/
theorem place2 (t : Fin grid0.N) (d : Fin 2) :
    cc0_transform_2 (grid0.coords t) d * S256x512.size d + (ix2 r k : S256x512.Idx) d = (ix2 (at_ t r) k : S1024x512.Idx) d := by
  rw [place_array]
  fin_cases d
  · rfl
  · show 0 * 512 + k.val = k.val; omega

theorem block0 (s : Fin 4) : iblk m hO c 0 t (ix3 s r k) = m ((c : Thread nD τ).loc main_arg0) (ix3 s (at_ t r) k) :=
  congrArg (m ((c : Thread nD τ).loc main_arg0)) (funext fun d => Fin.ext ((((cfgM m hO).win 0).rect_emb_val t _ d).trans (place3 r k t s d)))

theorem block1 (s : Fin 4) : iblk m hO c 1 t (ix3 s r k) = m ((c : Thread nD τ).loc main_arg1) (ix3 s (at_ t r) k) :=
  congrArg (m ((c : Thread nD τ).loc main_arg1)) (funext fun d => Fin.ext ((((cfgM m hO).win 1).rect_emb_val t _ d).trans (place3 r k t s d)))

theorem block2 : iblk m hO c 2 t (ix2 r k) = m ((c : Thread nD τ).loc main_arg3) (ix2 (at_ t r) k) :=
  congrArg (m ((c : Thread nD τ).loc main_arg3)) (funext fun d => Fin.ext ((((cfgM m hO).win 2).rect_emb_val t _ d).trans (place2 r k t d)))

theorem block3 : iblk m hO c 3 t (ix2 r k) = m ((c : Thread nD τ).loc main_arg4) (ix2 (at_ t r) k) :=
  congrArg (m ((c : Thread nD τ).loc main_arg4)) (funext fun d => Fin.ext ((((cfgM m hO).win 3).rect_emb_val t _ d).trans (place2 r k t d)))

theorem block4 : iblk m hO c 4 t (ix2 r k) = m ((c : Thread nD τ).loc main_arg5) (ix2 (at_ t r) k) :=
  congrArg (m ((c : Thread nD τ).loc main_arg5)) (funext fun d => Fin.ext ((((cfgM m hO).win 4).rect_emb_val t _ d).trans (place2 r k t d)))

/-- The gradient's entry of the whole array. -/
abbrev whole (r : Fin 1024) (j : Fin 512) : EReal :=
  Adam.gradient (m ((c : Thread nD τ).loc main_arg2) (ix1 (0 : Fin 1))) (fun s => m ((c : Thread nD τ).loc main_arg0) (ix3 s r j)) (fun s => m ((c : Thread nD τ).loc main_arg1) (ix3 s r j))

theorem grad_eq : grad (c := c) (iblk m hO c 0 t) (iblk m hO c 1 t) (tbl m 0) r k = whole m c (at_ t r) k := by
  obtain rfl : c = 0 := Subsingleton.elim _ _
  unfold grad whole
  simp only [block0, block1]
  rfl

theorem apart {t t' : Fin grid0.N} (hne : t ≠ t') : cc0_transform_2 (grid0.coords t) ≠ cc0_transform_2 (grid0.coords t') :=
  fun e => hne (Fin.ext ((congrFun (place_array t) 0).symm.trans ((congrFun e 0).trans (congrFun (place_array t') 0))))

theorem entry : (ix2 (at_ t r) k : S1024x512.Idx) = (((cfgM m hO).win 5).blk t).view.emb (ix2 r k) :=
  funext fun d => Fin.ext ((((cfgM m hO).win 5).rect_emb_val t _ d).trans (place2 r k t d)).symm

theorem result5 : (dats m hO 0 c).arrAt 5 (cfgM m hO).N (ix2 (at_ t r) k)
    = whole m c (at_ t r) k := by
  refine (congrArg ((dats m hO 0 c).arrAt 5 (cfgM m hO).N) (entry r k m hO t)).trans
    (((dats m hO 0 c).arrAt_emb_eq_flushed 5 (fun _ _ _ _ hne => ((cfgM m hO).win 5).disjoint_blk (apart hne)) t (flush0_5 (adm m hO) t) (ix2 r k)).trans
    ((congrFun (after0_5 m hO c t) (ix2 r k)).trans ?_))
  unfold outsAt0
  dsimp only
  refine (out5_eq (iblk m hO c 0 t) (iblk m hO c 1 t) (iblk m hO c 2 t) (iblk m hO c 3 t) (iblk m hO c 4 t) (tbl m 0) r k).trans ?_
  rw [grad_eq]

theorem result6 : (dats m hO 0 c).arrAt 6 (cfgM m hO).N (ix2 (at_ t r) k)
    = Adam.delta (whole m c (at_ t r) k) (m ((c : Thread nD τ).loc main_arg3) (ix2 (at_ t r) k)) (m ((c : Thread nD τ).loc main_arg4) (ix2 (at_ t r) k)) (m ((c : Thread nD τ).loc main_arg5) (ix2 (at_ t r) k)) := by
  refine (congrArg ((dats m hO 0 c).arrAt 6 (cfgM m hO).N) (entry r k m hO t)).trans
    (((dats m hO 0 c).arrAt_emb_eq_flushed 6 (fun _ _ _ _ hne => ((cfgM m hO).win 6).disjoint_blk (apart hne)) t (flush0_6 (adm m hO) t) (ix2 r k)).trans
    ((congrFun (after0_6 m hO c t) (ix2 r k)).trans ?_))
  unfold outsAt0
  dsimp only
  refine (out6_eq (iblk m hO c 0 t) (iblk m hO c 1 t) (iblk m hO c 2 t) (iblk m hO c 3 t) (iblk m hO c 4 t) (tbl m 0) r k).trans ?_
  rw [grad_eq, block2, block3, block4]

theorem result7 : (dats m hO 0 c).arrAt 7 (cfgM m hO).N (ix2 (at_ t r) k)
    = Adam.first (whole m c (at_ t r) k) (m ((c : Thread nD τ).loc main_arg4) (ix2 (at_ t r) k)) := by
  refine (congrArg ((dats m hO 0 c).arrAt 7 (cfgM m hO).N) (entry r k m hO t)).trans
    (((dats m hO 0 c).arrAt_emb_eq_flushed 7 (fun _ _ _ _ hne => ((cfgM m hO).win 7).disjoint_blk (apart hne)) t (flush0_7 (adm m hO) t) (ix2 r k)).trans
    ((congrFun (after0_7 m hO c t) (ix2 r k)).trans ?_))
  unfold outsAt0
  dsimp only
  refine (out7_eq (iblk m hO c 0 t) (iblk m hO c 1 t) (iblk m hO c 2 t) (iblk m hO c 3 t) (iblk m hO c 4 t) (tbl m 0) r k).trans ?_
  rw [grad_eq, block3]

theorem result8 : (dats m hO 0 c).arrAt 8 (cfgM m hO).N (ix2 (at_ t r) k)
    = Adam.second (whole m c (at_ t r) k) (m ((c : Thread nD τ).loc main_arg5) (ix2 (at_ t r) k)) := by
  refine (congrArg ((dats m hO 0 c).arrAt 8 (cfgM m hO).N) (entry r k m hO t)).trans
    (((dats m hO 0 c).arrAt_emb_eq_flushed 8 (fun _ _ _ _ hne => ((cfgM m hO).win 8).disjoint_blk (apart hne)) t (flush0_8 (adm m hO) t) (ix2 r k)).trans
    ((congrFun (after0_8 m hO c t) (ix2 r k)).trans ?_))
  unfold outsAt0
  dsimp only
  refine (out8_eq (iblk m hO c 0 t) (iblk m hO c 1 t) (iblk m hO c 2 t) (iblk m hO c 3 t) (iblk m hO c 4 t) (tbl m 0) r k).trans ?_
  rw [grad_eq, block4]

section
variable (s o : Vec Ideal S4x1024x512 .bf16) (n : Vec Ideal S1 .i32) (w a v : Vec Ideal S1024x512 .f32) (i : S1024x512.Idx)

/-- The reference's gradient. -/
abbrev summed : EReal := Adam.gradient (n (ix1 (0 : Fin 1))) (fun k => s (ix3 k (i 0) (i 1))) (fun k => o (ix3 k (i 0) (i 1)))

theorem ref_summed : val_main_v7 (F := Ideal) s o n i = summed s o n i := by
  rw [val_main_v7_apply, val_main_cst_apply]
  refine Eq.trans (congrArg₂ (· + ·) ?_ (Finset.sum_congr rfl fun k _ => ?_)) (Adam.gradient_sum _ _ _)
  · simp [Ideal.ofBits, Ideal.ieee]
  · have e : idx_main_v7 i k = ix3 k (i 0) (i 1) := funext fun d => by fin_cases d <;> rfl
    have one (j : S1.Idx) : j = ix1 (0 : Fin 1) := funext fun d => by fin_cases d; exact Subsingleton.elim (α := Fin 1) _ _
    rw [val_main_v6_apply, val_main_v5_apply, val_main_call0_v0_apply, val_main_v4_apply, val_main_v1_apply, val_main_v3_apply,
      val_main_v2_apply, val_main_v0_apply, one (idx_main_v2 _), e]
    rfl

theorem ref_first : val_main_v12 (F := Ideal) s o n a i = Adam.first (summed s o n i) (a i) := by
  rw [← ref_summed]; rfl

theorem ref_second : val_main_v18 (F := Ideal) s o n v i = Adam.second (summed s o n i) (v i) := by
  rw [← ref_summed]; rfl

theorem ref_delta : val_main_v31 (F := Ideal) s o n w a v i = Adam.delta (summed s o n i) (w i) (a i) (v i) := by
  unfold Adam.delta
  rw [← ref_summed, ← Adam.div_first, ← Adam.div_second]; rfl

end

/-- Every row is a block's. -/
theorem ext_at {f g : Vec Ideal S1024x512 .f32} (h : ∀ (r : Fin 256) (t : Fin grid0.N) (k : Fin 512), f (ix2 (at_ t r) k) = g (ix2 (at_ t r) k)) : f = g :=
  ext2 (a := 1024) (b := 512) fun r j => by
    have e : r = at_ (⟨r.val / 256, by show r.val / 256 < 4; omega⟩ : Fin grid0.N) ⟨r.val % 256, by omega⟩ := Fin.ext (by show r.val = r.val / 256 * 256 + r.val % 256; omega)
    rw [e]
    exact h ..

/-- The kernel does the optimiser's step. -/
theorem algebraic : Cert.algebraic_AupIdeal_AupRefIdeal := fun m g m' g' _ agree => by
  have hO : Ok m := trivial
  refine ⟨fun c => (dats m hO 0 c).arrAt 5 (cfgM m hO).N, fun c => (dats m hO 0 c).arrAt 6 (cfgM m hO).N,
    fun c => (dats m hO 0 c).arrAt 7 (cfgM m hO).N, fun c => (dats m hO 0 c).arrAt 8 (cfgM m hO).N,
    (θ_run defs _ _).mono (fun r h c => ⟨(h.2 c).1 5, (h.2 c).1 6, (h.2 c).1 7, (h.2 c).1 8, h.1 c⟩)
      (θ_run_and (unchanged m g hO) (run_main m g hO)), ?_⟩
  refine (θ_run Cert.AupRefIdeal.defs _ _).mono (fun r h c => ?_) (Cert.AupRefIdeal.Value.run (F := Ideal) m' g')
  obtain ⟨e, e0, e1, e2, kept⟩ := h c
  obtain ⟨a0, a1, a2, a3, a4, a5⟩ := agree c
  refine ⟨e.trans ?_, e0.trans ?_, e1.trans ?_, e2.trans ?_, kept⟩
  · rw [val_main_v7_eq, a0, a1, a2]
    exact ext_at fun r t k => (ref_summed ..).trans (result5 r k m hO c t).symm
  · rw [val_main_v31_eq, a0, a1, a2, a3, a4, a5]
    exact ext_at fun r t k => (ref_delta ..).trans (result6 r k m hO c t).symm
  · rw [val_main_v12_eq, a0, a1, a2, a4]
    exact ext_at fun r t k => (ref_first ..).trans (result7 r k m hO c t).symm
  · rw [val_main_v18_eq, a0, a1, a2, a5]
    exact ext_at fun r t k => (ref_second ..).trans (result8 r k m hO c t).symm

end Cert.Mat.Aup

end
-- ==== Proof.Mat.Adown.lean ====
/- The optimiser's step of the projection down: the arrays the kernel leaves are the reference's. -/
module

public import proofs.«01_k».proof.Defs
public import proofs.«01_k».proof.Proof.Mat.Adam
public import proofs.«01_k».proof.Proof.Gen.Adown.Frame
public import proofs.«01_k».proof.Proof.Gen.AdownIdeal.Frame
public import proofs.«01_k».proof.Proof.Gen.AdownRefIdeal.Run
public import proofs.«01_k».proof.Proof.Gen.AdownRefIdeal.Read
public import Idealize.ShloMosaic.Lib.Pipeline.Value

@[expose] public section

set_option maxRecDepth 16384

noncomputable section

namespace Cert.Mat.Adown

open Idealize.ShloMosaic Idealize.ShloMosaic.TcCoe Cert.AdownIdeal Cert.AdownIdeal.Gen Cert.AdownRefIdeal.Read

theorem named_first : Named.named (F := Ideal) κ "m_hat" (φ := .f32) 0x3FC48605#32 = ((8388608 / 5463681 : ℝ) : EReal) :=
  IdealRules.named_const.ideal_named_scalar _ _ _ _ rfl

theorem named_second : Named.named (F := Ideal) κ "v_hat" (φ := .f32) 0x42C8E6D3#32 = ((268435456 / 2672307 : ℝ) : EReal) :=
  IdealRules.named_const.ideal_named_scalar _ _ _ _ rfl

variable {c : Dev nD} {i : grid0.Coords} {a3 a4 : Memref sig .tc .vmem S4x128x1024 .bf16}
  {a5 a6 a7 a8 a9 a10 a11 : Memref sig .tc .vmem S128x1024 .f32} {h3 : a3.IsWhole} {h4 : a4.IsWhole} {h5 : a5.IsWhole}
  {h6 : a6.IsWhole} {h7 : a7.IsWhole} {h8 : a8.IsWhole} {h9 : a9.IsWhole} {h10 : a10.IsWhole} {h11 : a11.IsWhole}
variable (x0 x1 : Vec Ideal S4x128x1024 .bf16) (x2 x3 x4 : Vec Ideal S128x1024 .f32) (q : TbBuf0 (F := Ideal) c tbM0_0)
  (r : Fin 128) (k : Fin 1024)

/-- The number of the own chip. -/
def chip : BitVec 32 := q (ix1 (0 : Fin 1))

/-- The gradient's entry of a block. -/
abbrev grad : EReal := Adam.gradient (chip q) (fun s => x0 (ix3 s r k)) (fun s => x1 (ix3 s r k))

theorem word_eq : kernelRun0_A.sl.r c q = chip q := by
  unfold kernelRun0_A.sl.r chip
  exact congrArg q (funext fun d => by fin_cases d; exact Subsingleton.elim (α := Fin 1) _ _)

theorem pay2_eq : k0_pay2 (kernelRun0_A.sl.r_1 c a3 h3 a4 h4 x0 x1 q) (kernelRun0_A.sl.v30 c q)
      (View.readAt (Elt Ideal) a4.view (Rect.unit (s := S4x128x1024) ![3, 0, 0] S1x128x1024.size inb_S4x128x1024_S1x128x1024_3_0_0).toLoadRect (h4.unread x1))
      (View.readAt (Elt Ideal) a3.view (Rect.unit (s := S4x128x1024) ![3, 0, 0] S1x128x1024.size inb_S4x128x1024_S1x128x1024_3_0_0).toLoadRect (h3.unread x0)) (ix2 r k)
    = grad x0 x1 q r k := by
  unfold kernelRun0_A.sl.r_1 kernelRun0_A.sl.v30 k0_pay2 k0_pay1
  pointwise
  rw [word_eq]
  have e (s : Fin 4) (inb) (b : BitVec 1) := congrArg₂ (Scalar.select b) (Adam.read_slot a4 h4 x1 s inb 0 r k)
    (Adam.read_slot a3 h3 x0 s inb 0 r k)
  exact congrArg₂ (· + ·) (congrArg₂ (· + ·) (congrArg₂ (· + ·) (e 0 _ _) (e 1 _ _)) (e 2 _ _)) (e 3 _ _)

theorem out5_eq : out0_A_5 c i a3 h3 a4 h4 a5 h5 a6 h6 a7 h7 a8 h8 a9 h9 a10 h10 a11 h11 x0 x1 x2 x3 x4 q (ix2 r k)
    = grad x0 x1 q r k := by
  unfold out0_A_5
  rw [View.read_writes_eq_canon _ _ _ (cover0_A_5 c i a3 h3 a4 h4 a5 h5 a6 h6 a7 h7 a8 h8 a9 h9 a10 h10 a11 h11 x0 x1 x2 x3 x4 q)]
  unfold kernelRun0_A
  dsimp only
  rw [View.canon_unit_zero (S := S128x1024) hz2]
  exact pay2_eq ..

theorem out6_eq : out0_A_6 c i a3 h3 a4 h4 a5 h5 a6 h6 a7 h7 a8 h8 a9 h9 a10 h10 a11 h11 x0 x1 x2 x3 x4 q (ix2 r k)
    = Adam.delta (grad x0 x1 q r k) (x2 (ix2 r k)) (x3 (ix2 r k)) (x4 (ix2 r k)) := by
  unfold out0_A_6
  rw [View.read_writes_eq_canon _ _ _ (cover0_A_6 c i a3 h3 a4 h4 a5 h5 a6 h6 a7 h7 a8 h8 a9 h9 a10 h10 a11 h11 x0 x1 x2 x3 x4 q)]
  unfold kernelRun0_A
  dsimp only
  rw [View.canon_unit_zero (S := S128x1024) hz2]
  unfold kernelRun0_A.sl.r_4
  rw [read_whole a5 h5 x2 hz2, read_whole a6 h6 x3 hz2, read_whole a7 h7 x4 hz2]
  unfold Adam.delta Adam.first Adam.second
  rw [← pay2_eq (a3 := a3) (h3 := h3) (a4 := a4) (h4 := h4), ← named_first, ← named_second]
  rfl

theorem out7_eq : out0_A_7 c i a3 h3 a4 h4 a5 h5 a6 h6 a7 h7 a8 h8 a9 h9 a10 h10 a11 h11 x0 x1 x2 x3 x4 q (ix2 r k)
    = Adam.first (grad x0 x1 q r k) (x3 (ix2 r k)) := by
  unfold out0_A_7
  rw [View.read_writes_eq_canon _ _ _ (cover0_A_7 c i a3 h3 a4 h4 a5 h5 a6 h6 a7 h7 a8 h8 a9 h9 a10 h10 a11 h11 x0 x1 x2 x3 x4 q)]
  unfold kernelRun0_A
  dsimp only
  rw [View.canon_unit_zero (S := S128x1024) hz2]
  unfold kernelRun0_A.sl.r_2
  rw [read_whole a6 h6 x3 hz2, ← pay2_eq (a3 := a3) (h3 := h3) (a4 := a4) (h4 := h4)]
  rfl

theorem out8_eq : out0_A_8 c i a3 h3 a4 h4 a5 h5 a6 h6 a7 h7 a8 h8 a9 h9 a10 h10 a11 h11 x0 x1 x2 x3 x4 q (ix2 r k)
    = Adam.second (grad x0 x1 q r k) (x4 (ix2 r k)) := by
  unfold out0_A_8
  rw [View.read_writes_eq_canon _ _ _ (cover0_A_8 c i a3 h3 a4 h4 a5 h5 a6 h6 a7 h7 a8 h8 a9 h9 a10 h10 a11 h11 x0 x1 x2 x3 x4 q)]
  unfold kernelRun0_A
  dsimp only
  rw [View.canon_unit_zero (S := S128x1024) hz2]
  unfold kernelRun0_A.sl.r_3
  rw [read_whole a7 h7 x4 hz2, ← pay2_eq (a3 := a3) (h3 := h3) (a4 := a4) (h4 := h4)]
  rfl

variable (m : (ℓ : Loc nD τ sig) → Buf (Elt Ideal) ℓ) (hO : Ok m) (c : Dev nD) (t : Fin (cfgM m hO).N)

/-- A block's row in the whole array. -/
def at_ (t : Fin grid0.N) (d : Fin 128) : Fin 512 := ⟨t.val * 128 + d.val, by have : t.val < 4 := t.isLt; omega⟩

theorem place_stack : ∀ t : Fin grid0.N, cc0_transform_0 (grid0.coords t) = ![0, t.val, 0] := by decide +kernel
theorem place_array : ∀ t : Fin grid0.N, cc0_transform_2 (grid0.coords t) = ![t.val, 0] := by decide +kernel

/-- Where a block's entry sits in a stack. -/
theorem place3 (t : Fin grid0.N) (s : Fin 4) (d : Fin 3) :
    cc0_transform_0 (grid0.coords t) d * S4x128x1024.size d + (ix3 s r k : S4x128x1024.Idx) d = (ix3 s (at_ t r) k : S4x512x1024.Idx) d := by
  rw [place_stack]
  fin_cases d
  · show 0 * 4 + s.val = s.val; omega
  · rfl
  · show 0 * 1024 + k.val = k.val; omega

/-- Where a block's entry sits in an array. -/
theorem place2 (t : Fin grid0.N) (d : Fin 2) :
    cc0_transform_2 (grid0.coords t) d * S128x1024.size d + (ix2 r k : S128x1024.Idx) d = (ix2 (at_ t r) k : S512x1024.Idx) d := by
  rw [place_array]
  fin_cases d
  · rfl
  · show 0 * 1024 + k.val = k.val; omega

theorem block0 (s : Fin 4) : iblk m hO c 0 t (ix3 s r k) = m ((c : Thread nD τ).loc main_arg0) (ix3 s (at_ t r) k) :=
  congrArg (m ((c : Thread nD τ).loc main_arg0)) (funext fun d => Fin.ext ((((cfgM m hO).win 0).rect_emb_val t _ d).trans (place3 r k t s d)))

theorem block1 (s : Fin 4) : iblk m hO c 1 t (ix3 s r k) = m ((c : Thread nD τ).loc main_arg1) (ix3 s (at_ t r) k) :=
  congrArg (m ((c : Thread nD τ).loc main_arg1)) (funext fun d => Fin.ext ((((cfgM m hO).win 1).rect_emb_val t _ d).trans (place3 r k t s d)))

theorem block2 : iblk m hO c 2 t (ix2 r k) = m ((c : Thread nD τ).loc main_arg3) (ix2 (at_ t r) k) :=
  congrArg (m ((c : Thread nD τ).loc main_arg3)) (funext fun d => Fin.ext ((((cfgM m hO).win 2).rect_emb_val t _ d).trans (place2 r k t d)))

theorem block3 : iblk m hO c 3 t (ix2 r k) = m ((c : Thread nD τ).loc main_arg4) (ix2 (at_ t r) k) :=
  congrArg (m ((c : Thread nD τ).loc main_arg4)) (funext fun d => Fin.ext ((((cfgM m hO).win 3).rect_emb_val t _ d).trans (place2 r k t d)))

theorem block4 : iblk m hO c 4 t (ix2 r k) = m ((c : Thread nD τ).loc main_arg5) (ix2 (at_ t r) k) :=
  congrArg (m ((c : Thread nD τ).loc main_arg5)) (funext fun d => Fin.ext ((((cfgM m hO).win 4).rect_emb_val t _ d).trans (place2 r k t d)))

/-- The gradient's entry of the whole array. -/
abbrev whole (r : Fin 512) (j : Fin 1024) : EReal :=
  Adam.gradient (m ((c : Thread nD τ).loc main_arg2) (ix1 (0 : Fin 1))) (fun s => m ((c : Thread nD τ).loc main_arg0) (ix3 s r j)) (fun s => m ((c : Thread nD τ).loc main_arg1) (ix3 s r j))

theorem grad_eq : grad (c := c) (iblk m hO c 0 t) (iblk m hO c 1 t) (tbl m 0) r k = whole m c (at_ t r) k := by
  obtain rfl : c = 0 := Subsingleton.elim _ _
  unfold grad whole
  simp only [block0, block1]
  rfl

theorem apart {t t' : Fin grid0.N} (hne : t ≠ t') : cc0_transform_2 (grid0.coords t) ≠ cc0_transform_2 (grid0.coords t') :=
  fun e => hne (Fin.ext ((congrFun (place_array t) 0).symm.trans ((congrFun e 0).trans (congrFun (place_array t') 0))))

theorem entry : (ix2 (at_ t r) k : S512x1024.Idx) = (((cfgM m hO).win 5).blk t).view.emb (ix2 r k) :=
  funext fun d => Fin.ext ((((cfgM m hO).win 5).rect_emb_val t _ d).trans (place2 r k t d)).symm

theorem result5 : (dats m hO 0 c).arrAt 5 (cfgM m hO).N (ix2 (at_ t r) k)
    = whole m c (at_ t r) k := by
  refine (congrArg ((dats m hO 0 c).arrAt 5 (cfgM m hO).N) (entry r k m hO t)).trans
    (((dats m hO 0 c).arrAt_emb_eq_flushed 5 (fun _ _ _ _ hne => ((cfgM m hO).win 5).disjoint_blk (apart hne)) t (flush0_5 (adm m hO) t) (ix2 r k)).trans
    ((congrFun (after0_5 m hO c t) (ix2 r k)).trans ?_))
  unfold outsAt0
  dsimp only
  refine (out5_eq (iblk m hO c 0 t) (iblk m hO c 1 t) (iblk m hO c 2 t) (iblk m hO c 3 t) (iblk m hO c 4 t) (tbl m 0) r k).trans ?_
  rw [grad_eq]

theorem result6 : (dats m hO 0 c).arrAt 6 (cfgM m hO).N (ix2 (at_ t r) k)
    = Adam.delta (whole m c (at_ t r) k) (m ((c : Thread nD τ).loc main_arg3) (ix2 (at_ t r) k)) (m ((c : Thread nD τ).loc main_arg4) (ix2 (at_ t r) k)) (m ((c : Thread nD τ).loc main_arg5) (ix2 (at_ t r) k)) := by
  refine (congrArg ((dats m hO 0 c).arrAt 6 (cfgM m hO).N) (entry r k m hO t)).trans
    (((dats m hO 0 c).arrAt_emb_eq_flushed 6 (fun _ _ _ _ hne => ((cfgM m hO).win 6).disjoint_blk (apart hne)) t (flush0_6 (adm m hO) t) (ix2 r k)).trans
    ((congrFun (after0_6 m hO c t) (ix2 r k)).trans ?_))
  unfold outsAt0
  dsimp only
  refine (out6_eq (iblk m hO c 0 t) (iblk m hO c 1 t) (iblk m hO c 2 t) (iblk m hO c 3 t) (iblk m hO c 4 t) (tbl m 0) r k).trans ?_
  rw [grad_eq, block2, block3, block4]

theorem result7 : (dats m hO 0 c).arrAt 7 (cfgM m hO).N (ix2 (at_ t r) k)
    = Adam.first (whole m c (at_ t r) k) (m ((c : Thread nD τ).loc main_arg4) (ix2 (at_ t r) k)) := by
  refine (congrArg ((dats m hO 0 c).arrAt 7 (cfgM m hO).N) (entry r k m hO t)).trans
    (((dats m hO 0 c).arrAt_emb_eq_flushed 7 (fun _ _ _ _ hne => ((cfgM m hO).win 7).disjoint_blk (apart hne)) t (flush0_7 (adm m hO) t) (ix2 r k)).trans
    ((congrFun (after0_7 m hO c t) (ix2 r k)).trans ?_))
  unfold outsAt0
  dsimp only
  refine (out7_eq (iblk m hO c 0 t) (iblk m hO c 1 t) (iblk m hO c 2 t) (iblk m hO c 3 t) (iblk m hO c 4 t) (tbl m 0) r k).trans ?_
  rw [grad_eq, block3]

theorem result8 : (dats m hO 0 c).arrAt 8 (cfgM m hO).N (ix2 (at_ t r) k)
    = Adam.second (whole m c (at_ t r) k) (m ((c : Thread nD τ).loc main_arg5) (ix2 (at_ t r) k)) := by
  refine (congrArg ((dats m hO 0 c).arrAt 8 (cfgM m hO).N) (entry r k m hO t)).trans
    (((dats m hO 0 c).arrAt_emb_eq_flushed 8 (fun _ _ _ _ hne => ((cfgM m hO).win 8).disjoint_blk (apart hne)) t (flush0_8 (adm m hO) t) (ix2 r k)).trans
    ((congrFun (after0_8 m hO c t) (ix2 r k)).trans ?_))
  unfold outsAt0
  dsimp only
  refine (out8_eq (iblk m hO c 0 t) (iblk m hO c 1 t) (iblk m hO c 2 t) (iblk m hO c 3 t) (iblk m hO c 4 t) (tbl m 0) r k).trans ?_
  rw [grad_eq, block4]

section
variable (s o : Vec Ideal S4x512x1024 .bf16) (n : Vec Ideal S1 .i32) (w a v : Vec Ideal S512x1024 .f32) (i : S512x1024.Idx)

/-- The reference's gradient. -/
abbrev summed : EReal := Adam.gradient (n (ix1 (0 : Fin 1))) (fun k => s (ix3 k (i 0) (i 1))) (fun k => o (ix3 k (i 0) (i 1)))

theorem ref_summed : val_main_v7 (F := Ideal) s o n i = summed s o n i := by
  rw [val_main_v7_apply, val_main_cst_apply]
  refine Eq.trans (congrArg₂ (· + ·) ?_ (Finset.sum_congr rfl fun k _ => ?_)) (Adam.gradient_sum _ _ _)
  · simp [Ideal.ofBits, Ideal.ieee]
  · have e : idx_main_v7 i k = ix3 k (i 0) (i 1) := funext fun d => by fin_cases d <;> rfl
    have one (j : S1.Idx) : j = ix1 (0 : Fin 1) := funext fun d => by fin_cases d; exact Subsingleton.elim (α := Fin 1) _ _
    rw [val_main_v6_apply, val_main_v5_apply, val_main_call0_v0_apply, val_main_v4_apply, val_main_v1_apply, val_main_v3_apply,
      val_main_v2_apply, val_main_v0_apply, one (idx_main_v2 _), e]
    rfl

theorem ref_first : val_main_v12 (F := Ideal) s o n a i = Adam.first (summed s o n i) (a i) := by
  rw [← ref_summed]; rfl

theorem ref_second : val_main_v18 (F := Ideal) s o n v i = Adam.second (summed s o n i) (v i) := by
  rw [← ref_summed]; rfl

theorem ref_delta : val_main_v31 (F := Ideal) s o n w a v i = Adam.delta (summed s o n i) (w i) (a i) (v i) := by
  unfold Adam.delta
  rw [← ref_summed, ← Adam.div_first, ← Adam.div_second]; rfl

end

/-- Every row is a block's. -/
theorem ext_at {f g : Vec Ideal S512x1024 .f32} (h : ∀ (r : Fin 128) (t : Fin grid0.N) (k : Fin 1024), f (ix2 (at_ t r) k) = g (ix2 (at_ t r) k)) : f = g :=
  ext2 (a := 512) (b := 1024) fun r j => by
    have e : r = at_ (⟨r.val / 128, by show r.val / 128 < 4; omega⟩ : Fin grid0.N) ⟨r.val % 128, by omega⟩ := Fin.ext (by show r.val = r.val / 128 * 128 + r.val % 128; omega)
    rw [e]
    exact h ..

/-- The kernel does the optimiser's step. -/
theorem algebraic : Cert.algebraic_AdownIdeal_AdownRefIdeal := fun m g m' g' _ agree => by
  have hO : Ok m := trivial
  refine ⟨fun c => (dats m hO 0 c).arrAt 5 (cfgM m hO).N, fun c => (dats m hO 0 c).arrAt 6 (cfgM m hO).N,
    fun c => (dats m hO 0 c).arrAt 7 (cfgM m hO).N, fun c => (dats m hO 0 c).arrAt 8 (cfgM m hO).N,
    (θ_run defs _ _).mono (fun r h c => ⟨(h.2 c).1 5, (h.2 c).1 6, (h.2 c).1 7, (h.2 c).1 8, h.1 c⟩)
      (θ_run_and (unchanged m g hO) (run_main m g hO)), ?_⟩
  refine (θ_run Cert.AdownRefIdeal.defs _ _).mono (fun r h c => ?_) (Cert.AdownRefIdeal.Value.run (F := Ideal) m' g')
  obtain ⟨e, e0, e1, e2, kept⟩ := h c
  obtain ⟨a0, a1, a2, a3, a4, a5⟩ := agree c
  refine ⟨e.trans ?_, e0.trans ?_, e1.trans ?_, e2.trans ?_, kept⟩
  · rw [val_main_v7_eq, a0, a1, a2]
    exact ext_at fun r t k => (ref_summed ..).trans (result5 r k m hO c t).symm
  · rw [val_main_v31_eq, a0, a1, a2, a3, a4, a5]
    exact ext_at fun r t k => (ref_delta ..).trans (result6 r k m hO c t).symm
  · rw [val_main_v12_eq, a0, a1, a2, a4]
    exact ext_at fun r t k => (ref_first ..).trans (result7 r k m hO c t).symm
  · rw [val_main_v18_eq, a0, a1, a2, a5]
    exact ext_at fun r t k => (ref_second ..).trans (result8 r k m hO c t).symm

end Cert.Mat.Adown

end
-- ==== Proof.Mat.Frames.lean ====
module

public import proofs.«01_k».proof.Defs
public import proofs.«01_k».proof.Proof.Gen.Gin.Frame
public import proofs.«01_k».proof.Proof.Gen.GinIdeal.Frame
public import proofs.«01_k».proof.Proof.Gen.GinRefIdeal.Run
public import proofs.«01_k».proof.Proof.Gen.Gdown.Frame
public import proofs.«01_k».proof.Proof.Gen.GdownIdeal.Frame
public import proofs.«01_k».proof.Proof.Gen.GdownRefIdeal.Run
public import proofs.«01_k».proof.Proof.Gen.Gup.Frame
public import proofs.«01_k».proof.Proof.Gen.GupIdeal.Frame
public import proofs.«01_k».proof.Proof.Gen.GupRefIdeal.Run
public import proofs.«01_k».proof.Proof.Gen.Dmlp.Frame
public import proofs.«01_k».proof.Proof.Gen.DmlpIdeal.Frame
public import proofs.«01_k».proof.Proof.Gen.DmlpRefIdeal.Run
public import proofs.«01_k».proof.Proof.Gen.Dact.Frame
public import proofs.«01_k».proof.Proof.Gen.DactIdeal.Frame
public import proofs.«01_k».proof.Proof.Gen.DactRefIdeal.Run
public import proofs.«01_k».proof.Proof.Gen.Dx.Frame
public import proofs.«01_k».proof.Proof.Gen.DxIdeal.Frame
public import proofs.«01_k».proof.Proof.Gen.DxRefIdeal.Run
public import proofs.«01_k».proof.Proof.Gen.Proj.Frame
public import proofs.«01_k».proof.Proof.Gen.ProjIdeal.Frame
public import proofs.«01_k».proof.Proof.Gen.ProjRefIdeal.Run
public import proofs.«01_k».proof.Proof.Gen.Up.Frame
public import proofs.«01_k».proof.Proof.Gen.UpIdeal.Frame
public import proofs.«01_k».proof.Proof.Gen.UpRefIdeal.Run
public import proofs.«01_k».proof.Proof.Gen.Pa.Frame
public import proofs.«01_k».proof.Proof.Gen.PaIdeal.Frame
public import proofs.«01_k».proof.Proof.Gen.PaRefIdeal.Run
public import proofs.«01_k».proof.Proof.Gen.Gout.Frame
public import proofs.«01_k».proof.Proof.Gen.GoutIdeal.Frame
public import proofs.«01_k».proof.Proof.Gen.GoutRefIdeal.Run
public import proofs.«01_k».proof.Proof.Gen.Gpa.Frame
public import proofs.«01_k».proof.Proof.Gen.GpaIdeal.Frame
public import proofs.«01_k».proof.Proof.Gen.GpaRefIdeal.Run
public import proofs.«01_k».proof.Proof.Gen.Gpb.Frame
public import proofs.«01_k».proof.Proof.Gen.GpbIdeal.Frame
public import proofs.«01_k».proof.Proof.Gen.GpbRefIdeal.Run
public import proofs.«01_k».proof.Proof.Gen.Dya.Frame
public import proofs.«01_k».proof.Proof.Gen.DyaIdeal.Frame
public import proofs.«01_k».proof.Proof.Gen.DyaRefIdeal.Run
public import proofs.«01_k».proof.Proof.Gen.Dyb.Frame
public import proofs.«01_k».proof.Proof.Gen.DybIdeal.Frame
public import proofs.«01_k».proof.Proof.Gen.DybRefIdeal.Run
public import proofs.«01_k».proof.Proof.Gen.Pb.Frame
public import proofs.«01_k».proof.Proof.Gen.PbIdeal.Frame
public import proofs.«01_k».proof.Proof.Gen.PbRefIdeal.Run
public import proofs.«01_k».proof.Proof.Gen.Outp.Frame
public import proofs.«01_k».proof.Proof.Gen.OutpIdeal.Frame
public import proofs.«01_k».proof.Proof.Gen.OutpRefIdeal.Run
public import proofs.«01_k».proof.Proof.Gen.Down.Frame
public import proofs.«01_k».proof.Proof.Gen.DownIdeal.Frame
public import proofs.«01_k».proof.Proof.Gen.DownRefIdeal.Run
public import proofs.«01_k».proof.Proof.Gen.Ac.Frame
public import proofs.«01_k».proof.Proof.Gen.AcIdeal.Frame
public import proofs.«01_k».proof.Proof.Gen.AcRefIdeal.Run
public import proofs.«01_k».proof.Proof.Gen.Ain.Frame
public import proofs.«01_k».proof.Proof.Gen.AinIdeal.Frame
public import proofs.«01_k».proof.Proof.Gen.AinRefIdeal.Run
public import proofs.«01_k».proof.Proof.Gen.Apa.Frame
public import proofs.«01_k».proof.Proof.Gen.ApaIdeal.Frame
public import proofs.«01_k».proof.Proof.Gen.ApaRefIdeal.Run
public import proofs.«01_k».proof.Proof.Gen.Aout.Frame
public import proofs.«01_k».proof.Proof.Gen.AoutIdeal.Frame
public import proofs.«01_k».proof.Proof.Gen.AoutRefIdeal.Run
public import proofs.«01_k».proof.Proof.Gen.Apb.Frame
public import proofs.«01_k».proof.Proof.Gen.ApbIdeal.Frame
public import proofs.«01_k».proof.Proof.Gen.ApbRefIdeal.Run
public import proofs.«01_k».proof.Proof.Gen.Aup.Frame
public import proofs.«01_k».proof.Proof.Gen.AupIdeal.Frame
public import proofs.«01_k».proof.Proof.Gen.AupRefIdeal.Run
public import proofs.«01_k».proof.Proof.Gen.Adown.Frame
public import proofs.«01_k».proof.Proof.Gen.AdownIdeal.Frame
public import proofs.«01_k».proof.Proof.Gen.AdownRefIdeal.Run
public import Idealize.ShloMosaic.Adequacy
public import Idealize.ShloMosaic.Init

/-! The references of the matrix calls terminate, leave their arguments unchanged and have no semaphore. -/

@[expose] public section

noncomputable section

namespace Cert.Proof.Frames

open Idealize.ShloMosaic Idealize.SL.Sem

theorem ginRef : Cert.quiescent_GinRefIdeal := fun m ρ _ =>
  (θ_run Cert.GinRefIdeal.defs _ _).mono (fun r h => ⟨fun c => (h c).2,
      Idealize.ShloMosaic.sem_eq_zero_of_no_sems (by decide) r.2⟩)
    (Cert.GinRefIdeal.Value.run (F := Ideal) m ρ)

theorem gdownRef : Cert.quiescent_GdownRefIdeal := fun m ρ _ =>
  (θ_run Cert.GdownRefIdeal.defs _ _).mono (fun r h => ⟨fun c => (h c).2,
      Idealize.ShloMosaic.sem_eq_zero_of_no_sems (by decide) r.2⟩)
    (Cert.GdownRefIdeal.Value.run (F := Ideal) m ρ)

theorem gupRef : Cert.quiescent_GupRefIdeal := fun m ρ _ =>
  (θ_run Cert.GupRefIdeal.defs _ _).mono (fun r h => ⟨fun c => (h c).2,
      Idealize.ShloMosaic.sem_eq_zero_of_no_sems (by decide) r.2⟩)
    (Cert.GupRefIdeal.Value.run (F := Ideal) m ρ)

theorem dmlpRef : Cert.quiescent_DmlpRefIdeal := fun m ρ _ =>
  (θ_run Cert.DmlpRefIdeal.defs _ _).mono (fun r h => ⟨fun c => (h c).2.2.2,
      Idealize.ShloMosaic.sem_eq_zero_of_no_sems (by decide) r.2⟩)
    (Cert.DmlpRefIdeal.Value.run (F := Ideal) m ρ)

theorem dactRef : Cert.quiescent_DactRefIdeal := fun m ρ _ =>
  (θ_run Cert.DactRefIdeal.defs _ _).mono (fun r h => ⟨fun c => (h c).2,
      Idealize.ShloMosaic.sem_eq_zero_of_no_sems (by decide) r.2⟩)
    (Cert.DactRefIdeal.Value.run (F := Ideal) m ρ)

theorem dxRef : Cert.quiescent_DxRefIdeal := fun m ρ _ =>
  (θ_run Cert.DxRefIdeal.defs _ _).mono (fun r h => ⟨fun c => (h c).2.2,
      Idealize.ShloMosaic.sem_eq_zero_of_no_sems (by decide) r.2⟩)
    (Cert.DxRefIdeal.Value.run (F := Ideal) m ρ)

theorem projRef : Cert.quiescent_ProjRefIdeal := fun m ρ _ =>
  (θ_run Cert.ProjRefIdeal.defs _ _).mono (fun r h => ⟨fun c => (h c).2,
      Idealize.ShloMosaic.sem_eq_zero_of_no_sems (by decide) r.2⟩)
    (Cert.ProjRefIdeal.Value.run (F := Ideal) m ρ)

theorem upRef : Cert.quiescent_UpRefIdeal := fun m ρ _ =>
  (θ_run Cert.UpRefIdeal.defs _ _).mono (fun r h => ⟨fun c => (h c).2,
      Idealize.ShloMosaic.sem_eq_zero_of_no_sems (by decide) r.2⟩)
    (Cert.UpRefIdeal.Value.run (F := Ideal) m ρ)

theorem paRef : Cert.quiescent_PaRefIdeal := fun m ρ _ =>
  (θ_run Cert.PaRefIdeal.defs _ _).mono (fun r h => ⟨fun c => (h c).2,
      Idealize.ShloMosaic.sem_eq_zero_of_no_sems (by decide) r.2⟩)
    (Cert.PaRefIdeal.Value.run (F := Ideal) m ρ)

theorem goutRef : Cert.quiescent_GoutRefIdeal := fun m ρ _ =>
  (θ_run Cert.GoutRefIdeal.defs _ _).mono (fun r h => ⟨fun c => (h c).2,
      Idealize.ShloMosaic.sem_eq_zero_of_no_sems (by decide) r.2⟩)
    (Cert.GoutRefIdeal.Value.run (F := Ideal) m ρ)

theorem gpaRef : Cert.quiescent_GpaRefIdeal := fun m ρ _ =>
  (θ_run Cert.GpaRefIdeal.defs _ _).mono (fun r h => ⟨fun c => (h c).2,
      Idealize.ShloMosaic.sem_eq_zero_of_no_sems (by decide) r.2⟩)
    (Cert.GpaRefIdeal.Value.run (F := Ideal) m ρ)

theorem gpbRef : Cert.quiescent_GpbRefIdeal := fun m ρ _ =>
  (θ_run Cert.GpbRefIdeal.defs _ _).mono (fun r h => ⟨fun c => (h c).2,
      Idealize.ShloMosaic.sem_eq_zero_of_no_sems (by decide) r.2⟩)
    (Cert.GpbRefIdeal.Value.run (F := Ideal) m ρ)

theorem dyaRef : Cert.quiescent_DyaRefIdeal := fun m ρ _ =>
  (θ_run Cert.DyaRefIdeal.defs _ _).mono (fun r h => ⟨fun c => (h c).2,
      Idealize.ShloMosaic.sem_eq_zero_of_no_sems (by decide) r.2⟩)
    (Cert.DyaRefIdeal.Value.run (F := Ideal) m ρ)

theorem dybRef : Cert.quiescent_DybRefIdeal := fun m ρ _ =>
  (θ_run Cert.DybRefIdeal.defs _ _).mono (fun r h => ⟨fun c => (h c).2,
      Idealize.ShloMosaic.sem_eq_zero_of_no_sems (by decide) r.2⟩)
    (Cert.DybRefIdeal.Value.run (F := Ideal) m ρ)

theorem pbRef : Cert.quiescent_PbRefIdeal := fun m ρ _ =>
  (θ_run Cert.PbRefIdeal.defs _ _).mono (fun r h => ⟨fun c => (h c).2.2,
      Idealize.ShloMosaic.sem_eq_zero_of_no_sems (by decide) r.2⟩)
    (Cert.PbRefIdeal.Value.run (F := Ideal) m ρ)

theorem outpRef : Cert.quiescent_OutpRefIdeal := fun m ρ _ =>
  (θ_run Cert.OutpRefIdeal.defs _ _).mono (fun r h => ⟨fun c => (h c).2.2,
      Idealize.ShloMosaic.sem_eq_zero_of_no_sems (by decide) r.2⟩)
    (Cert.OutpRefIdeal.Value.run (F := Ideal) m ρ)

theorem downRef : Cert.quiescent_DownRefIdeal := fun m ρ _ =>
  (θ_run Cert.DownRefIdeal.defs _ _).mono (fun r h => ⟨fun c => (h c).2.2.2.2,
      Idealize.ShloMosaic.sem_eq_zero_of_no_sems (by decide) r.2⟩)
    (Cert.DownRefIdeal.Value.run (F := Ideal) m ρ)

theorem acRef : Cert.quiescent_AcRefIdeal := fun m ρ _ =>
  (θ_run Cert.AcRefIdeal.defs _ _).mono (fun r h => ⟨fun c => (h c).2.2.2.2,
      Idealize.ShloMosaic.sem_eq_zero_of_no_sems (by decide) r.2⟩)
    (Cert.AcRefIdeal.Value.run (F := Ideal) m ρ)

theorem ainRef : Cert.quiescent_AinRefIdeal := fun m ρ _ =>
  (θ_run Cert.AinRefIdeal.defs _ _).mono (fun r h => ⟨fun c => (h c).2.2.2.2,
      Idealize.ShloMosaic.sem_eq_zero_of_no_sems (by decide) r.2⟩)
    (Cert.AinRefIdeal.Value.run (F := Ideal) m ρ)

theorem apaRef : Cert.quiescent_ApaRefIdeal := fun m ρ _ =>
  (θ_run Cert.ApaRefIdeal.defs _ _).mono (fun r h => ⟨fun c => (h c).2.2.2.2,
      Idealize.ShloMosaic.sem_eq_zero_of_no_sems (by decide) r.2⟩)
    (Cert.ApaRefIdeal.Value.run (F := Ideal) m ρ)

theorem aoutRef : Cert.quiescent_AoutRefIdeal := fun m ρ _ =>
  (θ_run Cert.AoutRefIdeal.defs _ _).mono (fun r h => ⟨fun c => (h c).2.2.2.2,
      Idealize.ShloMosaic.sem_eq_zero_of_no_sems (by decide) r.2⟩)
    (Cert.AoutRefIdeal.Value.run (F := Ideal) m ρ)

theorem apbRef : Cert.quiescent_ApbRefIdeal := fun m ρ _ =>
  (θ_run Cert.ApbRefIdeal.defs _ _).mono (fun r h => ⟨fun c => (h c).2.2.2.2,
      Idealize.ShloMosaic.sem_eq_zero_of_no_sems (by decide) r.2⟩)
    (Cert.ApbRefIdeal.Value.run (F := Ideal) m ρ)

theorem aupRef : Cert.quiescent_AupRefIdeal := fun m ρ _ =>
  (θ_run Cert.AupRefIdeal.defs _ _).mono (fun r h => ⟨fun c => (h c).2.2.2.2,
      Idealize.ShloMosaic.sem_eq_zero_of_no_sems (by decide) r.2⟩)
    (Cert.AupRefIdeal.Value.run (F := Ideal) m ρ)

theorem adownRef : Cert.quiescent_AdownRefIdeal := fun m ρ _ =>
  (θ_run Cert.AdownRefIdeal.defs _ _).mono (fun r h => ⟨fun c => (h c).2.2.2.2,
      Idealize.ShloMosaic.sem_eq_zero_of_no_sems (by decide) r.2⟩)
    (Cert.AdownRefIdeal.Value.run (F := Ideal) m ρ)

end Cert.Proof.Frames

end
-- ==== Proof.lean ====
/- The certificate's claims, proved: the frames of the kernel's program, of its idealization and of the reference's, the
   named constants, and that the idealized kernel and the reference compute the same gradients (Proof/Gate/). -/
module

public import proofs.«01_k».proof.Defs
public import proofs.«01_k».proof.Proof.Gate.Join
public import proofs.«01_k».proof.Proof.Mat.Gin
public import proofs.«01_k».proof.Proof.Mat.Gdown
public import proofs.«01_k».proof.Proof.Mat.Gup
public import proofs.«01_k».proof.Proof.Mat.Dmlp
public import proofs.«01_k».proof.Proof.Mat.Dact
public import proofs.«01_k».proof.Proof.Mat.Dx
public import proofs.«01_k».proof.Proof.Mat.Proj
public import proofs.«01_k».proof.Proof.Mat.Up
public import proofs.«01_k».proof.Proof.Mat.Pa
public import proofs.«01_k».proof.Proof.Mat.Gout
public import proofs.«01_k».proof.Proof.Mat.Gpa
public import proofs.«01_k».proof.Proof.Mat.Gpb
public import proofs.«01_k».proof.Proof.Mat.Dya
public import proofs.«01_k».proof.Proof.Mat.Dyb
public import proofs.«01_k».proof.Proof.Mat.Pb
public import proofs.«01_k».proof.Proof.Mat.Outp
public import proofs.«01_k».proof.Proof.Mat.Down
public import proofs.«01_k».proof.Proof.Mat.Ac
public import proofs.«01_k».proof.Proof.Mat.Ain
public import proofs.«01_k».proof.Proof.Mat.Apa
public import proofs.«01_k».proof.Proof.Mat.Aout
public import proofs.«01_k».proof.Proof.Mat.Apb
public import proofs.«01_k».proof.Proof.Mat.Aup
public import proofs.«01_k».proof.Proof.Mat.Adown
public import proofs.«01_k».proof.Proof.Mat.Frames
public import proofs.«01_k».proof.Proof.Gen.Apa.Frame
public import proofs.«01_k».proof.Proof.Gen.ApaIdeal.Frame
public import proofs.«01_k».proof.Proof.Gen.ApaRefIdeal.Run
public import proofs.«01_k».proof.Proof.Gen.ApaRefIdeal.Read
public import proofs.«01_k».proof.Proof.Gen.Aout.Frame
public import proofs.«01_k».proof.Proof.Gen.AoutIdeal.Frame
public import proofs.«01_k».proof.Proof.Gen.AoutRefIdeal.Run
public import proofs.«01_k».proof.Proof.Gen.AoutRefIdeal.Read
public import proofs.«01_k».proof.Proof.Gen.Apb.Frame
public import proofs.«01_k».proof.Proof.Gen.ApbIdeal.Frame
public import proofs.«01_k».proof.Proof.Gen.ApbRefIdeal.Run
public import proofs.«01_k».proof.Proof.Gen.ApbRefIdeal.Read
public import proofs.«01_k».proof.Proof.Gen.Aup.Frame
public import proofs.«01_k».proof.Proof.Gen.AupIdeal.Frame
public import proofs.«01_k».proof.Proof.Gen.AupRefIdeal.Run
public import proofs.«01_k».proof.Proof.Gen.AupRefIdeal.Read
public import proofs.«01_k».proof.Proof.Gen.Adown.Frame
public import proofs.«01_k».proof.Proof.Gen.AdownIdeal.Frame
public import proofs.«01_k».proof.Proof.Gen.AdownRefIdeal.Run
public import proofs.«01_k».proof.Proof.Gen.AdownRefIdeal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem

/-- The idealized reference terminates, leaves its arguments unchanged and has no semaphore at all. -/
theorem frame_reference : Cert.quiescent_ReferenceIdeal := fun m ρ _ =>
  (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m ρ)

/-- Each named constant stands for the word the kernel writes in its place. -/
theorem preserves : Cert.preserves_Kernel_KernelIdeal :=
  ⟨IdealRules.named_const.statement Cert.KernelIdeal.κ "inv_sqrt2" .f32 0x3F3504F3#32 (((Real.sqrt 2)⁻¹ : ℝ) : EReal) rfl,
    IdealRules.named_const.statement Cert.KernelIdeal.κ "inv_sqrt_2pi" .f32 0x3ECC422A#32
      (((Real.sqrt (2 * Real.pi))⁻¹ : ℝ) : EReal) rfl⟩

/-- The gate's backward call computes the gradients of the gate. -/
theorem algebraic [Cert.Pre_finite.Facts] : Cert.algebraic_KernelIdeal_ReferenceIdeal_pre_finite := fun m g m' g' pre agree => by
  refine ⟨fun c => (Cert.KernelIdeal.Gen.dats m 0 c).arrAt 7 Cert.KernelIdeal.cfg0.N,
    fun c => (Cert.KernelIdeal.Gen.dats m 0 c).arrAt 8 Cert.KernelIdeal.cfg0.N,
    fun c => (Cert.KernelIdeal.Gen.dats m 0 c).arrAt 9 Cert.KernelIdeal.cfg0.N,
    fun c => (Cert.KernelIdeal.Gen.dats m 0 c).arrAt 10 Cert.KernelIdeal.cfg0.N,
    fun c => (Cert.KernelIdeal.Gen.dats m 0 c).arrAt 11 Cert.KernelIdeal.cfg0.N, Cert.KernelIdeal.Value.run_blocks m g, ?_⟩
  refine (θ_run Cert.ReferenceIdeal.defs _ _).mono (fun r h c => ?_) (Cert.ReferenceIdeal.Value.run (F := Ideal) m' g')
  obtain ⟨h0, h1, h2, h3, h4, kept⟩ := h c
  obtain ⟨a0, a1, a2, a3, a4, a5, a6⟩ := agree c
  refine ⟨h0.trans ?_, h1.trans ?_, h2.trans ?_, h3.trans ?_, h4.trans ?_, kept⟩
  · rw [Cert.ReferenceIdeal.Read.val_main_v119_eq, a0, a1, a2, a3, a4, a5, a6]; exact (Cert.Gate.same7 m pre c).symm
  · rw [Cert.ReferenceIdeal.Read.val_main_v72_eq, a0, a1, a2, a3]; exact (Cert.Gate.same8 m pre c).symm
  · rw [Cert.ReferenceIdeal.Read.val_main_v120_eq, a0, a1]; exact (Cert.Gate.same9 m pre c).symm
  · rw [Cert.ReferenceIdeal.Read.val_main_v78_eq, a0, a1, a4]; exact (Cert.Gate.same10 m pre c).symm
  · rw [Cert.ReferenceIdeal.Read.val_main_v75_eq, a0, a1, a4]; exact (Cert.Gate.same11 m pre c).symm

theorem claim : Cert.Claim :=
  ⟨Cert.Kernel.Gen.facts,
    Cert.KernelIdeal.Gen.facts,
    Cert.ReferenceIdeal.Gen.facts,
    Cert.Dx.Gen.facts,
    Cert.DxIdeal.Gen.facts,
    Cert.DxRefIdeal.Gen.facts,
    Cert.Dmlp.Gen.facts,
    Cert.DmlpIdeal.Gen.facts,
    Cert.DmlpRefIdeal.Gen.facts,
    Cert.Dact.Gen.facts,
    Cert.DactIdeal.Gen.facts,
    Cert.DactRefIdeal.Gen.facts,
    Cert.Gdown.Gen.facts,
    Cert.GdownIdeal.Gen.facts,
    Cert.GdownRefIdeal.Gen.facts,
    Cert.Gup.Gen.facts,
    Cert.GupIdeal.Gen.facts,
    Cert.GupRefIdeal.Gen.facts,
    Cert.Gin.Gen.facts,
    Cert.GinIdeal.Gen.facts,
    Cert.GinRefIdeal.Gen.facts,
    Cert.Proj.Gen.facts,
    Cert.ProjIdeal.Gen.facts,
    Cert.ProjRefIdeal.Gen.facts,
    Cert.Up.Gen.facts,
    Cert.UpIdeal.Gen.facts,
    Cert.UpRefIdeal.Gen.facts,
    Cert.Pa.Gen.facts,
    Cert.PaIdeal.Gen.facts,
    Cert.PaRefIdeal.Gen.facts,
    Cert.Gout.Gen.facts,
    Cert.GoutIdeal.Gen.facts,
    Cert.GoutRefIdeal.Gen.facts,
    Cert.Gpa.Gen.facts,
    Cert.GpaIdeal.Gen.facts,
    Cert.GpaRefIdeal.Gen.facts,
    Cert.Gpb.Gen.facts,
    Cert.GpbIdeal.Gen.facts,
    Cert.GpbRefIdeal.Gen.facts,
    Cert.Dya.Gen.facts,
    Cert.DyaIdeal.Gen.facts,
    Cert.DyaRefIdeal.Gen.facts,
    Cert.Dyb.Gen.facts,
    Cert.DybIdeal.Gen.facts,
    Cert.DybRefIdeal.Gen.facts,
    Cert.Pb.Gen.facts,
    Cert.PbIdeal.Gen.facts,
    Cert.PbRefIdeal.Gen.facts,
    Cert.Outp.Gen.facts,
    Cert.OutpIdeal.Gen.facts,
    Cert.OutpRefIdeal.Gen.facts,
    Cert.Down.Gen.facts,
    Cert.DownIdeal.Gen.facts,
    Cert.DownRefIdeal.Gen.facts,
    Cert.Ac.Gen.facts,
    Cert.AcIdeal.Gen.facts,
    Cert.AcRefIdeal.Gen.facts,
    Cert.Ain.Gen.facts,
    Cert.AinIdeal.Gen.facts,
    Cert.AinRefIdeal.Gen.facts,
    Cert.Apa.Gen.facts,
    Cert.ApaIdeal.Gen.facts,
    Cert.ApaRefIdeal.Gen.facts,
    Cert.Aout.Gen.facts,
    Cert.AoutIdeal.Gen.facts,
    Cert.AoutRefIdeal.Gen.facts,
    Cert.Apb.Gen.facts,
    Cert.ApbIdeal.Gen.facts,
    Cert.ApbRefIdeal.Gen.facts,
    Cert.Aup.Gen.facts,
    Cert.AupIdeal.Gen.facts,
    Cert.AupRefIdeal.Gen.facts,
    Cert.Adown.Gen.facts,
    Cert.AdownIdeal.Gen.facts,
    Cert.AdownRefIdeal.Gen.facts,
    Cert.Gate.pre_facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    fun m ρ _ => Cert.Dx.Gen.frame m ρ,
    fun m ρ _ => Cert.DxIdeal.Gen.frame m ρ,
    Frames.dxRef,
    fun m ρ _ => Cert.Dmlp.Gen.frame m ρ,
    fun m ρ _ => Cert.DmlpIdeal.Gen.frame m ρ,
    Frames.dmlpRef,
    fun m ρ _ => Cert.Dact.Gen.frame m ρ,
    fun m ρ _ => Cert.DactIdeal.Gen.frame m ρ,
    Frames.dactRef,
    fun m ρ _ => Cert.Gdown.Gen.frame m ρ,
    fun m ρ _ => Cert.GdownIdeal.Gen.frame m ρ,
    Frames.gdownRef,
    fun m ρ _ => Cert.Gup.Gen.frame m ρ,
    fun m ρ _ => Cert.GupIdeal.Gen.frame m ρ,
    Frames.gupRef,
    fun m ρ _ => Cert.Gin.Gen.frame m ρ,
    fun m ρ _ => Cert.GinIdeal.Gen.frame m ρ,
    Frames.ginRef,
    fun m ρ _ => Cert.Proj.Gen.frame m ρ,
    fun m ρ _ => Cert.ProjIdeal.Gen.frame m ρ,
    Frames.projRef,
    fun m ρ _ => Cert.Up.Gen.frame m ρ,
    fun m ρ _ => Cert.UpIdeal.Gen.frame m ρ,
    Frames.upRef,
    fun m ρ _ => Cert.Pa.Gen.frame m ρ,
    fun m ρ _ => Cert.PaIdeal.Gen.frame m ρ,
    Frames.paRef,
    fun m ρ _ => Cert.Gout.Gen.frame m ρ,
    fun m ρ _ => Cert.GoutIdeal.Gen.frame m ρ,
    Frames.goutRef,
    fun m ρ _ => Cert.Gpa.Gen.frame m ρ,
    fun m ρ _ => Cert.GpaIdeal.Gen.frame m ρ,
    Frames.gpaRef,
    fun m ρ _ => Cert.Gpb.Gen.frame m ρ,
    fun m ρ _ => Cert.GpbIdeal.Gen.frame m ρ,
    Frames.gpbRef,
    fun m ρ _ => Cert.Dya.Gen.frame m ρ,
    fun m ρ _ => Cert.DyaIdeal.Gen.frame m ρ,
    Frames.dyaRef,
    fun m ρ _ => Cert.Dyb.Gen.frame m ρ,
    fun m ρ _ => Cert.DybIdeal.Gen.frame m ρ,
    Frames.dybRef,
    fun m ρ _ => Cert.Pb.Gen.frame m ρ,
    fun m ρ _ => Cert.PbIdeal.Gen.frame m ρ,
    Frames.pbRef,
    fun m ρ _ => Cert.Outp.Gen.frame m ρ,
    fun m ρ _ => Cert.OutpIdeal.Gen.frame m ρ,
    Frames.outpRef,
    fun m ρ _ => Cert.Down.Gen.frame m ρ,
    fun m ρ _ => Cert.DownIdeal.Gen.frame m ρ,
    Frames.downRef,
    fun m ρ _ => Cert.Ac.Gen.frame m ρ,
    fun m ρ _ => Cert.AcIdeal.Gen.frame m ρ,
    Frames.acRef,
    fun m ρ _ => Cert.Ain.Gen.frame m ρ trivial,
    fun m ρ _ => Cert.AinIdeal.Gen.frame m ρ trivial,
    Frames.ainRef,
    fun m ρ _ => Cert.Apa.Gen.frame m ρ trivial,
    fun m ρ _ => Cert.ApaIdeal.Gen.frame m ρ trivial,
    Frames.apaRef,
    fun m ρ _ => Cert.Aout.Gen.frame m ρ trivial,
    fun m ρ _ => Cert.AoutIdeal.Gen.frame m ρ trivial,
    Frames.aoutRef,
    fun m ρ _ => Cert.Apb.Gen.frame m ρ trivial,
    fun m ρ _ => Cert.ApbIdeal.Gen.frame m ρ trivial,
    Frames.apbRef,
    fun m ρ _ => Cert.Aup.Gen.frame m ρ trivial,
    fun m ρ _ => Cert.AupIdeal.Gen.frame m ρ trivial,
    Frames.aupRef,
    fun m ρ _ => Cert.Adown.Gen.frame m ρ trivial,
    fun m ρ _ => Cert.AdownIdeal.Gen.frame m ρ trivial,
    Frames.adownRef,
    preserves,
    @algebraic Cert.Gate.pre_facts,
    trivial,
    Cert.Mat.Dx.algebraic,
    trivial,
    Cert.Mat.Dmlp.algebraic,
    trivial,
    Cert.Mat.Dact.algebraic,
    trivial,
    Cert.Mat.Gdown.algebraic,
    trivial,
    Cert.Mat.Gup.algebraic,
    trivial,
    Cert.Mat.Gin.algebraic,
    trivial,
    Cert.Mat.Proj.algebraic,
    trivial,
    Cert.Mat.Up.algebraic,
    trivial,
    Cert.Mat.Pa.algebraic,
    trivial,
    Cert.Mat.Gout.algebraic,
    trivial,
    Cert.Mat.Gpa.algebraic,
    trivial,
    Cert.Mat.Gpb.algebraic,
    trivial,
    Cert.Mat.Dya.algebraic,
    trivial,
    Cert.Mat.Dyb.algebraic,
    trivial,
    Cert.Mat.Pb.algebraic,
    trivial,
    Cert.Mat.Outp.algebraic,
    trivial,
    Cert.Mat.Down.algebraic,
    ⟨IdealRules.named_const.statement Cert.AcIdeal.κ "m_hat" .f32 0x3FC48605#32 ((8388608 / 5463681 : ℝ) : EReal) rfl,
      IdealRules.named_const.statement Cert.AcIdeal.κ "v_hat" .f32 0x42C8E6D3#32 ((268435456 / 2672307 : ℝ) : EReal) rfl⟩,
    Cert.Mat.Ac.algebraic,
    ⟨IdealRules.named_const.statement Cert.AinIdeal.κ "m_hat" .f32 0x3FC48605#32 ((8388608 / 5463681 : ℝ) : EReal) rfl,
      IdealRules.named_const.statement Cert.AinIdeal.κ "v_hat" .f32 0x42C8E6D3#32 ((268435456 / 2672307 : ℝ) : EReal) rfl⟩,
    Cert.Mat.Ain.algebraic,
    ⟨IdealRules.named_const.statement Cert.ApaIdeal.κ "m_hat" .f32 0x3FC48605#32 ((8388608 / 5463681 : ℝ) : EReal) rfl,
      IdealRules.named_const.statement Cert.ApaIdeal.κ "v_hat" .f32 0x42C8E6D3#32 ((268435456 / 2672307 : ℝ) : EReal) rfl⟩,
    Cert.Mat.Apa.algebraic,
    ⟨IdealRules.named_const.statement Cert.AoutIdeal.κ "m_hat" .f32 0x3FC48605#32 ((8388608 / 5463681 : ℝ) : EReal) rfl,
      IdealRules.named_const.statement Cert.AoutIdeal.κ "v_hat" .f32 0x42C8E6D3#32 ((268435456 / 2672307 : ℝ) : EReal) rfl⟩,
    Cert.Mat.Aout.algebraic,
    ⟨IdealRules.named_const.statement Cert.ApbIdeal.κ "m_hat" .f32 0x3FC48605#32 ((8388608 / 5463681 : ℝ) : EReal) rfl,
      IdealRules.named_const.statement Cert.ApbIdeal.κ "v_hat" .f32 0x42C8E6D3#32 ((268435456 / 2672307 : ℝ) : EReal) rfl⟩,
    Cert.Mat.Apb.algebraic,
    ⟨IdealRules.named_const.statement Cert.AupIdeal.κ "m_hat" .f32 0x3FC48605#32 ((8388608 / 5463681 : ℝ) : EReal) rfl,
      IdealRules.named_const.statement Cert.AupIdeal.κ "v_hat" .f32 0x42C8E6D3#32 ((268435456 / 2672307 : ℝ) : EReal) rfl⟩,
    Cert.Mat.Aup.algebraic,
    ⟨IdealRules.named_const.statement Cert.AdownIdeal.κ "m_hat" .f32 0x3FC48605#32 ((8388608 / 5463681 : ℝ) : EReal) rfl,
      IdealRules.named_const.statement Cert.AdownIdeal.κ "v_hat" .f32 0x42C8E6D3#32 ((268435456 / 2672307 : ℝ) : EReal) rfl⟩,
    Cert.Mat.Adown.algebraic⟩

end Cert.Proof

end
